-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_DxDown (m : (ℓ : Loc Cert.DxDown.nD Cert.DxDown.τ Cert.DxDown.sig) → Buf (Elt Bits) ℓ) : Prop :=
  True

def Pre_DxDownIdeal (m : (ℓ : Loc Cert.DxDownIdeal.nD Cert.DxDownIdeal.τ Cert.DxDownIdeal.sig) → Buf (Elt Ideal) ℓ) : Prop :=
  True

def Pre_DxDownRefIdeal (m : (ℓ : Loc Cert.DxDownRefIdeal.nD Cert.DxDownRefIdeal.τ Cert.DxDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpRefIdeal (m : (ℓ : Loc Cert.DxUpRefIdeal.nD Cert.DxUpRefIdeal.τ Cert.DxUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DxDownB (m : (ℓ : Loc Cert.DxDownB.nD Cert.DxDownB.τ Cert.DxDownB.sig) → Buf (Elt Bits) ℓ) : Prop :=
  True

def Pre_DxDownBIdeal (m : (ℓ : Loc Cert.DxDownBIdeal.nD Cert.DxDownBIdeal.τ Cert.DxDownBIdeal.sig) → Buf (Elt Ideal) ℓ) : Prop :=
  True

def Pre_DxDownBRefIdeal (m : (ℓ : Loc Cert.DxDownBRefIdeal.nD Cert.DxDownBRefIdeal.τ Cert.DxDownBRefIdeal.sig) → Buf (Elt Ideal) ℓ) : Prop :=
  True

def Pre_DwUpB (m : (ℓ : Loc Cert.DwUpB.nD Cert.DwUpB.τ Cert.DwUpB.sig) → Buf (Elt Bits) ℓ) : Prop :=
  True

def Pre_DwUpBIdeal (m : (ℓ : Loc Cert.DwUpBIdeal.nD Cert.DwUpBIdeal.τ Cert.DwUpBIdeal.sig) → Buf (Elt Ideal) ℓ) : Prop :=
  True

def Pre_DwUpBRefIdeal (m : (ℓ : Loc Cert.DwUpBRefIdeal.nD Cert.DwUpBRefIdeal.τ Cert.DwUpBRefIdeal.sig) → Buf (Elt Ideal) ℓ) : Prop :=
  True

def Pre_DwDownB (m : (ℓ : Loc Cert.DwDownB.nD Cert.DwDownB.τ Cert.DwDownB.sig) → Buf (Elt Bits) ℓ) : Prop :=
  True

def Pre_DwDownBIdeal (m : (ℓ : Loc Cert.DwDownBIdeal.nD Cert.DwDownBIdeal.τ Cert.DwDownBIdeal.sig) → Buf (Elt Ideal) ℓ) : Prop :=
  True

def Pre_DwDownBRefIdeal (m : (ℓ : Loc Cert.DwDownBRefIdeal.nD Cert.DwDownBRefIdeal.τ Cert.DwDownBRefIdeal.sig) → Buf (Elt Ideal) ℓ) : Prop :=
  True

def Pre_DxUpB (m : (ℓ : Loc Cert.DxUpB.nD Cert.DxUpB.τ Cert.DxUpB.sig) → Buf (Elt Bits) ℓ) : Prop :=
  True

def Pre_DxUpBIdeal (m : (ℓ : Loc Cert.DxUpBIdeal.nD Cert.DxUpBIdeal.τ Cert.DxUpBIdeal.sig) → Buf (Elt Ideal) ℓ) : Prop :=
  True

def Pre_DxUpBRefIdeal (m : (ℓ : Loc Cert.DxUpBRefIdeal.nD Cert.DxUpBRefIdeal.τ Cert.DxUpBRefIdeal.sig) → Buf (Elt Ideal) ℓ) : Prop :=
  True

def Pre_DownB (m : (ℓ : Loc Cert.DownB.nD Cert.DownB.τ Cert.DownB.sig) → Buf (Elt Bits) ℓ) : Prop :=
  True

def Pre_DownBIdeal (m : (ℓ : Loc Cert.DownBIdeal.nD Cert.DownBIdeal.τ Cert.DownBIdeal.sig) → Buf (Elt Ideal) ℓ) : Prop :=
  True

def Pre_DownBRefIdeal (m : (ℓ : Loc Cert.DownBRefIdeal.nD Cert.DownBRefIdeal.τ Cert.DownBRefIdeal.sig) → Buf (Elt Ideal) ℓ) : Prop :=
  True

def Pre_DxDownC (m : (ℓ : Loc Cert.DxDownC.nD Cert.DxDownC.τ Cert.DxDownC.sig) → Buf (Elt Bits) ℓ) : Prop :=
  True

def Pre_DxDownCIdeal (m : (ℓ : Loc Cert.DxDownCIdeal.nD Cert.DxDownCIdeal.τ Cert.DxDownCIdeal.sig) → Buf (Elt Ideal) ℓ) : Prop :=
  True

def Pre_DxDownCRefIdeal (m : (ℓ : Loc Cert.DxDownCRefIdeal.nD Cert.DxDownCRefIdeal.τ Cert.DxDownCRefIdeal.sig) → Buf (Elt Ideal) ℓ) : Prop :=
  True

def Pre_DwUpC (m : (ℓ : Loc Cert.DwUpC.nD Cert.DwUpC.τ Cert.DwUpC.sig) → Buf (Elt Bits) ℓ) : Prop :=
  True

def Pre_DwUpCIdeal (m : (ℓ : Loc Cert.DwUpCIdeal.nD Cert.DwUpCIdeal.τ Cert.DwUpCIdeal.sig) → Buf (Elt Ideal) ℓ) : Prop :=
  True

def Pre_DwUpCRefIdeal (m : (ℓ : Loc Cert.DwUpCRefIdeal.nD Cert.DwUpCRefIdeal.τ Cert.DwUpCRefIdeal.sig) → Buf (Elt Ideal) ℓ) : Prop :=
  True

def Pre_DwDownC (m : (ℓ : Loc Cert.DwDownC.nD Cert.DwDownC.τ Cert.DwDownC.sig) → Buf (Elt Bits) ℓ) : Prop :=
  True

def Pre_DwDownCIdeal (m : (ℓ : Loc Cert.DwDownCIdeal.nD Cert.DwDownCIdeal.τ Cert.DwDownCIdeal.sig) → Buf (Elt Ideal) ℓ) : Prop :=
  True

def Pre_DwDownCRefIdeal (m : (ℓ : Loc Cert.DwDownCRefIdeal.nD Cert.DwDownCRefIdeal.τ Cert.DwDownCRefIdeal.sig) → Buf (Elt Ideal) ℓ) : Prop :=
  True

def Pre_DxUpC (m : (ℓ : Loc Cert.DxUpC.nD Cert.DxUpC.τ Cert.DxUpC.sig) → Buf (Elt Bits) ℓ) : Prop :=
  True

def Pre_DxUpCIdeal (m : (ℓ : Loc Cert.DxUpCIdeal.nD Cert.DxUpCIdeal.τ Cert.DxUpCIdeal.sig) → Buf (Elt Ideal) ℓ) : Prop :=
  True

def Pre_DxUpCRefIdeal (m : (ℓ : Loc Cert.DxUpCRefIdeal.nD Cert.DxUpCRefIdeal.τ Cert.DxUpCRefIdeal.sig) → Buf (Elt Ideal) ℓ) : Prop :=
  True

def Pre_DownC (m : (ℓ : Loc Cert.DownC.nD Cert.DownC.τ Cert.DownC.sig) → Buf (Elt Bits) ℓ) : Prop :=
  True

def Pre_DownCIdeal (m : (ℓ : Loc Cert.DownCIdeal.nD Cert.DownCIdeal.τ Cert.DownCIdeal.sig) → Buf (Elt Ideal) ℓ) : Prop :=
  True

def Pre_DownCRefIdeal (m : (ℓ : Loc Cert.DownCRefIdeal.nD Cert.DownCRefIdeal.τ Cert.DownCRefIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInRefIdeal (m : (ℓ : Loc Cert.DxInRefIdeal.nD Cert.DxInRefIdeal.τ Cert.DxInRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DxGate (m : (ℓ : Loc Cert.DxGate.nD Cert.DxGate.τ Cert.DxGate.sig) → Buf (Elt Bits) ℓ) : Prop :=
  True

def Pre_DxGateIdeal (m : (ℓ : Loc Cert.DxGateIdeal.nD Cert.DxGateIdeal.τ Cert.DxGateIdeal.sig) → Buf (Elt Ideal) ℓ) : Prop :=
  True

def Pre_DxGateRefIdeal (m : (ℓ : Loc Cert.DxGateRefIdeal.nD Cert.DxGateRefIdeal.τ Cert.DxGateRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DxDown [hDxDown : Cert.DxDown.Facts] : Prop :=
  ∀ (m : (ℓ : Loc Cert.DxDown.nD Cert.DxDown.τ Cert.DxDown.sig) → Buf (Elt Bits) ℓ) (g : Dev Cert.DxDown.nD → PrngReg), Pre_DxDown m →
    θ_run (Cert.DxDown.defs (F := Bits)) (onTc (τ := Cert.DxDown.τ) (Cert.DxDown.main (F := Bits))) ⟨m, fun _ => 0, g⟩ (fun r => (∀ c : Dev Cert.DxDown.nD,
      r.2.mem ((c.tc : Thread Cert.DxDown.nD Cert.DxDown.τ).loc Cert.DxDown.main_arg0) = m ((c.tc : Thread Cert.DxDown.nD Cert.DxDown.τ).loc Cert.DxDown.main_arg0)
      ∧ r.2.mem ((c.tc : Thread Cert.DxDown.nD Cert.DxDown.τ).loc Cert.DxDown.main_arg1) = m ((c.tc : Thread Cert.DxDown.nD Cert.DxDown.τ).loc Cert.DxDown.main_arg1)
      ∧ r.2.mem ((c.tc : Thread Cert.DxDown.nD Cert.DxDown.τ).loc Cert.DxDown.main_arg2) = m ((c.tc : Thread Cert.DxDown.nD Cert.DxDown.τ).loc Cert.DxDown.main_arg2))
      ∧ r.2.sem = fun _ => 0)

def quiescent_DxDownIdeal [hDxDownIdeal : Cert.DxDownIdeal.Facts] : Prop :=
  ∀ (m : (ℓ : Loc Cert.DxDownIdeal.nD Cert.DxDownIdeal.τ Cert.DxDownIdeal.sig) → Buf (Elt Ideal) ℓ) (g : Dev Cert.DxDownIdeal.nD → PrngReg), Pre_DxDownIdeal m →
    θ_run (Cert.DxDownIdeal.defs (F := Ideal)) (onTc (τ := Cert.DxDownIdeal.τ) (Cert.DxDownIdeal.main (F := Ideal))) ⟨m, fun _ => 0, g⟩ (fun r => (∀ c : Dev Cert.DxDownIdeal.nD,
      r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
      ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1)
      ∧ r.2.mem ((c.tc : Thread Cert.DxDownIdeal.nD Cert.DxDownIdeal.τ).loc Cert.DxDownIdeal.main_arg2) = m ((c.tc : Thread Cert.DxDownIdeal.nD Cert.DxDownIdeal.τ).loc Cert.DxDownIdeal.main_arg2))
      ∧ r.2.sem = fun _ => 0)

def quiescent_DxDownRefIdeal [hDxDownRefIdeal : Cert.DxDownRefIdeal.Facts] : Prop :=
  ∀ (m : (ℓ : Loc Cert.DxDownRefIdeal.nD Cert.DxDownRefIdeal.τ Cert.DxDownRefIdeal.sig) → Buf (Elt Ideal) ℓ) (g : Dev Cert.DxDownRefIdeal.nD → PrngReg), Pre_DxDownRefIdeal m →
    θ_run (Cert.DxDownRefIdeal.defs (F := Ideal)) (onTc (τ := Cert.DxDownRefIdeal.τ) (Cert.DxDownRefIdeal.main (F := Ideal))) ⟨m, fun _ => 0, g⟩ (fun r => (∀ c : Dev Cert.DxDownRefIdeal.nD,
      r.2.mem ((c.tc : Thread Cert.DxDownRefIdeal.nD Cert.DxDownRefIdeal.τ).loc Cert.DxDownRefIdeal.main_arg0) = m ((c.tc : Thread Cert.DxDownRefIdeal.nD Cert.DxDownRefIdeal.τ).loc Cert.DxDownRefIdeal.main_arg0)
      ∧ r.2.mem ((c.tc : Thread Cert.DxDownRefIdeal.nD Cert.DxDownRefIdeal.τ).loc Cert.DxDownRefIdeal.main_arg1) = m ((c.tc : Thread Cert.DxDownRefIdeal.nD Cert.DxDownRefIdeal.τ).loc Cert.DxDownRefIdeal.main_arg1)
      ∧ r.2.mem ((c.tc : Thread Cert.DxDownRefIdeal.nD Cert.DxDownRefIdeal.τ).loc Cert.DxDownRefIdeal.main_arg2) = m ((c.tc : Thread Cert.DxDownRefIdeal.nD Cert.DxDownRefIdeal.τ).loc Cert.DxDownRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1)
      ∧ r.2.mem ((c.tc : Thread Cert.DxUp.nD Cert.DxUp.τ).loc Cert.DxUp.main_arg2) = m ((c.tc : Thread Cert.DxUp.nD Cert.DxUp.τ).loc Cert.DxUp.main_arg2)
      ∧ r.2.mem ((c.tc : Thread Cert.DxUp.nD Cert.DxUp.τ).loc Cert.DxUp.main_arg3) = m ((c.tc : Thread Cert.DxUp.nD Cert.DxUp.τ).loc Cert.DxUp.main_arg3)
      ∧ r.2.mem ((c.tc : Thread Cert.DxUp.nD Cert.DxUp.τ).loc Cert.DxUp.main_arg4) = m ((c.tc : Thread Cert.DxUp.nD Cert.DxUp.τ).loc Cert.DxUp.main_arg4))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
      ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3)
      ∧ r.2.mem ((c.tc : Thread Cert.DxUpIdeal.nD Cert.DxUpIdeal.τ).loc Cert.DxUpIdeal.main_arg4) = m ((c.tc : Thread Cert.DxUpIdeal.nD Cert.DxUpIdeal.τ).loc Cert.DxUpIdeal.main_arg4))
      ∧ r.2.sem = fun _ => 0)

def quiescent_DxUpRefIdeal [hDxUpRefIdeal : Cert.DxUpRefIdeal.Facts] : Prop :=
  ∀ (m : (ℓ : Loc Cert.DxUpRefIdeal.nD Cert.DxUpRefIdeal.τ Cert.DxUpRefIdeal.sig) → Buf (Elt Ideal) ℓ) (g : Dev Cert.DxUpRefIdeal.nD → PrngReg), Pre_DxUpRefIdeal m →
    θ_run (Cert.DxUpRefIdeal.defs (F := Ideal)) (onTc (τ := Cert.DxUpRefIdeal.τ) (Cert.DxUpRefIdeal.main (F := Ideal))) ⟨m, fun _ => 0, g⟩ (fun r => (∀ c : Dev Cert.DxUpRefIdeal.nD,
      r.2.mem ((c.tc : Thread Cert.DxUpRefIdeal.nD Cert.DxUpRefIdeal.τ).loc Cert.DxUpRefIdeal.main_arg0) = m ((c.tc : Thread Cert.DxUpRefIdeal.nD Cert.DxUpRefIdeal.τ).loc Cert.DxUpRefIdeal.main_arg0)
      ∧ r.2.mem ((c.tc : Thread Cert.DxUpRefIdeal.nD Cert.DxUpRefIdeal.τ).loc Cert.DxUpRefIdeal.main_arg1) = m ((c.tc : Thread Cert.DxUpRefIdeal.nD Cert.DxUpRefIdeal.τ).loc Cert.DxUpRefIdeal.main_arg1)
      ∧ r.2.mem ((c.tc : Thread Cert.DxUpRefIdeal.nD Cert.DxUpRefIdeal.τ).loc Cert.DxUpRefIdeal.main_arg2) = m ((c.tc : Thread Cert.DxUpRefIdeal.nD Cert.DxUpRefIdeal.τ).loc Cert.DxUpRefIdeal.main_arg2)
      ∧ r.2.mem ((c.tc : Thread Cert.DxUpRefIdeal.nD Cert.DxUpRefIdeal.τ).loc Cert.DxUpRefIdeal.main_arg3) = m ((c.tc : Thread Cert.DxUpRefIdeal.nD Cert.DxUpRefIdeal.τ).loc Cert.DxUpRefIdeal.main_arg3)
      ∧ r.2.mem ((c.tc : Thread Cert.DxUpRefIdeal.nD Cert.DxUpRefIdeal.τ).loc Cert.DxUpRefIdeal.main_arg4) = m ((c.tc : Thread Cert.DxUpRefIdeal.nD Cert.DxUpRefIdeal.τ).loc Cert.DxUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DxDownB [hDxDownB : Cert.DxDownB.Facts] : Prop :=
  ∀ (m : (ℓ : Loc Cert.DxDownB.nD Cert.DxDownB.τ Cert.DxDownB.sig) → Buf (Elt Bits) ℓ) (g : Dev Cert.DxDownB.nD → PrngReg), Pre_DxDownB m →
    θ_run (Cert.DxDownB.defs (F := Bits)) (onTc (τ := Cert.DxDownB.τ) (Cert.DxDownB.main (F := Bits))) ⟨m, fun _ => 0, g⟩ (fun r => (∀ c : Dev Cert.DxDownB.nD,
      r.2.mem ((c.tc : Thread Cert.DxDownB.nD Cert.DxDownB.τ).loc Cert.DxDownB.main_arg0) = m ((c.tc : Thread Cert.DxDownB.nD Cert.DxDownB.τ).loc Cert.DxDownB.main_arg0)
      ∧ r.2.mem ((c.tc : Thread Cert.DxDownB.nD Cert.DxDownB.τ).loc Cert.DxDownB.main_arg1) = m ((c.tc : Thread Cert.DxDownB.nD Cert.DxDownB.τ).loc Cert.DxDownB.main_arg1)
      ∧ r.2.mem ((c.tc : Thread Cert.DxDownB.nD Cert.DxDownB.τ).loc Cert.DxDownB.main_arg2) = m ((c.tc : Thread Cert.DxDownB.nD Cert.DxDownB.τ).loc Cert.DxDownB.main_arg2))
      ∧ r.2.sem = fun _ => 0)

def quiescent_DxDownBIdeal [hDxDownBIdeal : Cert.DxDownBIdeal.Facts] : Prop :=
  ∀ (m : (ℓ : Loc Cert.DxDownBIdeal.nD Cert.DxDownBIdeal.τ Cert.DxDownBIdeal.sig) → Buf (Elt Ideal) ℓ) (g : Dev Cert.DxDownBIdeal.nD → PrngReg), Pre_DxDownBIdeal m →
    θ_run (Cert.DxDownBIdeal.defs (F := Ideal)) (onTc (τ := Cert.DxDownBIdeal.τ) (Cert.DxDownBIdeal.main (F := Ideal))) ⟨m, fun _ => 0, g⟩ (fun r => (∀ c : Dev Cert.DxDownBIdeal.nD,
      r.2.mem ((c.tc : Thread Cert.DxDownBIdeal.nD Cert.DxDownBIdeal.τ).loc Cert.DxDownBIdeal.main_arg0) = m ((c.tc : Thread Cert.DxDownBIdeal.nD Cert.DxDownBIdeal.τ).loc Cert.DxDownBIdeal.main_arg0)
      ∧ r.2.mem ((c.tc : Thread Cert.DxDownBIdeal.nD Cert.DxDownBIdeal.τ).loc Cert.DxDownBIdeal.main_arg1) = m ((c.tc : Thread Cert.DxDownBIdeal.nD Cert.DxDownBIdeal.τ).loc Cert.DxDownBIdeal.main_arg1)
      ∧ r.2.mem ((c.tc : Thread Cert.DxDownBIdeal.nD Cert.DxDownBIdeal.τ).loc Cert.DxDownBIdeal.main_arg2) = m ((c.tc : Thread Cert.DxDownBIdeal.nD Cert.DxDownBIdeal.τ).loc Cert.DxDownBIdeal.main_arg2))
      ∧ r.2.sem = fun _ => 0)

def quiescent_DxDownBRefIdeal [hDxDownBRefIdeal : Cert.DxDownBRefIdeal.Facts] : Prop :=
  ∀ (m : (ℓ : Loc Cert.DxDownBRefIdeal.nD Cert.DxDownBRefIdeal.τ Cert.DxDownBRefIdeal.sig) → Buf (Elt Ideal) ℓ) (g : Dev Cert.DxDownBRefIdeal.nD → PrngReg), Pre_DxDownBRefIdeal m →
    θ_run (Cert.DxDownBRefIdeal.defs (F := Ideal)) (onTc (τ := Cert.DxDownBRefIdeal.τ) (Cert.DxDownBRefIdeal.main (F := Ideal))) ⟨m, fun _ => 0, g⟩ (fun r => (∀ c : Dev Cert.DxDownBRefIdeal.nD,
      r.2.mem ((c.tc : Thread Cert.DxDownBRefIdeal.nD Cert.DxDownBRefIdeal.τ).loc Cert.DxDownBRefIdeal.main_arg0) = m ((c.tc : Thread Cert.DxDownBRefIdeal.nD Cert.DxDownBRefIdeal.τ).loc Cert.DxDownBRefIdeal.main_arg0)
      ∧ r.2.mem ((c.tc : Thread Cert.DxDownBRefIdeal.nD Cert.DxDownBRefIdeal.τ).loc Cert.DxDownBRefIdeal.main_arg1) = m ((c.tc : Thread Cert.DxDownBRefIdeal.nD Cert.DxDownBRefIdeal.τ).loc Cert.DxDownBRefIdeal.main_arg1)
      ∧ r.2.mem ((c.tc : Thread Cert.DxDownBRefIdeal.nD Cert.DxDownBRefIdeal.τ).loc Cert.DxDownBRefIdeal.main_arg2) = m ((c.tc : Thread Cert.DxDownBRefIdeal.nD Cert.DxDownBRefIdeal.τ).loc Cert.DxDownBRefIdeal.main_arg2))
      ∧ r.2.sem = fun _ => 0)

def quiescent_DwUpB [hDwUpB : Cert.DwUpB.Facts] : Prop :=
  ∀ (m : (ℓ : Loc Cert.DwUpB.nD Cert.DwUpB.τ Cert.DwUpB.sig) → Buf (Elt Bits) ℓ) (g : Dev Cert.DwUpB.nD → PrngReg), Pre_DwUpB m →
    θ_run (Cert.DwUpB.defs (F := Bits)) (onTc (τ := Cert.DwUpB.τ) (Cert.DwUpB.main (F := Bits))) ⟨m, fun _ => 0, g⟩ (fun r => (∀ c : Dev Cert.DwUpB.nD,
      r.2.mem ((c.tc : Thread Cert.DwUpB.nD Cert.DwUpB.τ).loc Cert.DwUpB.main_arg0) = m ((c.tc : Thread Cert.DwUpB.nD Cert.DwUpB.τ).loc Cert.DwUpB.main_arg0)
      ∧ r.2.mem ((c.tc : Thread Cert.DwUpB.nD Cert.DwUpB.τ).loc Cert.DwUpB.main_arg1) = m ((c.tc : Thread Cert.DwUpB.nD Cert.DwUpB.τ).loc Cert.DwUpB.main_arg1)
      ∧ r.2.mem ((c.tc : Thread Cert.DwUpB.nD Cert.DwUpB.τ).loc Cert.DwUpB.main_arg2) = m ((c.tc : Thread Cert.DwUpB.nD Cert.DwUpB.τ).loc Cert.DwUpB.main_arg2))
      ∧ r.2.sem = fun _ => 0)

def quiescent_DwUpBIdeal [hDwUpBIdeal : Cert.DwUpBIdeal.Facts] : Prop :=
  ∀ (m : (ℓ : Loc Cert.DwUpBIdeal.nD Cert.DwUpBIdeal.τ Cert.DwUpBIdeal.sig) → Buf (Elt Ideal) ℓ) (g : Dev Cert.DwUpBIdeal.nD → PrngReg), Pre_DwUpBIdeal m →
    θ_run (Cert.DwUpBIdeal.defs (F := Ideal)) (onTc (τ := Cert.DwUpBIdeal.τ) (Cert.DwUpBIdeal.main (F := Ideal))) ⟨m, fun _ => 0, g⟩ (fun r => (∀ c : Dev Cert.DwUpBIdeal.nD,
      r.2.mem ((c.tc : Thread Cert.DwUpBIdeal.nD Cert.DwUpBIdeal.τ).loc Cert.DwUpBIdeal.main_arg0) = m ((c.tc : Thread Cert.DwUpBIdeal.nD Cert.DwUpBIdeal.τ).loc Cert.DwUpBIdeal.main_arg0)
      ∧ r.2.mem ((c.tc : Thread Cert.DwUpBIdeal.nD Cert.DwUpBIdeal.τ).loc Cert.DwUpBIdeal.main_arg1) = m ((c.tc : Thread Cert.DwUpBIdeal.nD Cert.DwUpBIdeal.τ).loc Cert.DwUpBIdeal.main_arg1)
      ∧ r.2.mem ((c.tc : Thread Cert.DwUpBIdeal.nD Cert.DwUpBIdeal.τ).loc Cert.DwUpBIdeal.main_arg2) = m ((c.tc : Thread Cert.DwUpBIdeal.nD Cert.DwUpBIdeal.τ).loc Cert.DwUpBIdeal.main_arg2))
      ∧ r.2.sem = fun _ => 0)

def quiescent_DwUpBRefIdeal [hDwUpBRefIdeal : Cert.DwUpBRefIdeal.Facts] : Prop :=
  ∀ (m : (ℓ : Loc Cert.DwUpBRefIdeal.nD Cert.DwUpBRefIdeal.τ Cert.DwUpBRefIdeal.sig) → Buf (Elt Ideal) ℓ) (g : Dev Cert.DwUpBRefIdeal.nD → PrngReg), Pre_DwUpBRefIdeal m →
    θ_run (Cert.DwUpBRefIdeal.defs (F := Ideal)) (onTc (τ := Cert.DwUpBRefIdeal.τ) (Cert.DwUpBRefIdeal.main (F := Ideal))) ⟨m, fun _ => 0, g⟩ (fun r => (∀ c : Dev Cert.DwUpBRefIdeal.nD,
      r.2.mem ((c.tc : Thread Cert.DwUpBRefIdeal.nD Cert.DwUpBRefIdeal.τ).loc Cert.DwUpBRefIdeal.main_arg0) = m ((c.tc : Thread Cert.DwUpBRefIdeal.nD Cert.DwUpBRefIdeal.τ).loc Cert.DwUpBRefIdeal.main_arg0)
      ∧ r.2.mem ((c.tc : Thread Cert.DwUpBRefIdeal.nD Cert.DwUpBRefIdeal.τ).loc Cert.DwUpBRefIdeal.main_arg1) = m ((c.tc : Thread Cert.DwUpBRefIdeal.nD Cert.DwUpBRefIdeal.τ).loc Cert.DwUpBRefIdeal.main_arg1)
      ∧ r.2.mem ((c.tc : Thread Cert.DwUpBRefIdeal.nD Cert.DwUpBRefIdeal.τ).loc Cert.DwUpBRefIdeal.main_arg2) = m ((c.tc : Thread Cert.DwUpBRefIdeal.nD Cert.DwUpBRefIdeal.τ).loc Cert.DwUpBRefIdeal.main_arg2))
      ∧ r.2.sem = fun _ => 0)

def quiescent_DwDownB [hDwDownB : Cert.DwDownB.Facts] : Prop :=
  ∀ (m : (ℓ : Loc Cert.DwDownB.nD Cert.DwDownB.τ Cert.DwDownB.sig) → Buf (Elt Bits) ℓ) (g : Dev Cert.DwDownB.nD → PrngReg), Pre_DwDownB m →
    θ_run (Cert.DwDownB.defs (F := Bits)) (onTc (τ := Cert.DwDownB.τ) (Cert.DwDownB.main (F := Bits))) ⟨m, fun _ => 0, g⟩ (fun r => (∀ c : Dev Cert.DwDownB.nD,
      r.2.mem ((c.tc : Thread Cert.DwDownB.nD Cert.DwDownB.τ).loc Cert.DwDownB.main_arg0) = m ((c.tc : Thread Cert.DwDownB.nD Cert.DwDownB.τ).loc Cert.DwDownB.main_arg0)
      ∧ r.2.mem ((c.tc : Thread Cert.DwDownB.nD Cert.DwDownB.τ).loc Cert.DwDownB.main_arg1) = m ((c.tc : Thread Cert.DwDownB.nD Cert.DwDownB.τ).loc Cert.DwDownB.main_arg1)
      ∧ r.2.mem ((c.tc : Thread Cert.DwDownB.nD Cert.DwDownB.τ).loc Cert.DwDownB.main_arg2) = m ((c.tc : Thread Cert.DwDownB.nD Cert.DwDownB.τ).loc Cert.DwDownB.main_arg2))
      ∧ r.2.sem = fun _ => 0)

def quiescent_DwDownBIdeal [hDwDownBIdeal : Cert.DwDownBIdeal.Facts] : Prop :=
  ∀ (m : (ℓ : Loc Cert.DwDownBIdeal.nD Cert.DwDownBIdeal.τ Cert.DwDownBIdeal.sig) → Buf (Elt Ideal) ℓ) (g : Dev Cert.DwDownBIdeal.nD → PrngReg), Pre_DwDownBIdeal m →
    θ_run (Cert.DwDownBIdeal.defs (F := Ideal)) (onTc (τ := Cert.DwDownBIdeal.τ) (Cert.DwDownBIdeal.main (F := Ideal))) ⟨m, fun _ => 0, g⟩ (fun r => (∀ c : Dev Cert.DwDownBIdeal.nD,
      r.2.mem ((c.tc : Thread Cert.DwDownBIdeal.nD Cert.DwDownBIdeal.τ).loc Cert.DwDownBIdeal.main_arg0) = m ((c.tc : Thread Cert.DwDownBIdeal.nD Cert.DwDownBIdeal.τ).loc Cert.DwDownBIdeal.main_arg0)
      ∧ r.2.mem ((c.tc : Thread Cert.DwDownBIdeal.nD Cert.DwDownBIdeal.τ).loc Cert.DwDownBIdeal.main_arg1) = m ((c.tc : Thread Cert.DwDownBIdeal.nD Cert.DwDownBIdeal.τ).loc Cert.DwDownBIdeal.main_arg1)
      ∧ r.2.mem ((c.tc : Thread Cert.DwDownBIdeal.nD Cert.DwDownBIdeal.τ).loc Cert.DwDownBIdeal.main_arg2) = m ((c.tc : Thread Cert.DwDownBIdeal.nD Cert.DwDownBIdeal.τ).loc Cert.DwDownBIdeal.main_arg2))
      ∧ r.2.sem = fun _ => 0)

def quiescent_DwDownBRefIdeal [hDwDownBRefIdeal : Cert.DwDownBRefIdeal.Facts] : Prop :=
  ∀ (m : (ℓ : Loc Cert.DwDownBRefIdeal.nD Cert.DwDownBRefIdeal.τ Cert.DwDownBRefIdeal.sig) → Buf (Elt Ideal) ℓ) (g : Dev Cert.DwDownBRefIdeal.nD → PrngReg), Pre_DwDownBRefIdeal m →
    θ_run (Cert.DwDownBRefIdeal.defs (F := Ideal)) (onTc (τ := Cert.DwDownBRefIdeal.τ) (Cert.DwDownBRefIdeal.main (F := Ideal))) ⟨m, fun _ => 0, g⟩ (fun r => (∀ c : Dev Cert.DwDownBRefIdeal.nD,
      r.2.mem ((c.tc : Thread Cert.DwDownBRefIdeal.nD Cert.DwDownBRefIdeal.τ).loc Cert.DwDownBRefIdeal.main_arg0) = m ((c.tc : Thread Cert.DwDownBRefIdeal.nD Cert.DwDownBRefIdeal.τ).loc Cert.DwDownBRefIdeal.main_arg0)
      ∧ r.2.mem ((c.tc : Thread Cert.DwDownBRefIdeal.nD Cert.DwDownBRefIdeal.τ).loc Cert.DwDownBRefIdeal.main_arg1) = m ((c.tc : Thread Cert.DwDownBRefIdeal.nD Cert.DwDownBRefIdeal.τ).loc Cert.DwDownBRefIdeal.main_arg1)
      ∧ r.2.mem ((c.tc : Thread Cert.DwDownBRefIdeal.nD Cert.DwDownBRefIdeal.τ).loc Cert.DwDownBRefIdeal.main_arg2) = m ((c.tc : Thread Cert.DwDownBRefIdeal.nD Cert.DwDownBRefIdeal.τ).loc Cert.DwDownBRefIdeal.main_arg2))
      ∧ r.2.sem = fun _ => 0)

def quiescent_DxUpB [hDxUpB : Cert.DxUpB.Facts] : Prop :=
  ∀ (m : (ℓ : Loc Cert.DxUpB.nD Cert.DxUpB.τ Cert.DxUpB.sig) → Buf (Elt Bits) ℓ) (g : Dev Cert.DxUpB.nD → PrngReg), Pre_DxUpB m →
    θ_run (Cert.DxUpB.defs (F := Bits)) (onTc (τ := Cert.DxUpB.τ) (Cert.DxUpB.main (F := Bits))) ⟨m, fun _ => 0, g⟩ (fun r => (∀ c : Dev Cert.DxUpB.nD,
      r.2.mem ((c.tc : Thread Cert.DxUpB.nD Cert.DxUpB.τ).loc Cert.DxUpB.main_arg0) = m ((c.tc : Thread Cert.DxUpB.nD Cert.DxUpB.τ).loc Cert.DxUpB.main_arg0)
      ∧ r.2.mem ((c.tc : Thread Cert.DxUpB.nD Cert.DxUpB.τ).loc Cert.DxUpB.main_arg1) = m ((c.tc : Thread Cert.DxUpB.nD Cert.DxUpB.τ).loc Cert.DxUpB.main_arg1)
      ∧ r.2.mem ((c.tc : Thread Cert.DxUpB.nD Cert.DxUpB.τ).loc Cert.DxUpB.main_arg2) = m ((c.tc : Thread Cert.DxUpB.nD Cert.DxUpB.τ).loc Cert.DxUpB.main_arg2)
      ∧ r.2.mem ((c.tc : Thread Cert.DxUpB.nD Cert.DxUpB.τ).loc Cert.DxUpB.main_arg3) = m ((c.tc : Thread Cert.DxUpB.nD Cert.DxUpB.τ).loc Cert.DxUpB.main_arg3)
      ∧ r.2.mem ((c.tc : Thread Cert.DxUpB.nD Cert.DxUpB.τ).loc Cert.DxUpB.main_arg4) = m ((c.tc : Thread Cert.DxUpB.nD Cert.DxUpB.τ).loc Cert.DxUpB.main_arg4))
      ∧ r.2.sem = fun _ => 0)

def quiescent_DxUpBIdeal [hDxUpBIdeal : Cert.DxUpBIdeal.Facts] : Prop :=
  ∀ (m : (ℓ : Loc Cert.DxUpBIdeal.nD Cert.DxUpBIdeal.τ Cert.DxUpBIdeal.sig) → Buf (Elt Ideal) ℓ) (g : Dev Cert.DxUpBIdeal.nD → PrngReg), Pre_DxUpBIdeal m →
    θ_run (Cert.DxUpBIdeal.defs (F := Ideal)) (onTc (τ := Cert.DxUpBIdeal.τ) (Cert.DxUpBIdeal.main (F := Ideal))) ⟨m, fun _ => 0, g⟩ (fun r => (∀ c : Dev Cert.DxUpBIdeal.nD,
      r.2.mem ((c.tc : Thread Cert.DxUpBIdeal.nD Cert.DxUpBIdeal.τ).loc Cert.DxUpBIdeal.main_arg0) = m ((c.tc : Thread Cert.DxUpBIdeal.nD Cert.DxUpBIdeal.τ).loc Cert.DxUpBIdeal.main_arg0)
      ∧ r.2.mem ((c.tc : Thread Cert.DxUpBIdeal.nD Cert.DxUpBIdeal.τ).loc Cert.DxUpBIdeal.main_arg1) = m ((c.tc : Thread Cert.DxUpBIdeal.nD Cert.DxUpBIdeal.τ).loc Cert.DxUpBIdeal.main_arg1)
      ∧ r.2.mem ((c.tc : Thread Cert.DxUpBIdeal.nD Cert.DxUpBIdeal.τ).loc Cert.DxUpBIdeal.main_arg2) = m ((c.tc : Thread Cert.DxUpBIdeal.nD Cert.DxUpBIdeal.τ).loc Cert.DxUpBIdeal.main_arg2)
      ∧ r.2.mem ((c.tc : Thread Cert.DxUpBIdeal.nD Cert.DxUpBIdeal.τ).loc Cert.DxUpBIdeal.main_arg3) = m ((c.tc : Thread Cert.DxUpBIdeal.nD Cert.DxUpBIdeal.τ).loc Cert.DxUpBIdeal.main_arg3)
      ∧ r.2.mem ((c.tc : Thread Cert.DxUpBIdeal.nD Cert.DxUpBIdeal.τ).loc Cert.DxUpBIdeal.main_arg4) = m ((c.tc : Thread Cert.DxUpBIdeal.nD Cert.DxUpBIdeal.τ).loc Cert.DxUpBIdeal.main_arg4))
      ∧ r.2.sem = fun _ => 0)

def quiescent_DxUpBRefIdeal [hDxUpBRefIdeal : Cert.DxUpBRefIdeal.Facts] : Prop :=
  ∀ (m : (ℓ : Loc Cert.DxUpBRefIdeal.nD Cert.DxUpBRefIdeal.τ Cert.DxUpBRefIdeal.sig) → Buf (Elt Ideal) ℓ) (g : Dev Cert.DxUpBRefIdeal.nD → PrngReg), Pre_DxUpBRefIdeal m →
    θ_run (Cert.DxUpBRefIdeal.defs (F := Ideal)) (onTc (τ := Cert.DxUpBRefIdeal.τ) (Cert.DxUpBRefIdeal.main (F := Ideal))) ⟨m, fun _ => 0, g⟩ (fun r => (∀ c : Dev Cert.DxUpBRefIdeal.nD,
      r.2.mem ((c.tc : Thread Cert.DxUpBRefIdeal.nD Cert.DxUpBRefIdeal.τ).loc Cert.DxUpBRefIdeal.main_arg0) = m ((c.tc : Thread Cert.DxUpBRefIdeal.nD Cert.DxUpBRefIdeal.τ).loc Cert.DxUpBRefIdeal.main_arg0)
      ∧ r.2.mem ((c.tc : Thread Cert.DxUpBRefIdeal.nD Cert.DxUpBRefIdeal.τ).loc Cert.DxUpBRefIdeal.main_arg1) = m ((c.tc : Thread Cert.DxUpBRefIdeal.nD Cert.DxUpBRefIdeal.τ).loc Cert.DxUpBRefIdeal.main_arg1)
      ∧ r.2.mem ((c.tc : Thread Cert.DxUpBRefIdeal.nD Cert.DxUpBRefIdeal.τ).loc Cert.DxUpBRefIdeal.main_arg2) = m ((c.tc : Thread Cert.DxUpBRefIdeal.nD Cert.DxUpBRefIdeal.τ).loc Cert.DxUpBRefIdeal.main_arg2)
      ∧ r.2.mem ((c.tc : Thread Cert.DxUpBRefIdeal.nD Cert.DxUpBRefIdeal.τ).loc Cert.DxUpBRefIdeal.main_arg3) = m ((c.tc : Thread Cert.DxUpBRefIdeal.nD Cert.DxUpBRefIdeal.τ).loc Cert.DxUpBRefIdeal.main_arg3)
      ∧ r.2.mem ((c.tc : Thread Cert.DxUpBRefIdeal.nD Cert.DxUpBRefIdeal.τ).loc Cert.DxUpBRefIdeal.main_arg4) = m ((c.tc : Thread Cert.DxUpBRefIdeal.nD Cert.DxUpBRefIdeal.τ).loc Cert.DxUpBRefIdeal.main_arg4))
      ∧ r.2.sem = fun _ => 0)

def quiescent_DownB [hDownB : Cert.DownB.Facts] : Prop :=
  ∀ (m : (ℓ : Loc Cert.DownB.nD Cert.DownB.τ Cert.DownB.sig) → Buf (Elt Bits) ℓ) (g : Dev Cert.DownB.nD → PrngReg), Pre_DownB m →
    θ_run (Cert.DownB.defs (F := Bits)) (onTc (τ := Cert.DownB.τ) (Cert.DownB.main (F := Bits))) ⟨m, fun _ => 0, g⟩ (fun r => (∀ c : Dev Cert.DownB.nD,
      r.2.mem ((c.tc : Thread Cert.DownB.nD Cert.DownB.τ).loc Cert.DownB.main_arg0) = m ((c.tc : Thread Cert.DownB.nD Cert.DownB.τ).loc Cert.DownB.main_arg0)
      ∧ r.2.mem ((c.tc : Thread Cert.DownB.nD Cert.DownB.τ).loc Cert.DownB.main_arg1) = m ((c.tc : Thread Cert.DownB.nD Cert.DownB.τ).loc Cert.DownB.main_arg1)
      ∧ r.2.mem ((c.tc : Thread Cert.DownB.nD Cert.DownB.τ).loc Cert.DownB.main_arg2) = m ((c.tc : Thread Cert.DownB.nD Cert.DownB.τ).loc Cert.DownB.main_arg2))
      ∧ r.2.sem = fun _ => 0)

def quiescent_DownBIdeal [hDownBIdeal : Cert.DownBIdeal.Facts] : Prop :=
  ∀ (m : (ℓ : Loc Cert.DownBIdeal.nD Cert.DownBIdeal.τ Cert.DownBIdeal.sig) → Buf (Elt Ideal) ℓ) (g : Dev Cert.DownBIdeal.nD → PrngReg), Pre_DownBIdeal m →
    θ_run (Cert.DownBIdeal.defs (F := Ideal)) (onTc (τ := Cert.DownBIdeal.τ) (Cert.DownBIdeal.main (F := Ideal))) ⟨m, fun _ => 0, g⟩ (fun r => (∀ c : Dev Cert.DownBIdeal.nD,
      r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
      ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
      ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2))
      ∧ r.2.sem = fun _ => 0)

def quiescent_DownBRefIdeal [hDownBRefIdeal : Cert.DownBRefIdeal.Facts] : Prop :=
  ∀ (m : (ℓ : Loc Cert.DownBRefIdeal.nD Cert.DownBRefIdeal.τ Cert.DownBRefIdeal.sig) → Buf (Elt Ideal) ℓ) (g : Dev Cert.DownBRefIdeal.nD → PrngReg), Pre_DownBRefIdeal m →
    θ_run (Cert.DownBRefIdeal.defs (F := Ideal)) (onTc (τ := Cert.DownBRefIdeal.τ) (Cert.DownBRefIdeal.main (F := Ideal))) ⟨m, fun _ => 0, g⟩ (fun r => (∀ c : Dev Cert.DownBRefIdeal.nD,
      r.2.mem ((c.tc : Thread Cert.DownBRefIdeal.nD Cert.DownBRefIdeal.τ).loc Cert.DownBRefIdeal.main_arg0) = m ((c.tc : Thread Cert.DownBRefIdeal.nD Cert.DownBRefIdeal.τ).loc Cert.DownBRefIdeal.main_arg0)
      ∧ r.2.mem ((c.tc : Thread Cert.DownBRefIdeal.nD Cert.DownBRefIdeal.τ).loc Cert.DownBRefIdeal.main_arg1) = m ((c.tc : Thread Cert.DownBRefIdeal.nD Cert.DownBRefIdeal.τ).loc Cert.DownBRefIdeal.main_arg1)
      ∧ r.2.mem ((c.tc : Thread Cert.DownBRefIdeal.nD Cert.DownBRefIdeal.τ).loc Cert.DownBRefIdeal.main_arg2) = m ((c.tc : Thread Cert.DownBRefIdeal.nD Cert.DownBRefIdeal.τ).loc Cert.DownBRefIdeal.main_arg2))
      ∧ r.2.sem = fun _ => 0)

def quiescent_DxDownC [hDxDownC : Cert.DxDownC.Facts] : Prop :=
  ∀ (m : (ℓ : Loc Cert.DxDownC.nD Cert.DxDownC.τ Cert.DxDownC.sig) → Buf (Elt Bits) ℓ) (g : Dev Cert.DxDownC.nD → PrngReg), Pre_DxDownC m →
    θ_run (Cert.DxDownC.defs (F := Bits)) (onTc (τ := Cert.DxDownC.τ) (Cert.DxDownC.main (F := Bits))) ⟨m, fun _ => 0, g⟩ (fun r => (∀ c : Dev Cert.DxDownC.nD,
      r.2.mem ((c.tc : Thread Cert.DxDownC.nD Cert.DxDownC.τ).loc Cert.DxDownC.main_arg0) = m ((c.tc : Thread Cert.DxDownC.nD Cert.DxDownC.τ).loc Cert.DxDownC.main_arg0)
      ∧ r.2.mem ((c.tc : Thread Cert.DxDownC.nD Cert.DxDownC.τ).loc Cert.DxDownC.main_arg1) = m ((c.tc : Thread Cert.DxDownC.nD Cert.DxDownC.τ).loc Cert.DxDownC.main_arg1)
      ∧ r.2.mem ((c.tc : Thread Cert.DxDownC.nD Cert.DxDownC.τ).loc Cert.DxDownC.main_arg2) = m ((c.tc : Thread Cert.DxDownC.nD Cert.DxDownC.τ).loc Cert.DxDownC.main_arg2))
      ∧ r.2.sem = fun _ => 0)

def quiescent_DxDownCIdeal [hDxDownCIdeal : Cert.DxDownCIdeal.Facts] : Prop :=
  ∀ (m : (ℓ : Loc Cert.DxDownCIdeal.nD Cert.DxDownCIdeal.τ Cert.DxDownCIdeal.sig) → Buf (Elt Ideal) ℓ) (g : Dev Cert.DxDownCIdeal.nD → PrngReg), Pre_DxDownCIdeal m →
    θ_run (Cert.DxDownCIdeal.defs (F := Ideal)) (onTc (τ := Cert.DxDownCIdeal.τ) (Cert.DxDownCIdeal.main (F := Ideal))) ⟨m, fun _ => 0, g⟩ (fun r => (∀ c : Dev Cert.DxDownCIdeal.nD,
      r.2.mem ((c.tc : Thread Cert.DxDownCIdeal.nD Cert.DxDownCIdeal.τ).loc Cert.DxDownCIdeal.main_arg0) = m ((c.tc : Thread Cert.DxDownCIdeal.nD Cert.DxDownCIdeal.τ).loc Cert.DxDownCIdeal.main_arg0)
      ∧ r.2.mem ((c.tc : Thread Cert.DxDownCIdeal.nD Cert.DxDownCIdeal.τ).loc Cert.DxDownCIdeal.main_arg1) = m ((c.tc : Thread Cert.DxDownCIdeal.nD Cert.DxDownCIdeal.τ).loc Cert.DxDownCIdeal.main_arg1)
      ∧ r.2.mem ((c.tc : Thread Cert.DxDownCIdeal.nD Cert.DxDownCIdeal.τ).loc Cert.DxDownCIdeal.main_arg2) = m ((c.tc : Thread Cert.DxDownCIdeal.nD Cert.DxDownCIdeal.τ).loc Cert.DxDownCIdeal.main_arg2))
      ∧ r.2.sem = fun _ => 0)

def quiescent_DxDownCRefIdeal [hDxDownCRefIdeal : Cert.DxDownCRefIdeal.Facts] : Prop :=
  ∀ (m : (ℓ : Loc Cert.DxDownCRefIdeal.nD Cert.DxDownCRefIdeal.τ Cert.DxDownCRefIdeal.sig) → Buf (Elt Ideal) ℓ) (g : Dev Cert.DxDownCRefIdeal.nD → PrngReg), Pre_DxDownCRefIdeal m →
    θ_run (Cert.DxDownCRefIdeal.defs (F := Ideal)) (onTc (τ := Cert.DxDownCRefIdeal.τ) (Cert.DxDownCRefIdeal.main (F := Ideal))) ⟨m, fun _ => 0, g⟩ (fun r => (∀ c : Dev Cert.DxDownCRefIdeal.nD,
      r.2.mem ((c.tc : Thread Cert.DxDownCRefIdeal.nD Cert.DxDownCRefIdeal.τ).loc Cert.DxDownCRefIdeal.main_arg0) = m ((c.tc : Thread Cert.DxDownCRefIdeal.nD Cert.DxDownCRefIdeal.τ).loc Cert.DxDownCRefIdeal.main_arg0)
      ∧ r.2.mem ((c.tc : Thread Cert.DxDownCRefIdeal.nD Cert.DxDownCRefIdeal.τ).loc Cert.DxDownCRefIdeal.main_arg1) = m ((c.tc : Thread Cert.DxDownCRefIdeal.nD Cert.DxDownCRefIdeal.τ).loc Cert.DxDownCRefIdeal.main_arg1)
      ∧ r.2.mem ((c.tc : Thread Cert.DxDownCRefIdeal.nD Cert.DxDownCRefIdeal.τ).loc Cert.DxDownCRefIdeal.main_arg2) = m ((c.tc : Thread Cert.DxDownCRefIdeal.nD Cert.DxDownCRefIdeal.τ).loc Cert.DxDownCRefIdeal.main_arg2))
      ∧ r.2.sem = fun _ => 0)

def quiescent_DwUpC [hDwUpC : Cert.DwUpC.Facts] : Prop :=
  ∀ (m : (ℓ : Loc Cert.DwUpC.nD Cert.DwUpC.τ Cert.DwUpC.sig) → Buf (Elt Bits) ℓ) (g : Dev Cert.DwUpC.nD → PrngReg), Pre_DwUpC m →
    θ_run (Cert.DwUpC.defs (F := Bits)) (onTc (τ := Cert.DwUpC.τ) (Cert.DwUpC.main (F := Bits))) ⟨m, fun _ => 0, g⟩ (fun r => (∀ c : Dev Cert.DwUpC.nD,
      r.2.mem ((c.tc : Thread Cert.DwUpC.nD Cert.DwUpC.τ).loc Cert.DwUpC.main_arg0) = m ((c.tc : Thread Cert.DwUpC.nD Cert.DwUpC.τ).loc Cert.DwUpC.main_arg0)
      ∧ r.2.mem ((c.tc : Thread Cert.DwUpC.nD Cert.DwUpC.τ).loc Cert.DwUpC.main_arg1) = m ((c.tc : Thread Cert.DwUpC.nD Cert.DwUpC.τ).loc Cert.DwUpC.main_arg1)
      ∧ r.2.mem ((c.tc : Thread Cert.DwUpC.nD Cert.DwUpC.τ).loc Cert.DwUpC.main_arg2) = m ((c.tc : Thread Cert.DwUpC.nD Cert.DwUpC.τ).loc Cert.DwUpC.main_arg2))
      ∧ r.2.sem = fun _ => 0)

def quiescent_DwUpCIdeal [hDwUpCIdeal : Cert.DwUpCIdeal.Facts] : Prop :=
  ∀ (m : (ℓ : Loc Cert.DwUpCIdeal.nD Cert.DwUpCIdeal.τ Cert.DwUpCIdeal.sig) → Buf (Elt Ideal) ℓ) (g : Dev Cert.DwUpCIdeal.nD → PrngReg), Pre_DwUpCIdeal m →
    θ_run (Cert.DwUpCIdeal.defs (F := Ideal)) (onTc (τ := Cert.DwUpCIdeal.τ) (Cert.DwUpCIdeal.main (F := Ideal))) ⟨m, fun _ => 0, g⟩ (fun r => (∀ c : Dev Cert.DwUpCIdeal.nD,
      r.2.mem ((c.tc : Thread Cert.DwUpCIdeal.nD Cert.DwUpCIdeal.τ).loc Cert.DwUpCIdeal.main_arg0) = m ((c.tc : Thread Cert.DwUpCIdeal.nD Cert.DwUpCIdeal.τ).loc Cert.DwUpCIdeal.main_arg0)
      ∧ r.2.mem ((c.tc : Thread Cert.DwUpCIdeal.nD Cert.DwUpCIdeal.τ).loc Cert.DwUpCIdeal.main_arg1) = m ((c.tc : Thread Cert.DwUpCIdeal.nD Cert.DwUpCIdeal.τ).loc Cert.DwUpCIdeal.main_arg1)
      ∧ r.2.mem ((c.tc : Thread Cert.DwUpCIdeal.nD Cert.DwUpCIdeal.τ).loc Cert.DwUpCIdeal.main_arg2) = m ((c.tc : Thread Cert.DwUpCIdeal.nD Cert.DwUpCIdeal.τ).loc Cert.DwUpCIdeal.main_arg2))
      ∧ r.2.sem = fun _ => 0)

def quiescent_DwUpCRefIdeal [hDwUpCRefIdeal : Cert.DwUpCRefIdeal.Facts] : Prop :=
  ∀ (m : (ℓ : Loc Cert.DwUpCRefIdeal.nD Cert.DwUpCRefIdeal.τ Cert.DwUpCRefIdeal.sig) → Buf (Elt Ideal) ℓ) (g : Dev Cert.DwUpCRefIdeal.nD → PrngReg), Pre_DwUpCRefIdeal m →
    θ_run (Cert.DwUpCRefIdeal.defs (F := Ideal)) (onTc (τ := Cert.DwUpCRefIdeal.τ) (Cert.DwUpCRefIdeal.main (F := Ideal))) ⟨m, fun _ => 0, g⟩ (fun r => (∀ c : Dev Cert.DwUpCRefIdeal.nD,
      r.2.mem ((c.tc : Thread Cert.DwUpCRefIdeal.nD Cert.DwUpCRefIdeal.τ).loc Cert.DwUpCRefIdeal.main_arg0) = m ((c.tc : Thread Cert.DwUpCRefIdeal.nD Cert.DwUpCRefIdeal.τ).loc Cert.DwUpCRefIdeal.main_arg0)
      ∧ r.2.mem ((c.tc : Thread Cert.DwUpCRefIdeal.nD Cert.DwUpCRefIdeal.τ).loc Cert.DwUpCRefIdeal.main_arg1) = m ((c.tc : Thread Cert.DwUpCRefIdeal.nD Cert.DwUpCRefIdeal.τ).loc Cert.DwUpCRefIdeal.main_arg1)
      ∧ r.2.mem ((c.tc : Thread Cert.DwUpCRefIdeal.nD Cert.DwUpCRefIdeal.τ).loc Cert.DwUpCRefIdeal.main_arg2) = m ((c.tc : Thread Cert.DwUpCRefIdeal.nD Cert.DwUpCRefIdeal.τ).loc Cert.DwUpCRefIdeal.main_arg2))
      ∧ r.2.sem = fun _ => 0)

def quiescent_DwDownC [hDwDownC : Cert.DwDownC.Facts] : Prop :=
  ∀ (m : (ℓ : Loc Cert.DwDownC.nD Cert.DwDownC.τ Cert.DwDownC.sig) → Buf (Elt Bits) ℓ) (g : Dev Cert.DwDownC.nD → PrngReg), Pre_DwDownC m →
    θ_run (Cert.DwDownC.defs (F := Bits)) (onTc (τ := Cert.DwDownC.τ) (Cert.DwDownC.main (F := Bits))) ⟨m, fun _ => 0, g⟩ (fun r => (∀ c : Dev Cert.DwDownC.nD,
      r.2.mem ((c.tc : Thread Cert.DwDownC.nD Cert.DwDownC.τ).loc Cert.DwDownC.main_arg0) = m ((c.tc : Thread Cert.DwDownC.nD Cert.DwDownC.τ).loc Cert.DwDownC.main_arg0)
      ∧ r.2.mem ((c.tc : Thread Cert.DwDownC.nD Cert.DwDownC.τ).loc Cert.DwDownC.main_arg1) = m ((c.tc : Thread Cert.DwDownC.nD Cert.DwDownC.τ).loc Cert.DwDownC.main_arg1)
      ∧ r.2.mem ((c.tc : Thread Cert.DwDownC.nD Cert.DwDownC.τ).loc Cert.DwDownC.main_arg2) = m ((c.tc : Thread Cert.DwDownC.nD Cert.DwDownC.τ).loc Cert.DwDownC.main_arg2))
      ∧ r.2.sem = fun _ => 0)

def quiescent_DwDownCIdeal [hDwDownCIdeal : Cert.DwDownCIdeal.Facts] : Prop :=
  ∀ (m : (ℓ : Loc Cert.DwDownCIdeal.nD Cert.DwDownCIdeal.τ Cert.DwDownCIdeal.sig) → Buf (Elt Ideal) ℓ) (g : Dev Cert.DwDownCIdeal.nD → PrngReg), Pre_DwDownCIdeal m →
    θ_run (Cert.DwDownCIdeal.defs (F := Ideal)) (onTc (τ := Cert.DwDownCIdeal.τ) (Cert.DwDownCIdeal.main (F := Ideal))) ⟨m, fun _ => 0, g⟩ (fun r => (∀ c : Dev Cert.DwDownCIdeal.nD,
      r.2.mem ((c.tc : Thread Cert.DwDownCIdeal.nD Cert.DwDownCIdeal.τ).loc Cert.DwDownCIdeal.main_arg0) = m ((c.tc : Thread Cert.DwDownCIdeal.nD Cert.DwDownCIdeal.τ).loc Cert.DwDownCIdeal.main_arg0)
      ∧ r.2.mem ((c.tc : Thread Cert.DwDownCIdeal.nD Cert.DwDownCIdeal.τ).loc Cert.DwDownCIdeal.main_arg1) = m ((c.tc : Thread Cert.DwDownCIdeal.nD Cert.DwDownCIdeal.τ).loc Cert.DwDownCIdeal.main_arg1)
      ∧ r.2.mem ((c.tc : Thread Cert.DwDownCIdeal.nD Cert.DwDownCIdeal.τ).loc Cert.DwDownCIdeal.main_arg2) = m ((c.tc : Thread Cert.DwDownCIdeal.nD Cert.DwDownCIdeal.τ).loc Cert.DwDownCIdeal.main_arg2))
      ∧ r.2.sem = fun _ => 0)

def quiescent_DwDownCRefIdeal [hDwDownCRefIdeal : Cert.DwDownCRefIdeal.Facts] : Prop :=
  ∀ (m : (ℓ : Loc Cert.DwDownCRefIdeal.nD Cert.DwDownCRefIdeal.τ Cert.DwDownCRefIdeal.sig) → Buf (Elt Ideal) ℓ) (g : Dev Cert.DwDownCRefIdeal.nD → PrngReg), Pre_DwDownCRefIdeal m →
    θ_run (Cert.DwDownCRefIdeal.defs (F := Ideal)) (onTc (τ := Cert.DwDownCRefIdeal.τ) (Cert.DwDownCRefIdeal.main (F := Ideal))) ⟨m, fun _ => 0, g⟩ (fun r => (∀ c : Dev Cert.DwDownCRefIdeal.nD,
      r.2.mem ((c.tc : Thread Cert.DwDownCRefIdeal.nD Cert.DwDownCRefIdeal.τ).loc Cert.DwDownCRefIdeal.main_arg0) = m ((c.tc : Thread Cert.DwDownCRefIdeal.nD Cert.DwDownCRefIdeal.τ).loc Cert.DwDownCRefIdeal.main_arg0)
      ∧ r.2.mem ((c.tc : Thread Cert.DwDownCRefIdeal.nD Cert.DwDownCRefIdeal.τ).loc Cert.DwDownCRefIdeal.main_arg1) = m ((c.tc : Thread Cert.DwDownCRefIdeal.nD Cert.DwDownCRefIdeal.τ).loc Cert.DwDownCRefIdeal.main_arg1)
      ∧ r.2.mem ((c.tc : Thread Cert.DwDownCRefIdeal.nD Cert.DwDownCRefIdeal.τ).loc Cert.DwDownCRefIdeal.main_arg2) = m ((c.tc : Thread Cert.DwDownCRefIdeal.nD Cert.DwDownCRefIdeal.τ).loc Cert.DwDownCRefIdeal.main_arg2))
      ∧ r.2.sem = fun _ => 0)

def quiescent_DxUpC [hDxUpC : Cert.DxUpC.Facts] : Prop :=
  ∀ (m : (ℓ : Loc Cert.DxUpC.nD Cert.DxUpC.τ Cert.DxUpC.sig) → Buf (Elt Bits) ℓ) (g : Dev Cert.DxUpC.nD → PrngReg), Pre_DxUpC m →
    θ_run (Cert.DxUpC.defs (F := Bits)) (onTc (τ := Cert.DxUpC.τ) (Cert.DxUpC.main (F := Bits))) ⟨m, fun _ => 0, g⟩ (fun r => (∀ c : Dev Cert.DxUpC.nD,
      r.2.mem ((c.tc : Thread Cert.DxUpC.nD Cert.DxUpC.τ).loc Cert.DxUpC.main_arg0) = m ((c.tc : Thread Cert.DxUpC.nD Cert.DxUpC.τ).loc Cert.DxUpC.main_arg0)
      ∧ r.2.mem ((c.tc : Thread Cert.DxUpC.nD Cert.DxUpC.τ).loc Cert.DxUpC.main_arg1) = m ((c.tc : Thread Cert.DxUpC.nD Cert.DxUpC.τ).loc Cert.DxUpC.main_arg1)
      ∧ r.2.mem ((c.tc : Thread Cert.DxUpC.nD Cert.DxUpC.τ).loc Cert.DxUpC.main_arg2) = m ((c.tc : Thread Cert.DxUpC.nD Cert.DxUpC.τ).loc Cert.DxUpC.main_arg2)
      ∧ r.2.mem ((c.tc : Thread Cert.DxUpC.nD Cert.DxUpC.τ).loc Cert.DxUpC.main_arg3) = m ((c.tc : Thread Cert.DxUpC.nD Cert.DxUpC.τ).loc Cert.DxUpC.main_arg3)
      ∧ r.2.mem ((c.tc : Thread Cert.DxUpC.nD Cert.DxUpC.τ).loc Cert.DxUpC.main_arg4) = m ((c.tc : Thread Cert.DxUpC.nD Cert.DxUpC.τ).loc Cert.DxUpC.main_arg4))
      ∧ r.2.sem = fun _ => 0)

def quiescent_DxUpCIdeal [hDxUpCIdeal : Cert.DxUpCIdeal.Facts] : Prop :=
  ∀ (m : (ℓ : Loc Cert.DxUpCIdeal.nD Cert.DxUpCIdeal.τ Cert.DxUpCIdeal.sig) → Buf (Elt Ideal) ℓ) (g : Dev Cert.DxUpCIdeal.nD → PrngReg), Pre_DxUpCIdeal m →
    θ_run (Cert.DxUpCIdeal.defs (F := Ideal)) (onTc (τ := Cert.DxUpCIdeal.τ) (Cert.DxUpCIdeal.main (F := Ideal))) ⟨m, fun _ => 0, g⟩ (fun r => (∀ c : Dev Cert.DxUpCIdeal.nD,
      r.2.mem ((c.tc : Thread Cert.DxUpCIdeal.nD Cert.DxUpCIdeal.τ).loc Cert.DxUpCIdeal.main_arg0) = m ((c.tc : Thread Cert.DxUpCIdeal.nD Cert.DxUpCIdeal.τ).loc Cert.DxUpCIdeal.main_arg0)
      ∧ r.2.mem ((c.tc : Thread Cert.DxUpCIdeal.nD Cert.DxUpCIdeal.τ).loc Cert.DxUpCIdeal.main_arg1) = m ((c.tc : Thread Cert.DxUpCIdeal.nD Cert.DxUpCIdeal.τ).loc Cert.DxUpCIdeal.main_arg1)
      ∧ r.2.mem ((c.tc : Thread Cert.DxUpCIdeal.nD Cert.DxUpCIdeal.τ).loc Cert.DxUpCIdeal.main_arg2) = m ((c.tc : Thread Cert.DxUpCIdeal.nD Cert.DxUpCIdeal.τ).loc Cert.DxUpCIdeal.main_arg2)
      ∧ r.2.mem ((c.tc : Thread Cert.DxUpCIdeal.nD Cert.DxUpCIdeal.τ).loc Cert.DxUpCIdeal.main_arg3) = m ((c.tc : Thread Cert.DxUpCIdeal.nD Cert.DxUpCIdeal.τ).loc Cert.DxUpCIdeal.main_arg3)
      ∧ r.2.mem ((c.tc : Thread Cert.DxUpCIdeal.nD Cert.DxUpCIdeal.τ).loc Cert.DxUpCIdeal.main_arg4) = m ((c.tc : Thread Cert.DxUpCIdeal.nD Cert.DxUpCIdeal.τ).loc Cert.DxUpCIdeal.main_arg4))
      ∧ r.2.sem = fun _ => 0)

def quiescent_DxUpCRefIdeal [hDxUpCRefIdeal : Cert.DxUpCRefIdeal.Facts] : Prop :=
  ∀ (m : (ℓ : Loc Cert.DxUpCRefIdeal.nD Cert.DxUpCRefIdeal.τ Cert.DxUpCRefIdeal.sig) → Buf (Elt Ideal) ℓ) (g : Dev Cert.DxUpCRefIdeal.nD → PrngReg), Pre_DxUpCRefIdeal m →
    θ_run (Cert.DxUpCRefIdeal.defs (F := Ideal)) (onTc (τ := Cert.DxUpCRefIdeal.τ) (Cert.DxUpCRefIdeal.main (F := Ideal))) ⟨m, fun _ => 0, g⟩ (fun r => (∀ c : Dev Cert.DxUpCRefIdeal.nD,
      r.2.mem ((c.tc : Thread Cert.DxUpCRefIdeal.nD Cert.DxUpCRefIdeal.τ).loc Cert.DxUpCRefIdeal.main_arg0) = m ((c.tc : Thread Cert.DxUpCRefIdeal.nD Cert.DxUpCRefIdeal.τ).loc Cert.DxUpCRefIdeal.main_arg0)
      ∧ r.2.mem ((c.tc : Thread Cert.DxUpCRefIdeal.nD Cert.DxUpCRefIdeal.τ).loc Cert.DxUpCRefIdeal.main_arg1) = m ((c.tc : Thread Cert.DxUpCRefIdeal.nD Cert.DxUpCRefIdeal.τ).loc Cert.DxUpCRefIdeal.main_arg1)
      ∧ r.2.mem ((c.tc : Thread Cert.DxUpCRefIdeal.nD Cert.DxUpCRefIdeal.τ).loc Cert.DxUpCRefIdeal.main_arg2) = m ((c.tc : Thread Cert.DxUpCRefIdeal.nD Cert.DxUpCRefIdeal.τ).loc Cert.DxUpCRefIdeal.main_arg2)
      ∧ r.2.mem ((c.tc : Thread Cert.DxUpCRefIdeal.nD Cert.DxUpCRefIdeal.τ).loc Cert.DxUpCRefIdeal.main_arg3) = m ((c.tc : Thread Cert.DxUpCRefIdeal.nD Cert.DxUpCRefIdeal.τ).loc Cert.DxUpCRefIdeal.main_arg3)
      ∧ r.2.mem ((c.tc : Thread Cert.DxUpCRefIdeal.nD Cert.DxUpCRefIdeal.τ).loc Cert.DxUpCRefIdeal.main_arg4) = m ((c.tc : Thread Cert.DxUpCRefIdeal.nD Cert.DxUpCRefIdeal.τ).loc Cert.DxUpCRefIdeal.main_arg4))
      ∧ r.2.sem = fun _ => 0)

def quiescent_DownC [hDownC : Cert.DownC.Facts] : Prop :=
  ∀ (m : (ℓ : Loc Cert.DownC.nD Cert.DownC.τ Cert.DownC.sig) → Buf (Elt Bits) ℓ) (g : Dev Cert.DownC.nD → PrngReg), Pre_DownC m →
    θ_run (Cert.DownC.defs (F := Bits)) (onTc (τ := Cert.DownC.τ) (Cert.DownC.main (F := Bits))) ⟨m, fun _ => 0, g⟩ (fun r => (∀ c : Dev Cert.DownC.nD,
      r.2.mem ((c.tc : Thread Cert.DownC.nD Cert.DownC.τ).loc Cert.DownC.main_arg0) = m ((c.tc : Thread Cert.DownC.nD Cert.DownC.τ).loc Cert.DownC.main_arg0)
      ∧ r.2.mem ((c.tc : Thread Cert.DownC.nD Cert.DownC.τ).loc Cert.DownC.main_arg1) = m ((c.tc : Thread Cert.DownC.nD Cert.DownC.τ).loc Cert.DownC.main_arg1)
      ∧ r.2.mem ((c.tc : Thread Cert.DownC.nD Cert.DownC.τ).loc Cert.DownC.main_arg2) = m ((c.tc : Thread Cert.DownC.nD Cert.DownC.τ).loc Cert.DownC.main_arg2))
      ∧ r.2.sem = fun _ => 0)

def quiescent_DownCIdeal [hDownCIdeal : Cert.DownCIdeal.Facts] : Prop :=
  ∀ (m : (ℓ : Loc Cert.DownCIdeal.nD Cert.DownCIdeal.τ Cert.DownCIdeal.sig) → Buf (Elt Ideal) ℓ) (g : Dev Cert.DownCIdeal.nD → PrngReg), Pre_DownCIdeal m →
    θ_run (Cert.DownCIdeal.defs (F := Ideal)) (onTc (τ := Cert.DownCIdeal.τ) (Cert.DownCIdeal.main (F := Ideal))) ⟨m, fun _ => 0, g⟩ (fun r => (∀ c : Dev Cert.DownCIdeal.nD,
      r.2.mem ((c.tc : Thread Cert.DownCIdeal.nD Cert.DownCIdeal.τ).loc Cert.DownCIdeal.main_arg0) = m ((c.tc : Thread Cert.DownCIdeal.nD Cert.DownCIdeal.τ).loc Cert.DownCIdeal.main_arg0)
      ∧ r.2.mem ((c.tc : Thread Cert.DownCIdeal.nD Cert.DownCIdeal.τ).loc Cert.DownCIdeal.main_arg1) = m ((c.tc : Thread Cert.DownCIdeal.nD Cert.DownCIdeal.τ).loc Cert.DownCIdeal.main_arg1)
      ∧ r.2.mem ((c.tc : Thread Cert.DownCIdeal.nD Cert.DownCIdeal.τ).loc Cert.DownCIdeal.main_arg2) = m ((c.tc : Thread Cert.DownCIdeal.nD Cert.DownCIdeal.τ).loc Cert.DownCIdeal.main_arg2))
      ∧ r.2.sem = fun _ => 0)

def quiescent_DownCRefIdeal [hDownCRefIdeal : Cert.DownCRefIdeal.Facts] : Prop :=
  ∀ (m : (ℓ : Loc Cert.DownCRefIdeal.nD Cert.DownCRefIdeal.τ Cert.DownCRefIdeal.sig) → Buf (Elt Ideal) ℓ) (g : Dev Cert.DownCRefIdeal.nD → PrngReg), Pre_DownCRefIdeal m →
    θ_run (Cert.DownCRefIdeal.defs (F := Ideal)) (onTc (τ := Cert.DownCRefIdeal.τ) (Cert.DownCRefIdeal.main (F := Ideal))) ⟨m, fun _ => 0, g⟩ (fun r => (∀ c : Dev Cert.DownCRefIdeal.nD,
      r.2.mem ((c.tc : Thread Cert.DownCRefIdeal.nD Cert.DownCRefIdeal.τ).loc Cert.DownCRefIdeal.main_arg0) = m ((c.tc : Thread Cert.DownCRefIdeal.nD Cert.DownCRefIdeal.τ).loc Cert.DownCRefIdeal.main_arg0)
      ∧ r.2.mem ((c.tc : Thread Cert.DownCRefIdeal.nD Cert.DownCRefIdeal.τ).loc Cert.DownCRefIdeal.main_arg1) = m ((c.tc : Thread Cert.DownCRefIdeal.nD Cert.DownCRefIdeal.τ).loc Cert.DownCRefIdeal.main_arg1)
      ∧ r.2.mem ((c.tc : Thread Cert.DownCRefIdeal.nD Cert.DownCRefIdeal.τ).loc Cert.DownCRefIdeal.main_arg2) = m ((c.tc : Thread Cert.DownCRefIdeal.nD Cert.DownCRefIdeal.τ).loc Cert.DownCRefIdeal.main_arg2))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1)
      ∧ r.2.mem ((c.tc : Thread Cert.DxIn.nD Cert.DxIn.τ).loc Cert.DxIn.main_arg2) = m ((c.tc : Thread Cert.DxIn.nD Cert.DxIn.τ).loc Cert.DxIn.main_arg2)
      ∧ r.2.mem ((c.tc : Thread Cert.DxIn.nD Cert.DxIn.τ).loc Cert.DxIn.main_arg3) = m ((c.tc : Thread Cert.DxIn.nD Cert.DxIn.τ).loc Cert.DxIn.main_arg3)
      ∧ r.2.mem ((c.tc : Thread Cert.DxIn.nD Cert.DxIn.τ).loc Cert.DxIn.main_arg4) = m ((c.tc : Thread Cert.DxIn.nD Cert.DxIn.τ).loc Cert.DxIn.main_arg4))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
      ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
      ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
      ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4))
      ∧ r.2.sem = fun _ => 0)

def quiescent_DxInRefIdeal [hDxInRefIdeal : Cert.DxInRefIdeal.Facts] : Prop :=
  ∀ (m : (ℓ : Loc Cert.DxInRefIdeal.nD Cert.DxInRefIdeal.τ Cert.DxInRefIdeal.sig) → Buf (Elt Ideal) ℓ) (g : Dev Cert.DxInRefIdeal.nD → PrngReg), Pre_DxInRefIdeal m →
    θ_run (Cert.DxInRefIdeal.defs (F := Ideal)) (onTc (τ := Cert.DxInRefIdeal.τ) (Cert.DxInRefIdeal.main (F := Ideal))) ⟨m, fun _ => 0, g⟩ (fun r => (∀ c : Dev Cert.DxInRefIdeal.nD,
      r.2.mem ((c.tc : Thread Cert.DxInRefIdeal.nD Cert.DxInRefIdeal.τ).loc Cert.DxInRefIdeal.main_arg0) = m ((c.tc : Thread Cert.DxInRefIdeal.nD Cert.DxInRefIdeal.τ).loc Cert.DxInRefIdeal.main_arg0)
      ∧ r.2.mem ((c.tc : Thread Cert.DxInRefIdeal.nD Cert.DxInRefIdeal.τ).loc Cert.DxInRefIdeal.main_arg1) = m ((c.tc : Thread Cert.DxInRefIdeal.nD Cert.DxInRefIdeal.τ).loc Cert.DxInRefIdeal.main_arg1)
      ∧ r.2.mem ((c.tc : Thread Cert.DxInRefIdeal.nD Cert.DxInRefIdeal.τ).loc Cert.DxInRefIdeal.main_arg2) = m ((c.tc : Thread Cert.DxInRefIdeal.nD Cert.DxInRefIdeal.τ).loc Cert.DxInRefIdeal.main_arg2)
      ∧ r.2.mem ((c.tc : Thread Cert.DxInRefIdeal.nD Cert.DxInRefIdeal.τ).loc Cert.DxInRefIdeal.main_arg3) = m ((c.tc : Thread Cert.DxInRefIdeal.nD Cert.DxInRefIdeal.τ).loc Cert.DxInRefIdeal.main_arg3)
      ∧ r.2.mem ((c.tc : Thread Cert.DxInRefIdeal.nD Cert.DxInRefIdeal.τ).loc Cert.DxInRefIdeal.main_arg4) = m ((c.tc : Thread Cert.DxInRefIdeal.nD Cert.DxInRefIdeal.τ).loc Cert.DxInRefIdeal.main_arg4))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DxGate [hDxGate : Cert.DxGate.Facts] : Prop :=
  ∀ (m : (ℓ : Loc Cert.DxGate.nD Cert.DxGate.τ Cert.DxGate.sig) → Buf (Elt Bits) ℓ) (g : Dev Cert.DxGate.nD → PrngReg), Pre_DxGate m →
    θ_run (Cert.DxGate.defs (F := Bits)) (onTc (τ := Cert.DxGate.τ) (Cert.DxGate.main (F := Bits))) ⟨m, fun _ => 0, g⟩ (fun r => (∀ c : Dev Cert.DxGate.nD,
      r.2.mem ((c.tc : Thread Cert.DxGate.nD Cert.DxGate.τ).loc Cert.DxGate.main_arg0) = m ((c.tc : Thread Cert.DxGate.nD Cert.DxGate.τ).loc Cert.DxGate.main_arg0)
      ∧ r.2.mem ((c.tc : Thread Cert.DxGate.nD Cert.DxGate.τ).loc Cert.DxGate.main_arg1) = m ((c.tc : Thread Cert.DxGate.nD Cert.DxGate.τ).loc Cert.DxGate.main_arg1))
      ∧ r.2.sem = fun _ => 0)

def quiescent_DxGateIdeal [hDxGateIdeal : Cert.DxGateIdeal.Facts] : Prop :=
  ∀ (m : (ℓ : Loc Cert.DxGateIdeal.nD Cert.DxGateIdeal.τ Cert.DxGateIdeal.sig) → Buf (Elt Ideal) ℓ) (g : Dev Cert.DxGateIdeal.nD → PrngReg), Pre_DxGateIdeal m →
    θ_run (Cert.DxGateIdeal.defs (F := Ideal)) (onTc (τ := Cert.DxGateIdeal.τ) (Cert.DxGateIdeal.main (F := Ideal))) ⟨m, fun _ => 0, g⟩ (fun r => (∀ c : Dev Cert.DxGateIdeal.nD,
      r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
      ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1))
      ∧ r.2.sem = fun _ => 0)

def quiescent_DxGateRefIdeal [hDxGateRefIdeal : Cert.DxGateRefIdeal.Facts] : Prop :=
  ∀ (m : (ℓ : Loc Cert.DxGateRefIdeal.nD Cert.DxGateRefIdeal.τ Cert.DxGateRefIdeal.sig) → Buf (Elt Ideal) ℓ) (g : Dev Cert.DxGateRefIdeal.nD → PrngReg), Pre_DxGateRefIdeal m →
    θ_run (Cert.DxGateRefIdeal.defs (F := Ideal)) (onTc (τ := Cert.DxGateRefIdeal.τ) (Cert.DxGateRefIdeal.main (F := Ideal))) ⟨m, fun _ => 0, g⟩ (fun r => (∀ c : Dev Cert.DxGateRefIdeal.nD,
      r.2.mem ((c.tc : Thread Cert.DxGateRefIdeal.nD Cert.DxGateRefIdeal.τ).loc Cert.DxGateRefIdeal.main_arg0) = m ((c.tc : Thread Cert.DxGateRefIdeal.nD Cert.DxGateRefIdeal.τ).loc Cert.DxGateRefIdeal.main_arg0)
      ∧ r.2.mem ((c.tc : Thread Cert.DxGateRefIdeal.nD Cert.DxGateRefIdeal.τ).loc Cert.DxGateRefIdeal.main_arg1) = m ((c.tc : Thread Cert.DxGateRefIdeal.nD Cert.DxGateRefIdeal.τ).loc Cert.DxGateRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DxDown_DxDownIdeal : Prop :=
  True

def algebraic_DxDownIdeal_DxDownRefIdeal [hDxDownIdeal : Cert.DxDownIdeal.Facts] [hDxDownRefIdeal : Cert.DxDownRefIdeal.Facts] : Prop :=
  ∀ (m : (ℓ : Loc Cert.DxDownIdeal.nD Cert.DxDownIdeal.τ Cert.DxDownIdeal.sig) → Buf (Elt Ideal) ℓ) (g : Dev Cert.DxDownIdeal.nD → PrngReg)
    (m' : (ℓ : Loc Cert.DxDownRefIdeal.nD Cert.DxDownRefIdeal.τ Cert.DxDownRefIdeal.sig) → Buf (Elt Ideal) ℓ) (g' : Dev Cert.DxDownRefIdeal.nD → PrngReg), Pre_DxDownIdeal m →
    (∀ c : Dev Cert.DxDownIdeal.nD,
      m' ((c.tc : Thread Cert.DxDownRefIdeal.nD Cert.DxDownRefIdeal.τ).loc Cert.DxDownRefIdeal.main_arg0) = m ((c.tc : Thread Cert.DxDownIdeal.nD Cert.DxDownIdeal.τ).loc Cert.DxDownIdeal.main_arg0)
      ∧ m' ((c.tc : Thread Cert.DxDownRefIdeal.nD Cert.DxDownRefIdeal.τ).loc Cert.DxDownRefIdeal.main_arg1) = m ((c.tc : Thread Cert.DxDownIdeal.nD Cert.DxDownIdeal.τ).loc Cert.DxDownIdeal.main_arg1)
      ∧ m' ((c.tc : Thread Cert.DxDownRefIdeal.nD Cert.DxDownRefIdeal.τ).loc Cert.DxDownRefIdeal.main_arg2) = m ((c.tc : Thread Cert.DxDownIdeal.nD Cert.DxDownIdeal.τ).loc Cert.DxDownIdeal.main_arg2)) →
    ∃ (v0 : (c : Dev Cert.DxDownIdeal.nD) → Buf (Elt Ideal) ((c.tc : Thread Cert.DxDownIdeal.nD Cert.DxDownIdeal.τ).loc Cert.DxDownIdeal.main_v7)),
      θ_run (Cert.DxDownIdeal.defs (F := Ideal)) (onTc (τ := Cert.DxDownIdeal.τ) (Cert.DxDownIdeal.main (F := Ideal))) ⟨m, fun _ => 0, g⟩ (fun r => ∀ c : Dev Cert.DxDownIdeal.nD,
          r.2.mem ((c.tc : Thread Cert.DxDownIdeal.nD Cert.DxDownIdeal.τ).loc Cert.DxDownIdeal.main_v7) = v0 c
          ∧ r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
          ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1)
          ∧ r.2.mem ((c.tc : Thread Cert.DxDownIdeal.nD Cert.DxDownIdeal.τ).loc Cert.DxDownIdeal.main_arg2) = m ((c.tc : Thread Cert.DxDownIdeal.nD Cert.DxDownIdeal.τ).loc Cert.DxDownIdeal.main_arg2))
      ∧ θ_run (Cert.DxDownRefIdeal.defs (F := Ideal)) (onTc (τ := Cert.DxDownRefIdeal.τ) (Cert.DxDownRefIdeal.main (F := Ideal))) ⟨m', fun _ => 0, g'⟩ (fun r => ∀ c : Dev Cert.DxDownRefIdeal.nD,
          r.2.mem ((c.tc : Thread Cert.DxDownRefIdeal.nD Cert.DxDownRefIdeal.τ).loc Cert.DxDownRefIdeal.main_v14) = v0 c
          ∧ r.2.mem ((c.tc : Thread Cert.DxDownRefIdeal.nD Cert.DxDownRefIdeal.τ).loc Cert.DxDownRefIdeal.main_arg0) = m' ((c.tc : Thread Cert.DxDownRefIdeal.nD Cert.DxDownRefIdeal.τ).loc Cert.DxDownRefIdeal.main_arg0)
          ∧ r.2.mem ((c.tc : Thread Cert.DxDownRefIdeal.nD Cert.DxDownRefIdeal.τ).loc Cert.DxDownRefIdeal.main_arg1) = m' ((c.tc : Thread Cert.DxDownRefIdeal.nD Cert.DxDownRefIdeal.τ).loc Cert.DxDownRefIdeal.main_arg1)
          ∧ r.2.mem ((c.tc : Thread Cert.DxDownRefIdeal.nD Cert.DxDownRefIdeal.τ).loc Cert.DxDownRefIdeal.main_arg2) = m' ((c.tc : Thread Cert.DxDownRefIdeal.nD Cert.DxDownRefIdeal.τ).loc Cert.DxDownRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v11) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v12) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_DxUp_DxUpIdeal : Prop :=
  True

def algebraic_DxUpIdeal_DxUpRefIdeal [hDxUpIdeal : Cert.DxUpIdeal.Facts] [hDxUpRefIdeal : Cert.DxUpRefIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpRefIdeal.nD Cert.DxUpRefIdeal.τ Cert.DxUpRefIdeal.sig) → Buf (Elt Ideal) ℓ) (g' : Dev Cert.DxUpRefIdeal.nD → PrngReg), Pre_DxUpIdeal m →
    (∀ c : Dev Cert.DxUpIdeal.nD,
      m' ((c.tc : Thread Cert.DxUpRefIdeal.nD Cert.DxUpRefIdeal.τ).loc Cert.DxUpRefIdeal.main_arg0) = m ((c.tc : Thread Cert.DxUpIdeal.nD Cert.DxUpIdeal.τ).loc Cert.DxUpIdeal.main_arg0)
      ∧ m' ((c.tc : Thread Cert.DxUpRefIdeal.nD Cert.DxUpRefIdeal.τ).loc Cert.DxUpRefIdeal.main_arg1) = m ((c.tc : Thread Cert.DxUpIdeal.nD Cert.DxUpIdeal.τ).loc Cert.DxUpIdeal.main_arg1)
      ∧ m' ((c.tc : Thread Cert.DxUpRefIdeal.nD Cert.DxUpRefIdeal.τ).loc Cert.DxUpRefIdeal.main_arg2) = m ((c.tc : Thread Cert.DxUpIdeal.nD Cert.DxUpIdeal.τ).loc Cert.DxUpIdeal.main_arg2)
      ∧ m' ((c.tc : Thread Cert.DxUpRefIdeal.nD Cert.DxUpRefIdeal.τ).loc Cert.DxUpRefIdeal.main_arg3) = m ((c.tc : Thread Cert.DxUpIdeal.nD Cert.DxUpIdeal.τ).loc Cert.DxUpIdeal.main_arg3)
      ∧ m' ((c.tc : Thread Cert.DxUpRefIdeal.nD Cert.DxUpRefIdeal.τ).loc Cert.DxUpRefIdeal.main_arg4) = m ((c.tc : Thread Cert.DxUpIdeal.nD Cert.DxUpIdeal.τ).loc Cert.DxUpIdeal.main_arg4)) →
    ∃ (v0 : (c : Dev Cert.DxUpIdeal.nD) → Buf (Elt Ideal) ((c.tc : Thread Cert.DxUpIdeal.nD Cert.DxUpIdeal.τ).loc Cert.DxUpIdeal.main_v7_0)) (v1 : (c : Dev Cert.DxUpIdeal.nD) → Buf (Elt Ideal) ((c.tc : Thread Cert.DxUpIdeal.nD Cert.DxUpIdeal.τ).loc Cert.DxUpIdeal.main_v7_1)) (v2 : (c : Dev Cert.DxUpIdeal.nD) → Buf (Elt Ideal) ((c.tc : Thread Cert.DxUpIdeal.nD Cert.DxUpIdeal.τ).loc Cert.DxUpIdeal.main_v7_2)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v7_0) = v0 c
          ∧ r.2.mem ((c.tc : Thread Cert.DxUpIdeal.nD Cert.DxUpIdeal.τ).loc Cert.DxUpIdeal.main_v7_1) = v1 c
          ∧ r.2.mem ((c.tc : Thread Cert.DxUpIdeal.nD Cert.DxUpIdeal.τ).loc Cert.DxUpIdeal.main_v7_2) = v2 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
          ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
          ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3)
          ∧ r.2.mem ((c.tc : Thread Cert.DxUpIdeal.nD Cert.DxUpIdeal.τ).loc Cert.DxUpIdeal.main_arg4) = m ((c.tc : Thread Cert.DxUpIdeal.nD Cert.DxUpIdeal.τ).loc Cert.DxUpIdeal.main_arg4))
      ∧ θ_run (Cert.DxUpRefIdeal.defs (F := Ideal)) (onTc (τ := Cert.DxUpRefIdeal.τ) (Cert.DxUpRefIdeal.main (F := Ideal))) ⟨m', fun _ => 0, g'⟩ (fun r => ∀ c : Dev Cert.DxUpRefIdeal.nD,
          r.2.mem ((c.tc : Thread Cert.DxUpRefIdeal.nD Cert.DxUpRefIdeal.τ).loc Cert.DxUpRefIdeal.main_v39) = v0 c
          ∧ r.2.mem ((c.tc : Thread Cert.DxUpRefIdeal.nD Cert.DxUpRefIdeal.τ).loc Cert.DxUpRefIdeal.main_v40) = v1 c
          ∧ r.2.mem ((c.tc : Thread Cert.DxUpRefIdeal.nD Cert.DxUpRefIdeal.τ).loc Cert.DxUpRefIdeal.main_v41) = v2 c
          ∧ r.2.mem ((c.tc : Thread Cert.DxUpRefIdeal.nD Cert.DxUpRefIdeal.τ).loc Cert.DxUpRefIdeal.main_arg0) = m' ((c.tc : Thread Cert.DxUpRefIdeal.nD Cert.DxUpRefIdeal.τ).loc Cert.DxUpRefIdeal.main_arg0)
          ∧ r.2.mem ((c.tc : Thread Cert.DxUpRefIdeal.nD Cert.DxUpRefIdeal.τ).loc Cert.DxUpRefIdeal.main_arg1) = m' ((c.tc : Thread Cert.DxUpRefIdeal.nD Cert.DxUpRefIdeal.τ).loc Cert.DxUpRefIdeal.main_arg1)
          ∧ r.2.mem ((c.tc : Thread Cert.DxUpRefIdeal.nD Cert.DxUpRefIdeal.τ).loc Cert.DxUpRefIdeal.main_arg2) = m' ((c.tc : Thread Cert.DxUpRefIdeal.nD Cert.DxUpRefIdeal.τ).loc Cert.DxUpRefIdeal.main_arg2)
          ∧ r.2.mem ((c.tc : Thread Cert.DxUpRefIdeal.nD Cert.DxUpRefIdeal.τ).loc Cert.DxUpRefIdeal.main_arg3) = m' ((c.tc : Thread Cert.DxUpRefIdeal.nD Cert.DxUpRefIdeal.τ).loc Cert.DxUpRefIdeal.main_arg3)
          ∧ r.2.mem ((c.tc : Thread Cert.DxUpRefIdeal.nD Cert.DxUpRefIdeal.τ).loc Cert.DxUpRefIdeal.main_arg4) = m' ((c.tc : Thread Cert.DxUpRefIdeal.nD Cert.DxUpRefIdeal.τ).loc Cert.DxUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v7)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DxDownB_DxDownBIdeal : Prop :=
  True

def algebraic_DxDownBIdeal_DxDownBRefIdeal [hDxDownBIdeal : Cert.DxDownBIdeal.Facts] [hDxDownBRefIdeal : Cert.DxDownBRefIdeal.Facts] : Prop :=
  ∀ (m : (ℓ : Loc Cert.DxDownBIdeal.nD Cert.DxDownBIdeal.τ Cert.DxDownBIdeal.sig) → Buf (Elt Ideal) ℓ) (g : Dev Cert.DxDownBIdeal.nD → PrngReg)
    (m' : (ℓ : Loc Cert.DxDownBRefIdeal.nD Cert.DxDownBRefIdeal.τ Cert.DxDownBRefIdeal.sig) → Buf (Elt Ideal) ℓ) (g' : Dev Cert.DxDownBRefIdeal.nD → PrngReg), Pre_DxDownBIdeal m →
    (∀ c : Dev Cert.DxDownBIdeal.nD,
      m' ((c.tc : Thread Cert.DxDownBRefIdeal.nD Cert.DxDownBRefIdeal.τ).loc Cert.DxDownBRefIdeal.main_arg0) = m ((c.tc : Thread Cert.DxDownBIdeal.nD Cert.DxDownBIdeal.τ).loc Cert.DxDownBIdeal.main_arg0)
      ∧ m' ((c.tc : Thread Cert.DxDownBRefIdeal.nD Cert.DxDownBRefIdeal.τ).loc Cert.DxDownBRefIdeal.main_arg1) = m ((c.tc : Thread Cert.DxDownBIdeal.nD Cert.DxDownBIdeal.τ).loc Cert.DxDownBIdeal.main_arg1)
      ∧ m' ((c.tc : Thread Cert.DxDownBRefIdeal.nD Cert.DxDownBRefIdeal.τ).loc Cert.DxDownBRefIdeal.main_arg2) = m ((c.tc : Thread Cert.DxDownBIdeal.nD Cert.DxDownBIdeal.τ).loc Cert.DxDownBIdeal.main_arg2)) →
    ∃ (v0 : (c : Dev Cert.DxDownBIdeal.nD) → Buf (Elt Ideal) ((c.tc : Thread Cert.DxDownBIdeal.nD Cert.DxDownBIdeal.τ).loc Cert.DxDownBIdeal.main_v7)),
      θ_run (Cert.DxDownBIdeal.defs (F := Ideal)) (onTc (τ := Cert.DxDownBIdeal.τ) (Cert.DxDownBIdeal.main (F := Ideal))) ⟨m, fun _ => 0, g⟩ (fun r => ∀ c : Dev Cert.DxDownBIdeal.nD,
          r.2.mem ((c.tc : Thread Cert.DxDownBIdeal.nD Cert.DxDownBIdeal.τ).loc Cert.DxDownBIdeal.main_v7) = v0 c
          ∧ r.2.mem ((c.tc : Thread Cert.DxDownBIdeal.nD Cert.DxDownBIdeal.τ).loc Cert.DxDownBIdeal.main_arg0) = m ((c.tc : Thread Cert.DxDownBIdeal.nD Cert.DxDownBIdeal.τ).loc Cert.DxDownBIdeal.main_arg0)
          ∧ r.2.mem ((c.tc : Thread Cert.DxDownBIdeal.nD Cert.DxDownBIdeal.τ).loc Cert.DxDownBIdeal.main_arg1) = m ((c.tc : Thread Cert.DxDownBIdeal.nD Cert.DxDownBIdeal.τ).loc Cert.DxDownBIdeal.main_arg1)
          ∧ r.2.mem ((c.tc : Thread Cert.DxDownBIdeal.nD Cert.DxDownBIdeal.τ).loc Cert.DxDownBIdeal.main_arg2) = m ((c.tc : Thread Cert.DxDownBIdeal.nD Cert.DxDownBIdeal.τ).loc Cert.DxDownBIdeal.main_arg2))
      ∧ θ_run (Cert.DxDownBRefIdeal.defs (F := Ideal)) (onTc (τ := Cert.DxDownBRefIdeal.τ) (Cert.DxDownBRefIdeal.main (F := Ideal))) ⟨m', fun _ => 0, g'⟩ (fun r => ∀ c : Dev Cert.DxDownBRefIdeal.nD,
          r.2.mem ((c.tc : Thread Cert.DxDownBRefIdeal.nD Cert.DxDownBRefIdeal.τ).loc Cert.DxDownBRefIdeal.main_v14) = v0 c
          ∧ r.2.mem ((c.tc : Thread Cert.DxDownBRefIdeal.nD Cert.DxDownBRefIdeal.τ).loc Cert.DxDownBRefIdeal.main_arg0) = m' ((c.tc : Thread Cert.DxDownBRefIdeal.nD Cert.DxDownBRefIdeal.τ).loc Cert.DxDownBRefIdeal.main_arg0)
          ∧ r.2.mem ((c.tc : Thread Cert.DxDownBRefIdeal.nD Cert.DxDownBRefIdeal.τ).loc Cert.DxDownBRefIdeal.main_arg1) = m' ((c.tc : Thread Cert.DxDownBRefIdeal.nD Cert.DxDownBRefIdeal.τ).loc Cert.DxDownBRefIdeal.main_arg1)
          ∧ r.2.mem ((c.tc : Thread Cert.DxDownBRefIdeal.nD Cert.DxDownBRefIdeal.τ).loc Cert.DxDownBRefIdeal.main_arg2) = m' ((c.tc : Thread Cert.DxDownBRefIdeal.nD Cert.DxDownBRefIdeal.τ).loc Cert.DxDownBRefIdeal.main_arg2))

def preserves_DwUpB_DwUpBIdeal : Prop :=
  True

def algebraic_DwUpBIdeal_DwUpBRefIdeal [hDwUpBIdeal : Cert.DwUpBIdeal.Facts] [hDwUpBRefIdeal : Cert.DwUpBRefIdeal.Facts] : Prop :=
  ∀ (m : (ℓ : Loc Cert.DwUpBIdeal.nD Cert.DwUpBIdeal.τ Cert.DwUpBIdeal.sig) → Buf (Elt Ideal) ℓ) (g : Dev Cert.DwUpBIdeal.nD → PrngReg)
    (m' : (ℓ : Loc Cert.DwUpBRefIdeal.nD Cert.DwUpBRefIdeal.τ Cert.DwUpBRefIdeal.sig) → Buf (Elt Ideal) ℓ) (g' : Dev Cert.DwUpBRefIdeal.nD → PrngReg), Pre_DwUpBIdeal m →
    (∀ c : Dev Cert.DwUpBIdeal.nD,
      m' ((c.tc : Thread Cert.DwUpBRefIdeal.nD Cert.DwUpBRefIdeal.τ).loc Cert.DwUpBRefIdeal.main_arg0) = m ((c.tc : Thread Cert.DwUpBIdeal.nD Cert.DwUpBIdeal.τ).loc Cert.DwUpBIdeal.main_arg0)
      ∧ m' ((c.tc : Thread Cert.DwUpBRefIdeal.nD Cert.DwUpBRefIdeal.τ).loc Cert.DwUpBRefIdeal.main_arg1) = m ((c.tc : Thread Cert.DwUpBIdeal.nD Cert.DwUpBIdeal.τ).loc Cert.DwUpBIdeal.main_arg1)
      ∧ m' ((c.tc : Thread Cert.DwUpBRefIdeal.nD Cert.DwUpBRefIdeal.τ).loc Cert.DwUpBRefIdeal.main_arg2) = m ((c.tc : Thread Cert.DwUpBIdeal.nD Cert.DwUpBIdeal.τ).loc Cert.DwUpBIdeal.main_arg2)) →
    ∃ (v0 : (c : Dev Cert.DwUpBIdeal.nD) → Buf (Elt Ideal) ((c.tc : Thread Cert.DwUpBIdeal.nD Cert.DwUpBIdeal.τ).loc Cert.DwUpBIdeal.main_v0)),
      θ_run (Cert.DwUpBIdeal.defs (F := Ideal)) (onTc (τ := Cert.DwUpBIdeal.τ) (Cert.DwUpBIdeal.main (F := Ideal))) ⟨m, fun _ => 0, g⟩ (fun r => ∀ c : Dev Cert.DwUpBIdeal.nD,
          r.2.mem ((c.tc : Thread Cert.DwUpBIdeal.nD Cert.DwUpBIdeal.τ).loc Cert.DwUpBIdeal.main_v0) = v0 c
          ∧ r.2.mem ((c.tc : Thread Cert.DwUpBIdeal.nD Cert.DwUpBIdeal.τ).loc Cert.DwUpBIdeal.main_arg0) = m ((c.tc : Thread Cert.DwUpBIdeal.nD Cert.DwUpBIdeal.τ).loc Cert.DwUpBIdeal.main_arg0)
          ∧ r.2.mem ((c.tc : Thread Cert.DwUpBIdeal.nD Cert.DwUpBIdeal.τ).loc Cert.DwUpBIdeal.main_arg1) = m ((c.tc : Thread Cert.DwUpBIdeal.nD Cert.DwUpBIdeal.τ).loc Cert.DwUpBIdeal.main_arg1)
          ∧ r.2.mem ((c.tc : Thread Cert.DwUpBIdeal.nD Cert.DwUpBIdeal.τ).loc Cert.DwUpBIdeal.main_arg2) = m ((c.tc : Thread Cert.DwUpBIdeal.nD Cert.DwUpBIdeal.τ).loc Cert.DwUpBIdeal.main_arg2))
      ∧ θ_run (Cert.DwUpBRefIdeal.defs (F := Ideal)) (onTc (τ := Cert.DwUpBRefIdeal.τ) (Cert.DwUpBRefIdeal.main (F := Ideal))) ⟨m', fun _ => 0, g'⟩ (fun r => ∀ c : Dev Cert.DwUpBRefIdeal.nD,
          r.2.mem ((c.tc : Thread Cert.DwUpBRefIdeal.nD Cert.DwUpBRefIdeal.τ).loc Cert.DwUpBRefIdeal.main_v11) = v0 c
          ∧ r.2.mem ((c.tc : Thread Cert.DwUpBRefIdeal.nD Cert.DwUpBRefIdeal.τ).loc Cert.DwUpBRefIdeal.main_arg0) = m' ((c.tc : Thread Cert.DwUpBRefIdeal.nD Cert.DwUpBRefIdeal.τ).loc Cert.DwUpBRefIdeal.main_arg0)
          ∧ r.2.mem ((c.tc : Thread Cert.DwUpBRefIdeal.nD Cert.DwUpBRefIdeal.τ).loc Cert.DwUpBRefIdeal.main_arg1) = m' ((c.tc : Thread Cert.DwUpBRefIdeal.nD Cert.DwUpBRefIdeal.τ).loc Cert.DwUpBRefIdeal.main_arg1)
          ∧ r.2.mem ((c.tc : Thread Cert.DwUpBRefIdeal.nD Cert.DwUpBRefIdeal.τ).loc Cert.DwUpBRefIdeal.main_arg2) = m' ((c.tc : Thread Cert.DwUpBRefIdeal.nD Cert.DwUpBRefIdeal.τ).loc Cert.DwUpBRefIdeal.main_arg2))

def preserves_DwDownB_DwDownBIdeal : Prop :=
  True

def algebraic_DwDownBIdeal_DwDownBRefIdeal [hDwDownBIdeal : Cert.DwDownBIdeal.Facts] [hDwDownBRefIdeal : Cert.DwDownBRefIdeal.Facts] : Prop :=
  ∀ (m : (ℓ : Loc Cert.DwDownBIdeal.nD Cert.DwDownBIdeal.τ Cert.DwDownBIdeal.sig) → Buf (Elt Ideal) ℓ) (g : Dev Cert.DwDownBIdeal.nD → PrngReg)
    (m' : (ℓ : Loc Cert.DwDownBRefIdeal.nD Cert.DwDownBRefIdeal.τ Cert.DwDownBRefIdeal.sig) → Buf (Elt Ideal) ℓ) (g' : Dev Cert.DwDownBRefIdeal.nD → PrngReg), Pre_DwDownBIdeal m →
    (∀ c : Dev Cert.DwDownBIdeal.nD,
      m' ((c.tc : Thread Cert.DwDownBRefIdeal.nD Cert.DwDownBRefIdeal.τ).loc Cert.DwDownBRefIdeal.main_arg0) = m ((c.tc : Thread Cert.DwDownBIdeal.nD Cert.DwDownBIdeal.τ).loc Cert.DwDownBIdeal.main_arg0)
      ∧ m' ((c.tc : Thread Cert.DwDownBRefIdeal.nD Cert.DwDownBRefIdeal.τ).loc Cert.DwDownBRefIdeal.main_arg1) = m ((c.tc : Thread Cert.DwDownBIdeal.nD Cert.DwDownBIdeal.τ).loc Cert.DwDownBIdeal.main_arg1)
      ∧ m' ((c.tc : Thread Cert.DwDownBRefIdeal.nD Cert.DwDownBRefIdeal.τ).loc Cert.DwDownBRefIdeal.main_arg2) = m ((c.tc : Thread Cert.DwDownBIdeal.nD Cert.DwDownBIdeal.τ).loc Cert.DwDownBIdeal.main_arg2)) →
    ∃ (v0 : (c : Dev Cert.DwDownBIdeal.nD) → Buf (Elt Ideal) ((c.tc : Thread Cert.DwDownBIdeal.nD Cert.DwDownBIdeal.τ).loc Cert.DwDownBIdeal.main_v0)),
      θ_run (Cert.DwDownBIdeal.defs (F := Ideal)) (onTc (τ := Cert.DwDownBIdeal.τ) (Cert.DwDownBIdeal.main (F := Ideal))) ⟨m, fun _ => 0, g⟩ (fun r => ∀ c : Dev Cert.DwDownBIdeal.nD,
          r.2.mem ((c.tc : Thread Cert.DwDownBIdeal.nD Cert.DwDownBIdeal.τ).loc Cert.DwDownBIdeal.main_v0) = v0 c
          ∧ r.2.mem ((c.tc : Thread Cert.DwDownBIdeal.nD Cert.DwDownBIdeal.τ).loc Cert.DwDownBIdeal.main_arg0) = m ((c.tc : Thread Cert.DwDownBIdeal.nD Cert.DwDownBIdeal.τ).loc Cert.DwDownBIdeal.main_arg0)
          ∧ r.2.mem ((c.tc : Thread Cert.DwDownBIdeal.nD Cert.DwDownBIdeal.τ).loc Cert.DwDownBIdeal.main_arg1) = m ((c.tc : Thread Cert.DwDownBIdeal.nD Cert.DwDownBIdeal.τ).loc Cert.DwDownBIdeal.main_arg1)
          ∧ r.2.mem ((c.tc : Thread Cert.DwDownBIdeal.nD Cert.DwDownBIdeal.τ).loc Cert.DwDownBIdeal.main_arg2) = m ((c.tc : Thread Cert.DwDownBIdeal.nD Cert.DwDownBIdeal.τ).loc Cert.DwDownBIdeal.main_arg2))
      ∧ θ_run (Cert.DwDownBRefIdeal.defs (F := Ideal)) (onTc (τ := Cert.DwDownBRefIdeal.τ) (Cert.DwDownBRefIdeal.main (F := Ideal))) ⟨m', fun _ => 0, g'⟩ (fun r => ∀ c : Dev Cert.DwDownBRefIdeal.nD,
          r.2.mem ((c.tc : Thread Cert.DwDownBRefIdeal.nD Cert.DwDownBRefIdeal.τ).loc Cert.DwDownBRefIdeal.main_v12) = v0 c
          ∧ r.2.mem ((c.tc : Thread Cert.DwDownBRefIdeal.nD Cert.DwDownBRefIdeal.τ).loc Cert.DwDownBRefIdeal.main_arg0) = m' ((c.tc : Thread Cert.DwDownBRefIdeal.nD Cert.DwDownBRefIdeal.τ).loc Cert.DwDownBRefIdeal.main_arg0)
          ∧ r.2.mem ((c.tc : Thread Cert.DwDownBRefIdeal.nD Cert.DwDownBRefIdeal.τ).loc Cert.DwDownBRefIdeal.main_arg1) = m' ((c.tc : Thread Cert.DwDownBRefIdeal.nD Cert.DwDownBRefIdeal.τ).loc Cert.DwDownBRefIdeal.main_arg1)
          ∧ r.2.mem ((c.tc : Thread Cert.DwDownBRefIdeal.nD Cert.DwDownBRefIdeal.τ).loc Cert.DwDownBRefIdeal.main_arg2) = m' ((c.tc : Thread Cert.DwDownBRefIdeal.nD Cert.DwDownBRefIdeal.τ).loc Cert.DwDownBRefIdeal.main_arg2))

def preserves_DxUpB_DxUpBIdeal : Prop :=
  True

def algebraic_DxUpBIdeal_DxUpBRefIdeal [hDxUpBIdeal : Cert.DxUpBIdeal.Facts] [hDxUpBRefIdeal : Cert.DxUpBRefIdeal.Facts] : Prop :=
  ∀ (m : (ℓ : Loc Cert.DxUpBIdeal.nD Cert.DxUpBIdeal.τ Cert.DxUpBIdeal.sig) → Buf (Elt Ideal) ℓ) (g : Dev Cert.DxUpBIdeal.nD → PrngReg)
    (m' : (ℓ : Loc Cert.DxUpBRefIdeal.nD Cert.DxUpBRefIdeal.τ Cert.DxUpBRefIdeal.sig) → Buf (Elt Ideal) ℓ) (g' : Dev Cert.DxUpBRefIdeal.nD → PrngReg), Pre_DxUpBIdeal m →
    (∀ c : Dev Cert.DxUpBIdeal.nD,
      m' ((c.tc : Thread Cert.DxUpBRefIdeal.nD Cert.DxUpBRefIdeal.τ).loc Cert.DxUpBRefIdeal.main_arg0) = m ((c.tc : Thread Cert.DxUpBIdeal.nD Cert.DxUpBIdeal.τ).loc Cert.DxUpBIdeal.main_arg0)
      ∧ m' ((c.tc : Thread Cert.DxUpBRefIdeal.nD Cert.DxUpBRefIdeal.τ).loc Cert.DxUpBRefIdeal.main_arg1) = m ((c.tc : Thread Cert.DxUpBIdeal.nD Cert.DxUpBIdeal.τ).loc Cert.DxUpBIdeal.main_arg1)
      ∧ m' ((c.tc : Thread Cert.DxUpBRefIdeal.nD Cert.DxUpBRefIdeal.τ).loc Cert.DxUpBRefIdeal.main_arg2) = m ((c.tc : Thread Cert.DxUpBIdeal.nD Cert.DxUpBIdeal.τ).loc Cert.DxUpBIdeal.main_arg2)
      ∧ m' ((c.tc : Thread Cert.DxUpBRefIdeal.nD Cert.DxUpBRefIdeal.τ).loc Cert.DxUpBRefIdeal.main_arg3) = m ((c.tc : Thread Cert.DxUpBIdeal.nD Cert.DxUpBIdeal.τ).loc Cert.DxUpBIdeal.main_arg3)
      ∧ m' ((c.tc : Thread Cert.DxUpBRefIdeal.nD Cert.DxUpBRefIdeal.τ).loc Cert.DxUpBRefIdeal.main_arg4) = m ((c.tc : Thread Cert.DxUpBIdeal.nD Cert.DxUpBIdeal.τ).loc Cert.DxUpBIdeal.main_arg4)) →
    ∃ (v0 : (c : Dev Cert.DxUpBIdeal.nD) → Buf (Elt Ideal) ((c.tc : Thread Cert.DxUpBIdeal.nD Cert.DxUpBIdeal.τ).loc Cert.DxUpBIdeal.main_v7_0)) (v1 : (c : Dev Cert.DxUpBIdeal.nD) → Buf (Elt Ideal) ((c.tc : Thread Cert.DxUpBIdeal.nD Cert.DxUpBIdeal.τ).loc Cert.DxUpBIdeal.main_v7_1)) (v2 : (c : Dev Cert.DxUpBIdeal.nD) → Buf (Elt Ideal) ((c.tc : Thread Cert.DxUpBIdeal.nD Cert.DxUpBIdeal.τ).loc Cert.DxUpBIdeal.main_v7_2)),
      θ_run (Cert.DxUpBIdeal.defs (F := Ideal)) (onTc (τ := Cert.DxUpBIdeal.τ) (Cert.DxUpBIdeal.main (F := Ideal))) ⟨m, fun _ => 0, g⟩ (fun r => ∀ c : Dev Cert.DxUpBIdeal.nD,
          r.2.mem ((c.tc : Thread Cert.DxUpBIdeal.nD Cert.DxUpBIdeal.τ).loc Cert.DxUpBIdeal.main_v7_0) = v0 c
          ∧ r.2.mem ((c.tc : Thread Cert.DxUpBIdeal.nD Cert.DxUpBIdeal.τ).loc Cert.DxUpBIdeal.main_v7_1) = v1 c
          ∧ r.2.mem ((c.tc : Thread Cert.DxUpBIdeal.nD Cert.DxUpBIdeal.τ).loc Cert.DxUpBIdeal.main_v7_2) = v2 c
          ∧ r.2.mem ((c.tc : Thread Cert.DxUpBIdeal.nD Cert.DxUpBIdeal.τ).loc Cert.DxUpBIdeal.main_arg0) = m ((c.tc : Thread Cert.DxUpBIdeal.nD Cert.DxUpBIdeal.τ).loc Cert.DxUpBIdeal.main_arg0)
          ∧ r.2.mem ((c.tc : Thread Cert.DxUpBIdeal.nD Cert.DxUpBIdeal.τ).loc Cert.DxUpBIdeal.main_arg1) = m ((c.tc : Thread Cert.DxUpBIdeal.nD Cert.DxUpBIdeal.τ).loc Cert.DxUpBIdeal.main_arg1)
          ∧ r.2.mem ((c.tc : Thread Cert.DxUpBIdeal.nD Cert.DxUpBIdeal.τ).loc Cert.DxUpBIdeal.main_arg2) = m ((c.tc : Thread Cert.DxUpBIdeal.nD Cert.DxUpBIdeal.τ).loc Cert.DxUpBIdeal.main_arg2)
          ∧ r.2.mem ((c.tc : Thread Cert.DxUpBIdeal.nD Cert.DxUpBIdeal.τ).loc Cert.DxUpBIdeal.main_arg3) = m ((c.tc : Thread Cert.DxUpBIdeal.nD Cert.DxUpBIdeal.τ).loc Cert.DxUpBIdeal.main_arg3)
          ∧ r.2.mem ((c.tc : Thread Cert.DxUpBIdeal.nD Cert.DxUpBIdeal.τ).loc Cert.DxUpBIdeal.main_arg4) = m ((c.tc : Thread Cert.DxUpBIdeal.nD Cert.DxUpBIdeal.τ).loc Cert.DxUpBIdeal.main_arg4))
      ∧ θ_run (Cert.DxUpBRefIdeal.defs (F := Ideal)) (onTc (τ := Cert.DxUpBRefIdeal.τ) (Cert.DxUpBRefIdeal.main (F := Ideal))) ⟨m', fun _ => 0, g'⟩ (fun r => ∀ c : Dev Cert.DxUpBRefIdeal.nD,
          r.2.mem ((c.tc : Thread Cert.DxUpBRefIdeal.nD Cert.DxUpBRefIdeal.τ).loc Cert.DxUpBRefIdeal.main_v39) = v0 c
          ∧ r.2.mem ((c.tc : Thread Cert.DxUpBRefIdeal.nD Cert.DxUpBRefIdeal.τ).loc Cert.DxUpBRefIdeal.main_v40) = v1 c
          ∧ r.2.mem ((c.tc : Thread Cert.DxUpBRefIdeal.nD Cert.DxUpBRefIdeal.τ).loc Cert.DxUpBRefIdeal.main_v41) = v2 c
          ∧ r.2.mem ((c.tc : Thread Cert.DxUpBRefIdeal.nD Cert.DxUpBRefIdeal.τ).loc Cert.DxUpBRefIdeal.main_arg0) = m' ((c.tc : Thread Cert.DxUpBRefIdeal.nD Cert.DxUpBRefIdeal.τ).loc Cert.DxUpBRefIdeal.main_arg0)
          ∧ r.2.mem ((c.tc : Thread Cert.DxUpBRefIdeal.nD Cert.DxUpBRefIdeal.τ).loc Cert.DxUpBRefIdeal.main_arg1) = m' ((c.tc : Thread Cert.DxUpBRefIdeal.nD Cert.DxUpBRefIdeal.τ).loc Cert.DxUpBRefIdeal.main_arg1)
          ∧ r.2.mem ((c.tc : Thread Cert.DxUpBRefIdeal.nD Cert.DxUpBRefIdeal.τ).loc Cert.DxUpBRefIdeal.main_arg2) = m' ((c.tc : Thread Cert.DxUpBRefIdeal.nD Cert.DxUpBRefIdeal.τ).loc Cert.DxUpBRefIdeal.main_arg2)
          ∧ r.2.mem ((c.tc : Thread Cert.DxUpBRefIdeal.nD Cert.DxUpBRefIdeal.τ).loc Cert.DxUpBRefIdeal.main_arg3) = m' ((c.tc : Thread Cert.DxUpBRefIdeal.nD Cert.DxUpBRefIdeal.τ).loc Cert.DxUpBRefIdeal.main_arg3)
          ∧ r.2.mem ((c.tc : Thread Cert.DxUpBRefIdeal.nD Cert.DxUpBRefIdeal.τ).loc Cert.DxUpBRefIdeal.main_arg4) = m' ((c.tc : Thread Cert.DxUpBRefIdeal.nD Cert.DxUpBRefIdeal.τ).loc Cert.DxUpBRefIdeal.main_arg4))

def preserves_DownB_DownBIdeal : Prop :=
  True

def algebraic_DownBIdeal_DownBRefIdeal [hDownBIdeal : Cert.DownBIdeal.Facts] [hDownBRefIdeal : Cert.DownBRefIdeal.Facts] : Prop :=
  ∀ (m : (ℓ : Loc Cert.DownBIdeal.nD Cert.DownBIdeal.τ Cert.DownBIdeal.sig) → Buf (Elt Ideal) ℓ) (g : Dev Cert.DownBIdeal.nD → PrngReg)
    (m' : (ℓ : Loc Cert.DownBRefIdeal.nD Cert.DownBRefIdeal.τ Cert.DownBRefIdeal.sig) → Buf (Elt Ideal) ℓ) (g' : Dev Cert.DownBRefIdeal.nD → PrngReg), Pre_DownBIdeal m →
    (∀ c : Dev Cert.DownBIdeal.nD,
      m' ((c.tc : Thread Cert.DownBRefIdeal.nD Cert.DownBRefIdeal.τ).loc Cert.DownBRefIdeal.main_arg0) = m ((c.tc : Thread Cert.DownBIdeal.nD Cert.DownBIdeal.τ).loc Cert.DownBIdeal.main_arg0)
      ∧ m' ((c.tc : Thread Cert.DownBRefIdeal.nD Cert.DownBRefIdeal.τ).loc Cert.DownBRefIdeal.main_arg1) = m ((c.tc : Thread Cert.DownBIdeal.nD Cert.DownBIdeal.τ).loc Cert.DownBIdeal.main_arg1)
      ∧ m' ((c.tc : Thread Cert.DownBRefIdeal.nD Cert.DownBRefIdeal.τ).loc Cert.DownBRefIdeal.main_arg2) = m ((c.tc : Thread Cert.DownBIdeal.nD Cert.DownBIdeal.τ).loc Cert.DownBIdeal.main_arg2)) →
    ∃ (v0 : (c : Dev Cert.DownBIdeal.nD) → Buf (Elt Ideal) ((c.tc : Thread Cert.DownBIdeal.nD Cert.DownBIdeal.τ).loc Cert.DownBIdeal.main_v7)),
      θ_run (Cert.DownBIdeal.defs (F := Ideal)) (onTc (τ := Cert.DownBIdeal.τ) (Cert.DownBIdeal.main (F := Ideal))) ⟨m, fun _ => 0, g⟩ (fun r => ∀ c : Dev Cert.DownBIdeal.nD,
          r.2.mem ((c.tc : Thread Cert.DownBIdeal.nD Cert.DownBIdeal.τ).loc Cert.DownBIdeal.main_v7) = v0 c
          ∧ r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
          ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1)
          ∧ r.2.mem ((c.tc : Thread Cert.DownBIdeal.nD Cert.DownBIdeal.τ).loc Cert.DownBIdeal.main_arg2) = m ((c.tc : Thread Cert.DownBIdeal.nD Cert.DownBIdeal.τ).loc Cert.DownBIdeal.main_arg2))
      ∧ θ_run (Cert.DownBRefIdeal.defs (F := Ideal)) (onTc (τ := Cert.DownBRefIdeal.τ) (Cert.DownBRefIdeal.main (F := Ideal))) ⟨m', fun _ => 0, g'⟩ (fun r => ∀ c : Dev Cert.DownBRefIdeal.nD,
          r.2.mem ((c.tc : Thread Cert.DownBRefIdeal.nD Cert.DownBRefIdeal.τ).loc Cert.DownBRefIdeal.main_v2) = v0 c
          ∧ r.2.mem ((c.tc : Thread Cert.DownBRefIdeal.nD Cert.DownBRefIdeal.τ).loc Cert.DownBRefIdeal.main_arg0) = m' ((c.tc : Thread Cert.DownBRefIdeal.nD Cert.DownBRefIdeal.τ).loc Cert.DownBRefIdeal.main_arg0)
          ∧ r.2.mem ((c.tc : Thread Cert.DownBRefIdeal.nD Cert.DownBRefIdeal.τ).loc Cert.DownBRefIdeal.main_arg1) = m' ((c.tc : Thread Cert.DownBRefIdeal.nD Cert.DownBRefIdeal.τ).loc Cert.DownBRefIdeal.main_arg1)
          ∧ r.2.mem ((c.tc : Thread Cert.DownBRefIdeal.nD Cert.DownBRefIdeal.τ).loc Cert.DownBRefIdeal.main_arg2) = m' ((c.tc : Thread Cert.DownBRefIdeal.nD Cert.DownBRefIdeal.τ).loc Cert.DownBRefIdeal.main_arg2))

def preserves_DxDownC_DxDownCIdeal : Prop :=
  True

def algebraic_DxDownCIdeal_DxDownCRefIdeal [hDxDownCIdeal : Cert.DxDownCIdeal.Facts] [hDxDownCRefIdeal : Cert.DxDownCRefIdeal.Facts] : Prop :=
  ∀ (m : (ℓ : Loc Cert.DxDownCIdeal.nD Cert.DxDownCIdeal.τ Cert.DxDownCIdeal.sig) → Buf (Elt Ideal) ℓ) (g : Dev Cert.DxDownCIdeal.nD → PrngReg)
    (m' : (ℓ : Loc Cert.DxDownCRefIdeal.nD Cert.DxDownCRefIdeal.τ Cert.DxDownCRefIdeal.sig) → Buf (Elt Ideal) ℓ) (g' : Dev Cert.DxDownCRefIdeal.nD → PrngReg), Pre_DxDownCIdeal m →
    (∀ c : Dev Cert.DxDownCIdeal.nD,
      m' ((c.tc : Thread Cert.DxDownCRefIdeal.nD Cert.DxDownCRefIdeal.τ).loc Cert.DxDownCRefIdeal.main_arg0) = m ((c.tc : Thread Cert.DxDownCIdeal.nD Cert.DxDownCIdeal.τ).loc Cert.DxDownCIdeal.main_arg0)
      ∧ m' ((c.tc : Thread Cert.DxDownCRefIdeal.nD Cert.DxDownCRefIdeal.τ).loc Cert.DxDownCRefIdeal.main_arg1) = m ((c.tc : Thread Cert.DxDownCIdeal.nD Cert.DxDownCIdeal.τ).loc Cert.DxDownCIdeal.main_arg1)
      ∧ m' ((c.tc : Thread Cert.DxDownCRefIdeal.nD Cert.DxDownCRefIdeal.τ).loc Cert.DxDownCRefIdeal.main_arg2) = m ((c.tc : Thread Cert.DxDownCIdeal.nD Cert.DxDownCIdeal.τ).loc Cert.DxDownCIdeal.main_arg2)) →
    ∃ (v0 : (c : Dev Cert.DxDownCIdeal.nD) → Buf (Elt Ideal) ((c.tc : Thread Cert.DxDownCIdeal.nD Cert.DxDownCIdeal.τ).loc Cert.DxDownCIdeal.main_v7)),
      θ_run (Cert.DxDownCIdeal.defs (F := Ideal)) (onTc (τ := Cert.DxDownCIdeal.τ) (Cert.DxDownCIdeal.main (F := Ideal))) ⟨m, fun _ => 0, g⟩ (fun r => ∀ c : Dev Cert.DxDownCIdeal.nD,
          r.2.mem ((c.tc : Thread Cert.DxDownCIdeal.nD Cert.DxDownCIdeal.τ).loc Cert.DxDownCIdeal.main_v7) = v0 c
          ∧ r.2.mem ((c.tc : Thread Cert.DxDownCIdeal.nD Cert.DxDownCIdeal.τ).loc Cert.DxDownCIdeal.main_arg0) = m ((c.tc : Thread Cert.DxDownCIdeal.nD Cert.DxDownCIdeal.τ).loc Cert.DxDownCIdeal.main_arg0)
          ∧ r.2.mem ((c.tc : Thread Cert.DxDownCIdeal.nD Cert.DxDownCIdeal.τ).loc Cert.DxDownCIdeal.main_arg1) = m ((c.tc : Thread Cert.DxDownCIdeal.nD Cert.DxDownCIdeal.τ).loc Cert.DxDownCIdeal.main_arg1)
          ∧ r.2.mem ((c.tc : Thread Cert.DxDownCIdeal.nD Cert.DxDownCIdeal.τ).loc Cert.DxDownCIdeal.main_arg2) = m ((c.tc : Thread Cert.DxDownCIdeal.nD Cert.DxDownCIdeal.τ).loc Cert.DxDownCIdeal.main_arg2))
      ∧ θ_run (Cert.DxDownCRefIdeal.defs (F := Ideal)) (onTc (τ := Cert.DxDownCRefIdeal.τ) (Cert.DxDownCRefIdeal.main (F := Ideal))) ⟨m', fun _ => 0, g'⟩ (fun r => ∀ c : Dev Cert.DxDownCRefIdeal.nD,
          r.2.mem ((c.tc : Thread Cert.DxDownCRefIdeal.nD Cert.DxDownCRefIdeal.τ).loc Cert.DxDownCRefIdeal.main_v14) = v0 c
          ∧ r.2.mem ((c.tc : Thread Cert.DxDownCRefIdeal.nD Cert.DxDownCRefIdeal.τ).loc Cert.DxDownCRefIdeal.main_arg0) = m' ((c.tc : Thread Cert.DxDownCRefIdeal.nD Cert.DxDownCRefIdeal.τ).loc Cert.DxDownCRefIdeal.main_arg0)
          ∧ r.2.mem ((c.tc : Thread Cert.DxDownCRefIdeal.nD Cert.DxDownCRefIdeal.τ).loc Cert.DxDownCRefIdeal.main_arg1) = m' ((c.tc : Thread Cert.DxDownCRefIdeal.nD Cert.DxDownCRefIdeal.τ).loc Cert.DxDownCRefIdeal.main_arg1)
          ∧ r.2.mem ((c.tc : Thread Cert.DxDownCRefIdeal.nD Cert.DxDownCRefIdeal.τ).loc Cert.DxDownCRefIdeal.main_arg2) = m' ((c.tc : Thread Cert.DxDownCRefIdeal.nD Cert.DxDownCRefIdeal.τ).loc Cert.DxDownCRefIdeal.main_arg2))

def preserves_DwUpC_DwUpCIdeal : Prop :=
  True

def algebraic_DwUpCIdeal_DwUpCRefIdeal [hDwUpCIdeal : Cert.DwUpCIdeal.Facts] [hDwUpCRefIdeal : Cert.DwUpCRefIdeal.Facts] : Prop :=
  ∀ (m : (ℓ : Loc Cert.DwUpCIdeal.nD Cert.DwUpCIdeal.τ Cert.DwUpCIdeal.sig) → Buf (Elt Ideal) ℓ) (g : Dev Cert.DwUpCIdeal.nD → PrngReg)
    (m' : (ℓ : Loc Cert.DwUpCRefIdeal.nD Cert.DwUpCRefIdeal.τ Cert.DwUpCRefIdeal.sig) → Buf (Elt Ideal) ℓ) (g' : Dev Cert.DwUpCRefIdeal.nD → PrngReg), Pre_DwUpCIdeal m →
    (∀ c : Dev Cert.DwUpCIdeal.nD,
      m' ((c.tc : Thread Cert.DwUpCRefIdeal.nD Cert.DwUpCRefIdeal.τ).loc Cert.DwUpCRefIdeal.main_arg0) = m ((c.tc : Thread Cert.DwUpCIdeal.nD Cert.DwUpCIdeal.τ).loc Cert.DwUpCIdeal.main_arg0)
      ∧ m' ((c.tc : Thread Cert.DwUpCRefIdeal.nD Cert.DwUpCRefIdeal.τ).loc Cert.DwUpCRefIdeal.main_arg1) = m ((c.tc : Thread Cert.DwUpCIdeal.nD Cert.DwUpCIdeal.τ).loc Cert.DwUpCIdeal.main_arg1)
      ∧ m' ((c.tc : Thread Cert.DwUpCRefIdeal.nD Cert.DwUpCRefIdeal.τ).loc Cert.DwUpCRefIdeal.main_arg2) = m ((c.tc : Thread Cert.DwUpCIdeal.nD Cert.DwUpCIdeal.τ).loc Cert.DwUpCIdeal.main_arg2)) →
    ∃ (v0 : (c : Dev Cert.DwUpCIdeal.nD) → Buf (Elt Ideal) ((c.tc : Thread Cert.DwUpCIdeal.nD Cert.DwUpCIdeal.τ).loc Cert.DwUpCIdeal.main_v0)),
      θ_run (Cert.DwUpCIdeal.defs (F := Ideal)) (onTc (τ := Cert.DwUpCIdeal.τ) (Cert.DwUpCIdeal.main (F := Ideal))) ⟨m, fun _ => 0, g⟩ (fun r => ∀ c : Dev Cert.DwUpCIdeal.nD,
          r.2.mem ((c.tc : Thread Cert.DwUpCIdeal.nD Cert.DwUpCIdeal.τ).loc Cert.DwUpCIdeal.main_v0) = v0 c
          ∧ r.2.mem ((c.tc : Thread Cert.DwUpCIdeal.nD Cert.DwUpCIdeal.τ).loc Cert.DwUpCIdeal.main_arg0) = m ((c.tc : Thread Cert.DwUpCIdeal.nD Cert.DwUpCIdeal.τ).loc Cert.DwUpCIdeal.main_arg0)
          ∧ r.2.mem ((c.tc : Thread Cert.DwUpCIdeal.nD Cert.DwUpCIdeal.τ).loc Cert.DwUpCIdeal.main_arg1) = m ((c.tc : Thread Cert.DwUpCIdeal.nD Cert.DwUpCIdeal.τ).loc Cert.DwUpCIdeal.main_arg1)
          ∧ r.2.mem ((c.tc : Thread Cert.DwUpCIdeal.nD Cert.DwUpCIdeal.τ).loc Cert.DwUpCIdeal.main_arg2) = m ((c.tc : Thread Cert.DwUpCIdeal.nD Cert.DwUpCIdeal.τ).loc Cert.DwUpCIdeal.main_arg2))
      ∧ θ_run (Cert.DwUpCRefIdeal.defs (F := Ideal)) (onTc (τ := Cert.DwUpCRefIdeal.τ) (Cert.DwUpCRefIdeal.main (F := Ideal))) ⟨m', fun _ => 0, g'⟩ (fun r => ∀ c : Dev Cert.DwUpCRefIdeal.nD,
          r.2.mem ((c.tc : Thread Cert.DwUpCRefIdeal.nD Cert.DwUpCRefIdeal.τ).loc Cert.DwUpCRefIdeal.main_v11) = v0 c
          ∧ r.2.mem ((c.tc : Thread Cert.DwUpCRefIdeal.nD Cert.DwUpCRefIdeal.τ).loc Cert.DwUpCRefIdeal.main_arg0) = m' ((c.tc : Thread Cert.DwUpCRefIdeal.nD Cert.DwUpCRefIdeal.τ).loc Cert.DwUpCRefIdeal.main_arg0)
          ∧ r.2.mem ((c.tc : Thread Cert.DwUpCRefIdeal.nD Cert.DwUpCRefIdeal.τ).loc Cert.DwUpCRefIdeal.main_arg1) = m' ((c.tc : Thread Cert.DwUpCRefIdeal.nD Cert.DwUpCRefIdeal.τ).loc Cert.DwUpCRefIdeal.main_arg1)
          ∧ r.2.mem ((c.tc : Thread Cert.DwUpCRefIdeal.nD Cert.DwUpCRefIdeal.τ).loc Cert.DwUpCRefIdeal.main_arg2) = m' ((c.tc : Thread Cert.DwUpCRefIdeal.nD Cert.DwUpCRefIdeal.τ).loc Cert.DwUpCRefIdeal.main_arg2))

def preserves_DwDownC_DwDownCIdeal : Prop :=
  True

def algebraic_DwDownCIdeal_DwDownCRefIdeal [hDwDownCIdeal : Cert.DwDownCIdeal.Facts] [hDwDownCRefIdeal : Cert.DwDownCRefIdeal.Facts] : Prop :=
  ∀ (m : (ℓ : Loc Cert.DwDownCIdeal.nD Cert.DwDownCIdeal.τ Cert.DwDownCIdeal.sig) → Buf (Elt Ideal) ℓ) (g : Dev Cert.DwDownCIdeal.nD → PrngReg)
    (m' : (ℓ : Loc Cert.DwDownCRefIdeal.nD Cert.DwDownCRefIdeal.τ Cert.DwDownCRefIdeal.sig) → Buf (Elt Ideal) ℓ) (g' : Dev Cert.DwDownCRefIdeal.nD → PrngReg), Pre_DwDownCIdeal m →
    (∀ c : Dev Cert.DwDownCIdeal.nD,
      m' ((c.tc : Thread Cert.DwDownCRefIdeal.nD Cert.DwDownCRefIdeal.τ).loc Cert.DwDownCRefIdeal.main_arg0) = m ((c.tc : Thread Cert.DwDownCIdeal.nD Cert.DwDownCIdeal.τ).loc Cert.DwDownCIdeal.main_arg0)
      ∧ m' ((c.tc : Thread Cert.DwDownCRefIdeal.nD Cert.DwDownCRefIdeal.τ).loc Cert.DwDownCRefIdeal.main_arg1) = m ((c.tc : Thread Cert.DwDownCIdeal.nD Cert.DwDownCIdeal.τ).loc Cert.DwDownCIdeal.main_arg1)
      ∧ m' ((c.tc : Thread Cert.DwDownCRefIdeal.nD Cert.DwDownCRefIdeal.τ).loc Cert.DwDownCRefIdeal.main_arg2) = m ((c.tc : Thread Cert.DwDownCIdeal.nD Cert.DwDownCIdeal.τ).loc Cert.DwDownCIdeal.main_arg2)) →
    ∃ (v0 : (c : Dev Cert.DwDownCIdeal.nD) → Buf (Elt Ideal) ((c.tc : Thread Cert.DwDownCIdeal.nD Cert.DwDownCIdeal.τ).loc Cert.DwDownCIdeal.main_v0)),
      θ_run (Cert.DwDownCIdeal.defs (F := Ideal)) (onTc (τ := Cert.DwDownCIdeal.τ) (Cert.DwDownCIdeal.main (F := Ideal))) ⟨m, fun _ => 0, g⟩ (fun r => ∀ c : Dev Cert.DwDownCIdeal.nD,
          r.2.mem ((c.tc : Thread Cert.DwDownCIdeal.nD Cert.DwDownCIdeal.τ).loc Cert.DwDownCIdeal.main_v0) = v0 c
          ∧ r.2.mem ((c.tc : Thread Cert.DwDownCIdeal.nD Cert.DwDownCIdeal.τ).loc Cert.DwDownCIdeal.main_arg0) = m ((c.tc : Thread Cert.DwDownCIdeal.nD Cert.DwDownCIdeal.τ).loc Cert.DwDownCIdeal.main_arg0)
          ∧ r.2.mem ((c.tc : Thread Cert.DwDownCIdeal.nD Cert.DwDownCIdeal.τ).loc Cert.DwDownCIdeal.main_arg1) = m ((c.tc : Thread Cert.DwDownCIdeal.nD Cert.DwDownCIdeal.τ).loc Cert.DwDownCIdeal.main_arg1)
          ∧ r.2.mem ((c.tc : Thread Cert.DwDownCIdeal.nD Cert.DwDownCIdeal.τ).loc Cert.DwDownCIdeal.main_arg2) = m ((c.tc : Thread Cert.DwDownCIdeal.nD Cert.DwDownCIdeal.τ).loc Cert.DwDownCIdeal.main_arg2))
      ∧ θ_run (Cert.DwDownCRefIdeal.defs (F := Ideal)) (onTc (τ := Cert.DwDownCRefIdeal.τ) (Cert.DwDownCRefIdeal.main (F := Ideal))) ⟨m', fun _ => 0, g'⟩ (fun r => ∀ c : Dev Cert.DwDownCRefIdeal.nD,
          r.2.mem ((c.tc : Thread Cert.DwDownCRefIdeal.nD Cert.DwDownCRefIdeal.τ).loc Cert.DwDownCRefIdeal.main_v12) = v0 c
          ∧ r.2.mem ((c.tc : Thread Cert.DwDownCRefIdeal.nD Cert.DwDownCRefIdeal.τ).loc Cert.DwDownCRefIdeal.main_arg0) = m' ((c.tc : Thread Cert.DwDownCRefIdeal.nD Cert.DwDownCRefIdeal.τ).loc Cert.DwDownCRefIdeal.main_arg0)
          ∧ r.2.mem ((c.tc : Thread Cert.DwDownCRefIdeal.nD Cert.DwDownCRefIdeal.τ).loc Cert.DwDownCRefIdeal.main_arg1) = m' ((c.tc : Thread Cert.DwDownCRefIdeal.nD Cert.DwDownCRefIdeal.τ).loc Cert.DwDownCRefIdeal.main_arg1)
          ∧ r.2.mem ((c.tc : Thread Cert.DwDownCRefIdeal.nD Cert.DwDownCRefIdeal.τ).loc Cert.DwDownCRefIdeal.main_arg2) = m' ((c.tc : Thread Cert.DwDownCRefIdeal.nD Cert.DwDownCRefIdeal.τ).loc Cert.DwDownCRefIdeal.main_arg2))

def preserves_DxUpC_DxUpCIdeal : Prop :=
  True

def algebraic_DxUpCIdeal_DxUpCRefIdeal [hDxUpCIdeal : Cert.DxUpCIdeal.Facts] [hDxUpCRefIdeal : Cert.DxUpCRefIdeal.Facts] : Prop :=
  ∀ (m : (ℓ : Loc Cert.DxUpCIdeal.nD Cert.DxUpCIdeal.τ Cert.DxUpCIdeal.sig) → Buf (Elt Ideal) ℓ) (g : Dev Cert.DxUpCIdeal.nD → PrngReg)
    (m' : (ℓ : Loc Cert.DxUpCRefIdeal.nD Cert.DxUpCRefIdeal.τ Cert.DxUpCRefIdeal.sig) → Buf (Elt Ideal) ℓ) (g' : Dev Cert.DxUpCRefIdeal.nD → PrngReg), Pre_DxUpCIdeal m →
    (∀ c : Dev Cert.DxUpCIdeal.nD,
      m' ((c.tc : Thread Cert.DxUpCRefIdeal.nD Cert.DxUpCRefIdeal.τ).loc Cert.DxUpCRefIdeal.main_arg0) = m ((c.tc : Thread Cert.DxUpCIdeal.nD Cert.DxUpCIdeal.τ).loc Cert.DxUpCIdeal.main_arg0)
      ∧ m' ((c.tc : Thread Cert.DxUpCRefIdeal.nD Cert.DxUpCRefIdeal.τ).loc Cert.DxUpCRefIdeal.main_arg1) = m ((c.tc : Thread Cert.DxUpCIdeal.nD Cert.DxUpCIdeal.τ).loc Cert.DxUpCIdeal.main_arg1)
      ∧ m' ((c.tc : Thread Cert.DxUpCRefIdeal.nD Cert.DxUpCRefIdeal.τ).loc Cert.DxUpCRefIdeal.main_arg2) = m ((c.tc : Thread Cert.DxUpCIdeal.nD Cert.DxUpCIdeal.τ).loc Cert.DxUpCIdeal.main_arg2)
      ∧ m' ((c.tc : Thread Cert.DxUpCRefIdeal.nD Cert.DxUpCRefIdeal.τ).loc Cert.DxUpCRefIdeal.main_arg3) = m ((c.tc : Thread Cert.DxUpCIdeal.nD Cert.DxUpCIdeal.τ).loc Cert.DxUpCIdeal.main_arg3)
      ∧ m' ((c.tc : Thread Cert.DxUpCRefIdeal.nD Cert.DxUpCRefIdeal.τ).loc Cert.DxUpCRefIdeal.main_arg4) = m ((c.tc : Thread Cert.DxUpCIdeal.nD Cert.DxUpCIdeal.τ).loc Cert.DxUpCIdeal.main_arg4)) →
    ∃ (v0 : (c : Dev Cert.DxUpCIdeal.nD) → Buf (Elt Ideal) ((c.tc : Thread Cert.DxUpCIdeal.nD Cert.DxUpCIdeal.τ).loc Cert.DxUpCIdeal.main_v7_0)) (v1 : (c : Dev Cert.DxUpCIdeal.nD) → Buf (Elt Ideal) ((c.tc : Thread Cert.DxUpCIdeal.nD Cert.DxUpCIdeal.τ).loc Cert.DxUpCIdeal.main_v7_1)) (v2 : (c : Dev Cert.DxUpCIdeal.nD) → Buf (Elt Ideal) ((c.tc : Thread Cert.DxUpCIdeal.nD Cert.DxUpCIdeal.τ).loc Cert.DxUpCIdeal.main_v7_2)),
      θ_run (Cert.DxUpCIdeal.defs (F := Ideal)) (onTc (τ := Cert.DxUpCIdeal.τ) (Cert.DxUpCIdeal.main (F := Ideal))) ⟨m, fun _ => 0, g⟩ (fun r => ∀ c : Dev Cert.DxUpCIdeal.nD,
          r.2.mem ((c.tc : Thread Cert.DxUpCIdeal.nD Cert.DxUpCIdeal.τ).loc Cert.DxUpCIdeal.main_v7_0) = v0 c
          ∧ r.2.mem ((c.tc : Thread Cert.DxUpCIdeal.nD Cert.DxUpCIdeal.τ).loc Cert.DxUpCIdeal.main_v7_1) = v1 c
          ∧ r.2.mem ((c.tc : Thread Cert.DxUpCIdeal.nD Cert.DxUpCIdeal.τ).loc Cert.DxUpCIdeal.main_v7_2) = v2 c
          ∧ r.2.mem ((c.tc : Thread Cert.DxUpCIdeal.nD Cert.DxUpCIdeal.τ).loc Cert.DxUpCIdeal.main_arg0) = m ((c.tc : Thread Cert.DxUpCIdeal.nD Cert.DxUpCIdeal.τ).loc Cert.DxUpCIdeal.main_arg0)
          ∧ r.2.mem ((c.tc : Thread Cert.DxUpCIdeal.nD Cert.DxUpCIdeal.τ).loc Cert.DxUpCIdeal.main_arg1) = m ((c.tc : Thread Cert.DxUpCIdeal.nD Cert.DxUpCIdeal.τ).loc Cert.DxUpCIdeal.main_arg1)
          ∧ r.2.mem ((c.tc : Thread Cert.DxUpCIdeal.nD Cert.DxUpCIdeal.τ).loc Cert.DxUpCIdeal.main_arg2) = m ((c.tc : Thread Cert.DxUpCIdeal.nD Cert.DxUpCIdeal.τ).loc Cert.DxUpCIdeal.main_arg2)
          ∧ r.2.mem ((c.tc : Thread Cert.DxUpCIdeal.nD Cert.DxUpCIdeal.τ).loc Cert.DxUpCIdeal.main_arg3) = m ((c.tc : Thread Cert.DxUpCIdeal.nD Cert.DxUpCIdeal.τ).loc Cert.DxUpCIdeal.main_arg3)
          ∧ r.2.mem ((c.tc : Thread Cert.DxUpCIdeal.nD Cert.DxUpCIdeal.τ).loc Cert.DxUpCIdeal.main_arg4) = m ((c.tc : Thread Cert.DxUpCIdeal.nD Cert.DxUpCIdeal.τ).loc Cert.DxUpCIdeal.main_arg4))
      ∧ θ_run (Cert.DxUpCRefIdeal.defs (F := Ideal)) (onTc (τ := Cert.DxUpCRefIdeal.τ) (Cert.DxUpCRefIdeal.main (F := Ideal))) ⟨m', fun _ => 0, g'⟩ (fun r => ∀ c : Dev Cert.DxUpCRefIdeal.nD,
          r.2.mem ((c.tc : Thread Cert.DxUpCRefIdeal.nD Cert.DxUpCRefIdeal.τ).loc Cert.DxUpCRefIdeal.main_v39) = v0 c
          ∧ r.2.mem ((c.tc : Thread Cert.DxUpCRefIdeal.nD Cert.DxUpCRefIdeal.τ).loc Cert.DxUpCRefIdeal.main_v40) = v1 c
          ∧ r.2.mem ((c.tc : Thread Cert.DxUpCRefIdeal.nD Cert.DxUpCRefIdeal.τ).loc Cert.DxUpCRefIdeal.main_v41) = v2 c
          ∧ r.2.mem ((c.tc : Thread Cert.DxUpCRefIdeal.nD Cert.DxUpCRefIdeal.τ).loc Cert.DxUpCRefIdeal.main_arg0) = m' ((c.tc : Thread Cert.DxUpCRefIdeal.nD Cert.DxUpCRefIdeal.τ).loc Cert.DxUpCRefIdeal.main_arg0)
          ∧ r.2.mem ((c.tc : Thread Cert.DxUpCRefIdeal.nD Cert.DxUpCRefIdeal.τ).loc Cert.DxUpCRefIdeal.main_arg1) = m' ((c.tc : Thread Cert.DxUpCRefIdeal.nD Cert.DxUpCRefIdeal.τ).loc Cert.DxUpCRefIdeal.main_arg1)
          ∧ r.2.mem ((c.tc : Thread Cert.DxUpCRefIdeal.nD Cert.DxUpCRefIdeal.τ).loc Cert.DxUpCRefIdeal.main_arg2) = m' ((c.tc : Thread Cert.DxUpCRefIdeal.nD Cert.DxUpCRefIdeal.τ).loc Cert.DxUpCRefIdeal.main_arg2)
          ∧ r.2.mem ((c.tc : Thread Cert.DxUpCRefIdeal.nD Cert.DxUpCRefIdeal.τ).loc Cert.DxUpCRefIdeal.main_arg3) = m' ((c.tc : Thread Cert.DxUpCRefIdeal.nD Cert.DxUpCRefIdeal.τ).loc Cert.DxUpCRefIdeal.main_arg3)
          ∧ r.2.mem ((c.tc : Thread Cert.DxUpCRefIdeal.nD Cert.DxUpCRefIdeal.τ).loc Cert.DxUpCRefIdeal.main_arg4) = m' ((c.tc : Thread Cert.DxUpCRefIdeal.nD Cert.DxUpCRefIdeal.τ).loc Cert.DxUpCRefIdeal.main_arg4))

def preserves_DownC_DownCIdeal : Prop :=
  True

def algebraic_DownCIdeal_DownCRefIdeal [hDownCIdeal : Cert.DownCIdeal.Facts] [hDownCRefIdeal : Cert.DownCRefIdeal.Facts] : Prop :=
  ∀ (m : (ℓ : Loc Cert.DownCIdeal.nD Cert.DownCIdeal.τ Cert.DownCIdeal.sig) → Buf (Elt Ideal) ℓ) (g : Dev Cert.DownCIdeal.nD → PrngReg)
    (m' : (ℓ : Loc Cert.DownCRefIdeal.nD Cert.DownCRefIdeal.τ Cert.DownCRefIdeal.sig) → Buf (Elt Ideal) ℓ) (g' : Dev Cert.DownCRefIdeal.nD → PrngReg), Pre_DownCIdeal m →
    (∀ c : Dev Cert.DownCIdeal.nD,
      m' ((c.tc : Thread Cert.DownCRefIdeal.nD Cert.DownCRefIdeal.τ).loc Cert.DownCRefIdeal.main_arg0) = m ((c.tc : Thread Cert.DownCIdeal.nD Cert.DownCIdeal.τ).loc Cert.DownCIdeal.main_arg0)
      ∧ m' ((c.tc : Thread Cert.DownCRefIdeal.nD Cert.DownCRefIdeal.τ).loc Cert.DownCRefIdeal.main_arg1) = m ((c.tc : Thread Cert.DownCIdeal.nD Cert.DownCIdeal.τ).loc Cert.DownCIdeal.main_arg1)
      ∧ m' ((c.tc : Thread Cert.DownCRefIdeal.nD Cert.DownCRefIdeal.τ).loc Cert.DownCRefIdeal.main_arg2) = m ((c.tc : Thread Cert.DownCIdeal.nD Cert.DownCIdeal.τ).loc Cert.DownCIdeal.main_arg2)) →
    ∃ (v0 : (c : Dev Cert.DownCIdeal.nD) → Buf (Elt Ideal) ((c.tc : Thread Cert.DownCIdeal.nD Cert.DownCIdeal.τ).loc Cert.DownCIdeal.main_v7)),
      θ_run (Cert.DownCIdeal.defs (F := Ideal)) (onTc (τ := Cert.DownCIdeal.τ) (Cert.DownCIdeal.main (F := Ideal))) ⟨m, fun _ => 0, g⟩ (fun r => ∀ c : Dev Cert.DownCIdeal.nD,
          r.2.mem ((c.tc : Thread Cert.DownCIdeal.nD Cert.DownCIdeal.τ).loc Cert.DownCIdeal.main_v7) = v0 c
          ∧ r.2.mem ((c.tc : Thread Cert.DownCIdeal.nD Cert.DownCIdeal.τ).loc Cert.DownCIdeal.main_arg0) = m ((c.tc : Thread Cert.DownCIdeal.nD Cert.DownCIdeal.τ).loc Cert.DownCIdeal.main_arg0)
          ∧ r.2.mem ((c.tc : Thread Cert.DownCIdeal.nD Cert.DownCIdeal.τ).loc Cert.DownCIdeal.main_arg1) = m ((c.tc : Thread Cert.DownCIdeal.nD Cert.DownCIdeal.τ).loc Cert.DownCIdeal.main_arg1)
          ∧ r.2.mem ((c.tc : Thread Cert.DownCIdeal.nD Cert.DownCIdeal.τ).loc Cert.DownCIdeal.main_arg2) = m ((c.tc : Thread Cert.DownCIdeal.nD Cert.DownCIdeal.τ).loc Cert.DownCIdeal.main_arg2))
      ∧ θ_run (Cert.DownCRefIdeal.defs (F := Ideal)) (onTc (τ := Cert.DownCRefIdeal.τ) (Cert.DownCRefIdeal.main (F := Ideal))) ⟨m', fun _ => 0, g'⟩ (fun r => ∀ c : Dev Cert.DownCRefIdeal.nD,
          r.2.mem ((c.tc : Thread Cert.DownCRefIdeal.nD Cert.DownCRefIdeal.τ).loc Cert.DownCRefIdeal.main_v2) = v0 c
          ∧ r.2.mem ((c.tc : Thread Cert.DownCRefIdeal.nD Cert.DownCRefIdeal.τ).loc Cert.DownCRefIdeal.main_arg0) = m' ((c.tc : Thread Cert.DownCRefIdeal.nD Cert.DownCRefIdeal.τ).loc Cert.DownCRefIdeal.main_arg0)
          ∧ r.2.mem ((c.tc : Thread Cert.DownCRefIdeal.nD Cert.DownCRefIdeal.τ).loc Cert.DownCRefIdeal.main_arg1) = m' ((c.tc : Thread Cert.DownCRefIdeal.nD Cert.DownCRefIdeal.τ).loc Cert.DownCRefIdeal.main_arg1)
          ∧ r.2.mem ((c.tc : Thread Cert.DownCRefIdeal.nD Cert.DownCRefIdeal.τ).loc Cert.DownCRefIdeal.main_arg2) = m' ((c.tc : Thread Cert.DownCRefIdeal.nD Cert.DownCRefIdeal.τ).loc Cert.DownCRefIdeal.main_arg2))

def preserves_DxIn_DxInIdeal : Prop :=
  True

def algebraic_DxInIdeal_DxInRefIdeal [hDxInIdeal : Cert.DxInIdeal.Facts] [hDxInRefIdeal : Cert.DxInRefIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInRefIdeal.nD Cert.DxInRefIdeal.τ Cert.DxInRefIdeal.sig) → Buf (Elt Ideal) ℓ) (g' : Dev Cert.DxInRefIdeal.nD → PrngReg), Pre_DxInIdeal m →
    (∀ c : Dev Cert.DxInIdeal.nD,
      m' ((c.tc : Thread Cert.DxInRefIdeal.nD Cert.DxInRefIdeal.τ).loc Cert.DxInRefIdeal.main_arg0) = m ((c.tc : Thread Cert.DxInIdeal.nD Cert.DxInIdeal.τ).loc Cert.DxInIdeal.main_arg0)
      ∧ m' ((c.tc : Thread Cert.DxInRefIdeal.nD Cert.DxInRefIdeal.τ).loc Cert.DxInRefIdeal.main_arg1) = m ((c.tc : Thread Cert.DxInIdeal.nD Cert.DxInIdeal.τ).loc Cert.DxInIdeal.main_arg1)
      ∧ m' ((c.tc : Thread Cert.DxInRefIdeal.nD Cert.DxInRefIdeal.τ).loc Cert.DxInRefIdeal.main_arg2) = m ((c.tc : Thread Cert.DxInIdeal.nD Cert.DxInIdeal.τ).loc Cert.DxInIdeal.main_arg2)
      ∧ m' ((c.tc : Thread Cert.DxInRefIdeal.nD Cert.DxInRefIdeal.τ).loc Cert.DxInRefIdeal.main_arg3) = m ((c.tc : Thread Cert.DxInIdeal.nD Cert.DxInIdeal.τ).loc Cert.DxInIdeal.main_arg3)
      ∧ m' ((c.tc : Thread Cert.DxInRefIdeal.nD Cert.DxInRefIdeal.τ).loc Cert.DxInRefIdeal.main_arg4) = m ((c.tc : Thread Cert.DxInIdeal.nD Cert.DxInIdeal.τ).loc Cert.DxInIdeal.main_arg4)) →
    ∃ (v0 : (c : Dev Cert.DxInIdeal.nD) → Buf (Elt Ideal) ((c.tc : Thread Cert.DxInIdeal.nD Cert.DxInIdeal.τ).loc Cert.DxInIdeal.main_v8_0)) (v1 : (c : Dev Cert.DxInIdeal.nD) → Buf (Elt Ideal) ((c.tc : Thread Cert.DxInIdeal.nD Cert.DxInIdeal.τ).loc Cert.DxInIdeal.main_v8_1)) (v2 : (c : Dev Cert.DxInIdeal.nD) → Buf (Elt Ideal) ((c.tc : Thread Cert.DxInIdeal.nD Cert.DxInIdeal.τ).loc Cert.DxInIdeal.main_v8_2)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v8_0) = v0 c
          ∧ r.2.mem ((c.tc : Thread Cert.DxInIdeal.nD Cert.DxInIdeal.τ).loc Cert.DxInIdeal.main_v8_1) = v1 c
          ∧ r.2.mem ((c.tc : Thread Cert.DxInIdeal.nD Cert.DxInIdeal.τ).loc Cert.DxInIdeal.main_v8_2) = v2 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
          ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
          ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
          ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4))
      ∧ θ_run (Cert.DxInRefIdeal.defs (F := Ideal)) (onTc (τ := Cert.DxInRefIdeal.τ) (Cert.DxInRefIdeal.main (F := Ideal))) ⟨m', fun _ => 0, g'⟩ (fun r => ∀ c : Dev Cert.DxInRefIdeal.nD,
          r.2.mem ((c.tc : Thread Cert.DxInRefIdeal.nD Cert.DxInRefIdeal.τ).loc Cert.DxInRefIdeal.main_v39) = v0 c
          ∧ r.2.mem ((c.tc : Thread Cert.DxInRefIdeal.nD Cert.DxInRefIdeal.τ).loc Cert.DxInRefIdeal.main_v40) = v1 c
          ∧ r.2.mem ((c.tc : Thread Cert.DxInRefIdeal.nD Cert.DxInRefIdeal.τ).loc Cert.DxInRefIdeal.main_v41) = v2 c
          ∧ r.2.mem ((c.tc : Thread Cert.DxInRefIdeal.nD Cert.DxInRefIdeal.τ).loc Cert.DxInRefIdeal.main_arg0) = m' ((c.tc : Thread Cert.DxInRefIdeal.nD Cert.DxInRefIdeal.τ).loc Cert.DxInRefIdeal.main_arg0)
          ∧ r.2.mem ((c.tc : Thread Cert.DxInRefIdeal.nD Cert.DxInRefIdeal.τ).loc Cert.DxInRefIdeal.main_arg1) = m' ((c.tc : Thread Cert.DxInRefIdeal.nD Cert.DxInRefIdeal.τ).loc Cert.DxInRefIdeal.main_arg1)
          ∧ r.2.mem ((c.tc : Thread Cert.DxInRefIdeal.nD Cert.DxInRefIdeal.τ).loc Cert.DxInRefIdeal.main_arg2) = m' ((c.tc : Thread Cert.DxInRefIdeal.nD Cert.DxInRefIdeal.τ).loc Cert.DxInRefIdeal.main_arg2)
          ∧ r.2.mem ((c.tc : Thread Cert.DxInRefIdeal.nD Cert.DxInRefIdeal.τ).loc Cert.DxInRefIdeal.main_arg3) = m' ((c.tc : Thread Cert.DxInRefIdeal.nD Cert.DxInRefIdeal.τ).loc Cert.DxInRefIdeal.main_arg3)
          ∧ r.2.mem ((c.tc : Thread Cert.DxInRefIdeal.nD Cert.DxInRefIdeal.τ).loc Cert.DxInRefIdeal.main_arg4) = m' ((c.tc : Thread Cert.DxInRefIdeal.nD Cert.DxInRefIdeal.τ).loc Cert.DxInRefIdeal.main_arg4))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v12) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v7)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v7) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v4) = v0 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v12) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DxGate_DxGateIdeal : Prop :=
  True

def algebraic_DxGateIdeal_DxGateRefIdeal [hDxGateIdeal : Cert.DxGateIdeal.Facts] [hDxGateRefIdeal : Cert.DxGateRefIdeal.Facts] : Prop :=
  ∀ (m : (ℓ : Loc Cert.DxGateIdeal.nD Cert.DxGateIdeal.τ Cert.DxGateIdeal.sig) → Buf (Elt Ideal) ℓ) (g : Dev Cert.DxGateIdeal.nD → PrngReg)
    (m' : (ℓ : Loc Cert.DxGateRefIdeal.nD Cert.DxGateRefIdeal.τ Cert.DxGateRefIdeal.sig) → Buf (Elt Ideal) ℓ) (g' : Dev Cert.DxGateRefIdeal.nD → PrngReg), Pre_DxGateIdeal m →
    (∀ c : Dev Cert.DxGateIdeal.nD,
      m' ((c.tc : Thread Cert.DxGateRefIdeal.nD Cert.DxGateRefIdeal.τ).loc Cert.DxGateRefIdeal.main_arg0) = m ((c.tc : Thread Cert.DxGateIdeal.nD Cert.DxGateIdeal.τ).loc Cert.DxGateIdeal.main_arg0)
      ∧ m' ((c.tc : Thread Cert.DxGateRefIdeal.nD Cert.DxGateRefIdeal.τ).loc Cert.DxGateRefIdeal.main_arg1) = m ((c.tc : Thread Cert.DxGateIdeal.nD Cert.DxGateIdeal.τ).loc Cert.DxGateIdeal.main_arg1)) →
    ∃ (v0 : (c : Dev Cert.DxGateIdeal.nD) → Buf (Elt Ideal) ((c.tc : Thread Cert.DxGateIdeal.nD Cert.DxGateIdeal.τ).loc Cert.DxGateIdeal.main_v7)),
      θ_run (Cert.DxGateIdeal.defs (F := Ideal)) (onTc (τ := Cert.DxGateIdeal.τ) (Cert.DxGateIdeal.main (F := Ideal))) ⟨m, fun _ => 0, g⟩ (fun r => ∀ c : Dev Cert.DxGateIdeal.nD,
          r.2.mem ((c.tc : Thread Cert.DxGateIdeal.nD Cert.DxGateIdeal.τ).loc Cert.DxGateIdeal.main_v7) = v0 c
          ∧ r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
          ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1))
      ∧ θ_run (Cert.DxGateRefIdeal.defs (F := Ideal)) (onTc (τ := Cert.DxGateRefIdeal.τ) (Cert.DxGateRefIdeal.main (F := Ideal))) ⟨m', fun _ => 0, g'⟩ (fun r => ∀ c : Dev Cert.DxGateRefIdeal.nD,
          r.2.mem ((c.tc : Thread Cert.DxGateRefIdeal.nD Cert.DxGateRefIdeal.τ).loc Cert.DxGateRefIdeal.main_v3) = v0 c
          ∧ r.2.mem ((c.tc : Thread Cert.DxGateRefIdeal.nD Cert.DxGateRefIdeal.τ).loc Cert.DxGateRefIdeal.main_arg0) = m' ((c.tc : Thread Cert.DxGateRefIdeal.nD Cert.DxGateRefIdeal.τ).loc Cert.DxGateRefIdeal.main_arg0)
          ∧ r.2.mem ((c.tc : Thread Cert.DxGateRefIdeal.nD Cert.DxGateRefIdeal.τ).loc Cert.DxGateRefIdeal.main_arg1) = m' ((c.tc : Thread Cert.DxGateRefIdeal.nD Cert.DxGateRefIdeal.τ).loc Cert.DxGateRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)
      ∧ m' ((c.tc : Thread Cert.DwGateRefIdeal.nD Cert.DwGateRefIdeal.τ).loc Cert.DwGateRefIdeal.main_arg2) = m ((c.tc : Thread Cert.DwGateIdeal.nD Cert.DwGateIdeal.τ).loc Cert.DwGateIdeal.main_arg2)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v12) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2))

def Claim : Prop :=
  ∃ (hKernel : Cert.Kernel.Facts) (hKernelIdeal : Cert.KernelIdeal.Facts) (hReferenceIdeal : Cert.ReferenceIdeal.Facts) (hDxDown : Cert.DxDown.Facts) (hDxDownIdeal : Cert.DxDownIdeal.Facts) (hDxDownRefIdeal : Cert.DxDownRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDxUp : Cert.DxUp.Facts) (hDxUpIdeal : Cert.DxUpIdeal.Facts) (hDxUpRefIdeal : Cert.DxUpRefIdeal.Facts) (hDown : Cert.Down.Facts) (hDownIdeal : Cert.DownIdeal.Facts) (hDownRefIdeal : Cert.DownRefIdeal.Facts) (hDxDownB : Cert.DxDownB.Facts) (hDxDownBIdeal : Cert.DxDownBIdeal.Facts) (hDxDownBRefIdeal : Cert.DxDownBRefIdeal.Facts) (hDwUpB : Cert.DwUpB.Facts) (hDwUpBIdeal : Cert.DwUpBIdeal.Facts) (hDwUpBRefIdeal : Cert.DwUpBRefIdeal.Facts) (hDwDownB : Cert.DwDownB.Facts) (hDwDownBIdeal : Cert.DwDownBIdeal.Facts) (hDwDownBRefIdeal : Cert.DwDownBRefIdeal.Facts) (hDxUpB : Cert.DxUpB.Facts) (hDxUpBIdeal : Cert.DxUpBIdeal.Facts) (hDxUpBRefIdeal : Cert.DxUpBRefIdeal.Facts) (hDownB : Cert.DownB.Facts) (hDownBIdeal : Cert.DownBIdeal.Facts) (hDownBRefIdeal : Cert.DownBRefIdeal.Facts) (hDxDownC : Cert.DxDownC.Facts) (hDxDownCIdeal : Cert.DxDownCIdeal.Facts) (hDxDownCRefIdeal : Cert.DxDownCRefIdeal.Facts) (hDwUpC : Cert.DwUpC.Facts) (hDwUpCIdeal : Cert.DwUpCIdeal.Facts) (hDwUpCRefIdeal : Cert.DwUpCRefIdeal.Facts) (hDwDownC : Cert.DwDownC.Facts) (hDwDownCIdeal : Cert.DwDownCIdeal.Facts) (hDwDownCRefIdeal : Cert.DwDownCRefIdeal.Facts) (hDxUpC : Cert.DxUpC.Facts) (hDxUpCIdeal : Cert.DxUpCIdeal.Facts) (hDxUpCRefIdeal : Cert.DxUpCRefIdeal.Facts) (hDownC : Cert.DownC.Facts) (hDownCIdeal : Cert.DownCIdeal.Facts) (hDownCRefIdeal : Cert.DownCRefIdeal.Facts) (hDxIn : Cert.DxIn.Facts) (hDxInIdeal : Cert.DxInIdeal.Facts) (hDxInRefIdeal : Cert.DxInRefIdeal.Facts) (hDwIn : Cert.DwIn.Facts) (hDwInIdeal : Cert.DwInIdeal.Facts) (hDwInRefIdeal : Cert.DwInRefIdeal.Facts) (hOut : Cert.Out.Facts) (hOutIdeal : Cert.OutIdeal.Facts) (hOutRefIdeal : Cert.OutRefIdeal.Facts) (hDxOut : Cert.DxOut.Facts) (hDxOutIdeal : Cert.DxOutIdeal.Facts) (hDxOutRefIdeal : Cert.DxOutRefIdeal.Facts) (hDwOut : Cert.DwOut.Facts) (hDwOutIdeal : Cert.DwOutIdeal.Facts) (hDwOutRefIdeal : Cert.DwOutRefIdeal.Facts) (hDxGate : Cert.DxGate.Facts) (hDxGateIdeal : Cert.DxGateIdeal.Facts) (hDxGateRefIdeal : Cert.DxGateRefIdeal.Facts) (hDwGate : Cert.DwGate.Facts) (hDwGateIdeal : Cert.DwGateIdeal.Facts) (hDwGateRefIdeal : Cert.DwGateRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DxDown (hDxDown := hDxDown)
    ∧ quiescent_DxDownIdeal (hDxDownIdeal := hDxDownIdeal)
    ∧ quiescent_DxDownRefIdeal (hDxDownRefIdeal := hDxDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DxUp (hDxUp := hDxUp)
    ∧ quiescent_DxUpIdeal (hDxUpIdeal := hDxUpIdeal)
    ∧ quiescent_DxUpRefIdeal (hDxUpRefIdeal := hDxUpRefIdeal)
    ∧ quiescent_Down (hDown := hDown)
    ∧ quiescent_DownIdeal (hDownIdeal := hDownIdeal)
    ∧ quiescent_DownRefIdeal (hDownRefIdeal := hDownRefIdeal)
    ∧ quiescent_DxDownB (hDxDownB := hDxDownB)
    ∧ quiescent_DxDownBIdeal (hDxDownBIdeal := hDxDownBIdeal)
    ∧ quiescent_DxDownBRefIdeal (hDxDownBRefIdeal := hDxDownBRefIdeal)
    ∧ quiescent_DwUpB (hDwUpB := hDwUpB)
    ∧ quiescent_DwUpBIdeal (hDwUpBIdeal := hDwUpBIdeal)
    ∧ quiescent_DwUpBRefIdeal (hDwUpBRefIdeal := hDwUpBRefIdeal)
    ∧ quiescent_DwDownB (hDwDownB := hDwDownB)
    ∧ quiescent_DwDownBIdeal (hDwDownBIdeal := hDwDownBIdeal)
    ∧ quiescent_DwDownBRefIdeal (hDwDownBRefIdeal := hDwDownBRefIdeal)
    ∧ quiescent_DxUpB (hDxUpB := hDxUpB)
    ∧ quiescent_DxUpBIdeal (hDxUpBIdeal := hDxUpBIdeal)
    ∧ quiescent_DxUpBRefIdeal (hDxUpBRefIdeal := hDxUpBRefIdeal)
    ∧ quiescent_DownB (hDownB := hDownB)
    ∧ quiescent_DownBIdeal (hDownBIdeal := hDownBIdeal)
    ∧ quiescent_DownBRefIdeal (hDownBRefIdeal := hDownBRefIdeal)
    ∧ quiescent_DxDownC (hDxDownC := hDxDownC)
    ∧ quiescent_DxDownCIdeal (hDxDownCIdeal := hDxDownCIdeal)
    ∧ quiescent_DxDownCRefIdeal (hDxDownCRefIdeal := hDxDownCRefIdeal)
    ∧ quiescent_DwUpC (hDwUpC := hDwUpC)
    ∧ quiescent_DwUpCIdeal (hDwUpCIdeal := hDwUpCIdeal)
    ∧ quiescent_DwUpCRefIdeal (hDwUpCRefIdeal := hDwUpCRefIdeal)
    ∧ quiescent_DwDownC (hDwDownC := hDwDownC)
    ∧ quiescent_DwDownCIdeal (hDwDownCIdeal := hDwDownCIdeal)
    ∧ quiescent_DwDownCRefIdeal (hDwDownCRefIdeal := hDwDownCRefIdeal)
    ∧ quiescent_DxUpC (hDxUpC := hDxUpC)
    ∧ quiescent_DxUpCIdeal (hDxUpCIdeal := hDxUpCIdeal)
    ∧ quiescent_DxUpCRefIdeal (hDxUpCRefIdeal := hDxUpCRefIdeal)
    ∧ quiescent_DownC (hDownC := hDownC)
    ∧ quiescent_DownCIdeal (hDownCIdeal := hDownCIdeal)
    ∧ quiescent_DownCRefIdeal (hDownCRefIdeal := hDownCRefIdeal)
    ∧ quiescent_DxIn (hDxIn := hDxIn)
    ∧ quiescent_DxInIdeal (hDxInIdeal := hDxInIdeal)
    ∧ quiescent_DxInRefIdeal (hDxInRefIdeal := hDxInRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Out (hOut := hOut)
    ∧ quiescent_OutIdeal (hOutIdeal := hOutIdeal)
    ∧ quiescent_OutRefIdeal (hOutRefIdeal := hOutRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DxGate (hDxGate := hDxGate)
    ∧ quiescent_DxGateIdeal (hDxGateIdeal := hDxGateIdeal)
    ∧ quiescent_DxGateRefIdeal (hDxGateRefIdeal := hDxGateRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DxDown_DxDownIdeal
    ∧ algebraic_DxDownIdeal_DxDownRefIdeal (hDxDownIdeal := hDxDownIdeal) (hDxDownRefIdeal := hDxDownRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DxUp_DxUpIdeal
    ∧ algebraic_DxUpIdeal_DxUpRefIdeal (hDxUpIdeal := hDxUpIdeal) (hDxUpRefIdeal := hDxUpRefIdeal)
    ∧ preserves_Down_DownIdeal
    ∧ algebraic_DownIdeal_DownRefIdeal (hDownIdeal := hDownIdeal) (hDownRefIdeal := hDownRefIdeal)
    ∧ preserves_DxDownB_DxDownBIdeal
    ∧ algebraic_DxDownBIdeal_DxDownBRefIdeal (hDxDownBIdeal := hDxDownBIdeal) (hDxDownBRefIdeal := hDxDownBRefIdeal)
    ∧ preserves_DwUpB_DwUpBIdeal
    ∧ algebraic_DwUpBIdeal_DwUpBRefIdeal (hDwUpBIdeal := hDwUpBIdeal) (hDwUpBRefIdeal := hDwUpBRefIdeal)
    ∧ preserves_DwDownB_DwDownBIdeal
    ∧ algebraic_DwDownBIdeal_DwDownBRefIdeal (hDwDownBIdeal := hDwDownBIdeal) (hDwDownBRefIdeal := hDwDownBRefIdeal)
    ∧ preserves_DxUpB_DxUpBIdeal
    ∧ algebraic_DxUpBIdeal_DxUpBRefIdeal (hDxUpBIdeal := hDxUpBIdeal) (hDxUpBRefIdeal := hDxUpBRefIdeal)
    ∧ preserves_DownB_DownBIdeal
    ∧ algebraic_DownBIdeal_DownBRefIdeal (hDownBIdeal := hDownBIdeal) (hDownBRefIdeal := hDownBRefIdeal)
    ∧ preserves_DxDownC_DxDownCIdeal
    ∧ algebraic_DxDownCIdeal_DxDownCRefIdeal (hDxDownCIdeal := hDxDownCIdeal) (hDxDownCRefIdeal := hDxDownCRefIdeal)
    ∧ preserves_DwUpC_DwUpCIdeal
    ∧ algebraic_DwUpCIdeal_DwUpCRefIdeal (hDwUpCIdeal := hDwUpCIdeal) (hDwUpCRefIdeal := hDwUpCRefIdeal)
    ∧ preserves_DwDownC_DwDownCIdeal
    ∧ algebraic_DwDownCIdeal_DwDownCRefIdeal (hDwDownCIdeal := hDwDownCIdeal) (hDwDownCRefIdeal := hDwDownCRefIdeal)
    ∧ preserves_DxUpC_DxUpCIdeal
    ∧ algebraic_DxUpCIdeal_DxUpCRefIdeal (hDxUpCIdeal := hDxUpCIdeal) (hDxUpCRefIdeal := hDxUpCRefIdeal)
    ∧ preserves_DownC_DownCIdeal
    ∧ algebraic_DownCIdeal_DownCRefIdeal (hDownCIdeal := hDownCIdeal) (hDownCRefIdeal := hDownCRefIdeal)
    ∧ preserves_DxIn_DxInIdeal
    ∧ algebraic_DxInIdeal_DxInRefIdeal (hDxInIdeal := hDxInIdeal) (hDxInRefIdeal := hDxInRefIdeal)
    ∧ preserves_DwIn_DwInIdeal
    ∧ algebraic_DwInIdeal_DwInRefIdeal (hDwInIdeal := hDwInIdeal) (hDwInRefIdeal := hDwInRefIdeal)
    ∧ preserves_Out_OutIdeal
    ∧ algebraic_OutIdeal_OutRefIdeal (hOutIdeal := hOutIdeal) (hOutRefIdeal := hOutRefIdeal)
    ∧ preserves_DxOut_DxOutIdeal
    ∧ algebraic_DxOutIdeal_DxOutRefIdeal (hDxOutIdeal := hDxOutIdeal) (hDxOutRefIdeal := hDxOutRefIdeal)
    ∧ preserves_DwOut_DwOutIdeal
    ∧ algebraic_DwOutIdeal_DwOutRefIdeal (hDwOutIdeal := hDwOutIdeal) (hDwOutRefIdeal := hDwOutRefIdeal)
    ∧ preserves_DxGate_DxGateIdeal
    ∧ algebraic_DxGateIdeal_DxGateRefIdeal (hDxGateIdeal := hDxGateIdeal) (hDxGateRefIdeal := hDxGateRefIdeal)
    ∧ preserves_DwGate_DwGateIdeal
    ∧ algebraic_DwGateIdeal_DwGateRefIdeal (hDwGateIdeal := hDwGateIdeal) (hDwGateRefIdeal := hDwGateRefIdeal)
-- ==== Pre_finite.lean ====
abbrev S2048x3072 : Shape := ⟨2, ![2048, 3072]⟩
abbrev S2048x1024 : Shape := ⟨2, ![2048, 1024]⟩
abbrev S_ : Shape := ⟨0, ![]⟩

class Facts : Prop where
  bitsLt_bf16_f32 : FTy.bits .bf16 < FTy.bits .f32
  bcast_S_S2048x3072 : S_.BroadcastsInDim S2048x3072 (![] : Fin 0 → Fin S2048x3072.rank)
  bcast_S_S2048x1024 : S_.BroadcastsInDim S2048x1024 (![] : Fin 0 → Fin S2048x1024.rank)

variable [Facts]

def fn {F : FTy → Type} [FloatOps F] (main_arg0 : FVec F S2048x3072 .bf16) (main_arg1 : FVec F S2048x1024 .bf16) : IVec S2048x3072 1 × IVec S2048x1024 1 :=
  let main_v0 : FVec F S2048x3072 .f32 := (extf .f32 · bitsLt_bf16_f32) main_arg0
  let main_v1 : FVec F S2048x3072 .f32 := Host.absf main_v0
  let main_cst : FVec F S_ .f32 := constant S_ .f32 0x7F800000#32
  let main_v2 : FVec F S2048x3072 .f32 := broadcastInDim S2048x3072 ![] bcast_S_S2048x3072 main_cst
  let main_v3 : IVec S2048x3072 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  (main_v3, main_v7)
-- ==== Kernel.lean ====
abbrev S2048x3072 : Shape := ⟨2, ![2048, 3072]⟩
abbrev S2048x1024 : Shape := ⟨2, ![2048, 1024]⟩
abbrev S2048x16x64 : Shape := ⟨3, ![2048, 16, 64]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x2048 : Shape := ⟨2, ![16, 2048]⟩
abbrev S16x2048x1 : Shape := ⟨3, ![16, 2048, 1]⟩
abbrev S512x128 : Shape := ⟨2, ![512, 128]⟩
abbrev S2048x128 : Shape := ⟨2, ![2048, 128]⟩
abbrev S2x512x1 : Shape := ⟨3, ![2, 512, 1]⟩
abbrev S512x512 : Shape := ⟨2, ![512, 512]⟩
abbrev S1x128 : Shape := ⟨2, ![1, 128]⟩
abbrev S1x512x1 : Shape := ⟨3, ![1, 512, 1]⟩
abbrev S512x1 : Shape := ⟨2, ![512, 1]⟩
abbrev S512 : Shape := ⟨1, ![512]⟩

abbrev nBuf : Space → Nat
  | .hbm => 46
  | .vmem => 18
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S2048x3072, .f32⟩
  | .hbm, ⟨3, _⟩ => ⟨S2048x1024, .f32⟩
  | .hbm, ⟨4, _⟩ => ⟨S2048x1024, .f32⟩
  | .hbm, ⟨5, _⟩ => ⟨S2048x16x64, .f32⟩
  | .hbm, ⟨6, _⟩ => ⟨S2048x16x64, .f32⟩
  | .hbm, ⟨7, _⟩ => ⟨S16x2048x2048, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .i1⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S_, .f32⟩
  | .hbm, ⟨37, _⟩ => ⟨S16x2048x2048, .i1⟩
  | .hbm, ⟨38, _⟩ => ⟨S16x2048x2048, .f32⟩
  | .hbm, ⟨39, _⟩ => ⟨S16x2048x2048, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S2048x1024, .bf16⟩
  | .hbm, ⟨44, _⟩ => ⟨S2048x1024, .bf16⟩
  | .hbm, ⟨45, _⟩ => ⟨S2048x1024, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x512x1, .f32⟩
  | .local _ .vmem, ⟨7, _⟩ => ⟨S2x512x1, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20_0 : Ref sig .tc := ⟨.hbm, 43, rfl⟩
abbrev main_v20_1 : Ref sig .tc := ⟨.hbm, 44, rfl⟩
abbrev main_v20_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_12 : BitVec 32 := 0#32
  let arg1 : BitVec 32 := BitVec.ofNat 32 (i 1).val
  let c1_i32 : BitVec 32 := 1#32
  let v39 : BitVec 32 := Scalar.muli arg1 c1_i32
  let v41 : BitVec 32 := Scalar.subi v39 c0_i32_12
  let c1_i32_13 : BitVec 32 := 1#32
  let v43 : BitVec 32 := Scalar.divsi v41 c1_i32_13
  let v44 : BitVec 32 := Scalar.muli v43 c1_i32_13
  let v45 : BitVec 32 := Scalar.addi c0_i32_12 v44
  let c1_i32_14 : BitVec 32 := 1#32
  ⟨c0_i32_12, v45, c1_i32_14⟩
def k0_mult1 (i : grid0.Coords) (k0_t1 : Fin (k0_t1_loop i).trips) : BitVec 32 :=
  let c0_i32_12 : BitVec 32 := 0#32
  let c1_i32_14 : BitVec 32 := 1#32
  let arg12 : BitVec 32 := Scf.iv c0_i32_12 c1_i32_14 k0_t1
  let c512_i32 : BitVec 32 := 512#32
  let v102 : BitVec 32 := Scalar.muli arg12 c512_i32
  v102
def k0_off1 (i : grid0.Coords) (k0_t1 : Fin (k0_t1_loop i).trips) : Fin 2 → Nat :=
  let c0_i32_12 : BitVec 32 := 0#32
  let c1_i32_14 : BitVec 32 := 1#32
  let arg12 : BitVec 32 := Scf.iv c0_i32_12 c1_i32_14 k0_t1
  let c512_i32 : BitVec 32 := 512#32
  let v102 : BitVec 32 := Scalar.muli arg12 c512_i32
  let v103 : BitVec 32 := v102
  let v104 : Index := Scalar.indexCast v103
  let c0_45 : Index := 0#32
  ![v104.toNat, 0]
@[reducible] def k0_t2_loop (i : grid0.Coords) : Scf.Loop 32 :=
  let c0_i32_12 : BitVec 32 := 0#32
  let arg1 : BitVec 32 := BitVec.ofNat 32 (i 1).val
  let c1_i32 : BitVec 32 := 1#32
  let v39 : BitVec 32 := Scalar.muli arg1 c1_i32
  let v41 : BitVec 32 := Scalar.subi v39 c0_i32_12
  let c1_i32_13 : BitVec 32 := 1#32
  let v43 : BitVec 32 := Scalar.divsi v41 c1_i32_13
  let v44 : BitVec 32 := Scalar.muli v43 c1_i32_13
  let v45 : BitVec 32 := Scalar.addi c0_i32_12 v44
  let v42 : BitVec 32 := Scalar.addi c0_i32_12 v41
  let c1_i32_15 : BitVec 32 := 1#32
  ⟨v45, v42, c1_i32_15⟩
def k0_mult2 (i : grid0.Coords) (k0_t2 : Fin (k0_t2_loop i).trips) : BitVec 32 :=
  let c0_i32_12 : BitVec 32 := 0#32
  let arg1 : BitVec 32 := BitVec.ofNat 32 (i 1).val
  let c1_i32 : BitVec 32 := 1#32
  let v39 : BitVec 32 := Scalar.muli arg1 c1_i32
  let v41 : BitVec 32 := Scalar.subi v39 c0_i32_12
  let c1_i32_13 : BitVec 32 := 1#32
  let v43 : BitVec 32 := Scalar.divsi v41 c1_i32_13
  let v44 : BitVec 32 := Scalar.muli v43 c1_i32_13
  let v45 : BitVec 32 := Scalar.addi c0_i32_12 v44
  let c1_i32_15 : BitVec 32 := 1#32
  let arg12 : BitVec 32 := Scf.iv v45 c1_i32_15 k0_t2
  let c512_i32 : BitVec 32 := 512#32
  let v102 : BitVec 32 := Scalar.muli arg12 c512_i32
  v102
def k0_off2 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v39 : BitVec 32 := Scalar.muli arg1 c1_i32
  let v41 : BitVec 32 := Scalar.subi v39 c0_i32_12
  let c1_i32_13 : BitVec 32 := 1#32
  let v43 : BitVec 32 := Scalar.divsi v41 c1_i32_13
  let v44 : BitVec 32 := Scalar.muli v43 c1_i32_13
  let v45 : BitVec 32 := Scalar.addi c0_i32_12 v44
  let c1_i32_15 : BitVec 32 := 1#32
  let arg12 : BitVec 32 := Scf.iv v45 c1_i32_15 k0_t2
  let c512_i32 : BitVec 32 := 512#32
  let v102 : BitVec 32 := Scalar.muli arg12 c512_i32
  let v103 : BitVec 32 := v102
  let v104 : Index := Scalar.indexCast v103
  let c0_45 : Index := 0#32
  ![v104.toNat, 0]
@[reducible] def k0_t3_loop (i : grid0.Coords) : Scf.Loop 32 :=
  let arg1 : BitVec 32 := BitVec.ofNat 32 (i 1).val
  let c1_i32 : BitVec 32 := 1#32
  let v39 : BitVec 32 := Scalar.muli arg1 c1_i32
  let c1_i32_16 : BitVec 32 := 1#32
  let v48 : BitVec 32 := Scalar.addi v39 c1_i32_16
  let v49 : BitVec 32 := Scalar.subi v48 v39
  let c1_i32_17 : BitVec 32 := 1#32
  let v51 : BitVec 32 := Scalar.divsi v49 c1_i32_17
  let v52 : BitVec 32 := Scalar.muli v51 c1_i32_17
  let v53 : BitVec 32 := Scalar.addi v39 v52
  let c1_i32_18 : BitVec 32 := 1#32
  ⟨v39, v53, c1_i32_18⟩
def k0_mult3 (i : grid0.Coords) (k0_t3 : Fin (k0_t3_loop i).trips) : BitVec 32 :=
  let arg1 : BitVec 32 := BitVec.ofNat 32 (i 1).val
  let c1_i32 : BitVec 32 := 1#32
  let v39 : BitVec 32 := Scalar.muli arg1 c1_i32
  let c1_i32_18 : BitVec 32 := 1#32
  let arg12 : BitVec 32 := Scf.iv v39 c1_i32_18 k0_t3
  let c512_i32 : BitVec 32 := 512#32
  let v102 : BitVec 32 := Scalar.muli arg12 c512_i32
  v102
def k0_off3 (i : grid0.Coords) (k0_t3 : Fin (k0_t3_loop i).trips) : Fin 2 → Nat :=
  let arg1 : BitVec 32 := BitVec.ofNat 32 (i 1).val
  let c1_i32 : BitVec 32 := 1#32
  let v39 : BitVec 32 := Scalar.muli arg1 c1_i32
  let c1_i32_18 : BitVec 32 := 1#32
  let arg12 : BitVec 32 := Scf.iv v39 c1_i32_18 k0_t3
  let c512_i32 : BitVec 32 := 512#32
  let v102 : BitVec 32 := Scalar.muli arg12 c512_i32
  let v103 : BitVec 32 := v102
  let v104 : Index := Scalar.indexCast v103
  let c0_45 : Index := 0#32
  ![v104.toNat, 0]
@[reducible] def k0_t4_loop (i : grid0.Coords) : Scf.Loop 32 :=
  let arg1 : BitVec 32 := BitVec.ofNat 32 (i 1).val
  let c1_i32 : BitVec 32 := 1#32
  let v39 : BitVec 32 := Scalar.muli arg1 c1_i32
  let c1_i32_16 : BitVec 32 := 1#32
  let v48 : BitVec 32 := Scalar.addi v39 c1_i32_16
  let v49 : BitVec 32 := Scalar.subi v48 v39
  let c1_i32_17 : BitVec 32 := 1#32
  let v51 : BitVec 32 := Scalar.divsi v49 c1_i32_17
  let v52 : BitVec 32 := Scalar.muli v51 c1_i32_17
  let v53 : BitVec 32 := Scalar.addi v39 v52
  let v50 : BitVec 32 := Scalar.addi v39 v49
  let c1_i32_19 : BitVec 32 := 1#32
  ⟨v53, v50, c1_i32_19⟩
def k0_mult4 (i : grid0.Coords) (k0_t4 : Fin (k0_t4_loop i).trips) : BitVec 32 :=
  let arg1 : BitVec 32 := BitVec.ofNat 32 (i 1).val
  let c1_i32 : BitVec 32 := 1#32
  let v39 : BitVec 32 := Scalar.muli arg1 c1_i32
  let c1_i32_16 : BitVec 32 := 1#32
  let v48 : BitVec 32 := Scalar.addi v39 c1_i32_16
  let v49 : BitVec 32 := Scalar.subi v48 v39
  let c1_i32_17 : BitVec 32 := 1#32
  let v51 : BitVec 32 := Scalar.divsi v49 c1_i32_17
  let v52 : BitVec 32 := Scalar.muli v51 c1_i32_17
  let v53 : BitVec 32 := Scalar.addi v39 v52
  let c1_i32_19 : BitVec 32 := 1#32
  let arg12 : BitVec 32 := Scf.iv v53 c1_i32_19 k0_t4
  let c512_i32 : BitVec 32 := 512#32
  let v102 : BitVec 32 := Scalar.muli arg12 c512_i32
  v102
def k0_off4 (i : grid0.Coords) (k0_t4 : Fin (k0_t4_loop i).trips) : Fin 2 → Nat :=
  let arg1 : BitVec 32 := BitVec.ofNat 32 (i 1).val
  let c1_i32 : BitVec 32 := 1#32
  let v39 : BitVec 32 := Scalar.muli arg1 c1_i32
  let c1_i32_16 : BitVec 32 := 1#32
  let v48 : BitVec 32 := Scalar.addi v39 c1_i32_16
  let v49 : BitVec 32 := Scalar.subi v48 v39
  let c1_i32_17 : BitVec 32 := 1#32
  let v51 : BitVec 32 := Scalar.divsi v49 c1_i32_17
  let v52 : BitVec 32 := Scalar.muli v51 c1_i32_17
  let v53 : BitVec 32 := Scalar.addi v39 v52
  let c1_i32_19 : BitVec 32 := 1#32
  let arg12 : BitVec 32 := Scf.iv v53 c1_i32_19 k0_t4
  let c512_i32 : BitVec 32 := 512#32
  let v102 : BitVec 32 := Scalar.muli arg12 c512_i32
  let v103 : BitVec 32 := v102
  let v104 : Index := Scalar.indexCast v103
  let c0_45 : Index := 0#32
  ![v104.toNat, 0]
@[reducible] def k0_t5_loop (i : grid0.Coords) : Scf.Loop 32 :=
  let c0_i32_33 : BitVec 32 := 0#32
  let arg1 : BitVec 32 := BitVec.ofNat 32 (i 1).val
  let c1_i32_31 : BitVec 32 := 1#32
  let v77 : BitVec 32 := Scalar.muli arg1 c1_i32_31
  let v79 : BitVec 32 := Scalar.subi v77 c0_i32_33
  let c1_i32_34 : BitVec 32 := 1#32
  let v81 : BitVec 32 := Scalar.divsi v79 c1_i32_34
  let v82 : BitVec 32 := Scalar.muli v81 c1_i32_34
  let v83 : BitVec 32 := Scalar.addi c0_i32_33 v82
  let c1_i32_35 : BitVec 32 := 1#32
  ⟨c0_i32_33, v83, c1_i32_35⟩
def k0_mult5 (i : grid0.Coords) (k0_t5 : Fin (k0_t5_loop i).trips) : BitVec 32 :=
  let c0_i32_33 : BitVec 32 := 0#32
  let c1_i32_35 : BitVec 32 := 1#32
  let arg12 : BitVec 32 := Scf.iv c0_i32_33 c1_i32_35 k0_t5
  let c512_i32 : BitVec 32 := 512#32
  let v102 : BitVec 32 := Scalar.muli arg12 c512_i32
  v102
def k0_off5 (i : grid0.Coords) (k0_t5 : Fin (k0_t5_loop i).trips) : Fin 2 → Nat :=
  let c0_i32_33 : BitVec 32 := 0#32
  let c1_i32_35 : BitVec 32 := 1#32
  let arg12 : BitVec 32 := Scf.iv c0_i32_33 c1_i32_35 k0_t5
  let c512_i32 : BitVec 32 := 512#32
  let v102 : BitVec 32 := Scalar.muli arg12 c512_i32
  let v103 : BitVec 32 := v102
  let v104 : Index := Scalar.indexCast v103
  let c0_45 : Index := 0#32
  ![v104.toNat, 0]
@[reducible] def k0_t6_loop (i : grid0.Coords) : Scf.Loop 32 :=
  let c0_i32_33 : BitVec 32 := 0#32
  let arg1 : BitVec 32 := BitVec.ofNat 32 (i 1).val
  let c1_i32_31 : BitVec 32 := 1#32
  let v77 : BitVec 32 := Scalar.muli arg1 c1_i32_31
  let v79 : BitVec 32 := Scalar.subi v77 c0_i32_33
  let c1_i32_34 : BitVec 32 := 1#32
  let v81 : BitVec 32 := Scalar.divsi v79 c1_i32_34
  let v82 : BitVec 32 := Scalar.muli v81 c1_i32_34
  let v83 : BitVec 32 := Scalar.addi c0_i32_33 v82
  let v80 : BitVec 32 := Scalar.addi c0_i32_33 v79
  let c1_i32_36 : BitVec 32 := 1#32
  ⟨v83, v80, c1_i32_36⟩
def k0_mult6 (i : grid0.Coords) (k0_t6 : Fin (k0_t6_loop i).trips) : BitVec 32 :=
  let c0_i32_33 : BitVec 32 := 0#32
  let arg1 : BitVec 32 := BitVec.ofNat 32 (i 1).val
  let c1_i32_31 : BitVec 32 := 1#32
  let v77 : BitVec 32 := Scalar.muli arg1 c1_i32_31
  let v79 : BitVec 32 := Scalar.subi v77 c0_i32_33
  let c1_i32_34 : BitVec 32 := 1#32
  let v81 : BitVec 32 := Scalar.divsi v79 c1_i32_34
  let v82 : BitVec 32 := Scalar.muli v81 c1_i32_34
  let v83 : BitVec 32 := Scalar.addi c0_i32_33 v82
  let c1_i32_36 : BitVec 32 := 1#32
  let arg12 : BitVec 32 := Scf.iv v83 c1_i32_36 k0_t6
  let c512_i32 : BitVec 32 := 512#32
  let v102 : BitVec 32 := Scalar.muli arg12 c512_i32
  v102
def k0_off6 (i : grid0.Coords) (k0_t6 : Fin (k0_t6_loop i).trips) : Fin 2 → Nat :=
  let c0_i32_33 : BitVec 32 := 0#32
  let arg1 : BitVec 32 := BitVec.ofNat 32 (i 1).val
  let c1_i32_31 : BitVec 32 := 1#32
  let v77 : BitVec 32 := Scalar.muli arg1 c1_i32_31
  let v79 : BitVec 32 := Scalar.subi v77 c0_i32_33
  let c1_i32_34 : BitVec 32 := 1#32
  let v81 : BitVec 32 := Scalar.divsi v79 c1_i32_34
  let v82 : BitVec 32 := Scalar.muli v81 c1_i32_34
  let v83 : BitVec 32 := Scalar.addi c0_i32_33 v82
  let c1_i32_36 : BitVec 32 := 1#32
  let arg12 : BitVec 32 := Scf.iv v83 c1_i32_36 k0_t6
  let c512_i32 : BitVec 32 := 512#32
  let v102 : BitVec 32 := Scalar.muli arg12 c512_i32
  let v103 : BitVec 32 := v102
  let v104 : Index := Scalar.indexCast v103
  let c0_45 : Index := 0#32
  ![v104.toNat, 0]
@[reducible] def k0_t7_loop (i : grid0.Coords) : Scf.Loop 32 :=
  let arg1 : BitVec 32 := BitVec.ofNat 32 (i 1).val
  let c1_i32_31 : BitVec 32 := 1#32
  let v77 : BitVec 32 := Scalar.muli arg1 c1_i32_31
  let c1_i32_37 : BitVec 32 := 1#32
  let v86 : BitVec 32 := Scalar.addi v77 c1_i32_37
  let v87 : BitVec 32 := Scalar.subi v86 v77
  let c1_i32_38 : BitVec 32 := 1#32
  let v89 : BitVec 32 := Scalar.divsi v87 c1_i32_38
  let v90 : BitVec 32 := Scalar.muli v89 c1_i32_38
  let v91 : BitVec 32 := Scalar.addi v77 v90
  let c1_i32_39 : BitVec 32 := 1#32
  ⟨v77, v91, c1_i32_39⟩
def k0_mult7 (i : grid0.Coords) (k0_t7 : Fin (k0_t7_loop i).trips) : BitVec 32 :=
  let arg1 : BitVec 32 := BitVec.ofNat 32 (i 1).val
  let c1_i32_31 : BitVec 32 := 1#32
  let v77 : BitVec 32 := Scalar.muli arg1 c1_i32_31
  let c1_i32_39 : BitVec 32 := 1#32
  let arg12 : BitVec 32 := Scf.iv v77 c1_i32_39 k0_t7
  let c512_i32 : BitVec 32 := 512#32
  let v102 : BitVec 32 := Scalar.muli arg12 c512_i32
  v102
def k0_off7 (i : grid0.Coords) (k0_t7 : Fin (k0_t7_loop i).trips) : Fin 2 → Nat :=
  let arg1 : BitVec 32 := BitVec.ofNat 32 (i 1).val
  let c1_i32_31 : BitVec 32 := 1#32
  let v77 : BitVec 32 := Scalar.muli arg1 c1_i32_31
  let c1_i32_39 : BitVec 32 := 1#32
  let arg12 : BitVec 32 := Scf.iv v77 c1_i32_39 k0_t7
  let c512_i32 : BitVec 32 := 512#32
  let v102 : BitVec 32 := Scalar.muli arg12 c512_i32
  let v103 : BitVec 32 := v102
  let v104 : Index := Scalar.indexCast v103
  let c0_45 : Index := 0#32
  ![v104.toNat, 0]
@[reducible] def k0_t8_loop (i : grid0.Coords) : Scf.Loop 32 :=
  let arg1 : BitVec 32 := BitVec.ofNat 32 (i 1).val
  let c1_i32_31 : BitVec 32 := 1#32
  let v77 : BitVec 32 := Scalar.muli arg1 c1_i32_31
  let c1_i32_37 : BitVec 32 := 1#32
  let v86 : BitVec 32 := Scalar.addi v77 c1_i32_37
  let v87 : BitVec 32 := Scalar.subi v86 v77
  let c1_i32_38 : BitVec 32 := 1#32
  let v89 : BitVec 32 := Scalar.divsi v87 c1_i32_38
  let v90 : BitVec 32 := Scalar.muli v89 c1_i32_38
  let v91 : BitVec 32 := Scalar.addi v77 v90
  let v88 : BitVec 32 := Scalar.addi v77 v87
  let c1_i32_40 : BitVec 32 := 1#32
  ⟨v91, v88, c1_i32_40⟩
def k0_mult8 (i : grid0.Coords) (k0_t8 : Fin (k0_t8_loop i).trips) : BitVec 32 :=
  let arg1 : BitVec 32 := BitVec.ofNat 32 (i 1).val
  let c1_i32_31 : BitVec 32 := 1#32
  let v77 : BitVec 32 := Scalar.muli arg1 c1_i32_31
  let c1_i32_37 : BitVec 32 := 1#32
  let v86 : BitVec 32 := Scalar.addi v77 c1_i32_37
  let v87 : BitVec 32 := Scalar.subi v86 v77
  let c1_i32_38 : BitVec 32 := 1#32
  let v89 : BitVec 32 := Scalar.divsi v87 c1_i32_38
  let v90 : BitVec 32 := Scalar.muli v89 c1_i32_38
  let v91 : BitVec 32 := Scalar.addi v77 v90
  let c1_i32_40 : BitVec 32 := 1#32
  let arg12 : BitVec 32 := Scf.iv v91 c1_i32_40 k0_t8
  let c512_i32 : BitVec 32 := 512#32
  let v102 : BitVec 32 := Scalar.muli arg12 c512_i32
  v102
def k0_off8 (i : grid0.Coords) (k0_t8 : Fin (k0_t8_loop i).trips) : Fin 2 → Nat :=
  let arg1 : BitVec 32 := BitVec.ofNat 32 (i 1).val
  let c1_i32_31 : BitVec 32 := 1#32
  let v77 : BitVec 32 := Scalar.muli arg1 c1_i32_31
  let c1_i32_37 : BitVec 32 := 1#32
  let v86 : BitVec 32 := Scalar.addi v77 c1_i32_37
  let v87 : BitVec 32 := Scalar.subi v86 v77
  let c1_i32_38 : BitVec 32 := 1#32
  let v89 : BitVec 32 := Scalar.divsi v87 c1_i32_38
  let v90 : BitVec 32 := Scalar.muli v89 c1_i32_38
  let v91 : BitVec 32 := Scalar.addi v77 v90
  let c1_i32_40 : BitVec 32 := 1#32
  let arg12 : BitVec 32 := Scf.iv v91 c1_i32_40 k0_t8
  let c512_i32 : BitVec 32 := 512#32
  let v102 : BitVec 32 := Scalar.muli arg12 c512_i32
  let v103 : BitVec 32 := v102
  let v104 : Index := Scalar.indexCast v103
  let c0_45 : Index := 0#32
  ![v104.toNat, 0]
def k0_cond2 (i : grid0.Coords) : BitVec 1 :=
  let arg1 : BitVec 32 := BitVec.ofNat 32 (i 1).val
  let c3_i32 : BitVec 32 := 3#32
  let v99 : BitVec 1 := Scalar.cmpi .eq arg1 c3_i32
  let v100 : BitVec 32 := Scalar.extui v99
  let c0_i32_44 : BitVec 32 := 0#32
  let v101 : BitVec 1 := Scalar.cmpi .ne v100 c0_i32_44
  v101

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x3072 : Shape := ⟨2, ![2048, 3072]⟩
abbrev S2048x1024 : Shape := ⟨2, ![2048, 1024]⟩
abbrev S2048x16x64 : Shape := ⟨3, ![2048, 16, 64]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩
abbrev S16x2048x64 : Shape := ⟨3, ![16, 2048, 64]⟩

abbrev nBuf : Space → Nat
  | .hbm => 186
  | .vmem => 0
  | .smem => 0
  | _ => 0

abbrev hbmTy0_0 (i : Nat) : BufTy := match i % 128 with
  | 0 => ⟨S2048x3072, .bf16⟩
  | 1 => ⟨S2048x1024, .bf16⟩
  | 2 => ⟨S2048x3072, .f32⟩
  | 3 => ⟨S2048x1024, .f32⟩
  | 4 => ⟨S2048x1024, .f32⟩
  | 5 => ⟨S2048x1024, .f32⟩
  | 6 => ⟨S2048x16x64, .f32⟩
  | 7 => ⟨S2048x16x64, .f32⟩
  | 8 => ⟨S16x2048x2048, .f32⟩
  | 9 => ⟨S_, .f32⟩
  | 10 => ⟨S16x2048x2048, .f32⟩
  | 11 => ⟨S16x2048x2048, .f32⟩
  | 12 => ⟨S16x2048x2048, .f32⟩
  | 13 => ⟨S_, .f32⟩
  | 14 => ⟨S16x2048x2048, .f32⟩
  | 15 => ⟨S16x2048x2048, .f32⟩
  | 16 => ⟨S16x2048x2048, .f32⟩
  | 17 => ⟨S16x2048x2048, .f32⟩
  | 18 => ⟨S16x2048x2048, .i1⟩
  | 19 => ⟨S16x2048x2048, .f32⟩
  | 20 => ⟨S16x2048x2048, .f32⟩
  | 21 => ⟨S16x2048x2048, .f32⟩
  | 22 => ⟨S16x2048x2048, .f32⟩
  | 23 => ⟨S16x2048x2048, .f32⟩
  | 24 => ⟨S16x2048x2048, .f32⟩
  | 25 => ⟨S16x2048x2048, .f32⟩
  | 26 => ⟨S16x2048x2048, .f32⟩
  | 27 => ⟨S_, .f32⟩
  | 28 => ⟨S16x2048x2048, .f32⟩
  | 29 => ⟨S16x2048x2048, .i1⟩
  | 30 => ⟨S_, .f32⟩
  | 31 => ⟨S16x2048x2048, .f32⟩
  | 32 => ⟨S16x2048x2048, .f32⟩
  | 33 => ⟨S_, .f32⟩
  | 34 => ⟨S16x2048x2048, .f32⟩
  | 35 => ⟨S16x2048x2048, .i1⟩
  | 36 => ⟨S_, .f32⟩
  | 37 => ⟨S16x2048x2048, .f32⟩
  | 38 => ⟨S16x2048x2048, .f32⟩
  | 39 => ⟨S16x2048x2048, .f32⟩
  | 40 => ⟨S16x2048x2048, .f32⟩
  | 41 => ⟨S_, .f32⟩
  | 42 => ⟨S_, .f32⟩
  | 43 => ⟨S_, .i1⟩
  | 44 => ⟨S_, .f32⟩
  | 45 => ⟨S_, .f32⟩
  | 46 => ⟨S_, .f32⟩
  | 47 => ⟨S_, .f32⟩
  | 48 => ⟨S16x2048x2048, .f32⟩
  | 49 => ⟨S16x2048x2048, .i1⟩
  | 50 => ⟨S_, .f32⟩
  | 51 => ⟨S16x2048x2048, .f32⟩
  | 52 => ⟨S16x2048x2048, .f32⟩
  | 53 => ⟨S16x2048x2048, .f32⟩
  | 54 => ⟨S16x2048x2048, .f32⟩
  | 55 => ⟨S16x2048x2048, .f32⟩
  | 56 => ⟨S_, .f32⟩
  | 57 => ⟨S16x2048x2048, .f32⟩
  | 58 => ⟨S16x2048x2048, .f32⟩
  | 59 => ⟨S16x2048x2048, .f32⟩
  | 60 => ⟨S2048, .i32⟩
  | 61 => ⟨S1x2048, .i32⟩
  | 62 => ⟨S2048, .i32⟩
  | 63 => ⟨S2048x1, .i32⟩
  | 64 => ⟨S2048x2048, .i32⟩
  | 65 => ⟨S2048x2048, .i32⟩
  | 66 => ⟨S2048x2048, .i1⟩
  | 67 => ⟨S16x2048x2048, .f32⟩
  | 68 => ⟨S16x2048x2048, .f32⟩
  | 69 => ⟨S_, .f32⟩
  | 70 => ⟨S16x2048x2048, .f32⟩
  | 71 => ⟨S16x2048x2048, .f32⟩
  | 72 => ⟨S16x2048x2048, .f32⟩
  | 73 => ⟨S16x2048x2048, .f32⟩
  | 74 => ⟨S16x2048x2048, .i1⟩
  | 75 => ⟨S16x2048x2048, .f32⟩
  | 76 => ⟨S16x2048x2048, .f32⟩
  | 77 => ⟨S16x2048x2048, .f32⟩
  | 78 => ⟨S16x2048x2048, .f32⟩
  | 79 => ⟨S16x2048x2048, .f32⟩
  | 80 => ⟨S16x2048x2048, .f32⟩
  | 81 => ⟨S16x2048x2048, .f32⟩
  | 82 => ⟨S16x2048x2048, .f32⟩
  | 83 => ⟨S_, .f32⟩
  | 84 => ⟨S16x2048x2048, .f32⟩
  | 85 => ⟨S16x2048x2048, .i1⟩
  | 86 => ⟨S_, .f32⟩
  | 87 => ⟨S16x2048x2048, .f32⟩
  | 88 => ⟨S16x2048x2048, .f32⟩
  | 89 => ⟨S_, .f32⟩
  | 90 => ⟨S16x2048x2048, .f32⟩
  | 91 => ⟨S16x2048x2048, .i1⟩
  | 92 => ⟨S_, .f32⟩
  | 93 => ⟨S16x2048x2048, .f32⟩
  | 94 => ⟨S16x2048x2048, .f32⟩
  | 95 => ⟨S16x2048x2048, .f32⟩
  | 96 => ⟨S16x2048x2048, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S16x2048x2048, .f32⟩
  | 105 => ⟨S16x2048x2048, .i1⟩
  | 106 => ⟨S_, .f32⟩
  | 107 => ⟨S16x2048x2048, .f32⟩
  | 108 => ⟨S16x2048x2048, .f32⟩
  | 109 => ⟨S16x2048x2048, .f32⟩
  | 110 => ⟨S16x2048x2048, .f32⟩
  | 111 => ⟨S16x2048x2048, .f32⟩
  | 112 => ⟨S_, .f32⟩
  | 113 => ⟨S16x2048x2048, .f32⟩
  | 114 => ⟨S16x2048x2048, .f32⟩
  | 115 => ⟨S16x2048x2048, .f32⟩
  | 116 => ⟨S_, .f32⟩
  | 117 => ⟨S_, .f32⟩
  | 118 => ⟨S16x2048x2048, .i1⟩
  | 119 => ⟨S16x2048x2048, .f32⟩
  | 120 => ⟨S16x2048x2048, .f32⟩
  | 121 => ⟨S_, .f32⟩
  | 122 => ⟨S16x2048x2048, .f32⟩
  | 123 => ⟨S_, .f32⟩
  | 124 => ⟨S_, .f32⟩
  | 125 => ⟨S16x2048x2048, .f32⟩
  | 126 => ⟨S16x2048x2048, .f32⟩
  | 127 => ⟨S2048, .i32⟩
  | _ => ⟨S2048x3072, .bf16⟩

abbrev hbmTy0_1 (i : Nat) : BufTy := match i % 128 with
  | 0 => ⟨S1x2048, .i32⟩
  | 1 => ⟨S2048, .i32⟩
  | 2 => ⟨S2048x1, .i32⟩
  | 3 => ⟨S2048x2048, .i32⟩
  | 4 => ⟨S2048x2048, .i32⟩
  | 5 => ⟨S2048x2048, .i1⟩
  | 6 => ⟨S16x2048x2048, .f32⟩
  | 7 => ⟨S16x2048x2048, .f32⟩
  | 8 => ⟨S_, .f32⟩
  | 9 => ⟨S_, .f32⟩
  | 10 => ⟨S16x2048x2048, .i1⟩
  | 11 => ⟨S16x2048x2048, .f32⟩
  | 12 => ⟨S16x2048x2048, .f32⟩
  | 13 => ⟨S_, .f32⟩
  | 14 => ⟨S16x2048x2048, .f32⟩
  | 15 => ⟨S2048x16x64, .f32⟩
  | 16 => ⟨S16x64x2048, .f32⟩
  | 17 => ⟨S2048x16x64, .f32⟩
  | 18 => ⟨S2048x1024, .f32⟩
  | 19 => ⟨S2048x1024, .f32⟩
  | 20 => ⟨S2048x16x64, .f32⟩
  | 21 => ⟨S16x64x2048, .f32⟩
  | 22 => ⟨S16x2048x2048, .f32⟩
  | 23 => ⟨S16x64x2048, .f32⟩
  | 24 => ⟨S2048x16x64, .f32⟩
  | 25 => ⟨S2048x1024, .f32⟩
  | 26 => ⟨S_, .f32⟩
  | 27 => ⟨S16x2048x2048, .f32⟩
  | 28 => ⟨S16x2048x2048, .f32⟩
  | 29 => ⟨S16x2048x2048, .f32⟩
  | 30 => ⟨S16x2048x2048, .f32⟩
  | 31 => ⟨S_, .f32⟩
  | 32 => ⟨S_, .f32⟩
  | 33 => ⟨S16x2048x2048, .f32⟩
  | 34 => ⟨S16x2048x2048, .f32⟩
  | 35 => ⟨S_, .f32⟩
  | 36 => ⟨S16x2048x2048, .f32⟩
  | 37 => ⟨S16x2048x2048, .f32⟩
  | 38 => ⟨S16x2048x2048, .f32⟩
  | 39 => ⟨S16x2048x2048, .f32⟩
  | 40 => ⟨S16x2048x2048, .f32⟩
  | 41 => ⟨S16x2048x2048, .f32⟩
  | 42 => ⟨S16x2048x2048, .f32⟩
  | 43 => ⟨S16x2048x2048, .f32⟩
  | 44 => ⟨S16x2048x2048, .f32⟩
  | 45 => ⟨S16x2048x2048, .f32⟩
  | 46 => ⟨S_, .f32⟩
  | 47 => ⟨S16x2048x2048, .f32⟩
  | 48 => ⟨S16x2048x2048, .f32⟩
  | 49 => ⟨S16x2048x64, .f32⟩
  | 50 => ⟨S2048x16x64, .f32⟩
  | 51 => ⟨S16x2048x64, .f32⟩
  | 52 => ⟨S2048x16x64, .f32⟩
  | 53 => ⟨S2048x1024, .f32⟩
  | 54 => ⟨S2048x1024, .f32⟩
  | 55 => ⟨S2048x1024, .bf16⟩
  | 56 => ⟨S2048x1024, .bf16⟩
  | 57 => ⟨S2048x1024, .bf16⟩
  | _ => ⟨S2048x3072, .bf16⟩

abbrev hbmTy (i : Nat) : BufTy := match i / 128 with
  | 0 => hbmTy0_0 i
  | 1 => hbmTy0_1 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1_0 : Ref sig .tc := ⟨.hbm, 26, rfl⟩
abbrev main_call0_call0_cst_0 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_call0_cst_1 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_cst_2 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_cst_3 : Ref sig .tc := ⟨.hbm, 36, rfl⟩
abbrev main_call0_call0_v19 : Ref sig .tc := ⟨.hbm, 37, rfl⟩
abbrev main_call0_call0_v20 : Ref sig .tc := ⟨.hbm, 38, rfl⟩
abbrev main_call0_call0_v21 : Ref sig .tc := ⟨.hbm, 39, rfl⟩
abbrev main_v9_1 : Ref sig .tc := ⟨.hbm, 40, rfl⟩
abbrev main_call0_call0_cst_4 : Ref sig .tc := ⟨.hbm, 41, rfl⟩
abbrev main_call0_call0_cst_5 : Ref sig .tc := ⟨.hbm, 42, rfl⟩
abbrev main_call0_call0_v23 : Ref sig .tc := ⟨.hbm, 43, rfl⟩
abbrev main_call0_call0_cst_6 : Ref sig .tc := ⟨.hbm, 44, rfl⟩
abbrev main_call0_call0_cst_7 : Ref sig .tc := ⟨.hbm, 45, rfl⟩
abbrev main_call0_call0_v24 : Ref sig .tc := ⟨.hbm, 46, rfl⟩
abbrev main_call0_call0_cst_8 : Ref sig .tc := ⟨.hbm, 47, rfl⟩
abbrev main_call0_call0_v25 : Ref sig .tc := ⟨.hbm, 48, rfl⟩
abbrev main_call0_call0_v26 : Ref sig .tc := ⟨.hbm, 49, rfl⟩
abbrev main_call0_call0_cst_9 : Ref sig .tc := ⟨.hbm, 50, rfl⟩
abbrev main_call0_call0_v27 : Ref sig .tc := ⟨.hbm, 51, rfl⟩
abbrev main_call0_call0_v28 : Ref sig .tc := ⟨.hbm, 52, rfl⟩
abbrev main_call0_call0_v29 : Ref sig .tc := ⟨.hbm, 53, rfl⟩
abbrev main_call0_call0_v30 : Ref sig .tc := ⟨.hbm, 54, rfl⟩
abbrev main_call0_call0_v31 : Ref sig .tc := ⟨.hbm, 55, rfl⟩
abbrev main_call0_call0_cst_10 : Ref sig .tc := ⟨.hbm, 56, rfl⟩
abbrev main_call0_call0_v32 : Ref sig .tc := ⟨.hbm, 57, rfl⟩
abbrev main_v9_2 : Ref sig .tc := ⟨.hbm, 58, rfl⟩
abbrev main_v9_0 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1_0 : Ref sig .tc := ⟨.hbm, 82, rfl⟩
abbrev main_call1_call0_cst_0 : Ref sig .tc := ⟨.hbm, 83, rfl⟩
abbrev main_call1_call0_v13 : Ref sig .tc := ⟨.hbm, 84, rfl⟩
abbrev main_call1_call0_v14 : Ref sig .tc := ⟨.hbm, 85, rfl⟩
abbrev main_call1_call0_cst_1 : Ref sig .tc := ⟨.hbm, 86, rfl⟩
abbrev main_call1_call0_v15 : Ref sig .tc := ⟨.hbm, 87, rfl⟩
abbrev main_call1_call0_v16 : Ref sig .tc := ⟨.hbm, 88, rfl⟩
abbrev main_call1_call0_cst_2 : Ref sig .tc := ⟨.hbm, 89, rfl⟩
abbrev main_call1_call0_v17 : Ref sig .tc := ⟨.hbm, 90, rfl⟩
abbrev main_call1_call0_v18 : Ref sig .tc := ⟨.hbm, 91, rfl⟩
abbrev main_call1_call0_cst_3 : Ref sig .tc := ⟨.hbm, 92, rfl⟩
abbrev main_call1_call0_v19 : Ref sig .tc := ⟨.hbm, 93, rfl⟩
abbrev main_call1_call0_v20 : Ref sig .tc := ⟨.hbm, 94, rfl⟩
abbrev main_call1_call0_v21 : Ref sig .tc := ⟨.hbm, 95, rfl⟩
abbrev main_v18_1 : Ref sig .tc := ⟨.hbm, 96, rfl⟩
abbrev main_call1_call0_cst_4 : Ref sig .tc := ⟨.hbm, 97, rfl⟩
abbrev main_call1_call0_cst_5 : Ref sig .tc := ⟨.hbm, 98, rfl⟩
abbrev main_call1_call0_v23 : Ref sig .tc := ⟨.hbm, 99, rfl⟩
abbrev main_call1_call0_cst_6 : Ref sig .tc := ⟨.hbm, 100, rfl⟩
abbrev main_call1_call0_cst_7 : Ref sig .tc := ⟨.hbm, 101, rfl⟩
abbrev main_call1_call0_v24 : Ref sig .tc := ⟨.hbm, 102, rfl⟩
abbrev main_call1_call0_cst_8 : Ref sig .tc := ⟨.hbm, 103, rfl⟩
abbrev main_call1_call0_v25 : Ref sig .tc := ⟨.hbm, 104, rfl⟩
abbrev main_call1_call0_v26 : Ref sig .tc := ⟨.hbm, 105, rfl⟩
abbrev main_call1_call0_cst_9 : Ref sig .tc := ⟨.hbm, 106, rfl⟩
abbrev main_call1_call0_v27 : Ref sig .tc := ⟨.hbm, 107, rfl⟩
abbrev main_call1_call0_v28 : Ref sig .tc := ⟨.hbm, 108, rfl⟩
abbrev main_call1_call0_v29 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_cst_10 : Ref sig .tc := ⟨.hbm, 112, rfl⟩
abbrev main_call1_call0_v32 : Ref sig .tc := ⟨.hbm, 113, rfl⟩
abbrev main_v18_2 : Ref sig .tc := ⟨.hbm, 114, rfl⟩
abbrev main_v18_0 : Ref sig .tc := ⟨.hbm, 115, rfl⟩
abbrev main_cst_0 : Ref sig .tc := ⟨.hbm, 116, rfl⟩
abbrev main_call2_v0 : Ref sig .tc := ⟨.hbm, 117, rfl⟩
abbrev main_v19_1 : Ref sig .tc := ⟨.hbm, 118, rfl⟩
abbrev main_call2_v2 : Ref sig .tc := ⟨.hbm, 119, rfl⟩
abbrev main_v19_0 : Ref sig .tc := ⟨.hbm, 120, rfl⟩
abbrev main_call2_cst : Ref sig .tc := ⟨.hbm, 121, rfl⟩
abbrev main_v19_2 : Ref sig .tc := ⟨.hbm, 122, rfl⟩
abbrev main_call3_cst : Ref sig .tc := ⟨.hbm, 123, rfl⟩
abbrev main_call3_v0 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_cst_1 : Ref sig .tc := ⟨.hbm, 136, rfl⟩
abbrev main_call4_v0 : Ref sig .tc := ⟨.hbm, 137, rfl⟩
abbrev main_v31_1 : Ref sig .tc := ⟨.hbm, 138, rfl⟩
abbrev main_call4_v2 : Ref sig .tc := ⟨.hbm, 139, rfl⟩
abbrev main_v31_0 : Ref sig .tc := ⟨.hbm, 140, rfl⟩
abbrev main_call4_cst : Ref sig .tc := ⟨.hbm, 141, rfl⟩
abbrev main_v31_2 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_call5_cst : Ref sig .tc := ⟨.hbm, 154, rfl⟩
abbrev main_call5_v0 : Ref sig .tc := ⟨.hbm, 155, rfl⟩
abbrev main_v43 : Ref sig .tc := ⟨.hbm, 156, rfl⟩
abbrev main_v44 : Ref sig .tc := ⟨.hbm, 157, rfl⟩
abbrev main_v45 : Ref sig .tc := ⟨.hbm, 158, rfl⟩
abbrev main_call6_cst : Ref sig .tc := ⟨.hbm, 159, rfl⟩
abbrev main_call6_v0 : Ref sig .tc := ⟨.hbm, 160, rfl⟩
abbrev main_v46 : Ref sig .tc := ⟨.hbm, 161, rfl⟩
abbrev main_v47 : Ref sig .tc := ⟨.hbm, 162, rfl⟩
abbrev main_call7_cst : Ref sig .tc := ⟨.hbm, 163, rfl⟩
abbrev main_call7_v0 : Ref sig .tc := ⟨.hbm, 164, rfl⟩
abbrev main_v48 : Ref sig .tc := ⟨.hbm, 165, rfl⟩
abbrev main_call8_v0 : Ref sig .tc := ⟨.hbm, 166, rfl⟩
abbrev main_call8_v1 : Ref sig .tc := ⟨.hbm, 167, rfl⟩
abbrev main_v49 : Ref sig .tc := ⟨.hbm, 168, rfl⟩
abbrev main_v50 : Ref sig .tc := ⟨.hbm, 169, rfl⟩
abbrev main_call9_v0 : Ref sig .tc := ⟨.hbm, 170, rfl⟩
abbrev main_call9_v1 : Ref sig .tc := ⟨.hbm, 171, rfl⟩
abbrev main_v51 : Ref sig .tc := ⟨.hbm, 172, rfl⟩
abbrev main_v52 : Ref sig .tc := ⟨.hbm, 173, rfl⟩
abbrev main_cst_2 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩

abbrev nD : Nat := 1
abbrev τ : Topo := Topo.v7x

variable {F : FTy → Type} [FloatOps F]
-- ==== DxDown.lean ====
abbrev S2048x1024 : Shape := ⟨2, ![2048, 1024]⟩
abbrev S2048x4096 : Shape := ⟨2, ![2048, 4096]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x5376x256 : Shape := ⟨3, ![4, 5376, 256]⟩
abbrev S4x13568x256 : Shape := ⟨3, ![4, 13568, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x5376x256, .bf16⟩
  | .hbm, ⟨11, _⟩ => ⟨S4x13568x256, .bf16⟩
  | .hbm, ⟨12, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg1.toNat, c6_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg1.toNat, c7_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DxDownIdeal.lean ====
abbrev S2048x1024 : Shape := ⟨2, ![2048, 1024]⟩
abbrev S2048x4096 : Shape := ⟨2, ![2048, 4096]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x5376x256 : Shape := ⟨3, ![4, 5376, 256]⟩
abbrev S4x13568x256 : Shape := ⟨3, ![4, 13568, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x5376x256, .bf16⟩
  | .hbm, ⟨11, _⟩ => ⟨S4x13568x256, .bf16⟩
  | .hbm, ⟨12, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg1.toNat, c6_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg1.toNat, c7_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DxDownRefIdeal.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwUp.lean ====
abbrev S2048x1024 : Shape := ⟨2, ![2048, 1024]⟩
abbrev S2048x4096 : Shape := ⟨2, ![2048, 4096]⟩
abbrev S4x13568x256 : Shape := ⟨3, ![4, 13568, 256]⟩
abbrev S1x4096x256 : Shape := ⟨3, ![1, 4096, 256]⟩
abbrev S1024x2048 : Shape := ⟨2, ![1024, 2048]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x13568x256, .bf16⟩
  | .hbm, ⟨3, _⟩ => ⟨S4x13568x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x4096x256, .bf16⟩
  | .local _ .vmem, ⟨4, _⟩ => ⟨S1x4096x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpIdeal.lean ====
abbrev S4x13568x256 : Shape := ⟨3, ![4, 13568, 256]⟩
  | .hbm, ⟨2, _⟩ => ⟨S4x13568x256, .bf16⟩
  | .hbm, ⟨3, _⟩ => ⟨S4x13568x256, .bf16⟩
-- ==== DwUpRefIdeal.lean ====
abbrev S2048x1024 : Shape := ⟨2, ![2048, 1024]⟩
abbrev S2048x4096 : Shape := ⟨2, ![2048, 4096]⟩
abbrev S4x13568x256 : Shape := ⟨3, ![4, 13568, 256]⟩
abbrev S_ : Shape := ⟨0, ![]⟩
abbrev S1024x4096 : Shape := ⟨2, ![1024, 4096]⟩
abbrev S4096x1024 : Shape := ⟨2, ![4096, 1024]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S4x9472x256 : Shape := ⟨3, ![4, 9472, 256]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x13568x256, .bf16⟩
  | .hbm, ⟨3, _⟩ => ⟨S_, .f32⟩
  | .hbm, ⟨4, _⟩ => ⟨S1024x4096, .f32⟩
  | .hbm, ⟨5, _⟩ => ⟨S2048x1024, .f32⟩
  | .hbm, ⟨6, _⟩ => ⟨S2048x4096, .f32⟩
  | .hbm, ⟨7, _⟩ => ⟨S2048x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x4x256, .bf16⟩
  | .hbm, ⟨12, _⟩ => ⟨S4x4x1024x256, .bf16⟩
  | .hbm, ⟨13, _⟩ => ⟨S4x4096x256, .bf16⟩
  | .hbm, ⟨14, _⟩ => ⟨S4x9472x256, .bf16⟩
  | .hbm, ⟨15, _⟩ => ⟨S4x13568x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== DwDown.lean ====
abbrev S2048x4096 : Shape := ⟨2, ![2048, 4096]⟩
abbrev S2048x1024 : Shape := ⟨2, ![2048, 1024]⟩
abbrev S4x13568x256 : Shape := ⟨3, ![4, 13568, 256]⟩
abbrev S1x4096x256 : Shape := ⟨3, ![1, 4096, 256]⟩
abbrev S1024x2048 : Shape := ⟨2, ![1024, 2048]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4x13568x256, .bf16⟩
  | .hbm, ⟨3, _⟩ => ⟨S4x13568x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x4096x256, .bf16⟩
  | .local _ .vmem, ⟨4, _⟩ => ⟨S1x4096x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownIdeal.lean ====
abbrev S4x13568x256 : Shape := ⟨3, ![4, 13568, 256]⟩
  | .hbm, ⟨2, _⟩ => ⟨S4x13568x256, .bf16⟩
  | .hbm, ⟨3, _⟩ => ⟨S4x13568x256, .bf16⟩
-- ==== DwDownRefIdeal.lean ====
abbrev S2048x4096 : Shape := ⟨2, ![2048, 4096]⟩
abbrev S2048x1024 : Shape := ⟨2, ![2048, 1024]⟩
abbrev S4x13568x256 : Shape := ⟨3, ![4, 13568, 256]⟩
abbrev S_ : Shape := ⟨0, ![]⟩
abbrev S4096x1024 : Shape := ⟨2, ![4096, 1024]⟩
abbrev S1024x4096 : Shape := ⟨2, ![1024, 4096]⟩
abbrev S4x4096x256 : Shape := ⟨3, ![4, 4096, 256]⟩
abbrev S4x1024x4x256 : Shape := ⟨4, ![4, 1024, 4, 256]⟩
abbrev S4x4x1024x256 : Shape := ⟨4, ![4, 4, 1024, 256]⟩
abbrev S4x5376x256 : Shape := ⟨3, ![4, 5376, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4x13568x256, .bf16⟩
  | .hbm, ⟨3, _⟩ => ⟨S_, .f32⟩
  | .hbm, ⟨4, _⟩ => ⟨S4096x1024, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x4096x256, .bf16⟩
  | .hbm, ⟨12, _⟩ => ⟨S4x1024x4x256, .bf16⟩
  | .hbm, ⟨13, _⟩ => ⟨S4x4x1024x256, .bf16⟩
  | .hbm, ⟨14, _⟩ => ⟨S4x4096x256, .bf16⟩
  | .hbm, ⟨15, _⟩ => ⟨S4x5376x256, .bf16⟩
  | .hbm, ⟨16, _⟩ => ⟨S4x13568x256, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DxUp.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S_ : Shape := ⟨0, ![]⟩
abbrev S4x9472x256 : Shape := ⟨3, ![4, 9472, 256]⟩
abbrev S4x13568x256 : Shape := ⟨3, ![4, 13568, 256]⟩
abbrev S1x1024 : Shape := ⟨2, ![1, 1024]⟩
abbrev S1024x1024 : Shape := ⟨2, ![1024, 1024]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S1024x4096, .bf16⟩
  | .hbm, ⟨6, _⟩ => ⟨S1024x4x4x256, .bf16⟩
  | .hbm, ⟨7, _⟩ => ⟨S4x4x1024x256, .bf16⟩
  | .hbm, ⟨8, _⟩ => ⟨S4x4096x256, .bf16⟩
  | .hbm, ⟨9, _⟩ => ⟨S_, .bf16⟩
  | .hbm, ⟨10, _⟩ => ⟨S4x9472x256, .bf16⟩
  | .hbm, ⟨11, _⟩ => ⟨S4x13568x256, .bf16⟩
  | .hbm, ⟨12, _⟩ => ⟨S1x1024, .f32⟩
  | .hbm, ⟨13, _⟩ => ⟨S2048x1024, .f32⟩
  | .hbm, ⟨14, _⟩ => ⟨S2048x1024, .bf16⟩
  | .hbm, ⟨15, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_22 : BitVec 32 := 0#32
  let v27 : BitVec 1 := Scalar.cmpi .ne v26 c0_i32_22
  v27

def k0_cond4 (i : grid0.Coords) : BitVec 1 :=
  let arg0 : BitVec 32 := BitVec.ofNat 32 (i 0).val
  let c0_i32_41 : BitVec 32 := 0#32
  let v62 : BitVec 1 := Scalar.cmpi .eq arg0 c0_i32_41
  let v63 : BitVec 32 := Scalar.extui v62
  let c0_i32_42 : BitVec 32 := 0#32
  let v64 : BitVec 1 := Scalar.cmpi .ne v63 c0_i32_42
  v64

def k0_cond5 (i : grid0.Coords) : BitVec 1 :=
  let arg0 : BitVec 32 := BitVec.ofNat 32 (i 0).val
  let c0_i32_43 : BitVec 32 := 0#32
  let v65 : BitVec 1 := Scalar.cmpi .sgt arg0 c0_i32_43
  let v66 : BitVec 32 := Scalar.extui v65
  let c0_i32_44 : BitVec 32 := 0#32
  let v67 : BitVec 1 := Scalar.cmpi .ne v66 c0_i32_44
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg1.toNat, c3_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DxUpIdeal.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S_ : Shape := ⟨0, ![]⟩
abbrev S4x9472x256 : Shape := ⟨3, ![4, 9472, 256]⟩
abbrev S4x13568x256 : Shape := ⟨3, ![4, 13568, 256]⟩
abbrev S1x1024 : Shape := ⟨2, ![1, 1024]⟩
abbrev S1024x1024 : Shape := ⟨2, ![1024, 1024]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S1024x4096, .bf16⟩
  | .hbm, ⟨6, _⟩ => ⟨S1024x4x4x256, .bf16⟩
  | .hbm, ⟨7, _⟩ => ⟨S4x4x1024x256, .bf16⟩
  | .hbm, ⟨8, _⟩ => ⟨S4x4096x256, .bf16⟩
  | .hbm, ⟨9, _⟩ => ⟨S_, .bf16⟩
  | .hbm, ⟨10, _⟩ => ⟨S4x9472x256, .bf16⟩
  | .hbm, ⟨11, _⟩ => ⟨S4x13568x256, .bf16⟩
  | .hbm, ⟨12, _⟩ => ⟨S1x1024, .f32⟩
  | .hbm, ⟨13, _⟩ => ⟨S2048x1024, .f32⟩
  | .hbm, ⟨14, _⟩ => ⟨S2048x1024, .bf16⟩
  | .hbm, ⟨15, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_22 : BitVec 32 := 0#32
  let v27 : BitVec 1 := Scalar.cmpi .ne v26 c0_i32_22
  v27

def k0_cond4 (i : grid0.Coords) : BitVec 1 :=
  let arg0 : BitVec 32 := BitVec.ofNat 32 (i 0).val
  let c0_i32_41 : BitVec 32 := 0#32
  let v62 : BitVec 1 := Scalar.cmpi .eq arg0 c0_i32_41
  let v63 : BitVec 32 := Scalar.extui v62
  let c0_i32_42 : BitVec 32 := 0#32
  let v64 : BitVec 1 := Scalar.cmpi .ne v63 c0_i32_42
  v64

def k0_cond5 (i : grid0.Coords) : BitVec 1 :=
  let arg0 : BitVec 32 := BitVec.ofNat 32 (i 0).val
  let c0_i32_43 : BitVec 32 := 0#32
  let v65 : BitVec 1 := Scalar.cmpi .sgt arg0 c0_i32_43
  let v66 : BitVec 32 := Scalar.extui v65
  let c0_i32_44 : BitVec 32 := 0#32
  let v67 : BitVec 1 := Scalar.cmpi .ne v66 c0_i32_44
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg1.toNat, c3_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DxUpRefIdeal.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Down.lean ====
abbrev S2048x4096 : Shape := ⟨2, ![2048, 4096]⟩
abbrev S2048x1024 : Shape := ⟨2, ![2048, 1024]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x5376x256 : Shape := ⟨3, ![4, 5376, 256]⟩
abbrev S4x13568x256 : Shape := ⟨3, ![4, 13568, 256]⟩
abbrev S1024x4096 : Shape := ⟨2, ![1024, 4096]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x5376x256, .bf16⟩
  | .hbm, ⟨11, _⟩ => ⟨S4x13568x256, .bf16⟩
  | .hbm, ⟨12, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let c0_i32 : BitVec 32 := 0#32
  let c0_i32_0 : BitVec 32 := 0#32
  ![c3_i32.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownIdeal.lean ====
abbrev S2048x4096 : Shape := ⟨2, ![2048, 4096]⟩
abbrev S2048x1024 : Shape := ⟨2, ![2048, 1024]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x5376x256 : Shape := ⟨3, ![4, 5376, 256]⟩
abbrev S4x13568x256 : Shape := ⟨3, ![4, 13568, 256]⟩
abbrev S1024x4096 : Shape := ⟨2, ![1024, 4096]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x5376x256, .bf16⟩
  | .hbm, ⟨11, _⟩ => ⟨S4x13568x256, .bf16⟩
  | .hbm, ⟨12, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let c0_i32 : BitVec 32 := 0#32
  let c0_i32_0 : BitVec 32 := 0#32
  ![c3_i32.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S2048x4096 : Shape := ⟨2, ![2048, 4096]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .hbm, ⟨3, _⟩ => ⟨S2048x4096, .f32⟩
  | .hbm, ⟨4, _⟩ => ⟨S2048x1024, .f32⟩
  | .hbm, ⟨5, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DxDownB.lean ====
abbrev S2048x1024 : Shape := ⟨2, ![2048, 1024]⟩
abbrev S2048x4096 : Shape := ⟨2, ![2048, 4096]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x4352x256 : Shape := ⟨3, ![4, 4352, 256]⟩
abbrev S4x12544x256 : Shape := ⟨3, ![4, 12544, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x4352x256, .bf16⟩
  | .hbm, ⟨11, _⟩ => ⟨S4x12544x256, .bf16⟩
  | .hbm, ⟨12, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg1.toNat, c6_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg1.toNat, c7_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DxDownBIdeal.lean ====
abbrev S2048x1024 : Shape := ⟨2, ![2048, 1024]⟩
abbrev S2048x4096 : Shape := ⟨2, ![2048, 4096]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x4352x256 : Shape := ⟨3, ![4, 4352, 256]⟩
abbrev S4x12544x256 : Shape := ⟨3, ![4, 12544, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x4352x256, .bf16⟩
  | .hbm, ⟨11, _⟩ => ⟨S4x12544x256, .bf16⟩
  | .hbm, ⟨12, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg1.toNat, c6_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg1.toNat, c7_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DxDownBRefIdeal.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwUpB.lean ====
abbrev S2048x1024 : Shape := ⟨2, ![2048, 1024]⟩
abbrev S2048x4096 : Shape := ⟨2, ![2048, 4096]⟩
abbrev S4x12544x256 : Shape := ⟨3, ![4, 12544, 256]⟩
abbrev S1x4096x256 : Shape := ⟨3, ![1, 4096, 256]⟩
abbrev S1024x2048 : Shape := ⟨2, ![1024, 2048]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x12544x256, .bf16⟩
  | .hbm, ⟨3, _⟩ => ⟨S4x12544x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x4096x256, .bf16⟩
  | .local _ .vmem, ⟨4, _⟩ => ⟨S1x4096x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpBIdeal.lean ====
abbrev S4x12544x256 : Shape := ⟨3, ![4, 12544, 256]⟩
  | .hbm, ⟨2, _⟩ => ⟨S4x12544x256, .bf16⟩
  | .hbm, ⟨3, _⟩ => ⟨S4x12544x256, .bf16⟩
-- ==== DwUpBRefIdeal.lean ====
abbrev S2048x1024 : Shape := ⟨2, ![2048, 1024]⟩
abbrev S2048x4096 : Shape := ⟨2, ![2048, 4096]⟩
abbrev S4x12544x256 : Shape := ⟨3, ![4, 12544, 256]⟩
abbrev S_ : Shape := ⟨0, ![]⟩
abbrev S1024x4096 : Shape := ⟨2, ![1024, 4096]⟩
abbrev S4096x1024 : Shape := ⟨2, ![4096, 1024]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S4x8448x256 : Shape := ⟨3, ![4, 8448, 256]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x12544x256, .bf16⟩
  | .hbm, ⟨3, _⟩ => ⟨S_, .f32⟩
  | .hbm, ⟨4, _⟩ => ⟨S1024x4096, .f32⟩
  | .hbm, ⟨5, _⟩ => ⟨S2048x1024, .f32⟩
  | .hbm, ⟨6, _⟩ => ⟨S2048x4096, .f32⟩
  | .hbm, ⟨7, _⟩ => ⟨S2048x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x4x256, .bf16⟩
  | .hbm, ⟨12, _⟩ => ⟨S4x4x1024x256, .bf16⟩
  | .hbm, ⟨13, _⟩ => ⟨S4x4096x256, .bf16⟩
  | .hbm, ⟨14, _⟩ => ⟨S4x8448x256, .bf16⟩
  | .hbm, ⟨15, _⟩ => ⟨S4x12544x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== DwDownB.lean ====
abbrev S2048x4096 : Shape := ⟨2, ![2048, 4096]⟩
abbrev S2048x1024 : Shape := ⟨2, ![2048, 1024]⟩
abbrev S4x12544x256 : Shape := ⟨3, ![4, 12544, 256]⟩
abbrev S1x4096x256 : Shape := ⟨3, ![1, 4096, 256]⟩
abbrev S1024x2048 : Shape := ⟨2, ![1024, 2048]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4x12544x256, .bf16⟩
  | .hbm, ⟨3, _⟩ => ⟨S4x12544x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x4096x256, .bf16⟩
  | .local _ .vmem, ⟨4, _⟩ => ⟨S1x4096x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownBIdeal.lean ====
abbrev S4x12544x256 : Shape := ⟨3, ![4, 12544, 256]⟩
  | .hbm, ⟨2, _⟩ => ⟨S4x12544x256, .bf16⟩
  | .hbm, ⟨3, _⟩ => ⟨S4x12544x256, .bf16⟩
-- ==== DwDownBRefIdeal.lean ====
abbrev S2048x4096 : Shape := ⟨2, ![2048, 4096]⟩
abbrev S2048x1024 : Shape := ⟨2, ![2048, 1024]⟩
abbrev S4x12544x256 : Shape := ⟨3, ![4, 12544, 256]⟩
abbrev S_ : Shape := ⟨0, ![]⟩
abbrev S4096x1024 : Shape := ⟨2, ![4096, 1024]⟩
abbrev S1024x4096 : Shape := ⟨2, ![1024, 4096]⟩
abbrev S4x4096x256 : Shape := ⟨3, ![4, 4096, 256]⟩
abbrev S4x1024x4x256 : Shape := ⟨4, ![4, 1024, 4, 256]⟩
abbrev S4x4x1024x256 : Shape := ⟨4, ![4, 4, 1024, 256]⟩
abbrev S4x4352x256 : Shape := ⟨3, ![4, 4352, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4x12544x256, .bf16⟩
  | .hbm, ⟨3, _⟩ => ⟨S_, .f32⟩
  | .hbm, ⟨4, _⟩ => ⟨S4096x1024, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x4096x256, .bf16⟩
  | .hbm, ⟨12, _⟩ => ⟨S4x1024x4x256, .bf16⟩
  | .hbm, ⟨13, _⟩ => ⟨S4x4x1024x256, .bf16⟩
  | .hbm, ⟨14, _⟩ => ⟨S4x4096x256, .bf16⟩
  | .hbm, ⟨15, _⟩ => ⟨S4x4352x256, .bf16⟩
  | .hbm, ⟨16, _⟩ => ⟨S4x12544x256, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DxUpB.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S_ : Shape := ⟨0, ![]⟩
abbrev S4x8448x256 : Shape := ⟨3, ![4, 8448, 256]⟩
abbrev S4x12544x256 : Shape := ⟨3, ![4, 12544, 256]⟩
abbrev S1x1024 : Shape := ⟨2, ![1, 1024]⟩
abbrev S1024x1024 : Shape := ⟨2, ![1024, 1024]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S1024x4096, .bf16⟩
  | .hbm, ⟨6, _⟩ => ⟨S1024x4x4x256, .bf16⟩
  | .hbm, ⟨7, _⟩ => ⟨S4x4x1024x256, .bf16⟩
  | .hbm, ⟨8, _⟩ => ⟨S4x4096x256, .bf16⟩
  | .hbm, ⟨9, _⟩ => ⟨S_, .bf16⟩
  | .hbm, ⟨10, _⟩ => ⟨S4x8448x256, .bf16⟩
  | .hbm, ⟨11, _⟩ => ⟨S4x12544x256, .bf16⟩
  | .hbm, ⟨12, _⟩ => ⟨S1x1024, .f32⟩
  | .hbm, ⟨13, _⟩ => ⟨S2048x1024, .f32⟩
  | .hbm, ⟨14, _⟩ => ⟨S2048x1024, .bf16⟩
  | .hbm, ⟨15, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_22 : BitVec 32 := 0#32
  let v27 : BitVec 1 := Scalar.cmpi .ne v26 c0_i32_22
  v27

def k0_cond4 (i : grid0.Coords) : BitVec 1 :=
  let arg0 : BitVec 32 := BitVec.ofNat 32 (i 0).val
  let c0_i32_41 : BitVec 32 := 0#32
  let v62 : BitVec 1 := Scalar.cmpi .eq arg0 c0_i32_41
  let v63 : BitVec 32 := Scalar.extui v62
  let c0_i32_42 : BitVec 32 := 0#32
  let v64 : BitVec 1 := Scalar.cmpi .ne v63 c0_i32_42
  v64

def k0_cond5 (i : grid0.Coords) : BitVec 1 :=
  let arg0 : BitVec 32 := BitVec.ofNat 32 (i 0).val
  let c0_i32_43 : BitVec 32 := 0#32
  let v65 : BitVec 1 := Scalar.cmpi .sgt arg0 c0_i32_43
  let v66 : BitVec 32 := Scalar.extui v65
  let c0_i32_44 : BitVec 32 := 0#32
  let v67 : BitVec 1 := Scalar.cmpi .ne v66 c0_i32_44
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg1.toNat, c3_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DxUpBIdeal.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S_ : Shape := ⟨0, ![]⟩
abbrev S4x8448x256 : Shape := ⟨3, ![4, 8448, 256]⟩
abbrev S4x12544x256 : Shape := ⟨3, ![4, 12544, 256]⟩
abbrev S1x1024 : Shape := ⟨2, ![1, 1024]⟩
abbrev S1024x1024 : Shape := ⟨2, ![1024, 1024]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S1024x4096, .bf16⟩
  | .hbm, ⟨6, _⟩ => ⟨S1024x4x4x256, .bf16⟩
  | .hbm, ⟨7, _⟩ => ⟨S4x4x1024x256, .bf16⟩
  | .hbm, ⟨8, _⟩ => ⟨S4x4096x256, .bf16⟩
  | .hbm, ⟨9, _⟩ => ⟨S_, .bf16⟩
  | .hbm, ⟨10, _⟩ => ⟨S4x8448x256, .bf16⟩
  | .hbm, ⟨11, _⟩ => ⟨S4x12544x256, .bf16⟩
  | .hbm, ⟨12, _⟩ => ⟨S1x1024, .f32⟩
  | .hbm, ⟨13, _⟩ => ⟨S2048x1024, .f32⟩
  | .hbm, ⟨14, _⟩ => ⟨S2048x1024, .bf16⟩
  | .hbm, ⟨15, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_22 : BitVec 32 := 0#32
  let v27 : BitVec 1 := Scalar.cmpi .ne v26 c0_i32_22
  v27

def k0_cond4 (i : grid0.Coords) : BitVec 1 :=
  let arg0 : BitVec 32 := BitVec.ofNat 32 (i 0).val
  let c0_i32_41 : BitVec 32 := 0#32
  let v62 : BitVec 1 := Scalar.cmpi .eq arg0 c0_i32_41
  let v63 : BitVec 32 := Scalar.extui v62
  let c0_i32_42 : BitVec 32 := 0#32
  let v64 : BitVec 1 := Scalar.cmpi .ne v63 c0_i32_42
  v64

def k0_cond5 (i : grid0.Coords) : BitVec 1 :=
  let arg0 : BitVec 32 := BitVec.ofNat 32 (i 0).val
  let c0_i32_43 : BitVec 32 := 0#32
  let v65 : BitVec 1 := Scalar.cmpi .sgt arg0 c0_i32_43
  let v66 : BitVec 32 := Scalar.extui v65
  let c0_i32_44 : BitVec 32 := 0#32
  let v67 : BitVec 1 := Scalar.cmpi .ne v66 c0_i32_44
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg1.toNat, c3_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DxUpBRefIdeal.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DownB.lean ====
abbrev S2048x4096 : Shape := ⟨2, ![2048, 4096]⟩
abbrev S2048x1024 : Shape := ⟨2, ![2048, 1024]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x4352x256 : Shape := ⟨3, ![4, 4352, 256]⟩
abbrev S4x12544x256 : Shape := ⟨3, ![4, 12544, 256]⟩
abbrev S1024x4096 : Shape := ⟨2, ![1024, 4096]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x4352x256, .bf16⟩
  | .hbm, ⟨11, _⟩ => ⟨S4x12544x256, .bf16⟩
  | .hbm, ⟨12, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let c0_i32 : BitVec 32 := 0#32
  let c0_i32_0 : BitVec 32 := 0#32
  ![c3_i32.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownBIdeal.lean ====
abbrev S2048x4096 : Shape := ⟨2, ![2048, 4096]⟩
abbrev S2048x1024 : Shape := ⟨2, ![2048, 1024]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x4352x256 : Shape := ⟨3, ![4, 4352, 256]⟩
abbrev S4x12544x256 : Shape := ⟨3, ![4, 12544, 256]⟩
abbrev S1024x4096 : Shape := ⟨2, ![1024, 4096]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x4352x256, .bf16⟩
  | .hbm, ⟨11, _⟩ => ⟨S4x12544x256, .bf16⟩
  | .hbm, ⟨12, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let c0_i32 : BitVec 32 := 0#32
  let c0_i32_0 : BitVec 32 := 0#32
  ![c3_i32.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownBRefIdeal.lean ====
abbrev S2048x4096 : Shape := ⟨2, ![2048, 4096]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .hbm, ⟨3, _⟩ => ⟨S2048x4096, .f32⟩
  | .hbm, ⟨4, _⟩ => ⟨S2048x1024, .f32⟩
  | .hbm, ⟨5, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DxDownC.lean ====
abbrev S2048x1024 : Shape := ⟨2, ![2048, 1024]⟩
abbrev S2048x4096 : Shape := ⟨2, ![2048, 4096]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x6400x256 : Shape := ⟨3, ![4, 6400, 256]⟩
abbrev S4x14592x256 : Shape := ⟨3, ![4, 14592, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x6400x256, .bf16⟩
  | .hbm, ⟨11, _⟩ => ⟨S4x14592x256, .bf16⟩
  | .hbm, ⟨12, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg1.toNat, c6_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg1.toNat, c7_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DxDownCIdeal.lean ====
abbrev S2048x1024 : Shape := ⟨2, ![2048, 1024]⟩
abbrev S2048x4096 : Shape := ⟨2, ![2048, 4096]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x6400x256 : Shape := ⟨3, ![4, 6400, 256]⟩
abbrev S4x14592x256 : Shape := ⟨3, ![4, 14592, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x6400x256, .bf16⟩
  | .hbm, ⟨11, _⟩ => ⟨S4x14592x256, .bf16⟩
  | .hbm, ⟨12, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![arg1.toNat, c6_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![arg1.toNat, c7_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DxDownCRefIdeal.lean ====
abbrev S2048x1024 : Shape := ⟨2, ![2048, 1024]⟩
abbrev S2048x4096 : Shape := ⟨2, ![2048, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4096x1024, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwUpC.lean ====
abbrev S2048x1024 : Shape := ⟨2, ![2048, 1024]⟩
abbrev S2048x4096 : Shape := ⟨2, ![2048, 4096]⟩
abbrev S4x14592x256 : Shape := ⟨3, ![4, 14592, 256]⟩
abbrev S1x4096x256 : Shape := ⟨3, ![1, 4096, 256]⟩
abbrev S1024x2048 : Shape := ⟨2, ![1024, 2048]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x14592x256, .bf16⟩
  | .hbm, ⟨3, _⟩ => ⟨S4x14592x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x4096x256, .bf16⟩
  | .local _ .vmem, ⟨4, _⟩ => ⟨S1x4096x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpCRefIdeal.lean ====
abbrev S2048x1024 : Shape := ⟨2, ![2048, 1024]⟩
abbrev S2048x4096 : Shape := ⟨2, ![2048, 4096]⟩
abbrev S4x14592x256 : Shape := ⟨3, ![4, 14592, 256]⟩
abbrev S_ : Shape := ⟨0, ![]⟩
abbrev S1024x4096 : Shape := ⟨2, ![1024, 4096]⟩
abbrev S4096x1024 : Shape := ⟨2, ![4096, 1024]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S4x10496x256 : Shape := ⟨3, ![4, 10496, 256]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x14592x256, .bf16⟩
  | .hbm, ⟨3, _⟩ => ⟨S_, .f32⟩
  | .hbm, ⟨4, _⟩ => ⟨S1024x4096, .f32⟩
  | .hbm, ⟨5, _⟩ => ⟨S2048x1024, .f32⟩
  | .hbm, ⟨6, _⟩ => ⟨S2048x4096, .f32⟩
  | .hbm, ⟨7, _⟩ => ⟨S2048x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x4x256, .bf16⟩
  | .hbm, ⟨12, _⟩ => ⟨S4x4x1024x256, .bf16⟩
  | .hbm, ⟨13, _⟩ => ⟨S4x4096x256, .bf16⟩
  | .hbm, ⟨14, _⟩ => ⟨S4x10496x256, .bf16⟩
  | .hbm, ⟨15, _⟩ => ⟨S4x14592x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== DwDownC.lean ====
abbrev S2048x4096 : Shape := ⟨2, ![2048, 4096]⟩
abbrev S2048x1024 : Shape := ⟨2, ![2048, 1024]⟩
abbrev S4x14592x256 : Shape := ⟨3, ![4, 14592, 256]⟩
abbrev S1x4096x256 : Shape := ⟨3, ![1, 4096, 256]⟩
abbrev S1024x2048 : Shape := ⟨2, ![1024, 2048]⟩
abbrev S2048x256 : Shape := ⟨2, ![2048, 256]⟩
abbrev S1024x256 : Shape := ⟨2, ![1024, 256]⟩
abbrev S1x1024x256 : Shape := ⟨3, ![1, 1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4x14592x256, .bf16⟩
  | .hbm, ⟨3, _⟩ => ⟨S4x14592x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x4096x256, .bf16⟩
  | .local _ .vmem, ⟨4, _⟩ => ⟨S1x4096x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownCRefIdeal.lean ====
abbrev S2048x4096 : Shape := ⟨2, ![2048, 4096]⟩
abbrev S2048x1024 : Shape := ⟨2, ![2048, 1024]⟩
abbrev S4x14592x256 : Shape := ⟨3, ![4, 14592, 256]⟩
abbrev S_ : Shape := ⟨0, ![]⟩
abbrev S4096x1024 : Shape := ⟨2, ![4096, 1024]⟩
abbrev S1024x4096 : Shape := ⟨2, ![1024, 4096]⟩
abbrev S4x4096x256 : Shape := ⟨3, ![4, 4096, 256]⟩
abbrev S4x1024x4x256 : Shape := ⟨4, ![4, 1024, 4, 256]⟩
abbrev S4x4x1024x256 : Shape := ⟨4, ![4, 4, 1024, 256]⟩
abbrev S4x6400x256 : Shape := ⟨3, ![4, 6400, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4x14592x256, .bf16⟩
  | .hbm, ⟨3, _⟩ => ⟨S_, .f32⟩
  | .hbm, ⟨4, _⟩ => ⟨S4096x1024, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | .hbm, ⟨11, _⟩ => ⟨S4x4096x256, .bf16⟩
  | .hbm, ⟨12, _⟩ => ⟨S4x1024x4x256, .bf16⟩
  | .hbm, ⟨13, _⟩ => ⟨S4x4x1024x256, .bf16⟩
  | .hbm, ⟨14, _⟩ => ⟨S4x4096x256, .bf16⟩
  | .hbm, ⟨15, _⟩ => ⟨S4x6400x256, .bf16⟩
  | .hbm, ⟨16, _⟩ => ⟨S4x14592x256, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DxUpC.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S_ : Shape := ⟨0, ![]⟩
abbrev S4x10496x256 : Shape := ⟨3, ![4, 10496, 256]⟩
abbrev S4x14592x256 : Shape := ⟨3, ![4, 14592, 256]⟩
abbrev S1x1024 : Shape := ⟨2, ![1, 1024]⟩
abbrev S1024x1024 : Shape := ⟨2, ![1024, 1024]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S1024x4096, .bf16⟩
  | .hbm, ⟨6, _⟩ => ⟨S1024x4x4x256, .bf16⟩
  | .hbm, ⟨7, _⟩ => ⟨S4x4x1024x256, .bf16⟩
  | .hbm, ⟨8, _⟩ => ⟨S4x4096x256, .bf16⟩
  | .hbm, ⟨9, _⟩ => ⟨S_, .bf16⟩
  | .hbm, ⟨10, _⟩ => ⟨S4x10496x256, .bf16⟩
  | .hbm, ⟨11, _⟩ => ⟨S4x14592x256, .bf16⟩
  | .hbm, ⟨12, _⟩ => ⟨S1x1024, .f32⟩
  | .hbm, ⟨13, _⟩ => ⟨S2048x1024, .f32⟩
  | .hbm, ⟨14, _⟩ => ⟨S2048x1024, .bf16⟩
  | .hbm, ⟨15, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_22 : BitVec 32 := 0#32
  let v27 : BitVec 1 := Scalar.cmpi .ne v26 c0_i32_22
  v27

def k0_cond4 (i : grid0.Coords) : BitVec 1 :=
  let arg0 : BitVec 32 := BitVec.ofNat 32 (i 0).val
  let c0_i32_41 : BitVec 32 := 0#32
  let v62 : BitVec 1 := Scalar.cmpi .eq arg0 c0_i32_41
  let v63 : BitVec 32 := Scalar.extui v62
  let c0_i32_42 : BitVec 32 := 0#32
  let v64 : BitVec 1 := Scalar.cmpi .ne v63 c0_i32_42
  v64

def k0_cond5 (i : grid0.Coords) : BitVec 1 :=
  let arg0 : BitVec 32 := BitVec.ofNat 32 (i 0).val
  let c0_i32_43 : BitVec 32 := 0#32
  let v65 : BitVec 1 := Scalar.cmpi .sgt arg0 c0_i32_43
  let v66 : BitVec 32 := Scalar.extui v65
  let c0_i32_44 : BitVec 32 := 0#32
  let v67 : BitVec 1 := Scalar.cmpi .ne v66 c0_i32_44
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg1.toNat, c3_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DxUpCIdeal.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S1024x4x4x256 : Shape := ⟨4, ![1024, 4, 4, 256]⟩
abbrev S4x4x1024x256 : Shape := ⟨4, ![4, 4, 1024, 256]⟩
abbrev S4x4096x256 : Shape := ⟨3, ![4, 4096, 256]⟩
abbrev S_ : Shape := ⟨0, ![]⟩
abbrev S4x10496x256 : Shape := ⟨3, ![4, 10496, 256]⟩
abbrev S4x14592x256 : Shape := ⟨3, ![4, 14592, 256]⟩
abbrev S1x1024 : Shape := ⟨2, ![1, 1024]⟩
abbrev S1024x1024 : Shape := ⟨2, ![1024, 1024]⟩
abbrev S1x1024x256 : Shape := ⟨3, ![1, 1024, 256]⟩
abbrev S1024x256 : Shape := ⟨2, ![1024, 256]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S1024x4096, .bf16⟩
  | .hbm, ⟨6, _⟩ => ⟨S1024x4x4x256, .bf16⟩
  | .hbm, ⟨7, _⟩ => ⟨S4x4x1024x256, .bf16⟩
  | .hbm, ⟨8, _⟩ => ⟨S4x4096x256, .bf16⟩
  | .hbm, ⟨9, _⟩ => ⟨S_, .bf16⟩
  | .hbm, ⟨10, _⟩ => ⟨S4x10496x256, .bf16⟩
  | .hbm, ⟨11, _⟩ => ⟨S4x14592x256, .bf16⟩
  | .hbm, ⟨12, _⟩ => ⟨S1x1024, .f32⟩
  | .hbm, ⟨13, _⟩ => ⟨S2048x1024, .f32⟩
  | .hbm, ⟨14, _⟩ => ⟨S2048x1024, .bf16⟩
  | .hbm, ⟨15, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_22 : BitVec 32 := 0#32
  let v27 : BitVec 1 := Scalar.cmpi .ne v26 c0_i32_22
  v27

def k0_cond4 (i : grid0.Coords) : BitVec 1 :=
  let arg0 : BitVec 32 := BitVec.ofNat 32 (i 0).val
  let c0_i32_41 : BitVec 32 := 0#32
  let v62 : BitVec 1 := Scalar.cmpi .eq arg0 c0_i32_41
  let v63 : BitVec 32 := Scalar.extui v62
  let c0_i32_42 : BitVec 32 := 0#32
  let v64 : BitVec 1 := Scalar.cmpi .ne v63 c0_i32_42
  v64

def k0_cond5 (i : grid0.Coords) : BitVec 1 :=
  let arg0 : BitVec 32 := BitVec.ofNat 32 (i 0).val
  let c0_i32_43 : BitVec 32 := 0#32
  let v65 : BitVec 1 := Scalar.cmpi .sgt arg0 c0_i32_43
  let v66 : BitVec 32 := Scalar.extui v65
  let c0_i32_44 : BitVec 32 := 0#32
  let v67 : BitVec 1 := Scalar.cmpi .ne v66 c0_i32_44
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg1.toNat, c3_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== DxUpCRefIdeal.lean ====
abbrev S2048x4096 : Shape := ⟨2, ![2048, 4096]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DownC.lean ====
abbrev S2048x4096 : Shape := ⟨2, ![2048, 4096]⟩
abbrev S2048x1024 : Shape := ⟨2, ![2048, 1024]⟩
abbrev S4096x1024 : Shape := ⟨2, ![4096, 1024]⟩
abbrev S4x1024x4x256 : Shape := ⟨4, ![4, 1024, 4, 256]⟩
abbrev S4x4x1024x256 : Shape := ⟨4, ![4, 4, 1024, 256]⟩
abbrev S4x4096x256 : Shape := ⟨3, ![4, 4096, 256]⟩
abbrev S_ : Shape := ⟨0, ![]⟩
abbrev S4x6400x256 : Shape := ⟨3, ![4, 6400, 256]⟩
abbrev S4x14592x256 : Shape := ⟨3, ![4, 14592, 256]⟩
abbrev S1024x4096 : Shape := ⟨2, ![1024, 4096]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .hbm, ⟨3, _⟩ => ⟨S4096x1024, .bf16⟩
  | .hbm, ⟨4, _⟩ => ⟨S4x1024x4x256, .bf16⟩
  | .hbm, ⟨5, _⟩ => ⟨S4x4x1024x256, .bf16⟩
  | .hbm, ⟨6, _⟩ => ⟨S4x4096x256, .bf16⟩
  | .hbm, ⟨7, _⟩ => ⟨S_, .bf16⟩
  | .hbm, ⟨8, _⟩ => ⟨S4x4096x256, .bf16⟩
  | .hbm, ⟨9, _⟩ => ⟨S_, .bf16⟩
  | .hbm, ⟨10, _⟩ => ⟨S4x6400x256, .bf16⟩
  | .hbm, ⟨11, _⟩ => ⟨S4x14592x256, .bf16⟩
  | .hbm, ⟨12, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c3_i32 : BitVec 32 := 3#32
  let c0_i32 : BitVec 32 := 0#32
  let c0_i32_0 : BitVec 32 := 0#32
  ![c3_i32.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownCRefIdeal.lean ====
abbrev S2048x4096 : Shape := ⟨2, ![2048, 4096]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .f32⟩
  | .hbm, ⟨3, _⟩ => ⟨S2048x4096, .f32⟩
  | .hbm, ⟨4, _⟩ => ⟨S2048x1024, .f32⟩
  | .hbm, ⟨5, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DxIn.lean ====
abbrev S2048x3072 : Shape := ⟨2, ![2048, 3072]⟩
abbrev S2048x1024 : Shape := ⟨2, ![2048, 1024]⟩
abbrev S1024 : Shape := ⟨1, ![1024]⟩
abbrev S1024x3072 : Shape := ⟨2, ![1024, 3072]⟩
abbrev S1024x4x3x256 : Shape := ⟨4, ![1024, 4, 3, 256]⟩
abbrev S4x3x1024x256 : Shape := ⟨4, ![4, 3, 1024, 256]⟩
abbrev S4x3072x256 : Shape := ⟨3, ![4, 3072, 256]⟩
abbrev S_ : Shape := ⟨0, ![]⟩
abbrev S4x8192x256 : Shape := ⟨3, ![4, 8192, 256]⟩
abbrev S4x2304x256 : Shape := ⟨3, ![4, 2304, 256]⟩
abbrev S4x13568x256 : Shape := ⟨3, ![4, 13568, 256]⟩
abbrev S1x1024 : Shape := ⟨2, ![1, 1024]⟩
abbrev S1024x768 : Shape := ⟨2, ![1024, 768]⟩
abbrev S1x1024x256 : Shape := ⟨3, ![1, 1024, 256]⟩
abbrev S1024x1024 : Shape := ⟨2, ![1024, 1024]⟩
abbrev S1024x256 : Shape := ⟨2, ![1024, 256]⟩
abbrev S1024x1 : Shape := ⟨2, ![1024, 1]⟩

abbrev nBuf : Space → Nat
  | .hbm => 18
  | .vmem => 19
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x3072, .f32⟩
  | .hbm, ⟨5, _⟩ => ⟨S1024x3072, .bf16⟩
  | .hbm, ⟨6, _⟩ => ⟨S1024x4x3x256, .bf16⟩
  | .hbm, ⟨7, _⟩ => ⟨S4x3x1024x256, .bf16⟩
  | .hbm, ⟨8, _⟩ => ⟨S4x3072x256, .bf16⟩
  | .hbm, ⟨9, _⟩ => ⟨S_, .bf16⟩
  | .hbm, ⟨10, _⟩ => ⟨S4x8192x256, .bf16⟩
  | .hbm, ⟨11, _⟩ => ⟨S_, .bf16⟩
  | .hbm, ⟨12, _⟩ => ⟨S4x2304x256, .bf16⟩
  | .hbm, ⟨13, _⟩ => ⟨S4x13568x256, .bf16⟩
  | .hbm, ⟨14, _⟩ => ⟨S1x1024, .f32⟩
  | .hbm, ⟨15, _⟩ => ⟨S2048x1024, .f32⟩
  | .hbm, ⟨16, _⟩ => ⟨S2048x1024, .bf16⟩
  | .hbm, ⟨17, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_17 : BitVec 32 := 0#32
  let v22 : BitVec 1 := Scalar.cmpi .ne v21 c0_i32_17
  v22

def k0_cond4 (i : grid0.Coords) : BitVec 1 :=
  let arg0 : BitVec 32 := BitVec.ofNat 32 (i 0).val
  let c0_i32_36 : BitVec 32 := 0#32
  let v57 : BitVec 1 := Scalar.cmpi .eq arg0 c0_i32_36
  let v58 : BitVec 32 := Scalar.extui v57
  let c0_i32_37 : BitVec 32 := 0#32
  let v59 : BitVec 1 := Scalar.cmpi .ne v58 c0_i32_37
  v59

def k0_cond5 (i : grid0.Coords) : BitVec 1 :=
  let arg0 : BitVec 32 := BitVec.ofNat 32 (i 0).val
  let c0_i32_38 : BitVec 32 := 0#32
  let v60 : BitVec 1 := Scalar.cmpi .sgt arg0 c0_i32_38
  let v61 : BitVec 32 := Scalar.extui v60
  let c0_i32_39 : BitVec 32 := 0#32
  let v62 : BitVec 1 := Scalar.cmpi .ne v61 c0_i32_39
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg1.toNat, c8_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  ![arg1.toNat, c9_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![arg1.toNat, c10_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== DxInRefIdeal.lean ====
abbrev S2048x3072 : Shape := ⟨2, ![2048, 3072]⟩
abbrev S2048x1024 : Shape := ⟨2, ![2048, 1024]⟩
abbrev S1024 : Shape := ⟨1, ![1024]⟩
abbrev S1024x3072 : Shape := ⟨2, ![1024, 3072]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S1024, .f32⟩
  | .hbm, ⟨3, _⟩ => ⟨S2048x1024, .f32⟩
  | .hbm, ⟨4, _⟩ => ⟨S1024x3072, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x3072, .f32⟩
  | .hbm, ⟨26, _⟩ => ⟨S2048x3072, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== DwIn.lean ====
abbrev S2048x1024 : Shape := ⟨2, ![2048, 1024]⟩
abbrev S2048x3072 : Shape := ⟨2, ![2048, 3072]⟩
abbrev S4x13568x256 : Shape := ⟨3, ![4, 13568, 256]⟩
abbrev S2048x256 : Shape := ⟨2, ![2048, 256]⟩
abbrev S1x1024x256 : Shape := ⟨3, ![1, 1024, 256]⟩
abbrev S1024x2048 : Shape := ⟨2, ![1024, 2048]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S4x13568x256, .bf16⟩
  | .hbm, ⟨3, _⟩ => ⟨S4x13568x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S2048x1024 : Shape := ⟨2, ![2048, 1024]⟩
abbrev S2048x3072 : Shape := ⟨2, ![2048, 3072]⟩
abbrev S4x13568x256 : Shape := ⟨3, ![4, 13568, 256]⟩
abbrev S_ : Shape := ⟨0, ![]⟩
abbrev S1024x3072 : Shape := ⟨2, ![1024, 3072]⟩
abbrev S3072x1024 : Shape := ⟨2, ![3072, 1024]⟩
abbrev S4x8192x256 : Shape := ⟨3, ![4, 8192, 256]⟩
abbrev S1024x4x3x256 : Shape := ⟨4, ![1024, 4, 3, 256]⟩
abbrev S4x3x1024x256 : Shape := ⟨4, ![4, 3, 1024, 256]⟩
abbrev S4x3072x256 : Shape := ⟨3, ![4, 3072, 256]⟩
abbrev S4x2304x256 : Shape := ⟨3, ![4, 2304, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S4x13568x256, .bf16⟩
  | .hbm, ⟨3, _⟩ => ⟨S_, .f32⟩
  | .hbm, ⟨4, _⟩ => ⟨S1024x3072, .f32⟩
  | .hbm, ⟨5, _⟩ => ⟨S2048x1024, .f32⟩
  | .hbm, ⟨6, _⟩ => ⟨S2048x3072, .f32⟩
  | .hbm, ⟨7, _⟩ => ⟨S2048x3072, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S4x8192x256, .bf16⟩
  | .hbm, ⟨12, _⟩ => ⟨S1024x4x3x256, .bf16⟩
  | .hbm, ⟨13, _⟩ => ⟨S4x3x1024x256, .bf16⟩
  | .hbm, ⟨14, _⟩ => ⟨S4x3072x256, .bf16⟩
  | .hbm, ⟨15, _⟩ => ⟨S4x2304x256, .bf16⟩
  | .hbm, ⟨16, _⟩ => ⟨S4x13568x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Out.lean ====
abbrev S2048x1024 : Shape := ⟨2, ![2048, 1024]⟩
abbrev S1024x1024 : Shape := ⟨2, ![1024, 1024]⟩
abbrev S4x256x4x256 : Shape := ⟨4, ![4, 256, 4, 256]⟩
abbrev S4x4x256x256 : Shape := ⟨4, ![4, 4, 256, 256]⟩
abbrev S4x1024x256 : Shape := ⟨3, ![4, 1024, 256]⟩
abbrev S_ : Shape := ⟨0, ![]⟩
abbrev S4x11264x256 : Shape := ⟨3, ![4, 11264, 256]⟩
abbrev S4x1280x256 : Shape := ⟨3, ![4, 1280, 256]⟩
abbrev S4x13568x256 : Shape := ⟨3, ![4, 13568, 256]⟩
abbrev S1x256x256 : Shape := ⟨3, ![1, 256, 256]⟩
abbrev S2048x256 : Shape := ⟨2, ![2048, 256]⟩
abbrev S256x256 : Shape := ⟨2, ![256, 256]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .f32⟩
  | .hbm, ⟨3, _⟩ => ⟨S1024x1024, .bf16⟩
  | .hbm, ⟨4, _⟩ => ⟨S4x256x4x256, .bf16⟩
  | .hbm, ⟨5, _⟩ => ⟨S4x4x256x256, .bf16⟩
  | .hbm, ⟨6, _⟩ => ⟨S4x1024x256, .bf16⟩
  | .hbm, ⟨7, _⟩ => ⟨S_, .bf16⟩
  | .hbm, ⟨8, _⟩ => ⟨S4x11264x256, .bf16⟩
  | .hbm, ⟨9, _⟩ => ⟨S_, .bf16⟩
  | .hbm, ⟨10, _⟩ => ⟨S4x1280x256, .bf16⟩
  | .hbm, ⟨11, _⟩ => ⟨S4x13568x256, .bf16⟩
  | .hbm, ⟨12, _⟩ => ⟨S2048x1024, .f32⟩
  | .local _ .vmem, ⟨0, _⟩ => ⟨S2048x1024, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c3_i32 : BitVec 32 := 3#32
  let c0_i32 : BitVec 32 := 0#32
  let c0_i32_0 : BitVec 32 := 0#32
  ![c3_i32.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DxOut.lean ====
abbrev S2048x1024 : Shape := ⟨2, ![2048, 1024]⟩
abbrev S1024x1024 : Shape := ⟨2, ![1024, 1024]⟩
abbrev S4x256x4x256 : Shape := ⟨4, ![4, 256, 4, 256]⟩
abbrev S4x4x256x256 : Shape := ⟨4, ![4, 4, 256, 256]⟩
abbrev S4x1024x256 : Shape := ⟨3, ![4, 1024, 256]⟩
abbrev S_ : Shape := ⟨0, ![]⟩
abbrev S4x11264x256 : Shape := ⟨3, ![4, 11264, 256]⟩
abbrev S4x1280x256 : Shape := ⟨3, ![4, 1280, 256]⟩
abbrev S4x13568x256 : Shape := ⟨3, ![4, 13568, 256]⟩
abbrev S1x256x256 : Shape := ⟨3, ![1, 256, 256]⟩
abbrev S2048x256 : Shape := ⟨2, ![2048, 256]⟩
abbrev S256x256 : Shape := ⟨2, ![256, 256]⟩

abbrev nBuf : Space → Nat
  | .hbm => 12
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S4x256x4x256, .bf16⟩
  | .hbm, ⟨4, _⟩ => ⟨S4x4x256x256, .bf16⟩
  | .hbm, ⟨5, _⟩ => ⟨S4x1024x256, .bf16⟩
  | .hbm, ⟨6, _⟩ => ⟨S_, .bf16⟩
  | .hbm, ⟨7, _⟩ => ⟨S4x11264x256, .bf16⟩
  | .hbm, ⟨8, _⟩ => ⟨S_, .bf16⟩
  | .hbm, ⟨9, _⟩ => ⟨S4x1280x256, .bf16⟩
  | .hbm, ⟨10, _⟩ => ⟨S4x13568x256, .bf16⟩
  | .hbm, ⟨11, _⟩ => ⟨S2048x1024, .bf16⟩
  | .local _ .vmem, ⟨0, _⟩ => ⟨S2048x1024, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c44_i32 : BitVec 32 := 44#32
  let c0_i32 : BitVec 32 := 0#32
  let c0_i32_0 : BitVec 32 := 0#32
  ![arg1.toNat, c44_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c45_i32 : BitVec 32 := 45#32
  let c0_i32 : BitVec 32 := 0#32
  let c0_i32_0 : BitVec 32 := 0#32
  ![arg1.toNat, c45_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c46_i32 : BitVec 32 := 46#32
  let c0_i32 : BitVec 32 := 0#32
  let c0_i32_0 : BitVec 32 := 0#32
  ![arg1.toNat, c46_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c47_i32 : BitVec 32 := 47#32
  let c0_i32 : BitVec 32 := 0#32
  let c0_i32_0 : BitVec 32 := 0#32
  ![arg1.toNat, c47_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DxOutRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S2048x1024 : Shape := ⟨2, ![2048, 1024]⟩
abbrev S4x13568x256 : Shape := ⟨3, ![4, 13568, 256]⟩
abbrev S2048x256 : Shape := ⟨2, ![2048, 256]⟩
abbrev S1x1024x256 : Shape := ⟨3, ![1, 1024, 256]⟩
abbrev S256x2048 : Shape := ⟨2, ![256, 2048]⟩
abbrev S256x256 : Shape := ⟨2, ![256, 256]⟩
abbrev S1x256x256 : Shape := ⟨3, ![1, 256, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x13568x256, .bf16⟩
  | .hbm, ⟨3, _⟩ => ⟨S4x13568x256, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![arg0.toNat, v0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutRefIdeal.lean ====
abbrev S2048x1024 : Shape := ⟨2, ![2048, 1024]⟩
abbrev S4x13568x256 : Shape := ⟨3, ![4, 13568, 256]⟩
abbrev S_ : Shape := ⟨0, ![]⟩
abbrev S1024x1024 : Shape := ⟨2, ![1024, 1024]⟩
abbrev S4x11264x256 : Shape := ⟨3, ![4, 11264, 256]⟩
abbrev S4x256x4x256 : Shape := ⟨4, ![4, 256, 4, 256]⟩
abbrev S4x4x256x256 : Shape := ⟨4, ![4, 4, 256, 256]⟩
abbrev S4x1024x256 : Shape := ⟨3, ![4, 1024, 256]⟩
abbrev S4x1280x256 : Shape := ⟨3, ![4, 1280, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x13568x256, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S4x11264x256, .bf16⟩
  | .hbm, ⟨12, _⟩ => ⟨S4x256x4x256, .bf16⟩
  | .hbm, ⟨13, _⟩ => ⟨S4x4x256x256, .bf16⟩
  | .hbm, ⟨14, _⟩ => ⟨S4x1024x256, .bf16⟩
  | .hbm, ⟨15, _⟩ => ⟨S4x1280x256, .bf16⟩
  | .hbm, ⟨16, _⟩ => ⟨S4x13568x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DxGate.lean ====
abbrev S2048x1024 : Shape := ⟨2, ![2048, 1024]⟩
abbrev S1024x1024 : Shape := ⟨2, ![1024, 1024]⟩
abbrev S4x256x4x256 : Shape := ⟨4, ![4, 256, 4, 256]⟩
abbrev S4x4x256x256 : Shape := ⟨4, ![4, 4, 256, 256]⟩
abbrev S4x1024x256 : Shape := ⟨3, ![4, 1024, 256]⟩
abbrev S_ : Shape := ⟨0, ![]⟩
abbrev S4x12288x256 : Shape := ⟨3, ![4, 12288, 256]⟩
abbrev S4x256x256 : Shape := ⟨3, ![4, 256, 256]⟩
abbrev S4x13568x256 : Shape := ⟨3, ![4, 13568, 256]⟩
abbrev S1x256x256 : Shape := ⟨3, ![1, 256, 256]⟩
abbrev S2048x256 : Shape := ⟨2, ![2048, 256]⟩
abbrev S256x256 : Shape := ⟨2, ![256, 256]⟩

abbrev nBuf : Space → Nat
  | .hbm => 12
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S4x256x4x256, .bf16⟩
  | .hbm, ⟨4, _⟩ => ⟨S4x4x256x256, .bf16⟩
  | .hbm, ⟨5, _⟩ => ⟨S4x1024x256, .bf16⟩
  | .hbm, ⟨6, _⟩ => ⟨S_, .bf16⟩
  | .hbm, ⟨7, _⟩ => ⟨S4x12288x256, .bf16⟩
  | .hbm, ⟨8, _⟩ => ⟨S_, .bf16⟩
  | .hbm, ⟨9, _⟩ => ⟨S4x256x256, .bf16⟩
  | .hbm, ⟨10, _⟩ => ⟨S4x13568x256, .bf16⟩
  | .hbm, ⟨11, _⟩ => ⟨S2048x1024, .f32⟩
  | .local _ .vmem, ⟨0, _⟩ => ⟨S2048x1024, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S2048x256, .f32⟩
  | .local _ .vmem, ⟨10, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  let c0_i32_0 : BitVec 32 := 0#32
  ![arg1.toNat, c48_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c49_i32 : BitVec 32 := 49#32
  let c0_i32 : BitVec 32 := 0#32
  let c0_i32_0 : BitVec 32 := 0#32
  ![arg1.toNat, c49_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c50_i32 : BitVec 32 := 50#32
  let c0_i32 : BitVec 32 := 0#32
  let c0_i32_0 : BitVec 32 := 0#32
  ![arg1.toNat, c50_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c51_i32 : BitVec 32 := 51#32
  let c0_i32 : BitVec 32 := 0#32
  let c0_i32_0 : BitVec 32 := 0#32
  ![arg1.toNat, c51_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DxGateRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwGate.lean ====
abbrev S2048x1024 : Shape := ⟨2, ![2048, 1024]⟩
abbrev S4x13568x256 : Shape := ⟨3, ![4, 13568, 256]⟩
abbrev S2048x256 : Shape := ⟨2, ![2048, 256]⟩
abbrev S1x1024x256 : Shape := ⟨3, ![1, 1024, 256]⟩
abbrev S256x2048 : Shape := ⟨2, ![256, 2048]⟩
abbrev S256x256 : Shape := ⟨2, ![256, 256]⟩
abbrev S1x256x256 : Shape := ⟨3, ![1, 256, 256]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x13568x256, .bf16⟩
  | .hbm, ⟨3, _⟩ => ⟨S4x13568x256, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, v0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwGateRefIdeal.lean ====
abbrev S2048x1024 : Shape := ⟨2, ![2048, 1024]⟩
abbrev S4x13568x256 : Shape := ⟨3, ![4, 13568, 256]⟩
abbrev S_ : Shape := ⟨0, ![]⟩
abbrev S1024x1024 : Shape := ⟨2, ![1024, 1024]⟩
abbrev S4x12288x256 : Shape := ⟨3, ![4, 12288, 256]⟩
abbrev S4x256x4x256 : Shape := ⟨4, ![4, 256, 4, 256]⟩
abbrev S4x4x256x256 : Shape := ⟨4, ![4, 4, 256, 256]⟩
abbrev S4x1024x256 : Shape := ⟨3, ![4, 1024, 256]⟩
abbrev S4x256x256 : Shape := ⟨3, ![4, 256, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x13568x256, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S4x12288x256, .bf16⟩
  | .hbm, ⟨12, _⟩ => ⟨S4x256x4x256, .bf16⟩
  | .hbm, ⟨13, _⟩ => ⟨S4x4x256x256, .bf16⟩
  | .hbm, ⟨14, _⟩ => ⟨S4x1024x256, .bf16⟩
  | .hbm, ⟨15, _⟩ => ⟨S4x256x256, .bf16⟩
  | .hbm, ⟨16, _⟩ => ⟨S4x13568x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.DxDownEq.lean ====
module
public import proofs.«01_k».proof.Proof.Gen.DxDownIdeal.Value
public import proofs.«01_k».proof.Proof.Gen.DxDownRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxDownIdeal.Eq

open Idealize.ShloMosaic Idealize.ShloMosaic.TcCoe Cert.DxDownIdeal.Gen Finset
open Cert.DxDownIdeal.Value

variable (m : (ℓ : Loc nD τ sig) → Buf (Elt Ideal) ℓ) (c : Dev nD)

theorem at1 : ∀ t : Fin grid0.N, cc0_transform_1 (grid0.coords t) 0 = t.val % 4 ∧ cc0_transform_1 (grid0.coords t) 1 = 4 ∧ cc0_transform_1 (grid0.coords t) 2 = 0 := by decide +kernel
theorem at2 : ∀ t : Fin grid0.N, cc0_transform_2 (grid0.coords t) 0 = t.val % 4 ∧ cc0_transform_2 (grid0.coords t) 1 = 5 ∧ cc0_transform_2 (grid0.coords t) 2 = 0 := by decide +kernel
theorem at3 : ∀ t : Fin grid0.N, cc0_transform_3 (grid0.coords t) 0 = t.val % 4 ∧ cc0_transform_3 (grid0.coords t) 1 = 6 ∧ cc0_transform_3 (grid0.coords t) 2 = 0 := by decide +kernel
theorem at4 : ∀ t : Fin grid0.N, cc0_transform_4 (grid0.coords t) 0 = t.val % 4 ∧ cc0_transform_4 (grid0.coords t) 1 = 7 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel
theorem at6 : ∀ t : Fin grid0.N, cc0_transform_6 (grid0.coords t) 0 = t.val / 4 ∧ cc0_transform_6 (grid0.coords t) 1 = t.val % 4 := by decide +kernel

theorem packed : V m c main_v6 = concatenate S4x13568x256 1 [⟨S4x4096x256, broadcastInDim S4x4096x256 ![] bcast_S_S4x4096x256 (constant (F := Ideal) S_ .bf16 0x0000#16)⟩,
      ⟨S4x4096x256, shapeCast S4x4096x256 (transpose S4x4x1024x256 [0, 2, 1, 3] (shapeCast S4x1024x4x256 (truncf (F := Ideal) .bf16 (m ((c : Thread nD τ).loc main_arg2)) bitsLt_bf16_f32) shapeCasts_S4096x1024_S4x1024x4x256) transposes_S4x1024x4x256_S4x4x1024x256_0_2_1_3) shapeCasts_S4x4x1024x256_S4x4096x256⟩,
      ⟨S4x5376x256, broadcastInDim S4x5376x256 ![] bcast_S_S4x5376x256 (constant (F := Ideal) S_ .bf16 0x0000#16)⟩] concatenates_S4x4096x256_S4x4096x256_S4x5376x256_S4x13568x256_d1 := by
  unfold V
  simp only [hostOps0]
  after_reads_simp
  rfl

/-- Where the packed buffer holds the weight: slab `a`, rows of its part `b`, is rows of part `a` and columns of part `b`. -/
theorem entry (a b : Fin 4) (r : Fin 1024) (k : Fin 256) :
    V m c main_v6 (ix3 a (⟨4096 + (1024 * b.val + r.val), by omega⟩ : Fin 13568) k)
      = m ((c : Thread nD τ).loc main_arg2) (ix2 (⟨1024 * a.val + r.val, by omega⟩ : Fin 4096) (⟨256 * b.val + k.val, by omega⟩ : Fin 1024)) := by
  rw [packed]
  refine (concatenate_apply_piece (t := S4x13568x256) (1 : Fin 3) _ _ _ 1 (by exact Nat.lt_of_sub_eq_succ rfl) S4x4096x256 _ (by rfl) rfl 4096 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  rfl

theorem blk0 (t : Fin cfg0.N) (r : Fin 1024) (k : Fin 1024) (i : S2048x1024.Idx) (h0 : (i 0).val = 1024 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * r.val = (i 0).val; rw [a0, h0]; omega
  | ⟨1, _⟩ => show cc0_transform_0 (grid0.coords t) 1 * 1024 + 1 * k.val = (i 1).val; rw [a1, h1]; omega

theorem blk5 (t : Fin cfg0.N) (r : Fin 1024) (k : Fin 1024) (i : S2048x4096.Idx) (h0 : (i 0).val = 1024 * (t.val / 4) + r.val) (h1 : (i 1).val = 1024 * (t.val % 4) + k.val) :
    iblk m c 5 t (ix2 r k) = m ((c : Thread nD τ).loc main_arg1) i := by
  rw [← V_main_arg1 m c]
  unfold iblk
  have ⟨a0, a1⟩ := at5 t
  refine congrArg (V m c main_arg1) (funext fun a => Fin.ext ?_)
  match a with
  | ⟨0, _⟩ => show cc0_transform_5 (grid0.coords t) 0 * 1024 + 1 * r.val = (i 0).val; rw [a0, h0]; omega
  | ⟨1, _⟩ => show cc0_transform_5 (grid0.coords t) 1 * 1024 + 1 * k.val = (i 1).val; rw [a1, h1]; omega

theorem blk1 (t : Fin cfg0.N) (r : Fin 1024) (k : Fin 256) (i : S4096x1024.Idx) (h0 : (i 0).val = 1024 * (t.val % 4) + r.val) (h1 : (i 1).val = 0 + k.val) :
    X0_1 m c t (ix3 (0 : Fin 1) r k) = m ((c : Thread nD τ).loc main_arg2) i := by
  have hi : i = ix2 (⟨1024 * (t.val % 4) + r.val, by omega⟩ : Fin 4096) (⟨256 * 0 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold X0_1 Pipeline.Window.fill
  rw [dif_pos (moved0_1 t _)]
  unfold iblk
  have ⟨a0, a1, a2⟩ := at1 t
  refine congrArg (V m c main_v6) (funext fun a => Fin.ext ?_)
  match a with
  | ⟨0, _⟩ => show cc0_transform_1 (grid0.coords t) 0 * 1 + 1 * 0 = t.val % 4; rw [a0]; omega
  | ⟨1, _⟩ => show cc0_transform_1 (grid0.coords t) 1 * 1024 + 1 * r.val = 4096 + (1024 * 0 + r.val); rw [a1]; omega
  | ⟨2, _⟩ => show cc0_transform_1 (grid0.coords t) 2 * 256 + 1 * k.val = k.val; rw [a2]; omega

theorem blk2 (t : Fin cfg0.N) (r : Fin 1024) (k : Fin 256) (i : S4096x1024.Idx) (h0 : (i 0).val = 1024 * (t.val % 4) + r.val) (h1 : (i 1).val = 256 + k.val) :
    X0_2 m c t (ix3 (0 : Fin 1) r k) = m ((c : Thread nD τ).loc main_arg2) i := by
  have hi : i = ix2 (⟨1024 * (t.val % 4) + r.val, by omega⟩ : Fin 4096) (⟨256 * 1 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold X0_2 Pipeline.Window.fill
  rw [dif_pos (moved0_2 t _)]
  unfold iblk
  have ⟨a0, a1, a2⟩ := at2 t
  refine congrArg (V m c main_v6) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 1024 + 1 * r.val = 4096 + (1024 * 1 + r.val); rw [a1]; omega
  | ⟨2, _⟩ => show cc0_transform_2 (grid0.coords t) 2 * 256 + 1 * k.val = k.val; rw [a2]; omega

theorem blk3 (t : Fin cfg0.N) (r : Fin 1024) (k : Fin 256) (i : S4096x1024.Idx) (h0 : (i 0).val = 1024 * (t.val % 4) + r.val) (h1 : (i 1).val = 512 + k.val) :
    X0_3 m c t (ix3 (0 : Fin 1) r k) = m ((c : Thread nD τ).loc main_arg2) i := by
  have hi : i = ix2 (⟨1024 * (t.val % 4) + r.val, by omega⟩ : Fin 4096) (⟨256 * 2 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold X0_3 Pipeline.Window.fill
  rw [dif_pos (moved0_3 t _)]
  unfold iblk
  have ⟨a0, a1, a2⟩ := at3 t
  refine congrArg (V m c main_v6) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 1024 + 1 * r.val = 4096 + (1024 * 2 + r.val); rw [a1]; omega
  | ⟨2, _⟩ => show cc0_transform_3 (grid0.coords t) 2 * 256 + 1 * k.val = k.val; rw [a2]; omega

theorem blk4 (t : Fin cfg0.N) (r : Fin 1024) (k : Fin 256) (i : S4096x1024.Idx) (h0 : (i 0).val = 1024 * (t.val % 4) + r.val) (h1 : (i 1).val = 768 + k.val) :
    X0_4 m c t (ix3 (0 : Fin 1) r k) = m ((c : Thread nD τ).loc main_arg2) i := by
  have hi : i = ix2 (⟨1024 * (t.val % 4) + r.val, by omega⟩ : Fin 4096) (⟨256 * 3 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨3, by omega⟩ r k)
  unfold X0_4 Pipeline.Window.fill
  rw [dif_pos (moved0_4 t _)]
  unfold iblk
  have ⟨a0, a1, a2⟩ := at4 t
  refine congrArg (V m c main_v6) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 1024 + 1 * r.val = 4096 + (1024 * 3 + r.val); rw [a1]; omega
  | ⟨2, _⟩ => show cc0_transform_4 (grid0.coords t) 2 * 256 + 1 * k.val = k.val; rw [a2]; omega

/-- A sum over 1024 is four sums over 256. -/
theorem sum_slabs (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- The reference at an index: where the input of the square is not above zero, the factor is zero as well. -/
theorem ref_at (x0 : (⟨S2048x1024, .bf16⟩ : BufTy).Contents (Elt Ideal)) (x1 : (⟨S2048x4096, .bf16⟩ : BufTy).Contents (Elt Ideal)) (x2 : (⟨S4096x1024, .f32⟩ : BufTy).Contents (Elt Ideal)) (r : Fin 2048) (n : Fin 4096) :
    Cert.DxDownRefIdeal.Read.val_main_v14 (F := Ideal) x0 x1 x2 (ix2 r n)
      = (∑ x : Fin 1024, (x0 (ix2 r x) : EReal) * (x2 (ix2 n x) : EReal)) * (Ideal.ofBits FTy.f32 1073741824#32 * max (x1 (ix2 r n) : EReal) 0) := by
  unfold Cert.DxDownRefIdeal.Read.val_main_v14 Cert.DxDownRefIdeal.Read.val_main_v13 Cert.DxDownRefIdeal.Read.val_main_v12 Cert.DxDownRefIdeal.Read.val_main_v11 Cert.DxDownRefIdeal.Read.val_main_v10 Cert.DxDownRefIdeal.Read.val_main_v9 Cert.DxDownRefIdeal.Read.val_main_v7 Cert.DxDownRefIdeal.Read.val_main_v6 Cert.DxDownRefIdeal.Read.val_main_v3 Cert.DxDownRefIdeal.Read.val_main_v2 Cert.DxDownRefIdeal.Read.val_main_v1 Cert.DxDownRefIdeal.Read.val_main_v0 Cert.DxDownRefIdeal.Read.val_main_call0_v0 Cert.DxDownRefIdeal.Read.val_main_call0_cst Cert.DxDownRefIdeal.Read.val_main_cst Cert.DxDownRefIdeal.Read.val_main_cst_1 Cert.DxDownRefIdeal.Read.val_main_cst_2
  pointwise
  split_ifs with h
  · rfl
  · rw [max_eq_right (not_lt.mp h), mul_zero, mul_zero]

theorem final : (dats m 0 c).arrAt 6 cfg0.N = Cert.DxDownRefIdeal.Read.val_main_v14 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold outsAt0
  frame_out
  obtain ⟨r, n, rfl⟩ : ∃ (r n : Fin 1024), y = ix2 r n := ⟨y 0, y 1, by funext a; match a with | ⟨0, _⟩ => rfl | ⟨1, _⟩ => rfl⟩
  have ht : t.val < 8 := t.isLt
  have ⟨a0, a1⟩ := at6 t
  have he : ((View.whole main_v7).slice (win0_6.rect t)).emb (ix2 r n) = ix2 (⟨1024 * (t.val / 4) + r.val, by omega⟩ : Fin 2048) (⟨1024 * (t.val % 4) + n.val, by omega⟩ : Fin 4096) := by
    funext a
    refine Fin.ext ?_
    match a with
    | ⟨0, _⟩ => show cc0_transform_6 (grid0.coords t) 0 * 1024 + 1 * r.val = _; rw [a0]; show _ = 1024 * (t.val / 4) + r.val; omega
    | ⟨1, _⟩ => show cc0_transform_6 (grid0.coords t) 1 * 1024 + 1 * n.val = _; rw [a1]; show _ = 1024 * (t.val % 4) + n.val; omega
  rw [he]
  refine Eq.trans ?_ (ref_at _ _ _ _ _).symm
  unfold k0_pay1
  pointwise
  rw [sum_slabs, blk5 m c t r n (ix2 (⟨1024 * (t.val / 4) + r.val, by omega⟩ : Fin 2048) (⟨1024 * (t.val % 4) + n.val, by omega⟩ : Fin 4096)) rfl rfl]
  refine congr (congrArg _ ?_) rfl
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ rfl (Nat.zero_add _).symm
  · exact blk2 m c t _ _ _ rfl rfl
  · exact blk3 m c t _ _ _ rfl rfl
  · exact blk4 m c t _ _ _ rfl rfl

end Cert.DxDownIdeal.Eq

end
-- ==== Proof.DwUpEq.lean ====
module
public import proofs.«01_k».proof.Proof.Gen.DwUpIdeal.Value
public import proofs.«01_k».proof.Proof.Gen.DwUpRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwUpIdeal.Eq

open Idealize.ShloMosaic Idealize.ShloMosaic.TcCoe Cert.DwUpIdeal.Gen Finset
open Cert.DwUpIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = 0 := by decide +kernel
theorem at1 : ∀ t : Fin grid0.N, cc0_transform_2 (grid0.coords t) 0 = 0 ∧ cc0_transform_2 (grid0.coords t) 1 = t.val := by decide +kernel
theorem at2 : ∀ t : Fin grid0.N, cc0_transform_3 (grid0.coords t) 0 = t.val ∧ cc0_transform_3 (grid0.coords t) 1 = 0 ∧ cc0_transform_3 (grid0.coords t) 2 = 0 := by decide +kernel

theorem blk0 (t : Fin cfg0.N) (r : Fin 2048) (k : Fin 1024) (i : S2048x1024.Idx) (h0 : (i 0).val = r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 1024 + 1 * k.val = (i 1).val; rw [a1, h1]; omega

theorem blk1 (t : Fin cfg0.N) (r : Fin 2048) (k : Fin 1024) (i : S2048x4096.Idx) (h0 : (i 0).val = r.val) (h1 : (i 1).val = 1024 * t.val + k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 1024 + 1 * k.val = (i 1).val; rw [a1, h1]; omega

theorem kept : V m c main_v0 = m ((c : Thread nD τ).loc main_arg2) := by
  unfold V
  simp only [hostOps0]
  after_reads_simp
  rfl

open Cert.DwUpRefIdeal.Read in
/-- The reference's gradient at an index of its rows of slab `a`, part `b`. -/
theorem ref_at (x0 : (⟨S2048x1024, .bf16⟩ : BufTy).Contents (Elt Ideal)) (x1 : (⟨S2048x4096, .bf16⟩ : BufTy).Contents (Elt Ideal)) (x2 : (⟨S4x13568x256, .bf16⟩ : BufTy).Contents (Elt Ideal))
    (a b : Fin 4) (r : Fin 1024) (k : Fin 256) (i : S4x13568x256.Idx) (h0 : (i 0).val = a.val) (h1 : (i 1).val = 1024 * b.val + r.val) (h2 : (i 2).val = k.val) :
    val_main_v11 (F := Ideal) x0 x1 x2 i
      = ∑ x : Fin 2048, (x0 (ix2 x r) : EReal) * (x1 (ix2 x (⟨1024 * a.val + 256 * b.val + k.val, by omega⟩ : Fin 4096)) : EReal) := by
  refine (concatenate_pair_apply_left (t := S4x13568x256) (1 : Fin 3) (val_main_v9 (F := Ideal) x0 x1) _ _ _ rfl (ix3 a (⟨1024 * b.val + r.val, by omega⟩ : Fin 4096) k) (fun d => ?_)).trans ?_
  · match d with
    | ⟨0, _⟩ => exact h0.symm
    | ⟨1, _⟩ => exact h1.symm
    | ⟨2, _⟩ => exact h2.symm
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 r a b k) fun d => ?_).trans ?_
  · match d with
    | ⟨0, _⟩ => rfl
    | ⟨1, _⟩ => rfl
    | ⟨2, _⟩ => rfl
    | ⟨3, _⟩ => rfl
  refine (shapeCast_apply _ _ _ (ix2 r (⟨1024 * a.val + 256 * b.val + k.val, by omega⟩ : Fin 4096)) ?_).trans ?_
  · rw [Shape.rowMajor_val_four, Shape.rowMajor_val_two]
    show r.val * 4096 + (1024 * a.val + 256 * b.val + k.val) = ((r.val * 4 + a.val) * 4 + b.val) * 256 + k.val
    omega
  unfold val_main_v6 val_main_v5 val_main_v4 val_main_v3 val_main_v1
  pointwise
  exact Finset.sum_congr rfl fun x _ => mul_comm _ _

open Cert.DwUpRefIdeal.Read in
/-- The rows below the gradient are those of the third argument. -/
theorem ref_rest (x0 : (⟨S2048x1024, .bf16⟩ : BufTy).Contents (Elt Ideal)) (x1 : (⟨S2048x4096, .bf16⟩ : BufTy).Contents (Elt Ideal)) (x2 : (⟨S4x13568x256, .bf16⟩ : BufTy).Contents (Elt Ideal))
    (i : S4x13568x256.Idx) (h : 4096 ≤ (i 1).val) : val_main_v11 (F := Ideal) x0 x1 x2 i = x2 i := by
  have hi : (i 1).val < 13568 := (i 1).isLt
  refine (concatenate_pair_apply_right (t := S4x13568x256) (1 : Fin 3) (val_main_v9 (F := Ideal) x0 x1) (val_main_v10 (F := Ideal) x2) _ _ rfl rfl (ix3 (i 0 : Fin 4) (⟨(i 1).val - 4096, by omega⟩ : Fin 9472) (i 2 : Fin 256)) (fun d hd => ?_) ?_).trans ?_
  · match d with
    | ⟨0, _⟩ => rfl
    | ⟨1, _⟩ => exact absurd rfl hd
    | ⟨2, _⟩ => rfl
  · show (i 1).val - 4096 + 4096 = (i 1).val; omega
  · unfold val_main_v10
    refine congrArg x2 (funext fun d => Fin.ext ?_)
    match d with
    | ⟨0, _⟩ => show 0 + (i 0).val = (i 0).val; omega
    | ⟨1, _⟩ => show 4096 + ((i 1).val - 4096) = (i 1).val; omega
    | ⟨2, _⟩ => show 0 + (i 2).val = (i 2).val; omega

theorem final : (dats m 0 c).arrAt 2 cfg0.N = Cert.DwUpRefIdeal.Read.val_main_v11 (F := Ideal) (m ((c : Thread nD τ).loc main_arg0)) (m ((c : Thread nD τ).loc main_arg1)) (m ((c : Thread nD τ).loc main_arg2)) := by
  have h : (dats m 0 c).arrAt 2 cfg0.N = fun i : S4x13568x256.Idx => if (i 1 : ℕ) / 4096 = 0 then Cert.DwUpRefIdeal.Read.val_main_v11 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => β (1 : Fin _) = 0) (by decide +kernel) (fun t hf y => ?_) (fun j => Iff.rfl)
    blk_simp
    rw [after0_2]
    unfold outsAt0
    frame_out
    have ht : t.val < 4 := t.isLt
    have ⟨a0, a1, a2⟩ := at2 t
    have e0 : (((View.whole main_v0).slice (win0_2.rect t)).emb y 0).val = t.val + (y 0).val := by
      show cc0_transform_3 (grid0.coords t) 0 * 1 + 1 * (y 0).val = _; rw [a0]; omega
    have e1 : (((View.whole main_v0).slice (win0_2.rect t)).emb y 1).val = (y 1).val := by
      show cc0_transform_3 (grid0.coords t) 1 * 4096 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x4096x256.Idx) 0).val = (y 0).val := rfl
    have z1 : (((win0 2).xinj (grid0.coords t) y : S1x4096x256.Idx) 1).val = (y 1).val := rfl
    have z2 : (((win0 2).xinj (grid0.coords t) y : S1x4096x256.Idx) 2).val = (y 2).val := rfl
    generalize ((View.whole main_v0).slice (win0_2.rect t)).emb y = i at *
    generalize ((win0 2).xinj (grid0.coords t) y : S1x4096x256.Idx) = z at *
    canon_tiles x h
    case piece0 =>
      refine Eq.trans ?_ (ref_at _ _ _ (⟨t.val, ht⟩ : Fin 4) (⟨3, by decide⟩ : Fin 4) (x 1 : Fin 1024) (x 2 : Fin 256) i (by show _ = t.val; omega) (by show _ = 1024 * 3 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay5 k0_pay1
      pointwise
      exact Finset.sum_congr rfl fun x _ => congr (congrArg _ (blk0 m c t _ _ _ rfl rfl)) (blk1 m c t _ _ _ rfl (by first | exact Nat.add_assoc _ _ _ | rfl))
    case piece1 =>
      refine Eq.trans ?_ (ref_at _ _ _ (⟨t.val, ht⟩ : Fin 4) (⟨2, by decide⟩ : Fin 4) (x 1 : Fin 1024) (x 2 : Fin 256) i (by show _ = t.val; omega) (by show _ = 1024 * 2 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay4 k0_pay1
      pointwise
      exact Finset.sum_congr rfl fun x _ => congr (congrArg _ (blk0 m c t _ _ _ rfl rfl)) (blk1 m c t _ _ _ rfl (by first | exact Nat.add_assoc _ _ _ | rfl))
    case piece2 =>
      refine Eq.trans ?_ (ref_at _ _ _ (⟨t.val, ht⟩ : Fin 4) (⟨1, by decide⟩ : Fin 4) (x 1 : Fin 1024) (x 2 : Fin 256) i (by show _ = t.val; omega) (by show _ = 1024 * 1 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay3 k0_pay1
      pointwise
      exact Finset.sum_congr rfl fun x _ => congr (congrArg _ (blk0 m c t _ _ _ rfl rfl)) (blk1 m c t _ _ _ rfl (by first | exact Nat.add_assoc _ _ _ | rfl))
    case piece3 =>
      refine Eq.trans ?_ (ref_at _ _ _ (⟨t.val, ht⟩ : Fin 4) (⟨0, by decide⟩ : Fin 4) (x 1 : Fin 1024) (x 2 : Fin 256) i (by show _ = t.val; omega) (by show _ = 1024 * 0 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay2 k0_pay1
      pointwise
      exact Finset.sum_congr rfl fun x _ => congr (congrArg _ (blk0 m c t _ _ _ rfl rfl)) (blk1 m c t _ _ _ rfl (by first | exact Nat.add_assoc _ _ _ | rfl))
  rw [h]
  funext i
  show (if (i 1 : ℕ) / 4096 = 0 then _ else _) = _
  split_ifs with hi
  · rfl
  · rw [kept]
    exact (ref_rest _ _ _ i (by omega)).symm

end Cert.DwUpIdeal.Eq

end
-- ==== Proof.DwDownEq.lean ====
module
public import proofs.«01_k».proof.Proof.Gen.DwDownIdeal.Value
public import proofs.«01_k».proof.Proof.Gen.DwDownRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwDownIdeal.Eq

open Idealize.ShloMosaic Idealize.ShloMosaic.TcCoe Cert.DwDownIdeal.Gen Finset
open Cert.DwDownIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = t.val := by decide +kernel
theorem at1 : ∀ t : Fin grid0.N, cc0_transform_2 (grid0.coords t) 0 = 0 ∧ cc0_transform_2 (grid0.coords t) 1 = 0 := by decide +kernel
theorem at2 : ∀ t : Fin grid0.N, cc0_transform_3 (grid0.coords t) 0 = t.val ∧ cc0_transform_3 (grid0.coords t) 1 = 1 ∧ cc0_transform_3 (grid0.coords t) 2 = 0 := by decide +kernel

theorem blk0 (t : Fin cfg0.N) (r : Fin 2048) (k : Fin 1024) (i : S2048x4096.Idx) (h0 : (i 0).val = r.val) (h1 : (i 1).val = 1024 * t.val + k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 1024 + 1 * k.val = (i 1).val; rw [a1, h1]; omega

theorem blk1 (t : Fin cfg0.N) (r : Fin 2048) (k : Fin 1024) (i : S2048x1024.Idx) (h0 : (i 0).val = r.val) (h1 : (i 1).val = k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 1024 + 1 * k.val = (i 1).val; rw [a1, h1]; omega

theorem kept : V m c main_v0 = m ((c : Thread nD τ).loc main_arg2) := by
  unfold V
  simp only [hostOps0]
  after_reads_simp
  rfl

open Cert.DwDownRefIdeal.Read in
/-- The reference's gradient at an index of its rows of slab `a`, part `b`. -/
theorem ref_at (x0 : (⟨S2048x4096, .bf16⟩ : BufTy).Contents (Elt Ideal)) (x1 : (⟨S2048x1024, .bf16⟩ : BufTy).Contents (Elt Ideal)) (x2 : (⟨S4x13568x256, .bf16⟩ : BufTy).Contents (Elt Ideal))
    (a b : Fin 4) (r : Fin 1024) (k : Fin 256) (i : S4x13568x256.Idx) (h0 : (i 0).val = a.val) (h1 : (i 1).val = 4096 + (1024 * b.val + r.val)) (h2 : (i 2).val = k.val) :
    val_main_v12 (F := Ideal) x0 x1 x2 i
      = ∑ x : Fin 2048, (x0 (ix2 x (⟨1024 * a.val + r.val, by omega⟩ : Fin 4096)) : EReal) * (x1 (ix2 x (⟨256 * b.val + k.val, by omega⟩ : Fin 1024)) : EReal) := by
  unfold val_main_v12
  refine (concatenate_apply_piece (t := S4x13568x256) (1 : Fin 3) _ _ _ 1 (by exact Nat.lt_of_sub_eq_succ rfl) Cert.DwDownRefIdeal.S4x4096x256 _ (by rfl) rfl 4096 (by rfl) (ix3 a (⟨1024 * b.val + r.val, by omega⟩ : Fin 4096) k) (fun d hd => ?_) ?_).trans ?_
  · match d with
    | ⟨0, _⟩ => exact h0.symm
    | ⟨1, _⟩ => exact absurd rfl hd
    | ⟨2, _⟩ => exact h2.symm
  · exact h1.symm
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  unfold val_main_v6 val_main_v5 val_main_v4 val_main_v3 val_main_v1
  pointwise
  exact Finset.sum_congr rfl fun x _ => mul_comm _ _

open Cert.DwDownRefIdeal.Read in
/-- The rows above and below the gradient are those of the third argument. -/
theorem ref_rest (x0 : (⟨S2048x4096, .bf16⟩ : BufTy).Contents (Elt Ideal)) (x1 : (⟨S2048x1024, .bf16⟩ : BufTy).Contents (Elt Ideal)) (x2 : (⟨S4x13568x256, .bf16⟩ : BufTy).Contents (Elt Ideal))
    (i : S4x13568x256.Idx) (h : (i 1).val < 4096 ∨ 8192 ≤ (i 1).val) : val_main_v12 (F := Ideal) x0 x1 x2 i = x2 i := by
  have hi : (i 1).val < 13568 := (i 1).isLt
  unfold val_main_v12
  rcases h with h | h
  · refine (concatenate_apply_piece (t := S4x13568x256) (1 : Fin 3) _ _ _ 0 (by exact Nat.lt_of_sub_eq_succ rfl) Cert.DwDownRefIdeal.S4x4096x256 _ (by rfl) rfl 0 (by rfl) (ix3 (i 0 : Fin 4) (⟨(i 1).val, h⟩ : Fin 4096) (i 2 : Fin 256)) (fun d hd => ?_) ?_).trans ?_
    · match d with
      | ⟨0, _⟩ => rfl
      | ⟨1, _⟩ => exact absurd rfl hd
      | ⟨2, _⟩ => rfl
    · exact Nat.zero_add _
    · unfold val_main_v7
      refine congrArg x2 (funext fun d => Fin.ext ?_)
      match d with
      | ⟨0, _⟩ => show 0 + (i 0).val = (i 0).val; omega
      | ⟨1, _⟩ => show 0 + (i 1).val = (i 1).val; omega
      | ⟨2, _⟩ => show 0 + (i 2).val = (i 2).val; omega
  · refine (concatenate_apply_piece (t := S4x13568x256) (1 : Fin 3) _ _ _ 2 (by exact Nat.lt_of_sub_eq_succ rfl) Cert.DwDownRefIdeal.S4x5376x256 _ (by rfl) rfl 8192 (by rfl) (ix3 (i 0 : Fin 4) (⟨(i 1).val - 8192, by omega⟩ : Fin 5376) (i 2 : Fin 256)) (fun d hd => ?_) ?_).trans ?_
    · match d with
      | ⟨0, _⟩ => rfl
      | ⟨1, _⟩ => exact absurd rfl hd
      | ⟨2, _⟩ => rfl
    · show 8192 + ((i 1).val - 8192) = (i 1).val; omega
    · unfold val_main_v11
      refine congrArg x2 (funext fun d => Fin.ext ?_)
      match d with
      | ⟨0, _⟩ => show 0 + (i 0).val = (i 0).val; omega
      | ⟨1, _⟩ => show 8192 + ((i 1).val - 8192) = (i 1).val; omega
      | ⟨2, _⟩ => show 0 + (i 2).val = (i 2).val; omega

theorem final : (dats m 0 c).arrAt 2 cfg0.N = Cert.DwDownRefIdeal.Read.val_main_v12 (F := Ideal) (m ((c : Thread nD τ).loc main_arg0)) (m ((c : Thread nD τ).loc main_arg1)) (m ((c : Thread nD τ).loc main_arg2)) := by
  have h : (dats m 0 c).arrAt 2 cfg0.N = fun i : S4x13568x256.Idx => if (i 1 : ℕ) / 4096 = 1 then Cert.DwDownRefIdeal.Read.val_main_v12 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => β (1 : Fin _) = 1) (by decide +kernel) (fun t hf y => ?_) (fun j => Iff.rfl)
    blk_simp
    rw [after0_2]
    unfold outsAt0
    frame_out
    have ht : t.val < 4 := t.isLt
    have ⟨a0, a1, a2⟩ := at2 t
    have e0 : (((View.whole main_v0).slice (win0_2.rect t)).emb y 0).val = t.val + (y 0).val := by
      show cc0_transform_3 (grid0.coords t) 0 * 1 + 1 * (y 0).val = _; rw [a0]; omega
    have e1 : (((View.whole main_v0).slice (win0_2.rect t)).emb y 1).val = 4096 + (y 1).val := by
      show cc0_transform_3 (grid0.coords t) 1 * 4096 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x4096x256.Idx) 0).val = (y 0).val := rfl
    have z1 : (((win0 2).xinj (grid0.coords t) y : S1x4096x256.Idx) 1).val = (y 1).val := rfl
    have z2 : (((win0 2).xinj (grid0.coords t) y : S1x4096x256.Idx) 2).val = (y 2).val := rfl
    generalize ((View.whole main_v0).slice (win0_2.rect t)).emb y = i at *
    generalize ((win0 2).xinj (grid0.coords t) y : S1x4096x256.Idx) = z at *
    canon_tiles x h
    case piece0 =>
      refine Eq.trans ?_ (ref_at _ _ _ (⟨t.val, ht⟩ : Fin 4) (⟨3, by decide⟩ : Fin 4) (x 1 : Fin 1024) (x 2 : Fin 256) i (by show _ = t.val; omega) (by show _ = 4096 + (1024 * 3 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay5 k0_pay1
      pointwise
      exact Finset.sum_congr rfl fun x _ => congr (congrArg _ (blk0 m c t _ _ _ rfl rfl)) (blk1 m c t _ _ _ rfl (by first | rfl | exact Nat.zero_add _))
    case piece1 =>
      refine Eq.trans ?_ (ref_at _ _ _ (⟨t.val, ht⟩ : Fin 4) (⟨2, by decide⟩ : Fin 4) (x 1 : Fin 1024) (x 2 : Fin 256) i (by show _ = t.val; omega) (by show _ = 4096 + (1024 * 2 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay4 k0_pay1
      pointwise
      exact Finset.sum_congr rfl fun x _ => congr (congrArg _ (blk0 m c t _ _ _ rfl rfl)) (blk1 m c t _ _ _ rfl (by first | rfl | exact Nat.zero_add _))
    case piece2 =>
      refine Eq.trans ?_ (ref_at _ _ _ (⟨t.val, ht⟩ : Fin 4) (⟨1, by decide⟩ : Fin 4) (x 1 : Fin 1024) (x 2 : Fin 256) i (by show _ = t.val; omega) (by show _ = 4096 + (1024 * 1 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay3 k0_pay1
      pointwise
      exact Finset.sum_congr rfl fun x _ => congr (congrArg _ (blk0 m c t _ _ _ rfl rfl)) (blk1 m c t _ _ _ rfl (by first | rfl | exact Nat.zero_add _))
    case piece3 =>
      refine Eq.trans ?_ (ref_at _ _ _ (⟨t.val, ht⟩ : Fin 4) (⟨0, by decide⟩ : Fin 4) (x 1 : Fin 1024) (x 2 : Fin 256) i (by show _ = t.val; omega) (by show _ = 4096 + (1024 * 0 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay2 k0_pay1
      pointwise
      exact Finset.sum_congr rfl fun x _ => congr (congrArg _ (blk0 m c t _ _ _ rfl rfl)) (blk1 m c t _ _ _ rfl (by first | rfl | exact Nat.zero_add _))
  rw [h]
  funext i
  show (if (i 1 : ℕ) / 4096 = 1 then _ else _) = _
  split_ifs with hi
  · rfl
  · rw [kept]
    exact (ref_rest _ _ _ i (by omega)).symm

end Cert.DwDownIdeal.Eq

end
-- ==== Proof.NormGrad.lean ====
module
public import Idealize.ShloMosaic.Lib.Pipeline.ValueKit.Point

@[expose] public section

/-! The gradient of the normalisation `x · rsqrt (mean x² + ε)` by a row `x`, in the two arrangements that occur.  Both are
    written over the extended reals, and they agree on every row: where an entry of the row is infinite, the factor `rsqrt`
    is zero and both leave only the added array. -/

noncomputable section

namespace Cert.NormGrad

open Idealize.ShloMosaic Finset

/-- The mean of the squares of a row, and the small number. -/
def meanSq {n : ℕ} (N E : EReal) (x : Fin n → EReal) : EReal := Ideal.div (∑ k, x k * x k) N + E

theorem n_f32 : Ideal.ofBits .f32 0x44800000#32 = ((1024 : ℝ) : EReal) := by
  simp [Ideal.ofBits, Ideal.ieee, -EReal.coe_mul]; norm_num
theorem half_f32 : Ideal.ofBits .f32 0xBF000000#32 = ((-(1 / 2) : ℝ) : EReal) := by
  simp [Ideal.ofBits, Ideal.ieee, -EReal.coe_mul]; norm_num
theorem eps_f32 : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem sq_nonneg (a : EReal) : 0 ≤ a * a := by
  induction a with
  | coe a => rw [← EReal.coe_mul]; exact_mod_cast mul_self_nonneg a
  | top => exact le_top
  | bot => exact le_top

theorem coe_sum {n : ℕ} (f : Fin n → ℝ) (s : Finset (Fin n)) : ((∑ k ∈ s, f k : ℝ) : EReal) = ∑ k ∈ s, (f k : EReal) := by
  induction s using Finset.induction_on with
  | empty => simp
  | insert a s ha ih => rw [Finset.sum_insert ha, Finset.sum_insert ha, EReal.coe_add, ih]

/-- Doubling by a real coefficient. -/
theorem add_self (b : ℝ) (T : EReal) : (b : EReal) * T + (b : EReal) * T = ((b + b : ℝ) : EReal) * T := by
  induction T with
  | coe t => rw [← EReal.coe_mul, ← EReal.coe_add, ← EReal.coe_mul]; congr 1; ring
  | top =>
    rcases lt_trichotomy b 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy b 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- A factor that is a real and not negative comes out of a sum. -/
theorem sum_mul {n : ℕ} (r : ℝ) (hr : 0 ≤ r) (f : Fin n → EReal) (s : Finset (Fin n)) : ∑ k ∈ s, (r : EReal) * f k = r * ∑ k ∈ s, f k := by
  induction s using Finset.induction_on with
  | empty => simp
  | insert a s ha ih =>
    rw [Finset.sum_insert ha, Finset.sum_insert ha, ih, EReal.left_distrib_of_nonneg_of_ne_top (by exact_mod_cast hr) (EReal.coe_ne_top r)]

/-- The mean square of a row is a positive real, the row then being real, or it is infinite. -/
theorem meanSq_cases {n : ℕ} (e : ℝ) (he : 0 < e) (x : Fin n → EReal) :
    meanSq (1024 : ℝ) e x = ⊤ ∨ (∃ u : ℝ, 0 < u ∧ meanSq (1024 : ℝ) e x = u) ∧ ∀ k, ∃ y : ℝ, x k = y := by
  have hne : ((1024 : ℝ) : EReal) ≠ 0 := by norm_cast
  by_cases h : ∀ k, ∃ y : ℝ, x k = y
  · right
    refine ⟨?_, h⟩
    choose y hy using h
    refine ⟨(∑ k, y k * y k) * (1024 : ℝ)⁻¹ + e, ?_, ?_⟩
    · have : 0 ≤ ∑ k, y k * y k := Finset.sum_nonneg fun k _ => mul_self_nonneg _
      positivity
    · unfold meanSq Ideal.div
      rw [if_neg hne]
      have : ∑ k, x k * x k = ((∑ k, y k * y k : ℝ) : EReal) := by
        rw [coe_sum]
        refine Finset.sum_congr rfl fun k _ => ?_
        rw [hy k, EReal.coe_mul]
      rw [this, ← EReal.coe_inv, ← EReal.coe_mul, ← EReal.coe_add]
  · left
    push Not at h
    obtain ⟨k, hk⟩ := h
    have h1 : x k * x k = ⊤ := by
      generalize x k = a at hk
      induction a with
      | coe a => exact absurd rfl (hk a)
      | top => rfl
      | bot => rfl
    have h2 : ∑ k, x k * x k = ⊤ := by
      refine top_le_iff.mp ?_
      rw [← h1]
      exact Finset.single_le_sum (f := fun k => x k * x k) (fun i _ => sq_nonneg (x i)) (Finset.mem_univ k)
    unfold meanSq Ideal.div
    rw [if_neg hne, h2, ← EReal.coe_inv, EReal.top_mul_coe_of_pos (by norm_num), EReal.top_add_coe]

/-- An entry of the gradient of a row as the projection of the scaled row gives it, with the added `d`: `x` the row, `y` the
    gradient that reaches it times the gain. -/
def first {n : ℕ} (N E : EReal) (x y : Fin n → EReal) (d : EReal) (j : Fin n) : EReal :=
  Ideal.rsqrt (meanSq N E x) * (y j - x j * Ideal.rsqrt (meanSq N E x) * Ideal.div (∑ k, x k * Ideal.rsqrt (meanSq N E x) * y k) N) + d

/-- What the gradient of the factor adds to a row, before it is multiplied by the row. -/
def slope {n : ℕ} (N H E : EReal) (x y : Fin n → EReal) : EReal :=
  Ideal.div ((∑ k, x k * y k) * (H * Ideal.div (Ideal.rsqrt (meanSq N E x)) (meanSq N E x))) N

/-- The entry as differentiation gives it: the factor held still, then the factor's own gradient through either factor of
    the square. -/
def second {n : ℕ} (N H E : EReal) (x y : Fin n → EReal) (d : EReal) (j : Fin n) : EReal :=
  ((d + y j * Ideal.rsqrt (meanSq N E x)) + x j * slope N H E x y) + slope N H E x y * x j

/-- The two arrangements of the gradient agree at every entry. -/
theorem agree {n : ℕ} (N H E : EReal) (hN : N = (1024 : ℝ)) (hH : H = (-(1 / 2) : ℝ)) (hE : ∃ e : ℝ, 0 < e ∧ E = e) (x y : Fin n → EReal) (d : EReal) (j : Fin n) :
    first N E x y d j = second N H E x y d j := by
  unfold first second slope
  obtain ⟨e, he, rfl⟩ := hE
  subst hN hH
  have hne : ((1024 : ℝ) : EReal) ≠ 0 := by norm_cast
  rcases meanSq_cases e he x with h | ⟨⟨u, hu, h⟩, hx⟩
  · rw [h]
    have hr : Ideal.rsqrt ⊤ = 0 := rfl
    have hd : Ideal.div 0 ⊤ = 0 := by unfold Ideal.div; rw [if_neg EReal.top_ne_zero, zero_mul]
    have hz : Ideal.div 0 ((1024 : ℝ) : EReal) = 0 := by unfold Ideal.div; rw [if_neg hne, zero_mul]
    rw [hr, hd, zero_mul, mul_zero, mul_zero, mul_zero, hz, mul_zero, zero_mul, zero_add, add_zero, add_zero, add_zero]
  · rw [h]
    have hs : 0 < Real.sqrt u := Real.sqrt_pos.mpr hu
    have hr : Ideal.rsqrt (u : EReal) = (((Real.sqrt u)⁻¹ : ℝ) : EReal) := by
      show (if u < 0 then ⊥ else if u = 0 then ⊤ else (((Real.sqrt u)⁻¹ : ℝ) : EReal)) = _
      rw [if_neg (not_lt.mpr hu.le), if_neg hu.ne']
    rw [hr]
    have hr0 : 0 ≤ (Real.sqrt u)⁻¹ := (inv_pos.mpr hs).le
    have hrr : (Real.sqrt u)⁻¹ * (Real.sqrt u)⁻¹ = u⁻¹ := by rw [← mul_inv, Real.mul_self_sqrt hu.le]
    generalize (Real.sqrt u)⁻¹ = r at hr0 hr hrr
    have hu0 : (u : EReal) ≠ 0 := by exact_mod_cast hu.ne'
    choose z hz using hx
    have hT : ∑ k, x k * (r : EReal) * y k = r * ∑ k, x k * y k := by
      rw [← sum_mul r hr0]
      refine Finset.sum_congr rfl fun k _ => ?_
      rw [mul_comm (x k), mul_assoc]
    rw [hT, hz j]
    generalize ∑ k, x k * y k = T
    unfold Ideal.div
    simp only [if_neg hne, if_neg hu0]
    rw [EReal.mul_sub_of_nonneg_of_ne_top (by exact_mod_cast hr0) (EReal.coe_ne_top r), ← EReal.coe_inv, ← EReal.coe_inv]
    have h1 : (r : EReal) * ((z j : EReal) * r * (r * T * ((1024 : ℝ)⁻¹ : ℝ))) = ((r * (z j * r * (r * (1024 : ℝ)⁻¹)) : ℝ) : EReal) * T := by
      push_cast
      ac_rfl
    have h2 : (z j : EReal) * (T * (((-(1 / 2) : ℝ) : EReal) * (r * (u⁻¹ : ℝ))) * ((1024 : ℝ)⁻¹ : ℝ)) = ((z j * (-(1 / 2) * (r * u⁻¹) * (1024 : ℝ)⁻¹) : ℝ) : EReal) * T := by
      rw [EReal.coe_mul, EReal.coe_mul, EReal.coe_mul, EReal.coe_mul]
      ac_rfl
    have h3 : (T * (((-(1 / 2) : ℝ) : EReal) * (r * (u⁻¹ : ℝ))) * ((1024 : ℝ)⁻¹ : ℝ)) * (z j : EReal) = ((z j * (-(1 / 2) * (r * u⁻¹) * (1024 : ℝ)⁻¹) : ℝ) : EReal) * T := by
      rw [mul_comm, h2]
    rw [h1, h2, h3, add_assoc (d + _), add_self, sub_eq_add_neg, ← EReal.neg_mul, ← EReal.coe_neg, ← hrr, mul_comm (y j), add_comm d, add_assoc, add_assoc, add_comm d]
    congr 3
    congr 1
    ring

end Cert.NormGrad

end
-- ==== Proof.DxUpEq.lean ====
module
public import proofs.«01_k».proof.Proof.Gen.DxUpIdeal.Value
public import proofs.«01_k».proof.Proof.Gen.DxUpRefIdeal.Read
public import proofs.«01_k».proof.Proof.NormGrad
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxUpIdeal.Eq

open Idealize.ShloMosaic Idealize.ShloMosaic.TcCoe Cert.DxUpIdeal.Gen Finset
open Cert.DxUpIdeal.Value

variable (m : (ℓ : Loc nD τ sig) → Buf (Elt Ideal) ℓ) (c : Dev nD)

theorem at0 : ∀ t : Fin grid0.N, cc0_transform_0 (grid0.coords t) 0 = t.val / 4 ∧ cc0_transform_0 (grid0.coords t) 1 = t.val % 4 := by decide +kernel
theorem at10 : ∀ t : Fin grid0.N, cc0_transform_10 (grid0.coords t) 0 = 0 ∧ cc0_transform_10 (grid0.coords t) 1 = 0 := by decide +kernel
theorem at1 : ∀ t : Fin grid0.N, cc0_transform_1 (grid0.coords t) 0 = 0 ∧ cc0_transform_1 (grid0.coords t) 1 = 0 := by decide +kernel
theorem at2 : ∀ t : Fin grid0.N, cc0_transform_2 (grid0.coords t) 0 = t.val % 4 ∧ cc0_transform_2 (grid0.coords t) 1 = 0 ∧ cc0_transform_2 (grid0.coords t) 2 = 0 := by decide +kernel
theorem at3 : ∀ t : Fin grid0.N, cc0_transform_3 (grid0.coords t) 0 = t.val % 4 ∧ cc0_transform_3 (grid0.coords t) 1 = 1 ∧ cc0_transform_3 (grid0.coords t) 2 = 0 := by decide +kernel
theorem at4 : ∀ t : Fin grid0.N, cc0_transform_4 (grid0.coords t) 0 = t.val % 4 ∧ cc0_transform_4 (grid0.coords t) 1 = 2 ∧ cc0_transform_4 (grid0.coords t) 2 = 0 := by decide +kernel
theorem at5 : ∀ t : Fin grid0.N, cc0_transform_5 (grid0.coords t) 0 = t.val % 4 ∧ cc0_transform_5 (grid0.coords t) 1 = 3 ∧ cc0_transform_5 (grid0.coords t) 2 = 0 := by decide +kernel
theorem at6 : ∀ t : Fin grid0.N, cc0_transform_6 (grid0.coords t) 0 = t.val / 4 ∧ cc0_transform_6 (grid0.coords t) 1 = 0 := by decide +kernel
theorem at7 : ∀ t : Fin grid0.N, cc0_transform_7 (grid0.coords t) 0 = t.val / 4 ∧ cc0_transform_7 (grid0.coords t) 1 = 0 := by decide +kernel
theorem at8 : ∀ t : Fin grid0.N, cc0_transform_8 (grid0.coords t) 0 = t.val / 4 ∧ cc0_transform_8 (grid0.coords t) 1 = 0 := by decide +kernel
theorem at9 : ∀ t : Fin grid0.N, cc0_transform_9 (grid0.coords t) 0 = t.val / 4 ∧ cc0_transform_9 (grid0.coords t) 1 = 0 := by decide +kernel

theorem packed : V m c main_v5 = concatenate S4x13568x256 1 [⟨S4x4096x256, shapeCast S4x4096x256 (transpose S4x4x1024x256 [1, 2, 0, 3] (shapeCast S1024x4x4x256 (truncf (F := Ideal) .bf16 (m ((c : Thread nD τ).loc main_arg4)) bitsLt_bf16_f32) shapeCasts_S1024x4096_S1024x4x4x256) transposes_S1024x4x4x256_S4x4x1024x256_1_2_0_3) shapeCasts_S4x4x1024x256_S4x4096x256⟩,
      ⟨S4x9472x256, broadcastInDim S4x9472x256 ![] bcast_S_S4x9472x256 (constant (F := Ideal) S_ .bf16 0x0000#16)⟩] concatenates_S4x4096x256_S4x9472x256_S4x13568x256_d1 := by
  unfold V
  simp only [hostOps0]
  after_reads_simp
  rfl

theorem row : V m c main_v6 = broadcastInDim S1x1024 ![1] bcast_S1024_S1x1024_1 (m ((c : Thread nD τ).loc main_arg2)) := by
  unfold V
  simp only [hostOps0]
  after_reads_simp

/-- Where the packed buffer holds the weight: slab `a`, rows of its part `b`, is part `b` of the columns of chip `a`. -/
theorem entry (a b : Fin 4) (r : Fin 1024) (k : Fin 256) :
    V m c main_v5 (ix3 a (⟨1024 * b.val + r.val, by omega⟩ : Fin 13568) k)
      = m ((c : Thread nD τ).loc main_arg4) (ix2 r (⟨1024 * a.val + (256 * b.val + k.val), by omega⟩ : Fin 4096)) := by
  rw [packed]
  refine (concatenate_apply_piece (t := S4x13568x256) (1 : Fin 3) _ _ _ 0 (by exact Nat.lt_of_sub_eq_succ rfl) S4x4096x256 _ (by rfl) rfl 0 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · exact Nat.zero_add _
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 r a b k) fun d => ?_).trans ?_
  · match d with
    | ⟨0, _⟩ => rfl
    | ⟨1, _⟩ => rfl
    | ⟨2, _⟩ => rfl
    | ⟨3, _⟩ => rfl
  refine (shapeCast_apply _ _ _ (ix2 r (⟨1024 * a.val + (256 * b.val + k.val), by omega⟩ : Fin 4096)) ?_).trans ?_
  · rw [Shape.rowMajor_val_four, Shape.rowMajor_val_two]
    show r.val * 4096 + (1024 * a.val + (256 * b.val + k.val)) = ((r.val * 4 + a.val) * 4 + b.val) * 256 + k.val
    omega
  rfl

theorem blk0 (t : Fin cfg0.N) (i' : S1024x1024.Idx) (i : S2048x4096.Idx) (h0 : (i 0).val = 1024 * (t.val / 4) + (i' 0).val) (h1 : (i 1).val = 1024 * (t.val % 4) + (i' 1).val) :
    iblk m c 0 t i' = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * (i' 0).val = (i 0).val; rw [a0, h0]; omega
  | ⟨1, _⟩ => show cc0_transform_0 (grid0.coords t) 1 * 1024 + 1 * (i' 1).val = (i 1).val; rw [a1, h1]; omega

theorem blk1 (t : Fin cfg0.N) (k : Fin 1024) :
    iblk m c 1 t (ix2 (0 : Fin 1) k) = m ((c : Thread nD τ).loc main_arg2) (ix1 k) := by
  have e : V m c main_v6 (ix2 (0 : Fin 1) k) = m ((c : Thread nD τ).loc main_arg2) (ix1 k) := by
    rw [row]; pointwise
  rw [← e]
  unfold iblk
  have ⟨a0, a1⟩ := at1 t
  refine congrArg (V m c main_v6) (funext fun a => Fin.ext ?_)
  match a with
  | ⟨0, _⟩ => show cc0_transform_1 (grid0.coords t) 0 * 1 + 1 * 0 = 0; rw [a0]
  | ⟨1, _⟩ => show cc0_transform_1 (grid0.coords t) 1 * 1024 + 1 * k.val = k.val; rw [a1]; omega

theorem blk6 (t : Fin cfg0.N) (r k : Fin 1024) (i : S2048x1024.Idx) (h0 : (i 0).val = 1024 * (t.val / 4) + r.val) (h1 : (i 1).val = k.val) :
    iblk m c 6 t (ix2 r k) = m ((c : Thread nD τ).loc main_arg1) i := by
  rw [← V_main_arg1 m c]
  unfold iblk
  have ⟨a0, a1⟩ := at6 t
  refine congrArg (V m c main_arg1) (funext fun a => Fin.ext ?_)
  match a with
  | ⟨0, _⟩ => show cc0_transform_6 (grid0.coords t) 0 * 1024 + 1 * r.val = (i 0).val; rw [a0, h0]; omega
  | ⟨1, _⟩ => show cc0_transform_6 (grid0.coords t) 1 * 1024 + 1 * k.val = (i 1).val; rw [a1, h1]; omega

theorem blk7 (t : Fin cfg0.N) (r k : Fin 1024) (i : S2048x1024.Idx) (h0 : (i 0).val = 1024 * (t.val / 4) + r.val) (h1 : (i 1).val = k.val) :
    iblk m c 7 t (ix2 r k) = m ((c : Thread nD τ).loc main_arg3) i := by
  rw [← V_main_arg3 m c]
  unfold iblk
  have ⟨a0, a1⟩ := at7 t
  refine congrArg (V m c main_arg3) (funext fun a => Fin.ext ?_)
  match a with
  | ⟨0, _⟩ => show cc0_transform_7 (grid0.coords t) 0 * 1024 + 1 * r.val = (i 0).val; rw [a0, h0]; omega
  | ⟨1, _⟩ => show cc0_transform_7 (grid0.coords t) 1 * 1024 + 1 * k.val = (i 1).val; rw [a1, h1]; omega

theorem blk2 (t : Fin cfg0.N) (r : Fin 1024) (k : Fin 256) (i : S1024x4096.Idx) (h0 : (i 0).val = r.val) (h1 : (i 1).val = 1024 * (t.val % 4) + (0 + k.val)) :
    X0_2 m c t (ix3 (0 : Fin 1) r k) = m ((c : Thread nD τ).loc main_arg4) i := by
  have hi : i = ix2 r (⟨1024 * (t.val % 4) + (256 * 0 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold X0_2 Pipeline.Window.fill
  rw [dif_pos (moved0_2 t _)]
  unfold iblk
  have ⟨a0, a1, a2⟩ := at2 t
  refine congrArg (V m c main_v5) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 1024 + 1 * r.val = 1024 * 0 + r.val; rw [a1]; omega
  | ⟨2, _⟩ => show cc0_transform_2 (grid0.coords t) 2 * 256 + 1 * k.val = k.val; rw [a2]; omega

theorem blk3 (t : Fin cfg0.N) (r : Fin 1024) (k : Fin 256) (i : S1024x4096.Idx) (h0 : (i 0).val = r.val) (h1 : (i 1).val = 1024 * (t.val % 4) + (256 + k.val)) :
    X0_3 m c t (ix3 (0 : Fin 1) r k) = m ((c : Thread nD τ).loc main_arg4) i := by
  have hi : i = ix2 r (⟨1024 * (t.val % 4) + (256 * 1 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold X0_3 Pipeline.Window.fill
  rw [dif_pos (moved0_3 t _)]
  unfold iblk
  have ⟨a0, a1, a2⟩ := at3 t
  refine congrArg (V m c main_v5) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 1024 + 1 * r.val = 1024 * 1 + r.val; rw [a1]; omega
  | ⟨2, _⟩ => show cc0_transform_3 (grid0.coords t) 2 * 256 + 1 * k.val = k.val; rw [a2]; omega

theorem blk4 (t : Fin cfg0.N) (r : Fin 1024) (k : Fin 256) (i : S1024x4096.Idx) (h0 : (i 0).val = r.val) (h1 : (i 1).val = 1024 * (t.val % 4) + (512 + k.val)) :
    X0_4 m c t (ix3 (0 : Fin 1) r k) = m ((c : Thread nD τ).loc main_arg4) i := by
  have hi : i = ix2 r (⟨1024 * (t.val % 4) + (256 * 2 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold X0_4 Pipeline.Window.fill
  rw [dif_pos (moved0_4 t _)]
  unfold iblk
  have ⟨a0, a1, a2⟩ := at4 t
  refine congrArg (V m c main_v5) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 1024 + 1 * r.val = 1024 * 2 + r.val; rw [a1]; omega
  | ⟨2, _⟩ => show cc0_transform_4 (grid0.coords t) 2 * 256 + 1 * k.val = k.val; rw [a2]; omega

theorem blk5 (t : Fin cfg0.N) (r : Fin 1024) (k : Fin 256) (i : S1024x4096.Idx) (h0 : (i 0).val = r.val) (h1 : (i 1).val = 1024 * (t.val % 4) + (768 + k.val)) :
    X0_5 m c t (ix3 (0 : Fin 1) r k) = m ((c : Thread nD τ).loc main_arg4) i := by
  have hi : i = ix2 r (⟨1024 * (t.val % 4) + (256 * 3 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨3, by omega⟩ r k)
  unfold X0_5 Pipeline.Window.fill
  rw [dif_pos (moved0_5 t _)]
  unfold iblk
  have ⟨a0, a1, a2⟩ := at5 t
  refine congrArg (V m c main_v5) (funext fun a => Fin.ext ?_)
  match a with
  | ⟨0, _⟩ => show cc0_transform_5 (grid0.coords t) 0 * 1 + 1 * 0 = t.val % 4; rw [a0]; omega
  | ⟨1, _⟩ => show cc0_transform_5 (grid0.coords t) 1 * 1024 + 1 * r.val = 1024 * 3 + r.val; rw [a1]; omega
  | ⟨2, _⟩ => show cc0_transform_5 (grid0.coords t) 2 * 256 + 1 * k.val = k.val; rw [a2]; omega

/-- A sum over 1024 is four sums over 256. -/
theorem sum_parts (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- A sum over 4096 is four sums over 1024. -/
theorem sum_slabs (f : Fin 4096 → EReal) :
    ∑ x, f x = ∑ x : Fin 1024, f ⟨x.val, by omega⟩ + ∑ x : Fin 1024, f ⟨1024 + x.val, by omega⟩ + ∑ x : Fin 1024, f ⟨2048 + x.val, by omega⟩ + ∑ x : Fin 1024, f ⟨3072 + x.val, by omega⟩ := by
  rw [Fin.sum_univ_add (a := 3072) (b := 1024) f, Fin.sum_univ_add (a := 2048) (b := 1024) fun x : Fin 3072 => f (Fin.castAdd 1024 x),
    Fin.sum_univ_add (a := 1024) (b := 1024) fun x : Fin 2048 => f (Fin.castAdd 1024 (Fin.castAdd 1024 x))]
  rfl

/-- A sum over 2048 is two sums over 1024. -/
theorem sum_tiles (f : Fin 2048 → EReal) :
    ∑ x, f x = ∑ x : Fin 1024, f ⟨x.val, by omega⟩ + ∑ x : Fin 1024, f ⟨1024 + x.val, by omega⟩ := by
  rw [Fin.sum_univ_add (a := 1024) (b := 1024) f]
  rfl

/-- What the columns of chip `j` add to the gradient by the normalised input, at row `r` of tile `b`. -/
def part (x0 : (⟨S2048x4096, .bf16⟩ : BufTy).Contents (Elt Ideal)) (x4 : (⟨S1024x4096, .f32⟩ : BufTy).Contents (Elt Ideal)) (b : Fin 2) (j : Fin 4) (r k : Fin 1024) : EReal :=
  ∑ x : Fin 1024, (x0 (ix2 (⟨1024 * b.val + r.val, by omega⟩ : Fin 2048) (⟨1024 * j.val + x.val, by omega⟩ : Fin 4096)) : EReal)
    * (x4 (ix2 k (⟨1024 * j.val + x.val, by omega⟩ : Fin 4096)) : EReal)

theorem part_at (t : Fin cfg0.N) (r k : Fin 1024) :
    (∑ x : Fin 256, HMul.hMul (α := EReal) (β := EReal) (γ := EReal) (iblk m c 0 t (ix2 r (⟨x.val, by omega⟩ : Fin 1024))) (X0_2 m c t (ix3 (0 : Fin 1) k x))
        + ∑ x : Fin 256, HMul.hMul (α := EReal) (β := EReal) (γ := EReal) (iblk m c 0 t (ix2 r (⟨256 + x.val, by omega⟩ : Fin 1024))) (X0_3 m c t (ix3 (0 : Fin 1) k x))
        + ∑ x : Fin 256, HMul.hMul (α := EReal) (β := EReal) (γ := EReal) (iblk m c 0 t (ix2 r (⟨512 + x.val, by omega⟩ : Fin 1024))) (X0_4 m c t (ix3 (0 : Fin 1) k x))
        + ∑ x : Fin 256, HMul.hMul (α := EReal) (β := EReal) (γ := EReal) (iblk m c 0 t (ix2 r (⟨768 + x.val, by omega⟩ : Fin 1024))) (X0_5 m c t (ix3 (0 : Fin 1) k x)))
      = part (m ((c : Thread nD τ).loc main_arg0)) (m ((c : Thread nD τ).loc main_arg4)) ⟨t.val / 4, by have : t.val < 8 := t.isLt; omega⟩ ⟨t.val % 4, by omega⟩ r k := by
  have ht : t.val < 8 := t.isLt
  unfold part
  rw [sum_parts]
  refine congr (congrArg _ (congr (congrArg _ (congr (congrArg _ ?_) ?_)) ?_)) ?_ <;> refine Finset.sum_congr rfl fun x _ => congr (congrArg _ (blk0 m c t _ _ rfl rfl)) ?_
  · exact blk2 m c t _ _ _ rfl (by show 1024 * (t.val % 4) + x.val = 1024 * (t.val % 4) + (0 + x.val); omega)
  · exact blk3 m c t _ _ _ rfl rfl
  · exact blk4 m c t _ _ _ rfl rfl
  · exact blk5 m c t _ _ _ rfl rfl

theorem sc_A (t : Fin cfg0.N) (h : t.val % 4 = 0) (r k : Fin 1024) :
    (outsAt0 m c t.val t.isLt).2.2.2 (ix2 r k) = part (m ((c : Thread nD τ).loc main_arg0)) (m ((c : Thread nD τ).loc main_arg4)) ⟨t.val / 4, by have : t.val < 8 := t.isLt; omega⟩ ⟨t.val % 4, by omega⟩ r k := by
  rw [outsAt0_A m c t h (by omega) (by omega)]
  dsimp only
  frame_out
  unfold k0_pay8 k0_pay7
  pointwise
  exact part_at m c t r k

theorem pay9_at (t : Fin cfg0.N) (s : Vec Ideal S1024x1024 .f32) (r k : Fin 1024) :
    k0_pay9 (View.ld (iblk m c 0 t) (Rect.unit ![0, 0] ![1024, 256] inb_S1024x1024_S1024x256_0_0)) (X0_2 m c t)
        (View.ld (iblk m c 0 t) (Rect.unit ![0, 256] ![1024, 256] inb_S1024x1024_S1024x256_0_256)) (X0_3 m c t)
        (View.ld (iblk m c 0 t) (Rect.unit ![0, 512] ![1024, 256] inb_S1024x1024_S1024x256_0_512)) (X0_4 m c t)
        (View.ld (iblk m c 0 t) (Rect.unit ![0, 768] ![1024, 256] inb_S1024x1024_S1024x256_0_768)) (X0_5 m c t) s (ix2 r k)
      = (s (ix2 r k) + part (m ((c : Thread nD τ).loc main_arg0)) (m ((c : Thread nD τ).loc main_arg4)) ⟨t.val / 4, by have : t.val < 8 := t.isLt; omega⟩ ⟨t.val % 4, by omega⟩ r k : EReal) := by
  unfold k0_pay9 k0_pay7
  pointwise
  exact congrArg (fun z : EReal => (s (ix2 r k) : EReal) + z) (part_at m c t r k)

theorem sc_B (t : Fin cfg0.N) (h0 : ¬ t.val % 4 = 0) (h3 : ¬ t.val % 4 = 3) (r k : Fin 1024) :
    (outsAt0 m c t.val t.isLt).2.2.2 (ix2 r k) = ((outsAt0 m c (t.val - 1) (Nat.lt_of_le_of_lt (Nat.sub_le _ _) t.isLt)).2.2.2 (ix2 r k)
      + part (m ((c : Thread nD τ).loc main_arg0)) (m ((c : Thread nD τ).loc main_arg4)) ⟨t.val / 4, by have : t.val < 8 := t.isLt; omega⟩ ⟨t.val % 4, by omega⟩ r k : EReal) := by
  rw [outsAt0_B m c t h0 (by omega) h3]
  dsimp only
  frame_out
  rw [(Memref.isWhole_whole _).read_unread]
  exact pay9_at m c t _ r k

/-- The gradient by the normalised input, from the four chips. -/
def dh (x0 : (⟨S2048x4096, .bf16⟩ : BufTy).Contents (Elt Ideal)) (x4 : (⟨S1024x4096, .f32⟩ : BufTy).Contents (Elt Ideal)) (r : Fin 2048) (k : Fin 1024) : EReal :=
  ∑ x : Fin 4096, (x0 (ix2 r x) : EReal) * (x4 (ix2 k x) : EReal)

theorem dh_parts (x0 : (⟨S2048x4096, .bf16⟩ : BufTy).Contents (Elt Ideal)) (x4 : (⟨S1024x4096, .f32⟩ : BufTy).Contents (Elt Ideal)) (b : Fin 2) (r k : Fin 1024) :
    part x0 x4 b 0 r k + part x0 x4 b 1 r k + part x0 x4 b 2 r k + part x0 x4 b 3 r k = dh x0 x4 (⟨1024 * b.val + r.val, by omega⟩ : Fin 2048) k := by
  unfold dh part
  rw [sum_slabs]
  refine congr (congrArg _ (congr (congrArg _ (congr (congrArg _ ?_) ?_)) ?_)) ?_ <;> refine Finset.sum_congr rfl fun x _ => ?_
  · have e : (⟨1024 * (0 : Fin 4).val + x.val, by omega⟩ : Fin 4096) = ⟨x.val, by omega⟩ := Fin.ext (Nat.zero_add _)
    rw [e]
  · rfl
  · rfl
  · rfl

/-- The scratch a last point leaves: the whole gradient of its rows. -/
theorem acc (t : Fin cfg0.N) (h3 : t.val % 4 = 3) (s : Vec Ideal S1024x1024 .f32)
    (hs : s = k0_pay9 (View.ld (iblk m c 0 t) (Rect.unit ![0, 0] ![1024, 256] inb_S1024x1024_S1024x256_0_0)) (X0_2 m c t)
        (View.ld (iblk m c 0 t) (Rect.unit ![0, 256] ![1024, 256] inb_S1024x1024_S1024x256_0_256)) (X0_3 m c t)
        (View.ld (iblk m c 0 t) (Rect.unit ![0, 512] ![1024, 256] inb_S1024x1024_S1024x256_0_512)) (X0_4 m c t)
        (View.ld (iblk m c 0 t) (Rect.unit ![0, 768] ![1024, 256] inb_S1024x1024_S1024x256_0_768)) (X0_5 m c t)
        (outsAt0 m c (t.val - 1) (Nat.lt_of_le_of_lt (Nat.sub_le _ _) t.isLt)).2.2.2) (r k : Fin 1024) :
    s (ix2 r k) = dh (m ((c : Thread nD τ).loc main_arg0)) (m ((c : Thread nD τ).loc main_arg4)) (⟨1024 * (t.val / 4) + r.val, by have : t.val < 8 := t.isLt; omega⟩ : Fin 2048) k := by
  have ht : t.val < 8 := t.isLt
  have hN : cfg0.N = 8 := N_0
  rw [hs, pay9_at, ← dh_parts _ _ ⟨t.val / 4, by omega⟩ r k]
  have e2 := sc_B m c ⟨t.val - 1, by omega⟩ (by dsimp only; omega) (by dsimp only; omega) r k
  have e1 := sc_B m c ⟨t.val - 1 - 1, by omega⟩ (by dsimp only; omega) (by dsimp only; omega) r k
  have e0 := sc_A m c ⟨t.val - 1 - 1 - 1, by omega⟩ (by dsimp only; omega) r k
  dsimp only at e0 e1 e2
  rw [e2, e1, e0]
  have g0 : (t.val - 1 - 1 - 1) / 4 = t.val / 4 := by omega
  have g1 : (t.val - 1 - 1) / 4 = t.val / 4 := by omega
  have g2 : (t.val - 1) / 4 = t.val / 4 := by omega
  have j0 : (t.val - 1 - 1 - 1) % 4 = 0 := by omega
  have j1 : (t.val - 1 - 1) % 4 = 1 := by omega
  have j2 : (t.val - 1) % 4 = 2 := by omega
  simp only [g0, g1, g2, j0, j1, j2, h3]
  rfl

theorem out8 (t : Fin cfg0.N) (h3 : t.val % 4 = 3) : ∃ s : Vec Ideal S1024x1024 .f32,
    (∀ r k : Fin 1024, s (ix2 r k) = dh (m ((c : Thread nD τ).loc main_arg0)) (m ((c : Thread nD τ).loc main_arg4)) (⟨1024 * (t.val / 4) + r.val, by have : t.val < 8 := t.isLt; omega⟩ : Fin 2048) k)
    ∧ (outsAt0 m c t.val t.isLt).1 = k0_pay5 (iblk m c 6 t) (iblk m c 1 t) s (iblk m c 7 t)
    ∧ (outsAt0 m c t.val t.isLt).2.1 = k0_pay6 (iblk m c 6 t) (iblk m c 1 t) s (iblk m c 7 t)
    ∧ (t.val < 4 → (outsAt0 m c t.val t.isLt).2.2.1 = k0_pay4 (iblk m c 6 t) s)
    ∧ (4 ≤ t.val → (outsAt0 m c t.val t.isLt).2.2.1 = k0_pay1 (k0_pay4 (iblk m c 6 t) s) (outsAt0 m c (t.val - 1) (Nat.lt_of_le_of_lt (Nat.sub_le _ _) t.isLt)).2.2.1) := by
  refine ⟨_, acc m c t h3 _ rfl, ?_⟩
  by_cases h4 : t.val < 4
  · rw [outsAt0_C m c t (by omega) (by omega) h3 h4 (by omega)]
    dsimp only
    frame_out
    rw [(Memref.isWhole_whole _).read_unread]
    exact ⟨rfl, rfl, fun _ => rfl, fun h => absurd h4 (by omega)⟩
  · rw [outsAt0_D m c t (by omega) (by omega) h3 h4 (by omega)]
    dsimp only
    frame_out
    rw [(Memref.isWhole_whole _).read_unread]
    exact ⟨rfl, rfl, fun h => absurd h h4, fun _ => rfl⟩

/-- Elsewhere the third output stands as the point before left it. -/
theorem out10_A (t : Fin cfg0.N) (h : t.val % 4 = 0) (h' : 4 ≤ t.val) :
    (outsAt0 m c t.val t.isLt).2.2.1 = (outsAt0 m c (t.val - 1) (Nat.lt_of_le_of_lt (Nat.sub_le _ _) t.isLt)).2.2.1 := by
  rw [outsAt0_A m c t h (by omega) (by omega)]
  dsimp only [out0_A_10]

theorem out10_B (t : Fin cfg0.N) (h0 : ¬ t.val % 4 = 0) (h3 : ¬ t.val % 4 = 3) :
    (outsAt0 m c t.val t.isLt).2.2.1 = (outsAt0 m c (t.val - 1) (Nat.lt_of_le_of_lt (Nat.sub_le _ _) t.isLt)).2.2.1 := by
  rw [outsAt0_B m c t h0 (by omega) h3]
  dsimp only [out0_B_10]

abbrev N1024 : EReal := Ideal.ofBits .f32 0x44800000#32
abbrev half : EReal := Ideal.ofBits .f32 0xBF000000#32
abbrev eps : EReal := Ideal.ofBits .f32 0x358637BD#32

open Cert.NormGrad

theorem k5_at (x : Vec Ideal S1024x1024 .f32) (g : Vec Ideal S1x1024 .f32) (s d : Vec Ideal S1024x1024 .f32) (r k : Fin 1024) :
    k0_pay5 x g s d (ix2 r k) = first N1024 eps (fun k => (x (ix2 r k) : EReal)) (fun k : Fin 1024 => HMul.hMul (α := EReal) (β := EReal) (γ := EReal) (s (ix2 r k)) (g (ix2 (0 : Fin 1) k))) (d (ix2 r k)) k := by
  unfold k0_pay5 k0_pay3 k0_pay2
  pointwise
  rfl

theorem k6_eq (x : Vec Ideal S1024x1024 .f32) (g : Vec Ideal S1x1024 .f32) (s d : Vec Ideal S1024x1024 .f32) : k0_pay6 x g s d = k0_pay5 x g s d := rfl

theorem k4_at (x s : Vec Ideal S1024x1024 .f32) (k : Fin 1024) :
    k0_pay4 x s (ix2 (0 : Fin 1) k) = ∑ r : Fin 1024, HMul.hMul (α := EReal) (β := EReal) (γ := EReal) (s (ix2 r k))
      (HMul.hMul (α := EReal) (β := EReal) (γ := EReal) (x (ix2 r k)) (Ideal.rsqrt (meanSq N1024 eps fun k : Fin 1024 => (x (ix2 r k) : EReal)))) := by
  unfold k0_pay4 k0_pay3 k0_pay2
  pointwise
  rfl

theorem k1_at (a b : Vec Ideal S1x1024 .f32) (k : Fin 1024) :
    k0_pay1 a b (ix2 (0 : Fin 1) k) = HAdd.hAdd (α := EReal) (β := EReal) (γ := EReal) (b (ix2 (0 : Fin 1) k)) (a (ix2 (0 : Fin 1) k)) := by
  unfold k0_pay1
  pointwise

section Reference

open Cert.DxUpRefIdeal.Read

variable (x0 : (⟨S2048x4096, .bf16⟩ : BufTy).Contents (Elt Ideal)) (x1 : (⟨S2048x1024, .f32⟩ : BufTy).Contents (Elt Ideal)) (x2 : (⟨S1024, .f32⟩ : BufTy).Contents (Elt Ideal))
  (x3 : (⟨S2048x1024, .f32⟩ : BufTy).Contents (Elt Ideal)) (x4 : (⟨S1024x4096, .f32⟩ : BufTy).Contents (Elt Ideal))

theorem ref6 (r : Fin 2048) : val_main_v6 (F := Ideal) x1 (ix2 r (0 : Fin 1)) = meanSq N1024 eps fun k : Fin 1024 => (x1 (ix2 r k) : EReal) := by
  unfold val_main_v6 val_main_v5 val_main_cst_1 val_main_v4 val_main_v3 val_main_cst_0 val_main_v2 val_main_v1 val_main_cst val_main_v0
  pointwise
  rfl

theorem ref7 (r : Fin 2048) : val_main_v7 (F := Ideal) x1 (ix2 r (0 : Fin 1)) = Ideal.rsqrt (meanSq N1024 eps fun k : Fin 1024 => (x1 (ix2 r k) : EReal)) := by
  unfold val_main_v7
  pointwise
  rw [ref6]

theorem ref18 (r : Fin 2048) (n : Fin 1024) : val_main_v18 (F := Ideal) x0 x4 (ix2 r n) = dh x0 x4 r n := by
  unfold val_main_v18 val_main_v17
  pointwise
  rfl

theorem ref23 (r : Fin 2048) (n : Fin 1024) : val_main_v23 (F := Ideal) x0 x2 x4 (ix2 r n) = dh x0 x4 r n * (x2 (ix1 n) : EReal) := by
  unfold val_main_v23 val_main_v22 val_main_v13
  pointwise
  rw [ref18]

theorem ref34 (r : Fin 2048) : val_main_v34 (F := Ideal) x0 x1 x2 x4 (ix1 r)
    = slope N1024 half eps (fun k : Fin 1024 => (x1 (ix2 r k) : EReal)) (fun k : Fin 1024 => dh x0 x4 r k * (x2 (ix1 k) : EReal)) := by
  unfold val_main_v34 val_main_cst_7 val_main_v33 val_main_v32 val_main_cst_6 val_main_v31 val_main_v27 val_main_v26 val_main_cst_5 val_main_v25 val_main_v10 val_main_v9 val_main_cst_2 val_main_v8
  pointwise
  simp only [ref23]
  refine (Fin.sum_univ_one _).trans ?_
  rw [ref7, ref6]
  rfl

theorem ref39 (r : Fin 2048) (n : Fin 1024) : val_main_v39 (F := Ideal) x0 x1 x2 x3 x4 (ix2 r n)
    = second N1024 half eps (fun k : Fin 1024 => (x1 (ix2 r k) : EReal)) (fun k : Fin 1024 => dh x0 x4 r k * (x2 (ix1 k) : EReal)) (x3 (ix2 r n)) n := by
  unfold val_main_v39 val_main_v38 val_main_v37 val_main_v36 val_main_v35 val_main_v30 val_main_v29 val_main_v28
  pointwise
  rw [ref34, ref23, ref7]
  rfl

theorem ref41 (n : Fin 1024) :
    val_main_v41 (F := Ideal) x0 x1 x4 (ix2 (0 : Fin 1) n) = ∑ r : Fin 2048, (x1 (ix2 r n) : EReal) * Ideal.rsqrt (meanSq N1024 eps fun k : Fin 1024 => (x1 (ix2 r k) : EReal)) * dh x0 x4 r n := by
  unfold val_main_v41 val_main_v24 val_main_cst_4 val_main_v21 val_main_v20 val_main_cst_3 val_main_v19 val_main_v12 val_main_v11
  pointwise
  simp only [ref7, ref18]
  exact Fin.sum_univ_one _

end Reference

theorem last8 : ∀ t : Fin cfg0.N, (cfg0.win 8).flush t = true → t.val % 4 = 3 := by decide +kernel
theorem last9 : ∀ t : Fin cfg0.N, (cfg0.win 9).flush t = true → t.val % 4 = 3 := by decide +kernel
theorem last10 : ∀ t : Fin cfg0.N, (cfg0.win 10).flush t = true → t.val = 7 := by decide +kernel

theorem dx_at (t : Fin cfg0.N) (s : Vec Ideal S1024x1024 .f32)
    (hs : ∀ r k : Fin 1024, s (ix2 r k) = dh (m ((c : Thread nD τ).loc main_arg0)) (m ((c : Thread nD τ).loc main_arg4)) (⟨1024 * (t.val / 4) + r.val, by have : t.val < 8 := t.isLt; omega⟩ : Fin 2048) k) (r n : Fin 1024) :
    k0_pay5 (iblk m c 6 t) (iblk m c 1 t) s (iblk m c 7 t) (ix2 r n)
      = Cert.DxUpRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (ix2 (⟨1024 * (t.val / 4) + r.val, by have : t.val < 8 := t.isLt; omega⟩ : Fin 2048) n) := by
  rw [k5_at, ref39, ← agree N1024 half eps n_f32 half_f32 eps_f32]
  have e6 := fun k : Fin 1024 => blk6 m c t r k (ix2 (⟨1024 * (t.val / 4) + r.val, by have : t.val < 8 := t.isLt; omega⟩ : Fin 2048) k) rfl rfl
  have e7 := fun k : Fin 1024 => blk7 m c t r k (ix2 (⟨1024 * (t.val / 4) + r.val, by have : t.val < 8 := t.isLt; omega⟩ : Fin 2048) k) rfl rfl
  have e1 := fun k : Fin 1024 => blk1 m c t k
  simp only [e6, e7, e1, hs]

theorem final8 : (dats m 0 c).arrAt 8 cfg0.N = Cert.DxUpRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, n, rfl⟩ : ∃ (r : Fin 1024) (n : Fin 1024), y = ix2 r n := ⟨y 0, y 1, by funext a; match a with | ⟨0, _⟩ => rfl | ⟨1, _⟩ => rfl⟩
  have ht : t.val < 8 := t.isLt
  have ⟨a0, a1⟩ := at8 t
  have he : ((View.whole main_v7_0).slice (win0_8.rect t)).emb (ix2 r n) = ix2 (⟨1024 * (t.val / 4) + r.val, by omega⟩ : Fin 2048) n := by
    funext a
    refine Fin.ext ?_
    match a with
    | ⟨0, _⟩ => show cc0_transform_8 (grid0.coords t) 0 * 1024 + 1 * r.val = _; rw [a0]; show _ = 1024 * (t.val / 4) + r.val; omega
    | ⟨1, _⟩ => show cc0_transform_8 (grid0.coords t) 1 * 1024 + 1 * n.val = _; rw [a1]; show _ = n.val; omega
  rw [he]
  obtain ⟨s, hs, e8, -⟩ := out8 m c t (last8 t hf)
  rw [e8]
  exact dx_at m c t s hs r n

theorem final9 : (dats m 0 c).arrAt 9 cfg0.N = Cert.DxUpRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  obtain ⟨r, n, rfl⟩ : ∃ (r : Fin 1024) (n : Fin 1024), y = ix2 r n := ⟨y 0, y 1, by funext a; match a with | ⟨0, _⟩ => rfl | ⟨1, _⟩ => rfl⟩
  have ht : t.val < 8 := t.isLt
  have ⟨a0, a1⟩ := at9 t
  have he : ((View.whole main_v7_1).slice (win0_9.rect t)).emb (ix2 r n) = ix2 (⟨1024 * (t.val / 4) + r.val, by omega⟩ : Fin 2048) n := by
    funext a
    refine Fin.ext ?_
    match a with
    | ⟨0, _⟩ => show cc0_transform_9 (grid0.coords t) 0 * 1024 + 1 * r.val = _; rw [a0]; show _ = 1024 * (t.val / 4) + r.val; omega
    | ⟨1, _⟩ => show cc0_transform_9 (grid0.coords t) 1 * 1024 + 1 * n.val = _; rw [a1]; show _ = n.val; omega
  rw [he]
  obtain ⟨s, hs, -, e9, -⟩ := out8 m c t (last9 t hf)
  rw [e9, k6_eq]
  exact dx_at m c t s hs r n

/-- The column sums of one tile. -/
theorem dg_at (t : Fin cfg0.N) (s : Vec Ideal S1024x1024 .f32)
    (hs : ∀ r k : Fin 1024, s (ix2 r k) = dh (m ((c : Thread nD τ).loc main_arg0)) (m ((c : Thread nD τ).loc main_arg4)) (⟨1024 * (t.val / 4) + r.val, by have : t.val < 8 := t.isLt; omega⟩ : Fin 2048) k)
    (x0 : (⟨S2048x4096, .bf16⟩ : BufTy).Contents (Elt Ideal)) (x1 : (⟨S2048x1024, .f32⟩ : BufTy).Contents (Elt Ideal)) (x4 : (⟨S1024x4096, .f32⟩ : BufTy).Contents (Elt Ideal))
    (h0 : x0 = m ((c : Thread nD τ).loc main_arg0)) (h1 : x1 = m ((c : Thread nD τ).loc main_arg1)) (h4 : x4 = m ((c : Thread nD τ).loc main_arg4)) (n : Fin 1024) :
    k0_pay4 (iblk m c 6 t) s (ix2 (0 : Fin 1) n) = ∑ r : Fin 1024, (fun r : Fin 2048 => (x1 (ix2 r n) : EReal) * Ideal.rsqrt (meanSq N1024 eps fun k : Fin 1024 => (x1 (ix2 r k) : EReal)) * dh x0 x4 r n)
      (⟨1024 * (t.val / 4) + r.val, by have : t.val < 8 := t.isLt; omega⟩ : Fin 2048) := by
  subst h0 h1 h4
  rw [k4_at]
  refine Finset.sum_congr rfl fun r _ => ?_
  have e6 := fun k : Fin 1024 => blk6 m c t r k (ix2 (⟨1024 * (t.val / 4) + r.val, by have : t.val < 8 := t.isLt; omega⟩ : Fin 2048) k) rfl rfl
  simp only [e6, hs]
  exact mul_comm _ _

theorem pt (n : ℕ) (h : n < 8) : n < cfg0.N := lt_of_lt_of_eq h (show 8 = cfg0.N from N_0.symm)

theorem final10 : (dats m 0 c).arrAt 10 cfg0.N = Cert.DxUpRefIdeal.Read.val_main_v41 (F := Ideal) (m ((c : Thread nD τ).loc main_arg0)) (m ((c : Thread nD τ).loc main_arg1)) (m ((c : Thread nD τ).loc main_arg4)) := by
  refine (dats m 0 c).arrAt_eq_of_covers 10 _ (by decide +kernel) fun t hf y => ?_
  blk_simp
  rw [after0_10]
  obtain ⟨n, rfl⟩ : ∃ (n : Fin 1024), y = ix2 (0 : Fin 1) n := ⟨y 1, by
    funext a
    match a with
    | ⟨0, _⟩ => exact Fin.ext (by have : (y 0).val < 1 := (y 0).isLt; show (y 0).val = 0; omega)
    | ⟨1, _⟩ => rfl⟩
  have ⟨a0, a1⟩ := at10 t
  have he : ((View.whole main_v7_2).slice (win0_10.rect t)).emb (ix2 (0 : Fin 1) n) = ix2 (0 : Fin 1) n := by
    funext a
    refine Fin.ext ?_
    match a with
    | ⟨0, _⟩ => show cc0_transform_10 (grid0.coords t) 0 * 1 + 1 * 0 = 0; rw [a0]
    | ⟨1, _⟩ => show cc0_transform_10 (grid0.coords t) 1 * 1024 + 1 * n.val = n.val; rw [a1]; omega
  rw [he, ref41, sum_tiles]
  obtain rfl : t = ⟨7, pt 7 (by decide)⟩ := Fin.ext (last10 t hf)
  obtain ⟨s7, hs7, -, -, -, e7⟩ := out8 m c ⟨7, pt 7 (by decide)⟩ rfl
  obtain ⟨s3, hs3, -, -, e3, -⟩ := out8 m c ⟨3, pt 3 (by decide)⟩ rfl
  have e7 := e7 (by dsimp only; omega)
  have e3 := e3 (by dsimp only; omega)
  have e6 := out10_B m c ⟨6, pt 6 (by decide)⟩ (by dsimp only; omega) (by dsimp only; omega)
  have e5 := out10_B m c ⟨5, pt 5 (by decide)⟩ (by dsimp only; omega) (by dsimp only; omega)
  have e4 := out10_A m c ⟨4, pt 4 (by decide)⟩ rfl (le_refl _)
  refine (congrFun (e7.trans (congrArg (k0_pay1 (F := Ideal) _) (e6.trans (e5.trans (e4.trans e3))))) (ix2 (0 : Fin 1) n)).trans ?_
  rw [k1_at, dg_at m c ⟨7, pt 7 (by decide)⟩ s7 hs7 _ _ _ rfl rfl rfl, dg_at m c ⟨3, pt 3 (by decide)⟩ s3 hs3 _ _ _ rfl rfl rfl]
  refine congr (congrArg _ (Finset.sum_congr rfl fun r _ => ?_)) rfl
  have hz : (⟨1024 * (3 / 4) + r.val, by omega⟩ : Fin 2048) = ⟨r.val, by omega⟩ := Fin.ext (by show 1024 * (3 / 4) + r.val = r.val; omega)
  dsimp only
  rw [hz]

end Cert.DxUpIdeal.Eq

end
-- ==== Proof.DownEq.lean ====
module
public import proofs.«01_k».proof.Proof.Gen.DownIdeal.Value
public import proofs.«01_k».proof.Proof.Gen.DownRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DownIdeal.Eq

open Idealize.ShloMosaic Idealize.ShloMosaic.TcCoe Cert.DownIdeal.Gen Finset
open Cert.DownIdeal.Value

variable (m : (ℓ : Loc nD τ sig) → Buf (Elt Ideal) ℓ) (c : Dev nD)

theorem at1 : ∀ t : Fin grid0.N, cc0_transform_1 (grid0.coords t) 0 = 0 ∧ cc0_transform_1 (grid0.coords t) 1 = 4 + t.val % 4 ∧ cc0_transform_1 (grid0.coords t) 2 = 0 := by decide +kernel
theorem at2 : ∀ t : Fin grid0.N, cc0_transform_2 (grid0.coords t) 0 = 1 ∧ cc0_transform_2 (grid0.coords t) 1 = 4 + t.val % 4 ∧ cc0_transform_2 (grid0.coords t) 2 = 0 := by decide +kernel
theorem at3 : ∀ t : Fin grid0.N, cc0_transform_3 (grid0.coords t) 0 = 2 ∧ cc0_transform_3 (grid0.coords t) 1 = 4 + t.val % 4 ∧ cc0_transform_3 (grid0.coords t) 2 = 0 := by decide +kernel
theorem at4 : ∀ t : Fin grid0.N, cc0_transform_4 (grid0.coords t) 0 = 3 ∧ cc0_transform_4 (grid0.coords t) 1 = 4 + t.val % 4 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel
theorem at6 : ∀ t : Fin grid0.N, cc0_transform_6 (grid0.coords t) 0 = t.val / 4 ∧ cc0_transform_6 (grid0.coords t) 1 = t.val % 4 := by decide +kernel

theorem packed : V m c main_v6 = concatenate S4x13568x256 1 [⟨S4x4096x256, broadcastInDim S4x4096x256 ![] bcast_S_S4x4096x256 (constant (F := Ideal) S_ .bf16 0x0000#16)⟩,
      ⟨S4x4096x256, shapeCast S4x4096x256 (transpose S4x4x1024x256 [0, 2, 1, 3] (shapeCast S4x1024x4x256 (truncf (F := Ideal) .bf16 (m ((c : Thread nD τ).loc main_arg2)) bitsLt_bf16_f32) shapeCasts_S4096x1024_S4x1024x4x256) transposes_S4x1024x4x256_S4x4x1024x256_0_2_1_3) shapeCasts_S4x4x1024x256_S4x4096x256⟩,
      ⟨S4x5376x256, broadcastInDim S4x5376x256 ![] bcast_S_S4x5376x256 (constant (F := Ideal) S_ .bf16 0x0000#16)⟩] concatenates_S4x4096x256_S4x4096x256_S4x5376x256_S4x13568x256_d1 := by
  unfold V
  simp only [hostOps0]
  after_reads_simp
  rfl

/-- Where the packed buffer holds the weight: slab `a`, rows of its part `b`, is rows of part `a` and columns of part `b`. -/
theorem entry (a b : Fin 4) (r : Fin 1024) (k : Fin 256) :
    V m c main_v6 (ix3 a (⟨4096 + (1024 * b.val + r.val), by omega⟩ : Fin 13568) k)
      = m ((c : Thread nD τ).loc main_arg2) (ix2 (⟨1024 * a.val + r.val, by omega⟩ : Fin 4096) (⟨256 * b.val + k.val, by omega⟩ : Fin 1024)) := by
  rw [packed]
  refine (concatenate_apply_piece (t := S4x13568x256) (1 : Fin 3) _ _ _ 1 (by exact Nat.lt_of_sub_eq_succ rfl) S4x4096x256 _ (by rfl) rfl 4096 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  rfl

theorem blk0 (t : Fin cfg0.N) (r : Fin 1024) (k : Fin 4096) (i : S2048x4096.Idx) (h0 : (i 0).val = 1024 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * r.val = (i 0).val; rw [a0, h0]; omega
  | ⟨1, _⟩ => show cc0_transform_0 (grid0.coords t) 1 * 4096 + 1 * k.val = (i 1).val; rw [a1, h1]; omega

theorem blk5 (t : Fin cfg0.N) (r : Fin 1024) (k : Fin 256) (i : S2048x1024.Idx) (h0 : (i 0).val = 1024 * (t.val / 4) + r.val) (h1 : (i 1).val = 256 * (t.val % 4) + k.val) :
    iblk m c 5 t (ix2 r k) = m ((c : Thread nD τ).loc main_arg1) i := by
  rw [← V_main_arg1 m c]
  unfold iblk
  have ⟨a0, a1⟩ := at5 t
  refine congrArg (V m c main_arg1) (funext fun a => Fin.ext ?_)
  match a with
  | ⟨0, _⟩ => show cc0_transform_5 (grid0.coords t) 0 * 1024 + 1 * r.val = (i 0).val; rw [a0, h0]; omega
  | ⟨1, _⟩ => show cc0_transform_5 (grid0.coords t) 1 * 256 + 1 * k.val = (i 1).val; rw [a1, h1]; omega

theorem blk1 (t : Fin cfg0.N) (r : Fin 1024) (k : Fin 256) (i : S4096x1024.Idx) (h0 : (i 0).val = 0 + r.val) (h1 : (i 1).val = 256 * (t.val % 4) + k.val) :
    X0_1 m c t (ix3 (0 : Fin 1) r k) = m ((c : Thread nD τ).loc main_arg2) i := by
  have hi : i = ix2 (⟨1024 * 0 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨0, by omega⟩ ⟨t.val % 4, by omega⟩ r k)
  unfold X0_1 Pipeline.Window.fill
  rw [dif_pos (moved0_1 t _)]
  unfold iblk
  have ⟨a0, a1, a2⟩ := at1 t
  refine congrArg (V m c main_v6) (funext fun a => Fin.ext ?_)
  match a with
  | ⟨0, _⟩ => show cc0_transform_1 (grid0.coords t) 0 * 1 + 1 * 0 = 0; rw [a0]
  | ⟨1, _⟩ => show cc0_transform_1 (grid0.coords t) 1 * 1024 + 1 * r.val = 4096 + (1024 * (t.val % 4) + r.val); rw [a1]; omega
  | ⟨2, _⟩ => show cc0_transform_1 (grid0.coords t) 2 * 256 + 1 * k.val = k.val; rw [a2]; omega

theorem blk2 (t : Fin cfg0.N) (r : Fin 1024) (k : Fin 256) (i : S4096x1024.Idx) (h0 : (i 0).val = 1024 + r.val) (h1 : (i 1).val = 256 * (t.val % 4) + k.val) :
    X0_2 m c t (ix3 (0 : Fin 1) r k) = m ((c : Thread nD τ).loc main_arg2) i := by
  have hi : i = ix2 (⟨1024 * 1 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨1, by omega⟩ ⟨t.val % 4, by omega⟩ r k)
  unfold X0_2 Pipeline.Window.fill
  rw [dif_pos (moved0_2 t _)]
  unfold iblk
  have ⟨a0, a1, a2⟩ := at2 t
  refine congrArg (V m c main_v6) (funext fun a => Fin.ext ?_)
  match a with
  | ⟨0, _⟩ => show cc0_transform_2 (grid0.coords t) 0 * 1 + 1 * 0 = 1; rw [a0]
  | ⟨1, _⟩ => show cc0_transform_2 (grid0.coords t) 1 * 1024 + 1 * r.val = 4096 + (1024 * (t.val % 4) + r.val); rw [a1]; omega
  | ⟨2, _⟩ => show cc0_transform_2 (grid0.coords t) 2 * 256 + 1 * k.val = k.val; rw [a2]; omega

theorem blk3 (t : Fin cfg0.N) (r : Fin 1024) (k : Fin 256) (i : S4096x1024.Idx) (h0 : (i 0).val = 2048 + r.val) (h1 : (i 1).val = 256 * (t.val % 4) + k.val) :
    X0_3 m c t (ix3 (0 : Fin 1) r k) = m ((c : Thread nD τ).loc main_arg2) i := by
  have hi : i = ix2 (⟨1024 * 2 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨2, by omega⟩ ⟨t.val % 4, by omega⟩ r k)
  unfold X0_3 Pipeline.Window.fill
  rw [dif_pos (moved0_3 t _)]
  unfold iblk
  have ⟨a0, a1, a2⟩ := at3 t
  refine congrArg (V m c main_v6) (funext fun a => Fin.ext ?_)
  match a with
  | ⟨0, _⟩ => show cc0_transform_3 (grid0.coords t) 0 * 1 + 1 * 0 = 2; rw [a0]
  | ⟨1, _⟩ => show cc0_transform_3 (grid0.coords t) 1 * 1024 + 1 * r.val = 4096 + (1024 * (t.val % 4) + r.val); rw [a1]; omega
  | ⟨2, _⟩ => show cc0_transform_3 (grid0.coords t) 2 * 256 + 1 * k.val = k.val; rw [a2]; omega

theorem blk4 (t : Fin cfg0.N) (r : Fin 1024) (k : Fin 256) (i : S4096x1024.Idx) (h0 : (i 0).val = 3072 + r.val) (h1 : (i 1).val = 256 * (t.val % 4) + k.val) :
    X0_4 m c t (ix3 (0 : Fin 1) r k) = m ((c : Thread nD τ).loc main_arg2) i := by
  have hi : i = ix2 (⟨1024 * 3 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨3, by omega⟩ ⟨t.val % 4, by omega⟩ r k)
  unfold X0_4 Pipeline.Window.fill
  rw [dif_pos (moved0_4 t _)]
  unfold iblk
  have ⟨a0, a1, a2⟩ := at4 t
  refine congrArg (V m c main_v6) (funext fun a => Fin.ext ?_)
  match a with
  | ⟨0, _⟩ => show cc0_transform_4 (grid0.coords t) 0 * 1 + 1 * 0 = 3; rw [a0]
  | ⟨1, _⟩ => show cc0_transform_4 (grid0.coords t) 1 * 1024 + 1 * r.val = 4096 + (1024 * (t.val % 4) + r.val); rw [a1]; omega
  | ⟨2, _⟩ => show cc0_transform_4 (grid0.coords t) 2 * 256 + 1 * k.val = k.val; rw [a2]; omega

/-- A sum over 4096 is four sums over 1024. -/
theorem sum_slabs (f : Fin 4096 → EReal) :
    ∑ x, f x = ∑ x : Fin 1024, f ⟨x.val, by omega⟩ + ∑ x : Fin 1024, f ⟨1024 + x.val, by omega⟩ + ∑ x : Fin 1024, f ⟨2048 + x.val, by omega⟩ + ∑ x : Fin 1024, f ⟨3072 + x.val, by omega⟩ := by
  rw [Fin.sum_univ_add (a := 3072) (b := 1024) f, Fin.sum_univ_add (a := 2048) (b := 1024) fun x : Fin 3072 => f (Fin.castAdd 1024 x),
    Fin.sum_univ_add (a := 1024) (b := 1024) fun x : Fin 2048 => f (Fin.castAdd 1024 (Fin.castAdd 1024 x))]
  rfl

/-- The reference at an index. -/
theorem ref_at (x0 : (⟨S2048x4096, .bf16⟩ : BufTy).Contents (Elt Ideal)) (x1 : (⟨S2048x1024, .f32⟩ : BufTy).Contents (Elt Ideal)) (x2 : (⟨S4096x1024, .f32⟩ : BufTy).Contents (Elt Ideal)) (r : Fin 2048) (n : Fin 1024) :
    Cert.DownRefIdeal.Read.val_main_v2 (F := Ideal) x0 x1 x2 (ix2 r n)
      = (x1 (ix2 r n) : EReal) + ∑ x : Fin 4096, (x0 (ix2 r x) : EReal) * (x2 (ix2 x n) : EReal) := by
  unfold Cert.DownRefIdeal.Read.val_main_v2 Cert.DownRefIdeal.Read.val_main_v1 Cert.DownRefIdeal.Read.val_main_v0
  pointwise

theorem final : (dats m 0 c).arrAt 6 cfg0.N = Cert.DownRefIdeal.Read.val_main_v2 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold outsAt0
  frame_out
  obtain ⟨r, n, rfl⟩ : ∃ (r : Fin 1024) (n : Fin 256), y = ix2 r n := ⟨y 0, y 1, by funext a; match a with | ⟨0, _⟩ => rfl | ⟨1, _⟩ => rfl⟩
  have ht : t.val < 8 := t.isLt
  have ⟨a0, a1⟩ := at6 t
  have he : ((View.whole main_v7).slice (win0_6.rect t)).emb (ix2 r n) = ix2 (⟨1024 * (t.val / 4) + r.val, by omega⟩ : Fin 2048) (⟨256 * (t.val % 4) + n.val, by omega⟩ : Fin 1024) := by
    funext a
    refine Fin.ext ?_
    match a with
    | ⟨0, _⟩ => show cc0_transform_6 (grid0.coords t) 0 * 1024 + 1 * r.val = _; rw [a0]; show _ = 1024 * (t.val / 4) + r.val; omega
    | ⟨1, _⟩ => show cc0_transform_6 (grid0.coords t) 1 * 256 + 1 * n.val = _; rw [a1]; show _ = 256 * (t.val % 4) + n.val; omega
  rw [he]
  refine Eq.trans ?_ (ref_at _ _ _ _ _).symm
  unfold k0_pay1
  pointwise
  rw [add_comm, sum_slabs, blk5 m c t r n (ix2 (⟨1024 * (t.val / 4) + r.val, by omega⟩ : Fin 2048) (⟨256 * (t.val % 4) + n.val, by omega⟩ : Fin 1024)) rfl rfl]
  refine congr rfl ?_
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ (Nat.zero_add _).symm rfl
  · exact blk2 m c t _ _ _ rfl rfl
  · exact blk3 m c t _ _ _ rfl rfl
  · exact blk4 m c t _ _ _ rfl rfl

end Cert.DownIdeal.Eq

end
-- ==== Proof.DxDownBEq.lean ====
module
public import proofs.«01_k».proof.Proof.Gen.DxDownBIdeal.Value
public import proofs.«01_k».proof.Proof.Gen.DxDownBRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxDownBIdeal.Eq

open Idealize.ShloMosaic Idealize.ShloMosaic.TcCoe Cert.DxDownBIdeal.Gen Finset
open Cert.DxDownBIdeal.Value

variable (m : (ℓ : Loc nD τ sig) → Buf (Elt Ideal) ℓ) (c : Dev nD)

theorem at1 : ∀ t : Fin grid0.N, cc0_transform_1 (grid0.coords t) 0 = t.val % 4 ∧ cc0_transform_1 (grid0.coords t) 1 = 4 ∧ cc0_transform_1 (grid0.coords t) 2 = 0 := by decide +kernel
theorem at2 : ∀ t : Fin grid0.N, cc0_transform_2 (grid0.coords t) 0 = t.val % 4 ∧ cc0_transform_2 (grid0.coords t) 1 = 5 ∧ cc0_transform_2 (grid0.coords t) 2 = 0 := by decide +kernel
theorem at3 : ∀ t : Fin grid0.N, cc0_transform_3 (grid0.coords t) 0 = t.val % 4 ∧ cc0_transform_3 (grid0.coords t) 1 = 6 ∧ cc0_transform_3 (grid0.coords t) 2 = 0 := by decide +kernel
theorem at4 : ∀ t : Fin grid0.N, cc0_transform_4 (grid0.coords t) 0 = t.val % 4 ∧ cc0_transform_4 (grid0.coords t) 1 = 7 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel
theorem at6 : ∀ t : Fin grid0.N, cc0_transform_6 (grid0.coords t) 0 = t.val / 4 ∧ cc0_transform_6 (grid0.coords t) 1 = t.val % 4 := by decide +kernel

theorem packed : V m c main_v6 = concatenate S4x12544x256 1 [⟨S4x4096x256, broadcastInDim S4x4096x256 ![] bcast_S_S4x4096x256 (constant (F := Ideal) S_ .bf16 0x0000#16)⟩,
      ⟨S4x4096x256, shapeCast S4x4096x256 (transpose S4x4x1024x256 [0, 2, 1, 3] (shapeCast S4x1024x4x256 (truncf (F := Ideal) .bf16 (m ((c : Thread nD τ).loc main_arg2)) bitsLt_bf16_f32) shapeCasts_S4096x1024_S4x1024x4x256) transposes_S4x1024x4x256_S4x4x1024x256_0_2_1_3) shapeCasts_S4x4x1024x256_S4x4096x256⟩,
      ⟨S4x4352x256, broadcastInDim S4x4352x256 ![] bcast_S_S4x4352x256 (constant (F := Ideal) S_ .bf16 0x0000#16)⟩] concatenates_S4x4096x256_S4x4096x256_S4x4352x256_S4x12544x256_d1 := by
  unfold V
  simp only [hostOps0]
  after_reads_simp
  rfl

/-- Where the packed buffer holds the weight: slab `a`, rows of its part `b`, is rows of part `a` and columns of part `b`. -/
theorem entry (a b : Fin 4) (r : Fin 1024) (k : Fin 256) :
    V m c main_v6 (ix3 a (⟨4096 + (1024 * b.val + r.val), by omega⟩ : Fin 12544) k)
      = m ((c : Thread nD τ).loc main_arg2) (ix2 (⟨1024 * a.val + r.val, by omega⟩ : Fin 4096) (⟨256 * b.val + k.val, by omega⟩ : Fin 1024)) := by
  rw [packed]
  refine (concatenate_apply_piece (t := S4x12544x256) (1 : Fin 3) _ _ _ 1 (by exact Nat.lt_of_sub_eq_succ rfl) S4x4096x256 _ (by rfl) rfl 4096 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  rfl

theorem blk0 (t : Fin cfg0.N) (r : Fin 1024) (k : Fin 1024) (i : S2048x1024.Idx) (h0 : (i 0).val = 1024 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * r.val = (i 0).val; rw [a0, h0]; omega
  | ⟨1, _⟩ => show cc0_transform_0 (grid0.coords t) 1 * 1024 + 1 * k.val = (i 1).val; rw [a1, h1]; omega

theorem blk5 (t : Fin cfg0.N) (r : Fin 1024) (k : Fin 1024) (i : S2048x4096.Idx) (h0 : (i 0).val = 1024 * (t.val / 4) + r.val) (h1 : (i 1).val = 1024 * (t.val % 4) + k.val) :
    iblk m c 5 t (ix2 r k) = m ((c : Thread nD τ).loc main_arg1) i := by
  rw [← V_main_arg1 m c]
  unfold iblk
  have ⟨a0, a1⟩ := at5 t
  refine congrArg (V m c main_arg1) (funext fun a => Fin.ext ?_)
  match a with
  | ⟨0, _⟩ => show cc0_transform_5 (grid0.coords t) 0 * 1024 + 1 * r.val = (i 0).val; rw [a0, h0]; omega
  | ⟨1, _⟩ => show cc0_transform_5 (grid0.coords t) 1 * 1024 + 1 * k.val = (i 1).val; rw [a1, h1]; omega

theorem blk1 (t : Fin cfg0.N) (r : Fin 1024) (k : Fin 256) (i : S4096x1024.Idx) (h0 : (i 0).val = 1024 * (t.val % 4) + r.val) (h1 : (i 1).val = 0 + k.val) :
    X0_1 m c t (ix3 (0 : Fin 1) r k) = m ((c : Thread nD τ).loc main_arg2) i := by
  have hi : i = ix2 (⟨1024 * (t.val % 4) + r.val, by omega⟩ : Fin 4096) (⟨256 * 0 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold X0_1 Pipeline.Window.fill
  rw [dif_pos (moved0_1 t _)]
  unfold iblk
  have ⟨a0, a1, a2⟩ := at1 t
  refine congrArg (V m c main_v6) (funext fun a => Fin.ext ?_)
  match a with
  | ⟨0, _⟩ => show cc0_transform_1 (grid0.coords t) 0 * 1 + 1 * 0 = t.val % 4; rw [a0]; omega
  | ⟨1, _⟩ => show cc0_transform_1 (grid0.coords t) 1 * 1024 + 1 * r.val = 4096 + (1024 * 0 + r.val); rw [a1]; omega
  | ⟨2, _⟩ => show cc0_transform_1 (grid0.coords t) 2 * 256 + 1 * k.val = k.val; rw [a2]; omega

theorem blk2 (t : Fin cfg0.N) (r : Fin 1024) (k : Fin 256) (i : S4096x1024.Idx) (h0 : (i 0).val = 1024 * (t.val % 4) + r.val) (h1 : (i 1).val = 256 + k.val) :
    X0_2 m c t (ix3 (0 : Fin 1) r k) = m ((c : Thread nD τ).loc main_arg2) i := by
  have hi : i = ix2 (⟨1024 * (t.val % 4) + r.val, by omega⟩ : Fin 4096) (⟨256 * 1 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold X0_2 Pipeline.Window.fill
  rw [dif_pos (moved0_2 t _)]
  unfold iblk
  have ⟨a0, a1, a2⟩ := at2 t
  refine congrArg (V m c main_v6) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 1024 + 1 * r.val = 4096 + (1024 * 1 + r.val); rw [a1]; omega
  | ⟨2, _⟩ => show cc0_transform_2 (grid0.coords t) 2 * 256 + 1 * k.val = k.val; rw [a2]; omega

theorem blk3 (t : Fin cfg0.N) (r : Fin 1024) (k : Fin 256) (i : S4096x1024.Idx) (h0 : (i 0).val = 1024 * (t.val % 4) + r.val) (h1 : (i 1).val = 512 + k.val) :
    X0_3 m c t (ix3 (0 : Fin 1) r k) = m ((c : Thread nD τ).loc main_arg2) i := by
  have hi : i = ix2 (⟨1024 * (t.val % 4) + r.val, by omega⟩ : Fin 4096) (⟨256 * 2 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold X0_3 Pipeline.Window.fill
  rw [dif_pos (moved0_3 t _)]
  unfold iblk
  have ⟨a0, a1, a2⟩ := at3 t
  refine congrArg (V m c main_v6) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 1024 + 1 * r.val = 4096 + (1024 * 2 + r.val); rw [a1]; omega
  | ⟨2, _⟩ => show cc0_transform_3 (grid0.coords t) 2 * 256 + 1 * k.val = k.val; rw [a2]; omega

theorem blk4 (t : Fin cfg0.N) (r : Fin 1024) (k : Fin 256) (i : S4096x1024.Idx) (h0 : (i 0).val = 1024 * (t.val % 4) + r.val) (h1 : (i 1).val = 768 + k.val) :
    X0_4 m c t (ix3 (0 : Fin 1) r k) = m ((c : Thread nD τ).loc main_arg2) i := by
  have hi : i = ix2 (⟨1024 * (t.val % 4) + r.val, by omega⟩ : Fin 4096) (⟨256 * 3 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨3, by omega⟩ r k)
  unfold X0_4 Pipeline.Window.fill
  rw [dif_pos (moved0_4 t _)]
  unfold iblk
  have ⟨a0, a1, a2⟩ := at4 t
  refine congrArg (V m c main_v6) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 1024 + 1 * r.val = 4096 + (1024 * 3 + r.val); rw [a1]; omega
  | ⟨2, _⟩ => show cc0_transform_4 (grid0.coords t) 2 * 256 + 1 * k.val = k.val; rw [a2]; omega

/-- A sum over 1024 is four sums over 256. -/
theorem sum_slabs (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- The reference at an index: where the input of the square is not above zero, the factor is zero as well. -/
theorem ref_at (x0 : (⟨S2048x1024, .bf16⟩ : BufTy).Contents (Elt Ideal)) (x1 : (⟨S2048x4096, .bf16⟩ : BufTy).Contents (Elt Ideal)) (x2 : (⟨S4096x1024, .f32⟩ : BufTy).Contents (Elt Ideal)) (r : Fin 2048) (n : Fin 4096) :
    Cert.DxDownBRefIdeal.Read.val_main_v14 (F := Ideal) x0 x1 x2 (ix2 r n)
      = (∑ x : Fin 1024, (x0 (ix2 r x) : EReal) * (x2 (ix2 n x) : EReal)) * (Ideal.ofBits FTy.f32 1073741824#32 * max (x1 (ix2 r n) : EReal) 0) := by
  unfold Cert.DxDownBRefIdeal.Read.val_main_v14 Cert.DxDownBRefIdeal.Read.val_main_v13 Cert.DxDownBRefIdeal.Read.val_main_v12 Cert.DxDownBRefIdeal.Read.val_main_v11 Cert.DxDownBRefIdeal.Read.val_main_v10 Cert.DxDownBRefIdeal.Read.val_main_v9 Cert.DxDownBRefIdeal.Read.val_main_v7 Cert.DxDownBRefIdeal.Read.val_main_v6 Cert.DxDownBRefIdeal.Read.val_main_v3 Cert.DxDownBRefIdeal.Read.val_main_v2 Cert.DxDownBRefIdeal.Read.val_main_v1 Cert.DxDownBRefIdeal.Read.val_main_v0 Cert.DxDownBRefIdeal.Read.val_main_call0_v0 Cert.DxDownBRefIdeal.Read.val_main_call0_cst Cert.DxDownBRefIdeal.Read.val_main_cst Cert.DxDownBRefIdeal.Read.val_main_cst_1 Cert.DxDownBRefIdeal.Read.val_main_cst_2
  pointwise
  split_ifs with h
  · rfl
  · rw [max_eq_right (not_lt.mp h), mul_zero, mul_zero]

theorem final : (dats m 0 c).arrAt 6 cfg0.N = Cert.DxDownBRefIdeal.Read.val_main_v14 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold outsAt0
  frame_out
  obtain ⟨r, n, rfl⟩ : ∃ (r n : Fin 1024), y = ix2 r n := ⟨y 0, y 1, by funext a; match a with | ⟨0, _⟩ => rfl | ⟨1, _⟩ => rfl⟩
  have ht : t.val < 8 := t.isLt
  have ⟨a0, a1⟩ := at6 t
  have he : ((View.whole main_v7).slice (win0_6.rect t)).emb (ix2 r n) = ix2 (⟨1024 * (t.val / 4) + r.val, by omega⟩ : Fin 2048) (⟨1024 * (t.val % 4) + n.val, by omega⟩ : Fin 4096) := by
    funext a
    refine Fin.ext ?_
    match a with
    | ⟨0, _⟩ => show cc0_transform_6 (grid0.coords t) 0 * 1024 + 1 * r.val = _; rw [a0]; show _ = 1024 * (t.val / 4) + r.val; omega
    | ⟨1, _⟩ => show cc0_transform_6 (grid0.coords t) 1 * 1024 + 1 * n.val = _; rw [a1]; show _ = 1024 * (t.val % 4) + n.val; omega
  rw [he]
  refine Eq.trans ?_ (ref_at _ _ _ _ _).symm
  unfold k0_pay1
  pointwise
  rw [sum_slabs, blk5 m c t r n (ix2 (⟨1024 * (t.val / 4) + r.val, by omega⟩ : Fin 2048) (⟨1024 * (t.val % 4) + n.val, by omega⟩ : Fin 4096)) rfl rfl]
  refine congr (congrArg _ ?_) rfl
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ rfl (Nat.zero_add _).symm
  · exact blk2 m c t _ _ _ rfl rfl
  · exact blk3 m c t _ _ _ rfl rfl
  · exact blk4 m c t _ _ _ rfl rfl

end Cert.DxDownBIdeal.Eq

end
-- ==== Proof.DwUpBEq.lean ====
module
public import proofs.«01_k».proof.Proof.Gen.DwUpBIdeal.Value
public import proofs.«01_k».proof.Proof.Gen.DwUpBRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwUpBIdeal.Eq

open Idealize.ShloMosaic Idealize.ShloMosaic.TcCoe Cert.DwUpBIdeal.Gen Finset
open Cert.DwUpBIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = 0 := by decide +kernel
theorem at1 : ∀ t : Fin grid0.N, cc0_transform_2 (grid0.coords t) 0 = 0 ∧ cc0_transform_2 (grid0.coords t) 1 = t.val := by decide +kernel
theorem at2 : ∀ t : Fin grid0.N, cc0_transform_3 (grid0.coords t) 0 = t.val ∧ cc0_transform_3 (grid0.coords t) 1 = 0 ∧ cc0_transform_3 (grid0.coords t) 2 = 0 := by decide +kernel

theorem blk0 (t : Fin cfg0.N) (r : Fin 2048) (k : Fin 1024) (i : S2048x1024.Idx) (h0 : (i 0).val = r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 1024 + 1 * k.val = (i 1).val; rw [a1, h1]; omega

theorem blk1 (t : Fin cfg0.N) (r : Fin 2048) (k : Fin 1024) (i : S2048x4096.Idx) (h0 : (i 0).val = r.val) (h1 : (i 1).val = 1024 * t.val + k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 1024 + 1 * k.val = (i 1).val; rw [a1, h1]; omega

theorem kept : V m c main_v0 = m ((c : Thread nD τ).loc main_arg2) := by
  unfold V
  simp only [hostOps0]
  after_reads_simp
  rfl

open Cert.DwUpBRefIdeal.Read in
/-- The reference's gradient at an index of its rows of slab `a`, part `b`. -/
theorem ref_at (x0 : (⟨S2048x1024, .bf16⟩ : BufTy).Contents (Elt Ideal)) (x1 : (⟨S2048x4096, .bf16⟩ : BufTy).Contents (Elt Ideal)) (x2 : (⟨S4x12544x256, .bf16⟩ : BufTy).Contents (Elt Ideal))
    (a b : Fin 4) (r : Fin 1024) (k : Fin 256) (i : S4x12544x256.Idx) (h0 : (i 0).val = a.val) (h1 : (i 1).val = 1024 * b.val + r.val) (h2 : (i 2).val = k.val) :
    val_main_v11 (F := Ideal) x0 x1 x2 i
      = ∑ x : Fin 2048, (x0 (ix2 x r) : EReal) * (x1 (ix2 x (⟨1024 * a.val + 256 * b.val + k.val, by omega⟩ : Fin 4096)) : EReal) := by
  refine (concatenate_pair_apply_left (t := S4x12544x256) (1 : Fin 3) (val_main_v9 (F := Ideal) x0 x1) _ _ _ rfl (ix3 a (⟨1024 * b.val + r.val, by omega⟩ : Fin 4096) k) (fun d => ?_)).trans ?_
  · match d with
    | ⟨0, _⟩ => exact h0.symm
    | ⟨1, _⟩ => exact h1.symm
    | ⟨2, _⟩ => exact h2.symm
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 r a b k) fun d => ?_).trans ?_
  · match d with
    | ⟨0, _⟩ => rfl
    | ⟨1, _⟩ => rfl
    | ⟨2, _⟩ => rfl
    | ⟨3, _⟩ => rfl
  refine (shapeCast_apply _ _ _ (ix2 r (⟨1024 * a.val + 256 * b.val + k.val, by omega⟩ : Fin 4096)) ?_).trans ?_
  · rw [Shape.rowMajor_val_four, Shape.rowMajor_val_two]
    show r.val * 4096 + (1024 * a.val + 256 * b.val + k.val) = ((r.val * 4 + a.val) * 4 + b.val) * 256 + k.val
    omega
  unfold val_main_v6 val_main_v5 val_main_v4 val_main_v3 val_main_v1
  pointwise
  exact Finset.sum_congr rfl fun x _ => mul_comm _ _

open Cert.DwUpBRefIdeal.Read in
/-- The rows below the gradient are those of the third argument. -/
theorem ref_rest (x0 : (⟨S2048x1024, .bf16⟩ : BufTy).Contents (Elt Ideal)) (x1 : (⟨S2048x4096, .bf16⟩ : BufTy).Contents (Elt Ideal)) (x2 : (⟨S4x12544x256, .bf16⟩ : BufTy).Contents (Elt Ideal))
    (i : S4x12544x256.Idx) (h : 4096 ≤ (i 1).val) : val_main_v11 (F := Ideal) x0 x1 x2 i = x2 i := by
  have hi : (i 1).val < 12544 := (i 1).isLt
  refine (concatenate_pair_apply_right (t := S4x12544x256) (1 : Fin 3) (val_main_v9 (F := Ideal) x0 x1) (val_main_v10 (F := Ideal) x2) _ _ rfl rfl (ix3 (i 0 : Fin 4) (⟨(i 1).val - 4096, by omega⟩ : Fin 8448) (i 2 : Fin 256)) (fun d hd => ?_) ?_).trans ?_
  · match d with
    | ⟨0, _⟩ => rfl
    | ⟨1, _⟩ => exact absurd rfl hd
    | ⟨2, _⟩ => rfl
  · show (i 1).val - 4096 + 4096 = (i 1).val; omega
  · unfold val_main_v10
    refine congrArg x2 (funext fun d => Fin.ext ?_)
    match d with
    | ⟨0, _⟩ => show 0 + (i 0).val = (i 0).val; omega
    | ⟨1, _⟩ => show 4096 + ((i 1).val - 4096) = (i 1).val; omega
    | ⟨2, _⟩ => show 0 + (i 2).val = (i 2).val; omega

theorem final : (dats m 0 c).arrAt 2 cfg0.N = Cert.DwUpBRefIdeal.Read.val_main_v11 (F := Ideal) (m ((c : Thread nD τ).loc main_arg0)) (m ((c : Thread nD τ).loc main_arg1)) (m ((c : Thread nD τ).loc main_arg2)) := by
  have h : (dats m 0 c).arrAt 2 cfg0.N = fun i : S4x12544x256.Idx => if (i 1 : ℕ) / 4096 = 0 then Cert.DwUpBRefIdeal.Read.val_main_v11 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => β (1 : Fin _) = 0) (by decide +kernel) (fun t hf y => ?_) (fun j => Iff.rfl)
    blk_simp
    rw [after0_2]
    unfold outsAt0
    frame_out
    have ht : t.val < 4 := t.isLt
    have ⟨a0, a1, a2⟩ := at2 t
    have e0 : (((View.whole main_v0).slice (win0_2.rect t)).emb y 0).val = t.val + (y 0).val := by
      show cc0_transform_3 (grid0.coords t) 0 * 1 + 1 * (y 0).val = _; rw [a0]; omega
    have e1 : (((View.whole main_v0).slice (win0_2.rect t)).emb y 1).val = (y 1).val := by
      show cc0_transform_3 (grid0.coords t) 1 * 4096 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x4096x256.Idx) 0).val = (y 0).val := rfl
    have z1 : (((win0 2).xinj (grid0.coords t) y : S1x4096x256.Idx) 1).val = (y 1).val := rfl
    have z2 : (((win0 2).xinj (grid0.coords t) y : S1x4096x256.Idx) 2).val = (y 2).val := rfl
    generalize ((View.whole main_v0).slice (win0_2.rect t)).emb y = i at *
    generalize ((win0 2).xinj (grid0.coords t) y : S1x4096x256.Idx) = z at *
    canon_tiles x h
    case piece0 =>
      refine Eq.trans ?_ (ref_at _ _ _ (⟨t.val, ht⟩ : Fin 4) (⟨3, by decide⟩ : Fin 4) (x 1 : Fin 1024) (x 2 : Fin 256) i (by show _ = t.val; omega) (by show _ = 1024 * 3 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay5 k0_pay1
      pointwise
      exact Finset.sum_congr rfl fun x _ => congr (congrArg _ (blk0 m c t _ _ _ rfl rfl)) (blk1 m c t _ _ _ rfl (by first | exact Nat.add_assoc _ _ _ | rfl))
    case piece1 =>
      refine Eq.trans ?_ (ref_at _ _ _ (⟨t.val, ht⟩ : Fin 4) (⟨2, by decide⟩ : Fin 4) (x 1 : Fin 1024) (x 2 : Fin 256) i (by show _ = t.val; omega) (by show _ = 1024 * 2 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay4 k0_pay1
      pointwise
      exact Finset.sum_congr rfl fun x _ => congr (congrArg _ (blk0 m c t _ _ _ rfl rfl)) (blk1 m c t _ _ _ rfl (by first | exact Nat.add_assoc _ _ _ | rfl))
    case piece2 =>
      refine Eq.trans ?_ (ref_at _ _ _ (⟨t.val, ht⟩ : Fin 4) (⟨1, by decide⟩ : Fin 4) (x 1 : Fin 1024) (x 2 : Fin 256) i (by show _ = t.val; omega) (by show _ = 1024 * 1 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay3 k0_pay1
      pointwise
      exact Finset.sum_congr rfl fun x _ => congr (congrArg _ (blk0 m c t _ _ _ rfl rfl)) (blk1 m c t _ _ _ rfl (by first | exact Nat.add_assoc _ _ _ | rfl))
    case piece3 =>
      refine Eq.trans ?_ (ref_at _ _ _ (⟨t.val, ht⟩ : Fin 4) (⟨0, by decide⟩ : Fin 4) (x 1 : Fin 1024) (x 2 : Fin 256) i (by show _ = t.val; omega) (by show _ = 1024 * 0 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay2 k0_pay1
      pointwise
      exact Finset.sum_congr rfl fun x _ => congr (congrArg _ (blk0 m c t _ _ _ rfl rfl)) (blk1 m c t _ _ _ rfl (by first | exact Nat.add_assoc _ _ _ | rfl))
  rw [h]
  funext i
  show (if (i 1 : ℕ) / 4096 = 0 then _ else _) = _
  split_ifs with hi
  · rfl
  · rw [kept]
    exact (ref_rest _ _ _ i (by omega)).symm

end Cert.DwUpBIdeal.Eq

end
-- ==== Proof.DwDownBEq.lean ====
module
public import proofs.«01_k».proof.Proof.Gen.DwDownBIdeal.Value
public import proofs.«01_k».proof.Proof.Gen.DwDownBRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwDownBIdeal.Eq

open Idealize.ShloMosaic Idealize.ShloMosaic.TcCoe Cert.DwDownBIdeal.Gen Finset
open Cert.DwDownBIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = t.val := by decide +kernel
theorem at1 : ∀ t : Fin grid0.N, cc0_transform_2 (grid0.coords t) 0 = 0 ∧ cc0_transform_2 (grid0.coords t) 1 = 0 := by decide +kernel
theorem at2 : ∀ t : Fin grid0.N, cc0_transform_3 (grid0.coords t) 0 = t.val ∧ cc0_transform_3 (grid0.coords t) 1 = 1 ∧ cc0_transform_3 (grid0.coords t) 2 = 0 := by decide +kernel

theorem blk0 (t : Fin cfg0.N) (r : Fin 2048) (k : Fin 1024) (i : S2048x4096.Idx) (h0 : (i 0).val = r.val) (h1 : (i 1).val = 1024 * t.val + k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 1024 + 1 * k.val = (i 1).val; rw [a1, h1]; omega

theorem blk1 (t : Fin cfg0.N) (r : Fin 2048) (k : Fin 1024) (i : S2048x1024.Idx) (h0 : (i 0).val = r.val) (h1 : (i 1).val = k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 1024 + 1 * k.val = (i 1).val; rw [a1, h1]; omega

theorem kept : V m c main_v0 = m ((c : Thread nD τ).loc main_arg2) := by
  unfold V
  simp only [hostOps0]
  after_reads_simp
  rfl

open Cert.DwDownBRefIdeal.Read in
/-- The reference's gradient at an index of its rows of slab `a`, part `b`. -/
theorem ref_at (x0 : (⟨S2048x4096, .bf16⟩ : BufTy).Contents (Elt Ideal)) (x1 : (⟨S2048x1024, .bf16⟩ : BufTy).Contents (Elt Ideal)) (x2 : (⟨S4x12544x256, .bf16⟩ : BufTy).Contents (Elt Ideal))
    (a b : Fin 4) (r : Fin 1024) (k : Fin 256) (i : S4x12544x256.Idx) (h0 : (i 0).val = a.val) (h1 : (i 1).val = 4096 + (1024 * b.val + r.val)) (h2 : (i 2).val = k.val) :
    val_main_v12 (F := Ideal) x0 x1 x2 i
      = ∑ x : Fin 2048, (x0 (ix2 x (⟨1024 * a.val + r.val, by omega⟩ : Fin 4096)) : EReal) * (x1 (ix2 x (⟨256 * b.val + k.val, by omega⟩ : Fin 1024)) : EReal) := by
  unfold val_main_v12
  refine (concatenate_apply_piece (t := S4x12544x256) (1 : Fin 3) _ _ _ 1 (by exact Nat.lt_of_sub_eq_succ rfl) Cert.DwDownBRefIdeal.S4x4096x256 _ (by rfl) rfl 4096 (by rfl) (ix3 a (⟨1024 * b.val + r.val, by omega⟩ : Fin 4096) k) (fun d hd => ?_) ?_).trans ?_
  · match d with
    | ⟨0, _⟩ => exact h0.symm
    | ⟨1, _⟩ => exact absurd rfl hd
    | ⟨2, _⟩ => exact h2.symm
  · exact h1.symm
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  unfold val_main_v6 val_main_v5 val_main_v4 val_main_v3 val_main_v1
  pointwise
  exact Finset.sum_congr rfl fun x _ => mul_comm _ _

open Cert.DwDownBRefIdeal.Read in
/-- The rows above and below the gradient are those of the third argument. -/
theorem ref_rest (x0 : (⟨S2048x4096, .bf16⟩ : BufTy).Contents (Elt Ideal)) (x1 : (⟨S2048x1024, .bf16⟩ : BufTy).Contents (Elt Ideal)) (x2 : (⟨S4x12544x256, .bf16⟩ : BufTy).Contents (Elt Ideal))
    (i : S4x12544x256.Idx) (h : (i 1).val < 4096 ∨ 8192 ≤ (i 1).val) : val_main_v12 (F := Ideal) x0 x1 x2 i = x2 i := by
  have hi : (i 1).val < 12544 := (i 1).isLt
  unfold val_main_v12
  rcases h with h | h
  · refine (concatenate_apply_piece (t := S4x12544x256) (1 : Fin 3) _ _ _ 0 (by exact Nat.lt_of_sub_eq_succ rfl) Cert.DwDownBRefIdeal.S4x4096x256 _ (by rfl) rfl 0 (by rfl) (ix3 (i 0 : Fin 4) (⟨(i 1).val, h⟩ : Fin 4096) (i 2 : Fin 256)) (fun d hd => ?_) ?_).trans ?_
    · match d with
      | ⟨0, _⟩ => rfl
      | ⟨1, _⟩ => exact absurd rfl hd
      | ⟨2, _⟩ => rfl
    · exact Nat.zero_add _
    · unfold val_main_v7
      refine congrArg x2 (funext fun d => Fin.ext ?_)
      match d with
      | ⟨0, _⟩ => show 0 + (i 0).val = (i 0).val; omega
      | ⟨1, _⟩ => show 0 + (i 1).val = (i 1).val; omega
      | ⟨2, _⟩ => show 0 + (i 2).val = (i 2).val; omega
  · refine (concatenate_apply_piece (t := S4x12544x256) (1 : Fin 3) _ _ _ 2 (by exact Nat.lt_of_sub_eq_succ rfl) Cert.DwDownBRefIdeal.S4x4352x256 _ (by rfl) rfl 8192 (by rfl) (ix3 (i 0 : Fin 4) (⟨(i 1).val - 8192, by omega⟩ : Fin 4352) (i 2 : Fin 256)) (fun d hd => ?_) ?_).trans ?_
    · match d with
      | ⟨0, _⟩ => rfl
      | ⟨1, _⟩ => exact absurd rfl hd
      | ⟨2, _⟩ => rfl
    · show 8192 + ((i 1).val - 8192) = (i 1).val; omega
    · unfold val_main_v11
      refine congrArg x2 (funext fun d => Fin.ext ?_)
      match d with
      | ⟨0, _⟩ => show 0 + (i 0).val = (i 0).val; omega
      | ⟨1, _⟩ => show 8192 + ((i 1).val - 8192) = (i 1).val; omega
      | ⟨2, _⟩ => show 0 + (i 2).val = (i 2).val; omega

theorem final : (dats m 0 c).arrAt 2 cfg0.N = Cert.DwDownBRefIdeal.Read.val_main_v12 (F := Ideal) (m ((c : Thread nD τ).loc main_arg0)) (m ((c : Thread nD τ).loc main_arg1)) (m ((c : Thread nD τ).loc main_arg2)) := by
  have h : (dats m 0 c).arrAt 2 cfg0.N = fun i : S4x12544x256.Idx => if (i 1 : ℕ) / 4096 = 1 then Cert.DwDownBRefIdeal.Read.val_main_v12 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => β (1 : Fin _) = 1) (by decide +kernel) (fun t hf y => ?_) (fun j => Iff.rfl)
    blk_simp
    rw [after0_2]
    unfold outsAt0
    frame_out
    have ht : t.val < 4 := t.isLt
    have ⟨a0, a1, a2⟩ := at2 t
    have e0 : (((View.whole main_v0).slice (win0_2.rect t)).emb y 0).val = t.val + (y 0).val := by
      show cc0_transform_3 (grid0.coords t) 0 * 1 + 1 * (y 0).val = _; rw [a0]; omega
    have e1 : (((View.whole main_v0).slice (win0_2.rect t)).emb y 1).val = 4096 + (y 1).val := by
      show cc0_transform_3 (grid0.coords t) 1 * 4096 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x4096x256.Idx) 0).val = (y 0).val := rfl
    have z1 : (((win0 2).xinj (grid0.coords t) y : S1x4096x256.Idx) 1).val = (y 1).val := rfl
    have z2 : (((win0 2).xinj (grid0.coords t) y : S1x4096x256.Idx) 2).val = (y 2).val := rfl
    generalize ((View.whole main_v0).slice (win0_2.rect t)).emb y = i at *
    generalize ((win0 2).xinj (grid0.coords t) y : S1x4096x256.Idx) = z at *
    canon_tiles x h
    case piece0 =>
      refine Eq.trans ?_ (ref_at _ _ _ (⟨t.val, ht⟩ : Fin 4) (⟨3, by decide⟩ : Fin 4) (x 1 : Fin 1024) (x 2 : Fin 256) i (by show _ = t.val; omega) (by show _ = 4096 + (1024 * 3 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay5 k0_pay1
      pointwise
      exact Finset.sum_congr rfl fun x _ => congr (congrArg _ (blk0 m c t _ _ _ rfl rfl)) (blk1 m c t _ _ _ rfl (by first | rfl | exact Nat.zero_add _))
    case piece1 =>
      refine Eq.trans ?_ (ref_at _ _ _ (⟨t.val, ht⟩ : Fin 4) (⟨2, by decide⟩ : Fin 4) (x 1 : Fin 1024) (x 2 : Fin 256) i (by show _ = t.val; omega) (by show _ = 4096 + (1024 * 2 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay4 k0_pay1
      pointwise
      exact Finset.sum_congr rfl fun x _ => congr (congrArg _ (blk0 m c t _ _ _ rfl rfl)) (blk1 m c t _ _ _ rfl (by first | rfl | exact Nat.zero_add _))
    case piece2 =>
      refine Eq.trans ?_ (ref_at _ _ _ (⟨t.val, ht⟩ : Fin 4) (⟨1, by decide⟩ : Fin 4) (x 1 : Fin 1024) (x 2 : Fin 256) i (by show _ = t.val; omega) (by show _ = 4096 + (1024 * 1 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay3 k0_pay1
      pointwise
      exact Finset.sum_congr rfl fun x _ => congr (congrArg _ (blk0 m c t _ _ _ rfl rfl)) (blk1 m c t _ _ _ rfl (by first | rfl | exact Nat.zero_add _))
    case piece3 =>
      refine Eq.trans ?_ (ref_at _ _ _ (⟨t.val, ht⟩ : Fin 4) (⟨0, by decide⟩ : Fin 4) (x 1 : Fin 1024) (x 2 : Fin 256) i (by show _ = t.val; omega) (by show _ = 4096 + (1024 * 0 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay2 k0_pay1
      pointwise
      exact Finset.sum_congr rfl fun x _ => congr (congrArg _ (blk0 m c t _ _ _ rfl rfl)) (blk1 m c t _ _ _ rfl (by first | rfl | exact Nat.zero_add _))
  rw [h]
  funext i
  show (if (i 1 : ℕ) / 4096 = 1 then _ else _) = _
  split_ifs with hi
  · rfl
  · rw [kept]
    exact (ref_rest _ _ _ i (by omega)).symm

end Cert.DwDownBIdeal.Eq

end
-- ==== Proof.DxUpBEq.lean ====
module
public import proofs.«01_k».proof.Proof.Gen.DxUpBIdeal.Value
public import proofs.«01_k».proof.Proof.Gen.DxUpBRefIdeal.Read
public import proofs.«01_k».proof.Proof.NormGrad
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxUpBIdeal.Eq

open Idealize.ShloMosaic Idealize.ShloMosaic.TcCoe Cert.DxUpBIdeal.Gen Finset
open Cert.DxUpBIdeal.Value

variable (m : (ℓ : Loc nD τ sig) → Buf (Elt Ideal) ℓ) (c : Dev nD)

theorem at0 : ∀ t : Fin grid0.N, cc0_transform_0 (grid0.coords t) 0 = t.val / 4 ∧ cc0_transform_0 (grid0.coords t) 1 = t.val % 4 := by decide +kernel
theorem at10 : ∀ t : Fin grid0.N, cc0_transform_10 (grid0.coords t) 0 = 0 ∧ cc0_transform_10 (grid0.coords t) 1 = 0 := by decide +kernel
theorem at1 : ∀ t : Fin grid0.N, cc0_transform_1 (grid0.coords t) 0 = 0 ∧ cc0_transform_1 (grid0.coords t) 1 = 0 := by decide +kernel
theorem at2 : ∀ t : Fin grid0.N, cc0_transform_2 (grid0.coords t) 0 = t.val % 4 ∧ cc0_transform_2 (grid0.coords t) 1 = 0 ∧ cc0_transform_2 (grid0.coords t) 2 = 0 := by decide +kernel
theorem at3 : ∀ t : Fin grid0.N, cc0_transform_3 (grid0.coords t) 0 = t.val % 4 ∧ cc0_transform_3 (grid0.coords t) 1 = 1 ∧ cc0_transform_3 (grid0.coords t) 2 = 0 := by decide +kernel
theorem at4 : ∀ t : Fin grid0.N, cc0_transform_4 (grid0.coords t) 0 = t.val % 4 ∧ cc0_transform_4 (grid0.coords t) 1 = 2 ∧ cc0_transform_4 (grid0.coords t) 2 = 0 := by decide +kernel
theorem at5 : ∀ t : Fin grid0.N, cc0_transform_5 (grid0.coords t) 0 = t.val % 4 ∧ cc0_transform_5 (grid0.coords t) 1 = 3 ∧ cc0_transform_5 (grid0.coords t) 2 = 0 := by decide +kernel
theorem at6 : ∀ t : Fin grid0.N, cc0_transform_6 (grid0.coords t) 0 = t.val / 4 ∧ cc0_transform_6 (grid0.coords t) 1 = 0 := by decide +kernel
theorem at7 : ∀ t : Fin grid0.N, cc0_transform_7 (grid0.coords t) 0 = t.val / 4 ∧ cc0_transform_7 (grid0.coords t) 1 = 0 := by decide +kernel
theorem at8 : ∀ t : Fin grid0.N, cc0_transform_8 (grid0.coords t) 0 = t.val / 4 ∧ cc0_transform_8 (grid0.coords t) 1 = 0 := by decide +kernel
theorem at9 : ∀ t : Fin grid0.N, cc0_transform_9 (grid0.coords t) 0 = t.val / 4 ∧ cc0_transform_9 (grid0.coords t) 1 = 0 := by decide +kernel

theorem packed : V m c main_v5 = concatenate S4x12544x256 1 [⟨S4x4096x256, shapeCast S4x4096x256 (transpose S4x4x1024x256 [1, 2, 0, 3] (shapeCast S1024x4x4x256 (truncf (F := Ideal) .bf16 (m ((c : Thread nD τ).loc main_arg4)) bitsLt_bf16_f32) shapeCasts_S1024x4096_S1024x4x4x256) transposes_S1024x4x4x256_S4x4x1024x256_1_2_0_3) shapeCasts_S4x4x1024x256_S4x4096x256⟩,
      ⟨S4x8448x256, broadcastInDim S4x8448x256 ![] bcast_S_S4x8448x256 (constant (F := Ideal) S_ .bf16 0x0000#16)⟩] concatenates_S4x4096x256_S4x8448x256_S4x12544x256_d1 := by
  unfold V
  simp only [hostOps0]
  after_reads_simp
  rfl

theorem row : V m c main_v6 = broadcastInDim S1x1024 ![1] bcast_S1024_S1x1024_1 (m ((c : Thread nD τ).loc main_arg2)) := by
  unfold V
  simp only [hostOps0]
  after_reads_simp

/-- Where the packed buffer holds the weight: slab `a`, rows of its part `b`, is part `b` of the columns of chip `a`. -/
theorem entry (a b : Fin 4) (r : Fin 1024) (k : Fin 256) :
    V m c main_v5 (ix3 a (⟨1024 * b.val + r.val, by omega⟩ : Fin 12544) k)
      = m ((c : Thread nD τ).loc main_arg4) (ix2 r (⟨1024 * a.val + (256 * b.val + k.val), by omega⟩ : Fin 4096)) := by
  rw [packed]
  refine (concatenate_apply_piece (t := S4x12544x256) (1 : Fin 3) _ _ _ 0 (by exact Nat.lt_of_sub_eq_succ rfl) S4x4096x256 _ (by rfl) rfl 0 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · exact Nat.zero_add _
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 r a b k) fun d => ?_).trans ?_
  · match d with
    | ⟨0, _⟩ => rfl
    | ⟨1, _⟩ => rfl
    | ⟨2, _⟩ => rfl
    | ⟨3, _⟩ => rfl
  refine (shapeCast_apply _ _ _ (ix2 r (⟨1024 * a.val + (256 * b.val + k.val), by omega⟩ : Fin 4096)) ?_).trans ?_
  · rw [Shape.rowMajor_val_four, Shape.rowMajor_val_two]
    show r.val * 4096 + (1024 * a.val + (256 * b.val + k.val)) = ((r.val * 4 + a.val) * 4 + b.val) * 256 + k.val
    omega
  rfl

theorem blk0 (t : Fin cfg0.N) (i' : S1024x1024.Idx) (i : S2048x4096.Idx) (h0 : (i 0).val = 1024 * (t.val / 4) + (i' 0).val) (h1 : (i 1).val = 1024 * (t.val % 4) + (i' 1).val) :
    iblk m c 0 t i' = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * (i' 0).val = (i 0).val; rw [a0, h0]; omega
  | ⟨1, _⟩ => show cc0_transform_0 (grid0.coords t) 1 * 1024 + 1 * (i' 1).val = (i 1).val; rw [a1, h1]; omega

theorem blk1 (t : Fin cfg0.N) (k : Fin 1024) :
    iblk m c 1 t (ix2 (0 : Fin 1) k) = m ((c : Thread nD τ).loc main_arg2) (ix1 k) := by
  have e : V m c main_v6 (ix2 (0 : Fin 1) k) = m ((c : Thread nD τ).loc main_arg2) (ix1 k) := by
    rw [row]; pointwise
  rw [← e]
  unfold iblk
  have ⟨a0, a1⟩ := at1 t
  refine congrArg (V m c main_v6) (funext fun a => Fin.ext ?_)
  match a with
  | ⟨0, _⟩ => show cc0_transform_1 (grid0.coords t) 0 * 1 + 1 * 0 = 0; rw [a0]
  | ⟨1, _⟩ => show cc0_transform_1 (grid0.coords t) 1 * 1024 + 1 * k.val = k.val; rw [a1]; omega

theorem blk6 (t : Fin cfg0.N) (r k : Fin 1024) (i : S2048x1024.Idx) (h0 : (i 0).val = 1024 * (t.val / 4) + r.val) (h1 : (i 1).val = k.val) :
    iblk m c 6 t (ix2 r k) = m ((c : Thread nD τ).loc main_arg1) i := by
  rw [← V_main_arg1 m c]
  unfold iblk
  have ⟨a0, a1⟩ := at6 t
  refine congrArg (V m c main_arg1) (funext fun a => Fin.ext ?_)
  match a with
  | ⟨0, _⟩ => show cc0_transform_6 (grid0.coords t) 0 * 1024 + 1 * r.val = (i 0).val; rw [a0, h0]; omega
  | ⟨1, _⟩ => show cc0_transform_6 (grid0.coords t) 1 * 1024 + 1 * k.val = (i 1).val; rw [a1, h1]; omega

theorem blk7 (t : Fin cfg0.N) (r k : Fin 1024) (i : S2048x1024.Idx) (h0 : (i 0).val = 1024 * (t.val / 4) + r.val) (h1 : (i 1).val = k.val) :
    iblk m c 7 t (ix2 r k) = m ((c : Thread nD τ).loc main_arg3) i := by
  rw [← V_main_arg3 m c]
  unfold iblk
  have ⟨a0, a1⟩ := at7 t
  refine congrArg (V m c main_arg3) (funext fun a => Fin.ext ?_)
  match a with
  | ⟨0, _⟩ => show cc0_transform_7 (grid0.coords t) 0 * 1024 + 1 * r.val = (i 0).val; rw [a0, h0]; omega
  | ⟨1, _⟩ => show cc0_transform_7 (grid0.coords t) 1 * 1024 + 1 * k.val = (i 1).val; rw [a1, h1]; omega

theorem blk2 (t : Fin cfg0.N) (r : Fin 1024) (k : Fin 256) (i : S1024x4096.Idx) (h0 : (i 0).val = r.val) (h1 : (i 1).val = 1024 * (t.val % 4) + (0 + k.val)) :
    X0_2 m c t (ix3 (0 : Fin 1) r k) = m ((c : Thread nD τ).loc main_arg4) i := by
  have hi : i = ix2 r (⟨1024 * (t.val % 4) + (256 * 0 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold X0_2 Pipeline.Window.fill
  rw [dif_pos (moved0_2 t _)]
  unfold iblk
  have ⟨a0, a1, a2⟩ := at2 t
  refine congrArg (V m c main_v5) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 1024 + 1 * r.val = 1024 * 0 + r.val; rw [a1]; omega
  | ⟨2, _⟩ => show cc0_transform_2 (grid0.coords t) 2 * 256 + 1 * k.val = k.val; rw [a2]; omega

theorem blk3 (t : Fin cfg0.N) (r : Fin 1024) (k : Fin 256) (i : S1024x4096.Idx) (h0 : (i 0).val = r.val) (h1 : (i 1).val = 1024 * (t.val % 4) + (256 + k.val)) :
    X0_3 m c t (ix3 (0 : Fin 1) r k) = m ((c : Thread nD τ).loc main_arg4) i := by
  have hi : i = ix2 r (⟨1024 * (t.val % 4) + (256 * 1 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold X0_3 Pipeline.Window.fill
  rw [dif_pos (moved0_3 t _)]
  unfold iblk
  have ⟨a0, a1, a2⟩ := at3 t
  refine congrArg (V m c main_v5) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 1024 + 1 * r.val = 1024 * 1 + r.val; rw [a1]; omega
  | ⟨2, _⟩ => show cc0_transform_3 (grid0.coords t) 2 * 256 + 1 * k.val = k.val; rw [a2]; omega

theorem blk4 (t : Fin cfg0.N) (r : Fin 1024) (k : Fin 256) (i : S1024x4096.Idx) (h0 : (i 0).val = r.val) (h1 : (i 1).val = 1024 * (t.val % 4) + (512 + k.val)) :
    X0_4 m c t (ix3 (0 : Fin 1) r k) = m ((c : Thread nD τ).loc main_arg4) i := by
  have hi : i = ix2 r (⟨1024 * (t.val % 4) + (256 * 2 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold X0_4 Pipeline.Window.fill
  rw [dif_pos (moved0_4 t _)]
  unfold iblk
  have ⟨a0, a1, a2⟩ := at4 t
  refine congrArg (V m c main_v5) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 1024 + 1 * r.val = 1024 * 2 + r.val; rw [a1]; omega
  | ⟨2, _⟩ => show cc0_transform_4 (grid0.coords t) 2 * 256 + 1 * k.val = k.val; rw [a2]; omega

theorem blk5 (t : Fin cfg0.N) (r : Fin 1024) (k : Fin 256) (i : S1024x4096.Idx) (h0 : (i 0).val = r.val) (h1 : (i 1).val = 1024 * (t.val % 4) + (768 + k.val)) :
    X0_5 m c t (ix3 (0 : Fin 1) r k) = m ((c : Thread nD τ).loc main_arg4) i := by
  have hi : i = ix2 r (⟨1024 * (t.val % 4) + (256 * 3 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨3, by omega⟩ r k)
  unfold X0_5 Pipeline.Window.fill
  rw [dif_pos (moved0_5 t _)]
  unfold iblk
  have ⟨a0, a1, a2⟩ := at5 t
  refine congrArg (V m c main_v5) (funext fun a => Fin.ext ?_)
  match a with
  | ⟨0, _⟩ => show cc0_transform_5 (grid0.coords t) 0 * 1 + 1 * 0 = t.val % 4; rw [a0]; omega
  | ⟨1, _⟩ => show cc0_transform_5 (grid0.coords t) 1 * 1024 + 1 * r.val = 1024 * 3 + r.val; rw [a1]; omega
  | ⟨2, _⟩ => show cc0_transform_5 (grid0.coords t) 2 * 256 + 1 * k.val = k.val; rw [a2]; omega

/-- A sum over 1024 is four sums over 256. -/
theorem sum_parts (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- A sum over 4096 is four sums over 1024. -/
theorem sum_slabs (f : Fin 4096 → EReal) :
    ∑ x, f x = ∑ x : Fin 1024, f ⟨x.val, by omega⟩ + ∑ x : Fin 1024, f ⟨1024 + x.val, by omega⟩ + ∑ x : Fin 1024, f ⟨2048 + x.val, by omega⟩ + ∑ x : Fin 1024, f ⟨3072 + x.val, by omega⟩ := by
  rw [Fin.sum_univ_add (a := 3072) (b := 1024) f, Fin.sum_univ_add (a := 2048) (b := 1024) fun x : Fin 3072 => f (Fin.castAdd 1024 x),
    Fin.sum_univ_add (a := 1024) (b := 1024) fun x : Fin 2048 => f (Fin.castAdd 1024 (Fin.castAdd 1024 x))]
  rfl

/-- A sum over 2048 is two sums over 1024. -/
theorem sum_tiles (f : Fin 2048 → EReal) :
    ∑ x, f x = ∑ x : Fin 1024, f ⟨x.val, by omega⟩ + ∑ x : Fin 1024, f ⟨1024 + x.val, by omega⟩ := by
  rw [Fin.sum_univ_add (a := 1024) (b := 1024) f]
  rfl

/-- What the columns of chip `j` add to the gradient by the normalised input, at row `r` of tile `b`. -/
def part (x0 : (⟨S2048x4096, .bf16⟩ : BufTy).Contents (Elt Ideal)) (x4 : (⟨S1024x4096, .f32⟩ : BufTy).Contents (Elt Ideal)) (b : Fin 2) (j : Fin 4) (r k : Fin 1024) : EReal :=
  ∑ x : Fin 1024, (x0 (ix2 (⟨1024 * b.val + r.val, by omega⟩ : Fin 2048) (⟨1024 * j.val + x.val, by omega⟩ : Fin 4096)) : EReal)
    * (x4 (ix2 k (⟨1024 * j.val + x.val, by omega⟩ : Fin 4096)) : EReal)

theorem part_at (t : Fin cfg0.N) (r k : Fin 1024) :
    (∑ x : Fin 256, HMul.hMul (α := EReal) (β := EReal) (γ := EReal) (iblk m c 0 t (ix2 r (⟨x.val, by omega⟩ : Fin 1024))) (X0_2 m c t (ix3 (0 : Fin 1) k x))
        + ∑ x : Fin 256, HMul.hMul (α := EReal) (β := EReal) (γ := EReal) (iblk m c 0 t (ix2 r (⟨256 + x.val, by omega⟩ : Fin 1024))) (X0_3 m c t (ix3 (0 : Fin 1) k x))
        + ∑ x : Fin 256, HMul.hMul (α := EReal) (β := EReal) (γ := EReal) (iblk m c 0 t (ix2 r (⟨512 + x.val, by omega⟩ : Fin 1024))) (X0_4 m c t (ix3 (0 : Fin 1) k x))
        + ∑ x : Fin 256, HMul.hMul (α := EReal) (β := EReal) (γ := EReal) (iblk m c 0 t (ix2 r (⟨768 + x.val, by omega⟩ : Fin 1024))) (X0_5 m c t (ix3 (0 : Fin 1) k x)))
      = part (m ((c : Thread nD τ).loc main_arg0)) (m ((c : Thread nD τ).loc main_arg4)) ⟨t.val / 4, by have : t.val < 8 := t.isLt; omega⟩ ⟨t.val % 4, by omega⟩ r k := by
  have ht : t.val < 8 := t.isLt
  unfold part
  rw [sum_parts]
  refine congr (congrArg _ (congr (congrArg _ (congr (congrArg _ ?_) ?_)) ?_)) ?_ <;> refine Finset.sum_congr rfl fun x _ => congr (congrArg _ (blk0 m c t _ _ rfl rfl)) ?_
  · exact blk2 m c t _ _ _ rfl (by show 1024 * (t.val % 4) + x.val = 1024 * (t.val % 4) + (0 + x.val); omega)
  · exact blk3 m c t _ _ _ rfl rfl
  · exact blk4 m c t _ _ _ rfl rfl
  · exact blk5 m c t _ _ _ rfl rfl

theorem sc_A (t : Fin cfg0.N) (h : t.val % 4 = 0) (r k : Fin 1024) :
    (outsAt0 m c t.val t.isLt).2.2.2 (ix2 r k) = part (m ((c : Thread nD τ).loc main_arg0)) (m ((c : Thread nD τ).loc main_arg4)) ⟨t.val / 4, by have : t.val < 8 := t.isLt; omega⟩ ⟨t.val % 4, by omega⟩ r k := by
  rw [outsAt0_A m c t h (by omega) (by omega)]
  dsimp only
  frame_out
  unfold k0_pay8 k0_pay7
  pointwise
  exact part_at m c t r k

theorem pay9_at (t : Fin cfg0.N) (s : Vec Ideal S1024x1024 .f32) (r k : Fin 1024) :
    k0_pay9 (View.ld (iblk m c 0 t) (Rect.unit ![0, 0] ![1024, 256] inb_S1024x1024_S1024x256_0_0)) (X0_2 m c t)
        (View.ld (iblk m c 0 t) (Rect.unit ![0, 256] ![1024, 256] inb_S1024x1024_S1024x256_0_256)) (X0_3 m c t)
        (View.ld (iblk m c 0 t) (Rect.unit ![0, 512] ![1024, 256] inb_S1024x1024_S1024x256_0_512)) (X0_4 m c t)
        (View.ld (iblk m c 0 t) (Rect.unit ![0, 768] ![1024, 256] inb_S1024x1024_S1024x256_0_768)) (X0_5 m c t) s (ix2 r k)
      = (s (ix2 r k) + part (m ((c : Thread nD τ).loc main_arg0)) (m ((c : Thread nD τ).loc main_arg4)) ⟨t.val / 4, by have : t.val < 8 := t.isLt; omega⟩ ⟨t.val % 4, by omega⟩ r k : EReal) := by
  unfold k0_pay9 k0_pay7
  pointwise
  exact congrArg (fun z : EReal => (s (ix2 r k) : EReal) + z) (part_at m c t r k)

theorem sc_B (t : Fin cfg0.N) (h0 : ¬ t.val % 4 = 0) (h3 : ¬ t.val % 4 = 3) (r k : Fin 1024) :
    (outsAt0 m c t.val t.isLt).2.2.2 (ix2 r k) = ((outsAt0 m c (t.val - 1) (Nat.lt_of_le_of_lt (Nat.sub_le _ _) t.isLt)).2.2.2 (ix2 r k)
      + part (m ((c : Thread nD τ).loc main_arg0)) (m ((c : Thread nD τ).loc main_arg4)) ⟨t.val / 4, by have : t.val < 8 := t.isLt; omega⟩ ⟨t.val % 4, by omega⟩ r k : EReal) := by
  rw [outsAt0_B m c t h0 (by omega) h3]
  dsimp only
  frame_out
  rw [(Memref.isWhole_whole _).read_unread]
  exact pay9_at m c t _ r k

/-- The gradient by the normalised input, from the four chips. -/
def dh (x0 : (⟨S2048x4096, .bf16⟩ : BufTy).Contents (Elt Ideal)) (x4 : (⟨S1024x4096, .f32⟩ : BufTy).Contents (Elt Ideal)) (r : Fin 2048) (k : Fin 1024) : EReal :=
  ∑ x : Fin 4096, (x0 (ix2 r x) : EReal) * (x4 (ix2 k x) : EReal)

theorem dh_parts (x0 : (⟨S2048x4096, .bf16⟩ : BufTy).Contents (Elt Ideal)) (x4 : (⟨S1024x4096, .f32⟩ : BufTy).Contents (Elt Ideal)) (b : Fin 2) (r k : Fin 1024) :
    part x0 x4 b 0 r k + part x0 x4 b 1 r k + part x0 x4 b 2 r k + part x0 x4 b 3 r k = dh x0 x4 (⟨1024 * b.val + r.val, by omega⟩ : Fin 2048) k := by
  unfold dh part
  rw [sum_slabs]
  refine congr (congrArg _ (congr (congrArg _ (congr (congrArg _ ?_) ?_)) ?_)) ?_ <;> refine Finset.sum_congr rfl fun x _ => ?_
  · have e : (⟨1024 * (0 : Fin 4).val + x.val, by omega⟩ : Fin 4096) = ⟨x.val, by omega⟩ := Fin.ext (Nat.zero_add _)
    rw [e]
  · rfl
  · rfl
  · rfl

/-- The scratch a last point leaves: the whole gradient of its rows. -/
theorem acc (t : Fin cfg0.N) (h3 : t.val % 4 = 3) (s : Vec Ideal S1024x1024 .f32)
    (hs : s = k0_pay9 (View.ld (iblk m c 0 t) (Rect.unit ![0, 0] ![1024, 256] inb_S1024x1024_S1024x256_0_0)) (X0_2 m c t)
        (View.ld (iblk m c 0 t) (Rect.unit ![0, 256] ![1024, 256] inb_S1024x1024_S1024x256_0_256)) (X0_3 m c t)
        (View.ld (iblk m c 0 t) (Rect.unit ![0, 512] ![1024, 256] inb_S1024x1024_S1024x256_0_512)) (X0_4 m c t)
        (View.ld (iblk m c 0 t) (Rect.unit ![0, 768] ![1024, 256] inb_S1024x1024_S1024x256_0_768)) (X0_5 m c t)
        (outsAt0 m c (t.val - 1) (Nat.lt_of_le_of_lt (Nat.sub_le _ _) t.isLt)).2.2.2) (r k : Fin 1024) :
    s (ix2 r k) = dh (m ((c : Thread nD τ).loc main_arg0)) (m ((c : Thread nD τ).loc main_arg4)) (⟨1024 * (t.val / 4) + r.val, by have : t.val < 8 := t.isLt; omega⟩ : Fin 2048) k := by
  have ht : t.val < 8 := t.isLt
  have hN : cfg0.N = 8 := N_0
  rw [hs, pay9_at, ← dh_parts _ _ ⟨t.val / 4, by omega⟩ r k]
  have e2 := sc_B m c ⟨t.val - 1, by omega⟩ (by dsimp only; omega) (by dsimp only; omega) r k
  have e1 := sc_B m c ⟨t.val - 1 - 1, by omega⟩ (by dsimp only; omega) (by dsimp only; omega) r k
  have e0 := sc_A m c ⟨t.val - 1 - 1 - 1, by omega⟩ (by dsimp only; omega) r k
  dsimp only at e0 e1 e2
  rw [e2, e1, e0]
  have g0 : (t.val - 1 - 1 - 1) / 4 = t.val / 4 := by omega
  have g1 : (t.val - 1 - 1) / 4 = t.val / 4 := by omega
  have g2 : (t.val - 1) / 4 = t.val / 4 := by omega
  have j0 : (t.val - 1 - 1 - 1) % 4 = 0 := by omega
  have j1 : (t.val - 1 - 1) % 4 = 1 := by omega
  have j2 : (t.val - 1) % 4 = 2 := by omega
  simp only [g0, g1, g2, j0, j1, j2, h3]
  rfl

theorem out8 (t : Fin cfg0.N) (h3 : t.val % 4 = 3) : ∃ s : Vec Ideal S1024x1024 .f32,
    (∀ r k : Fin 1024, s (ix2 r k) = dh (m ((c : Thread nD τ).loc main_arg0)) (m ((c : Thread nD τ).loc main_arg4)) (⟨1024 * (t.val / 4) + r.val, by have : t.val < 8 := t.isLt; omega⟩ : Fin 2048) k)
    ∧ (outsAt0 m c t.val t.isLt).1 = k0_pay5 (iblk m c 6 t) (iblk m c 1 t) s (iblk m c 7 t)
    ∧ (outsAt0 m c t.val t.isLt).2.1 = k0_pay6 (iblk m c 6 t) (iblk m c 1 t) s (iblk m c 7 t)
    ∧ (t.val < 4 → (outsAt0 m c t.val t.isLt).2.2.1 = k0_pay4 (iblk m c 6 t) s)
    ∧ (4 ≤ t.val → (outsAt0 m c t.val t.isLt).2.2.1 = k0_pay1 (k0_pay4 (iblk m c 6 t) s) (outsAt0 m c (t.val - 1) (Nat.lt_of_le_of_lt (Nat.sub_le _ _) t.isLt)).2.2.1) := by
  refine ⟨_, acc m c t h3 _ rfl, ?_⟩
  by_cases h4 : t.val < 4
  · rw [outsAt0_C m c t (by omega) (by omega) h3 h4 (by omega)]
    dsimp only
    frame_out
    rw [(Memref.isWhole_whole _).read_unread]
    exact ⟨rfl, rfl, fun _ => rfl, fun h => absurd h4 (by omega)⟩
  · rw [outsAt0_D m c t (by omega) (by omega) h3 h4 (by omega)]
    dsimp only
    frame_out
    rw [(Memref.isWhole_whole _).read_unread]
    exact ⟨rfl, rfl, fun h => absurd h h4, fun _ => rfl⟩

/-- Elsewhere the third output stands as the point before left it. -/
theorem out10_A (t : Fin cfg0.N) (h : t.val % 4 = 0) (h' : 4 ≤ t.val) :
    (outsAt0 m c t.val t.isLt).2.2.1 = (outsAt0 m c (t.val - 1) (Nat.lt_of_le_of_lt (Nat.sub_le _ _) t.isLt)).2.2.1 := by
  rw [outsAt0_A m c t h (by omega) (by omega)]
  dsimp only [out0_A_10]

theorem out10_B (t : Fin cfg0.N) (h0 : ¬ t.val % 4 = 0) (h3 : ¬ t.val % 4 = 3) :
    (outsAt0 m c t.val t.isLt).2.2.1 = (outsAt0 m c (t.val - 1) (Nat.lt_of_le_of_lt (Nat.sub_le _ _) t.isLt)).2.2.1 := by
  rw [outsAt0_B m c t h0 (by omega) h3]
  dsimp only [out0_B_10]

abbrev N1024 : EReal := Ideal.ofBits .f32 0x44800000#32
abbrev half : EReal := Ideal.ofBits .f32 0xBF000000#32
abbrev eps : EReal := Ideal.ofBits .f32 0x358637BD#32

open Cert.NormGrad

theorem k5_at (x : Vec Ideal S1024x1024 .f32) (g : Vec Ideal S1x1024 .f32) (s d : Vec Ideal S1024x1024 .f32) (r k : Fin 1024) :
    k0_pay5 x g s d (ix2 r k) = first N1024 eps (fun k => (x (ix2 r k) : EReal)) (fun k : Fin 1024 => HMul.hMul (α := EReal) (β := EReal) (γ := EReal) (s (ix2 r k)) (g (ix2 (0 : Fin 1) k))) (d (ix2 r k)) k := by
  unfold k0_pay5 k0_pay3 k0_pay2
  pointwise
  rfl

theorem k6_eq (x : Vec Ideal S1024x1024 .f32) (g : Vec Ideal S1x1024 .f32) (s d : Vec Ideal S1024x1024 .f32) : k0_pay6 x g s d = k0_pay5 x g s d := rfl

theorem k4_at (x s : Vec Ideal S1024x1024 .f32) (k : Fin 1024) :
    k0_pay4 x s (ix2 (0 : Fin 1) k) = ∑ r : Fin 1024, HMul.hMul (α := EReal) (β := EReal) (γ := EReal) (s (ix2 r k))
      (HMul.hMul (α := EReal) (β := EReal) (γ := EReal) (x (ix2 r k)) (Ideal.rsqrt (meanSq N1024 eps fun k : Fin 1024 => (x (ix2 r k) : EReal)))) := by
  unfold k0_pay4 k0_pay3 k0_pay2
  pointwise
  rfl

theorem k1_at (a b : Vec Ideal S1x1024 .f32) (k : Fin 1024) :
    k0_pay1 a b (ix2 (0 : Fin 1) k) = HAdd.hAdd (α := EReal) (β := EReal) (γ := EReal) (b (ix2 (0 : Fin 1) k)) (a (ix2 (0 : Fin 1) k)) := by
  unfold k0_pay1
  pointwise

section Reference

open Cert.DxUpBRefIdeal.Read

variable (x0 : (⟨S2048x4096, .bf16⟩ : BufTy).Contents (Elt Ideal)) (x1 : (⟨S2048x1024, .f32⟩ : BufTy).Contents (Elt Ideal)) (x2 : (⟨S1024, .f32⟩ : BufTy).Contents (Elt Ideal))
  (x3 : (⟨S2048x1024, .f32⟩ : BufTy).Contents (Elt Ideal)) (x4 : (⟨S1024x4096, .f32⟩ : BufTy).Contents (Elt Ideal))

theorem ref6 (r : Fin 2048) : val_main_v6 (F := Ideal) x1 (ix2 r (0 : Fin 1)) = meanSq N1024 eps fun k : Fin 1024 => (x1 (ix2 r k) : EReal) := by
  unfold val_main_v6 val_main_v5 val_main_cst_1 val_main_v4 val_main_v3 val_main_cst_0 val_main_v2 val_main_v1 val_main_cst val_main_v0
  pointwise
  rfl

theorem ref7 (r : Fin 2048) : val_main_v7 (F := Ideal) x1 (ix2 r (0 : Fin 1)) = Ideal.rsqrt (meanSq N1024 eps fun k : Fin 1024 => (x1 (ix2 r k) : EReal)) := by
  unfold val_main_v7
  pointwise
  rw [ref6]

theorem ref18 (r : Fin 2048) (n : Fin 1024) : val_main_v18 (F := Ideal) x0 x4 (ix2 r n) = dh x0 x4 r n := by
  unfold val_main_v18 val_main_v17
  pointwise
  rfl

theorem ref23 (r : Fin 2048) (n : Fin 1024) : val_main_v23 (F := Ideal) x0 x2 x4 (ix2 r n) = dh x0 x4 r n * (x2 (ix1 n) : EReal) := by
  unfold val_main_v23 val_main_v22 val_main_v13
  pointwise
  rw [ref18]

theorem ref34 (r : Fin 2048) : val_main_v34 (F := Ideal) x0 x1 x2 x4 (ix1 r)
    = slope N1024 half eps (fun k : Fin 1024 => (x1 (ix2 r k) : EReal)) (fun k : Fin 1024 => dh x0 x4 r k * (x2 (ix1 k) : EReal)) := by
  unfold val_main_v34 val_main_cst_7 val_main_v33 val_main_v32 val_main_cst_6 val_main_v31 val_main_v27 val_main_v26 val_main_cst_5 val_main_v25 val_main_v10 val_main_v9 val_main_cst_2 val_main_v8
  pointwise
  simp only [ref23]
  refine (Fin.sum_univ_one _).trans ?_
  rw [ref7, ref6]
  rfl

theorem ref39 (r : Fin 2048) (n : Fin 1024) : val_main_v39 (F := Ideal) x0 x1 x2 x3 x4 (ix2 r n)
    = second N1024 half eps (fun k : Fin 1024 => (x1 (ix2 r k) : EReal)) (fun k : Fin 1024 => dh x0 x4 r k * (x2 (ix1 k) : EReal)) (x3 (ix2 r n)) n := by
  unfold val_main_v39 val_main_v38 val_main_v37 val_main_v36 val_main_v35 val_main_v30 val_main_v29 val_main_v28
  pointwise
  rw [ref34, ref23, ref7]
  rfl

theorem ref41 (n : Fin 1024) :
    val_main_v41 (F := Ideal) x0 x1 x4 (ix2 (0 : Fin 1) n) = ∑ r : Fin 2048, (x1 (ix2 r n) : EReal) * Ideal.rsqrt (meanSq N1024 eps fun k : Fin 1024 => (x1 (ix2 r k) : EReal)) * dh x0 x4 r n := by
  unfold val_main_v41 val_main_v24 val_main_cst_4 val_main_v21 val_main_v20 val_main_cst_3 val_main_v19 val_main_v12 val_main_v11
  pointwise
  simp only [ref7, ref18]
  exact Fin.sum_univ_one _

end Reference

theorem last8 : ∀ t : Fin cfg0.N, (cfg0.win 8).flush t = true → t.val % 4 = 3 := by decide +kernel
theorem last9 : ∀ t : Fin cfg0.N, (cfg0.win 9).flush t = true → t.val % 4 = 3 := by decide +kernel
theorem last10 : ∀ t : Fin cfg0.N, (cfg0.win 10).flush t = true → t.val = 7 := by decide +kernel

theorem dx_at (t : Fin cfg0.N) (s : Vec Ideal S1024x1024 .f32)
    (hs : ∀ r k : Fin 1024, s (ix2 r k) = dh (m ((c : Thread nD τ).loc main_arg0)) (m ((c : Thread nD τ).loc main_arg4)) (⟨1024 * (t.val / 4) + r.val, by have : t.val < 8 := t.isLt; omega⟩ : Fin 2048) k) (r n : Fin 1024) :
    k0_pay5 (iblk m c 6 t) (iblk m c 1 t) s (iblk m c 7 t) (ix2 r n)
      = Cert.DxUpBRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (ix2 (⟨1024 * (t.val / 4) + r.val, by have : t.val < 8 := t.isLt; omega⟩ : Fin 2048) n) := by
  rw [k5_at, ref39, ← agree N1024 half eps n_f32 half_f32 eps_f32]
  have e6 := fun k : Fin 1024 => blk6 m c t r k (ix2 (⟨1024 * (t.val / 4) + r.val, by have : t.val < 8 := t.isLt; omega⟩ : Fin 2048) k) rfl rfl
  have e7 := fun k : Fin 1024 => blk7 m c t r k (ix2 (⟨1024 * (t.val / 4) + r.val, by have : t.val < 8 := t.isLt; omega⟩ : Fin 2048) k) rfl rfl
  have e1 := fun k : Fin 1024 => blk1 m c t k
  simp only [e6, e7, e1, hs]

theorem final8 : (dats m 0 c).arrAt 8 cfg0.N = Cert.DxUpBRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, n, rfl⟩ : ∃ (r : Fin 1024) (n : Fin 1024), y = ix2 r n := ⟨y 0, y 1, by funext a; match a with | ⟨0, _⟩ => rfl | ⟨1, _⟩ => rfl⟩
  have ht : t.val < 8 := t.isLt
  have ⟨a0, a1⟩ := at8 t
  have he : ((View.whole main_v7_0).slice (win0_8.rect t)).emb (ix2 r n) = ix2 (⟨1024 * (t.val / 4) + r.val, by omega⟩ : Fin 2048) n := by
    funext a
    refine Fin.ext ?_
    match a with
    | ⟨0, _⟩ => show cc0_transform_8 (grid0.coords t) 0 * 1024 + 1 * r.val = _; rw [a0]; show _ = 1024 * (t.val / 4) + r.val; omega
    | ⟨1, _⟩ => show cc0_transform_8 (grid0.coords t) 1 * 1024 + 1 * n.val = _; rw [a1]; show _ = n.val; omega
  rw [he]
  obtain ⟨s, hs, e8, -⟩ := out8 m c t (last8 t hf)
  rw [e8]
  exact dx_at m c t s hs r n

theorem final9 : (dats m 0 c).arrAt 9 cfg0.N = Cert.DxUpBRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  obtain ⟨r, n, rfl⟩ : ∃ (r : Fin 1024) (n : Fin 1024), y = ix2 r n := ⟨y 0, y 1, by funext a; match a with | ⟨0, _⟩ => rfl | ⟨1, _⟩ => rfl⟩
  have ht : t.val < 8 := t.isLt
  have ⟨a0, a1⟩ := at9 t
  have he : ((View.whole main_v7_1).slice (win0_9.rect t)).emb (ix2 r n) = ix2 (⟨1024 * (t.val / 4) + r.val, by omega⟩ : Fin 2048) n := by
    funext a
    refine Fin.ext ?_
    match a with
    | ⟨0, _⟩ => show cc0_transform_9 (grid0.coords t) 0 * 1024 + 1 * r.val = _; rw [a0]; show _ = 1024 * (t.val / 4) + r.val; omega
    | ⟨1, _⟩ => show cc0_transform_9 (grid0.coords t) 1 * 1024 + 1 * n.val = _; rw [a1]; show _ = n.val; omega
  rw [he]
  obtain ⟨s, hs, -, e9, -⟩ := out8 m c t (last9 t hf)
  rw [e9, k6_eq]
  exact dx_at m c t s hs r n

/-- The column sums of one tile. -/
theorem dg_at (t : Fin cfg0.N) (s : Vec Ideal S1024x1024 .f32)
    (hs : ∀ r k : Fin 1024, s (ix2 r k) = dh (m ((c : Thread nD τ).loc main_arg0)) (m ((c : Thread nD τ).loc main_arg4)) (⟨1024 * (t.val / 4) + r.val, by have : t.val < 8 := t.isLt; omega⟩ : Fin 2048) k)
    (x0 : (⟨S2048x4096, .bf16⟩ : BufTy).Contents (Elt Ideal)) (x1 : (⟨S2048x1024, .f32⟩ : BufTy).Contents (Elt Ideal)) (x4 : (⟨S1024x4096, .f32⟩ : BufTy).Contents (Elt Ideal))
    (h0 : x0 = m ((c : Thread nD τ).loc main_arg0)) (h1 : x1 = m ((c : Thread nD τ).loc main_arg1)) (h4 : x4 = m ((c : Thread nD τ).loc main_arg4)) (n : Fin 1024) :
    k0_pay4 (iblk m c 6 t) s (ix2 (0 : Fin 1) n) = ∑ r : Fin 1024, (fun r : Fin 2048 => (x1 (ix2 r n) : EReal) * Ideal.rsqrt (meanSq N1024 eps fun k : Fin 1024 => (x1 (ix2 r k) : EReal)) * dh x0 x4 r n)
      (⟨1024 * (t.val / 4) + r.val, by have : t.val < 8 := t.isLt; omega⟩ : Fin 2048) := by
  subst h0 h1 h4
  rw [k4_at]
  refine Finset.sum_congr rfl fun r _ => ?_
  have e6 := fun k : Fin 1024 => blk6 m c t r k (ix2 (⟨1024 * (t.val / 4) + r.val, by have : t.val < 8 := t.isLt; omega⟩ : Fin 2048) k) rfl rfl
  simp only [e6, hs]
  exact mul_comm _ _

theorem pt (n : ℕ) (h : n < 8) : n < cfg0.N := lt_of_lt_of_eq h (show 8 = cfg0.N from N_0.symm)

theorem final10 : (dats m 0 c).arrAt 10 cfg0.N = Cert.DxUpBRefIdeal.Read.val_main_v41 (F := Ideal) (m ((c : Thread nD τ).loc main_arg0)) (m ((c : Thread nD τ).loc main_arg1)) (m ((c : Thread nD τ).loc main_arg4)) := by
  refine (dats m 0 c).arrAt_eq_of_covers 10 _ (by decide +kernel) fun t hf y => ?_
  blk_simp
  rw [after0_10]
  obtain ⟨n, rfl⟩ : ∃ (n : Fin 1024), y = ix2 (0 : Fin 1) n := ⟨y 1, by
    funext a
    match a with
    | ⟨0, _⟩ => exact Fin.ext (by have : (y 0).val < 1 := (y 0).isLt; show (y 0).val = 0; omega)
    | ⟨1, _⟩ => rfl⟩
  have ⟨a0, a1⟩ := at10 t
  have he : ((View.whole main_v7_2).slice (win0_10.rect t)).emb (ix2 (0 : Fin 1) n) = ix2 (0 : Fin 1) n := by
    funext a
    refine Fin.ext ?_
    match a with
    | ⟨0, _⟩ => show cc0_transform_10 (grid0.coords t) 0 * 1 + 1 * 0 = 0; rw [a0]
    | ⟨1, _⟩ => show cc0_transform_10 (grid0.coords t) 1 * 1024 + 1 * n.val = n.val; rw [a1]; omega
  rw [he, ref41, sum_tiles]
  obtain rfl : t = ⟨7, pt 7 (by decide)⟩ := Fin.ext (last10 t hf)
  obtain ⟨s7, hs7, -, -, -, e7⟩ := out8 m c ⟨7, pt 7 (by decide)⟩ rfl
  obtain ⟨s3, hs3, -, -, e3, -⟩ := out8 m c ⟨3, pt 3 (by decide)⟩ rfl
  have e7 := e7 (by dsimp only; omega)
  have e3 := e3 (by dsimp only; omega)
  have e6 := out10_B m c ⟨6, pt 6 (by decide)⟩ (by dsimp only; omega) (by dsimp only; omega)
  have e5 := out10_B m c ⟨5, pt 5 (by decide)⟩ (by dsimp only; omega) (by dsimp only; omega)
  have e4 := out10_A m c ⟨4, pt 4 (by decide)⟩ rfl (le_refl _)
  refine (congrFun (e7.trans (congrArg (k0_pay1 (F := Ideal) _) (e6.trans (e5.trans (e4.trans e3))))) (ix2 (0 : Fin 1) n)).trans ?_
  rw [k1_at, dg_at m c ⟨7, pt 7 (by decide)⟩ s7 hs7 _ _ _ rfl rfl rfl, dg_at m c ⟨3, pt 3 (by decide)⟩ s3 hs3 _ _ _ rfl rfl rfl]
  refine congr (congrArg _ (Finset.sum_congr rfl fun r _ => ?_)) rfl
  have hz : (⟨1024 * (3 / 4) + r.val, by omega⟩ : Fin 2048) = ⟨r.val, by omega⟩ := Fin.ext (by show 1024 * (3 / 4) + r.val = r.val; omega)
  dsimp only
  rw [hz]

end Cert.DxUpBIdeal.Eq

end
-- ==== Proof.DownBEq.lean ====
module
public import proofs.«01_k».proof.Proof.Gen.DownBIdeal.Value
public import proofs.«01_k».proof.Proof.Gen.DownBRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DownBIdeal.Eq

open Idealize.ShloMosaic Idealize.ShloMosaic.TcCoe Cert.DownBIdeal.Gen Finset
open Cert.DownBIdeal.Value

variable (m : (ℓ : Loc nD τ sig) → Buf (Elt Ideal) ℓ) (c : Dev nD)

theorem at1 : ∀ t : Fin grid0.N, cc0_transform_1 (grid0.coords t) 0 = 0 ∧ cc0_transform_1 (grid0.coords t) 1 = 4 + t.val % 4 ∧ cc0_transform_1 (grid0.coords t) 2 = 0 := by decide +kernel
theorem at2 : ∀ t : Fin grid0.N, cc0_transform_2 (grid0.coords t) 0 = 1 ∧ cc0_transform_2 (grid0.coords t) 1 = 4 + t.val % 4 ∧ cc0_transform_2 (grid0.coords t) 2 = 0 := by decide +kernel
theorem at3 : ∀ t : Fin grid0.N, cc0_transform_3 (grid0.coords t) 0 = 2 ∧ cc0_transform_3 (grid0.coords t) 1 = 4 + t.val % 4 ∧ cc0_transform_3 (grid0.coords t) 2 = 0 := by decide +kernel
theorem at4 : ∀ t : Fin grid0.N, cc0_transform_4 (grid0.coords t) 0 = 3 ∧ cc0_transform_4 (grid0.coords t) 1 = 4 + t.val % 4 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel
theorem at6 : ∀ t : Fin grid0.N, cc0_transform_6 (grid0.coords t) 0 = t.val / 4 ∧ cc0_transform_6 (grid0.coords t) 1 = t.val % 4 := by decide +kernel

theorem packed : V m c main_v6 = concatenate S4x12544x256 1 [⟨S4x4096x256, broadcastInDim S4x4096x256 ![] bcast_S_S4x4096x256 (constant (F := Ideal) S_ .bf16 0x0000#16)⟩,
      ⟨S4x4096x256, shapeCast S4x4096x256 (transpose S4x4x1024x256 [0, 2, 1, 3] (shapeCast S4x1024x4x256 (truncf (F := Ideal) .bf16 (m ((c : Thread nD τ).loc main_arg2)) bitsLt_bf16_f32) shapeCasts_S4096x1024_S4x1024x4x256) transposes_S4x1024x4x256_S4x4x1024x256_0_2_1_3) shapeCasts_S4x4x1024x256_S4x4096x256⟩,
      ⟨S4x4352x256, broadcastInDim S4x4352x256 ![] bcast_S_S4x4352x256 (constant (F := Ideal) S_ .bf16 0x0000#16)⟩] concatenates_S4x4096x256_S4x4096x256_S4x4352x256_S4x12544x256_d1 := by
  unfold V
  simp only [hostOps0]
  after_reads_simp
  rfl

/-- Where the packed buffer holds the weight: slab `a`, rows of its part `b`, is rows of part `a` and columns of part `b`. -/
theorem entry (a b : Fin 4) (r : Fin 1024) (k : Fin 256) :
    V m c main_v6 (ix3 a (⟨4096 + (1024 * b.val + r.val), by omega⟩ : Fin 12544) k)
      = m ((c : Thread nD τ).loc main_arg2) (ix2 (⟨1024 * a.val + r.val, by omega⟩ : Fin 4096) (⟨256 * b.val + k.val, by omega⟩ : Fin 1024)) := by
  rw [packed]
  refine (concatenate_apply_piece (t := S4x12544x256) (1 : Fin 3) _ _ _ 1 (by exact Nat.lt_of_sub_eq_succ rfl) S4x4096x256 _ (by rfl) rfl 4096 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  rfl

theorem blk0 (t : Fin cfg0.N) (r : Fin 1024) (k : Fin 4096) (i : S2048x4096.Idx) (h0 : (i 0).val = 1024 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * r.val = (i 0).val; rw [a0, h0]; omega
  | ⟨1, _⟩ => show cc0_transform_0 (grid0.coords t) 1 * 4096 + 1 * k.val = (i 1).val; rw [a1, h1]; omega

theorem blk5 (t : Fin cfg0.N) (r : Fin 1024) (k : Fin 256) (i : S2048x1024.Idx) (h0 : (i 0).val = 1024 * (t.val / 4) + r.val) (h1 : (i 1).val = 256 * (t.val % 4) + k.val) :
    iblk m c 5 t (ix2 r k) = m ((c : Thread nD τ).loc main_arg1) i := by
  rw [← V_main_arg1 m c]
  unfold iblk
  have ⟨a0, a1⟩ := at5 t
  refine congrArg (V m c main_arg1) (funext fun a => Fin.ext ?_)
  match a with
  | ⟨0, _⟩ => show cc0_transform_5 (grid0.coords t) 0 * 1024 + 1 * r.val = (i 0).val; rw [a0, h0]; omega
  | ⟨1, _⟩ => show cc0_transform_5 (grid0.coords t) 1 * 256 + 1 * k.val = (i 1).val; rw [a1, h1]; omega

theorem blk1 (t : Fin cfg0.N) (r : Fin 1024) (k : Fin 256) (i : S4096x1024.Idx) (h0 : (i 0).val = 0 + r.val) (h1 : (i 1).val = 256 * (t.val % 4) + k.val) :
    X0_1 m c t (ix3 (0 : Fin 1) r k) = m ((c : Thread nD τ).loc main_arg2) i := by
  have hi : i = ix2 (⟨1024 * 0 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨0, by omega⟩ ⟨t.val % 4, by omega⟩ r k)
  unfold X0_1 Pipeline.Window.fill
  rw [dif_pos (moved0_1 t _)]
  unfold iblk
  have ⟨a0, a1, a2⟩ := at1 t
  refine congrArg (V m c main_v6) (funext fun a => Fin.ext ?_)
  match a with
  | ⟨0, _⟩ => show cc0_transform_1 (grid0.coords t) 0 * 1 + 1 * 0 = 0; rw [a0]
  | ⟨1, _⟩ => show cc0_transform_1 (grid0.coords t) 1 * 1024 + 1 * r.val = 4096 + (1024 * (t.val % 4) + r.val); rw [a1]; omega
  | ⟨2, _⟩ => show cc0_transform_1 (grid0.coords t) 2 * 256 + 1 * k.val = k.val; rw [a2]; omega

theorem blk2 (t : Fin cfg0.N) (r : Fin 1024) (k : Fin 256) (i : S4096x1024.Idx) (h0 : (i 0).val = 1024 + r.val) (h1 : (i 1).val = 256 * (t.val % 4) + k.val) :
    X0_2 m c t (ix3 (0 : Fin 1) r k) = m ((c : Thread nD τ).loc main_arg2) i := by
  have hi : i = ix2 (⟨1024 * 1 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨1, by omega⟩ ⟨t.val % 4, by omega⟩ r k)
  unfold X0_2 Pipeline.Window.fill
  rw [dif_pos (moved0_2 t _)]
  unfold iblk
  have ⟨a0, a1, a2⟩ := at2 t
  refine congrArg (V m c main_v6) (funext fun a => Fin.ext ?_)
  match a with
  | ⟨0, _⟩ => show cc0_transform_2 (grid0.coords t) 0 * 1 + 1 * 0 = 1; rw [a0]
  | ⟨1, _⟩ => show cc0_transform_2 (grid0.coords t) 1 * 1024 + 1 * r.val = 4096 + (1024 * (t.val % 4) + r.val); rw [a1]; omega
  | ⟨2, _⟩ => show cc0_transform_2 (grid0.coords t) 2 * 256 + 1 * k.val = k.val; rw [a2]; omega

theorem blk3 (t : Fin cfg0.N) (r : Fin 1024) (k : Fin 256) (i : S4096x1024.Idx) (h0 : (i 0).val = 2048 + r.val) (h1 : (i 1).val = 256 * (t.val % 4) + k.val) :
    X0_3 m c t (ix3 (0 : Fin 1) r k) = m ((c : Thread nD τ).loc main_arg2) i := by
  have hi : i = ix2 (⟨1024 * 2 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨2, by omega⟩ ⟨t.val % 4, by omega⟩ r k)
  unfold X0_3 Pipeline.Window.fill
  rw [dif_pos (moved0_3 t _)]
  unfold iblk
  have ⟨a0, a1, a2⟩ := at3 t
  refine congrArg (V m c main_v6) (funext fun a => Fin.ext ?_)
  match a with
  | ⟨0, _⟩ => show cc0_transform_3 (grid0.coords t) 0 * 1 + 1 * 0 = 2; rw [a0]
  | ⟨1, _⟩ => show cc0_transform_3 (grid0.coords t) 1 * 1024 + 1 * r.val = 4096 + (1024 * (t.val % 4) + r.val); rw [a1]; omega
  | ⟨2, _⟩ => show cc0_transform_3 (grid0.coords t) 2 * 256 + 1 * k.val = k.val; rw [a2]; omega

theorem blk4 (t : Fin cfg0.N) (r : Fin 1024) (k : Fin 256) (i : S4096x1024.Idx) (h0 : (i 0).val = 3072 + r.val) (h1 : (i 1).val = 256 * (t.val % 4) + k.val) :
    X0_4 m c t (ix3 (0 : Fin 1) r k) = m ((c : Thread nD τ).loc main_arg2) i := by
  have hi : i = ix2 (⟨1024 * 3 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨3, by omega⟩ ⟨t.val % 4, by omega⟩ r k)
  unfold X0_4 Pipeline.Window.fill
  rw [dif_pos (moved0_4 t _)]
  unfold iblk
  have ⟨a0, a1, a2⟩ := at4 t
  refine congrArg (V m c main_v6) (funext fun a => Fin.ext ?_)
  match a with
  | ⟨0, _⟩ => show cc0_transform_4 (grid0.coords t) 0 * 1 + 1 * 0 = 3; rw [a0]
  | ⟨1, _⟩ => show cc0_transform_4 (grid0.coords t) 1 * 1024 + 1 * r.val = 4096 + (1024 * (t.val % 4) + r.val); rw [a1]; omega
  | ⟨2, _⟩ => show cc0_transform_4 (grid0.coords t) 2 * 256 + 1 * k.val = k.val; rw [a2]; omega

/-- A sum over 4096 is four sums over 1024. -/
theorem sum_slabs (f : Fin 4096 → EReal) :
    ∑ x, f x = ∑ x : Fin 1024, f ⟨x.val, by omega⟩ + ∑ x : Fin 1024, f ⟨1024 + x.val, by omega⟩ + ∑ x : Fin 1024, f ⟨2048 + x.val, by omega⟩ + ∑ x : Fin 1024, f ⟨3072 + x.val, by omega⟩ := by
  rw [Fin.sum_univ_add (a := 3072) (b := 1024) f, Fin.sum_univ_add (a := 2048) (b := 1024) fun x : Fin 3072 => f (Fin.castAdd 1024 x),
    Fin.sum_univ_add (a := 1024) (b := 1024) fun x : Fin 2048 => f (Fin.castAdd 1024 (Fin.castAdd 1024 x))]
  rfl

/-- The reference at an index. -/
theorem ref_at (x0 : (⟨S2048x4096, .bf16⟩ : BufTy).Contents (Elt Ideal)) (x1 : (⟨S2048x1024, .f32⟩ : BufTy).Contents (Elt Ideal)) (x2 : (⟨S4096x1024, .f32⟩ : BufTy).Contents (Elt Ideal)) (r : Fin 2048) (n : Fin 1024) :
    Cert.DownBRefIdeal.Read.val_main_v2 (F := Ideal) x0 x1 x2 (ix2 r n)
      = (x1 (ix2 r n) : EReal) + ∑ x : Fin 4096, (x0 (ix2 r x) : EReal) * (x2 (ix2 x n) : EReal) := by
  unfold Cert.DownBRefIdeal.Read.val_main_v2 Cert.DownBRefIdeal.Read.val_main_v1 Cert.DownBRefIdeal.Read.val_main_v0
  pointwise

theorem final : (dats m 0 c).arrAt 6 cfg0.N = Cert.DownBRefIdeal.Read.val_main_v2 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold outsAt0
  frame_out
  obtain ⟨r, n, rfl⟩ : ∃ (r : Fin 1024) (n : Fin 256), y = ix2 r n := ⟨y 0, y 1, by funext a; match a with | ⟨0, _⟩ => rfl | ⟨1, _⟩ => rfl⟩
  have ht : t.val < 8 := t.isLt
  have ⟨a0, a1⟩ := at6 t
  have he : ((View.whole main_v7).slice (win0_6.rect t)).emb (ix2 r n) = ix2 (⟨1024 * (t.val / 4) + r.val, by omega⟩ : Fin 2048) (⟨256 * (t.val % 4) + n.val, by omega⟩ : Fin 1024) := by
    funext a
    refine Fin.ext ?_
    match a with
    | ⟨0, _⟩ => show cc0_transform_6 (grid0.coords t) 0 * 1024 + 1 * r.val = _; rw [a0]; show _ = 1024 * (t.val / 4) + r.val; omega
    | ⟨1, _⟩ => show cc0_transform_6 (grid0.coords t) 1 * 256 + 1 * n.val = _; rw [a1]; show _ = 256 * (t.val % 4) + n.val; omega
  rw [he]
  refine Eq.trans ?_ (ref_at _ _ _ _ _).symm
  unfold k0_pay1
  pointwise
  rw [add_comm, sum_slabs, blk5 m c t r n (ix2 (⟨1024 * (t.val / 4) + r.val, by omega⟩ : Fin 2048) (⟨256 * (t.val % 4) + n.val, by omega⟩ : Fin 1024)) rfl rfl]
  refine congr rfl ?_
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ (Nat.zero_add _).symm rfl
  · exact blk2 m c t _ _ _ rfl rfl
  · exact blk3 m c t _ _ _ rfl rfl
  · exact blk4 m c t _ _ _ rfl rfl

end Cert.DownBIdeal.Eq

end
-- ==== Proof.DxDownCEq.lean ====
module
public import proofs.«01_k».proof.Proof.Gen.DxDownCIdeal.Value
public import proofs.«01_k».proof.Proof.Gen.DxDownCRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxDownCIdeal.Eq

open Idealize.ShloMosaic Idealize.ShloMosaic.TcCoe Cert.DxDownCIdeal.Gen Finset
open Cert.DxDownCIdeal.Value

variable (m : (ℓ : Loc nD τ sig) → Buf (Elt Ideal) ℓ) (c : Dev nD)

theorem at1 : ∀ t : Fin grid0.N, cc0_transform_1 (grid0.coords t) 0 = t.val % 4 ∧ cc0_transform_1 (grid0.coords t) 1 = 4 ∧ cc0_transform_1 (grid0.coords t) 2 = 0 := by decide +kernel
theorem at2 : ∀ t : Fin grid0.N, cc0_transform_2 (grid0.coords t) 0 = t.val % 4 ∧ cc0_transform_2 (grid0.coords t) 1 = 5 ∧ cc0_transform_2 (grid0.coords t) 2 = 0 := by decide +kernel
theorem at3 : ∀ t : Fin grid0.N, cc0_transform_3 (grid0.coords t) 0 = t.val % 4 ∧ cc0_transform_3 (grid0.coords t) 1 = 6 ∧ cc0_transform_3 (grid0.coords t) 2 = 0 := by decide +kernel
theorem at4 : ∀ t : Fin grid0.N, cc0_transform_4 (grid0.coords t) 0 = t.val % 4 ∧ cc0_transform_4 (grid0.coords t) 1 = 7 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel
theorem at6 : ∀ t : Fin grid0.N, cc0_transform_6 (grid0.coords t) 0 = t.val / 4 ∧ cc0_transform_6 (grid0.coords t) 1 = t.val % 4 := by decide +kernel

theorem packed : V m c main_v6 = concatenate S4x14592x256 1 [⟨S4x4096x256, broadcastInDim S4x4096x256 ![] bcast_S_S4x4096x256 (constant (F := Ideal) S_ .bf16 0x0000#16)⟩,
      ⟨S4x4096x256, shapeCast S4x4096x256 (transpose S4x4x1024x256 [0, 2, 1, 3] (shapeCast S4x1024x4x256 (truncf (F := Ideal) .bf16 (m ((c : Thread nD τ).loc main_arg2)) bitsLt_bf16_f32) shapeCasts_S4096x1024_S4x1024x4x256) transposes_S4x1024x4x256_S4x4x1024x256_0_2_1_3) shapeCasts_S4x4x1024x256_S4x4096x256⟩,
      ⟨S4x6400x256, broadcastInDim S4x6400x256 ![] bcast_S_S4x6400x256 (constant (F := Ideal) S_ .bf16 0x0000#16)⟩] concatenates_S4x4096x256_S4x4096x256_S4x6400x256_S4x14592x256_d1 := by
  unfold V
  simp only [hostOps0]
  after_reads_simp
  rfl

/-- Where the packed buffer holds the weight: slab `a`, rows of its part `b`, is rows of part `a` and columns of part `b`. -/
theorem entry (a b : Fin 4) (r : Fin 1024) (k : Fin 256) :
    V m c main_v6 (ix3 a (⟨4096 + (1024 * b.val + r.val), by omega⟩ : Fin 14592) k)
      = m ((c : Thread nD τ).loc main_arg2) (ix2 (⟨1024 * a.val + r.val, by omega⟩ : Fin 4096) (⟨256 * b.val + k.val, by omega⟩ : Fin 1024)) := by
  rw [packed]
  refine (concatenate_apply_piece (t := S4x14592x256) (1 : Fin 3) _ _ _ 1 (by exact Nat.lt_of_sub_eq_succ rfl) S4x4096x256 _ (by rfl) rfl 4096 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  rfl

theorem blk0 (t : Fin cfg0.N) (r : Fin 1024) (k : Fin 1024) (i : S2048x1024.Idx) (h0 : (i 0).val = 1024 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * r.val = (i 0).val; rw [a0, h0]; omega
  | ⟨1, _⟩ => show cc0_transform_0 (grid0.coords t) 1 * 1024 + 1 * k.val = (i 1).val; rw [a1, h1]; omega

theorem blk5 (t : Fin cfg0.N) (r : Fin 1024) (k : Fin 1024) (i : S2048x4096.Idx) (h0 : (i 0).val = 1024 * (t.val / 4) + r.val) (h1 : (i 1).val = 1024 * (t.val % 4) + k.val) :
    iblk m c 5 t (ix2 r k) = m ((c : Thread nD τ).loc main_arg1) i := by
  rw [← V_main_arg1 m c]
  unfold iblk
  have ⟨a0, a1⟩ := at5 t
  refine congrArg (V m c main_arg1) (funext fun a => Fin.ext ?_)
  match a with
  | ⟨0, _⟩ => show cc0_transform_5 (grid0.coords t) 0 * 1024 + 1 * r.val = (i 0).val; rw [a0, h0]; omega
  | ⟨1, _⟩ => show cc0_transform_5 (grid0.coords t) 1 * 1024 + 1 * k.val = (i 1).val; rw [a1, h1]; omega

theorem blk1 (t : Fin cfg0.N) (r : Fin 1024) (k : Fin 256) (i : S4096x1024.Idx) (h0 : (i 0).val = 1024 * (t.val % 4) + r.val) (h1 : (i 1).val = 0 + k.val) :
    X0_1 m c t (ix3 (0 : Fin 1) r k) = m ((c : Thread nD τ).loc main_arg2) i := by
  have hi : i = ix2 (⟨1024 * (t.val % 4) + r.val, by omega⟩ : Fin 4096) (⟨256 * 0 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold X0_1 Pipeline.Window.fill
  rw [dif_pos (moved0_1 t _)]
  unfold iblk
  have ⟨a0, a1, a2⟩ := at1 t
  refine congrArg (V m c main_v6) (funext fun a => Fin.ext ?_)
  match a with
  | ⟨0, _⟩ => show cc0_transform_1 (grid0.coords t) 0 * 1 + 1 * 0 = t.val % 4; rw [a0]; omega
  | ⟨1, _⟩ => show cc0_transform_1 (grid0.coords t) 1 * 1024 + 1 * r.val = 4096 + (1024 * 0 + r.val); rw [a1]; omega
  | ⟨2, _⟩ => show cc0_transform_1 (grid0.coords t) 2 * 256 + 1 * k.val = k.val; rw [a2]; omega

theorem blk2 (t : Fin cfg0.N) (r : Fin 1024) (k : Fin 256) (i : S4096x1024.Idx) (h0 : (i 0).val = 1024 * (t.val % 4) + r.val) (h1 : (i 1).val = 256 + k.val) :
    X0_2 m c t (ix3 (0 : Fin 1) r k) = m ((c : Thread nD τ).loc main_arg2) i := by
  have hi : i = ix2 (⟨1024 * (t.val % 4) + r.val, by omega⟩ : Fin 4096) (⟨256 * 1 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold X0_2 Pipeline.Window.fill
  rw [dif_pos (moved0_2 t _)]
  unfold iblk
  have ⟨a0, a1, a2⟩ := at2 t
  refine congrArg (V m c main_v6) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 1024 + 1 * r.val = 4096 + (1024 * 1 + r.val); rw [a1]; omega
  | ⟨2, _⟩ => show cc0_transform_2 (grid0.coords t) 2 * 256 + 1 * k.val = k.val; rw [a2]; omega

theorem blk3 (t : Fin cfg0.N) (r : Fin 1024) (k : Fin 256) (i : S4096x1024.Idx) (h0 : (i 0).val = 1024 * (t.val % 4) + r.val) (h1 : (i 1).val = 512 + k.val) :
    X0_3 m c t (ix3 (0 : Fin 1) r k) = m ((c : Thread nD τ).loc main_arg2) i := by
  have hi : i = ix2 (⟨1024 * (t.val % 4) + r.val, by omega⟩ : Fin 4096) (⟨256 * 2 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold X0_3 Pipeline.Window.fill
  rw [dif_pos (moved0_3 t _)]
  unfold iblk
  have ⟨a0, a1, a2⟩ := at3 t
  refine congrArg (V m c main_v6) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 1024 + 1 * r.val = 4096 + (1024 * 2 + r.val); rw [a1]; omega
  | ⟨2, _⟩ => show cc0_transform_3 (grid0.coords t) 2 * 256 + 1 * k.val = k.val; rw [a2]; omega

theorem blk4 (t : Fin cfg0.N) (r : Fin 1024) (k : Fin 256) (i : S4096x1024.Idx) (h0 : (i 0).val = 1024 * (t.val % 4) + r.val) (h1 : (i 1).val = 768 + k.val) :
    X0_4 m c t (ix3 (0 : Fin 1) r k) = m ((c : Thread nD τ).loc main_arg2) i := by
  have hi : i = ix2 (⟨1024 * (t.val % 4) + r.val, by omega⟩ : Fin 4096) (⟨256 * 3 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨3, by omega⟩ r k)
  unfold X0_4 Pipeline.Window.fill
  rw [dif_pos (moved0_4 t _)]
  unfold iblk
  have ⟨a0, a1, a2⟩ := at4 t
  refine congrArg (V m c main_v6) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 1024 + 1 * r.val = 4096 + (1024 * 3 + r.val); rw [a1]; omega
  | ⟨2, _⟩ => show cc0_transform_4 (grid0.coords t) 2 * 256 + 1 * k.val = k.val; rw [a2]; omega

/-- A sum over 1024 is four sums over 256. -/
theorem sum_slabs (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- The reference at an index: where the input of the square is not above zero, the factor is zero as well. -/
theorem ref_at (x0 : (⟨S2048x1024, .bf16⟩ : BufTy).Contents (Elt Ideal)) (x1 : (⟨S2048x4096, .bf16⟩ : BufTy).Contents (Elt Ideal)) (x2 : (⟨S4096x1024, .f32⟩ : BufTy).Contents (Elt Ideal)) (r : Fin 2048) (n : Fin 4096) :
    Cert.DxDownCRefIdeal.Read.val_main_v14 (F := Ideal) x0 x1 x2 (ix2 r n)
      = (∑ x : Fin 1024, (x0 (ix2 r x) : EReal) * (x2 (ix2 n x) : EReal)) * (Ideal.ofBits FTy.f32 1073741824#32 * max (x1 (ix2 r n) : EReal) 0) := by
  unfold Cert.DxDownCRefIdeal.Read.val_main_v14 Cert.DxDownCRefIdeal.Read.val_main_v13 Cert.DxDownCRefIdeal.Read.val_main_v12 Cert.DxDownCRefIdeal.Read.val_main_v11 Cert.DxDownCRefIdeal.Read.val_main_v10 Cert.DxDownCRefIdeal.Read.val_main_v9 Cert.DxDownCRefIdeal.Read.val_main_v7 Cert.DxDownCRefIdeal.Read.val_main_v6 Cert.DxDownCRefIdeal.Read.val_main_v3 Cert.DxDownCRefIdeal.Read.val_main_v2 Cert.DxDownCRefIdeal.Read.val_main_v1 Cert.DxDownCRefIdeal.Read.val_main_v0 Cert.DxDownCRefIdeal.Read.val_main_call0_v0 Cert.DxDownCRefIdeal.Read.val_main_call0_cst Cert.DxDownCRefIdeal.Read.val_main_cst Cert.DxDownCRefIdeal.Read.val_main_cst_1 Cert.DxDownCRefIdeal.Read.val_main_cst_2
  pointwise
  split_ifs with h
  · rfl
  · rw [max_eq_right (not_lt.mp h), mul_zero, mul_zero]

theorem final : (dats m 0 c).arrAt 6 cfg0.N = Cert.DxDownCRefIdeal.Read.val_main_v14 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold outsAt0
  frame_out
  obtain ⟨r, n, rfl⟩ : ∃ (r n : Fin 1024), y = ix2 r n := ⟨y 0, y 1, by funext a; match a with | ⟨0, _⟩ => rfl | ⟨1, _⟩ => rfl⟩
  have ht : t.val < 8 := t.isLt
  have ⟨a0, a1⟩ := at6 t
  have he : ((View.whole main_v7).slice (win0_6.rect t)).emb (ix2 r n) = ix2 (⟨1024 * (t.val / 4) + r.val, by omega⟩ : Fin 2048) (⟨1024 * (t.val % 4) + n.val, by omega⟩ : Fin 4096) := by
    funext a
    refine Fin.ext ?_
    match a with
    | ⟨0, _⟩ => show cc0_transform_6 (grid0.coords t) 0 * 1024 + 1 * r.val = _; rw [a0]; show _ = 1024 * (t.val / 4) + r.val; omega
    | ⟨1, _⟩ => show cc0_transform_6 (grid0.coords t) 1 * 1024 + 1 * n.val = _; rw [a1]; show _ = 1024 * (t.val % 4) + n.val; omega
  rw [he]
  refine Eq.trans ?_ (ref_at _ _ _ _ _).symm
  unfold k0_pay1
  pointwise
  rw [sum_slabs, blk5 m c t r n (ix2 (⟨1024 * (t.val / 4) + r.val, by omega⟩ : Fin 2048) (⟨1024 * (t.val % 4) + n.val, by omega⟩ : Fin 4096)) rfl rfl]
  refine congr (congrArg _ ?_) rfl
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ rfl (Nat.zero_add _).symm
  · exact blk2 m c t _ _ _ rfl rfl
  · exact blk3 m c t _ _ _ rfl rfl
  · exact blk4 m c t _ _ _ rfl rfl

end Cert.DxDownCIdeal.Eq

end
-- ==== Proof.DwUpCEq.lean ====
module
public import proofs.«01_k».proof.Proof.Gen.DwUpCIdeal.Value
public import proofs.«01_k».proof.Proof.Gen.DwUpCRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwUpCIdeal.Eq

open Idealize.ShloMosaic Idealize.ShloMosaic.TcCoe Cert.DwUpCIdeal.Gen Finset
open Cert.DwUpCIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = 0 := by decide +kernel
theorem at1 : ∀ t : Fin grid0.N, cc0_transform_2 (grid0.coords t) 0 = 0 ∧ cc0_transform_2 (grid0.coords t) 1 = t.val := by decide +kernel
theorem at2 : ∀ t : Fin grid0.N, cc0_transform_3 (grid0.coords t) 0 = t.val ∧ cc0_transform_3 (grid0.coords t) 1 = 0 ∧ cc0_transform_3 (grid0.coords t) 2 = 0 := by decide +kernel

theorem blk0 (t : Fin cfg0.N) (r : Fin 2048) (k : Fin 1024) (i : S2048x1024.Idx) (h0 : (i 0).val = r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 1024 + 1 * k.val = (i 1).val; rw [a1, h1]; omega

theorem blk1 (t : Fin cfg0.N) (r : Fin 2048) (k : Fin 1024) (i : S2048x4096.Idx) (h0 : (i 0).val = r.val) (h1 : (i 1).val = 1024 * t.val + k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 1024 + 1 * k.val = (i 1).val; rw [a1, h1]; omega

theorem kept : V m c main_v0 = m ((c : Thread nD τ).loc main_arg2) := by
  unfold V
  simp only [hostOps0]
  after_reads_simp
  rfl

open Cert.DwUpCRefIdeal.Read in
/-- The reference's gradient at an index of its rows of slab `a`, part `b`. -/
theorem ref_at (x0 : (⟨S2048x1024, .bf16⟩ : BufTy).Contents (Elt Ideal)) (x1 : (⟨S2048x4096, .bf16⟩ : BufTy).Contents (Elt Ideal)) (x2 : (⟨S4x14592x256, .bf16⟩ : BufTy).Contents (Elt Ideal))
    (a b : Fin 4) (r : Fin 1024) (k : Fin 256) (i : S4x14592x256.Idx) (h0 : (i 0).val = a.val) (h1 : (i 1).val = 1024 * b.val + r.val) (h2 : (i 2).val = k.val) :
    val_main_v11 (F := Ideal) x0 x1 x2 i
      = ∑ x : Fin 2048, (x0 (ix2 x r) : EReal) * (x1 (ix2 x (⟨1024 * a.val + 256 * b.val + k.val, by omega⟩ : Fin 4096)) : EReal) := by
  refine (concatenate_pair_apply_left (t := S4x14592x256) (1 : Fin 3) (val_main_v9 (F := Ideal) x0 x1) _ _ _ rfl (ix3 a (⟨1024 * b.val + r.val, by omega⟩ : Fin 4096) k) (fun d => ?_)).trans ?_
  · match d with
    | ⟨0, _⟩ => exact h0.symm
    | ⟨1, _⟩ => exact h1.symm
    | ⟨2, _⟩ => exact h2.symm
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 r a b k) fun d => ?_).trans ?_
  · match d with
    | ⟨0, _⟩ => rfl
    | ⟨1, _⟩ => rfl
    | ⟨2, _⟩ => rfl
    | ⟨3, _⟩ => rfl
  refine (shapeCast_apply _ _ _ (ix2 r (⟨1024 * a.val + 256 * b.val + k.val, by omega⟩ : Fin 4096)) ?_).trans ?_
  · rw [Shape.rowMajor_val_four, Shape.rowMajor_val_two]
    show r.val * 4096 + (1024 * a.val + 256 * b.val + k.val) = ((r.val * 4 + a.val) * 4 + b.val) * 256 + k.val
    omega
  unfold val_main_v6 val_main_v5 val_main_v4 val_main_v3 val_main_v1
  pointwise
  exact Finset.sum_congr rfl fun x _ => mul_comm _ _

open Cert.DwUpCRefIdeal.Read in
/-- The rows below the gradient are those of the third argument. -/
theorem ref_rest (x0 : (⟨S2048x1024, .bf16⟩ : BufTy).Contents (Elt Ideal)) (x1 : (⟨S2048x4096, .bf16⟩ : BufTy).Contents (Elt Ideal)) (x2 : (⟨S4x14592x256, .bf16⟩ : BufTy).Contents (Elt Ideal))
    (i : S4x14592x256.Idx) (h : 4096 ≤ (i 1).val) : val_main_v11 (F := Ideal) x0 x1 x2 i = x2 i := by
  have hi : (i 1).val < 14592 := (i 1).isLt
  refine (concatenate_pair_apply_right (t := S4x14592x256) (1 : Fin 3) (val_main_v9 (F := Ideal) x0 x1) (val_main_v10 (F := Ideal) x2) _ _ rfl rfl (ix3 (i 0 : Fin 4) (⟨(i 1).val - 4096, by omega⟩ : Fin 10496) (i 2 : Fin 256)) (fun d hd => ?_) ?_).trans ?_
  · match d with
    | ⟨0, _⟩ => rfl
    | ⟨1, _⟩ => exact absurd rfl hd
    | ⟨2, _⟩ => rfl
  · show (i 1).val - 4096 + 4096 = (i 1).val; omega
  · unfold val_main_v10
    refine congrArg x2 (funext fun d => Fin.ext ?_)
    match d with
    | ⟨0, _⟩ => show 0 + (i 0).val = (i 0).val; omega
    | ⟨1, _⟩ => show 4096 + ((i 1).val - 4096) = (i 1).val; omega
    | ⟨2, _⟩ => show 0 + (i 2).val = (i 2).val; omega

theorem final : (dats m 0 c).arrAt 2 cfg0.N = Cert.DwUpCRefIdeal.Read.val_main_v11 (F := Ideal) (m ((c : Thread nD τ).loc main_arg0)) (m ((c : Thread nD τ).loc main_arg1)) (m ((c : Thread nD τ).loc main_arg2)) := by
  have h : (dats m 0 c).arrAt 2 cfg0.N = fun i : S4x14592x256.Idx => if (i 1 : ℕ) / 4096 = 0 then Cert.DwUpCRefIdeal.Read.val_main_v11 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => β (1 : Fin _) = 0) (by decide +kernel) (fun t hf y => ?_) (fun j => Iff.rfl)
    blk_simp
    rw [after0_2]
    unfold outsAt0
    frame_out
    have ht : t.val < 4 := t.isLt
    have ⟨a0, a1, a2⟩ := at2 t
    have e0 : (((View.whole main_v0).slice (win0_2.rect t)).emb y 0).val = t.val + (y 0).val := by
      show cc0_transform_3 (grid0.coords t) 0 * 1 + 1 * (y 0).val = _; rw [a0]; omega
    have e1 : (((View.whole main_v0).slice (win0_2.rect t)).emb y 1).val = (y 1).val := by
      show cc0_transform_3 (grid0.coords t) 1 * 4096 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x4096x256.Idx) 0).val = (y 0).val := rfl
    have z1 : (((win0 2).xinj (grid0.coords t) y : S1x4096x256.Idx) 1).val = (y 1).val := rfl
    have z2 : (((win0 2).xinj (grid0.coords t) y : S1x4096x256.Idx) 2).val = (y 2).val := rfl
    generalize ((View.whole main_v0).slice (win0_2.rect t)).emb y = i at *
    generalize ((win0 2).xinj (grid0.coords t) y : S1x4096x256.Idx) = z at *
    canon_tiles x h
    case piece0 =>
      refine Eq.trans ?_ (ref_at _ _ _ (⟨t.val, ht⟩ : Fin 4) (⟨3, by decide⟩ : Fin 4) (x 1 : Fin 1024) (x 2 : Fin 256) i (by show _ = t.val; omega) (by show _ = 1024 * 3 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay5 k0_pay1
      pointwise
      exact Finset.sum_congr rfl fun x _ => congr (congrArg _ (blk0 m c t _ _ _ rfl rfl)) (blk1 m c t _ _ _ rfl (by first | exact Nat.add_assoc _ _ _ | rfl))
    case piece1 =>
      refine Eq.trans ?_ (ref_at _ _ _ (⟨t.val, ht⟩ : Fin 4) (⟨2, by decide⟩ : Fin 4) (x 1 : Fin 1024) (x 2 : Fin 256) i (by show _ = t.val; omega) (by show _ = 1024 * 2 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay4 k0_pay1
      pointwise
      exact Finset.sum_congr rfl fun x _ => congr (congrArg _ (blk0 m c t _ _ _ rfl rfl)) (blk1 m c t _ _ _ rfl (by first | exact Nat.add_assoc _ _ _ | rfl))
    case piece2 =>
      refine Eq.trans ?_ (ref_at _ _ _ (⟨t.val, ht⟩ : Fin 4) (⟨1, by decide⟩ : Fin 4) (x 1 : Fin 1024) (x 2 : Fin 256) i (by show _ = t.val; omega) (by show _ = 1024 * 1 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay3 k0_pay1
      pointwise
      exact Finset.sum_congr rfl fun x _ => congr (congrArg _ (blk0 m c t _ _ _ rfl rfl)) (blk1 m c t _ _ _ rfl (by first | exact Nat.add_assoc _ _ _ | rfl))
    case piece3 =>
      refine Eq.trans ?_ (ref_at _ _ _ (⟨t.val, ht⟩ : Fin 4) (⟨0, by decide⟩ : Fin 4) (x 1 : Fin 1024) (x 2 : Fin 256) i (by show _ = t.val; omega) (by show _ = 1024 * 0 + (x 1).val; omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay2 k0_pay1
      pointwise
      exact Finset.sum_congr rfl fun x _ => congr (congrArg _ (blk0 m c t _ _ _ rfl rfl)) (blk1 m c t _ _ _ rfl (by first | exact Nat.add_assoc _ _ _ | rfl))
  rw [h]
  funext i
  show (if (i 1 : ℕ) / 4096 = 0 then _ else _) = _
  split_ifs with hi
  · rfl
  · rw [kept]
    exact (ref_rest _ _ _ i (by omega)).symm

end Cert.DwUpCIdeal.Eq

end
-- ==== Proof.DwDownCEq.lean ====
module
public import proofs.«01_k».proof.Proof.Gen.DwDownCIdeal.Value
public import proofs.«01_k».proof.Proof.Gen.DwDownCRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwDownCIdeal.Eq

open Idealize.ShloMosaic Idealize.ShloMosaic.TcCoe Cert.DwDownCIdeal.Gen Finset
open Cert.DwDownCIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = t.val := by decide +kernel
theorem at1 : ∀ t : Fin grid0.N, cc0_transform_2 (grid0.coords t) 0 = 0 ∧ cc0_transform_2 (grid0.coords t) 1 = 0 := by decide +kernel
theorem at2 : ∀ t : Fin grid0.N, cc0_transform_3 (grid0.coords t) 0 = t.val ∧ cc0_transform_3 (grid0.coords t) 1 = 1 ∧ cc0_transform_3 (grid0.coords t) 2 = 0 := by decide +kernel

theorem blk0 (t : Fin cfg0.N) (r : Fin 2048) (k : Fin 1024) (i : S2048x4096.Idx) (h0 : (i 0).val = r.val) (h1 : (i 1).val = 1024 * t.val + k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 1024 + 1 * k.val = (i 1).val; rw [a1, h1]; omega

theorem blk1 (t : Fin cfg0.N) (r : Fin 2048) (k : Fin 1024) (i : S2048x1024.Idx) (h0 : (i 0).val = r.val) (h1 : (i 1).val = k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 1024 + 1 * k.val = (i 1).val; rw [a1, h1]; omega

theorem kept : V m c main_v0 = m ((c : Thread nD τ).loc main_arg2) := by
  unfold V
  simp only [hostOps0]
  after_reads_simp
  rfl

open Cert.DwDownCRefIdeal.Read in
/-- The reference's gradient at an index of its rows of slab `a`, part `b`. -/
theorem ref_at (x0 : (⟨S2048x4096, .bf16⟩ : BufTy).Contents (Elt Ideal)) (x1 : (⟨S2048x1024, .bf16⟩ : BufTy).Contents (Elt Ideal)) (x2 : (⟨S4x14592x256, .bf16⟩ : BufTy).Contents (Elt Ideal))
    (a b : Fin 4) (r : Fin 1024) (k : Fin 256) (i : S4x14592x256.Idx) (h0 : (i 0).val = a.val) (h1 : (i 1).val = 4096 + (1024 * b.val + r.val)) (h2 : (i 2).val = k.val) :
    val_main_v12 (F := Ideal) x0 x1 x2 i
      = ∑ x : Fin 2048, (x0 (ix2 x (⟨1024 * a.val + r.val, by omega⟩ : Fin 4096)) : EReal) * (x1 (ix2 x (⟨256 * b.val + k.val, by omega⟩ : Fin 1024)) : EReal) := by
  unfold val_main_v12
  refine (concatenate_apply_piece (t := S4x14592x256) (1 : Fin 3) _ _ _ 1 (by exact Nat.lt_of_sub_eq_succ rfl) Cert.DwDownCRefIdeal.S4x4096x256 _ (by rfl) rfl 4096 (by rfl) (ix3 a (⟨1024 * b.val + r.val, by omega⟩ : Fin 4096) k) (fun d hd => ?_) ?_).trans ?_
  · match d with
    | ⟨0, _⟩ => exact h0.symm
    | ⟨1, _⟩ => exact absurd rfl hd
    | ⟨2, _⟩ => exact h2.symm
  · exact h1.symm
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  unfold val_main_v6 val_main_v5 val_main_v4 val_main_v3 val_main_v1
  pointwise
  exact Finset.sum_congr rfl fun x _ => mul_comm _ _

open Cert.DwDownCRefIdeal.Read in
/-- The rows above and below the gradient are those of the third argument. -/
theorem ref_rest (x0 : (⟨S2048x4096, .bf16⟩ : BufTy).Contents (Elt Ideal)) (x1 : (⟨S2048x1024, .bf16⟩ : BufTy).Contents (Elt Ideal)) (x2 : (⟨S4x14592x256, .bf16⟩ : BufTy).Contents (Elt Ideal))
    (i : S4x14592x256.Idx) (h : (i 1).val < 4096 ∨ 8192 ≤ (i 1).val) : val_main_v12 (F := Ideal) x0 x1 x2 i = x2 i := by
  have hi : (i 1).val < 14592 := (i 1).isLt
  unfold val_main_v12
  rcases h with h | h
  · refine (concatenate_apply_piece (t := S4x14592x256) (1 : Fin 3) _ _ _ 0 (by exact Nat.lt_of_sub_eq_succ rfl) Cert.DwDownCRefIdeal.S4x4096x256 _ (by rfl) rfl 0 (by rfl) (ix3 (i 0 : Fin 4) (⟨(i 1).val, h⟩ : Fin 4096) (i 2 : Fin 256)) (fun d hd => ?_) ?_).trans ?_
    · match d with
      | ⟨0, _⟩ => rfl
      | ⟨1, _⟩ => exact absurd rfl hd
      | ⟨2, _⟩ => rfl
    · exact Nat.zero_add _
    · unfold val_main_v7
      refine congrArg x2 (funext fun d => Fin.ext ?_)
      match d with
      | ⟨0, _⟩ => show 0 + (i 0).val = (i 0).val; omega
      | ⟨1, _⟩ => show 0 + (i 1).val = (i 1).val; omega
      | ⟨2, _⟩ => show 0 + (i 2).val = (i 2).val; omega
  · refine (concatenate_apply_piece (t := S4x14592x256) (1 : Fin 3) _ _ _ 2 (by exact Nat.lt_of_sub_eq_succ rfl) Cert.DwDownCRefIdeal.S4x6400x256 _ (by rfl) rfl 8192 (by rfl) (ix3 (i 0 : Fin 4) (⟨(i 1).val - 8192, by omega⟩ : Fin 6400) (i 2 : Fin 256)) (fun d hd => ?_) ?_).trans ?_
    · match d with
      | ⟨0, _⟩ => rfl
      | ⟨1, _⟩ => exact absurd rfl hd
      | ⟨2, _⟩ => rfl
    · show 8192 + ((i 1).val - 8192) = (i 1).val; omega
    · unfold val_main_v11
      refine congrArg x2 (funext fun d => Fin.ext ?_)
      match d with
      | ⟨0, _⟩ => show 0 + (i 0).val = (i 0).val; omega
      | ⟨1, _⟩ => show 8192 + ((i 1).val - 8192) = (i 1).val; omega
      | ⟨2, _⟩ => show 0 + (i 2).val = (i 2).val; omega

theorem final : (dats m 0 c).arrAt 2 cfg0.N = Cert.DwDownCRefIdeal.Read.val_main_v12 (F := Ideal) (m ((c : Thread nD τ).loc main_arg0)) (m ((c : Thread nD τ).loc main_arg1)) (m ((c : Thread nD τ).loc main_arg2)) := by
  have h : (dats m 0 c).arrAt 2 cfg0.N = fun i : S4x14592x256.Idx => if (i 1 : ℕ) / 4096 = 1 then Cert.DwDownCRefIdeal.Read.val_main_v12 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => β (1 : Fin _) = 1) (by decide +kernel) (fun t hf y => ?_) (fun j => Iff.rfl)
    blk_simp
    rw [after0_2]
    unfold outsAt0
    frame_out
    have ht : t.val < 4 := t.isLt
    have ⟨a0, a1, a2⟩ := at2 t
    have e0 : (((View.whole main_v0).slice (win0_2.rect t)).emb y 0).val = t.val + (y 0).val := by
      show cc0_transform_3 (grid0.coords t) 0 * 1 + 1 * (y 0).val = _; rw [a0]; omega
    have e1 : (((View.whole main_v0).slice (win0_2.rect t)).emb y 1).val = 4096 + (y 1).val := by
      show cc0_transform_3 (grid0.coords t) 1 * 4096 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x4096x256.Idx) 0).val = (y 0).val := rfl
    have z1 : (((win0 2).xinj (grid0.coords t) y : S1x4096x256.Idx) 1).val = (y 1).val := rfl
    have z2 : (((win0 2).xinj (grid0.coords t) y : S1x4096x256.Idx) 2).val = (y 2).val := rfl
    generalize ((View.whole main_v0).slice (win0_2.rect t)).emb y = i at *
    generalize ((win0 2).xinj (grid0.coords t) y : S1x4096x256.Idx) = z at *
    canon_tiles x h
    case piece0 =>
      refine Eq.trans ?_ (ref_at _ _ _ (⟨t.val, ht⟩ : Fin 4) (⟨3, by decide⟩ : Fin 4) (x 1 : Fin 1024) (x 2 : Fin 256) i (by show _ = t.val; omega) (by show _ = 4096 + (1024 * 3 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay5 k0_pay1
      pointwise
      exact Finset.sum_congr rfl fun x _ => congr (congrArg _ (blk0 m c t _ _ _ rfl rfl)) (blk1 m c t _ _ _ rfl (by first | rfl | exact Nat.zero_add _))
    case piece1 =>
      refine Eq.trans ?_ (ref_at _ _ _ (⟨t.val, ht⟩ : Fin 4) (⟨2, by decide⟩ : Fin 4) (x 1 : Fin 1024) (x 2 : Fin 256) i (by show _ = t.val; omega) (by show _ = 4096 + (1024 * 2 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay4 k0_pay1
      pointwise
      exact Finset.sum_congr rfl fun x _ => congr (congrArg _ (blk0 m c t _ _ _ rfl rfl)) (blk1 m c t _ _ _ rfl (by first | rfl | exact Nat.zero_add _))
    case piece2 =>
      refine Eq.trans ?_ (ref_at _ _ _ (⟨t.val, ht⟩ : Fin 4) (⟨1, by decide⟩ : Fin 4) (x 1 : Fin 1024) (x 2 : Fin 256) i (by show _ = t.val; omega) (by show _ = 4096 + (1024 * 1 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay3 k0_pay1
      pointwise
      exact Finset.sum_congr rfl fun x _ => congr (congrArg _ (blk0 m c t _ _ _ rfl rfl)) (blk1 m c t _ _ _ rfl (by first | rfl | exact Nat.zero_add _))
    case piece3 =>
      refine Eq.trans ?_ (ref_at _ _ _ (⟨t.val, ht⟩ : Fin 4) (⟨0, by decide⟩ : Fin 4) (x 1 : Fin 1024) (x 2 : Fin 256) i (by show _ = t.val; omega) (by show _ = 4096 + (1024 * 0 + (x 1).val); omega) (by omega)).symm
      obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
      unfold k0_pay2 k0_pay1
      pointwise
      exact Finset.sum_congr rfl fun x _ => congr (congrArg _ (blk0 m c t _ _ _ rfl rfl)) (blk1 m c t _ _ _ rfl (by first | rfl | exact Nat.zero_add _))
  rw [h]
  funext i
  show (if (i 1 : ℕ) / 4096 = 1 then _ else _) = _
  split_ifs with hi
  · rfl
  · rw [kept]
    exact (ref_rest _ _ _ i (by omega)).symm

end Cert.DwDownCIdeal.Eq

end
-- ==== Proof.DxUpCEq.lean ====
module
public import proofs.«01_k».proof.Proof.Gen.DxUpCIdeal.Value
public import proofs.«01_k».proof.Proof.Gen.DxUpCRefIdeal.Read
public import proofs.«01_k».proof.Proof.NormGrad
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxUpCIdeal.Eq

open Idealize.ShloMosaic Idealize.ShloMosaic.TcCoe Cert.DxUpCIdeal.Gen Finset
open Cert.DxUpCIdeal.Value

variable (m : (ℓ : Loc nD τ sig) → Buf (Elt Ideal) ℓ) (c : Dev nD)

theorem at0 : ∀ t : Fin grid0.N, cc0_transform_0 (grid0.coords t) 0 = t.val / 4 ∧ cc0_transform_0 (grid0.coords t) 1 = t.val % 4 := by decide +kernel
theorem at10 : ∀ t : Fin grid0.N, cc0_transform_10 (grid0.coords t) 0 = 0 ∧ cc0_transform_10 (grid0.coords t) 1 = 0 := by decide +kernel
theorem at1 : ∀ t : Fin grid0.N, cc0_transform_1 (grid0.coords t) 0 = 0 ∧ cc0_transform_1 (grid0.coords t) 1 = 0 := by decide +kernel
theorem at2 : ∀ t : Fin grid0.N, cc0_transform_2 (grid0.coords t) 0 = t.val % 4 ∧ cc0_transform_2 (grid0.coords t) 1 = 0 ∧ cc0_transform_2 (grid0.coords t) 2 = 0 := by decide +kernel
theorem at3 : ∀ t : Fin grid0.N, cc0_transform_3 (grid0.coords t) 0 = t.val % 4 ∧ cc0_transform_3 (grid0.coords t) 1 = 1 ∧ cc0_transform_3 (grid0.coords t) 2 = 0 := by decide +kernel
theorem at4 : ∀ t : Fin grid0.N, cc0_transform_4 (grid0.coords t) 0 = t.val % 4 ∧ cc0_transform_4 (grid0.coords t) 1 = 2 ∧ cc0_transform_4 (grid0.coords t) 2 = 0 := by decide +kernel
theorem at5 : ∀ t : Fin grid0.N, cc0_transform_5 (grid0.coords t) 0 = t.val % 4 ∧ cc0_transform_5 (grid0.coords t) 1 = 3 ∧ cc0_transform_5 (grid0.coords t) 2 = 0 := by decide +kernel
theorem at6 : ∀ t : Fin grid0.N, cc0_transform_6 (grid0.coords t) 0 = t.val / 4 ∧ cc0_transform_6 (grid0.coords t) 1 = 0 := by decide +kernel
theorem at7 : ∀ t : Fin grid0.N, cc0_transform_7 (grid0.coords t) 0 = t.val / 4 ∧ cc0_transform_7 (grid0.coords t) 1 = 0 := by decide +kernel
theorem at8 : ∀ t : Fin grid0.N, cc0_transform_8 (grid0.coords t) 0 = t.val / 4 ∧ cc0_transform_8 (grid0.coords t) 1 = 0 := by decide +kernel
theorem at9 : ∀ t : Fin grid0.N, cc0_transform_9 (grid0.coords t) 0 = t.val / 4 ∧ cc0_transform_9 (grid0.coords t) 1 = 0 := by decide +kernel

theorem packed : V m c main_v5 = concatenate S4x14592x256 1 [⟨S4x4096x256, shapeCast S4x4096x256 (transpose S4x4x1024x256 [1, 2, 0, 3] (shapeCast S1024x4x4x256 (truncf (F := Ideal) .bf16 (m ((c : Thread nD τ).loc main_arg4)) bitsLt_bf16_f32) shapeCasts_S1024x4096_S1024x4x4x256) transposes_S1024x4x4x256_S4x4x1024x256_1_2_0_3) shapeCasts_S4x4x1024x256_S4x4096x256⟩,
      ⟨S4x10496x256, broadcastInDim S4x10496x256 ![] bcast_S_S4x10496x256 (constant (F := Ideal) S_ .bf16 0x0000#16)⟩] concatenates_S4x4096x256_S4x10496x256_S4x14592x256_d1 := by
  unfold V
  simp only [hostOps0]
  after_reads_simp
  rfl

theorem row : V m c main_v6 = broadcastInDim S1x1024 ![1] bcast_S1024_S1x1024_1 (m ((c : Thread nD τ).loc main_arg2)) := by
  unfold V
  simp only [hostOps0]
  after_reads_simp

/-- Where the packed buffer holds the weight: slab `a`, rows of its part `b`, is part `b` of the columns of chip `a`. -/
theorem entry (a b : Fin 4) (r : Fin 1024) (k : Fin 256) :
    V m c main_v5 (ix3 a (⟨1024 * b.val + r.val, by omega⟩ : Fin 14592) k)
      = m ((c : Thread nD τ).loc main_arg4) (ix2 r (⟨1024 * a.val + (256 * b.val + k.val), by omega⟩ : Fin 4096)) := by
  rw [packed]
  refine (concatenate_apply_piece (t := S4x14592x256) (1 : Fin 3) _ _ _ 0 (by exact Nat.lt_of_sub_eq_succ rfl) S4x4096x256 _ (by rfl) rfl 0 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · exact Nat.zero_add _
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 r a b k) fun d => ?_).trans ?_
  · match d with
    | ⟨0, _⟩ => rfl
    | ⟨1, _⟩ => rfl
    | ⟨2, _⟩ => rfl
    | ⟨3, _⟩ => rfl
  refine (shapeCast_apply _ _ _ (ix2 r (⟨1024 * a.val + (256 * b.val + k.val), by omega⟩ : Fin 4096)) ?_).trans ?_
  · rw [Shape.rowMajor_val_four, Shape.rowMajor_val_two]
    show r.val * 4096 + (1024 * a.val + (256 * b.val + k.val)) = ((r.val * 4 + a.val) * 4 + b.val) * 256 + k.val
    omega
  rfl

theorem blk0 (t : Fin cfg0.N) (i' : S1024x1024.Idx) (i : S2048x4096.Idx) (h0 : (i 0).val = 1024 * (t.val / 4) + (i' 0).val) (h1 : (i 1).val = 1024 * (t.val % 4) + (i' 1).val) :
    iblk m c 0 t i' = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * (i' 0).val = (i 0).val; rw [a0, h0]; omega
  | ⟨1, _⟩ => show cc0_transform_0 (grid0.coords t) 1 * 1024 + 1 * (i' 1).val = (i 1).val; rw [a1, h1]; omega

theorem blk1 (t : Fin cfg0.N) (k : Fin 1024) :
    iblk m c 1 t (ix2 (0 : Fin 1) k) = m ((c : Thread nD τ).loc main_arg2) (ix1 k) := by
  have e : V m c main_v6 (ix2 (0 : Fin 1) k) = m ((c : Thread nD τ).loc main_arg2) (ix1 k) := by
    rw [row]; pointwise
  rw [← e]
  unfold iblk
  have ⟨a0, a1⟩ := at1 t
  refine congrArg (V m c main_v6) (funext fun a => Fin.ext ?_)
  match a with
  | ⟨0, _⟩ => show cc0_transform_1 (grid0.coords t) 0 * 1 + 1 * 0 = 0; rw [a0]
  | ⟨1, _⟩ => show cc0_transform_1 (grid0.coords t) 1 * 1024 + 1 * k.val = k.val; rw [a1]; omega

theorem blk6 (t : Fin cfg0.N) (r k : Fin 1024) (i : S2048x1024.Idx) (h0 : (i 0).val = 1024 * (t.val / 4) + r.val) (h1 : (i 1).val = k.val) :
    iblk m c 6 t (ix2 r k) = m ((c : Thread nD τ).loc main_arg1) i := by
  rw [← V_main_arg1 m c]
  unfold iblk
  have ⟨a0, a1⟩ := at6 t
  refine congrArg (V m c main_arg1) (funext fun a => Fin.ext ?_)
  match a with
  | ⟨0, _⟩ => show cc0_transform_6 (grid0.coords t) 0 * 1024 + 1 * r.val = (i 0).val; rw [a0, h0]; omega
  | ⟨1, _⟩ => show cc0_transform_6 (grid0.coords t) 1 * 1024 + 1 * k.val = (i 1).val; rw [a1, h1]; omega

theorem blk7 (t : Fin cfg0.N) (r k : Fin 1024) (i : S2048x1024.Idx) (h0 : (i 0).val = 1024 * (t.val / 4) + r.val) (h1 : (i 1).val = k.val) :
    iblk m c 7 t (ix2 r k) = m ((c : Thread nD τ).loc main_arg3) i := by
  rw [← V_main_arg3 m c]
  unfold iblk
  have ⟨a0, a1⟩ := at7 t
  refine congrArg (V m c main_arg3) (funext fun a => Fin.ext ?_)
  match a with
  | ⟨0, _⟩ => show cc0_transform_7 (grid0.coords t) 0 * 1024 + 1 * r.val = (i 0).val; rw [a0, h0]; omega
  | ⟨1, _⟩ => show cc0_transform_7 (grid0.coords t) 1 * 1024 + 1 * k.val = (i 1).val; rw [a1, h1]; omega

theorem blk2 (t : Fin cfg0.N) (r : Fin 1024) (k : Fin 256) (i : S1024x4096.Idx) (h0 : (i 0).val = r.val) (h1 : (i 1).val = 1024 * (t.val % 4) + (0 + k.val)) :
    X0_2 m c t (ix3 (0 : Fin 1) r k) = m ((c : Thread nD τ).loc main_arg4) i := by
  have hi : i = ix2 r (⟨1024 * (t.val % 4) + (256 * 0 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold X0_2 Pipeline.Window.fill
  rw [dif_pos (moved0_2 t _)]
  unfold iblk
  have ⟨a0, a1, a2⟩ := at2 t
  refine congrArg (V m c main_v5) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 1024 + 1 * r.val = 1024 * 0 + r.val; rw [a1]; omega
  | ⟨2, _⟩ => show cc0_transform_2 (grid0.coords t) 2 * 256 + 1 * k.val = k.val; rw [a2]; omega

theorem blk3 (t : Fin cfg0.N) (r : Fin 1024) (k : Fin 256) (i : S1024x4096.Idx) (h0 : (i 0).val = r.val) (h1 : (i 1).val = 1024 * (t.val % 4) + (256 + k.val)) :
    X0_3 m c t (ix3 (0 : Fin 1) r k) = m ((c : Thread nD τ).loc main_arg4) i := by
  have hi : i = ix2 r (⟨1024 * (t.val % 4) + (256 * 1 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold X0_3 Pipeline.Window.fill
  rw [dif_pos (moved0_3 t _)]
  unfold iblk
  have ⟨a0, a1, a2⟩ := at3 t
  refine congrArg (V m c main_v5) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 1024 + 1 * r.val = 1024 * 1 + r.val; rw [a1]; omega
  | ⟨2, _⟩ => show cc0_transform_3 (grid0.coords t) 2 * 256 + 1 * k.val = k.val; rw [a2]; omega

theorem blk4 (t : Fin cfg0.N) (r : Fin 1024) (k : Fin 256) (i : S1024x4096.Idx) (h0 : (i 0).val = r.val) (h1 : (i 1).val = 1024 * (t.val % 4) + (512 + k.val)) :
    X0_4 m c t (ix3 (0 : Fin 1) r k) = m ((c : Thread nD τ).loc main_arg4) i := by
  have hi : i = ix2 r (⟨1024 * (t.val % 4) + (256 * 2 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold X0_4 Pipeline.Window.fill
  rw [dif_pos (moved0_4 t _)]
  unfold iblk
  have ⟨a0, a1, a2⟩ := at4 t
  refine congrArg (V m c main_v5) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 1024 + 1 * r.val = 1024 * 2 + r.val; rw [a1]; omega
  | ⟨2, _⟩ => show cc0_transform_4 (grid0.coords t) 2 * 256 + 1 * k.val = k.val; rw [a2]; omega

theorem blk5 (t : Fin cfg0.N) (r : Fin 1024) (k : Fin 256) (i : S1024x4096.Idx) (h0 : (i 0).val = r.val) (h1 : (i 1).val = 1024 * (t.val % 4) + (768 + k.val)) :
    X0_5 m c t (ix3 (0 : Fin 1) r k) = m ((c : Thread nD τ).loc main_arg4) i := by
  have hi : i = ix2 r (⟨1024 * (t.val % 4) + (256 * 3 + k.val), by omega⟩ : Fin 4096) := by
    funext a; match a with | ⟨0, _⟩ => exact Fin.ext h0 | ⟨1, _⟩ => exact Fin.ext h1
  rw [hi]
  refine Eq.trans ?_ (entry m c ⟨t.val % 4, by omega⟩ ⟨3, by omega⟩ r k)
  unfold X0_5 Pipeline.Window.fill
  rw [dif_pos (moved0_5 t _)]
  unfold iblk
  have ⟨a0, a1, a2⟩ := at5 t
  refine congrArg (V m c main_v5) (funext fun a => Fin.ext ?_)
  match a with
  | ⟨0, _⟩ => show cc0_transform_5 (grid0.coords t) 0 * 1 + 1 * 0 = t.val % 4; rw [a0]; omega
  | ⟨1, _⟩ => show cc0_transform_5 (grid0.coords t) 1 * 1024 + 1 * r.val = 1024 * 3 + r.val; rw [a1]; omega
  | ⟨2, _⟩ => show cc0_transform_5 (grid0.coords t) 2 * 256 + 1 * k.val = k.val; rw [a2]; omega

/-- A sum over 1024 is four sums over 256. -/
theorem sum_parts (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- A sum over 4096 is four sums over 1024. -/
theorem sum_slabs (f : Fin 4096 → EReal) :
    ∑ x, f x = ∑ x : Fin 1024, f ⟨x.val, by omega⟩ + ∑ x : Fin 1024, f ⟨1024 + x.val, by omega⟩ + ∑ x : Fin 1024, f ⟨2048 + x.val, by omega⟩ + ∑ x : Fin 1024, f ⟨3072 + x.val, by omega⟩ := by
  rw [Fin.sum_univ_add (a := 3072) (b := 1024) f, Fin.sum_univ_add (a := 2048) (b := 1024) fun x : Fin 3072 => f (Fin.castAdd 1024 x),
    Fin.sum_univ_add (a := 1024) (b := 1024) fun x : Fin 2048 => f (Fin.castAdd 1024 (Fin.castAdd 1024 x))]
  rfl

/-- A sum over 2048 is two sums over 1024. -/
theorem sum_tiles (f : Fin 2048 → EReal) :
    ∑ x, f x = ∑ x : Fin 1024, f ⟨x.val, by omega⟩ + ∑ x : Fin 1024, f ⟨1024 + x.val, by omega⟩ := by
  rw [Fin.sum_univ_add (a := 1024) (b := 1024) f]
  rfl

/-- What the columns of chip `j` add to the gradient by the normalised input, at row `r` of tile `b`. -/
def part (x0 : (⟨S2048x4096, .bf16⟩ : BufTy).Contents (Elt Ideal)) (x4 : (⟨S1024x4096, .f32⟩ : BufTy).Contents (Elt Ideal)) (b : Fin 2) (j : Fin 4) (r k : Fin 1024) : EReal :=
  ∑ x : Fin 1024, (x0 (ix2 (⟨1024 * b.val + r.val, by omega⟩ : Fin 2048) (⟨1024 * j.val + x.val, by omega⟩ : Fin 4096)) : EReal)
    * (x4 (ix2 k (⟨1024 * j.val + x.val, by omega⟩ : Fin 4096)) : EReal)

theorem part_at (t : Fin cfg0.N) (r k : Fin 1024) :
    (∑ x : Fin 256, HMul.hMul (α := EReal) (β := EReal) (γ := EReal) (iblk m c 0 t (ix2 r (⟨x.val, by omega⟩ : Fin 1024))) (X0_2 m c t (ix3 (0 : Fin 1) k x))
        + ∑ x : Fin 256, HMul.hMul (α := EReal) (β := EReal) (γ := EReal) (iblk m c 0 t (ix2 r (⟨256 + x.val, by omega⟩ : Fin 1024))) (X0_3 m c t (ix3 (0 : Fin 1) k x))
        + ∑ x : Fin 256, HMul.hMul (α := EReal) (β := EReal) (γ := EReal) (iblk m c 0 t (ix2 r (⟨512 + x.val, by omega⟩ : Fin 1024))) (X0_4 m c t (ix3 (0 : Fin 1) k x))
        + ∑ x : Fin 256, HMul.hMul (α := EReal) (β := EReal) (γ := EReal) (iblk m c 0 t (ix2 r (⟨768 + x.val, by omega⟩ : Fin 1024))) (X0_5 m c t (ix3 (0 : Fin 1) k x)))
      = part (m ((c : Thread nD τ).loc main_arg0)) (m ((c : Thread nD τ).loc main_arg4)) ⟨t.val / 4, by have : t.val < 8 := t.isLt; omega⟩ ⟨t.val % 4, by omega⟩ r k := by
  have ht : t.val < 8 := t.isLt
  unfold part
  rw [sum_parts]
  refine congr (congrArg _ (congr (congrArg _ (congr (congrArg _ ?_) ?_)) ?_)) ?_ <;> refine Finset.sum_congr rfl fun x _ => congr (congrArg _ (blk0 m c t _ _ rfl rfl)) ?_
  · exact blk2 m c t _ _ _ rfl (by show 1024 * (t.val % 4) + x.val = 1024 * (t.val % 4) + (0 + x.val); omega)
  · exact blk3 m c t _ _ _ rfl rfl
  · exact blk4 m c t _ _ _ rfl rfl
  · exact blk5 m c t _ _ _ rfl rfl

theorem sc_A (t : Fin cfg0.N) (h : t.val % 4 = 0) (r k : Fin 1024) :
    (outsAt0 m c t.val t.isLt).2.2.2 (ix2 r k) = part (m ((c : Thread nD τ).loc main_arg0)) (m ((c : Thread nD τ).loc main_arg4)) ⟨t.val / 4, by have : t.val < 8 := t.isLt; omega⟩ ⟨t.val % 4, by omega⟩ r k := by
  rw [outsAt0_A m c t h (by omega) (by omega)]
  dsimp only
  frame_out
  unfold k0_pay8 k0_pay7
  pointwise
  exact part_at m c t r k

theorem pay9_at (t : Fin cfg0.N) (s : Vec Ideal S1024x1024 .f32) (r k : Fin 1024) :
    k0_pay9 (View.ld (iblk m c 0 t) (Rect.unit ![0, 0] ![1024, 256] inb_S1024x1024_S1024x256_0_0)) (X0_2 m c t)
        (View.ld (iblk m c 0 t) (Rect.unit ![0, 256] ![1024, 256] inb_S1024x1024_S1024x256_0_256)) (X0_3 m c t)
        (View.ld (iblk m c 0 t) (Rect.unit ![0, 512] ![1024, 256] inb_S1024x1024_S1024x256_0_512)) (X0_4 m c t)
        (View.ld (iblk m c 0 t) (Rect.unit ![0, 768] ![1024, 256] inb_S1024x1024_S1024x256_0_768)) (X0_5 m c t) s (ix2 r k)
      = (s (ix2 r k) + part (m ((c : Thread nD τ).loc main_arg0)) (m ((c : Thread nD τ).loc main_arg4)) ⟨t.val / 4, by have : t.val < 8 := t.isLt; omega⟩ ⟨t.val % 4, by omega⟩ r k : EReal) := by
  unfold k0_pay9 k0_pay7
  pointwise
  exact congrArg (fun z : EReal => (s (ix2 r k) : EReal) + z) (part_at m c t r k)

theorem sc_B (t : Fin cfg0.N) (h0 : ¬ t.val % 4 = 0) (h3 : ¬ t.val % 4 = 3) (r k : Fin 1024) :
    (outsAt0 m c t.val t.isLt).2.2.2 (ix2 r k) = ((outsAt0 m c (t.val - 1) (Nat.lt_of_le_of_lt (Nat.sub_le _ _) t.isLt)).2.2.2 (ix2 r k)
      + part (m ((c : Thread nD τ).loc main_arg0)) (m ((c : Thread nD τ).loc main_arg4)) ⟨t.val / 4, by have : t.val < 8 := t.isLt; omega⟩ ⟨t.val % 4, by omega⟩ r k : EReal) := by
  rw [outsAt0_B m c t h0 (by omega) h3]
  dsimp only
  frame_out
  rw [(Memref.isWhole_whole _).read_unread]
  exact pay9_at m c t _ r k

/-- The gradient by the normalised input, from the four chips. -/
def dh (x0 : (⟨S2048x4096, .bf16⟩ : BufTy).Contents (Elt Ideal)) (x4 : (⟨S1024x4096, .f32⟩ : BufTy).Contents (Elt Ideal)) (r : Fin 2048) (k : Fin 1024) : EReal :=
  ∑ x : Fin 4096, (x0 (ix2 r x) : EReal) * (x4 (ix2 k x) : EReal)

theorem dh_parts (x0 : (⟨S2048x4096, .bf16⟩ : BufTy).Contents (Elt Ideal)) (x4 : (⟨S1024x4096, .f32⟩ : BufTy).Contents (Elt Ideal)) (b : Fin 2) (r k : Fin 1024) :
    part x0 x4 b 0 r k + part x0 x4 b 1 r k + part x0 x4 b 2 r k + part x0 x4 b 3 r k = dh x0 x4 (⟨1024 * b.val + r.val, by omega⟩ : Fin 2048) k := by
  unfold dh part
  rw [sum_slabs]
  refine congr (congrArg _ (congr (congrArg _ (congr (congrArg _ ?_) ?_)) ?_)) ?_ <;> refine Finset.sum_congr rfl fun x _ => ?_
  · have e : (⟨1024 * (0 : Fin 4).val + x.val, by omega⟩ : Fin 4096) = ⟨x.val, by omega⟩ := Fin.ext (Nat.zero_add _)
    rw [e]
  · rfl
  · rfl
  · rfl

/-- The scratch a last point leaves: the whole gradient of its rows. -/
theorem acc (t : Fin cfg0.N) (h3 : t.val % 4 = 3) (s : Vec Ideal S1024x1024 .f32)
    (hs : s = k0_pay9 (View.ld (iblk m c 0 t) (Rect.unit ![0, 0] ![1024, 256] inb_S1024x1024_S1024x256_0_0)) (X0_2 m c t)
        (View.ld (iblk m c 0 t) (Rect.unit ![0, 256] ![1024, 256] inb_S1024x1024_S1024x256_0_256)) (X0_3 m c t)
        (View.ld (iblk m c 0 t) (Rect.unit ![0, 512] ![1024, 256] inb_S1024x1024_S1024x256_0_512)) (X0_4 m c t)
        (View.ld (iblk m c 0 t) (Rect.unit ![0, 768] ![1024, 256] inb_S1024x1024_S1024x256_0_768)) (X0_5 m c t)
        (outsAt0 m c (t.val - 1) (Nat.lt_of_le_of_lt (Nat.sub_le _ _) t.isLt)).2.2.2) (r k : Fin 1024) :
    s (ix2 r k) = dh (m ((c : Thread nD τ).loc main_arg0)) (m ((c : Thread nD τ).loc main_arg4)) (⟨1024 * (t.val / 4) + r.val, by have : t.val < 8 := t.isLt; omega⟩ : Fin 2048) k := by
  have ht : t.val < 8 := t.isLt
  have hN : cfg0.N = 8 := N_0
  rw [hs, pay9_at, ← dh_parts _ _ ⟨t.val / 4, by omega⟩ r k]
  have e2 := sc_B m c ⟨t.val - 1, by omega⟩ (by dsimp only; omega) (by dsimp only; omega) r k
  have e1 := sc_B m c ⟨t.val - 1 - 1, by omega⟩ (by dsimp only; omega) (by dsimp only; omega) r k
  have e0 := sc_A m c ⟨t.val - 1 - 1 - 1, by omega⟩ (by dsimp only; omega) r k
  dsimp only at e0 e1 e2
  rw [e2, e1, e0]
  have g0 : (t.val - 1 - 1 - 1) / 4 = t.val / 4 := by omega
  have g1 : (t.val - 1 - 1) / 4 = t.val / 4 := by omega
  have g2 : (t.val - 1) / 4 = t.val / 4 := by omega
  have j0 : (t.val - 1 - 1 - 1) % 4 = 0 := by omega
  have j1 : (t.val - 1 - 1) % 4 = 1 := by omega
  have j2 : (t.val - 1) % 4 = 2 := by omega
  simp only [g0, g1, g2, j0, j1, j2, h3]
  rfl

theorem out8 (t : Fin cfg0.N) (h3 : t.val % 4 = 3) : ∃ s : Vec Ideal S1024x1024 .f32,
    (∀ r k : Fin 1024, s (ix2 r k) = dh (m ((c : Thread nD τ).loc main_arg0)) (m ((c : Thread nD τ).loc main_arg4)) (⟨1024 * (t.val / 4) + r.val, by have : t.val < 8 := t.isLt; omega⟩ : Fin 2048) k)
    ∧ (outsAt0 m c t.val t.isLt).1 = k0_pay5 (iblk m c 6 t) (iblk m c 1 t) s (iblk m c 7 t)
    ∧ (outsAt0 m c t.val t.isLt).2.1 = k0_pay6 (iblk m c 6 t) (iblk m c 1 t) s (iblk m c 7 t)
    ∧ (t.val < 4 → (outsAt0 m c t.val t.isLt).2.2.1 = k0_pay4 (iblk m c 6 t) s)
    ∧ (4 ≤ t.val → (outsAt0 m c t.val t.isLt).2.2.1 = k0_pay1 (k0_pay4 (iblk m c 6 t) s) (outsAt0 m c (t.val - 1) (Nat.lt_of_le_of_lt (Nat.sub_le _ _) t.isLt)).2.2.1) := by
  refine ⟨_, acc m c t h3 _ rfl, ?_⟩
  by_cases h4 : t.val < 4
  · rw [outsAt0_C m c t (by omega) (by omega) h3 h4 (by omega)]
    dsimp only
    frame_out
    rw [(Memref.isWhole_whole _).read_unread]
    exact ⟨rfl, rfl, fun _ => rfl, fun h => absurd h4 (by omega)⟩
  · rw [outsAt0_D m c t (by omega) (by omega) h3 h4 (by omega)]
    dsimp only
    frame_out
    rw [(Memref.isWhole_whole _).read_unread]
    exact ⟨rfl, rfl, fun h => absurd h h4, fun _ => rfl⟩

/-- Elsewhere the third output stands as the point before left it. -/
theorem out10_A (t : Fin cfg0.N) (h : t.val % 4 = 0) (h' : 4 ≤ t.val) :
    (outsAt0 m c t.val t.isLt).2.2.1 = (outsAt0 m c (t.val - 1) (Nat.lt_of_le_of_lt (Nat.sub_le _ _) t.isLt)).2.2.1 := by
  rw [outsAt0_A m c t h (by omega) (by omega)]
  dsimp only [out0_A_10]

theorem out10_B (t : Fin cfg0.N) (h0 : ¬ t.val % 4 = 0) (h3 : ¬ t.val % 4 = 3) :
    (outsAt0 m c t.val t.isLt).2.2.1 = (outsAt0 m c (t.val - 1) (Nat.lt_of_le_of_lt (Nat.sub_le _ _) t.isLt)).2.2.1 := by
  rw [outsAt0_B m c t h0 (by omega) h3]
  dsimp only [out0_B_10]

abbrev N1024 : EReal := Ideal.ofBits .f32 0x44800000#32
abbrev half : EReal := Ideal.ofBits .f32 0xBF000000#32
abbrev eps : EReal := Ideal.ofBits .f32 0x358637BD#32

open Cert.NormGrad

theorem k5_at (x : Vec Ideal S1024x1024 .f32) (g : Vec Ideal S1x1024 .f32) (s d : Vec Ideal S1024x1024 .f32) (r k : Fin 1024) :
    k0_pay5 x g s d (ix2 r k) = first N1024 eps (fun k => (x (ix2 r k) : EReal)) (fun k : Fin 1024 => HMul.hMul (α := EReal) (β := EReal) (γ := EReal) (s (ix2 r k)) (g (ix2 (0 : Fin 1) k))) (d (ix2 r k)) k := by
  unfold k0_pay5 k0_pay3 k0_pay2
  pointwise
  rfl

theorem k6_eq (x : Vec Ideal S1024x1024 .f32) (g : Vec Ideal S1x1024 .f32) (s d : Vec Ideal S1024x1024 .f32) : k0_pay6 x g s d = k0_pay5 x g s d := rfl

theorem k4_at (x s : Vec Ideal S1024x1024 .f32) (k : Fin 1024) :
    k0_pay4 x s (ix2 (0 : Fin 1) k) = ∑ r : Fin 1024, HMul.hMul (α := EReal) (β := EReal) (γ := EReal) (s (ix2 r k))
      (HMul.hMul (α := EReal) (β := EReal) (γ := EReal) (x (ix2 r k)) (Ideal.rsqrt (meanSq N1024 eps fun k : Fin 1024 => (x (ix2 r k) : EReal)))) := by
  unfold k0_pay4 k0_pay3 k0_pay2
  pointwise
  rfl

theorem k1_at (a b : Vec Ideal S1x1024 .f32) (k : Fin 1024) :
    k0_pay1 a b (ix2 (0 : Fin 1) k) = HAdd.hAdd (α := EReal) (β := EReal) (γ := EReal) (b (ix2 (0 : Fin 1) k)) (a (ix2 (0 : Fin 1) k)) := by
  unfold k0_pay1
  pointwise

section Reference

open Cert.DxUpCRefIdeal.Read

variable (x0 : (⟨S2048x4096, .bf16⟩ : BufTy).Contents (Elt Ideal)) (x1 : (⟨S2048x1024, .f32⟩ : BufTy).Contents (Elt Ideal)) (x2 : (⟨S1024, .f32⟩ : BufTy).Contents (Elt Ideal))
  (x3 : (⟨S2048x1024, .f32⟩ : BufTy).Contents (Elt Ideal)) (x4 : (⟨S1024x4096, .f32⟩ : BufTy).Contents (Elt Ideal))

theorem ref6 (r : Fin 2048) : val_main_v6 (F := Ideal) x1 (ix2 r (0 : Fin 1)) = meanSq N1024 eps fun k : Fin 1024 => (x1 (ix2 r k) : EReal) := by
  unfold val_main_v6 val_main_v5 val_main_cst_1 val_main_v4 val_main_v3 val_main_cst_0 val_main_v2 val_main_v1 val_main_cst val_main_v0
  pointwise
  rfl

theorem ref7 (r : Fin 2048) : val_main_v7 (F := Ideal) x1 (ix2 r (0 : Fin 1)) = Ideal.rsqrt (meanSq N1024 eps fun k : Fin 1024 => (x1 (ix2 r k) : EReal)) := by
  unfold val_main_v7
  pointwise
  rw [ref6]

theorem ref18 (r : Fin 2048) (n : Fin 1024) : val_main_v18 (F := Ideal) x0 x4 (ix2 r n) = dh x0 x4 r n := by
  unfold val_main_v18 val_main_v17
  pointwise
  rfl

theorem ref23 (r : Fin 2048) (n : Fin 1024) : val_main_v23 (F := Ideal) x0 x2 x4 (ix2 r n) = dh x0 x4 r n * (x2 (ix1 n) : EReal) := by
  unfold val_main_v23 val_main_v22 val_main_v13
  pointwise
  rw [ref18]

theorem ref34 (r : Fin 2048) : val_main_v34 (F := Ideal) x0 x1 x2 x4 (ix1 r)
    = slope N1024 half eps (fun k : Fin 1024 => (x1 (ix2 r k) : EReal)) (fun k : Fin 1024 => dh x0 x4 r k * (x2 (ix1 k) : EReal)) := by
  unfold val_main_v34 val_main_cst_7 val_main_v33 val_main_v32 val_main_cst_6 val_main_v31 val_main_v27 val_main_v26 val_main_cst_5 val_main_v25 val_main_v10 val_main_v9 val_main_cst_2 val_main_v8
  pointwise
  simp only [ref23]
  refine (Fin.sum_univ_one _).trans ?_
  rw [ref7, ref6]
  rfl

theorem ref39 (r : Fin 2048) (n : Fin 1024) : val_main_v39 (F := Ideal) x0 x1 x2 x3 x4 (ix2 r n)
    = second N1024 half eps (fun k : Fin 1024 => (x1 (ix2 r k) : EReal)) (fun k : Fin 1024 => dh x0 x4 r k * (x2 (ix1 k) : EReal)) (x3 (ix2 r n)) n := by
  unfold val_main_v39 val_main_v38 val_main_v37 val_main_v36 val_main_v35 val_main_v30 val_main_v29 val_main_v28
  pointwise
  rw [ref34, ref23, ref7]
  rfl

theorem ref41 (n : Fin 1024) :
    val_main_v41 (F := Ideal) x0 x1 x4 (ix2 (0 : Fin 1) n) = ∑ r : Fin 2048, (x1 (ix2 r n) : EReal) * Ideal.rsqrt (meanSq N1024 eps fun k : Fin 1024 => (x1 (ix2 r k) : EReal)) * dh x0 x4 r n := by
  unfold val_main_v41 val_main_v24 val_main_cst_4 val_main_v21 val_main_v20 val_main_cst_3 val_main_v19 val_main_v12 val_main_v11
  pointwise
  simp only [ref7, ref18]
  exact Fin.sum_univ_one _

end Reference

theorem last8 : ∀ t : Fin cfg0.N, (cfg0.win 8).flush t = true → t.val % 4 = 3 := by decide +kernel
theorem last9 : ∀ t : Fin cfg0.N, (cfg0.win 9).flush t = true → t.val % 4 = 3 := by decide +kernel
theorem last10 : ∀ t : Fin cfg0.N, (cfg0.win 10).flush t = true → t.val = 7 := by decide +kernel

theorem dx_at (t : Fin cfg0.N) (s : Vec Ideal S1024x1024 .f32)
    (hs : ∀ r k : Fin 1024, s (ix2 r k) = dh (m ((c : Thread nD τ).loc main_arg0)) (m ((c : Thread nD τ).loc main_arg4)) (⟨1024 * (t.val / 4) + r.val, by have : t.val < 8 := t.isLt; omega⟩ : Fin 2048) k) (r n : Fin 1024) :
    k0_pay5 (iblk m c 6 t) (iblk m c 1 t) s (iblk m c 7 t) (ix2 r n)
      = Cert.DxUpCRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (ix2 (⟨1024 * (t.val / 4) + r.val, by have : t.val < 8 := t.isLt; omega⟩ : Fin 2048) n) := by
  rw [k5_at, ref39, ← agree N1024 half eps n_f32 half_f32 eps_f32]
  have e6 := fun k : Fin 1024 => blk6 m c t r k (ix2 (⟨1024 * (t.val / 4) + r.val, by have : t.val < 8 := t.isLt; omega⟩ : Fin 2048) k) rfl rfl
  have e7 := fun k : Fin 1024 => blk7 m c t r k (ix2 (⟨1024 * (t.val / 4) + r.val, by have : t.val < 8 := t.isLt; omega⟩ : Fin 2048) k) rfl rfl
  have e1 := fun k : Fin 1024 => blk1 m c t k
  simp only [e6, e7, e1, hs]

theorem final8 : (dats m 0 c).arrAt 8 cfg0.N = Cert.DxUpCRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, n, rfl⟩ : ∃ (r : Fin 1024) (n : Fin 1024), y = ix2 r n := ⟨y 0, y 1, by funext a; match a with | ⟨0, _⟩ => rfl | ⟨1, _⟩ => rfl⟩
  have ht : t.val < 8 := t.isLt
  have ⟨a0, a1⟩ := at8 t
  have he : ((View.whole main_v7_0).slice (win0_8.rect t)).emb (ix2 r n) = ix2 (⟨1024 * (t.val / 4) + r.val, by omega⟩ : Fin 2048) n := by
    funext a
    refine Fin.ext ?_
    match a with
    | ⟨0, _⟩ => show cc0_transform_8 (grid0.coords t) 0 * 1024 + 1 * r.val = _; rw [a0]; show _ = 1024 * (t.val / 4) + r.val; omega
    | ⟨1, _⟩ => show cc0_transform_8 (grid0.coords t) 1 * 1024 + 1 * n.val = _; rw [a1]; show _ = n.val; omega
  rw [he]
  obtain ⟨s, hs, e8, -⟩ := out8 m c t (last8 t hf)
  rw [e8]
  exact dx_at m c t s hs r n

theorem final9 : (dats m 0 c).arrAt 9 cfg0.N = Cert.DxUpCRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  obtain ⟨r, n, rfl⟩ : ∃ (r : Fin 1024) (n : Fin 1024), y = ix2 r n := ⟨y 0, y 1, by funext a; match a with | ⟨0, _⟩ => rfl | ⟨1, _⟩ => rfl⟩
  have ht : t.val < 8 := t.isLt
  have ⟨a0, a1⟩ := at9 t
  have he : ((View.whole main_v7_1).slice (win0_9.rect t)).emb (ix2 r n) = ix2 (⟨1024 * (t.val / 4) + r.val, by omega⟩ : Fin 2048) n := by
    funext a
    refine Fin.ext ?_
    match a with
    | ⟨0, _⟩ => show cc0_transform_9 (grid0.coords t) 0 * 1024 + 1 * r.val = _; rw [a0]; show _ = 1024 * (t.val / 4) + r.val; omega
    | ⟨1, _⟩ => show cc0_transform_9 (grid0.coords t) 1 * 1024 + 1 * n.val = _; rw [a1]; show _ = n.val; omega
  rw [he]
  obtain ⟨s, hs, -, e9, -⟩ := out8 m c t (last9 t hf)
  rw [e9, k6_eq]
  exact dx_at m c t s hs r n

/-- The column sums of one tile. -/
theorem dg_at (t : Fin cfg0.N) (s : Vec Ideal S1024x1024 .f32)
    (hs : ∀ r k : Fin 1024, s (ix2 r k) = dh (m ((c : Thread nD τ).loc main_arg0)) (m ((c : Thread nD τ).loc main_arg4)) (⟨1024 * (t.val / 4) + r.val, by have : t.val < 8 := t.isLt; omega⟩ : Fin 2048) k)
    (x0 : (⟨S2048x4096, .bf16⟩ : BufTy).Contents (Elt Ideal)) (x1 : (⟨S2048x1024, .f32⟩ : BufTy).Contents (Elt Ideal)) (x4 : (⟨S1024x4096, .f32⟩ : BufTy).Contents (Elt Ideal))
    (h0 : x0 = m ((c : Thread nD τ).loc main_arg0)) (h1 : x1 = m ((c : Thread nD τ).loc main_arg1)) (h4 : x4 = m ((c : Thread nD τ).loc main_arg4)) (n : Fin 1024) :
    k0_pay4 (iblk m c 6 t) s (ix2 (0 : Fin 1) n) = ∑ r : Fin 1024, (fun r : Fin 2048 => (x1 (ix2 r n) : EReal) * Ideal.rsqrt (meanSq N1024 eps fun k : Fin 1024 => (x1 (ix2 r k) : EReal)) * dh x0 x4 r n)
      (⟨1024 * (t.val / 4) + r.val, by have : t.val < 8 := t.isLt; omega⟩ : Fin 2048) := by
  subst h0 h1 h4
  rw [k4_at]
  refine Finset.sum_congr rfl fun r _ => ?_
  have e6 := fun k : Fin 1024 => blk6 m c t r k (ix2 (⟨1024 * (t.val / 4) + r.val, by have : t.val < 8 := t.isLt; omega⟩ : Fin 2048) k) rfl rfl
  simp only [e6, hs]
  exact mul_comm _ _

theorem pt (n : ℕ) (h : n < 8) : n < cfg0.N := lt_of_lt_of_eq h (show 8 = cfg0.N from N_0.symm)

theorem final10 : (dats m 0 c).arrAt 10 cfg0.N = Cert.DxUpCRefIdeal.Read.val_main_v41 (F := Ideal) (m ((c : Thread nD τ).loc main_arg0)) (m ((c : Thread nD τ).loc main_arg1)) (m ((c : Thread nD τ).loc main_arg4)) := by
  refine (dats m 0 c).arrAt_eq_of_covers 10 _ (by decide +kernel) fun t hf y => ?_
  blk_simp
  rw [after0_10]
  obtain ⟨n, rfl⟩ : ∃ (n : Fin 1024), y = ix2 (0 : Fin 1) n := ⟨y 1, by
    funext a
    match a with
    | ⟨0, _⟩ => exact Fin.ext (by have : (y 0).val < 1 := (y 0).isLt; show (y 0).val = 0; omega)
    | ⟨1, _⟩ => rfl⟩
  have ⟨a0, a1⟩ := at10 t
  have he : ((View.whole main_v7_2).slice (win0_10.rect t)).emb (ix2 (0 : Fin 1) n) = ix2 (0 : Fin 1) n := by
    funext a
    refine Fin.ext ?_
    match a with
    | ⟨0, _⟩ => show cc0_transform_10 (grid0.coords t) 0 * 1 + 1 * 0 = 0; rw [a0]
    | ⟨1, _⟩ => show cc0_transform_10 (grid0.coords t) 1 * 1024 + 1 * n.val = n.val; rw [a1]; omega
  rw [he, ref41, sum_tiles]
  obtain rfl : t = ⟨7, pt 7 (by decide)⟩ := Fin.ext (last10 t hf)
  obtain ⟨s7, hs7, -, -, -, e7⟩ := out8 m c ⟨7, pt 7 (by decide)⟩ rfl
  obtain ⟨s3, hs3, -, -, e3, -⟩ := out8 m c ⟨3, pt 3 (by decide)⟩ rfl
  have e7 := e7 (by dsimp only; omega)
  have e3 := e3 (by dsimp only; omega)
  have e6 := out10_B m c ⟨6, pt 6 (by decide)⟩ (by dsimp only; omega) (by dsimp only; omega)
  have e5 := out10_B m c ⟨5, pt 5 (by decide)⟩ (by dsimp only; omega) (by dsimp only; omega)
  have e4 := out10_A m c ⟨4, pt 4 (by decide)⟩ rfl (le_refl _)
  refine (congrFun (e7.trans (congrArg (k0_pay1 (F := Ideal) _) (e6.trans (e5.trans (e4.trans e3))))) (ix2 (0 : Fin 1) n)).trans ?_
  rw [k1_at, dg_at m c ⟨7, pt 7 (by decide)⟩ s7 hs7 _ _ _ rfl rfl rfl, dg_at m c ⟨3, pt 3 (by decide)⟩ s3 hs3 _ _ _ rfl rfl rfl]
  refine congr (congrArg _ (Finset.sum_congr rfl fun r _ => ?_)) rfl
  have hz : (⟨1024 * (3 / 4) + r.val, by omega⟩ : Fin 2048) = ⟨r.val, by omega⟩ := Fin.ext (by show 1024 * (3 / 4) + r.val = r.val; omega)
  dsimp only
  rw [hz]

end Cert.DxUpCIdeal.Eq

end
-- ==== Proof.DownCEq.lean ====
module
public import proofs.«01_k».proof.Proof.Gen.DownCIdeal.Value
public import proofs.«01_k».proof.Proof.Gen.DownCRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DownCIdeal.Eq

open Idealize.ShloMosaic Idealize.ShloMosaic.TcCoe Cert.DownCIdeal.Gen Finset
open Cert.DownCIdeal.Value

variable (m : (ℓ : Loc nD τ sig) → Buf (Elt Ideal) ℓ) (c : Dev nD)

theorem at1 : ∀ t : Fin grid0.N, cc0_transform_1 (grid0.coords t) 0 = 0 ∧ cc0_transform_1 (grid0.coords t) 1 = 4 + t.val % 4 ∧ cc0_transform_1 (grid0.coords t) 2 = 0 := by decide +kernel
theorem at2 : ∀ t : Fin grid0.N, cc0_transform_2 (grid0.coords t) 0 = 1 ∧ cc0_transform_2 (grid0.coords t) 1 = 4 + t.val % 4 ∧ cc0_transform_2 (grid0.coords t) 2 = 0 := by decide +kernel
theorem at3 : ∀ t : Fin grid0.N, cc0_transform_3 (grid0.coords t) 0 = 2 ∧ cc0_transform_3 (grid0.coords t) 1 = 4 + t.val % 4 ∧ cc0_transform_3 (grid0.coords t) 2 = 0 := by decide +kernel
theorem at4 : ∀ t : Fin grid0.N, cc0_transform_4 (grid0.coords t) 0 = 3 ∧ cc0_transform_4 (grid0.coords t) 1 = 4 + t.val % 4 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel
theorem at6 : ∀ t : Fin grid0.N, cc0_transform_6 (grid0.coords t) 0 = t.val / 4 ∧ cc0_transform_6 (grid0.coords t) 1 = t.val % 4 := by decide +kernel

theorem packed : V m c main_v6 = concatenate S4x14592x256 1 [⟨S4x4096x256, broadcastInDim S4x4096x256 ![] bcast_S_S4x4096x256 (constant (F := Ideal) S_ .bf16 0x0000#16)⟩,
      ⟨S4x4096x256, shapeCast S4x4096x256 (transpose S4x4x1024x256 [0, 2, 1, 3] (shapeCast S4x1024x4x256 (truncf (F := Ideal) .bf16 (m ((c : Thread nD τ).loc main_arg2)) bitsLt_bf16_f32) shapeCasts_S4096x1024_S4x1024x4x256) transposes_S4x1024x4x256_S4x4x1024x256_0_2_1_3) shapeCasts_S4x4x1024x256_S4x4096x256⟩,
      ⟨S4x6400x256, broadcastInDim S4x6400x256 ![] bcast_S_S4x6400x256 (constant (F := Ideal) S_ .bf16 0x0000#16)⟩] concatenates_S4x4096x256_S4x4096x256_S4x6400x256_S4x14592x256_d1 := by
  unfold V
  simp only [hostOps0]
  after_reads_simp
  rfl

/-- Where the packed buffer holds the weight: slab `a`, rows of its part `b`, is rows of part `a` and columns of part `b`. -/
theorem entry (a b : Fin 4) (r : Fin 1024) (k : Fin 256) :
    V m c main_v6 (ix3 a (⟨4096 + (1024 * b.val + r.val), by omega⟩ : Fin 14592) k)
      = m ((c : Thread nD τ).loc main_arg2) (ix2 (⟨1024 * a.val + r.val, by omega⟩ : Fin 4096) (⟨256 * b.val + k.val, by omega⟩ : Fin 1024)) := by
  rw [packed]
  refine (concatenate_apply_piece (t := S4x14592x256) (1 : Fin 3) _ _ _ 1 (by exact Nat.lt_of_sub_eq_succ rfl) S4x4096x256 _ (by rfl) rfl 4096 (by rfl) (ix3 a (⟨1024 * b.val + r.val, by omega⟩ : Fin 4096) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 1024 + r.val) * 256 + k.val = (a.val * 4096 + (1024 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨1024 * a.val + r.val, by omega⟩ : Fin 4096) (⟨256 * b.val + k.val, by omega⟩ : Fin 1024)) ?_).trans ?_
  · rw [Shape.rowMajor_val_four, Shape.rowMajor_val_two]
    show (1024 * a.val + r.val) * 1024 + (256 * b.val + k.val) = ((a.val * 1024 + r.val) * 4 + b.val) * 256 + k.val
    omega
  rfl

theorem blk0 (t : Fin cfg0.N) (r : Fin 1024) (k : Fin 4096) (i : S2048x4096.Idx) (h0 : (i 0).val = 1024 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * r.val = (i 0).val; rw [a0, h0]; omega
  | ⟨1, _⟩ => show cc0_transform_0 (grid0.coords t) 1 * 4096 + 1 * k.val = (i 1).val; rw [a1, h1]; omega

theorem blk5 (t : Fin cfg0.N) (r : Fin 1024) (k : Fin 256) (i : S2048x1024.Idx) (h0 : (i 0).val = 1024 * (t.val / 4) + r.val) (h1 : (i 1).val = 256 * (t.val % 4) + k.val) :
    iblk m c 5 t (ix2 r k) = m ((c : Thread nD τ).loc main_arg1) i := by
  rw [← V_main_arg1 m c]
  unfold iblk
  have ⟨a0, a1⟩ := at5 t
  refine congrArg (V m c main_arg1) (funext fun a => Fin.ext ?_)
  match a with
  | ⟨0, _⟩ => show cc0_transform_5 (grid0.coords t) 0 * 1024 + 1 * r.val = (i 0).val; rw [a0, h0]; omega
  | ⟨1, _⟩ => show cc0_transform_5 (grid0.coords t) 1 * 256 + 1 * k.val = (i 1).val; rw [a1, h1]; omega

theorem blk1 (t : Fin cfg0.N) (r : Fin 1024) (k : Fin 256) (i : S4096x1024.Idx) (h0 : (i 0).val = 0 + r.val) (h1 : (i 1).val = 256 * (t.val % 4) + k.val) :
    X0_1 m c t (ix3 (0 : Fin 1) r k) = m ((c : Thread nD τ).loc main_arg2) i := by
  have hi : i = ix2 (⟨1024 * 0 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨0, by omega⟩ ⟨t.val % 4, by omega⟩ r k)
  unfold X0_1 Pipeline.Window.fill
  rw [dif_pos (moved0_1 t _)]
  unfold iblk
  have ⟨a0, a1, a2⟩ := at1 t
  refine congrArg (V m c main_v6) (funext fun a => Fin.ext ?_)
  match a with
  | ⟨0, _⟩ => show cc0_transform_1 (grid0.coords t) 0 * 1 + 1 * 0 = 0; rw [a0]
  | ⟨1, _⟩ => show cc0_transform_1 (grid0.coords t) 1 * 1024 + 1 * r.val = 4096 + (1024 * (t.val % 4) + r.val); rw [a1]; omega
  | ⟨2, _⟩ => show cc0_transform_1 (grid0.coords t) 2 * 256 + 1 * k.val = k.val; rw [a2]; omega

theorem blk2 (t : Fin cfg0.N) (r : Fin 1024) (k : Fin 256) (i : S4096x1024.Idx) (h0 : (i 0).val = 1024 + r.val) (h1 : (i 1).val = 256 * (t.val % 4) + k.val) :
    X0_2 m c t (ix3 (0 : Fin 1) r k) = m ((c : Thread nD τ).loc main_arg2) i := by
  have hi : i = ix2 (⟨1024 * 1 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨1, by omega⟩ ⟨t.val % 4, by omega⟩ r k)
  unfold X0_2 Pipeline.Window.fill
  rw [dif_pos (moved0_2 t _)]
  unfold iblk
  have ⟨a0, a1, a2⟩ := at2 t
  refine congrArg (V m c main_v6) (funext fun a => Fin.ext ?_)
  match a with
  | ⟨0, _⟩ => show cc0_transform_2 (grid0.coords t) 0 * 1 + 1 * 0 = 1; rw [a0]
  | ⟨1, _⟩ => show cc0_transform_2 (grid0.coords t) 1 * 1024 + 1 * r.val = 4096 + (1024 * (t.val % 4) + r.val); rw [a1]; omega
  | ⟨2, _⟩ => show cc0_transform_2 (grid0.coords t) 2 * 256 + 1 * k.val = k.val; rw [a2]; omega

theorem blk3 (t : Fin cfg0.N) (r : Fin 1024) (k : Fin 256) (i : S4096x1024.Idx) (h0 : (i 0).val = 2048 + r.val) (h1 : (i 1).val = 256 * (t.val % 4) + k.val) :
    X0_3 m c t (ix3 (0 : Fin 1) r k) = m ((c : Thread nD τ).loc main_arg2) i := by
  have hi : i = ix2 (⟨1024 * 2 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨2, by omega⟩ ⟨t.val % 4, by omega⟩ r k)
  unfold X0_3 Pipeline.Window.fill
  rw [dif_pos (moved0_3 t _)]
  unfold iblk
  have ⟨a0, a1, a2⟩ := at3 t
  refine congrArg (V m c main_v6) (funext fun a => Fin.ext ?_)
  match a with
  | ⟨0, _⟩ => show cc0_transform_3 (grid0.coords t) 0 * 1 + 1 * 0 = 2; rw [a0]
  | ⟨1, _⟩ => show cc0_transform_3 (grid0.coords t) 1 * 1024 + 1 * r.val = 4096 + (1024 * (t.val % 4) + r.val); rw [a1]; omega
  | ⟨2, _⟩ => show cc0_transform_3 (grid0.coords t) 2 * 256 + 1 * k.val = k.val; rw [a2]; omega

theorem blk4 (t : Fin cfg0.N) (r : Fin 1024) (k : Fin 256) (i : S4096x1024.Idx) (h0 : (i 0).val = 3072 + r.val) (h1 : (i 1).val = 256 * (t.val % 4) + k.val) :
    X0_4 m c t (ix3 (0 : Fin 1) r k) = m ((c : Thread nD τ).loc main_arg2) i := by
  have hi : i = ix2 (⟨1024 * 3 + r.val, by omega⟩ : Fin 4096) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨3, by omega⟩ ⟨t.val % 4, by omega⟩ r k)
  unfold X0_4 Pipeline.Window.fill
  rw [dif_pos (moved0_4 t _)]
  unfold iblk
  have ⟨a0, a1, a2⟩ := at4 t
  refine congrArg (V m c main_v6) (funext fun a => Fin.ext ?_)
  match a with
  | ⟨0, _⟩ => show cc0_transform_4 (grid0.coords t) 0 * 1 + 1 * 0 = 3; rw [a0]
  | ⟨1, _⟩ => show cc0_transform_4 (grid0.coords t) 1 * 1024 + 1 * r.val = 4096 + (1024 * (t.val % 4) + r.val); rw [a1]; omega
  | ⟨2, _⟩ => show cc0_transform_4 (grid0.coords t) 2 * 256 + 1 * k.val = k.val; rw [a2]; omega

/-- A sum over 4096 is four sums over 1024. -/
theorem sum_slabs (f : Fin 4096 → EReal) :
    ∑ x, f x = ∑ x : Fin 1024, f ⟨x.val, by omega⟩ + ∑ x : Fin 1024, f ⟨1024 + x.val, by omega⟩ + ∑ x : Fin 1024, f ⟨2048 + x.val, by omega⟩ + ∑ x : Fin 1024, f ⟨3072 + x.val, by omega⟩ := by
  rw [Fin.sum_univ_add (a := 3072) (b := 1024) f, Fin.sum_univ_add (a := 2048) (b := 1024) fun x : Fin 3072 => f (Fin.castAdd 1024 x),
    Fin.sum_univ_add (a := 1024) (b := 1024) fun x : Fin 2048 => f (Fin.castAdd 1024 (Fin.castAdd 1024 x))]
  rfl

/-- The reference at an index. -/
theorem ref_at (x0 : (⟨S2048x4096, .bf16⟩ : BufTy).Contents (Elt Ideal)) (x1 : (⟨S2048x1024, .f32⟩ : BufTy).Contents (Elt Ideal)) (x2 : (⟨S4096x1024, .f32⟩ : BufTy).Contents (Elt Ideal)) (r : Fin 2048) (n : Fin 1024) :
    Cert.DownCRefIdeal.Read.val_main_v2 (F := Ideal) x0 x1 x2 (ix2 r n)
      = (x1 (ix2 r n) : EReal) + ∑ x : Fin 4096, (x0 (ix2 r x) : EReal) * (x2 (ix2 x n) : EReal) := by
  unfold Cert.DownCRefIdeal.Read.val_main_v2 Cert.DownCRefIdeal.Read.val_main_v1 Cert.DownCRefIdeal.Read.val_main_v0
  pointwise

theorem final : (dats m 0 c).arrAt 6 cfg0.N = Cert.DownCRefIdeal.Read.val_main_v2 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold outsAt0
  frame_out
  obtain ⟨r, n, rfl⟩ : ∃ (r : Fin 1024) (n : Fin 256), y = ix2 r n := ⟨y 0, y 1, by funext a; match a with | ⟨0, _⟩ => rfl | ⟨1, _⟩ => rfl⟩
  have ht : t.val < 8 := t.isLt
  have ⟨a0, a1⟩ := at6 t
  have he : ((View.whole main_v7).slice (win0_6.rect t)).emb (ix2 r n) = ix2 (⟨1024 * (t.val / 4) + r.val, by omega⟩ : Fin 2048) (⟨256 * (t.val % 4) + n.val, by omega⟩ : Fin 1024) := by
    funext a
    refine Fin.ext ?_
    match a with
    | ⟨0, _⟩ => show cc0_transform_6 (grid0.coords t) 0 * 1024 + 1 * r.val = _; rw [a0]; show _ = 1024 * (t.val / 4) + r.val; omega
    | ⟨1, _⟩ => show cc0_transform_6 (grid0.coords t) 1 * 256 + 1 * n.val = _; rw [a1]; show _ = 256 * (t.val % 4) + n.val; omega
  rw [he]
  refine Eq.trans ?_ (ref_at _ _ _ _ _).symm
  unfold k0_pay1
  pointwise
  rw [add_comm, sum_slabs, blk5 m c t r n (ix2 (⟨1024 * (t.val / 4) + r.val, by omega⟩ : Fin 2048) (⟨256 * (t.val % 4) + n.val, by omega⟩ : Fin 1024)) rfl rfl]
  refine congr rfl ?_
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ (Nat.zero_add _).symm rfl
  · exact blk2 m c t _ _ _ rfl rfl
  · exact blk3 m c t _ _ _ rfl rfl
  · exact blk4 m c t _ _ _ rfl rfl

end Cert.DownCIdeal.Eq

end
-- ==== Proof.DxInEq.lean ====
module
public import proofs.«01_k».proof.Proof.Gen.DxInIdeal.Value
public import proofs.«01_k».proof.Proof.Gen.DxInRefIdeal.Read
public import proofs.«01_k».proof.Proof.NormGrad
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxInIdeal.Eq

open Idealize.ShloMosaic Idealize.ShloMosaic.TcCoe Cert.DxInIdeal.Gen Finset
open Cert.DxInIdeal.Value

variable (m : (ℓ : Loc nD τ sig) → Buf (Elt Ideal) ℓ) (c : Dev nD)

theorem at0 : ∀ t : Fin grid0.N, cc0_transform_0 (grid0.coords t) 0 = t.val / 4 ∧ cc0_transform_0 (grid0.coords t) 1 = t.val % 4 := by decide +kernel
theorem at9 : ∀ t : Fin grid0.N, cc0_transform_9 (grid0.coords t) 0 = 0 ∧ cc0_transform_9 (grid0.coords t) 1 = 0 := by decide +kernel
theorem at1 : ∀ t : Fin grid0.N, cc0_transform_1 (grid0.coords t) 0 = 0 ∧ cc0_transform_1 (grid0.coords t) 1 = 0 := by decide +kernel
theorem at2 : ∀ t : Fin grid0.N, cc0_transform_2 (grid0.coords t) 0 = t.val % 4 ∧ cc0_transform_2 (grid0.coords t) 1 = 8 ∧ cc0_transform_2 (grid0.coords t) 2 = 0 := by decide +kernel
theorem at3 : ∀ t : Fin grid0.N, cc0_transform_3 (grid0.coords t) 0 = t.val % 4 ∧ cc0_transform_3 (grid0.coords t) 1 = 9 ∧ cc0_transform_3 (grid0.coords t) 2 = 0 := by decide +kernel
theorem at4 : ∀ t : Fin grid0.N, cc0_transform_4 (grid0.coords t) 0 = t.val % 4 ∧ cc0_transform_4 (grid0.coords t) 1 = 10 ∧ cc0_transform_4 (grid0.coords t) 2 = 0 := by decide +kernel
theorem at5 : ∀ t : Fin grid0.N, cc0_transform_5 (grid0.coords t) 0 = t.val / 4 ∧ cc0_transform_5 (grid0.coords t) 1 = 0 := by decide +kernel
theorem at6 : ∀ t : Fin grid0.N, cc0_transform_6 (grid0.coords t) 0 = t.val / 4 ∧ cc0_transform_6 (grid0.coords t) 1 = 0 := by decide +kernel
theorem at7 : ∀ t : Fin grid0.N, cc0_transform_7 (grid0.coords t) 0 = t.val / 4 ∧ cc0_transform_7 (grid0.coords t) 1 = 0 := by decide +kernel
theorem at8 : ∀ t : Fin grid0.N, cc0_transform_8 (grid0.coords t) 0 = t.val / 4 ∧ cc0_transform_8 (grid0.coords t) 1 = 0 := by decide +kernel

theorem packed : V m c main_v6 = concatenate S4x13568x256 1 [⟨S4x8192x256, broadcastInDim S4x8192x256 ![] bcast_S_S4x8192x256 (constant (F := Ideal) S_ .bf16 0x0000#16)⟩,
      ⟨S4x3072x256, shapeCast S4x3072x256 (transpose S4x3x1024x256 [1, 2, 0, 3] (shapeCast S1024x4x3x256 (truncf (F := Ideal) .bf16 (m ((c : Thread nD τ).loc main_arg4)) bitsLt_bf16_f32) shapeCasts_S1024x3072_S1024x4x3x256) transposes_S1024x4x3x256_S4x3x1024x256_1_2_0_3) shapeCasts_S4x3x1024x256_S4x3072x256⟩,
      ⟨S4x2304x256, broadcastInDim S4x2304x256 ![] bcast_S_S4x2304x256 (constant (F := Ideal) S_ .bf16 0x0000#16)⟩] concatenates_S4x8192x256_S4x3072x256_S4x2304x256_S4x13568x256_d1 := by
  unfold V
  simp only [hostOps0]
  after_reads_simp
  rfl

theorem row : V m c main_v7 = broadcastInDim S1x1024 ![1] bcast_S1024_S1x1024_1 (m ((c : Thread nD τ).loc main_arg2)) := by
  unfold V
  simp only [hostOps0]
  after_reads_simp

/-- Where the packed buffer holds the weight: slab `a`, rows of its part `b`, is part `b` of the columns of chip `a`. -/
theorem entry (a : Fin 4) (b : Fin 3) (r : Fin 1024) (k : Fin 256) :
    V m c main_v6 (ix3 a (⟨8192 + (1024 * b.val + r.val), by omega⟩ : Fin 13568) k)
      = m ((c : Thread nD τ).loc main_arg4) (ix2 r (⟨768 * a.val + (256 * b.val + k.val), by omega⟩ : Fin 3072)) := by
  rw [packed]
  refine (concatenate_apply_piece (t := S4x13568x256) (1 : Fin 3) _ _ _ 1 (by exact Nat.lt_of_sub_eq_succ rfl) S4x3072x256 _ (by rfl) rfl 8192 (by rfl) (ix3 a (⟨1024 * b.val + r.val, by omega⟩ : Fin 3072) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 3 + b.val) * 1024 + r.val) * 256 + k.val = (a.val * 3072 + (1024 * b.val + r.val)) * 256 + k.val
    omega
  refine (transpose_apply _ _ _ _ (ix4 r a b k) fun d => ?_).trans ?_
  · match d with
    | ⟨0, _⟩ => rfl
    | ⟨1, _⟩ => rfl
    | ⟨2, _⟩ => rfl
    | ⟨3, _⟩ => rfl
  refine (shapeCast_apply _ _ _ (ix2 r (⟨768 * a.val + (256 * b.val + k.val), by omega⟩ : Fin 3072)) ?_).trans ?_
  · rw [Shape.rowMajor_val_four, Shape.rowMajor_val_two]
    show r.val * 3072 + (768 * a.val + (256 * b.val + k.val)) = ((r.val * 4 + a.val) * 3 + b.val) * 256 + k.val
    omega
  rfl

theorem blk0 (t : Fin cfg0.N) (i' : S1024x768.Idx) (i : S2048x3072.Idx) (h0 : (i 0).val = 1024 * (t.val / 4) + (i' 0).val) (h1 : (i 1).val = 768 * (t.val % 4) + (i' 1).val) :
    iblk m c 0 t i' = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 1024 + 1 * (i' 0).val = (i 0).val; rw [a0, h0]; omega
  | ⟨1, _⟩ => show cc0_transform_0 (grid0.coords t) 1 * 768 + 1 * (i' 1).val = (i 1).val; rw [a1, h1]; omega

theorem blk1 (t : Fin cfg0.N) (k : Fin 1024) :
    iblk m c 1 t (ix2 (0 : Fin 1) k) = m ((c : Thread nD τ).loc main_arg2) (ix1 k) := by
  have e : V m c main_v7 (ix2 (0 : Fin 1) k) = m ((c : Thread nD τ).loc main_arg2) (ix1 k) := by
    rw [row]; pointwise
  rw [← e]
  unfold iblk
  have ⟨a0, a1⟩ := at1 t
  refine congrArg (V m c main_v7) (funext fun a => Fin.ext ?_)
  match a with
  | ⟨0, _⟩ => show cc0_transform_1 (grid0.coords t) 0 * 1 + 1 * 0 = 0; rw [a0]
  | ⟨1, _⟩ => show cc0_transform_1 (grid0.coords t) 1 * 1024 + 1 * k.val = k.val; rw [a1]; omega

theorem blk5 (t : Fin cfg0.N) (r k : Fin 1024) (i : S2048x1024.Idx) (h0 : (i 0).val = 1024 * (t.val / 4) + r.val) (h1 : (i 1).val = k.val) :
    iblk m c 5 t (ix2 r k) = m ((c : Thread nD τ).loc main_arg1) i := by
  rw [← V_main_arg1 m c]
  unfold iblk
  have ⟨a0, a1⟩ := at5 t
  refine congrArg (V m c main_arg1) (funext fun a => Fin.ext ?_)
  match a with
  | ⟨0, _⟩ => show cc0_transform_5 (grid0.coords t) 0 * 1024 + 1 * r.val = (i 0).val; rw [a0, h0]; omega
  | ⟨1, _⟩ => show cc0_transform_5 (grid0.coords t) 1 * 1024 + 1 * k.val = (i 1).val; rw [a1, h1]; omega

theorem blk6 (t : Fin cfg0.N) (r k : Fin 1024) (i : S2048x1024.Idx) (h0 : (i 0).val = 1024 * (t.val / 4) + r.val) (h1 : (i 1).val = k.val) :
    iblk m c 6 t (ix2 r k) = m ((c : Thread nD τ).loc main_arg3) i := by
  rw [← V_main_arg3 m c]
  unfold iblk
  have ⟨a0, a1⟩ := at6 t
  refine congrArg (V m c main_arg3) (funext fun a => Fin.ext ?_)
  match a with
  | ⟨0, _⟩ => show cc0_transform_6 (grid0.coords t) 0 * 1024 + 1 * r.val = (i 0).val; rw [a0, h0]; omega
  | ⟨1, _⟩ => show cc0_transform_6 (grid0.coords t) 1 * 1024 + 1 * k.val = (i 1).val; rw [a1, h1]; omega

theorem blk2 (t : Fin cfg0.N) (r : Fin 1024) (k : Fin 256) (i : S1024x3072.Idx) (h0 : (i 0).val = r.val) (h1 : (i 1).val = 768 * (t.val % 4) + (0 + k.val)) :
    X0_2 m c t (ix3 (0 : Fin 1) r k) = m ((c : Thread nD τ).loc main_arg4) i := by
  have hi : i = ix2 r (⟨768 * (t.val % 4) + (256 * 0 + k.val), by omega⟩ : Fin 3072) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold X0_2 Pipeline.Window.fill
  rw [dif_pos (moved0_2 t _)]
  unfold iblk
  have ⟨a0, a1, a2⟩ := at2 t
  refine congrArg (V m c main_v6) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 1024 + 1 * r.val = 8192 + (1024 * 0 + r.val); rw [a1]; omega
  | ⟨2, _⟩ => show cc0_transform_2 (grid0.coords t) 2 * 256 + 1 * k.val = k.val; rw [a2]; omega

theorem blk3 (t : Fin cfg0.N) (r : Fin 1024) (k : Fin 256) (i : S1024x3072.Idx) (h0 : (i 0).val = r.val) (h1 : (i 1).val = 768 * (t.val % 4) + (256 + k.val)) :
    X0_3 m c t (ix3 (0 : Fin 1) r k) = m ((c : Thread nD τ).loc main_arg4) i := by
  have hi : i = ix2 r (⟨768 * (t.val % 4) + (256 * 1 + k.val), by omega⟩ : Fin 3072) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold X0_3 Pipeline.Window.fill
  rw [dif_pos (moved0_3 t _)]
  unfold iblk
  have ⟨a0, a1, a2⟩ := at3 t
  refine congrArg (V m c main_v6) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 1024 + 1 * r.val = 8192 + (1024 * 1 + r.val); rw [a1]; omega
  | ⟨2, _⟩ => show cc0_transform_3 (grid0.coords t) 2 * 256 + 1 * k.val = k.val; rw [a2]; omega

theorem blk4 (t : Fin cfg0.N) (r : Fin 1024) (k : Fin 256) (i : S1024x3072.Idx) (h0 : (i 0).val = r.val) (h1 : (i 1).val = 768 * (t.val % 4) + (512 + k.val)) :
    X0_4 m c t (ix3 (0 : Fin 1) r k) = m ((c : Thread nD τ).loc main_arg4) i := by
  have hi : i = ix2 r (⟨768 * (t.val % 4) + (256 * 2 + k.val), by omega⟩ : Fin 3072) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold X0_4 Pipeline.Window.fill
  rw [dif_pos (moved0_4 t _)]
  unfold iblk
  have ⟨a0, a1, a2⟩ := at4 t
  refine congrArg (V m c main_v6) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 1024 + 1 * r.val = 8192 + (1024 * 2 + r.val); rw [a1]; omega
  | ⟨2, _⟩ => show cc0_transform_4 (grid0.coords t) 2 * 256 + 1 * k.val = k.val; rw [a2]; omega

/-- A sum over 768 is three sums over 256. -/
theorem sum_parts (f : Fin 768 → EReal) :
    ∑ x, f x = ∑ x : Fin 256, f ⟨x.val, by omega⟩ + ∑ x : Fin 256, f ⟨256 + x.val, by omega⟩ + ∑ x : Fin 256, f ⟨512 + x.val, by omega⟩ := by
  rw [Fin.sum_univ_add (a := 512) (b := 256) f, Fin.sum_univ_add (a := 256) (b := 256) fun x : Fin 512 => f (Fin.castAdd 256 x)]
  rfl

/-- A sum over 3072 is four sums over 768. -/
theorem sum_slabs (f : Fin 3072 → EReal) :
    ∑ x, f x = ∑ x : Fin 768, f ⟨x.val, by omega⟩ + ∑ x : Fin 768, f ⟨768 + x.val, by omega⟩ + ∑ x : Fin 768, f ⟨1536 + x.val, by omega⟩ + ∑ x : Fin 768, f ⟨2304 + x.val, by omega⟩ := by
  rw [Fin.sum_univ_add (a := 2304) (b := 768) f, Fin.sum_univ_add (a := 1536) (b := 768) fun x : Fin 2304 => f (Fin.castAdd 768 x),
    Fin.sum_univ_add (a := 768) (b := 768) fun x : Fin 1536 => f (Fin.castAdd 768 (Fin.castAdd 768 x))]
  rfl

/-- A sum over 2048 is two sums over 1024. -/
theorem sum_tiles (f : Fin 2048 → EReal) :
    ∑ x, f x = ∑ x : Fin 1024, f ⟨x.val, by omega⟩ + ∑ x : Fin 1024, f ⟨1024 + x.val, by omega⟩ := by
  rw [Fin.sum_univ_add (a := 1024) (b := 1024) f]
  rfl

/-- What the columns of chip `j` add to the gradient by the normalised input, at row `r` of tile `b`. -/
def part (x0 : (⟨S2048x3072, .bf16⟩ : BufTy).Contents (Elt Ideal)) (x4 : (⟨S1024x3072, .f32⟩ : BufTy).Contents (Elt Ideal)) (b : Fin 2) (j : Fin 4) (r k : Fin 1024) : EReal :=
  ∑ x : Fin 768, (x0 (ix2 (⟨1024 * b.val + r.val, by omega⟩ : Fin 2048) (⟨768 * j.val + x.val, by omega⟩ : Fin 3072)) : EReal)
    * (x4 (ix2 k (⟨768 * j.val + x.val, by omega⟩ : Fin 3072)) : EReal)

theorem part_at (t : Fin cfg0.N) (r k : Fin 1024) :
    (∑ x : Fin 256, HMul.hMul (α := EReal) (β := EReal) (γ := EReal) (iblk m c 0 t (ix2 r (⟨x.val, by omega⟩ : Fin 768))) (X0_2 m c t (ix3 (0 : Fin 1) k x))
        + ∑ x : Fin 256, HMul.hMul (α := EReal) (β := EReal) (γ := EReal) (iblk m c 0 t (ix2 r (⟨256 + x.val, by omega⟩ : Fin 768))) (X0_3 m c t (ix3 (0 : Fin 1) k x))
        + ∑ x : Fin 256, HMul.hMul (α := EReal) (β := EReal) (γ := EReal) (iblk m c 0 t (ix2 r (⟨512 + x.val, by omega⟩ : Fin 768))) (X0_4 m c t (ix3 (0 : Fin 1) k x)))
      = part (m ((c : Thread nD τ).loc main_arg0)) (m ((c : Thread nD τ).loc main_arg4)) ⟨t.val / 4, by have : t.val < 8 := t.isLt; omega⟩ ⟨t.val % 4, by omega⟩ r k := by
  have ht : t.val < 8 := t.isLt
  unfold part
  rw [sum_parts]
  refine congr (congrArg _ (congr (congrArg _ ?_) ?_)) ?_ <;> refine Finset.sum_congr rfl fun x _ => congr (congrArg _ (blk0 m c t _ _ rfl rfl)) ?_
  · exact blk2 m c t _ _ _ rfl (by show 768 * (t.val % 4) + x.val = 768 * (t.val % 4) + (0 + x.val); omega)
  · exact blk3 m c t _ _ _ rfl rfl
  · exact blk4 m c t _ _ _ rfl rfl

theorem sc_A (t : Fin cfg0.N) (h : t.val % 4 = 0) (r k : Fin 1024) :
    (outsAt0 m c t.val t.isLt).2.2.2 (ix2 r k) = part (m ((c : Thread nD τ).loc main_arg0)) (m ((c : Thread nD τ).loc main_arg4)) ⟨t.val / 4, by have : t.val < 8 := t.isLt; omega⟩ ⟨t.val % 4, by omega⟩ r k := by
  rw [outsAt0_A m c t h (by omega) (by omega)]
  dsimp only
  frame_out
  unfold k0_pay2 k0_pay1
  pointwise
  exact part_at m c t r k

theorem scratch_at (t : Fin cfg0.N) (s : Vec Ideal S1024x1024 .f32) (r k : Fin 1024) :
    k0_pay3 (View.ld (iblk m c 0 t) (Rect.unit ![0, 0] ![1024, 256] inb_S1024x768_S1024x256_0_0)) (X0_2 m c t)
        (View.ld (iblk m c 0 t) (Rect.unit ![0, 256] ![1024, 256] inb_S1024x768_S1024x256_0_256)) (X0_3 m c t)
        (View.ld (iblk m c 0 t) (Rect.unit ![0, 512] ![1024, 256] inb_S1024x768_S1024x256_0_512)) (X0_4 m c t) s (ix2 r k)
      = (s (ix2 r k) + part (m ((c : Thread nD τ).loc main_arg0)) (m ((c : Thread nD τ).loc main_arg4)) ⟨t.val / 4, by have : t.val < 8 := t.isLt; omega⟩ ⟨t.val % 4, by omega⟩ r k : EReal) := by
  unfold k0_pay3 k0_pay1
  pointwise
  exact congrArg (fun z : EReal => (s (ix2 r k) : EReal) + z) (part_at m c t r k)

theorem sc_B (t : Fin cfg0.N) (h0 : ¬ t.val % 4 = 0) (h3 : ¬ t.val % 4 = 3) (r k : Fin 1024) :
    (outsAt0 m c t.val t.isLt).2.2.2 (ix2 r k) = ((outsAt0 m c (t.val - 1) (Nat.lt_of_le_of_lt (Nat.sub_le _ _) t.isLt)).2.2.2 (ix2 r k)
      + part (m ((c : Thread nD τ).loc main_arg0)) (m ((c : Thread nD τ).loc main_arg4)) ⟨t.val / 4, by have : t.val < 8 := t.isLt; omega⟩ ⟨t.val % 4, by omega⟩ r k : EReal) := by
  rw [outsAt0_B m c t h0 (by omega) h3]
  dsimp only
  frame_out
  rw [(Memref.isWhole_whole _).read_unread]
  exact scratch_at m c t _ r k

/-- The gradient by the normalised input, from the four chips. -/
def dh (x0 : (⟨S2048x3072, .bf16⟩ : BufTy).Contents (Elt Ideal)) (x4 : (⟨S1024x3072, .f32⟩ : BufTy).Contents (Elt Ideal)) (r : Fin 2048) (k : Fin 1024) : EReal :=
  ∑ x : Fin 3072, (x0 (ix2 r x) : EReal) * (x4 (ix2 k x) : EReal)

theorem dh_parts (x0 : (⟨S2048x3072, .bf16⟩ : BufTy).Contents (Elt Ideal)) (x4 : (⟨S1024x3072, .f32⟩ : BufTy).Contents (Elt Ideal)) (b : Fin 2) (r k : Fin 1024) :
    part x0 x4 b 0 r k + part x0 x4 b 1 r k + part x0 x4 b 2 r k + part x0 x4 b 3 r k = dh x0 x4 (⟨1024 * b.val + r.val, by omega⟩ : Fin 2048) k := by
  unfold dh part
  rw [sum_slabs]
  refine congr (congrArg _ (congr (congrArg _ (congr (congrArg _ ?_) ?_)) ?_)) ?_ <;> refine Finset.sum_congr rfl fun x _ => ?_
  · have e : (⟨768 * (0 : Fin 4).val + x.val, by omega⟩ : Fin 3072) = ⟨x.val, by omega⟩ := Fin.ext (Nat.zero_add _)
    rw [e]
  · rfl
  · rfl
  · rfl

/-- The scratch a last point leaves: the whole gradient of its rows. -/
theorem acc (t : Fin cfg0.N) (h3 : t.val % 4 = 3) (s : Vec Ideal S1024x1024 .f32)
    (hs : s = k0_pay3 (View.ld (iblk m c 0 t) (Rect.unit ![0, 0] ![1024, 256] inb_S1024x768_S1024x256_0_0)) (X0_2 m c t)
        (View.ld (iblk m c 0 t) (Rect.unit ![0, 256] ![1024, 256] inb_S1024x768_S1024x256_0_256)) (X0_3 m c t)
        (View.ld (iblk m c 0 t) (Rect.unit ![0, 512] ![1024, 256] inb_S1024x768_S1024x256_0_512)) (X0_4 m c t)
        (outsAt0 m c (t.val - 1) (Nat.lt_of_le_of_lt (Nat.sub_le _ _) t.isLt)).2.2.2) (r k : Fin 1024) :
    s (ix2 r k) = dh (m ((c : Thread nD τ).loc main_arg0)) (m ((c : Thread nD τ).loc main_arg4)) (⟨1024 * (t.val / 4) + r.val, by have : t.val < 8 := t.isLt; omega⟩ : Fin 2048) k := by
  have ht : t.val < 8 := t.isLt
  have hN : cfg0.N = 8 := N_0
  rw [hs, scratch_at, ← dh_parts _ _ ⟨t.val / 4, by omega⟩ r k]
  have e2 := sc_B m c ⟨t.val - 1, by omega⟩ (by dsimp only; omega) (by dsimp only; omega) r k
  have e1 := sc_B m c ⟨t.val - 1 - 1, by omega⟩ (by dsimp only; omega) (by dsimp only; omega) r k
  have e0 := sc_A m c ⟨t.val - 1 - 1 - 1, by omega⟩ (by dsimp only; omega) r k
  dsimp only at e0 e1 e2
  rw [e2, e1, e0]
  have g0 : (t.val - 1 - 1 - 1) / 4 = t.val / 4 := by omega
  have g1 : (t.val - 1 - 1) / 4 = t.val / 4 := by omega
  have g2 : (t.val - 1) / 4 = t.val / 4 := by omega
  have j0 : (t.val - 1 - 1 - 1) % 4 = 0 := by omega
  have j1 : (t.val - 1 - 1) % 4 = 1 := by omega
  have j2 : (t.val - 1) % 4 = 2 := by omega
  simp only [g0, g1, g2, j0, j1, j2, h3]
  rfl

theorem outs (t : Fin cfg0.N) (h3 : t.val % 4 = 3) : ∃ s : Vec Ideal S1024x1024 .f32,
    (∀ r k : Fin 1024, s (ix2 r k) = dh (m ((c : Thread nD τ).loc main_arg0)) (m ((c : Thread nD τ).loc main_arg4)) (⟨1024 * (t.val / 4) + r.val, by have : t.val < 8 := t.isLt; omega⟩ : Fin 2048) k)
    ∧ (outsAt0 m c t.val t.isLt).1 = k0_pay8 (iblk m c 5 t) (iblk m c 1 t) s (iblk m c 6 t)
    ∧ (outsAt0 m c t.val t.isLt).2.1 = k0_pay9 (iblk m c 5 t) (iblk m c 1 t) s (iblk m c 6 t)
    ∧ (t.val < 4 → (outsAt0 m c t.val t.isLt).2.2.1 = k0_pay7 (iblk m c 5 t) s)
    ∧ (4 ≤ t.val → (outsAt0 m c t.val t.isLt).2.2.1 = k0_pay4 (k0_pay7 (iblk m c 5 t) s) (outsAt0 m c (t.val - 1) (Nat.lt_of_le_of_lt (Nat.sub_le _ _) t.isLt)).2.2.1) := by
  refine ⟨_, acc m c t h3 _ rfl, ?_⟩
  by_cases h4 : t.val < 4
  · rw [outsAt0_C m c t (by omega) (by omega) h3 h4 (by omega)]
    dsimp only
    frame_out
    rw [(Memref.isWhole_whole _).read_unread]
    exact ⟨rfl, rfl, fun _ => rfl, fun h => absurd h4 (by omega)⟩
  · rw [outsAt0_D m c t (by omega) (by omega) h3 h4 (by omega)]
    dsimp only
    frame_out
    rw [(Memref.isWhole_whole _).read_unread]
    exact ⟨rfl, rfl, fun h => absurd h h4, fun _ => rfl⟩

/-- Elsewhere the third output stands as the point before left it. -/
theorem hold_A (t : Fin cfg0.N) (h : t.val % 4 = 0) (h' : 4 ≤ t.val) :
    (outsAt0 m c t.val t.isLt).2.2.1 = (outsAt0 m c (t.val - 1) (Nat.lt_of_le_of_lt (Nat.sub_le _ _) t.isLt)).2.2.1 := by
  rw [outsAt0_A m c t h (by omega) (by omega)]
  dsimp only [out0_A_9]

theorem hold_B (t : Fin cfg0.N) (h0 : ¬ t.val % 4 = 0) (h3 : ¬ t.val % 4 = 3) :
    (outsAt0 m c t.val t.isLt).2.2.1 = (outsAt0 m c (t.val - 1) (Nat.lt_of_le_of_lt (Nat.sub_le _ _) t.isLt)).2.2.1 := by
  rw [outsAt0_B m c t h0 (by omega) h3]
  dsimp only [out0_B_9]

abbrev N1024 : EReal := Ideal.ofBits .f32 0x44800000#32
abbrev half : EReal := Ideal.ofBits .f32 0xBF000000#32
abbrev eps : EReal := Ideal.ofBits .f32 0x358637BD#32

open Cert.NormGrad

theorem first_at (x : Vec Ideal S1024x1024 .f32) (g : Vec Ideal S1x1024 .f32) (s d : Vec Ideal S1024x1024 .f32) (r k : Fin 1024) :
    k0_pay8 x g s d (ix2 r k) = first N1024 eps (fun k => (x (ix2 r k) : EReal)) (fun k : Fin 1024 => HMul.hMul (α := EReal) (β := EReal) (γ := EReal) (s (ix2 r k)) (g (ix2 (0 : Fin 1) k))) (d (ix2 r k)) k := by
  unfold k0_pay8 k0_pay6 k0_pay5
  pointwise
  rfl

theorem copy_eq (x : Vec Ideal S1024x1024 .f32) (g : Vec Ideal S1x1024 .f32) (s d : Vec Ideal S1024x1024 .f32) : k0_pay9 x g s d = k0_pay8 x g s d := rfl

theorem columns_at (x s : Vec Ideal S1024x1024 .f32) (k : Fin 1024) :
    k0_pay7 x s (ix2 (0 : Fin 1) k) = ∑ r : Fin 1024, HMul.hMul (α := EReal) (β := EReal) (γ := EReal) (s (ix2 r k))
      (HMul.hMul (α := EReal) (β := EReal) (γ := EReal) (x (ix2 r k)) (Ideal.rsqrt (meanSq N1024 eps fun k : Fin 1024 => (x (ix2 r k) : EReal)))) := by
  unfold k0_pay7 k0_pay6 k0_pay5
  pointwise
  rfl

theorem add_at (a b : Vec Ideal S1x1024 .f32) (k : Fin 1024) :
    k0_pay4 a b (ix2 (0 : Fin 1) k) = HAdd.hAdd (α := EReal) (β := EReal) (γ := EReal) (b (ix2 (0 : Fin 1) k)) (a (ix2 (0 : Fin 1) k)) := by
  unfold k0_pay4
  pointwise

section Reference

open Cert.DxInRefIdeal.Read

variable (x0 : (⟨S2048x3072, .bf16⟩ : BufTy).Contents (Elt Ideal)) (x1 : (⟨S2048x1024, .f32⟩ : BufTy).Contents (Elt Ideal)) (x2 : (⟨S1024, .f32⟩ : BufTy).Contents (Elt Ideal))
  (x3 : (⟨S2048x1024, .f32⟩ : BufTy).Contents (Elt Ideal)) (x4 : (⟨S1024x3072, .f32⟩ : BufTy).Contents (Elt Ideal))

theorem ref6 (r : Fin 2048) : val_main_v6 (F := Ideal) x1 (ix2 r (0 : Fin 1)) = meanSq N1024 eps fun k : Fin 1024 => (x1 (ix2 r k) : EReal) := by
  unfold val_main_v6 val_main_v5 val_main_cst_1 val_main_v4 val_main_v3 val_main_cst_0 val_main_v2 val_main_v1 val_main_cst val_main_v0
  pointwise
  rfl

theorem ref7 (r : Fin 2048) : val_main_v7 (F := Ideal) x1 (ix2 r (0 : Fin 1)) = Ideal.rsqrt (meanSq N1024 eps fun k : Fin 1024 => (x1 (ix2 r k) : EReal)) := by
  unfold val_main_v7
  pointwise
  rw [ref6]

theorem ref18 (r : Fin 2048) (n : Fin 1024) : val_main_v18 (F := Ideal) x0 x4 (ix2 r n) = dh x0 x4 r n := by
  unfold val_main_v18 val_main_v17
  pointwise
  rfl

theorem ref23 (r : Fin 2048) (n : Fin 1024) : val_main_v23 (F := Ideal) x0 x2 x4 (ix2 r n) = dh x0 x4 r n * (x2 (ix1 n) : EReal) := by
  unfold val_main_v23 val_main_v22 val_main_v13
  pointwise
  rw [ref18]

theorem ref34 (r : Fin 2048) : val_main_v34 (F := Ideal) x0 x1 x2 x4 (ix1 r)
    = slope N1024 half eps (fun k : Fin 1024 => (x1 (ix2 r k) : EReal)) (fun k : Fin 1024 => dh x0 x4 r k * (x2 (ix1 k) : EReal)) := by
  unfold val_main_v34 val_main_cst_7 val_main_v33 val_main_v32 val_main_cst_6 val_main_v31 val_main_v27 val_main_v26 val_main_cst_5 val_main_v25 val_main_v10 val_main_v9 val_main_cst_2 val_main_v8
  pointwise
  simp only [ref23]
  refine (Fin.sum_univ_one _).trans ?_
  rw [ref7, ref6]
  rfl

theorem ref39 (r : Fin 2048) (n : Fin 1024) : val_main_v39 (F := Ideal) x0 x1 x2 x3 x4 (ix2 r n)
    = second N1024 half eps (fun k : Fin 1024 => (x1 (ix2 r k) : EReal)) (fun k : Fin 1024 => dh x0 x4 r k * (x2 (ix1 k) : EReal)) (x3 (ix2 r n)) n := by
  unfold val_main_v39 val_main_v38 val_main_v37 val_main_v36 val_main_v35 val_main_v30 val_main_v29 val_main_v28
  pointwise
  rw [ref34, ref23, ref7]
  rfl

theorem ref41 (n : Fin 1024) :
    val_main_v41 (F := Ideal) x0 x1 x4 (ix2 (0 : Fin 1) n) = ∑ r : Fin 2048, (x1 (ix2 r n) : EReal) * Ideal.rsqrt (meanSq N1024 eps fun k : Fin 1024 => (x1 (ix2 r k) : EReal)) * dh x0 x4 r n := by
  unfold val_main_v41 val_main_v24 val_main_cst_4 val_main_v21 val_main_v20 val_main_cst_3 val_main_v19 val_main_v12 val_main_v11
  pointwise
  simp only [ref7, ref18]
  exact Fin.sum_univ_one _

end Reference

theorem last7 : ∀ t : Fin cfg0.N, (cfg0.win 7).flush t = true → t.val % 4 = 3 := by decide +kernel
theorem last8 : ∀ t : Fin cfg0.N, (cfg0.win 8).flush t = true → t.val % 4 = 3 := by decide +kernel
theorem last9 : ∀ t : Fin cfg0.N, (cfg0.win 9).flush t = true → t.val = 7 := by decide +kernel

theorem dx_at (t : Fin cfg0.N) (s : Vec Ideal S1024x1024 .f32)
    (hs : ∀ r k : Fin 1024, s (ix2 r k) = dh (m ((c : Thread nD τ).loc main_arg0)) (m ((c : Thread nD τ).loc main_arg4)) (⟨1024 * (t.val / 4) + r.val, by have : t.val < 8 := t.isLt; omega⟩ : Fin 2048) k) (r n : Fin 1024) :
    k0_pay8 (iblk m c 5 t) (iblk m c 1 t) s (iblk m c 6 t) (ix2 r n)
      = Cert.DxInRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (ix2 (⟨1024 * (t.val / 4) + r.val, by have : t.val < 8 := t.isLt; omega⟩ : Fin 2048) n) := by
  rw [first_at, ref39, ← agree N1024 half eps n_f32 half_f32 eps_f32]
  have e6 := fun k : Fin 1024 => blk5 m c t r k (ix2 (⟨1024 * (t.val / 4) + r.val, by have : t.val < 8 := t.isLt; omega⟩ : Fin 2048) k) rfl rfl
  have e7 := fun k : Fin 1024 => blk6 m c t r k (ix2 (⟨1024 * (t.val / 4) + r.val, by have : t.val < 8 := t.isLt; omega⟩ : Fin 2048) k) rfl rfl
  have e1 := fun k : Fin 1024 => blk1 m c t k
  simp only [e6, e7, e1, hs]

theorem final7 : (dats m 0 c).arrAt 7 cfg0.N = Cert.DxInRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  obtain ⟨r, n, rfl⟩ : ∃ (r : Fin 1024) (n : Fin 1024), y = ix2 r n := ⟨y 0, y 1, by funext a; match a with | ⟨0, _⟩ => rfl | ⟨1, _⟩ => rfl⟩
  have ht : t.val < 8 := t.isLt
  have ⟨a0, a1⟩ := at7 t
  have he : ((View.whole main_v8_0).slice (win0_7.rect t)).emb (ix2 r n) = ix2 (⟨1024 * (t.val / 4) + r.val, by omega⟩ : Fin 2048) n := by
    funext a
    refine Fin.ext ?_
    match a with
    | ⟨0, _⟩ => show cc0_transform_7 (grid0.coords t) 0 * 1024 + 1 * r.val = _; rw [a0]; show _ = 1024 * (t.val / 4) + r.val; omega
    | ⟨1, _⟩ => show cc0_transform_7 (grid0.coords t) 1 * 1024 + 1 * n.val = _; rw [a1]; show _ = n.val; omega
  rw [he]
  obtain ⟨s, hs, e8, -⟩ := outs m c t (last7 t hf)
  rw [e8]
  exact dx_at m c t s hs r n

theorem final8 : (dats m 0 c).arrAt 8 cfg0.N = Cert.DxInRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, n, rfl⟩ : ∃ (r : Fin 1024) (n : Fin 1024), y = ix2 r n := ⟨y 0, y 1, by funext a; match a with | ⟨0, _⟩ => rfl | ⟨1, _⟩ => rfl⟩
  have ht : t.val < 8 := t.isLt
  have ⟨a0, a1⟩ := at8 t
  have he : ((View.whole main_v8_1).slice (win0_8.rect t)).emb (ix2 r n) = ix2 (⟨1024 * (t.val / 4) + r.val, by omega⟩ : Fin 2048) n := by
    funext a
    refine Fin.ext ?_
    match a with
    | ⟨0, _⟩ => show cc0_transform_8 (grid0.coords t) 0 * 1024 + 1 * r.val = _; rw [a0]; show _ = 1024 * (t.val / 4) + r.val; omega
    | ⟨1, _⟩ => show cc0_transform_8 (grid0.coords t) 1 * 1024 + 1 * n.val = _; rw [a1]; show _ = n.val; omega
  rw [he]
  obtain ⟨s, hs, -, e9, -⟩ := outs m c t (last8 t hf)
  rw [e9, copy_eq]
  exact dx_at m c t s hs r n

/-- The column sums of one tile. -/
theorem dg_at (t : Fin cfg0.N) (s : Vec Ideal S1024x1024 .f32)
    (hs : ∀ r k : Fin 1024, s (ix2 r k) = dh (m ((c : Thread nD τ).loc main_arg0)) (m ((c : Thread nD τ).loc main_arg4)) (⟨1024 * (t.val / 4) + r.val, by have : t.val < 8 := t.isLt; omega⟩ : Fin 2048) k)
    (x0 : (⟨S2048x3072, .bf16⟩ : BufTy).Contents (Elt Ideal)) (x1 : (⟨S2048x1024, .f32⟩ : BufTy).Contents (Elt Ideal)) (x4 : (⟨S1024x3072, .f32⟩ : BufTy).Contents (Elt Ideal))
    (h0 : x0 = m ((c : Thread nD τ).loc main_arg0)) (h1 : x1 = m ((c : Thread nD τ).loc main_arg1)) (h4 : x4 = m ((c : Thread nD τ).loc main_arg4)) (n : Fin 1024) :
    k0_pay7 (iblk m c 5 t) s (ix2 (0 : Fin 1) n) = ∑ r : Fin 1024, (fun r : Fin 2048 => (x1 (ix2 r n) : EReal) * Ideal.rsqrt (meanSq N1024 eps fun k : Fin 1024 => (x1 (ix2 r k) : EReal)) * dh x0 x4 r n)
      (⟨1024 * (t.val / 4) + r.val, by have : t.val < 8 := t.isLt; omega⟩ : Fin 2048) := by
  subst h0 h1 h4
  rw [columns_at]
  refine Finset.sum_congr rfl fun r _ => ?_
  have e6 := fun k : Fin 1024 => blk5 m c t r k (ix2 (⟨1024 * (t.val / 4) + r.val, by have : t.val < 8 := t.isLt; omega⟩ : Fin 2048) k) rfl rfl
  simp only [e6, hs]
  exact mul_comm _ _

theorem pt (n : ℕ) (h : n < 8) : n < cfg0.N := lt_of_lt_of_eq h (show 8 = cfg0.N from N_0.symm)

theorem final9 : (dats m 0 c).arrAt 9 cfg0.N = Cert.DxInRefIdeal.Read.val_main_v41 (F := Ideal) (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9]
  obtain ⟨n, rfl⟩ : ∃ (n : Fin 1024), y = ix2 (0 : Fin 1) n := ⟨y 1, by
    funext a
    match a with
    | ⟨0, _⟩ => exact Fin.ext (by have : (y 0).val < 1 := (y 0).isLt; show (y 0).val = 0; omega)
    | ⟨1, _⟩ => rfl⟩
  have ⟨a0, a1⟩ := at9 t
  have he : ((View.whole main_v8_2).slice (win0_9.rect t)).emb (ix2 (0 : Fin 1) n) = ix2 (0 : Fin 1) n := by
    funext a
    refine Fin.ext ?_
    match a with
    | ⟨0, _⟩ => show cc0_transform_9 (grid0.coords t) 0 * 1 + 1 * 0 = 0; rw [a0]
    | ⟨1, _⟩ => show cc0_transform_9 (grid0.coords t) 1 * 1024 + 1 * n.val = n.val; rw [a1]; omega
  rw [he, ref41, sum_tiles]
  obtain rfl : t = ⟨7, pt 7 (by decide)⟩ := Fin.ext (last9 t hf)
  obtain ⟨s7, hs7, -, -, -, e7⟩ := outs m c ⟨7, pt 7 (by decide)⟩ rfl
  obtain ⟨s3, hs3, -, -, e3, -⟩ := outs m c ⟨3, pt 3 (by decide)⟩ rfl
  have e7 := e7 (by dsimp only; omega)
  have e3 := e3 (by dsimp only; omega)
  have e6 := hold_B m c ⟨6, pt 6 (by decide)⟩ (by dsimp only; omega) (by dsimp only; omega)
  have e5 := hold_B m c ⟨5, pt 5 (by decide)⟩ (by dsimp only; omega) (by dsimp only; omega)
  have e4 := hold_A m c ⟨4, pt 4 (by decide)⟩ rfl (le_refl _)
  refine (congrFun (e7.trans (congrArg (k0_pay4 (F := Ideal) _) (e6.trans (e5.trans (e4.trans e3))))) (ix2 (0 : Fin 1) n)).trans ?_
  rw [add_at, dg_at m c ⟨7, pt 7 (by decide)⟩ s7 hs7 _ _ _ rfl rfl rfl, dg_at m c ⟨3, pt 3 (by decide)⟩ s3 hs3 _ _ _ rfl rfl rfl]
  refine congr (congrArg _ (Finset.sum_congr rfl fun r _ => ?_)) rfl
  have hz : (⟨1024 * (3 / 4) + r.val, by omega⟩ : Fin 2048) = ⟨r.val, by omega⟩ := Fin.ext (by show 1024 * (3 / 4) + r.val = r.val; omega)
  dsimp only
  rw [hz]

end Cert.DxInIdeal.Eq

end
-- ==== Proof.DwInEq.lean ====
module
public import proofs.«01_k».proof.Proof.Gen.DwInIdeal.Value
public import proofs.«01_k».proof.Proof.Gen.DwInRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwInIdeal.Eq

open Idealize.ShloMosaic Idealize.ShloMosaic.TcCoe Cert.DwInIdeal.Gen Finset
open Cert.DwInIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = 0 := by decide +kernel
theorem at1 : ∀ t : Fin grid0.N, cc0_transform_2 (grid0.coords t) 0 = 0 ∧ cc0_transform_2 (grid0.coords t) 1 = t.val := by decide +kernel
theorem at2 : ∀ t : Fin grid0.N, cc0_transform_3 (grid0.coords t) 0 = t.val / 3 ∧ cc0_transform_3 (grid0.coords t) 1 = 8 + t.val % 3 ∧ cc0_transform_3 (grid0.coords t) 2 = 0 := by decide +kernel

theorem blk0 (t : Fin cfg0.N) (r : Fin 2048) (k : Fin 1024) (i : S2048x1024.Idx) (h0 : (i 0).val = r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 1024 + 1 * k.val = (i 1).val; rw [a1, h1]; omega

theorem blk1 (t : Fin cfg0.N) (r : Fin 2048) (k : Fin 256) (i : S2048x3072.Idx) (h0 : (i 0).val = r.val) (h1 : (i 1).val = 256 * t.val + k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 256 + 1 * k.val = (i 1).val; rw [a1, h1]; omega

theorem kept : V m c main_v0 = m ((c : Thread nD τ).loc main_arg2) := by
  unfold V
  simp only [hostOps0]
  after_reads_simp
  rfl

open Cert.DwInRefIdeal.Read in
/-- The reference's gradient at an index of its rows of slab `a`, part `b`. -/
theorem ref_at (x0 : (⟨S2048x1024, .bf16⟩ : BufTy).Contents (Elt Ideal)) (x1 : (⟨S2048x3072, .bf16⟩ : BufTy).Contents (Elt Ideal)) (x2 : (⟨S4x13568x256, .bf16⟩ : BufTy).Contents (Elt Ideal))
    (a : Fin 4) (b : Fin 3) (r : Fin 1024) (k : Fin 256) (i : S4x13568x256.Idx) (h0 : (i 0).val = a.val) (h1 : (i 1).val = 8192 + (1024 * b.val + r.val)) (h2 : (i 2).val = k.val) :
    val_main_v12 (F := Ideal) x0 x1 x2 i
      = ∑ x : Fin 2048, (x0 (ix2 x r) : EReal) * (x1 (ix2 x (⟨256 * (3 * a.val + b.val) + k.val, by omega⟩ : Fin 3072)) : EReal) := by
  unfold val_main_v12
  refine (concatenate_apply_piece (t := S4x13568x256) (1 : Fin 3) _ _ _ 1 (by exact Nat.lt_of_sub_eq_succ rfl) Cert.DwInRefIdeal.S4x3072x256 _ (by rfl) rfl 8192 (by rfl) (ix3 a (⟨1024 * b.val + r.val, by omega⟩ : Fin 3072) k) (fun d hd => ?_) ?_).trans ?_
  · match d with
    | ⟨0, _⟩ => exact h0.symm
    | ⟨1, _⟩ => exact absurd rfl hd
    | ⟨2, _⟩ => exact h2.symm
  · exact h1.symm
  refine (shapeCast_apply _ _ _ (ix4 a b r k) ?_).trans ?_
  · rw [Shape.rowMajor_val_four, Shape.rowMajor_val_three]
    show ((a.val * 3 + b.val) * 1024 + r.val) * 256 + k.val = (a.val * 3072 + (1024 * b.val + r.val)) * 256 + k.val
    omega
  refine (transpose_apply _ _ _ _ (ix4 r a b k) fun d => ?_).trans ?_
  · match d with
    | ⟨0, _⟩ => rfl
    | ⟨1, _⟩ => rfl
    | ⟨2, _⟩ => rfl
    | ⟨3, _⟩ => rfl
  refine (shapeCast_apply _ _ _ (ix2 r (⟨256 * (3 * a.val + b.val) + k.val, by omega⟩ : Fin 3072)) ?_).trans ?_
  · rw [Shape.rowMajor_val_four, Shape.rowMajor_val_two]
    show r.val * 3072 + (256 * (3 * a.val + b.val) + k.val) = ((r.val * 4 + a.val) * 3 + b.val) * 256 + k.val
    omega
  unfold val_main_v6 val_main_v5 val_main_v4 val_main_v3 val_main_v1
  pointwise
  exact Finset.sum_congr rfl fun x _ => mul_comm _ _

open Cert.DwInRefIdeal.Read in
/-- The rows above and below the gradient are those of the third argument. -/
theorem ref_rest (x0 : (⟨S2048x1024, .bf16⟩ : BufTy).Contents (Elt Ideal)) (x1 : (⟨S2048x3072, .bf16⟩ : BufTy).Contents (Elt Ideal)) (x2 : (⟨S4x13568x256, .bf16⟩ : BufTy).Contents (Elt Ideal))
    (i : S4x13568x256.Idx) (h : (i 1).val < 8192 ∨ 11264 ≤ (i 1).val) : val_main_v12 (F := Ideal) x0 x1 x2 i = x2 i := by
  have hi : (i 1).val < 13568 := (i 1).isLt
  unfold val_main_v12
  rcases h with h | h
  · refine (concatenate_apply_piece (t := S4x13568x256) (1 : Fin 3) _ _ _ 0 (by exact Nat.lt_of_sub_eq_succ rfl) Cert.DwInRefIdeal.S4x8192x256 _ (by rfl) rfl 0 (by rfl) (ix3 (i 0 : Fin 4) (⟨(i 1).val, h⟩ : Fin 8192) (i 2 : Fin 256)) (fun d hd => ?_) ?_).trans ?_
    · match d with
      | ⟨0, _⟩ => rfl
      | ⟨1, _⟩ => exact absurd rfl hd
      | ⟨2, _⟩ => rfl
    · exact Nat.zero_add _
    · unfold val_main_v7
      refine congrArg x2 (funext fun d => Fin.ext ?_)
      match d with
      | ⟨0, _⟩ => show 0 + (i 0).val = (i 0).val; omega
      | ⟨1, _⟩ => show 0 + (i 1).val = (i 1).val; omega
      | ⟨2, _⟩ => show 0 + (i 2).val = (i 2).val; omega
  · refine (concatenate_apply_piece (t := S4x13568x256) (1 : Fin 3) _ _ _ 2 (by exact Nat.lt_of_sub_eq_succ rfl) Cert.DwInRefIdeal.S4x2304x256 _ (by rfl) rfl 11264 (by rfl) (ix3 (i 0 : Fin 4) (⟨(i 1).val - 11264, by omega⟩ : Fin 2304) (i 2 : Fin 256)) (fun d hd => ?_) ?_).trans ?_
    · match d with
      | ⟨0, _⟩ => rfl
      | ⟨1, _⟩ => exact absurd rfl hd
      | ⟨2, _⟩ => rfl
    · show 11264 + ((i 1).val - 11264) = (i 1).val; omega
    · unfold val_main_v11
      refine congrArg x2 (funext fun d => Fin.ext ?_)
      match d with
      | ⟨0, _⟩ => show 0 + (i 0).val = (i 0).val; omega
      | ⟨1, _⟩ => show 11264 + ((i 1).val - 11264) = (i 1).val; omega
      | ⟨2, _⟩ => show 0 + (i 2).val = (i 2).val; omega

theorem final : (dats m 0 c).arrAt 2 cfg0.N = Cert.DwInRefIdeal.Read.val_main_v12 (F := Ideal) (m ((c : Thread nD τ).loc main_arg0)) (m ((c : Thread nD τ).loc main_arg1)) (m ((c : Thread nD τ).loc main_arg2)) := by
  have h : (dats m 0 c).arrAt 2 cfg0.N = fun i : S4x13568x256.Idx => if 8 ≤ (i 1 : ℕ) / 1024 ∧ (i 1 : ℕ) / 1024 < 11 then Cert.DwInRefIdeal.Read.val_main_v12 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => 8 ≤ β (1 : Fin _) ∧ β (1 : Fin _) < 11) (by decide +kernel) (fun t hf y => ?_) (fun j => Iff.rfl)
    blk_simp
    rw [after0_2]
    unfold outsAt0
    frame_out
    have ht : t.val < 12 := t.isLt
    have ⟨a0, a1, a2⟩ := at2 t
    have e0 : (((View.whole main_v0).slice (win0_2.rect t)).emb y 0).val = t.val / 3 + (y 0).val := by
      show cc0_transform_3 (grid0.coords t) 0 * 1 + 1 * (y 0).val = _; rw [a0]; omega
    have e1 : (((View.whole main_v0).slice (win0_2.rect t)).emb y 1).val = 8192 + (1024 * (t.val % 3) + (y 1).val) := by
      show cc0_transform_3 (grid0.coords t) 1 * 1024 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x1024x256.Idx) 0).val = (y 0).val := rfl
    have z1 : (((win0 2).xinj (grid0.coords t) y : S1x1024x256.Idx) 1).val = (y 1).val := rfl
    have z2 : (((win0 2).xinj (grid0.coords t) y : S1x1024x256.Idx) 2).val = (y 2).val := rfl
    generalize ((View.whole main_v0).slice (win0_2.rect t)).emb y = i at *
    generalize ((win0 2).xinj (grid0.coords t) y : S1x1024x256.Idx) = x at *
    have l0 : (x 0).val < 1 := (x 0).isLt
    show @Eq EReal _ _
    refine Eq.trans ?_ (ref_at _ _ _ (⟨t.val / 3, by omega⟩ : Fin 4) (⟨t.val % 3, by omega⟩ : Fin 3) (x 1 : Fin 1024) (x 2 : Fin 256) i (by show _ = t.val / 3; omega) (by show _ = 8192 + (1024 * (t.val % 3) + (x 1).val); omega) (by omega)).symm
    obtain ⟨o, r, k, rfl⟩ : ∃ (o : Fin 1) (r : Fin 1024) (k : Fin 256), x = ix3 o r k := ⟨x 0, x 1, x 2, by funext a; match a with | ⟨0, _⟩ => rfl | ⟨1, _⟩ => rfl | ⟨2, _⟩ => rfl⟩
    unfold k0_pay1
    pointwise
    exact Finset.sum_congr rfl fun x _ => congr (congrArg _ (blk0 m c t _ _ _ rfl rfl)) (blk1 m c t _ _ _ rfl (by show 256 * (3 * (t.val / 3) + t.val % 3) + k.val = 256 * t.val + k.val; omega))
  rw [h]
  funext i
  show (if 8 ≤ (i 1 : ℕ) / 1024 ∧ (i 1 : ℕ) / 1024 < 11 then _ else _) = _
  split_ifs with hi
  · rfl
  · rw [kept]
    exact (ref_rest _ _ _ i (by omega)).symm

end Cert.DwInIdeal.Eq

end
-- ==== Proof.OutEq.lean ====
module
public import proofs.«01_k».proof.Proof.Gen.OutIdeal.Value
public import proofs.«01_k».proof.Proof.Gen.OutRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.OutIdeal.Eq

open Idealize.ShloMosaic Idealize.ShloMosaic.TcCoe Cert.OutIdeal.Gen Finset
open Cert.OutIdeal.Value

variable (m : (ℓ : Loc nD τ sig) → Buf (Elt Ideal) ℓ) (c : Dev nD)

theorem at1 : ∀ t : Fin grid0.N, cc0_transform_1 (grid0.coords t) 0 = 0 ∧ cc0_transform_1 (grid0.coords t) 1 = 44 + t.val % 4 ∧ cc0_transform_1 (grid0.coords t) 2 = 0 := by decide +kernel
theorem at2 : ∀ t : Fin grid0.N, cc0_transform_2 (grid0.coords t) 0 = 1 ∧ cc0_transform_2 (grid0.coords t) 1 = 44 + t.val % 4 ∧ cc0_transform_2 (grid0.coords t) 2 = 0 := by decide +kernel
theorem at3 : ∀ t : Fin grid0.N, cc0_transform_3 (grid0.coords t) 0 = 2 ∧ cc0_transform_3 (grid0.coords t) 1 = 44 + t.val % 4 ∧ cc0_transform_3 (grid0.coords t) 2 = 0 := by decide +kernel
theorem at4 : ∀ t : Fin grid0.N, cc0_transform_4 (grid0.coords t) 0 = 3 ∧ cc0_transform_4 (grid0.coords t) 1 = 44 + t.val % 4 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel
theorem at6 : ∀ t : Fin grid0.N, cc0_transform_6 (grid0.coords t) 0 = t.val / 4 ∧ cc0_transform_6 (grid0.coords t) 1 = t.val % 4 := by decide +kernel

theorem packed : V m c main_v6 = concatenate S4x13568x256 1 [⟨S4x11264x256, broadcastInDim S4x11264x256 ![] bcast_S_S4x11264x256 (constant (F := Ideal) S_ .bf16 0x0000#16)⟩,
      ⟨S4x1024x256, shapeCast S4x1024x256 (transpose S4x4x256x256 [0, 2, 1, 3] (shapeCast S4x256x4x256 (truncf (F := Ideal) .bf16 (m ((c : Thread nD τ).loc main_arg2)) bitsLt_bf16_f32) shapeCasts_S1024x1024_S4x256x4x256) transposes_S4x256x4x256_S4x4x256x256_0_2_1_3) shapeCasts_S4x4x256x256_S4x1024x256⟩,
      ⟨S4x1280x256, broadcastInDim S4x1280x256 ![] bcast_S_S4x1280x256 (constant (F := Ideal) S_ .bf16 0x0000#16)⟩] concatenates_S4x11264x256_S4x1024x256_S4x1280x256_S4x13568x256_d1 := by
  unfold V
  simp only [hostOps0]
  after_reads_simp
  rfl

/-- Where the packed buffer holds the weight: slab `a`, rows of its part `b`, is rows of part `a` and columns of part `b`. -/
theorem entry (a b : Fin 4) (r : Fin 256) (k : Fin 256) :
    V m c main_v6 (ix3 a (⟨11264 + (256 * b.val + r.val), by omega⟩ : Fin 13568) k)
      = m ((c : Thread nD τ).loc main_arg2) (ix2 (⟨256 * a.val + r.val, by omega⟩ : Fin 1024) (⟨256 * b.val + k.val, by omega⟩ : Fin 1024)) := by
  rw [packed]
  refine (concatenate_apply_piece (t := S4x13568x256) (1 : Fin 3) _ _ _ 1 (by exact Nat.lt_of_sub_eq_succ rfl) S4x1024x256 _ (by rfl) rfl 11264 (by rfl) (ix3 a (⟨256 * b.val + r.val, by omega⟩ : Fin 1024) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 256 + r.val) * 256 + k.val = (a.val * 1024 + (256 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨256 * a.val + r.val, by omega⟩ : Fin 1024) (⟨256 * b.val + k.val, by omega⟩ : Fin 1024)) ?_).trans ?_
  · rw [Shape.rowMajor_val_four, Shape.rowMajor_val_two]
    show (256 * a.val + r.val) * 1024 + (256 * b.val + k.val) = ((a.val * 256 + r.val) * 4 + b.val) * 256 + k.val
    omega
  rfl

theorem blk0 (t : Fin cfg0.N) (r : Fin 2048) (k : Fin 1024) (i : S2048x1024.Idx) (h0 : (i 0).val = 2048 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 2048 + 1 * r.val = (i 0).val; rw [a0, h0]; omega
  | ⟨1, _⟩ => show cc0_transform_0 (grid0.coords t) 1 * 1024 + 1 * k.val = (i 1).val; rw [a1, h1]; omega

theorem blk5 (t : Fin cfg0.N) (r : Fin 2048) (k : Fin 256) (i : S2048x1024.Idx) (h0 : (i 0).val = 2048 * (t.val / 4) + r.val) (h1 : (i 1).val = 256 * (t.val % 4) + k.val) :
    iblk m c 5 t (ix2 r k) = m ((c : Thread nD τ).loc main_arg1) i := by
  rw [← V_main_arg1 m c]
  unfold iblk
  have ⟨a0, a1⟩ := at5 t
  refine congrArg (V m c main_arg1) (funext fun a => Fin.ext ?_)
  match a with
  | ⟨0, _⟩ => show cc0_transform_5 (grid0.coords t) 0 * 2048 + 1 * r.val = (i 0).val; rw [a0, h0]; omega
  | ⟨1, _⟩ => show cc0_transform_5 (grid0.coords t) 1 * 256 + 1 * k.val = (i 1).val; rw [a1, h1]; omega

theorem blk1 (t : Fin cfg0.N) (r : Fin 256) (k : Fin 256) (i : S1024x1024.Idx) (h0 : (i 0).val = 0 + r.val) (h1 : (i 1).val = 256 * (t.val % 4) + k.val) :
    iblk m c 1 t (ix3 (0 : Fin 1) r k) = m ((c : Thread nD τ).loc main_arg2) i := by
  have hi : i = ix2 (⟨256 * 0 + r.val, by omega⟩ : Fin 1024) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨0, by omega⟩ ⟨t.val % 4, by omega⟩ r k)
  unfold iblk
  have ⟨a0, a1, a2⟩ := at1 t
  refine congrArg (V m c main_v6) (funext fun a => Fin.ext ?_)
  match a with
  | ⟨0, _⟩ => show cc0_transform_1 (grid0.coords t) 0 * 1 + 1 * 0 = 0; rw [a0]
  | ⟨1, _⟩ => show cc0_transform_1 (grid0.coords t) 1 * 256 + 1 * r.val = 11264 + (256 * (t.val % 4) + r.val); rw [a1]; omega
  | ⟨2, _⟩ => show cc0_transform_1 (grid0.coords t) 2 * 256 + 1 * k.val = k.val; rw [a2]; omega

theorem blk2 (t : Fin cfg0.N) (r : Fin 256) (k : Fin 256) (i : S1024x1024.Idx) (h0 : (i 0).val = 256 + r.val) (h1 : (i 1).val = 256 * (t.val % 4) + k.val) :
    iblk m c 2 t (ix3 (0 : Fin 1) r k) = m ((c : Thread nD τ).loc main_arg2) i := by
  have hi : i = ix2 (⟨256 * 1 + r.val, by omega⟩ : Fin 1024) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨1, by omega⟩ ⟨t.val % 4, by omega⟩ r k)
  unfold iblk
  have ⟨a0, a1, a2⟩ := at2 t
  refine congrArg (V m c main_v6) (funext fun a => Fin.ext ?_)
  match a with
  | ⟨0, _⟩ => show cc0_transform_2 (grid0.coords t) 0 * 1 + 1 * 0 = 1; rw [a0]
  | ⟨1, _⟩ => show cc0_transform_2 (grid0.coords t) 1 * 256 + 1 * r.val = 11264 + (256 * (t.val % 4) + r.val); rw [a1]; omega
  | ⟨2, _⟩ => show cc0_transform_2 (grid0.coords t) 2 * 256 + 1 * k.val = k.val; rw [a2]; omega

theorem blk3 (t : Fin cfg0.N) (r : Fin 256) (k : Fin 256) (i : S1024x1024.Idx) (h0 : (i 0).val = 512 + r.val) (h1 : (i 1).val = 256 * (t.val % 4) + k.val) :
    iblk m c 3 t (ix3 (0 : Fin 1) r k) = m ((c : Thread nD τ).loc main_arg2) i := by
  have hi : i = ix2 (⟨256 * 2 + r.val, by omega⟩ : Fin 1024) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨2, by omega⟩ ⟨t.val % 4, by omega⟩ r k)
  unfold iblk
  have ⟨a0, a1, a2⟩ := at3 t
  refine congrArg (V m c main_v6) (funext fun a => Fin.ext ?_)
  match a with
  | ⟨0, _⟩ => show cc0_transform_3 (grid0.coords t) 0 * 1 + 1 * 0 = 2; rw [a0]
  | ⟨1, _⟩ => show cc0_transform_3 (grid0.coords t) 1 * 256 + 1 * r.val = 11264 + (256 * (t.val % 4) + r.val); rw [a1]; omega
  | ⟨2, _⟩ => show cc0_transform_3 (grid0.coords t) 2 * 256 + 1 * k.val = k.val; rw [a2]; omega

theorem blk4 (t : Fin cfg0.N) (r : Fin 256) (k : Fin 256) (i : S1024x1024.Idx) (h0 : (i 0).val = 768 + r.val) (h1 : (i 1).val = 256 * (t.val % 4) + k.val) :
    iblk m c 4 t (ix3 (0 : Fin 1) r k) = m ((c : Thread nD τ).loc main_arg2) i := by
  have hi : i = ix2 (⟨256 * 3 + r.val, by omega⟩ : Fin 1024) (⟨256 * (t.val % 4) + k.val, by omega⟩ : Fin 1024) := by
    funext a; match a with | ⟨0, _⟩ => exact Fin.ext h0 | ⟨1, _⟩ => exact Fin.ext h1
  rw [hi]
  refine Eq.trans ?_ (entry m c ⟨3, by omega⟩ ⟨t.val % 4, by omega⟩ r k)
  unfold iblk
  have ⟨a0, a1, a2⟩ := at4 t
  refine congrArg (V m c main_v6) (funext fun a => Fin.ext ?_)
  match a with
  | ⟨0, _⟩ => show cc0_transform_4 (grid0.coords t) 0 * 1 + 1 * 0 = 3; rw [a0]
  | ⟨1, _⟩ => show cc0_transform_4 (grid0.coords t) 1 * 256 + 1 * r.val = 11264 + (256 * (t.val % 4) + r.val); rw [a1]; omega
  | ⟨2, _⟩ => show cc0_transform_4 (grid0.coords t) 2 * 256 + 1 * k.val = k.val; rw [a2]; omega

/-- A sum over 1024 is four sums over 256. -/
theorem sum_slabs (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- The reference at an index. -/
theorem ref_at (x0 : (⟨S2048x1024, .bf16⟩ : BufTy).Contents (Elt Ideal)) (x1 : (⟨S2048x1024, .f32⟩ : BufTy).Contents (Elt Ideal)) (x2 : (⟨S1024x1024, .f32⟩ : BufTy).Contents (Elt Ideal)) (r : Fin 2048) (n : Fin 1024) :
    Cert.OutRefIdeal.Read.val_main_v2 (F := Ideal) x0 x1 x2 (ix2 r n)
      = (x1 (ix2 r n) : EReal) + ∑ x : Fin 1024, (x0 (ix2 r x) : EReal) * (x2 (ix2 x n) : EReal) := by
  unfold Cert.OutRefIdeal.Read.val_main_v2 Cert.OutRefIdeal.Read.val_main_v1 Cert.OutRefIdeal.Read.val_main_v0
  pointwise

theorem final : (dats m 0 c).arrAt 6 cfg0.N = Cert.OutRefIdeal.Read.val_main_v2 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  obtain ⟨r, n, rfl⟩ : ∃ (r : Fin 2048) (n : Fin 256), y = ix2 r n := ⟨y 0, y 1, by funext a; match a with | ⟨0, _⟩ => rfl | ⟨1, _⟩ => rfl⟩
  have ht : t.val < 4 := t.isLt
  have ⟨a0, a1⟩ := at6 t
  have he : ((View.whole main_v7).slice (win0_6.rect t)).emb (ix2 r n) = ix2 (⟨2048 * (t.val / 4) + r.val, by omega⟩ : Fin 2048) (⟨256 * (t.val % 4) + n.val, by omega⟩ : Fin 1024) := by
    funext a
    refine Fin.ext ?_
    match a with
    | ⟨0, _⟩ => show cc0_transform_6 (grid0.coords t) 0 * 2048 + 1 * r.val = _; rw [a0]; show _ = 2048 * (t.val / 4) + r.val; omega
    | ⟨1, _⟩ => show cc0_transform_6 (grid0.coords t) 1 * 256 + 1 * n.val = _; rw [a1]; show _ = 256 * (t.val % 4) + n.val; omega
  rw [he]
  refine Eq.trans ?_ (ref_at _ _ _ _ _).symm
  unfold k0_pay1
  pointwise
  rw [add_comm, sum_slabs, blk5 m c t r n (ix2 (⟨2048 * (t.val / 4) + r.val, by omega⟩ : Fin 2048) (⟨256 * (t.val % 4) + n.val, by omega⟩ : Fin 1024)) rfl rfl]
  refine congr rfl ?_
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ (Nat.zero_add _).symm rfl
  · exact blk2 m c t _ _ _ rfl rfl
  · exact blk3 m c t _ _ _ rfl rfl
  · exact blk4 m c t _ _ _ rfl rfl

end Cert.OutIdeal.Eq

end
-- ==== Proof.DxOutEq.lean ====
module
public import proofs.«01_k».proof.Proof.Gen.DxOutIdeal.Value
public import proofs.«01_k».proof.Proof.Gen.DxOutRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxOutIdeal.Eq

open Idealize.ShloMosaic Idealize.ShloMosaic.TcCoe Cert.DxOutIdeal.Gen Finset
open Cert.DxOutIdeal.Value

variable (m : (ℓ : Loc nD τ sig) → Buf (Elt Ideal) ℓ) (c : Dev nD)

theorem at1 : ∀ t : Fin grid0.N, cc0_transform_1 (grid0.coords t) 0 = t.val % 4 ∧ cc0_transform_1 (grid0.coords t) 1 = 44 ∧ cc0_transform_1 (grid0.coords t) 2 = 0 := by decide +kernel
theorem at2 : ∀ t : Fin grid0.N, cc0_transform_2 (grid0.coords t) 0 = t.val % 4 ∧ cc0_transform_2 (grid0.coords t) 1 = 45 ∧ cc0_transform_2 (grid0.coords t) 2 = 0 := by decide +kernel
theorem at3 : ∀ t : Fin grid0.N, cc0_transform_3 (grid0.coords t) 0 = t.val % 4 ∧ cc0_transform_3 (grid0.coords t) 1 = 46 ∧ cc0_transform_3 (grid0.coords t) 2 = 0 := by decide +kernel
theorem at4 : ∀ t : Fin grid0.N, cc0_transform_4 (grid0.coords t) 0 = t.val % 4 ∧ cc0_transform_4 (grid0.coords t) 1 = 47 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel

theorem packed : V m c main_v6 = concatenate S4x13568x256 1 [⟨S4x11264x256, broadcastInDim S4x11264x256 ![] bcast_S_S4x11264x256 (constant (F := Ideal) S_ .bf16 0x0000#16)⟩,
      ⟨S4x1024x256, shapeCast S4x1024x256 (transpose S4x4x256x256 [0, 2, 1, 3] (shapeCast S4x256x4x256 (truncf (F := Ideal) .bf16 (m ((c : Thread nD τ).loc main_arg1)) bitsLt_bf16_f32) shapeCasts_S1024x1024_S4x256x4x256) transposes_S4x256x4x256_S4x4x256x256_0_2_1_3) shapeCasts_S4x4x256x256_S4x1024x256⟩,
      ⟨S4x1280x256, broadcastInDim S4x1280x256 ![] bcast_S_S4x1280x256 (constant (F := Ideal) S_ .bf16 0x0000#16)⟩] concatenates_S4x11264x256_S4x1024x256_S4x1280x256_S4x13568x256_d1 := by
  unfold V
  simp only [hostOps0]
  after_reads_simp
  rfl

/-- Where the packed buffer holds the weight: slab `a`, rows of its part `b`, is rows of part `a` and columns of part `b`. -/
theorem entry (a b : Fin 4) (r : Fin 256) (k : Fin 256) :
    V m c main_v6 (ix3 a (⟨11264 + (256 * b.val + r.val), by omega⟩ : Fin 13568) k)
      = m ((c : Thread nD τ).loc main_arg1) (ix2 (⟨256 * a.val + r.val, by omega⟩ : Fin 1024) (⟨256 * b.val + k.val, by omega⟩ : Fin 1024)) := by
  rw [packed]
  refine (concatenate_apply_piece (t := S4x13568x256) (1 : Fin 3) _ _ _ 1 (by exact Nat.lt_of_sub_eq_succ rfl) S4x1024x256 _ (by rfl) rfl 11264 (by rfl) (ix3 a (⟨256 * b.val + r.val, by omega⟩ : Fin 1024) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 256 + r.val) * 256 + k.val = (a.val * 1024 + (256 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨256 * a.val + r.val, by omega⟩ : Fin 1024) (⟨256 * b.val + k.val, by omega⟩ : Fin 1024)) ?_).trans ?_
  · rw [Shape.rowMajor_val_four, Shape.rowMajor_val_two]
    show (256 * a.val + r.val) * 1024 + (256 * b.val + k.val) = ((a.val * 256 + r.val) * 4 + b.val) * 256 + k.val
    omega
  rfl

theorem blk0 (t : Fin cfg0.N) (r : Fin 2048) (k : Fin 1024) (i : S2048x1024.Idx) (h0 : (i 0).val = 2048 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 2048 + 1 * r.val = (i 0).val; rw [a0, h0]; omega
  | ⟨1, _⟩ => show cc0_transform_0 (grid0.coords t) 1 * 1024 + 1 * k.val = (i 1).val; rw [a1, h1]; omega

theorem blk1 (t : Fin cfg0.N) (r : Fin 256) (k : Fin 256) (i : S1024x1024.Idx) (h0 : (i 0).val = 256 * (t.val % 4) + r.val) (h1 : (i 1).val = 0 + k.val) :
    iblk m c 1 t (ix3 (0 : Fin 1) r k) = m ((c : Thread nD τ).loc main_arg1) i := by
  have hi : i = ix2 (⟨256 * (t.val % 4) + r.val, by omega⟩ : Fin 1024) (⟨256 * 0 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold iblk
  have ⟨a0, a1, a2⟩ := at1 t
  refine congrArg (V m c main_v6) (funext fun a => Fin.ext ?_)
  match a with
  | ⟨0, _⟩ => show cc0_transform_1 (grid0.coords t) 0 * 1 + 1 * 0 = t.val % 4; rw [a0]; omega
  | ⟨1, _⟩ => show cc0_transform_1 (grid0.coords t) 1 * 256 + 1 * r.val = 11264 + (256 * 0 + r.val); rw [a1]; omega
  | ⟨2, _⟩ => show cc0_transform_1 (grid0.coords t) 2 * 256 + 1 * k.val = k.val; rw [a2]; omega

theorem blk2 (t : Fin cfg0.N) (r : Fin 256) (k : Fin 256) (i : S1024x1024.Idx) (h0 : (i 0).val = 256 * (t.val % 4) + r.val) (h1 : (i 1).val = 256 + k.val) :
    iblk m c 2 t (ix3 (0 : Fin 1) r k) = m ((c : Thread nD τ).loc main_arg1) i := by
  have hi : i = ix2 (⟨256 * (t.val % 4) + r.val, by omega⟩ : Fin 1024) (⟨256 * 1 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold iblk
  have ⟨a0, a1, a2⟩ := at2 t
  refine congrArg (V m c main_v6) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 256 + 1 * r.val = 11264 + (256 * 1 + r.val); rw [a1]; omega
  | ⟨2, _⟩ => show cc0_transform_2 (grid0.coords t) 2 * 256 + 1 * k.val = k.val; rw [a2]; omega

theorem blk3 (t : Fin cfg0.N) (r : Fin 256) (k : Fin 256) (i : S1024x1024.Idx) (h0 : (i 0).val = 256 * (t.val % 4) + r.val) (h1 : (i 1).val = 512 + k.val) :
    iblk m c 3 t (ix3 (0 : Fin 1) r k) = m ((c : Thread nD τ).loc main_arg1) i := by
  have hi : i = ix2 (⟨256 * (t.val % 4) + r.val, by omega⟩ : Fin 1024) (⟨256 * 2 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold iblk
  have ⟨a0, a1, a2⟩ := at3 t
  refine congrArg (V m c main_v6) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 256 + 1 * r.val = 11264 + (256 * 2 + r.val); rw [a1]; omega
  | ⟨2, _⟩ => show cc0_transform_3 (grid0.coords t) 2 * 256 + 1 * k.val = k.val; rw [a2]; omega

theorem blk4 (t : Fin cfg0.N) (r : Fin 256) (k : Fin 256) (i : S1024x1024.Idx) (h0 : (i 0).val = 256 * (t.val % 4) + r.val) (h1 : (i 1).val = 768 + k.val) :
    iblk m c 4 t (ix3 (0 : Fin 1) r k) = m ((c : Thread nD τ).loc main_arg1) i := by
  have hi : i = ix2 (⟨256 * (t.val % 4) + r.val, by omega⟩ : Fin 1024) (⟨256 * 3 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨3, by omega⟩ r k)
  unfold iblk
  have ⟨a0, a1, a2⟩ := at4 t
  refine congrArg (V m c main_v6) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 256 + 1 * r.val = 11264 + (256 * 3 + r.val); rw [a1]; omega
  | ⟨2, _⟩ => show cc0_transform_4 (grid0.coords t) 2 * 256 + 1 * k.val = k.val; rw [a2]; omega

/-- A sum over 1024 is four sums over 256. -/
theorem sum_slabs (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- The reference at an index. -/
theorem ref_at (x0 : (⟨S2048x1024, .bf16⟩ : BufTy).Contents (Elt Ideal)) (x1 : (⟨S1024x1024, .f32⟩ : BufTy).Contents (Elt Ideal)) (r : Fin 2048) (n : Fin 1024) :
    Cert.DxOutRefIdeal.Read.val_main_v4 (F := Ideal) x0 x1 (ix2 r n) = ∑ x : Fin 1024, (x0 (ix2 r x) : EReal) * (x1 (ix2 n x) : EReal) := by
  unfold Cert.DxOutRefIdeal.Read.val_main_v4 Cert.DxOutRefIdeal.Read.val_main_v3 Cert.DxOutRefIdeal.Read.val_main_v2
  pointwise

theorem final : (dats m 0 c).arrAt 5 cfg0.N = Cert.DxOutRefIdeal.Read.val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, n, rfl⟩ : ∃ (r : Fin 2048) (n : Fin 256), y = ix2 r n := ⟨y 0, y 1, by funext a; match a with | ⟨0, _⟩ => rfl | ⟨1, _⟩ => rfl⟩
  have ht : t.val < 4 := t.isLt
  have ⟨a0, a1⟩ := at5 t
  have he : ((View.whole main_v7).slice (win0_5.rect t)).emb (ix2 r n) = ix2 (⟨2048 * (t.val / 4) + r.val, by omega⟩ : Fin 2048) (⟨256 * (t.val % 4) + n.val, by omega⟩ : Fin 1024) := by
    funext a
    refine Fin.ext ?_
    match a with
    | ⟨0, _⟩ => show cc0_transform_5 (grid0.coords t) 0 * 2048 + 1 * r.val = _; rw [a0]; show _ = 2048 * (t.val / 4) + r.val; omega
    | ⟨1, _⟩ => show cc0_transform_5 (grid0.coords t) 1 * 256 + 1 * n.val = _; rw [a1]; show _ = 256 * (t.val % 4) + n.val; omega
  rw [he]
  refine Eq.trans ?_ (ref_at _ _ _ _).symm
  unfold k0_pay1
  pointwise
  rw [sum_slabs]
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ rfl (Nat.zero_add _).symm
  · exact blk2 m c t _ _ _ rfl rfl
  · exact blk3 m c t _ _ _ rfl rfl
  · exact blk4 m c t _ _ _ rfl rfl

end Cert.DxOutIdeal.Eq

end
-- ==== Proof.DwOutEq.lean ====
module
public import proofs.«01_k».proof.Proof.Gen.DwOutIdeal.Value
public import proofs.«01_k».proof.Proof.Gen.DwOutRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwOutIdeal.Eq

open Idealize.ShloMosaic Idealize.ShloMosaic.TcCoe Cert.DwOutIdeal.Gen Finset
open Cert.DwOutIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = t.val := by decide +kernel
theorem at1 : ∀ t : Fin grid0.N, cc0_transform_2 (grid0.coords t) 0 = 0 ∧ cc0_transform_2 (grid0.coords t) 1 = 0 := by decide +kernel
theorem at2 : ∀ t : Fin grid0.N, cc0_transform_3 (grid0.coords t) 0 = t.val ∧ cc0_transform_3 (grid0.coords t) 1 = 11 ∧ cc0_transform_3 (grid0.coords t) 2 = 0 := by decide +kernel

theorem blk0 (t : Fin cfg0.N) (r : Fin 2048) (k : Fin 256) (i : S2048x1024.Idx) (h0 : (i 0).val = r.val) (h1 : (i 1).val = 256 * t.val + k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 256 + 1 * k.val = (i 1).val; rw [a1, h1]; omega

theorem blk1 (t : Fin cfg0.N) (r : Fin 2048) (k : Fin 1024) (i : S2048x1024.Idx) (h0 : (i 0).val = r.val) (h1 : (i 1).val = k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 1024 + 1 * k.val = (i 1).val; rw [a1, h1]; omega

theorem kept : V m c main_v0 = m ((c : Thread nD τ).loc main_arg2) := by
  unfold V
  simp only [hostOps0]
  after_reads_simp
  rfl

open Cert.DwOutRefIdeal.Read in
/-- The reference's gradient at an index of its rows of slab `a`, part `b`. -/
theorem ref_at (x0 : (⟨S2048x1024, .bf16⟩ : BufTy).Contents (Elt Ideal)) (x1 : (⟨S2048x1024, .bf16⟩ : BufTy).Contents (Elt Ideal)) (x2 : (⟨S4x13568x256, .bf16⟩ : BufTy).Contents (Elt Ideal))
    (a b : Fin 4) (r : Fin 256) (k : Fin 256) (i : S4x13568x256.Idx) (h0 : (i 0).val = a.val) (h1 : (i 1).val = 11264 + (256 * b.val + r.val)) (h2 : (i 2).val = k.val) :
    val_main_v12 (F := Ideal) x0 x1 x2 i
      = ∑ x : Fin 2048, (x0 (ix2 x (⟨256 * a.val + r.val, by omega⟩ : Fin 1024)) : EReal) * (x1 (ix2 x (⟨256 * b.val + k.val, by omega⟩ : Fin 1024)) : EReal) := by
  unfold val_main_v12
  refine (concatenate_apply_piece (t := S4x13568x256) (1 : Fin 3) _ _ _ 1 (by exact Nat.lt_of_sub_eq_succ rfl) Cert.DwOutRefIdeal.S4x1024x256 _ (by rfl) rfl 11264 (by rfl) (ix3 a (⟨256 * b.val + r.val, by omega⟩ : Fin 1024) k) (fun d hd => ?_) ?_).trans ?_
  · match d with
    | ⟨0, _⟩ => exact h0.symm
    | ⟨1, _⟩ => exact absurd rfl hd
    | ⟨2, _⟩ => exact h2.symm
  · exact h1.symm
  refine (shapeCast_apply _ _ _ (ix4 a b r k) ?_).trans ?_
  · rw [Shape.rowMajor_val_four, Shape.rowMajor_val_three]
    show ((a.val * 4 + b.val) * 256 + r.val) * 256 + k.val = (a.val * 1024 + (256 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨256 * a.val + r.val, by omega⟩ : Fin 1024) (⟨256 * b.val + k.val, by omega⟩ : Fin 1024)) ?_).trans ?_
  · rw [Shape.rowMajor_val_four, Shape.rowMajor_val_two]
    show (256 * a.val + r.val) * 1024 + (256 * b.val + k.val) = ((a.val * 256 + r.val) * 4 + b.val) * 256 + k.val
    omega
  unfold val_main_v6 val_main_v5 val_main_v4 val_main_v3 val_main_v1
  pointwise
  exact Finset.sum_congr rfl fun x _ => mul_comm _ _

open Cert.DwOutRefIdeal.Read in
/-- The rows above and below the gradient are those of the third argument. -/
theorem ref_rest (x0 : (⟨S2048x1024, .bf16⟩ : BufTy).Contents (Elt Ideal)) (x1 : (⟨S2048x1024, .bf16⟩ : BufTy).Contents (Elt Ideal)) (x2 : (⟨S4x13568x256, .bf16⟩ : BufTy).Contents (Elt Ideal))
    (i : S4x13568x256.Idx) (h : (i 1).val < 11264 ∨ 12288 ≤ (i 1).val) : val_main_v12 (F := Ideal) x0 x1 x2 i = x2 i := by
  have hi : (i 1).val < 13568 := (i 1).isLt
  unfold val_main_v12
  rcases h with h | h
  · refine (concatenate_apply_piece (t := S4x13568x256) (1 : Fin 3) _ _ _ 0 (by exact Nat.lt_of_sub_eq_succ rfl) Cert.DwOutRefIdeal.S4x11264x256 _ (by rfl) rfl 0 (by rfl) (ix3 (i 0 : Fin 4) (⟨(i 1).val, h⟩ : Fin 11264) (i 2 : Fin 256)) (fun d hd => ?_) ?_).trans ?_
    · match d with
      | ⟨0, _⟩ => rfl
      | ⟨1, _⟩ => exact absurd rfl hd
      | ⟨2, _⟩ => rfl
    · exact Nat.zero_add _
    · unfold val_main_v7
      refine congrArg x2 (funext fun d => Fin.ext ?_)
      match d with
      | ⟨0, _⟩ => show 0 + (i 0).val = (i 0).val; omega
      | ⟨1, _⟩ => show 0 + (i 1).val = (i 1).val; omega
      | ⟨2, _⟩ => show 0 + (i 2).val = (i 2).val; omega
  · refine (concatenate_apply_piece (t := S4x13568x256) (1 : Fin 3) _ _ _ 2 (by exact Nat.lt_of_sub_eq_succ rfl) Cert.DwOutRefIdeal.S4x1280x256 _ (by rfl) rfl 12288 (by rfl) (ix3 (i 0 : Fin 4) (⟨(i 1).val - 12288, by omega⟩ : Fin 1280) (i 2 : Fin 256)) (fun d hd => ?_) ?_).trans ?_
    · match d with
      | ⟨0, _⟩ => rfl
      | ⟨1, _⟩ => exact absurd rfl hd
      | ⟨2, _⟩ => rfl
    · show 12288 + ((i 1).val - 12288) = (i 1).val; omega
    · unfold val_main_v11
      refine congrArg x2 (funext fun d => Fin.ext ?_)
      match d with
      | ⟨0, _⟩ => show 0 + (i 0).val = (i 0).val; omega
      | ⟨1, _⟩ => show 12288 + ((i 1).val - 12288) = (i 1).val; omega
      | ⟨2, _⟩ => show 0 + (i 2).val = (i 2).val; omega

theorem final : (dats m 0 c).arrAt 2 cfg0.N = Cert.DwOutRefIdeal.Read.val_main_v12 (F := Ideal) (m ((c : Thread nD τ).loc main_arg0)) (m ((c : Thread nD τ).loc main_arg1)) (m ((c : Thread nD τ).loc main_arg2)) := by
  have h : (dats m 0 c).arrAt 2 cfg0.N = fun i : S4x13568x256.Idx => if (i 1 : ℕ) / 1024 = 11 then Cert.DwOutRefIdeal.Read.val_main_v12 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => β (1 : Fin _) = 11) (by decide +kernel) (fun t hf y => ?_) (fun j => Iff.rfl)
    blk_simp
    rw [after0_2]
    unfold outsAt0
    frame_out
    have ht : t.val < 4 := t.isLt
    have ⟨a0, a1, a2⟩ := at2 t
    have e0 : (((View.whole main_v0).slice (win0_2.rect t)).emb y 0).val = t.val + (y 0).val := by
      show cc0_transform_3 (grid0.coords t) 0 * 1 + 1 * (y 0).val = _; rw [a0]; omega
    have e1 : (((View.whole main_v0).slice (win0_2.rect t)).emb y 1).val = 11264 + (y 1).val := by
      show cc0_transform_3 (grid0.coords t) 1 * 1024 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x1024x256.Idx) 0).val = (y 0).val := rfl
    have z1 : (((win0 2).xinj (grid0.coords t) y : S1x1024x256.Idx) 1).val = (y 1).val := rfl
    have z2 : (((win0 2).xinj (grid0.coords t) y : S1x1024x256.Idx) 2).val = (y 2).val := rfl
    generalize ((View.whole main_v0).slice (win0_2.rect t)).emb y = i at *
    generalize ((win0 2).xinj (grid0.coords t) y : S1x1024x256.Idx) = z at *
    canon_tiles x h
    case piece0 =>
      refine Eq.trans ?_ (ref_at _ _ _ (⟨t.val, ht⟩ : Fin 4) (⟨3, by decide⟩ : Fin 4) (x 1 : Fin 256) (x 2 : Fin 256) i (by show _ = t.val; omega) (by show _ = 11264 + (256 * 3 + (x 1).val); omega) (by omega)).symm
      obtain ⟨o, r, k, rfl⟩ : ∃ (o : Fin 1) (r : Fin 256) (k : Fin 256), x = ix3 o r k := ⟨x 0, x 1, x 2, by funext a; match a with | ⟨0, _⟩ => rfl | ⟨1, _⟩ => rfl | ⟨2, _⟩ => rfl⟩
      unfold k0_pay5 k0_pay1
      pointwise
      exact Finset.sum_congr rfl fun x _ => congr (congrArg _ (blk0 m c t _ _ _ rfl rfl)) (blk1 m c t _ _ _ rfl (by first | rfl | exact Nat.zero_add _))
    case piece1 =>
      refine Eq.trans ?_ (ref_at _ _ _ (⟨t.val, ht⟩ : Fin 4) (⟨2, by decide⟩ : Fin 4) (x 1 : Fin 256) (x 2 : Fin 256) i (by show _ = t.val; omega) (by show _ = 11264 + (256 * 2 + (x 1).val); omega) (by omega)).symm
      obtain ⟨o, r, k, rfl⟩ : ∃ (o : Fin 1) (r : Fin 256) (k : Fin 256), x = ix3 o r k := ⟨x 0, x 1, x 2, by funext a; match a with | ⟨0, _⟩ => rfl | ⟨1, _⟩ => rfl | ⟨2, _⟩ => rfl⟩
      unfold k0_pay4 k0_pay1
      pointwise
      exact Finset.sum_congr rfl fun x _ => congr (congrArg _ (blk0 m c t _ _ _ rfl rfl)) (blk1 m c t _ _ _ rfl (by first | rfl | exact Nat.zero_add _))
    case piece2 =>
      refine Eq.trans ?_ (ref_at _ _ _ (⟨t.val, ht⟩ : Fin 4) (⟨1, by decide⟩ : Fin 4) (x 1 : Fin 256) (x 2 : Fin 256) i (by show _ = t.val; omega) (by show _ = 11264 + (256 * 1 + (x 1).val); omega) (by omega)).symm
      obtain ⟨o, r, k, rfl⟩ : ∃ (o : Fin 1) (r : Fin 256) (k : Fin 256), x = ix3 o r k := ⟨x 0, x 1, x 2, by funext a; match a with | ⟨0, _⟩ => rfl | ⟨1, _⟩ => rfl | ⟨2, _⟩ => rfl⟩
      unfold k0_pay3 k0_pay1
      pointwise
      exact Finset.sum_congr rfl fun x _ => congr (congrArg _ (blk0 m c t _ _ _ rfl rfl)) (blk1 m c t _ _ _ rfl (by first | rfl | exact Nat.zero_add _))
    case piece3 =>
      refine Eq.trans ?_ (ref_at _ _ _ (⟨t.val, ht⟩ : Fin 4) (⟨0, by decide⟩ : Fin 4) (x 1 : Fin 256) (x 2 : Fin 256) i (by show _ = t.val; omega) (by show _ = 11264 + (256 * 0 + (x 1).val); omega) (by omega)).symm
      obtain ⟨o, r, k, rfl⟩ : ∃ (o : Fin 1) (r : Fin 256) (k : Fin 256), x = ix3 o r k := ⟨x 0, x 1, x 2, by funext a; match a with | ⟨0, _⟩ => rfl | ⟨1, _⟩ => rfl | ⟨2, _⟩ => rfl⟩
      unfold k0_pay2 k0_pay1
      pointwise
      exact Finset.sum_congr rfl fun x _ => congr (congrArg _ (blk0 m c t _ _ _ rfl rfl)) (blk1 m c t _ _ _ rfl (by first | rfl | exact Nat.zero_add _))
  rw [h]
  funext i
  show (if (i 1 : ℕ) / 1024 = 11 then _ else _) = _
  split_ifs with hi
  · rfl
  · rw [kept]
    exact (ref_rest _ _ _ i (by omega)).symm

end Cert.DwOutIdeal.Eq

end
-- ==== Proof.DxGateEq.lean ====
module
public import proofs.«01_k».proof.Proof.Gen.DxGateIdeal.Value
public import proofs.«01_k».proof.Proof.Gen.DxGateRefIdeal.Read
public import Idealize.ShloMosaic.Lib.Pipeline.ValueKit.Point
public import Idealize.ShloMosaic.Lib.StableHlo.RunRead
public import Idealize.ShloMosaic.Lib.StableHlo.ReadAt

@[expose] public section

set_option maxRecDepth 16384

noncomputable section

namespace Cert.DxGateIdeal.Eq

open Idealize.ShloMosaic Idealize.ShloMosaic.TcCoe Cert.DxGateIdeal.Gen Finset
open Cert.DxGateIdeal.Value

variable (m : (ℓ : Loc nD τ sig) → Buf (Elt Ideal) ℓ) (c : Dev nD)

theorem at1 : ∀ t : Fin grid0.N, cc0_transform_1 (grid0.coords t) 0 = t.val % 4 ∧ cc0_transform_1 (grid0.coords t) 1 = 48 ∧ cc0_transform_1 (grid0.coords t) 2 = 0 := by decide +kernel
theorem at2 : ∀ t : Fin grid0.N, cc0_transform_2 (grid0.coords t) 0 = t.val % 4 ∧ cc0_transform_2 (grid0.coords t) 1 = 49 ∧ cc0_transform_2 (grid0.coords t) 2 = 0 := by decide +kernel
theorem at3 : ∀ t : Fin grid0.N, cc0_transform_3 (grid0.coords t) 0 = t.val % 4 ∧ cc0_transform_3 (grid0.coords t) 1 = 50 ∧ cc0_transform_3 (grid0.coords t) 2 = 0 := by decide +kernel
theorem at4 : ∀ t : Fin grid0.N, cc0_transform_4 (grid0.coords t) 0 = t.val % 4 ∧ cc0_transform_4 (grid0.coords t) 1 = 51 ∧ cc0_transform_4 (grid0.coords t) 2 = 0 := by decide +kernel
theorem at0 : ∀ t : Fin grid0.N, cc0_transform_0 (grid0.coords t) 0 = t.val / 4 ∧ cc0_transform_0 (grid0.coords t) 1 = 0 := by decide +kernel
theorem at5 : ∀ t : Fin grid0.N, cc0_transform_5 (grid0.coords t) 0 = t.val / 4 ∧ cc0_transform_5 (grid0.coords t) 1 = t.val % 4 := by decide +kernel

theorem packed : V m c main_v6 = concatenate S4x13568x256 1 [⟨S4x12288x256, broadcastInDim S4x12288x256 ![] bcast_S_S4x12288x256 (constant (F := Ideal) S_ .bf16 0x0000#16)⟩,
      ⟨S4x1024x256, shapeCast S4x1024x256 (transpose S4x4x256x256 [0, 2, 1, 3] (shapeCast S4x256x4x256 (truncf (F := Ideal) .bf16 (m ((c : Thread nD τ).loc main_arg1)) bitsLt_bf16_f32) shapeCasts_S1024x1024_S4x256x4x256) transposes_S4x256x4x256_S4x4x256x256_0_2_1_3) shapeCasts_S4x4x256x256_S4x1024x256⟩,
      ⟨S4x256x256, broadcastInDim S4x256x256 ![] bcast_S_S4x256x256 (constant (F := Ideal) S_ .bf16 0x0000#16)⟩] concatenates_S4x12288x256_S4x1024x256_S4x256x256_S4x13568x256_d1 := by
  unfold V
  simp only [hostOps0]
  after_reads_simp
  rfl

/-- Where the packed buffer holds the weight: slab `a`, rows of its part `b`, is rows of part `a` and columns of part `b`. -/
theorem entry (a b : Fin 4) (r : Fin 256) (k : Fin 256) :
    V m c main_v6 (ix3 a (⟨12288 + (256 * b.val + r.val), by omega⟩ : Fin 13568) k)
      = m ((c : Thread nD τ).loc main_arg1) (ix2 (⟨256 * a.val + r.val, by omega⟩ : Fin 1024) (⟨256 * b.val + k.val, by omega⟩ : Fin 1024)) := by
  rw [packed]
  refine (concatenate_apply_piece (t := S4x13568x256) (1 : Fin 3) _ _ _ 1 (by exact Nat.lt_of_sub_eq_succ rfl) S4x1024x256 _ (by rfl) rfl 12288 (by rfl) (ix3 a (⟨256 * b.val + r.val, by omega⟩ : Fin 1024) k) (fun d hd => ?_) ?_).trans ?_
  · match d with
    | ⟨0, _⟩ => rfl
    | ⟨1, _⟩ => exact absurd rfl hd
    | ⟨2, _⟩ => rfl
  · rfl
  refine (shapeCast_apply _ _ _ (ix4 a b r k) ?_).trans ?_
  · rw [Shape.rowMajor_val_four, Shape.rowMajor_val_three]
    show ((a.val * 4 + b.val) * 256 + r.val) * 256 + k.val = (a.val * 1024 + (256 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨256 * a.val + r.val, by omega⟩ : Fin 1024) (⟨256 * b.val + k.val, by omega⟩ : Fin 1024)) ?_).trans ?_
  · rw [Shape.rowMajor_val_four, Shape.rowMajor_val_two]
    show (256 * a.val + r.val) * 1024 + (256 * b.val + k.val) = ((a.val * 256 + r.val) * 4 + b.val) * 256 + k.val
    omega
  rfl

theorem blk0 (t : Fin cfg0.N) (r : Fin 2048) (k : Fin 1024) (i : S2048x1024.Idx) (h0 : (i 0).val = 2048 * (t.val / 4) + r.val) (h1 : (i 1).val = k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 2048 + 1 * r.val = (i 0).val; rw [a0, h0]; omega
  | ⟨1, _⟩ => show cc0_transform_0 (grid0.coords t) 1 * 1024 + 1 * k.val = (i 1).val; rw [a1, h1]; omega

theorem blk1 (t : Fin cfg0.N) (r : Fin 256) (k : Fin 256) (i : S1024x1024.Idx) (h0 : (i 0).val = 256 * (t.val % 4) + r.val) (h1 : (i 1).val = 0 + k.val) :
    iblk m c 1 t (ix3 (0 : Fin 1) r k) = m ((c : Thread nD τ).loc main_arg1) i := by
  have hi : i = ix2 (⟨256 * (t.val % 4) + r.val, by omega⟩ : Fin 1024) (⟨256 * 0 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨0, by omega⟩ r k)
  unfold iblk
  have ⟨a0, a1, a2⟩ := at1 t
  refine congrArg (V m c main_v6) (funext fun a => Fin.ext ?_)
  match a with
  | ⟨0, _⟩ => show cc0_transform_1 (grid0.coords t) 0 * 1 + 1 * 0 = t.val % 4; rw [a0]; omega
  | ⟨1, _⟩ => show cc0_transform_1 (grid0.coords t) 1 * 256 + 1 * r.val = 12288 + (256 * 0 + r.val); rw [a1]; omega
  | ⟨2, _⟩ => show cc0_transform_1 (grid0.coords t) 2 * 256 + 1 * k.val = k.val; rw [a2]; omega

theorem blk2 (t : Fin cfg0.N) (r : Fin 256) (k : Fin 256) (i : S1024x1024.Idx) (h0 : (i 0).val = 256 * (t.val % 4) + r.val) (h1 : (i 1).val = 256 + k.val) :
    iblk m c 2 t (ix3 (0 : Fin 1) r k) = m ((c : Thread nD τ).loc main_arg1) i := by
  have hi : i = ix2 (⟨256 * (t.val % 4) + r.val, by omega⟩ : Fin 1024) (⟨256 * 1 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨1, by omega⟩ r k)
  unfold iblk
  have ⟨a0, a1, a2⟩ := at2 t
  refine congrArg (V m c main_v6) (funext fun a => Fin.ext ?_)
  match a with
  | ⟨0, _⟩ => show cc0_transform_2 (grid0.coords t) 0 * 1 + 1 * 0 = t.val % 4; rw [a0]; omega
  | ⟨1, _⟩ => show cc0_transform_2 (grid0.coords t) 1 * 256 + 1 * r.val = 12288 + (256 * 1 + r.val); rw [a1]; omega
  | ⟨2, _⟩ => show cc0_transform_2 (grid0.coords t) 2 * 256 + 1 * k.val = k.val; rw [a2]; omega

theorem blk3 (t : Fin cfg0.N) (r : Fin 256) (k : Fin 256) (i : S1024x1024.Idx) (h0 : (i 0).val = 256 * (t.val % 4) + r.val) (h1 : (i 1).val = 512 + k.val) :
    iblk m c 3 t (ix3 (0 : Fin 1) r k) = m ((c : Thread nD τ).loc main_arg1) i := by
  have hi : i = ix2 (⟨256 * (t.val % 4) + r.val, by omega⟩ : Fin 1024) (⟨256 * 2 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨2, by omega⟩ r k)
  unfold iblk
  have ⟨a0, a1, a2⟩ := at3 t
  refine congrArg (V m c main_v6) (funext fun a => Fin.ext ?_)
  match a with
  | ⟨0, _⟩ => show cc0_transform_3 (grid0.coords t) 0 * 1 + 1 * 0 = t.val % 4; rw [a0]; omega
  | ⟨1, _⟩ => show cc0_transform_3 (grid0.coords t) 1 * 256 + 1 * r.val = 12288 + (256 * 2 + r.val); rw [a1]; omega
  | ⟨2, _⟩ => show cc0_transform_3 (grid0.coords t) 2 * 256 + 1 * k.val = k.val; rw [a2]; omega

theorem blk4 (t : Fin cfg0.N) (r : Fin 256) (k : Fin 256) (i : S1024x1024.Idx) (h0 : (i 0).val = 256 * (t.val % 4) + r.val) (h1 : (i 1).val = 768 + k.val) :
    iblk m c 4 t (ix3 (0 : Fin 1) r k) = m ((c : Thread nD τ).loc main_arg1) i := by
  have hi : i = ix2 (⟨256 * (t.val % 4) + r.val, by omega⟩ : Fin 1024) (⟨256 * 3 + k.val, by omega⟩ : Fin 1024) := by
    funext a; match a with | ⟨0, _⟩ => exact Fin.ext h0 | ⟨1, _⟩ => exact Fin.ext h1
  rw [hi]
  refine Eq.trans ?_ (entry m c ⟨t.val % 4, by omega⟩ ⟨3, by omega⟩ r k)
  unfold iblk
  have ⟨a0, a1, a2⟩ := at4 t
  refine congrArg (V m c main_v6) (funext fun a => Fin.ext ?_)
  match a with
  | ⟨0, _⟩ => show cc0_transform_4 (grid0.coords t) 0 * 1 + 1 * 0 = t.val % 4; rw [a0]; omega
  | ⟨1, _⟩ => show cc0_transform_4 (grid0.coords t) 1 * 256 + 1 * r.val = 12288 + (256 * 3 + r.val); rw [a1]; omega
  | ⟨2, _⟩ => show cc0_transform_4 (grid0.coords t) 2 * 256 + 1 * k.val = k.val; rw [a2]; omega

/-- A sum over 1024 is four sums over 256. -/
theorem sum_slabs (f : Fin 1024 → EReal) :
    ∑ x, f x = ∑ x : Fin 256, f ⟨x.val, by omega⟩ + ∑ x : Fin 256, f ⟨256 + x.val, by omega⟩ + ∑ x : Fin 256, f ⟨512 + x.val, by omega⟩ + ∑ x : Fin 256, f ⟨768 + x.val, by omega⟩ := by
  rw [Fin.sum_univ_add (a := 768) (b := 256) f, Fin.sum_univ_add (a := 512) (b := 256) fun x : Fin 768 => f (Fin.castAdd 256 x),
    Fin.sum_univ_add (a := 256) (b := 256) fun x : Fin 512 => f (Fin.castAdd 256 (Fin.castAdd 256 x))]
  rfl

/-- The reference at an index. -/
theorem ref_at (x0 : (⟨S2048x1024, .bf16⟩ : BufTy).Contents (Elt Ideal)) (x1 : (⟨S1024x1024, .f32⟩ : BufTy).Contents (Elt Ideal)) (r : Fin 2048) (n : Fin 1024) :
    Cert.DxGateRefIdeal.Read.val_main_v3 (F := Ideal) x0 x1 (ix2 r n) = ∑ x : Fin 1024, (x0 (ix2 r x) : EReal) * (x1 (ix2 n x) : EReal) := by
  unfold Cert.DxGateRefIdeal.Read.val_main_v3 Cert.DxGateRefIdeal.Read.val_main_v2
  pointwise

theorem final : (dats m 0 c).arrAt 5 cfg0.N = Cert.DxGateRefIdeal.Read.val_main_v3 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, n, rfl⟩ : ∃ (r : Fin 2048) (n : Fin 256), y = ix2 r n := ⟨y 0, y 1, by funext a; match a with | ⟨0, _⟩ => rfl | ⟨1, _⟩ => rfl⟩
  have ht : t.val < 4 := t.isLt
  have ⟨a0, a1⟩ := at5 t
  have he : ((View.whole main_v7).slice (win0_5.rect t)).emb (ix2 r n) = ix2 (⟨2048 * (t.val / 4) + r.val, by omega⟩ : Fin 2048) (⟨256 * (t.val % 4) + n.val, by omega⟩ : Fin 1024) := by
    funext a
    refine Fin.ext ?_
    match a with
    | ⟨0, _⟩ => show cc0_transform_5 (grid0.coords t) 0 * 2048 + 1 * r.val = _; rw [a0]; show _ = 2048 * (t.val / 4) + r.val; omega
    | ⟨1, _⟩ => show cc0_transform_5 (grid0.coords t) 1 * 256 + 1 * n.val = _; rw [a1]; show _ = 256 * (t.val % 4) + n.val; omega
  rw [he]
  refine Eq.trans ?_ (ref_at _ _ _ _).symm
  unfold k0_pay1
  pointwise
  rw [sum_slabs]
  refine congr (congrArg _ (congr (congrArg _ (congr (congrArg _ ?_) ?_)) ?_)) ?_ <;> refine Finset.sum_congr rfl fun x _ => congr (congrArg _ (blk0 m c t _ _ _ rfl rfl)) ?_
  · exact blk1 m c t _ _ _ rfl (Nat.zero_add _).symm
  · exact blk2 m c t _ _ _ rfl rfl
  · exact blk3 m c t _ _ _ rfl rfl
  · exact blk4 m c t _ _ _ rfl rfl

end Cert.DxGateIdeal.Eq

end
-- ==== Proof.DwGateEq.lean ====
module
public import proofs.«01_k».proof.Proof.Gen.DwGateIdeal.Value
public import proofs.«01_k».proof.Proof.Gen.DwGateRefIdeal.Read
public import Idealize.ShloMosaic.Lib.Pipeline.ValueKit.Point
public import Idealize.ShloMosaic.Lib.Pipeline.ValueKit.Partial
public import Idealize.ShloMosaic.Lib.StableHlo.RunRead
public import Idealize.ShloMosaic.Lib.StableHlo.ReadAt

@[expose] public section

set_option maxRecDepth 16384

noncomputable section

namespace Cert.DwGateIdeal.Eq

open Idealize.ShloMosaic Idealize.ShloMosaic.TcCoe Cert.DwGateIdeal.Gen Finset
open Cert.DwGateIdeal.Value

variable (m : (ℓ : Loc nD τ sig) → Buf (Elt Ideal) ℓ) (c : Dev nD)

theorem at0 : ∀ t : Fin grid0.N, cc0_transform_1 (grid0.coords t) 0 = 0 ∧ cc0_transform_1 (grid0.coords t) 1 = t.val := by decide +kernel
theorem at1 : ∀ t : Fin grid0.N, cc0_transform_2 (grid0.coords t) 0 = 0 ∧ cc0_transform_2 (grid0.coords t) 1 = 0 := by decide +kernel
theorem at2 : ∀ t : Fin grid0.N, cc0_transform_3 (grid0.coords t) 0 = t.val ∧ cc0_transform_3 (grid0.coords t) 1 = 12 ∧ cc0_transform_3 (grid0.coords t) 2 = 0 := by decide +kernel

theorem blk0 (t : Fin cfg0.N) (r : Fin 2048) (k : Fin 256) (i : S2048x1024.Idx) (h0 : (i 0).val = r.val) (h1 : (i 1).val = 256 * t.val + k.val) :
    iblk m c 0 t (ix2 r k) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_1 (grid0.coords t) 0 * 2048 + 1 * r.val = (i 0).val; rw [a0, h0]; omega
  | ⟨1, _⟩ => show cc0_transform_1 (grid0.coords t) 1 * 256 + 1 * k.val = (i 1).val; rw [a1, h1]; omega

theorem blk1 (t : Fin cfg0.N) (r : Fin 2048) (k : Fin 1024) (i : S2048x1024.Idx) (h0 : (i 0).val = r.val) (h1 : (i 1).val = k.val) :
    iblk m c 1 t (ix2 r k) = m ((c : Thread nD τ).loc main_arg1) i := by
  rw [← V_main_arg1 m c]
  unfold iblk
  have ⟨a0, a1⟩ := at1 t
  refine congrArg (V m c main_arg1) (funext fun a => Fin.ext ?_)
  match a with
  | ⟨0, _⟩ => show cc0_transform_2 (grid0.coords t) 0 * 2048 + 1 * r.val = (i 0).val; rw [a0, h0]; omega
  | ⟨1, _⟩ => show cc0_transform_2 (grid0.coords t) 1 * 1024 + 1 * k.val = (i 1).val; rw [a1, h1]; omega

theorem kept : V m c main_v0 = m ((c : Thread nD τ).loc main_arg2) := by
  unfold V
  simp only [hostOps0]
  after_reads_simp
  rfl

open Cert.DwGateRefIdeal.Read in
/-- The reference's gradient at an index of its rows of slab `a`, part `b`. -/
theorem ref_at (x0 : (⟨S2048x1024, .bf16⟩ : BufTy).Contents (Elt Ideal)) (x1 : (⟨S2048x1024, .bf16⟩ : BufTy).Contents (Elt Ideal)) (x2 : (⟨S4x13568x256, .bf16⟩ : BufTy).Contents (Elt Ideal))
    (a b : Fin 4) (r : Fin 256) (k : Fin 256) (i : S4x13568x256.Idx) (h0 : (i 0).val = a.val) (h1 : (i 1).val = 12288 + (256 * b.val + r.val)) (h2 : (i 2).val = k.val) :
    val_main_v12 (F := Ideal) x0 x1 x2 i
      = ∑ x : Fin 2048, (x0 (ix2 x (⟨256 * a.val + r.val, by omega⟩ : Fin 1024)) : EReal) * (x1 (ix2 x (⟨256 * b.val + k.val, by omega⟩ : Fin 1024)) : EReal) := by
  unfold val_main_v12
  refine (concatenate_apply_piece (t := S4x13568x256) (1 : Fin 3) _ _ _ 1 (by exact Nat.lt_of_sub_eq_succ rfl) Cert.DwGateRefIdeal.S4x1024x256 _ (by rfl) rfl 12288 (by rfl) (ix3 a (⟨256 * b.val + r.val, by omega⟩ : Fin 1024) k) (fun d hd => ?_) ?_).trans ?_
  · match d with
    | ⟨0, _⟩ => exact h0.symm
    | ⟨1, _⟩ => exact absurd rfl hd
    | ⟨2, _⟩ => exact h2.symm
  · exact h1.symm
  refine (shapeCast_apply _ _ _ (ix4 a b r k) ?_).trans ?_
  · rw [Shape.rowMajor_val_four, Shape.rowMajor_val_three]
    show ((a.val * 4 + b.val) * 256 + r.val) * 256 + k.val = (a.val * 1024 + (256 * b.val + r.val)) * 256 + k.val
    omega
  refine (transpose_apply _ _ _ _ (ix4 a r b k) fun d => ?_).trans ?_
  · match d with
    | ⟨0, _⟩ => rfl
    | ⟨1, _⟩ => rfl
    | ⟨2, _⟩ => rfl
    | ⟨3, _⟩ => rfl
  refine (shapeCast_apply _ _ _ (ix2 (⟨256 * a.val + r.val, by omega⟩ : Fin 1024) (⟨256 * b.val + k.val, by omega⟩ : Fin 1024)) ?_).trans ?_
  · rw [Shape.rowMajor_val_four, Shape.rowMajor_val_two]
    show (256 * a.val + r.val) * 1024 + (256 * b.val + k.val) = ((a.val * 256 + r.val) * 4 + b.val) * 256 + k.val
    omega
  unfold val_main_v6 val_main_v5 val_main_v4 val_main_v3 val_main_v1
  pointwise
  exact Finset.sum_congr rfl fun x _ => mul_comm _ _

open Cert.DwGateRefIdeal.Read in
/-- The rows above and below the gradient are those of the third argument. -/
theorem ref_rest (x0 : (⟨S2048x1024, .bf16⟩ : BufTy).Contents (Elt Ideal)) (x1 : (⟨S2048x1024, .bf16⟩ : BufTy).Contents (Elt Ideal)) (x2 : (⟨S4x13568x256, .bf16⟩ : BufTy).Contents (Elt Ideal))
    (i : S4x13568x256.Idx) (h : (i 1).val < 12288 ∨ 13312 ≤ (i 1).val) : val_main_v12 (F := Ideal) x0 x1 x2 i = x2 i := by
  have hi : (i 1).val < 13568 := (i 1).isLt
  unfold val_main_v12
  rcases h with h | h
  · refine (concatenate_apply_piece (t := S4x13568x256) (1 : Fin 3) _ _ _ 0 (by exact Nat.lt_of_sub_eq_succ rfl) Cert.DwGateRefIdeal.S4x12288x256 _ (by rfl) rfl 0 (by rfl) (ix3 (i 0 : Fin 4) (⟨(i 1).val, h⟩ : Fin 12288) (i 2 : Fin 256)) (fun d hd => ?_) ?_).trans ?_
    · match d with
      | ⟨0, _⟩ => rfl
      | ⟨1, _⟩ => exact absurd rfl hd
      | ⟨2, _⟩ => rfl
    · exact Nat.zero_add _
    · unfold val_main_v7
      refine congrArg x2 (funext fun d => Fin.ext ?_)
      match d with
      | ⟨0, _⟩ => show 0 + (i 0).val = (i 0).val; omega
      | ⟨1, _⟩ => show 0 + (i 1).val = (i 1).val; omega
      | ⟨2, _⟩ => show 0 + (i 2).val = (i 2).val; omega
  · refine (concatenate_apply_piece (t := S4x13568x256) (1 : Fin 3) _ _ _ 2 (by exact Nat.lt_of_sub_eq_succ rfl) Cert.DwGateRefIdeal.S4x256x256 _ (by rfl) rfl 13312 (by rfl) (ix3 (i 0 : Fin 4) (⟨(i 1).val - 13312, by omega⟩ : Fin 256) (i 2 : Fin 256)) (fun d hd => ?_) ?_).trans ?_
    · match d with
      | ⟨0, _⟩ => rfl
      | ⟨1, _⟩ => exact absurd rfl hd
      | ⟨2, _⟩ => rfl
    · show 13312 + ((i 1).val - 13312) = (i 1).val; omega
    · unfold val_main_v11
      refine congrArg x2 (funext fun d => Fin.ext ?_)
      match d with
      | ⟨0, _⟩ => show 0 + (i 0).val = (i 0).val; omega
      | ⟨1, _⟩ => show 13312 + ((i 1).val - 13312) = (i 1).val; omega
      | ⟨2, _⟩ => show 0 + (i 2).val = (i 2).val; omega

theorem final : (dats m 0 c).arrAt 2 cfg0.N = Cert.DwGateRefIdeal.Read.val_main_v12 (F := Ideal) (m ((c : Thread nD τ).loc main_arg0)) (m ((c : Thread nD τ).loc main_arg1)) (m ((c : Thread nD τ).loc main_arg2)) := by
  have h : (dats m 0 c).arrAt 2 cfg0.N = fun i : S4x13568x256.Idx => if (i 1 : ℕ) / 1024 = 12 then Cert.DwGateRefIdeal.Read.val_main_v12 (F := Ideal) (m ((c : Thread nD τ).loc main_arg0)) (m ((c : Thread nD τ).loc main_arg1)) (m ((c : Thread nD τ).loc main_arg2)) i else V m c main_v0 i := by
    refine (dats m 0 c).arrAt_eq_of_coversWhere 2 _ (fun β => β (1 : Fin _) = 12) (by decide +kernel) (fun t hf y => ?_) (fun j => Iff.rfl)
    blk_simp
    rw [after0_2]
    unfold outsAt0
    frame_out
    have ht : t.val < 4 := t.isLt
    have ⟨a0, a1, a2⟩ := at2 t
    have e0 : (((View.whole main_v0).slice (win0_2.rect t)).emb y 0).val = t.val + (y 0).val := by
      show cc0_transform_3 (grid0.coords t) 0 * 1 + 1 * (y 0).val = _; rw [a0]; omega
    have e1 : (((View.whole main_v0).slice (win0_2.rect t)).emb y 1).val = 12288 + (y 1).val := by
      show cc0_transform_3 (grid0.coords t) 1 * 1024 + 1 * (y 1).val = _; rw [a1]; omega
    have e2 : (((View.whole main_v0).slice (win0_2.rect t)).emb y 2).val = (y 2).val := by
      show cc0_transform_3 (grid0.coords t) 2 * 256 + 1 * (y 2).val = _; rw [a2]; omega
    have z0 : (((win0 2).xinj (grid0.coords t) y : S1x1024x256.Idx) 0).val = (y 0).val := rfl
    have z1 : (((win0 2).xinj (grid0.coords t) y : S1x1024x256.Idx) 1).val = (y 1).val := rfl
    have z2 : (((win0 2).xinj (grid0.coords t) y : S1x1024x256.Idx) 2).val = (y 2).val := rfl
    generalize ((View.whole main_v0).slice (win0_2.rect t)).emb y = i at *
    generalize ((win0 2).xinj (grid0.coords t) y : S1x1024x256.Idx) = z at *
    canon_tiles x h
    case piece0 =>
      refine Eq.trans ?_ (ref_at _ _ _ (⟨t.val, ht⟩ : Fin 4) (⟨3, by decide⟩ : Fin 4) (x 1 : Fin 256) (x 2 : Fin 256) i (by show _ = t.val; omega) (by show _ = 12288 + (256 * 3 + (x 1).val); omega) (by omega)).symm
      obtain ⟨o, r, k, rfl⟩ : ∃ (o : Fin 1) (r : Fin 256) (k : Fin 256), x = ix3 o r k := ⟨x 0, x 1, x 2, by funext a; match a with | ⟨0, _⟩ => rfl | ⟨1, _⟩ => rfl | ⟨2, _⟩ => rfl⟩
      unfold k0_pay5 k0_pay1
      pointwise
      exact Finset.sum_congr rfl fun x _ => congr (congrArg _ (blk0 m c t _ _ _ rfl rfl)) (blk1 m c t _ _ _ rfl (by first | rfl | exact Nat.zero_add _))
    case piece1 =>
      refine Eq.trans ?_ (ref_at _ _ _ (⟨t.val, ht⟩ : Fin 4) (⟨2, by decide⟩ : Fin 4) (x 1 : Fin 256) (x 2 : Fin 256) i (by show _ = t.val; omega) (by show _ = 12288 + (256 * 2 + (x 1).val); omega) (by omega)).symm
      obtain ⟨o, r, k, rfl⟩ : ∃ (o : Fin 1) (r : Fin 256) (k : Fin 256), x = ix3 o r k := ⟨x 0, x 1, x 2, by funext a; match a with | ⟨0, _⟩ => rfl | ⟨1, _⟩ => rfl | ⟨2, _⟩ => rfl⟩
      unfold k0_pay4 k0_pay1
      pointwise
      exact Finset.sum_congr rfl fun x _ => congr (congrArg _ (blk0 m c t _ _ _ rfl rfl)) (blk1 m c t _ _ _ rfl (by first | rfl | exact Nat.zero_add _))
    case piece2 =>
      refine Eq.trans ?_ (ref_at _ _ _ (⟨t.val, ht⟩ : Fin 4) (⟨1, by decide⟩ : Fin 4) (x 1 : Fin 256) (x 2 : Fin 256) i (by show _ = t.val; omega) (by show _ = 12288 + (256 * 1 + (x 1).val); omega) (by omega)).symm
      obtain ⟨o, r, k, rfl⟩ : ∃ (o : Fin 1) (r : Fin 256) (k : Fin 256), x = ix3 o r k := ⟨x 0, x 1, x 2, by funext a; match a with | ⟨0, _⟩ => rfl | ⟨1, _⟩ => rfl | ⟨2, _⟩ => rfl⟩
      unfold k0_pay3 k0_pay1
      pointwise
      exact Finset.sum_congr rfl fun x _ => congr (congrArg _ (blk0 m c t _ _ _ rfl rfl)) (blk1 m c t _ _ _ rfl (by first | rfl | exact Nat.zero_add _))
    case piece3 =>
      refine Eq.trans ?_ (ref_at _ _ _ (⟨t.val, ht⟩ : Fin 4) (⟨0, by decide⟩ : Fin 4) (x 1 : Fin 256) (x 2 : Fin 256) i (by show _ = t.val; omega) (by show _ = 12288 + (256 * 0 + (x 1).val); omega) (by omega)).symm
      obtain ⟨o, r, k, rfl⟩ : ∃ (o : Fin 1) (r : Fin 256) (k : Fin 256), x = ix3 o r k := ⟨x 0, x 1, x 2, by funext a; match a with | ⟨0, _⟩ => rfl | ⟨1, _⟩ => rfl | ⟨2, _⟩ => rfl⟩
      unfold k0_pay2 k0_pay1
      pointwise
      exact Finset.sum_congr rfl fun x _ => congr (congrArg _ (blk0 m c t _ _ _ rfl rfl)) (blk1 m c t _ _ _ rfl (by first | rfl | exact Nat.zero_add _))
  rw [h]
  funext i
  show (if (i 1 : ℕ) / 1024 = 12 then _ else _) = _
  split_ifs with hi
  · rfl
  · rw [kept]
    exact (ref_rest _ _ _ i (by omega)).symm

end Cert.DwGateIdeal.Eq

end
-- ==== Proof.Calls.lean ====
module

public import proofs.«01_k».proof.Defs
public import proofs.«01_k».proof.Proof.DxDownEq
public import proofs.«01_k».proof.Proof.Gen.DxDownRefIdeal.Run
public import proofs.«01_k».proof.Proof.DwUpEq
public import proofs.«01_k».proof.Proof.Gen.DwUpRefIdeal.Run
public import proofs.«01_k».proof.Proof.DwDownEq
public import proofs.«01_k».proof.Proof.Gen.DwDownRefIdeal.Run
public import proofs.«01_k».proof.Proof.DxUpEq
public import proofs.«01_k».proof.Proof.Gen.DxUpRefIdeal.Run
public import proofs.«01_k».proof.Proof.DownEq
public import proofs.«01_k».proof.Proof.Gen.DownRefIdeal.Run
public import proofs.«01_k».proof.Proof.DxDownBEq
public import proofs.«01_k».proof.Proof.Gen.DxDownBRefIdeal.Run
public import proofs.«01_k».proof.Proof.DwUpBEq
public import proofs.«01_k».proof.Proof.Gen.DwUpBRefIdeal.Run
public import proofs.«01_k».proof.Proof.DwDownBEq
public import proofs.«01_k».proof.Proof.Gen.DwDownBRefIdeal.Run
public import proofs.«01_k».proof.Proof.DxUpBEq
public import proofs.«01_k».proof.Proof.Gen.DxUpBRefIdeal.Run
public import proofs.«01_k».proof.Proof.DownBEq
public import proofs.«01_k».proof.Proof.Gen.DownBRefIdeal.Run
public import proofs.«01_k».proof.Proof.DxDownCEq
public import proofs.«01_k».proof.Proof.Gen.DxDownCRefIdeal.Run
public import proofs.«01_k».proof.Proof.DwUpCEq
public import proofs.«01_k».proof.Proof.Gen.DwUpCRefIdeal.Run
public import proofs.«01_k».proof.Proof.DwDownCEq
public import proofs.«01_k».proof.Proof.Gen.DwDownCRefIdeal.Run
public import proofs.«01_k».proof.Proof.DxUpCEq
public import proofs.«01_k».proof.Proof.Gen.DxUpCRefIdeal.Run
public import proofs.«01_k».proof.Proof.DownCEq
public import proofs.«01_k».proof.Proof.Gen.DownCRefIdeal.Run
public import proofs.«01_k».proof.Proof.DxInEq
public import proofs.«01_k».proof.Proof.Gen.DxInRefIdeal.Run
public import proofs.«01_k».proof.Proof.DwInEq
public import proofs.«01_k».proof.Proof.Gen.DwInRefIdeal.Run
public import proofs.«01_k».proof.Proof.OutEq
public import proofs.«01_k».proof.Proof.Gen.OutRefIdeal.Run
public import proofs.«01_k».proof.Proof.DxOutEq
public import proofs.«01_k».proof.Proof.Gen.DxOutRefIdeal.Run
public import proofs.«01_k».proof.Proof.DwOutEq
public import proofs.«01_k».proof.Proof.Gen.DwOutRefIdeal.Run
public import proofs.«01_k».proof.Proof.DxGateEq
public import proofs.«01_k».proof.Proof.Gen.DxGateRefIdeal.Run
public import proofs.«01_k».proof.Proof.DwGateEq
public import proofs.«01_k».proof.Proof.Gen.DwGateRefIdeal.Run

/- What is claimed of the matrix products of a layer: the reference of each leaves its arguments alone, and the
   product has the same results as its reference. The two sides' values are compared in the product's own module. -/

@[expose] public section

noncomputable section

namespace Cert.Calls

open Idealize.ShloMosaic Idealize.SL.Sem

theorem frame_DxDown : Cert.quiescent_DxDownRefIdeal := fun m g _ =>
  (θ_run Cert.DxDownRefIdeal.defs _ _).mono (fun r h => ⟨fun c => (h c).2, sem_eq_zero_of_no_sems (by decide) r.2⟩) (Cert.DxDownRefIdeal.Value.run m g)

open Cert.DxDownIdeal in
theorem algebraic_DxDown : Cert.algebraic_DxDownIdeal_DxDownRefIdeal := by
  intro m g m' g' _ hagree
  refine ⟨fun c => (Gen.dats m 0 c).arrAt 6 cfg0.N, Value.run_blocks m g, ?_⟩
  refine (θ_run Cert.DxDownRefIdeal.defs _ _).mono (fun r h c => ?_) (Cert.DxDownRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DxDownRefIdeal.Read.val_main_v14_eq _ _ _

theorem frame_DwUp : Cert.quiescent_DwUpRefIdeal := fun m g _ =>
  (θ_run Cert.DwUpRefIdeal.defs _ _).mono (fun r h => ⟨fun c => (h c).2, sem_eq_zero_of_no_sems (by decide) r.2⟩) (Cert.DwUpRefIdeal.Value.run m g)

open Cert.DwUpIdeal in
theorem algebraic_DwUp : Cert.algebraic_DwUpIdeal_DwUpRefIdeal := by
  intro m g m' g' _ hagree
  refine ⟨fun c => (Gen.dats m 0 c).arrAt 2 cfg0.N, Value.run_blocks m g, ?_⟩
  refine (θ_run Cert.DwUpRefIdeal.defs _ _).mono (fun r h c => ?_) (Cert.DwUpRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwUpRefIdeal.Read.val_main_v11_eq _ _ _

theorem frame_DwDown : Cert.quiescent_DwDownRefIdeal := fun m g _ =>
  (θ_run Cert.DwDownRefIdeal.defs _ _).mono (fun r h => ⟨fun c => (h c).2, sem_eq_zero_of_no_sems (by decide) r.2⟩) (Cert.DwDownRefIdeal.Value.run m g)

open Cert.DwDownIdeal in
theorem algebraic_DwDown : Cert.algebraic_DwDownIdeal_DwDownRefIdeal := by
  intro m g m' g' _ hagree
  refine ⟨fun c => (Gen.dats m 0 c).arrAt 2 cfg0.N, Value.run_blocks m g, ?_⟩
  refine (θ_run Cert.DwDownRefIdeal.defs _ _).mono (fun r h c => ?_) (Cert.DwDownRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwDownRefIdeal.Read.val_main_v12_eq _ _ _

theorem frame_DxUp : Cert.quiescent_DxUpRefIdeal := fun m g _ =>
  (θ_run Cert.DxUpRefIdeal.defs _ _).mono (fun r h => ⟨fun c => (h c).2.2.2, sem_eq_zero_of_no_sems (by decide) r.2⟩) (Cert.DxUpRefIdeal.Value.run m g)

open Cert.DxUpIdeal in
theorem algebraic_DxUp : Cert.algebraic_DxUpIdeal_DxUpRefIdeal := by
  intro m g m' g' _ hagree
  refine ⟨fun c => (Gen.dats m 0 c).arrAt 8 cfg0.N, fun c => (Gen.dats m 0 c).arrAt 9 cfg0.N, fun c => (Gen.dats m 0 c).arrAt 10 cfg0.N, Value.run_blocks m g, ?_⟩
  refine (θ_run Cert.DxUpRefIdeal.defs _ _).mono (fun r h c => ?_) (Cert.DxUpRefIdeal.Value.run m' g')
  obtain ⟨h0, h1, h2, hargs⟩ := h c
  obtain ⟨e0, e1, e2, e3, e4⟩ := hagree c
  refine ⟨?_, ?_, ?_, hargs⟩
  · refine h0.trans (Eq.trans ?_ (Eq.final8 m c).symm)
    rw [← e0, ← e1, ← e2, ← e3, ← e4]
    exact Cert.DxUpRefIdeal.Read.val_main_v39_eq _ _
  · refine h1.trans (Eq.trans ?_ (Eq.final9 m c).symm)
    rw [← e0, ← e1, ← e2, ← e3, ← e4]
    exact Cert.DxUpRefIdeal.Read.val_main_v40_eq _ _
  · refine h2.trans (Eq.trans ?_ (Eq.final10 m c).symm)
    rw [← e0, ← e1, ← e4]
    exact Cert.DxUpRefIdeal.Read.val_main_v41_eq _ _ _

theorem frame_Down : Cert.quiescent_DownRefIdeal := fun m g _ =>
  (θ_run Cert.DownRefIdeal.defs _ _).mono (fun r h => ⟨fun c => (h c).2, sem_eq_zero_of_no_sems (by decide) r.2⟩) (Cert.DownRefIdeal.Value.run m g)

open Cert.DownIdeal in
theorem algebraic_Down : Cert.algebraic_DownIdeal_DownRefIdeal := by
  intro m g m' g' _ hagree
  refine ⟨fun c => (Gen.dats m 0 c).arrAt 6 cfg0.N, Value.run_blocks m g, ?_⟩
  refine (θ_run Cert.DownRefIdeal.defs _ _).mono (fun r h c => ?_) (Cert.DownRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DownRefIdeal.Read.val_main_v2_eq _ _ _

theorem frame_DxDownB : Cert.quiescent_DxDownBRefIdeal := fun m g _ =>
  (θ_run Cert.DxDownBRefIdeal.defs _ _).mono (fun r h => ⟨fun c => (h c).2, sem_eq_zero_of_no_sems (by decide) r.2⟩) (Cert.DxDownBRefIdeal.Value.run m g)

open Cert.DxDownBIdeal in
theorem algebraic_DxDownB : Cert.algebraic_DxDownBIdeal_DxDownBRefIdeal := by
  intro m g m' g' _ hagree
  refine ⟨fun c => (Gen.dats m 0 c).arrAt 6 cfg0.N, Value.run_blocks m g, ?_⟩
  refine (θ_run Cert.DxDownBRefIdeal.defs _ _).mono (fun r h c => ?_) (Cert.DxDownBRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DxDownBRefIdeal.Read.val_main_v14_eq _ _ _

theorem frame_DwUpB : Cert.quiescent_DwUpBRefIdeal := fun m g _ =>
  (θ_run Cert.DwUpBRefIdeal.defs _ _).mono (fun r h => ⟨fun c => (h c).2, sem_eq_zero_of_no_sems (by decide) r.2⟩) (Cert.DwUpBRefIdeal.Value.run m g)

open Cert.DwUpBIdeal in
theorem algebraic_DwUpB : Cert.algebraic_DwUpBIdeal_DwUpBRefIdeal := by
  intro m g m' g' _ hagree
  refine ⟨fun c => (Gen.dats m 0 c).arrAt 2 cfg0.N, Value.run_blocks m g, ?_⟩
  refine (θ_run Cert.DwUpBRefIdeal.defs _ _).mono (fun r h c => ?_) (Cert.DwUpBRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwUpBRefIdeal.Read.val_main_v11_eq _ _ _

theorem frame_DwDownB : Cert.quiescent_DwDownBRefIdeal := fun m g _ =>
  (θ_run Cert.DwDownBRefIdeal.defs _ _).mono (fun r h => ⟨fun c => (h c).2, sem_eq_zero_of_no_sems (by decide) r.2⟩) (Cert.DwDownBRefIdeal.Value.run m g)

open Cert.DwDownBIdeal in
theorem algebraic_DwDownB : Cert.algebraic_DwDownBIdeal_DwDownBRefIdeal := by
  intro m g m' g' _ hagree
  refine ⟨fun c => (Gen.dats m 0 c).arrAt 2 cfg0.N, Value.run_blocks m g, ?_⟩
  refine (θ_run Cert.DwDownBRefIdeal.defs _ _).mono (fun r h c => ?_) (Cert.DwDownBRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwDownBRefIdeal.Read.val_main_v12_eq _ _ _

theorem frame_DxUpB : Cert.quiescent_DxUpBRefIdeal := fun m g _ =>
  (θ_run Cert.DxUpBRefIdeal.defs _ _).mono (fun r h => ⟨fun c => (h c).2.2.2, sem_eq_zero_of_no_sems (by decide) r.2⟩) (Cert.DxUpBRefIdeal.Value.run m g)

open Cert.DxUpBIdeal in
theorem algebraic_DxUpB : Cert.algebraic_DxUpBIdeal_DxUpBRefIdeal := by
  intro m g m' g' _ hagree
  refine ⟨fun c => (Gen.dats m 0 c).arrAt 8 cfg0.N, fun c => (Gen.dats m 0 c).arrAt 9 cfg0.N, fun c => (Gen.dats m 0 c).arrAt 10 cfg0.N, Value.run_blocks m g, ?_⟩
  refine (θ_run Cert.DxUpBRefIdeal.defs _ _).mono (fun r h c => ?_) (Cert.DxUpBRefIdeal.Value.run m' g')
  obtain ⟨h0, h1, h2, hargs⟩ := h c
  obtain ⟨e0, e1, e2, e3, e4⟩ := hagree c
  refine ⟨?_, ?_, ?_, hargs⟩
  · refine h0.trans (Eq.trans ?_ (Eq.final8 m c).symm)
    rw [← e0, ← e1, ← e2, ← e3, ← e4]
    exact Cert.DxUpBRefIdeal.Read.val_main_v39_eq _ _
  · refine h1.trans (Eq.trans ?_ (Eq.final9 m c).symm)
    rw [← e0, ← e1, ← e2, ← e3, ← e4]
    exact Cert.DxUpBRefIdeal.Read.val_main_v40_eq _ _
  · refine h2.trans (Eq.trans ?_ (Eq.final10 m c).symm)
    rw [← e0, ← e1, ← e4]
    exact Cert.DxUpBRefIdeal.Read.val_main_v41_eq _ _ _

theorem frame_DownB : Cert.quiescent_DownBRefIdeal := fun m g _ =>
  (θ_run Cert.DownBRefIdeal.defs _ _).mono (fun r h => ⟨fun c => (h c).2, sem_eq_zero_of_no_sems (by decide) r.2⟩) (Cert.DownBRefIdeal.Value.run m g)

open Cert.DownBIdeal in
theorem algebraic_DownB : Cert.algebraic_DownBIdeal_DownBRefIdeal := by
  intro m g m' g' _ hagree
  refine ⟨fun c => (Gen.dats m 0 c).arrAt 6 cfg0.N, Value.run_blocks m g, ?_⟩
  refine (θ_run Cert.DownBRefIdeal.defs _ _).mono (fun r h c => ?_) (Cert.DownBRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DownBRefIdeal.Read.val_main_v2_eq _ _ _

theorem frame_DxDownC : Cert.quiescent_DxDownCRefIdeal := fun m g _ =>
  (θ_run Cert.DxDownCRefIdeal.defs _ _).mono (fun r h => ⟨fun c => (h c).2, sem_eq_zero_of_no_sems (by decide) r.2⟩) (Cert.DxDownCRefIdeal.Value.run m g)

open Cert.DxDownCIdeal in
theorem algebraic_DxDownC : Cert.algebraic_DxDownCIdeal_DxDownCRefIdeal := by
  intro m g m' g' _ hagree
  refine ⟨fun c => (Gen.dats m 0 c).arrAt 6 cfg0.N, Value.run_blocks m g, ?_⟩
  refine (θ_run Cert.DxDownCRefIdeal.defs _ _).mono (fun r h c => ?_) (Cert.DxDownCRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DxDownCRefIdeal.Read.val_main_v14_eq _ _ _

theorem frame_DwUpC : Cert.quiescent_DwUpCRefIdeal := fun m g _ =>
  (θ_run Cert.DwUpCRefIdeal.defs _ _).mono (fun r h => ⟨fun c => (h c).2, sem_eq_zero_of_no_sems (by decide) r.2⟩) (Cert.DwUpCRefIdeal.Value.run m g)

open Cert.DwUpCIdeal in
theorem algebraic_DwUpC : Cert.algebraic_DwUpCIdeal_DwUpCRefIdeal := by
  intro m g m' g' _ hagree
  refine ⟨fun c => (Gen.dats m 0 c).arrAt 2 cfg0.N, Value.run_blocks m g, ?_⟩
  refine (θ_run Cert.DwUpCRefIdeal.defs _ _).mono (fun r h c => ?_) (Cert.DwUpCRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwUpCRefIdeal.Read.val_main_v11_eq _ _ _

theorem frame_DwDownC : Cert.quiescent_DwDownCRefIdeal := fun m g _ =>
  (θ_run Cert.DwDownCRefIdeal.defs _ _).mono (fun r h => ⟨fun c => (h c).2, sem_eq_zero_of_no_sems (by decide) r.2⟩) (Cert.DwDownCRefIdeal.Value.run m g)

open Cert.DwDownCIdeal in
theorem algebraic_DwDownC : Cert.algebraic_DwDownCIdeal_DwDownCRefIdeal := by
  intro m g m' g' _ hagree
  refine ⟨fun c => (Gen.dats m 0 c).arrAt 2 cfg0.N, Value.run_blocks m g, ?_⟩
  refine (θ_run Cert.DwDownCRefIdeal.defs _ _).mono (fun r h c => ?_) (Cert.DwDownCRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwDownCRefIdeal.Read.val_main_v12_eq _ _ _

theorem frame_DxUpC : Cert.quiescent_DxUpCRefIdeal := fun m g _ =>
  (θ_run Cert.DxUpCRefIdeal.defs _ _).mono (fun r h => ⟨fun c => (h c).2.2.2, sem_eq_zero_of_no_sems (by decide) r.2⟩) (Cert.DxUpCRefIdeal.Value.run m g)

open Cert.DxUpCIdeal in
theorem algebraic_DxUpC : Cert.algebraic_DxUpCIdeal_DxUpCRefIdeal := by
  intro m g m' g' _ hagree
  refine ⟨fun c => (Gen.dats m 0 c).arrAt 8 cfg0.N, fun c => (Gen.dats m 0 c).arrAt 9 cfg0.N, fun c => (Gen.dats m 0 c).arrAt 10 cfg0.N, Value.run_blocks m g, ?_⟩
  refine (θ_run Cert.DxUpCRefIdeal.defs _ _).mono (fun r h c => ?_) (Cert.DxUpCRefIdeal.Value.run m' g')
  obtain ⟨h0, h1, h2, hargs⟩ := h c
  obtain ⟨e0, e1, e2, e3, e4⟩ := hagree c
  refine ⟨?_, ?_, ?_, hargs⟩
  · refine h0.trans (Eq.trans ?_ (Eq.final8 m c).symm)
    rw [← e0, ← e1, ← e2, ← e3, ← e4]
    exact Cert.DxUpCRefIdeal.Read.val_main_v39_eq _ _
  · refine h1.trans (Eq.trans ?_ (Eq.final9 m c).symm)
    rw [← e0, ← e1, ← e2, ← e3, ← e4]
    exact Cert.DxUpCRefIdeal.Read.val_main_v40_eq _ _
  · refine h2.trans (Eq.trans ?_ (Eq.final10 m c).symm)
    rw [← e0, ← e1, ← e4]
    exact Cert.DxUpCRefIdeal.Read.val_main_v41_eq _ _ _

theorem frame_DownC : Cert.quiescent_DownCRefIdeal := fun m g _ =>
  (θ_run Cert.DownCRefIdeal.defs _ _).mono (fun r h => ⟨fun c => (h c).2, sem_eq_zero_of_no_sems (by decide) r.2⟩) (Cert.DownCRefIdeal.Value.run m g)

open Cert.DownCIdeal in
theorem algebraic_DownC : Cert.algebraic_DownCIdeal_DownCRefIdeal := by
  intro m g m' g' _ hagree
  refine ⟨fun c => (Gen.dats m 0 c).arrAt 6 cfg0.N, Value.run_blocks m g, ?_⟩
  refine (θ_run Cert.DownCRefIdeal.defs _ _).mono (fun r h c => ?_) (Cert.DownCRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DownCRefIdeal.Read.val_main_v2_eq _ _ _

theorem frame_DxIn : Cert.quiescent_DxInRefIdeal := fun m g _ =>
  (θ_run Cert.DxInRefIdeal.defs _ _).mono (fun r h => ⟨fun c => (h c).2.2.2, sem_eq_zero_of_no_sems (by decide) r.2⟩) (Cert.DxInRefIdeal.Value.run m g)

open Cert.DxInIdeal in
theorem algebraic_DxIn : Cert.algebraic_DxInIdeal_DxInRefIdeal := by
  intro m g m' g' _ hagree
  refine ⟨fun c => (Gen.dats m 0 c).arrAt 7 cfg0.N, fun c => (Gen.dats m 0 c).arrAt 8 cfg0.N, fun c => (Gen.dats m 0 c).arrAt 9 cfg0.N, Value.run_blocks m g, ?_⟩
  refine (θ_run Cert.DxInRefIdeal.defs _ _).mono (fun r h c => ?_) (Cert.DxInRefIdeal.Value.run m' g')
  obtain ⟨h0, h1, h2, hargs⟩ := h c
  obtain ⟨e0, e1, e2, e3, e4⟩ := hagree c
  refine ⟨?_, ?_, ?_, hargs⟩
  · refine h0.trans (Eq.trans ?_ (Eq.final7 m c).symm)
    rw [← e0, ← e1, ← e2, ← e3, ← e4]
    exact Cert.DxInRefIdeal.Read.val_main_v39_eq _ _
  · refine h1.trans (Eq.trans ?_ (Eq.final8 m c).symm)
    rw [← e0, ← e1, ← e2, ← e3, ← e4]
    exact Cert.DxInRefIdeal.Read.val_main_v40_eq _ _
  · refine h2.trans (Eq.trans ?_ (Eq.final9 m c).symm)
    rw [← e0, ← e1, ← e4]
    exact Cert.DxInRefIdeal.Read.val_main_v41_eq _ _ _

theorem frame_DwIn : Cert.quiescent_DwInRefIdeal := fun m g _ =>
  (θ_run Cert.DwInRefIdeal.defs _ _).mono (fun r h => ⟨fun c => (h c).2, sem_eq_zero_of_no_sems (by decide) r.2⟩) (Cert.DwInRefIdeal.Value.run m g)

open Cert.DwInIdeal in
theorem algebraic_DwIn : Cert.algebraic_DwInIdeal_DwInRefIdeal := by
  intro m g m' g' _ hagree
  refine ⟨fun c => (Gen.dats m 0 c).arrAt 2 cfg0.N, Value.run_blocks m g, ?_⟩
  refine (θ_run Cert.DwInRefIdeal.defs _ _).mono (fun r h c => ?_) (Cert.DwInRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwInRefIdeal.Read.val_main_v12_eq _ _ _

theorem frame_Out : Cert.quiescent_OutRefIdeal := fun m g _ =>
  (θ_run Cert.OutRefIdeal.defs _ _).mono (fun r h => ⟨fun c => (h c).2, sem_eq_zero_of_no_sems (by decide) r.2⟩) (Cert.OutRefIdeal.Value.run m g)

open Cert.OutIdeal in
theorem algebraic_Out : Cert.algebraic_OutIdeal_OutRefIdeal := by
  intro m g m' g' _ hagree
  refine ⟨fun c => (Gen.dats m 0 c).arrAt 6 cfg0.N, Value.run_blocks m g, ?_⟩
  refine (θ_run Cert.OutRefIdeal.defs _ _).mono (fun r h c => ?_) (Cert.OutRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.OutRefIdeal.Read.val_main_v2_eq _ _ _

theorem frame_DxOut : Cert.quiescent_DxOutRefIdeal := fun m g _ =>
  (θ_run Cert.DxOutRefIdeal.defs _ _).mono (fun r h => ⟨fun c => (h c).2, sem_eq_zero_of_no_sems (by decide) r.2⟩) (Cert.DxOutRefIdeal.Value.run m g)

open Cert.DxOutIdeal in
theorem algebraic_DxOut : Cert.algebraic_DxOutIdeal_DxOutRefIdeal := by
  intro m g m' g' _ hagree
  refine ⟨fun c => (Gen.dats m 0 c).arrAt 5 cfg0.N, Value.run_blocks m g, ?_⟩
  refine (θ_run Cert.DxOutRefIdeal.defs _ _).mono (fun r h c => ?_) (Cert.DxOutRefIdeal.Value.run m' g')
  obtain ⟨h0, hargs⟩ := h c
  obtain ⟨e0, e1⟩ := hagree c
  refine ⟨?_, hargs⟩
  refine h0.trans (Eq.trans ?_ (Eq.final m c).symm)
  rw [← e0, ← e1]
  exact Cert.DxOutRefIdeal.Read.val_main_v4_eq _ _

theorem frame_DwOut : Cert.quiescent_DwOutRefIdeal := fun m g _ =>
  (θ_run Cert.DwOutRefIdeal.defs _ _).mono (fun r h => ⟨fun c => (h c).2, sem_eq_zero_of_no_sems (by decide) r.2⟩) (Cert.DwOutRefIdeal.Value.run m g)

open Cert.DwOutIdeal in
theorem algebraic_DwOut : Cert.algebraic_DwOutIdeal_DwOutRefIdeal := by
  intro m g m' g' _ hagree
  refine ⟨fun c => (Gen.dats m 0 c).arrAt 2 cfg0.N, Value.run_blocks m g, ?_⟩
  refine (θ_run Cert.DwOutRefIdeal.defs _ _).mono (fun r h c => ?_) (Cert.DwOutRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwOutRefIdeal.Read.val_main_v12_eq _ _ _

theorem frame_DxGate : Cert.quiescent_DxGateRefIdeal := fun m g _ =>
  (θ_run Cert.DxGateRefIdeal.defs _ _).mono (fun r h => ⟨fun c => (h c).2, sem_eq_zero_of_no_sems (by decide) r.2⟩) (Cert.DxGateRefIdeal.Value.run m g)

open Cert.DxGateIdeal in
theorem algebraic_DxGate : Cert.algebraic_DxGateIdeal_DxGateRefIdeal := by
  intro m g m' g' _ hagree
  refine ⟨fun c => (Gen.dats m 0 c).arrAt 5 cfg0.N, Value.run_blocks m g, ?_⟩
  refine (θ_run Cert.DxGateRefIdeal.defs _ _).mono (fun r h c => ?_) (Cert.DxGateRefIdeal.Value.run m' g')
  obtain ⟨h0, hargs⟩ := h c
  obtain ⟨e0, e1⟩ := hagree c
  refine ⟨?_, hargs⟩
  refine h0.trans (Eq.trans ?_ (Eq.final m c).symm)
  rw [← e0, ← e1]
  exact Cert.DxGateRefIdeal.Read.val_main_v3_eq _ _

theorem frame_DwGate : Cert.quiescent_DwGateRefIdeal := fun m g _ =>
  (θ_run Cert.DwGateRefIdeal.defs _ _).mono (fun r h => ⟨fun c => (h c).2, sem_eq_zero_of_no_sems (by decide) r.2⟩) (Cert.DwGateRefIdeal.Value.run m g)

open Cert.DwGateIdeal in
theorem algebraic_DwGate : Cert.algebraic_DwGateIdeal_DwGateRefIdeal := by
  intro m g m' g' _ hagree
  refine ⟨fun c => (Gen.dats m 0 c).arrAt 2 cfg0.N, Value.run_blocks m g, ?_⟩
  refine (θ_run Cert.DwGateRefIdeal.defs _ _).mono (fun r h c => ?_) (Cert.DwGateRefIdeal.Value.run m' g')
  obtain ⟨h0, hargs⟩ := h c
  obtain ⟨e0, e1, e2⟩ := hagree c
  refine ⟨?_, hargs⟩
  refine h0.trans (Eq.trans ?_ (Eq.final m c).symm)
  rw [← e0, ← e1, ← e2]
  exact Cert.DwGateRefIdeal.Read.val_main_v12_eq _ _ _

end Cert.Calls

end
-- ==== Proof.Block.lean ====
/- What one trip of the kernel's loops over key blocks computes, as pure functions of blocks.

   A trip takes the rows' running sums `p` (of the logarithms of `1 - β` over the keys seen) and `e`
   (of the gradients of the exponents over the keys seen), the running gradient of the queries, and the
   two whole arrays in which the gradients of the keys and values are summed. `step` gives all five
   after the trip. The kernel has two such loops for each head of a pair, one whose blocks lie wholly
   before the rows' own block and one for that block itself, which masks the keys not before the row;
   here both are `step`, the first with a mask that keeps all. -/
module

public import proofs.«01_k».proof.Proof.Gen.KernelIdeal.Loops
public import Idealize.ShloMosaic.Lib.VecWindow

@[expose] public section

set_option maxRecDepth 16384

noncomputable section

namespace Cert.KernelIdeal.Sb

open Idealize.ShloMosaic Idealize.ShloMosaic.TcCoe Cert.KernelIdeal.Gen

variable {F : FTy → Type} [FloatOps F]

/-- The values a trip carries: the two row sums and the gradient of the queries. -/
abbrev Carry (F : FTy → Type) : Type := FVec F S512x1 .f32 × FVec F S512x1 .f32 × FVec F S512x128 .f32

/-- Carried values and the two arrays the trips add into. -/
abbrev State (F : FTy → Type) : Type := Carry F × Vec F S2048x128 .f32 × Vec F S2048x128 .f32

/-- Rows `512 b … 512 b + 511` of an array. -/
def rows {α : Type} (X : S2048x128.Idx → α) (b : ℕ) : S512x128.Idx → α :=
  fun y => X (fun a => match a with
    | ⟨0, _⟩ => (⟨(512 * b + (y 0).val) % 2048, Nat.mod_lt _ (by decide)⟩ : Fin 2048)
    | ⟨1, _⟩ => (y 1 : Fin 128))

/-- The logarithm of `1 - β` of one block, 0 where the mask drops the key. -/
def lom (M : IVec S512x512 1) (qs : FVec F S512x128 .bf16) (k : Vec F S512x128 .bf16) : FVec F S512x512 .bf16 :=
  truncf .bf16 (select M (subf (k0_pay28 qs k) (k0_pay27 qs k)) (broadcast S512x512 (Scalar.ofBits .f32 0x00000000#32))) bitsLt_bf16_f32

/-- The attention weights of one block. -/
def wgt (M : IVec S512x512 1) (upto : FVec F S512x512 .bf16) (qs : FVec F S512x128 .bf16) (tot p : FVec F S512x1 .f32)
    (k : Vec F S512x128 .bf16) : FVec F S512x512 .f32 :=
  select M (exp (addf (k0_pay28 qs k) (subf (broadcastTo S512x512 (subf tot p) broadcasts_S512x1_S512x512)
    (matmul dot_S512x512_S512x512_S512x512_1_0_0_1_n_n none (lom M qs k) upto (constant S512x512 .f32 0x00000000#32)))))
    (broadcast S512x512 (Scalar.ofBits .f32 0x00000000#32))

/-- The gradients of the exponents of one block: the weight times the gradient of the weight. -/
def egr (M : IVec S512x512 1) (upto : FVec F S512x512 .bf16) (qs : FVec F S512x128 .bf16) (g : Vec F S512x128 .bf16) (tot p : FVec F S512x1 .f32)
    (k v : Vec F S512x128 .bf16) : FVec F S512x512 .f32 :=
  mulf (matmul dot_S512x128_S512x128_S512x512_1_1_0_0_n_n none g v (constant S512x512 .f32 0x00000000#32)) (wgt M upto qs tot p k)

/-- The gradients of the scores of one block. -/
def dsc (M : IVec S512x512 1) (upto before : FVec F S512x512 .bf16) (qs : FVec F S512x128 .bf16) (g : Vec F S512x128 .bf16)
    (tot p e : FVec F S512x1 .f32) (k v : Vec F S512x128 .bf16) : FVec F S512x512 .bf16 :=
  truncf .bf16 (select M
    (subf (egr M upto qs g tot p k v) (mulf (addf (egr M upto qs g tot p k v)
      (addf (broadcastTo S512x512 e broadcasts_S512x1_S512x512)
        (matmul dot_S512x512_S512x512_S512x512_1_0_0_1_n_n none (truncf .bf16 (egr M upto qs g tot p k v) bitsLt_bf16_f32) before
          (constant S512x512 .f32 0x00000000#32)))) (exp (k0_pay28 qs k))))
    (broadcast S512x512 (Scalar.ofBits .f32 0x00000000#32))) bitsLt_bf16_f32

/-- One trip at key block `b`. -/
def step (sel : IVec S1x128 1) (upto before : FVec F S512x512 .bf16) (qs : FVec F S512x128 .bf16) (g : Vec F S512x128 .bf16)
    (tot : FVec F S512x1 .f32) (K V : Vec F S2048x128 .bf16) (M : IVec S512x512 1) (b : ℕ) (s : State F) : State F :=
  ((k0_pay104 s.1.1 (lom M qs (rows K b)),
    k0_pay105 s.1.2.1 (truncf .bf16 (egr M upto qs g tot s.1.1 (rows K b) (rows V b)) bitsLt_bf16_f32),
    k0_pay106 sel s.1.2.2 (rows K b) (dsc M upto before qs g tot s.1.1 s.1.2.1 (rows K b) (rows V b))),
   VecWindow.put (s := S2048x128) s.2.1 ![512 * b, 0] ![512, 128] (k0_pay102 (addf (rows s.2.1 b)
     (matmul dot_S512x512_S512x128_S512x128_0_0_1_1_n_n none (dsc M upto before qs g tot s.1.1 s.1.2.1 (rows K b) (rows V b)) qs
       (constant S512x128 .f32 0x00000000#32)))),
   VecWindow.put (s := S2048x128) s.2.2 ![512 * b, 0] ![512, 128] (k0_pay103 g (wgt M upto qs tot s.1.1 (rows K b)) (rows s.2.2 b)))

/-- The mask that keeps every key. -/
def keepAll : IVec S512x512 1 := fun _ => 1#1

/-- `n` trips over the first `n` key blocks, all kept. -/
def trips (sel : IVec S1x128 1) (upto before : FVec F S512x512 .bf16) (qs : FVec F S512x128 .bf16) (g : Vec F S512x128 .bf16)
    (tot : FVec F S512x1 .f32) (K V : Vec F S2048x128 .bf16) (s : State F) : ℕ → State F
  | 0 => s
  | n + 1 => step sel upto before qs g tot K V keepAll n (trips sel upto before qs g tot K V s n)

/-- A load of 512 whole rows reads `rows`. -/
theorem readAt_rows {Val : EltTy → Type} {e : EltTy} {sp : Space} (v : View sig .tc sp S2048x128 e) (f : v.ty.Contents Val) {off : Fin 2 → ℕ} (b : ℕ)
    (inb : ∀ a, off a + S512x128.size a ≤ S2048x128.size a) (h : off = ![512 * b, 0]) :
    v.readAt Val (Rect.unit (s := S2048x128) off S512x128.size inb).toLoadRect f = rows (v.read Val f) b := by
  subst h
  have h0 : 512 * b + 512 ≤ 2048 := inb 0
  funext y
  refine congrArg (v.read Val f) (funext fun a => ?_)
  match a with
  | ⟨0, _⟩ =>
    refine Fin.ext ?_
    show 512 * b + 1 * (y 0).val = (512 * b + (y 0).val) % 2048
    have := (y 0).isLt
    rw [Nat.mod_eq_of_lt (by have : (y 0).val < 512 := (y 0).isLt; omega)]; omega
  | ⟨1, _⟩ =>
    refine Fin.ext ?_
    show 0 + 1 * (y 1).val = (y 1).val
    omega

section
variable (𝒱 : Variants) (c : Dev nD) (bd : Option 𝒱.V) (i : grid0.Coords)
  (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (X_arg3 : BufTy.Contents (Elt F) arg3.view.ty) (X_arg4 : BufTy.Contents (Elt F) arg4.view.ty)
  (G_arg10 : BufTy.Contents (Elt F) arg10.view.ty) (G_arg11 : BufTy.Contents (Elt F) arg11.view.ty)
  (arg1 : BitVec 32) (v5 : IVec S512x512 32) (v11 v17 : FVec F S512x512 .bf16) (v23 v61 : IVec S1x128 1) (v30 v68 : FVec F S512x128 .bf16)
  (v35 v73 : Vec F S512x128 .bf16) (v37 v38 v75 : FVec F S512x1 .f32) (v39 v77 v45 v53 v83 v91 : BitVec 32) (cst_11 : F .f32) (init : Carry F)

/-- What a loop's state says: the carried values, and the two arrays with the trips' pieces written. -/
def stateOf (arg10 arg11 : Memref sig .tc .vmem S2048x128 .f32) (G_arg10 : BufTy.Contents (Elt F) arg10.view.ty)
    (G_arg11 : BufTy.Contents (Elt F) arg11.view.ty)
    (s : Carry F × List (View.Piece (Elt F) S2048x128 .f32) × List (View.Piece (Elt F) S2048x128 .f32)) : State F :=
  (s.1, arg10.view.read (Elt F) (arg10.view.writes (Elt F) G_arg10 s.2.1), arg11.view.read (Elt F) (arg11.view.writes (Elt F) G_arg11 s.2.2))

/-- The state of a loop before its first trip. -/
abbrev entry (arg10 arg11 : Memref sig .tc .vmem S2048x128 .f32) (G_arg10 : BufTy.Contents (Elt F) arg10.view.ty)
    (G_arg11 : BufTy.Contents (Elt F) arg11.view.ty) (init : Carry F) : State F :=
  (init, arg10.view.read (Elt F) G_arg10, arg11.view.read (Elt F) G_arg11)

/-- One trip of loop 1 is `step`. -/
theorem trip1 (k : Fin (k0_t1_loop i).trips) (s : Carry F × List (View.Piece (Elt F) S2048x128 .f32) × List (View.Piece (Elt F) S2048x128 .f32))
    (hoff : k0_off1 i k = ![512 * k.val, 0]) :
    stateOf arg10 arg11 G_arg10 G_arg11
      (tripR_k0_t1 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 k s.1 (arg10.view.writes (Elt F) G_arg10 s.2.1) (arg11.view.writes (Elt F) G_arg11 s.2.2),
       (tripL_k0_t1 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 k s.1 (arg10.view.writes (Elt F) G_arg10 s.2.1) (arg11.view.writes (Elt F) G_arg11 s.2.2)).1 ++ s.2.1,
       (tripL_k0_t1 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 k s.1 (arg10.view.writes (Elt F) G_arg10 s.2.1) (arg11.view.writes (Elt F) G_arg11 s.2.2)).2 ++ s.2.2)
      = step v23 v11 v17 v30 v35 v37 (arg3.view.read (Elt F) X_arg3) (arg4.view.read (Elt F) X_arg4) keepAll k.val
          (stateOf arg10 arg11 G_arg10 G_arg11 s) := by
  have e3 := readAt_rows arg3.view X_arg3 _ (k0_off1_inb i k) hoff
  have e4 := readAt_rows arg4.view X_arg4 _ (k0_off1_inb i k) hoff
  have e10 := readAt_rows arg10.view (arg10.view.writes (Elt F) G_arg10 s.2.1) _ (k0_off1_inb i k) hoff
  have e11 := readAt_rows arg11.view (arg11.view.writes (Elt F) G_arg11 s.2.2) _ (k0_off1_inb i k) hoff
  unfold stateOf step
  rw [← e3, ← e4, ← e10, ← e11]
  unfold tripR_k0_t1 tripL_k0_t1 trip_k0_t1
  dsimp only [List.cons_append, List.nil_append]
  rw [View.read_writes_cons_put _ _ _ _ _ hoff, View.read_writes_cons_put _ _ _ _ _ hoff]
  rfl

/-- One trip of loop 5 is `step`. -/
theorem trip5 (k : Fin (k0_t5_loop i).trips) (s : Carry F × List (View.Piece (Elt F) S2048x128 .f32) × List (View.Piece (Elt F) S2048x128 .f32))
    (hoff : k0_off5 i k = ![512 * k.val, 0]) :
    stateOf arg10 arg11 G_arg10 G_arg11
      (tripR_k0_t5 (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 k s.1 (arg10.view.writes (Elt F) G_arg10 s.2.1) (arg11.view.writes (Elt F) G_arg11 s.2.2),
       (tripL_k0_t5 (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 k s.1 (arg10.view.writes (Elt F) G_arg10 s.2.1) (arg11.view.writes (Elt F) G_arg11 s.2.2)).1 ++ s.2.1,
       (tripL_k0_t5 (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 k s.1 (arg10.view.writes (Elt F) G_arg10 s.2.1) (arg11.view.writes (Elt F) G_arg11 s.2.2)).2 ++ s.2.2)
      = step v61 v11 v17 v68 v73 v75 (arg3.view.read (Elt F) X_arg3) (arg4.view.read (Elt F) X_arg4) keepAll k.val
          (stateOf arg10 arg11 G_arg10 G_arg11 s) := by
  have e3 := readAt_rows arg3.view X_arg3 _ (k0_off5_inb i k) hoff
  have e4 := readAt_rows arg4.view X_arg4 _ (k0_off5_inb i k) hoff
  have e10 := readAt_rows arg10.view (arg10.view.writes (Elt F) G_arg10 s.2.1) _ (k0_off5_inb i k) hoff
  have e11 := readAt_rows arg11.view (arg11.view.writes (Elt F) G_arg11 s.2.2) _ (k0_off5_inb i k) hoff
  unfold stateOf step
  rw [← e3, ← e4, ← e10, ← e11]
  unfold tripR_k0_t5 tripL_k0_t5 trip_k0_t5
  dsimp only [List.cons_append, List.nil_append]
  rw [View.read_writes_cons_put _ _ _ _ _ hoff, View.read_writes_cons_put _ _ _ _ _ hoff]
  rfl

/-- One trip of loop 3 is `step`. -/
theorem trip3 (k : Fin (k0_t3_loop i).trips) (s : Carry F × List (View.Piece (Elt F) S2048x128 .f32) × List (View.Piece (Elt F) S2048x128 .f32))
    (hoff : k0_off3 i k = ![512 * (i 1).val, 0]) :
    stateOf arg10 arg11 G_arg10 G_arg11
      (tripR_k0_t3 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 k s.1 (arg10.view.writes (Elt F) G_arg10 s.2.1) (arg11.view.writes (Elt F) G_arg11 s.2.2),
       (tripL_k0_t3 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 k s.1 (arg10.view.writes (Elt F) G_arg10 s.2.1) (arg11.view.writes (Elt F) G_arg11 s.2.2)).1 ++ s.2.1,
       (tripL_k0_t3 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 k s.1 (arg10.view.writes (Elt F) G_arg10 s.2.1) (arg11.view.writes (Elt F) G_arg11 s.2.2)).2 ++ s.2.2)
      = step v23 v11 v17 v30 v35 v37 (arg3.view.read (Elt F) X_arg3) (arg4.view.read (Elt F) X_arg4) (k0_pay45 i arg1 v5 v39 (1#32) k) (i 1).val
          (stateOf arg10 arg11 G_arg10 G_arg11 s) := by
  have e3 := readAt_rows arg3.view X_arg3 _ (k0_off3_inb i k) hoff
  have e4 := readAt_rows arg4.view X_arg4 _ (k0_off3_inb i k) hoff
  have e10 := readAt_rows arg10.view (arg10.view.writes (Elt F) G_arg10 s.2.1) _ (k0_off3_inb i k) hoff
  have e11 := readAt_rows arg11.view (arg11.view.writes (Elt F) G_arg11 s.2.2) _ (k0_off3_inb i k) hoff
  unfold stateOf step
  rw [← e3, ← e4, ← e10, ← e11]
  unfold tripR_k0_t3 tripL_k0_t3 trip_k0_t3
  dsimp only [List.cons_append, List.nil_append]
  rw [View.read_writes_cons_put _ _ _ _ _ hoff, View.read_writes_cons_put _ _ _ _ _ hoff]
  rfl

/-- One trip of loop 7 is `step`. -/
theorem trip7 (k : Fin (k0_t7_loop i).trips) (s : Carry F × List (View.Piece (Elt F) S2048x128 .f32) × List (View.Piece (Elt F) S2048x128 .f32))
    (hoff : k0_off7 i k = ![512 * (i 1).val, 0]) :
    stateOf arg10 arg11 G_arg10 G_arg11
      (tripR_k0_t7 (F := F) 𝒱 c bd i arg2 harg2 arg3 harg3 arg4 harg4 arg5 harg5 arg6 harg6 arg7 harg7 arg8 harg8 arg9 harg9 arg10 harg10 arg11 harg11 arg1 v5 v11 v17 v61 v68 v73 v75 v77 X_arg3 X_arg4 k s.1 (arg10.view.writes (Elt F) G_arg10 s.2.1) (arg11.view.writes (Elt F) G_arg11 s.2.2),
       (tripL_k0_t7 (F := F) 𝒱 c bd i arg2 harg2 arg3 harg3 arg4 harg4 arg5 harg5 arg6 harg6 arg7 harg7 arg8 harg8 arg9 harg9 arg10 harg10 arg11 harg11 arg1 v5 v11 v17 v61 v68 v73 v75 v77 X_arg3 X_arg4 k s.1 (arg10.view.writes (Elt F) G_arg10 s.2.1) (arg11.view.writes (Elt F) G_arg11 s.2.2)).1 ++ s.2.1,
       (tripL_k0_t7 (F := F) 𝒱 c bd i arg2 harg2 arg3 harg3 arg4 harg4 arg5 harg5 arg6 harg6 arg7 harg7 arg8 harg8 arg9 harg9 arg10 harg10 arg11 harg11 arg1 v5 v11 v17 v61 v68 v73 v75 v77 X_arg3 X_arg4 k s.1 (arg10.view.writes (Elt F) G_arg10 s.2.1) (arg11.view.writes (Elt F) G_arg11 s.2.2)).2 ++ s.2.2)
      = step v61 v11 v17 v68 v73 v75 (arg3.view.read (Elt F) X_arg3) (arg4.view.read (Elt F) X_arg4) (k0_pay77 i arg1 v5 v77 (1#32) k) (i 1).val
          (stateOf arg10 arg11 G_arg10 G_arg11 s) := by
  have e3 := readAt_rows arg3.view X_arg3 _ (k0_off7_inb i k) hoff
  have e4 := readAt_rows arg4.view X_arg4 _ (k0_off7_inb i k) hoff
  have e10 := readAt_rows arg10.view (arg10.view.writes (Elt F) G_arg10 s.2.1) _ (k0_off7_inb i k) hoff
  have e11 := readAt_rows arg11.view (arg11.view.writes (Elt F) G_arg11 s.2.2) _ (k0_off7_inb i k) hoff
  unfold stateOf step
  rw [← e3, ← e4, ← e10, ← e11]
  unfold tripR_k0_t7 tripL_k0_t7 trip_k0_t7
  dsimp only [List.cons_append, List.nil_append]
  rw [View.read_writes_cons_put _ _ _ _ _ hoff, View.read_writes_cons_put _ _ _ _ _ hoff]
  rfl

theorem trips1 : ∀ i : grid0.Coords, (k0_t1_loop i).trips = (i 1).val := by decide +kernel
theorem trips3 : ∀ i : grid0.Coords, (k0_t3_loop i).trips = 1 := by decide +kernel
theorem trips5 : ∀ i : grid0.Coords, (k0_t5_loop i).trips = (i 1).val := by decide +kernel
theorem trips7 : ∀ i : grid0.Coords, (k0_t7_loop i).trips = 1 := by decide +kernel
/-- The four loops' trip counts, as the body's run spells them. -/
theorem count1 : ∀ i : grid0.Coords, Scf.trips (0#32) (Scalar.addi (0#32) (Scalar.muli (Scalar.divsi (Scalar.subi (Scalar.muli (BitVec.ofNat 32 (i 1).val) 1#32) 0#32) 1#32) 1#32)) 1#32 = (i 1).val := by decide +kernel
theorem count2 : ∀ i : grid0.Coords, Scf.trips (Scalar.addi (0#32) (Scalar.muli (Scalar.divsi (Scalar.subi (Scalar.muli (BitVec.ofNat 32 (i 1).val) 1#32) 0#32) 1#32) 1#32)) (Scalar.addi 0#32 (Scalar.subi (Scalar.muli (BitVec.ofNat 32 (i 1).val) 1#32) 0#32)) 1#32 = 0 := by decide +kernel
theorem count3 : ∀ i : grid0.Coords, Scf.trips (Scalar.muli (BitVec.ofNat 32 (i 1).val) 1#32) (Scalar.addi (Scalar.muli (BitVec.ofNat 32 (i 1).val) 1#32) (Scalar.muli (Scalar.divsi (Scalar.subi (Scalar.addi (Scalar.muli (BitVec.ofNat 32 (i 1).val) 1#32) 1#32) (Scalar.muli (BitVec.ofNat 32 (i 1).val) 1#32)) 1#32) 1#32)) 1#32 = 1 := by decide +kernel
theorem count4 : ∀ i : grid0.Coords, Scf.trips (Scalar.addi (Scalar.muli (BitVec.ofNat 32 (i 1).val) 1#32) (Scalar.muli (Scalar.divsi (Scalar.subi (Scalar.addi (Scalar.muli (BitVec.ofNat 32 (i 1).val) 1#32) 1#32) (Scalar.muli (BitVec.ofNat 32 (i 1).val) 1#32)) 1#32) 1#32)) (Scalar.addi (Scalar.muli (BitVec.ofNat 32 (i 1).val) 1#32) (Scalar.subi (Scalar.addi (Scalar.muli (BitVec.ofNat 32 (i 1).val) 1#32) 1#32) (Scalar.muli (BitVec.ofNat 32 (i 1).val) 1#32))) 1#32 = 0 := by decide +kernel

theorem off3_eq : ∀ (i : grid0.Coords) (k : Fin (k0_t3_loop i).trips), k0_off3 i k = ![512 * (i 1).val, 0] := by decide +kernel
theorem off7_eq : ∀ (i : grid0.Coords) (k : Fin (k0_t7_loop i).trips), k0_off7 i k = ![512 * (i 1).val, 0] := by decide +kernel

/-- Loop 1 after `n` trips. -/
theorem loop1 (n : ℕ) (hn : n ≤ (k0_t1_loop i).trips) :
    stateOf arg10 arg11 G_arg10 G_arg11 (st_k0_t1 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init n)
      = trips v23 v11 v17 v30 v35 v37 (arg3.view.read (Elt F) X_arg3) (arg4.view.read (Elt F) X_arg4) (entry arg10 arg11 G_arg10 G_arg11 init) n := by
  induction n with
  | zero => rfl
  | succ n ih =>
    have h := st_k0_t1_succ (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init ⟨n, hn⟩
    rw [show (⟨n, hn⟩ : Fin (k0_t1_loop i).trips).val = n from rfl] at h
    rw [h, trip1 (k := ⟨n, hn⟩) (hoff := k0_off1_eq i ⟨n, hn⟩), ih (Nat.le_of_succ_le hn)]
    rfl

/-- Loop 5 after `n` trips. -/
theorem loop5 (n : ℕ) (hn : n ≤ (k0_t5_loop i).trips) :
    stateOf arg10 arg11 G_arg10 G_arg11 (st_k0_t5 (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 G_arg10 G_arg11 init n)
      = trips v61 v11 v17 v68 v73 v75 (arg3.view.read (Elt F) X_arg3) (arg4.view.read (Elt F) X_arg4) (entry arg10 arg11 G_arg10 G_arg11 init) n := by
  induction n with
  | zero => rfl
  | succ n ih =>
    have h := st_k0_t5_succ (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 G_arg10 G_arg11 init ⟨n, hn⟩
    rw [show (⟨n, hn⟩ : Fin (k0_t5_loop i).trips).val = n from rfl] at h
    rw [h, trip5 (k := ⟨n, hn⟩) (hoff := k0_off5_eq i ⟨n, hn⟩), ih (Nat.le_of_succ_le hn)]
    rfl

/-- Loop 3 after its one trip. -/
theorem loop3 (k : Fin (k0_t3_loop i).trips) :
    stateOf arg10 arg11 G_arg10 G_arg11 (st_k0_t3 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init (k.val + 1))
      = step v23 v11 v17 v30 v35 v37 (arg3.view.read (Elt F) X_arg3) (arg4.view.read (Elt F) X_arg4) (k0_pay45 i arg1 v5 v39 (1#32) k) (i 1).val
          (entry arg10 arg11 G_arg10 G_arg11 init) := by
  have hk : k.val = 0 := Nat.lt_one_iff.mp (lt_of_lt_of_eq k.isLt (trips3 i))
  rw [st_k0_t3_succ, trip3 (hoff := off3_eq i k), hk]
  rfl

/-- Loop 7 after its one trip. -/
theorem loop7 (k : Fin (k0_t7_loop i).trips) :
    stateOf arg10 arg11 G_arg10 G_arg11 (st_k0_t7 (F := F) 𝒱 c bd i arg2 harg2 arg3 harg3 arg4 harg4 arg5 harg5 arg6 harg6 arg7 harg7 arg8 harg8 arg9 harg9 arg10 harg10 arg11 harg11 arg1 v5 v11 v17 v61 v68 v73 v75 v77 X_arg3 X_arg4 G_arg10 G_arg11 init (k.val + 1))
      = step v61 v11 v17 v68 v73 v75 (arg3.view.read (Elt F) X_arg3) (arg4.view.read (Elt F) X_arg4) (k0_pay77 i arg1 v5 v77 (1#32) k) (i 1).val
          (entry arg10 arg11 G_arg10 G_arg11 init) := by
  have hk : k.val = 0 := Nat.lt_one_iff.mp (lt_of_lt_of_eq k.isLt (trips7 i))
  rw [st_k0_t7_succ, trip7 (hoff := off7_eq i k), hk]
  rfl

/-- Loop 2 makes no trip. -/
theorem loop2 : st_k0_t2 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 v45 X_arg3 X_arg4 G_arg10 G_arg11 init 0 = (init, [], []) := rfl

/-- Loop 4 makes no trip. -/
theorem loop4 : st_k0_t4 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 v53 X_arg3 X_arg4 G_arg10 G_arg11 init 0 = (init, [], []) := rfl

/-- Loop 6 makes no trip. -/
theorem loop6 : st_k0_t6 (F := F) 𝒱 c bd i arg2 harg2 arg3 harg3 arg4 harg4 arg5 harg5 arg6 harg6 arg7 harg7 arg8 harg8 arg9 harg9 arg10 harg10 arg11 harg11 arg1 v11 v17 v61 v68 v73 v75 v83 X_arg3 X_arg4 G_arg10 G_arg11 init 0 = (init, [], []) := rfl

/-- Loop 8 makes no trip. -/
theorem loop8 : st_k0_t8 (F := F) 𝒱 c bd i arg2 harg2 arg3 harg3 arg4 harg4 arg5 harg5 arg6 harg6 arg7 harg7 arg8 harg8 arg9 harg9 arg10 harg10 arg11 harg11 arg1 v5 v11 v17 v61 v68 v73 v75 v91 X_arg3 X_arg4 G_arg10 G_arg11 init 0 = (init, [], []) := rfl

/-- Loop 1, whole. -/
theorem whole1 : stateOf arg10 arg11 G_arg10 G_arg11 (st_k0_t1 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init (i 1).val)
      = trips v23 v11 v17 v30 v35 v37 (arg3.view.read (Elt F) X_arg3) (arg4.view.read (Elt F) X_arg4) (entry arg10 arg11 G_arg10 G_arg11 init) (i 1).val :=
  loop1 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v23 v30 v35 v37 v38 v39 cst_11 init (i 1).val (le_of_eq (trips1 i).symm)

theorem whole1_carry : (st_k0_t1 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init (i 1).val).1
      = (trips v23 v11 v17 v30 v35 v37 (arg3.view.read (Elt F) X_arg3) (arg4.view.read (Elt F) X_arg4) (entry arg10 arg11 G_arg10 G_arg11 init) (i 1).val).1 :=
  congrArg (fun s : State F => s.1) (whole1 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v23 v30 v35 v37 v38 v39 cst_11 init)

theorem whole1_arg10 : arg10.view.read (Elt F) (arg10.view.writes (Elt F) G_arg10 (st_k0_t1 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init (i 1).val).2.1)
      = (trips v23 v11 v17 v30 v35 v37 (arg3.view.read (Elt F) X_arg3) (arg4.view.read (Elt F) X_arg4) (entry arg10 arg11 G_arg10 G_arg11 init) (i 1).val).2.1 :=
  congrArg (fun s : State F => s.2.1) (whole1 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v23 v30 v35 v37 v38 v39 cst_11 init)

theorem whole1_arg11 : arg11.view.read (Elt F) (arg11.view.writes (Elt F) G_arg11 (st_k0_t1 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init (i 1).val).2.2)
      = (trips v23 v11 v17 v30 v35 v37 (arg3.view.read (Elt F) X_arg3) (arg4.view.read (Elt F) X_arg4) (entry arg10 arg11 G_arg10 G_arg11 init) (i 1).val).2.2 :=
  congrArg (fun s : State F => s.2.2) (whole1 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v23 v30 v35 v37 v38 v39 cst_11 init)

/-- Loop 3, whole. -/
theorem whole3 : stateOf arg10 arg11 G_arg10 G_arg11 (st_k0_t3 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init 1)
      = step v23 v11 v17 v30 v35 v37 (arg3.view.read (Elt F) X_arg3) (arg4.view.read (Elt F) X_arg4) (k0_pay45 i arg1 v5 v39 (1#32) ⟨0, by rw [trips3]; exact Nat.one_pos⟩) (i 1).val (entry arg10 arg11 G_arg10 G_arg11 init) :=
  loop3 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v23 v30 v35 v37 v38 v39 cst_11 init ⟨0, by rw [trips3]; exact Nat.one_pos⟩

theorem whole3_carry : (st_k0_t3 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init 1).1
      = (step v23 v11 v17 v30 v35 v37 (arg3.view.read (Elt F) X_arg3) (arg4.view.read (Elt F) X_arg4) (k0_pay45 i arg1 v5 v39 (1#32) ⟨0, by rw [trips3]; exact Nat.one_pos⟩) (i 1).val (entry arg10 arg11 G_arg10 G_arg11 init)).1 :=
  congrArg (fun s : State F => s.1) (whole3 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v23 v30 v35 v37 v38 v39 cst_11 init)

theorem whole3_arg10 : arg10.view.read (Elt F) (arg10.view.writes (Elt F) G_arg10 (st_k0_t3 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init 1).2.1)
      = (step v23 v11 v17 v30 v35 v37 (arg3.view.read (Elt F) X_arg3) (arg4.view.read (Elt F) X_arg4) (k0_pay45 i arg1 v5 v39 (1#32) ⟨0, by rw [trips3]; exact Nat.one_pos⟩) (i 1).val (entry arg10 arg11 G_arg10 G_arg11 init)).2.1 :=
  congrArg (fun s : State F => s.2.1) (whole3 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v23 v30 v35 v37 v38 v39 cst_11 init)

theorem whole3_arg11 : arg11.view.read (Elt F) (arg11.view.writes (Elt F) G_arg11 (st_k0_t3 (F := F) 𝒱 c bd i arg2 harg2 arg3 harg3 arg4 harg4 arg5 harg5 arg6 harg6 arg7 harg7 arg8 harg8 arg9 harg9 arg10 harg10 arg11 harg11 arg1 v5 v11 v17 v23 v30 v35 v37 v38 v39 cst_11 X_arg3 X_arg4 G_arg10 G_arg11 init 1).2.2)
      = (step v23 v11 v17 v30 v35 v37 (arg3.view.read (Elt F) X_arg3) (arg4.view.read (Elt F) X_arg4) (k0_pay45 i arg1 v5 v39 (1#32) ⟨0, by rw [trips3]; exact Nat.one_pos⟩) (i 1).val (entry arg10 arg11 G_arg10 G_arg11 init)).2.2 :=
  congrArg (fun s : State F => s.2.2) (whole3 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v23 v30 v35 v37 v38 v39 cst_11 init)

/-- Loop 5, whole. -/
theorem whole5 : stateOf arg10 arg11 G_arg10 G_arg11 (st_k0_t5 (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 G_arg10 G_arg11 init (i 1).val)
      = trips v61 v11 v17 v68 v73 v75 (arg3.view.read (Elt F) X_arg3) (arg4.view.read (Elt F) X_arg4) (entry arg10 arg11 G_arg10 G_arg11 init) (i 1).val :=
  loop5 𝒱 c bd i arg2 harg2 arg3 harg3 arg4 harg4 arg5 harg5 arg6 harg6 arg7 harg7 arg8 harg8 arg9 harg9 arg10 harg10 arg11 harg11 X_arg3 X_arg4 G_arg10 G_arg11 arg1 v11 v17 v61 v68 v73 v75 init (i 1).val (le_of_eq (trips5 i).symm)

theorem whole5_carry : (st_k0_t5 (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 G_arg10 G_arg11 init (i 1).val).1
      = (trips v61 v11 v17 v68 v73 v75 (arg3.view.read (Elt F) X_arg3) (arg4.view.read (Elt F) X_arg4) (entry arg10 arg11 G_arg10 G_arg11 init) (i 1).val).1 :=
  congrArg (fun s : State F => s.1) (whole5 𝒱 c bd i arg2 harg2 arg3 harg3 arg4 harg4 arg5 harg5 arg6 harg6 arg7 harg7 arg8 harg8 arg9 harg9 arg10 harg10 arg11 harg11 X_arg3 X_arg4 G_arg10 G_arg11 arg1 v11 v17 v61 v68 v73 v75 init)

theorem whole5_arg10 : arg10.view.read (Elt F) (arg10.view.writes (Elt F) G_arg10 (st_k0_t5 (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 G_arg10 G_arg11 init (i 1).val).2.1)
      = (trips v61 v11 v17 v68 v73 v75 (arg3.view.read (Elt F) X_arg3) (arg4.view.read (Elt F) X_arg4) (entry arg10 arg11 G_arg10 G_arg11 init) (i 1).val).2.1 :=
  congrArg (fun s : State F => s.2.1) (whole5 𝒱 c bd i arg2 harg2 arg3 harg3 arg4 harg4 arg5 harg5 arg6 harg6 arg7 harg7 arg8 harg8 arg9 harg9 arg10 harg10 arg11 harg11 X_arg3 X_arg4 G_arg10 G_arg11 arg1 v11 v17 v61 v68 v73 v75 init)

theorem whole5_arg11 : arg11.view.read (Elt F) (arg11.view.writes (Elt F) G_arg11 (st_k0_t5 (F := F) 𝒱 c bd i arg2 harg2 arg3 harg3 arg4 harg4 arg5 harg5 arg6 harg6 arg7 harg7 arg8 harg8 arg9 harg9 arg10 harg10 arg11 harg11 arg1 v11 v17 v61 v68 v73 v75 X_arg3 X_arg4 G_arg10 G_arg11 init (i 1).val).2.2)
      = (trips v61 v11 v17 v68 v73 v75 (arg3.view.read (Elt F) X_arg3) (arg4.view.read (Elt F) X_arg4) (entry arg10 arg11 G_arg10 G_arg11 init) (i 1).val).2.2 :=
  congrArg (fun s : State F => s.2.2) (whole5 𝒱 c bd i arg2 harg2 arg3 harg3 arg4 harg4 arg5 harg5 arg6 harg6 arg7 harg7 arg8 harg8 arg9 harg9 arg10 harg10 arg11 harg11 X_arg3 X_arg4 G_arg10 G_arg11 arg1 v11 v17 v61 v68 v73 v75 init)

/-- Loop 7, whole. -/
theorem whole7 : stateOf arg10 arg11 G_arg10 G_arg11 (st_k0_t7 (F := F) 𝒱 c bd i arg2 harg2 arg3 harg3 arg4 harg4 arg5 harg5 arg6 harg6 arg7 harg7 arg8 harg8 arg9 harg9 arg10 harg10 arg11 harg11 arg1 v5 v11 v17 v61 v68 v73 v75 v77 X_arg3 X_arg4 G_arg10 G_arg11 init 1)
      = step v61 v11 v17 v68 v73 v75 (arg3.view.read (Elt F) X_arg3) (arg4.view.read (Elt F) X_arg4) (k0_pay77 i arg1 v5 v77 (1#32) ⟨0, by rw [trips7]; exact Nat.one_pos⟩) (i 1).val (entry arg10 arg11 G_arg10 G_arg11 init) :=
  loop7 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v61 v68 v73 v75 v77 init ⟨0, by rw [trips7]; exact Nat.one_pos⟩

theorem whole7_carry : (st_k0_t7 (F := F) 𝒱 c bd i arg2 harg2 arg3 harg3 arg4 harg4 arg5 harg5 arg6 harg6 arg7 harg7 arg8 harg8 arg9 harg9 arg10 harg10 arg11 harg11 arg1 v5 v11 v17 v61 v68 v73 v75 v77 X_arg3 X_arg4 G_arg10 G_arg11 init 1).1
      = (step v61 v11 v17 v68 v73 v75 (arg3.view.read (Elt F) X_arg3) (arg4.view.read (Elt F) X_arg4) (k0_pay77 i arg1 v5 v77 (1#32) ⟨0, by rw [trips7]; exact Nat.one_pos⟩) (i 1).val (entry arg10 arg11 G_arg10 G_arg11 init)).1 :=
  congrArg (fun s : State F => s.1) (whole7 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v61 v68 v73 v75 v77 init)

theorem whole7_arg10 : arg10.view.read (Elt F) (arg10.view.writes (Elt F) G_arg10 (st_k0_t7 (F := F) 𝒱 c bd i arg2 harg2 arg3 harg3 arg4 harg4 arg5 harg5 arg6 harg6 arg7 harg7 arg8 harg8 arg9 harg9 arg10 harg10 arg11 harg11 arg1 v5 v11 v17 v61 v68 v73 v75 v77 X_arg3 X_arg4 G_arg10 G_arg11 init 1).2.1)
      = (step v61 v11 v17 v68 v73 v75 (arg3.view.read (Elt F) X_arg3) (arg4.view.read (Elt F) X_arg4) (k0_pay77 i arg1 v5 v77 (1#32) ⟨0, by rw [trips7]; exact Nat.one_pos⟩) (i 1).val (entry arg10 arg11 G_arg10 G_arg11 init)).2.1 :=
  congrArg (fun s : State F => s.2.1) (whole7 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v61 v68 v73 v75 v77 init)

theorem whole7_arg11 : arg11.view.read (Elt F) (arg11.view.writes (Elt F) G_arg11 (st_k0_t7 (F := F) 𝒱 c bd i arg2 harg2 arg3 harg3 arg4 harg4 arg5 harg5 arg6 harg6 arg7 harg7 arg8 harg8 arg9 harg9 arg10 harg10 arg11 harg11 arg1 v5 v11 v17 v61 v68 v73 v75 v77 X_arg3 X_arg4 G_arg10 G_arg11 init 1).2.2)
      = (step v61 v11 v17 v68 v73 v75 (arg3.view.read (Elt F) X_arg3) (arg4.view.read (Elt F) X_arg4) (k0_pay77 i arg1 v5 v77 (1#32) ⟨0, by rw [trips7]; exact Nat.one_pos⟩) (i 1).val (entry arg10 arg11 G_arg10 G_arg11 init)).2.2 :=
  congrArg (fun s : State F => s.2.2) (whole7 𝒱 c bd i arg2 harg2 arg3 harg3 arg4 harg4 arg5 harg5 arg6 harg6 arg7 harg7 arg8 harg8 arg9 harg9 arg10 harg10 arg11 harg11 X_arg3 X_arg4 G_arg10 G_arg11 arg1 v5 v11 v17 v61 v68 v73 v75 v77 init)

end

end Cert.KernelIdeal.Sb

end
-- ==== Proof.Point.lean ====
module

/- What one grid point of the backward call computes, as values: the two heads of a pair one after the
   other, each by the trips over the key blocks before the queries' own and one masked trip over that
   block. -/

public import proofs.«01_k».proof.Proof.Gen.KernelIdeal.Frame
public import proofs.«01_k».proof.Proof.Block
public import Idealize.ShloMosaic.Lib.Pipeline.ValueKit
public import Idealize.ShloMosaic.Lib.Pipeline.ReadBack

@[expose] public section

set_option maxRecDepth 16384

noncomputable section

namespace Cert.KernelIdeal.Sb

open Idealize.ShloMosaic Idealize.ShloMosaic.TcCoe Idealize.ShloMosaic.Tactic Cert.KernelIdeal.Gen

variable {F : FTy → Type} [FloatOps F]

theorem read_of_unread {sp : Space} {s : Shape} {e : EltTy} (M : Memref sig .tc sp s e) (h : M.IsWhole) (x : Vec F s e) :
    M.view.read (Elt F) (h.unread x) = x := h.read_unread x

/-- Row sums saved by the forward pass, of one of a pair's two heads. -/
def totOf (x3 : Vec F S2x512x1 .f32) (h : ℕ) (hh : ∀ a, ![h, 0, 0] a + S1x512x1.size a ≤ S2x512x1.size a) : Vec F S1x512x1 .f32 :=
  VecWindow.window (s := S2x512x1) x3 ![h, 0, 0] S1x512x1.size hh

/-- A load of a whole block. -/
theorem load_block {e : EltTy} {sp : Space} (M : Memref sig .tc sp S512x128 e) (h : M.IsWhole) (x : Vec F S512x128 e) :
    M.view.readAt (Elt F) (Rect.unit (s := S512x128) ![0, 0] ![512, 128] inb_S512x128_S512x128_0_0).toLoadRect (h.unread x) = x :=
  (View.readAt_full M.view (h.unread x) inb_S512x128_S512x128_0_0).trans (h.read_unread x)

/-- The two loads of the row sums. -/
theorem load_tot0 {sp : Space} (M : Memref sig .tc sp S2x512x1 .f32) (h : M.IsWhole) (x : Vec F S2x512x1 .f32) :
    M.view.readAt (Elt F) (Rect.unit (s := S2x512x1) ![0, 0, 0] ![1, 512, 1] inb_S2x512x1_S1x512x1_0_0_0).toLoadRect (h.unread x)
      = totOf x 0 inb_S2x512x1_S1x512x1_0_0_0 :=
  (View.readAt_unit M.view (h.unread x) _ rfl inb_S2x512x1_S1x512x1_0_0_0).trans (by rw [h.read_unread x]; rfl)
theorem load_tot1 {sp : Space} (M : Memref sig .tc sp S2x512x1 .f32) (h : M.IsWhole) (x : Vec F S2x512x1 .f32) :
    M.view.readAt (Elt F) (Rect.unit (s := S2x512x1) ![1, 0, 0] ![1, 512, 1] inb_S2x512x1_S1x512x1_1_0_0).toLoadRect (h.unread x)
      = totOf x 1 inb_S2x512x1_S1x512x1_1_0_0 :=
  (View.readAt_unit M.view (h.unread x) _ rfl inb_S2x512x1_S1x512x1_1_0_0).trans (by rw [h.read_unread x]; rfl)

/-- A load of a whole array, whatever it holds; a store of a whole block or array. -/
theorem load_array {e : EltTy} {sp : Space} (M : View sig .tc sp S2048x128 e) (f : M.ty.Contents (Elt F)) :
    M.readAt (Elt F) (Rect.unit (s := S2048x128) ![0, 0] ![2048, 128] inb_S2048x128_S2048x128_0_0).toLoadRect f = M.read (Elt F) f :=
  View.readAt_full M f inb_S2048x128_S2048x128_0_0
theorem store_block {e : EltTy} {sp : Space} (M : View sig .tc sp S512x128 e) (f : M.ty.Contents (Elt F)) (w : Vec F S512x128 e)
    (L : List (View.Piece (Elt F) S512x128 e)) :
    M.read (Elt F) (M.writes (Elt F) f (⟨Rect.unit (s := S512x128) ![0, 0] ![512, 128] inb_S512x128_S512x128_0_0, w⟩ :: L)) = w :=
  View.read_writes_full M f inb_S512x128_S512x128_0_0 w L
theorem store_array {e : EltTy} {sp : Space} (M : View sig .tc sp S2048x128 e) (f : M.ty.Contents (Elt F)) (w : Vec F S2048x128 e)
    (L : List (View.Piece (Elt F) S2048x128 e)) :
    M.read (Elt F) (M.writes (Elt F) f (⟨Rect.unit (s := S2048x128) ![0, 0] ![2048, 128] inb_S2048x128_S2048x128_0_0, w⟩ :: L)) = w :=
  View.read_writes_full M f inb_S2048x128_S2048x128_0_0 w L

/-- The masks of a query block's own key block, for the first and for the second head. -/
def ownMask0 (i : grid0.Coords) : IVec S512x512 1 :=
  k0_pay45 i (BitVec.ofNat 32 (i 1).val) k0_pay93 (Scalar.muli (BitVec.ofNat 32 (i 1).val) 1#32) 1#32 ⟨0, by rw [trips3]; exact Nat.one_pos⟩
def ownMask1 (i : grid0.Coords) : IVec S512x512 1 :=
  k0_pay77 i (BitVec.ofNat 32 (i 1).val) k0_pay93 (Scalar.muli (BitVec.ofNat 32 (i 1).val) 1#32) 1#32 ⟨0, by rw [trips7]; exact Nat.one_pos⟩

/-- One head of a grid point: `b` trips, then the masked one. -/
def head (sel : IVec S1x128 1) (qs : FVec F S512x128 .bf16) (g : Vec F S512x128 .bf16)
    (tot : FVec F S512x1 .f32) (K V : Vec F S2048x128 .bf16) (M : IVec S512x512 1) (b : ℕ) (s : State F) : State F :=
  step sel k0_pay94 k0_pay95 qs g tot K V M b (trips sel k0_pay94 k0_pay95 qs g tot K V s b)

/-- The first head of a grid point. -/
def point0 (i : grid0.Coords) (x0 : Vec F S512x128 .bf16) (x1 x2 : Vec F S2048x128 .bf16) (x3 : Vec F S2x512x1 .f32) (x4 : Vec F S512x128 .bf16)
    (A : Vec F S2048x128 .f32 × Vec F S2048x128 .f32) : State F :=
  head k0_pay96 (k0_pay97 x0) (k0_pay98 x4) (k0_pay99 (totOf x3 0 inb_S2x512x1_S1x512x1_0_0_0)) x1 x2 (ownMask0 i) (i 1).val
    ((k0_pay100, k0_pay100, k0_pay101 (FloatOps.ofBits .f32 0#32)), A)

/-- The second head of a grid point, after the first. -/
def point1 (i : grid0.Coords) (x0 : Vec F S512x128 .bf16) (x1 x2 : Vec F S2048x128 .bf16) (x3 : Vec F S2x512x1 .f32) (x4 : Vec F S512x128 .bf16)
    (A : Vec F S2048x128 .f32 × Vec F S2048x128 .f32) : State F :=
  head k0_pay124 (k0_pay125 x0) (k0_pay126 x4) (k0_pay127 (totOf x3 1 inb_S2x512x1_S1x512x1_1_0_0)) x1 x2 (ownMask1 i) (i 1).val
    ((k0_pay128, k0_pay128, k0_pay1), (point0 i x0 x1 x2 x3 x4 A).2)

/-- The gradient of the queries a grid point stores. -/
def pointQ (i : grid0.Coords) (x0 : Vec F S512x128 .bf16) (x1 x2 : Vec F S2048x128 .bf16) (x3 : Vec F S2x512x1 .f32) (x4 : Vec F S512x128 .bf16)
    (A : Vec F S2048x128 .f32 × Vec F S2048x128 .f32) : Vec F S512x128 .bf16 :=
  k0_pay24 (point0 i x0 x1 x2 x3 x4 A).1.2.2 (point1 i x0 x1 x2 x3 x4 A).1.2.2

/-- The two arrays at the beginning of a pair's points. -/
def zeros : Vec F S2048x128 .f32 × Vec F S2048x128 .f32 := (k0_pay91, k0_pay92)

theorem out0_B_5_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : ¬cond0_1 i) (x0 : Vec F S512x128 .bf16) (x1 : Vec F S2048x128 .bf16) (x2 : Vec F S2048x128 .bf16) (x3 : Vec F S2x512x1 .f32) (x4 : Vec F S512x128 .bf16) (xs0 : Vec F S2048x128 .f32) (xs1 : Vec F S2048x128 .f32) : out0_B_5 (F := F) c i arg2 harg2 arg3 harg3 arg4 harg4 arg5 harg5 arg6 harg6 arg7 harg7 arg8 harg8 arg9 harg9 arg10 harg10 arg11 harg11 hc0 hc1 x0 x1 x2 x3 x4 xs0 xs1 = pointQ i x0 x1 x2 x3 x4 (xs0, xs1) := by
  unfold out0_B_5 kernelRun0_B
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem sout0_B_0_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : ¬cond0_1 i) (x0 : Vec F S512x128 .bf16) (x1 : Vec F S2048x128 .bf16) (x2 : Vec F S2048x128 .bf16) (x3 : Vec F S2x512x1 .f32) (x4 : Vec F S512x128 .bf16) (xs0 : Vec F S2048x128 .f32) (xs1 : Vec F S2048x128 .f32) : sout0_B_0 (F := F) c i arg2 harg2 arg3 harg3 arg4 harg4 arg5 harg5 arg6 harg6 arg7 harg7 arg8 harg8 arg9 harg9 arg10 harg10 arg11 harg11 hc0 hc1 x0 x1 x2 x3 x4 xs0 xs1 = (point1 i x0 x1 x2 x3 x4 (xs0, xs1)).2.1 := by
  unfold sout0_B_0 kernelRun0_B
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem sout0_B_1_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : ¬cond0_1 i) (x0 : Vec F S512x128 .bf16) (x1 : Vec F S2048x128 .bf16) (x2 : Vec F S2048x128 .bf16) (x3 : Vec F S2x512x1 .f32) (x4 : Vec F S512x128 .bf16) (xs0 : Vec F S2048x128 .f32) (xs1 : Vec F S2048x128 .f32) : sout0_B_1 (F := F) c i arg2 harg2 arg3 harg3 arg4 harg4 arg5 harg5 arg6 harg6 arg7 harg7 arg8 harg8 arg9 harg9 arg10 harg10 arg11 harg11 hc0 hc1 x0 x1 x2 x3 x4 xs0 xs1 = (point1 i x0 x1 x2 x3 x4 (xs0, xs1)).2.2 := by
  unfold sout0_B_1 kernelRun0_B
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem out0_A_5_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : cond0_0 i) (hc1 : ¬cond0_1 i) (x0 : Vec F S512x128 .bf16) (x1 : Vec F S2048x128 .bf16) (x2 : Vec F S2048x128 .bf16) (x3 : Vec F S2x512x1 .f32) (x4 : Vec F S512x128 .bf16) : out0_A_5 (F := F) c i arg2 harg2 arg3 harg3 arg4 harg4 arg5 harg5 arg6 harg6 arg7 harg7 arg8 harg8 arg9 harg9 arg10 harg10 arg11 harg11 hc0 hc1 x0 x1 x2 x3 x4  = pointQ i x0 x1 x2 x3 x4 zeros := by
  unfold out0_A_5 kernelRun0_A
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem sout0_A_0_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : cond0_0 i) (hc1 : ¬cond0_1 i) (x0 : Vec F S512x128 .bf16) (x1 : Vec F S2048x128 .bf16) (x2 : Vec F S2048x128 .bf16) (x3 : Vec F S2x512x1 .f32) (x4 : Vec F S512x128 .bf16) : sout0_A_0 (F := F) c i arg2 harg2 arg3 harg3 arg4 harg4 arg5 harg5 arg6 harg6 arg7 harg7 arg8 harg8 arg9 harg9 arg10 harg10 arg11 harg11 hc0 hc1 x0 x1 x2 x3 x4  = (point1 i x0 x1 x2 x3 x4 zeros).2.1 := by
  refine (View.read_writes_of_cover arg10.view arg10.view.junk _ _ _ (scover0_A_0 c i arg2 harg2 arg3 harg3 arg4 harg4 arg5 harg5 arg6 harg6 arg7 harg7 arg8 harg8 arg9 harg9 arg10 harg10 arg11 harg11 hc0 hc1 x0 x1 x2 x3 x4)).symm.trans ?_
  unfold kernelRun0_A
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem sout0_A_1_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : cond0_0 i) (hc1 : ¬cond0_1 i) (x0 : Vec F S512x128 .bf16) (x1 : Vec F S2048x128 .bf16) (x2 : Vec F S2048x128 .bf16) (x3 : Vec F S2x512x1 .f32) (x4 : Vec F S512x128 .bf16) : sout0_A_1 (F := F) c i arg2 harg2 arg3 harg3 arg4 harg4 arg5 harg5 arg6 harg6 arg7 harg7 arg8 harg8 arg9 harg9 arg10 harg10 arg11 harg11 hc0 hc1 x0 x1 x2 x3 x4  = (point1 i x0 x1 x2 x3 x4 zeros).2.2 := by
  refine (View.read_writes_of_cover arg11.view arg11.view.junk _ _ _ (scover0_A_1 c i arg2 harg2 arg3 harg3 arg4 harg4 arg5 harg5 arg6 harg6 arg7 harg7 arg8 harg8 arg9 harg9 arg10 harg10 arg11 harg11 hc0 hc1 x0 x1 x2 x3 x4)).symm.trans ?_
  unfold kernelRun0_A
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem out0_C_5_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : cond0_1 i) (x0 : Vec F S512x128 .bf16) (x1 : Vec F S2048x128 .bf16) (x2 : Vec F S2048x128 .bf16) (x3 : Vec F S2x512x1 .f32) (x4 : Vec F S512x128 .bf16) (xs0 : Vec F S2048x128 .f32) (xs1 : Vec F S2048x128 .f32) : out0_C_5 (F := F) c i arg2 harg2 arg3 harg3 arg4 harg4 arg5 harg5 arg6 harg6 arg7 harg7 arg8 harg8 arg9 harg9 arg10 harg10 arg11 harg11 hc0 hc1 x0 x1 x2 x3 x4 xs0 xs1 = pointQ i x0 x1 x2 x3 x4 (xs0, xs1) := by
  unfold out0_C_5 kernelRun0_C
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem out0_C_6_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : cond0_1 i) (x0 : Vec F S512x128 .bf16) (x1 : Vec F S2048x128 .bf16) (x2 : Vec F S2048x128 .bf16) (x3 : Vec F S2x512x1 .f32) (x4 : Vec F S512x128 .bf16) (xs0 : Vec F S2048x128 .f32) (xs1 : Vec F S2048x128 .f32) : out0_C_6 (F := F) c i arg2 harg2 arg3 harg3 arg4 harg4 arg5 harg5 arg6 harg6 arg7 harg7 arg8 harg8 arg9 harg9 arg10 harg10 arg11 harg11 hc0 hc1 x0 x1 x2 x3 x4 xs0 xs1 = k0_pay25 (point1 i x0 x1 x2 x3 x4 (xs0, xs1)).2.1 := by
  unfold out0_C_6 kernelRun0_C
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem out0_C_7_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : cond0_1 i) (x0 : Vec F S512x128 .bf16) (x1 : Vec F S2048x128 .bf16) (x2 : Vec F S2048x128 .bf16) (x3 : Vec F S2x512x1 .f32) (x4 : Vec F S512x128 .bf16) (xs0 : Vec F S2048x128 .f32) (xs1 : Vec F S2048x128 .f32) : out0_C_7 (F := F) c i arg2 harg2 arg3 harg3 arg4 harg4 arg5 harg5 arg6 harg6 arg7 harg7 arg8 harg8 arg9 harg9 arg10 harg10 arg11 harg11 hc0 hc1 x0 x1 x2 x3 x4 xs0 xs1 = k0_pay26 (point1 i x0 x1 x2 x3 x4 (xs0, xs1)).2.2 := by
  unfold out0_C_7 kernelRun0_C
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem sout0_C_0_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : cond0_1 i) (x0 : Vec F S512x128 .bf16) (x1 : Vec F S2048x128 .bf16) (x2 : Vec F S2048x128 .bf16) (x3 : Vec F S2x512x1 .f32) (x4 : Vec F S512x128 .bf16) (xs0 : Vec F S2048x128 .f32) (xs1 : Vec F S2048x128 .f32) : sout0_C_0 (F := F) c i arg2 harg2 arg3 harg3 arg4 harg4 arg5 harg5 arg6 harg6 arg7 harg7 arg8 harg8 arg9 harg9 arg10 harg10 arg11 harg11 hc0 hc1 x0 x1 x2 x3 x4 xs0 xs1 = (point1 i x0 x1 x2 x3 x4 (xs0, xs1)).2.1 := by
  unfold sout0_C_0 kernelRun0_C
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

theorem sout0_C_1_eq (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x1 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : cond0_1 i) (x0 : Vec F S512x128 .bf16) (x1 : Vec F S2048x128 .bf16) (x2 : Vec F S2048x128 .bf16) (x3 : Vec F S2x512x1 .f32) (x4 : Vec F S512x128 .bf16) (xs0 : Vec F S2048x128 .f32) (xs1 : Vec F S2048x128 .f32) : sout0_C_1 (F := F) c i arg2 harg2 arg3 harg3 arg4 harg4 arg5 harg5 arg6 harg6 arg7 harg7 arg8 harg8 arg9 harg9 arg10 harg10 arg11 harg11 hc0 hc1 x0 x1 x2 x3 x4 xs0 xs1 = (point1 i x0 x1 x2 x3 x4 (xs0, xs1)).2.2 := by
  unfold sout0_C_1 kernelRun0_C
  dsimp only
  sl_unfold_words
  simp only [count1, count2, count3, count4, loop2, loop4, loop6, loop8, List.append_nil, List.nil_append, View.writes_append, View.writes_nil,
    whole1_carry, whole1_arg10, whole1_arg11, whole3_carry, whole3_arg10, whole3_arg11, whole5_carry, whole5_arg10, whole5_arg11,
    whole7_carry, whole7_arg10, whole7_arg11, entry, read_of_unread, load_block, load_tot0, load_tot1, load_array, store_block, store_array]
  rfl

end Cert.KernelIdeal.Sb

end
-- ==== Proof.Model.lean ====
module

/- The gradient of stick-breaking attention over the real numbers, of one head, in the order in which the
   backward call computes it. Rows, keys and lanes are natural numbers. `Q` and `G` hold the scaled queries
   and the gradient of the output, 0 outside the head's lanes; `K` and `V` the keys and values of the whole
   pair of heads; `T` the row sums of `log (1 - β)`. -/
public import Mathlib.Data.EReal.Operations
public import Mathlib.Analysis.SpecialFunctions.Log.Basic
public import Idealize.ShloMosaic.PureOps.Ideal
public import Idealize.ShloMosaic.PureOps.Ideal.Laws

@[expose] public section

noncomputable section

namespace Cert.Sb

open Finset

/-- A product of two rows over the 128 lanes. -/
def dot (A B : ℕ → ℕ → ℝ) (t s : ℕ) : ℝ := ∑ l ∈ range 128, A t l * B s l

/-- `log β` of a score. -/
def lbeta (z : ℝ) : ℝ := min z 0 - Real.log (1 + Real.exp (-|z|))

/-- `log (1 - β)`, 0 at and after the diagonal. -/
def lone (Q K : ℕ → ℕ → ℝ) (t s : ℕ) : ℝ := if s < t then lbeta (dot Q K t s) - dot Q K t s else 0

/-- The attention weight. -/
def wt (Q K : ℕ → ℕ → ℝ) (T : ℕ → ℝ) (t s : ℕ) : ℝ :=
  if s < t then Real.exp (lbeta (dot Q K t s) + (T t - ∑ x ∈ range (s + 1), lone Q K t x)) else 0

/-- The weight times its gradient. -/
def eg (Q K V G : ℕ → ℕ → ℝ) (T : ℕ → ℝ) (t s : ℕ) : ℝ := dot G V t s * wt Q K T t s

/-- The gradient of the score. -/
def ds (Q K V G : ℕ → ℕ → ℝ) (T : ℕ → ℝ) (t s : ℕ) : ℝ :=
  if s < t then eg Q K V G T t s - (eg Q K V G T t s + ∑ x ∈ range s, eg Q K V G T t x) * Real.exp (lbeta (dot Q K t s)) else 0

/-! Finite sums of real numbers among the extended reals. -/

theorem coe_sum {ι : Type} (S : Finset ι) (f : ι → ℝ) : ∑ x ∈ S, (f x : EReal) = ((∑ x ∈ S, f x : ℝ) : EReal) := by
  classical
  induction S using Finset.induction_on with
  | empty => simp
  | insert a S ha ih => rw [sum_insert ha, sum_insert ha, ih, EReal.coe_add]

theorem coe_sum_fin (n : ℕ) (f : ℕ → ℝ) : ∑ x : Fin n, (f x.val : EReal) = ((∑ x ∈ range n, f x : ℝ) : EReal) := by
  rw [coe_sum, Fin.sum_univ_eq_sum_range]

theorem coe_min (x y : ℝ) : min (x : EReal) (y : EReal) = ((min x y : ℝ) : EReal) := (EReal.coe_strictMono.monotone.map_min).symm
theorem coe_max (x y : ℝ) : max (x : EReal) (y : EReal) = ((max x y : ℝ) : EReal) := (EReal.coe_strictMono.monotone.map_max).symm

/-- The sum of the first `c + 1` of `n` terms, as a sum against 0 and 1. -/
theorem sum_upto {n : ℕ} (f : ℕ → ℝ) (c : ℕ) (hc : c < n) : ∑ x ∈ range n, f x * (if x ≤ c then 1 else 0) = ∑ x ∈ range (c + 1), f x := by
  simp only [mul_ite, mul_one, mul_zero]
  rw [← sum_filter]
  refine sum_congr (ext fun x => ?_) fun _ _ => rfl
  simp only [mem_filter, mem_range]; omega

theorem sum_before {n : ℕ} (f : ℕ → ℝ) (c : ℕ) (hc : c < n) : ∑ x ∈ range n, f x * (if x < c then 1 else 0) = ∑ x ∈ range c, f x := by
  simp only [mul_ite, mul_one, mul_zero]
  rw [← sum_filter]
  refine sum_congr (ext fun x => ?_) fun _ _ => rfl
  simp only [mem_filter, mem_range]; omega

end Cert.Sb

end
-- ==== Proof.BlockReal.lean ====
module

/- One trip of the backward call at `Ideal`, on real data: what the carried values and the two arrays hold
   after `n` trips, as real numbers. -/
public import proofs.«01_k».proof.Proof.Point
public import proofs.«01_k».proof.Proof.Model
public import Idealize.ShloMosaic.Lib.Pointwise
public import Idealize.ShloMosaic.Lib.IdealHost

@[expose] public section

set_option maxRecDepth 16384

noncomputable section

namespace Cert.KernelIdeal.Sb

open Idealize.ShloMosaic Idealize.ShloMosaic.TcCoe Cert.KernelIdeal.Gen Cert.Sb Finset

/-! Signed comparisons of small numbers. -/

theorem toInt_small (a : ℕ) (ha : a < 2048) : (BitVec.ofNat 32 a).toInt = a := by
  rw [BitVec.toInt_ofNat', Int.bmod_def]; omega

theorem slt_small (a b : ℕ) (ha : a < 2048) (hb : b < 2048) :
    IntOp.cmpi .slt (BitVec.ofNat 32 a) (BitVec.ofNat 32 b) = if a < b then 1#1 else 0#1 := by
  show BitVec.ofBool (BitVec.slt _ _) = _
  rw [BitVec.slt, toInt_small a ha, toInt_small b hb]
  by_cases h : a < b <;> simp [h]

theorem sle_small (a b : ℕ) (ha : a < 2048) (hb : b < 2048) :
    IntOp.cmpi .sle (BitVec.ofNat 32 a) (BitVec.ofNat 32 b) = if a ≤ b then 1#1 else 0#1 := by
  show BitVec.ofBool (BitVec.sle _ _) = _
  rw [BitVec.sle, toInt_small a ha, toInt_small b hb]
  by_cases h : a ≤ b <;> simp [h]

theorem sub_slt_small (a b : ℕ) (ha : a < 2048) (hb : b < 2048) :
    IntOp.cmpi .slt (IntOp.subi (BitVec.ofNat 32 a) (BitVec.ofNat 32 b)) 0#32 = if a < b then 1#1 else 0#1 := by
  show BitVec.ofBool (BitVec.slt (BitVec.ofNat 32 a - BitVec.ofNat 32 b) 0#32) = _
  have h : (BitVec.ofNat 32 a - BitVec.ofNat 32 b).toInt = (a : ℤ) - b := by
    rw [BitVec.toInt_sub, toInt_small a ha, toInt_small b hb, Int.bmod_def]; omega
  rw [BitVec.slt, h]
  by_cases h : a < b
  · have h' : (a : ℤ) - b < (0#32).toInt := by rw [BitVec.toInt_zero]; omega
    simp [h, h']
  · have h' : ¬ (a : ℤ) - b < (0#32).toInt := by rw [BitVec.toInt_zero]; omega
    simp [h, h']

theorem bit_real (c : Prop) [Decidable c] :
    FloatOps.sitofp (F := Ideal) .f32 (BitVec.setWidth 32 (if c then 1#1 else 0#1)) = ((if c then 1 else 0 : ℝ) : EReal) := by
  by_cases h : c
  · rw [if_pos h, if_pos h]; show (((BitVec.setWidth 32 1#1).toInt : ℝ) : EReal) = _
    have : (BitVec.setWidth 32 1#1).toInt = 1 := by decide
    rw [this, Int.cast_one]
  · rw [if_neg h, if_neg h]; show (((BitVec.setWidth 32 0#1).toInt : ℝ) : EReal) = _
    have : (BitVec.setWidth 32 0#1).toInt = 0 := by decide
    rw [this, Int.cast_zero]

/-- The matrix of 0 and 1 that sums the terms up to a key, and the one that sums those before it. -/
theorem upto_apply (x c : Fin 512) : k0_pay94 (F := Ideal) (ix2 x c) = (((if x.val ≤ c.val then 1 else 0 : ℝ)) : EReal) := by
  unfold k0_pay94
  pointwise
  rw [sle_small _ _ (by omega) (by omega), bit_real]
theorem before_apply (x c : Fin 512) : k0_pay95 (F := Ideal) (ix2 x c) = (((if x.val < c.val then 1 else 0 : ℝ)) : EReal) := by
  unfold k0_pay95
  pointwise
  rw [slt_small _ _ (by omega) (by omega), bit_real]

/-- A query block's own mask keeps the keys before the query. -/
theorem own0_apply (i : grid0.Coords) (r c : Fin 512) : ownMask0 i (ix2 r c) = if 512 * (i 1).val + c.val < 512 * (i 1).val + r.val then 1#1 else 0#1 := by
  have h : ∀ i : grid0.Coords, Scalar.subi (Scalar.muli (BitVec.ofNat 32 (i 1).val) 512#32)
      (Scalar.muli (Scf.iv (Scalar.muli (BitVec.ofNat 32 (i 1).val) 1#32) 1#32 0) 512#32) = 0#32 := by decide +kernel
  unfold ownMask0 k0_pay45 k0_pay93
  pointwise
  rw [h]
  refine (sub_slt_small c.val r.val (by omega) (by omega)).trans ?_
  simp only [Nat.add_lt_add_iff_left]
theorem own1_apply (i : grid0.Coords) (r c : Fin 512) : ownMask1 i (ix2 r c) = if 512 * (i 1).val + c.val < 512 * (i 1).val + r.val then 1#1 else 0#1 := by
  have h : ∀ i : grid0.Coords, Scalar.subi (Scalar.muli (BitVec.ofNat 32 (i 1).val) 512#32)
      (Scalar.muli (Scf.iv (Scalar.muli (BitVec.ofNat 32 (i 1).val) 1#32) 1#32 0) 512#32) = 0#32 := by decide +kernel
  unfold ownMask1 k0_pay77 k0_pay93
  pointwise
  rw [h]
  refine (sub_slt_small c.val r.val (by omega) (by omega)).trans ?_
  simp only [Nat.add_lt_add_iff_left]

/-- The lanes of the two heads. -/
theorem sel0_apply (l : Fin 128) : k0_pay96 (ix2 0 l) = if l.val / 64 = 0 then 1#1 else 0#1 := by
  revert l; unfold k0_pay96; decide +kernel
theorem sel1_apply (l : Fin 128) : k0_pay124 (ix2 0 l) = if l.val / 64 = 1 then 1#1 else 0#1 := by
  revert l; unfold k0_pay124; decide +kernel

section Block

variable (Q K V G : ℕ → ℕ → ℝ) (T : ℕ → ℝ) (t0 s0 : ℕ)
variable (M : IVec S512x512 1) (qs : FVec Ideal S512x128 .bf16) (g : Vec Ideal S512x128 .bf16) (tot p e : FVec Ideal S512x1 .f32)
  (k v : Vec Ideal S512x128 .bf16)
variable (hM : ∀ r c : Fin 512, M (ix2 r c) = if s0 + c.val < t0 + r.val then 1#1 else 0#1)
  (hq : ∀ (r : Fin 512) (l : Fin 128), qs (ix2 r l) = (Q (t0 + r.val) l.val : EReal))
  (hg : ∀ (r : Fin 512) (l : Fin 128), g (ix2 r l) = (G (t0 + r.val) l.val : EReal))
  (hk : ∀ (c : Fin 512) (l : Fin 128), k (ix2 c l) = (K (s0 + c.val) l.val : EReal))
  (hv : ∀ (c : Fin 512) (l : Fin 128), v (ix2 c l) = (V (s0 + c.val) l.val : EReal))
  (ht : ∀ r : Fin 512, tot (ix2 r 0) = (T (t0 + r.val) : EReal))
  (hp : ∀ r : Fin 512, p (ix2 r 0) = ((∑ x ∈ range s0, lone Q K (t0 + r.val) x : ℝ) : EReal))
  (he : ∀ r : Fin 512, e (ix2 r 0) = ((∑ x ∈ range s0, eg Q K V G T (t0 + r.val) x : ℝ) : EReal))

include hq hk in
/-- The scores of a block. -/
theorem score_apply (r c : Fin 512) : k0_pay27 qs k (ix2 r c) = ((dot Q K (t0 + r.val) (s0 + c.val) : ℝ) : EReal) := by
  unfold k0_pay27
  pointwise
  simp only [hq, hk, ← EReal.coe_mul]
  exact coe_sum_fin 128 (fun l => Q (t0 + r.val) l * K (s0 + c.val) l)

include hq hk in
/-- `log β` of a block. -/
theorem lbeta_apply (r c : Fin 512) : k0_pay28 qs k (ix2 r c) = ((lbeta (dot Q K (t0 + r.val) (s0 + c.val)) : ℝ) : EReal) := by
  unfold k0_pay28
  pointwise
  rw [score_apply Q K t0 s0 qs k hq hk r c]
  generalize dot Q K (t0 + r.val) (s0 + c.val) = z
  have h1 : FloatOps.absf (F := Ideal) (φ := .f32) (z : EReal) = ((|z| : ℝ) : EReal) :=
    (congrArg (max (z : EReal)) (EReal.coe_neg z).symm).trans (coe_max z (-z))
  rw [h1, ← EReal.coe_zero, coe_min, ← EReal.coe_sub, Ideal.exp_coe, ← EReal.coe_one, ← EReal.coe_add, Ideal.log_coe,
    if_neg (by have := Real.exp_pos (0 - |z|); linarith), ← EReal.coe_sub, zero_sub]
  rfl

include hM hq hk in
/-- `log (1 - β)` of a block. -/
theorem lom_apply (r c : Fin 512) : lom M qs k (ix2 r c) = ((lone Q K (t0 + r.val) (s0 + c.val) : ℝ) : EReal) := by
  unfold lom
  pointwise
  rw [hM, score_apply Q K t0 s0 qs k hq hk r c, lbeta_apply Q K t0 s0 qs k hq hk r c]
  unfold lone
  split
  · exact (EReal.coe_sub _ _).symm
  · rfl

include hM hq hk ht hp in
/-- The weights of a block. -/
theorem wgt_apply (r c : Fin 512) : wgt M k0_pay94 qs tot p k (ix2 r c) = ((wt Q K T (t0 + r.val) (s0 + c.val) : ℝ) : EReal) := by
  unfold wgt
  pointwise
  rw [hM, lbeta_apply Q K t0 s0 qs k hq hk r c, ht, hp]
  simp only [lom_apply Q K t0 s0 M qs k hM hq hk, upto_apply, ← EReal.coe_mul]
  rw [coe_sum_fin 512 (fun x => lone Q K (t0 + r.val) (s0 + x) * (if x ≤ c.val then 1 else 0)), sum_upto _ _ c.isLt, ← EReal.coe_sub,
    ← EReal.coe_sub, ← EReal.coe_add, Ideal.exp_coe, sub_sub, ← sum_range_add]
  unfold wt
  split
  · rfl
  · rfl

include hM hq hk ht hp hg hv in
/-- The weights times their gradients. -/
theorem egr_apply (r c : Fin 512) : egr M k0_pay94 qs g tot p k v (ix2 r c) = ((eg Q K V G T (t0 + r.val) (s0 + c.val) : ℝ) : EReal) := by
  unfold egr
  pointwise
  rw [wgt_apply Q K T t0 s0 M qs tot p k hM hq hk ht hp]
  simp only [hg, hv, ← EReal.coe_mul]
  rw [coe_sum_fin 128 (fun l => G (t0 + r.val) l * V (s0 + c.val) l), ← EReal.coe_mul]
  rfl

include hM hq hk ht hp hg hv he in
/-- The gradients of the scores. -/
theorem dsc_apply (r c : Fin 512) :
    dsc M k0_pay94 k0_pay95 qs g tot p e k v (ix2 r c) = ((ds Q K V G T (t0 + r.val) (s0 + c.val) : ℝ) : EReal) := by
  unfold dsc
  pointwise
  rw [hM, lbeta_apply Q K t0 s0 qs k hq hk r c, he]
  simp only [egr_apply Q K V G T t0 s0 M qs g tot p k v hM hq hg hk hv ht hp, before_apply, ← EReal.coe_mul]
  rw [coe_sum_fin 512 (fun x => eg Q K V G T (t0 + r.val) (s0 + x) * (if x < c.val then 1 else 0)), sum_before _ _ c.isLt, ← EReal.coe_add,
    ← EReal.coe_add, Ideal.exp_coe, ← sum_range_add, ← EReal.coe_mul, ← EReal.coe_sub]
  unfold ds
  split
  · rfl
  · rfl

/-- A window written over 512 rows, at an index. -/
theorem put_apply (x : Vec Ideal S2048x128 .f32) (b : ℕ) (w : Vec Ideal S512x128 .f32) (y : Fin 2048) (l : Fin 128) :
    VecWindow.put (s := S2048x128) x ![512 * b, 0] ![512, 128] w (ix2 y l)
      = if h : 512 * b ≤ y.val ∧ y.val < 512 * b + 512 then w (ix2 ⟨y.val - 512 * b, by omega⟩ l) else x (ix2 y l) := by
  unfold VecWindow.put
  by_cases h : 512 * b ≤ y.val ∧ y.val < 512 * b + 512
  · rw [dif_pos h, dif_pos (fun a => match a with | ⟨0, _⟩ => h | ⟨1, _⟩ => ⟨Nat.zero_le _, by have := l.isLt; show l.val < 0 + 128; omega⟩)]
    refine congrArg w (funext fun a => match a with | ⟨0, _⟩ => rfl | ⟨1, _⟩ => rfl)
  · rw [dif_neg h, dif_neg (fun h' => h (h' 0))]

theorem rows_apply {α : Type} (X : S2048x128.Idx → α) (b : ℕ) (c : Fin 512) (l : Fin 128) (hb : b < 4) :
    rows X b (ix2 c l) = X (ix2 ⟨512 * b + c.val, by omega⟩ l) :=
  congrArg X (funext fun a => match a with
    | ⟨0, _⟩ => Fin.ext (Nat.mod_eq_of_lt (show 512 * b + c.val < 2048 by omega))
    | ⟨1, _⟩ => rfl)

end Block

end Cert.KernelIdeal.Sb

end
-- ==== Proof.Head.lean ====
module

/- One head of a grid point at `Ideal`, on real data: the trips carry the partial sums over the keys. -/
public import proofs.«01_k».proof.Proof.BlockReal

@[expose] public section

set_option maxRecDepth 16384

noncomputable section

namespace Cert.KernelIdeal.Sb

open Idealize.ShloMosaic Idealize.ShloMosaic.TcCoe Cert.KernelIdeal.Gen Cert.Sb Finset

/-- What is carried and what the arrays hold after `n` key blocks of the query block at row `t0`, for the head
    on the lanes `l / 64 = h`: the arrays began at `D0` and `V0`. -/
structure Holds (Q K V G : ℕ → ℕ → ℝ) (T : ℕ → ℝ) (h t0 n : ℕ) (D0 V0 : ℕ → ℕ → ℝ) (s : State Ideal) : Prop where
  p : ∀ r : Fin 512, s.1.1 (ix2 r 0) = ((∑ x ∈ range (512 * n), lone Q K (t0 + r.val) x : ℝ) : EReal)
  e : ∀ r : Fin 512, s.1.2.1 (ix2 r 0) = ((∑ x ∈ range (512 * n), eg Q K V G T (t0 + r.val) x : ℝ) : EReal)
  q : ∀ (r : Fin 512) (l : Fin 128), s.1.2.2 (ix2 r l)
    = ((∑ x ∈ range (512 * n), (if l.val / 64 = h then ds Q K V G T (t0 + r.val) x * K x l.val else 0) : ℝ) : EReal)
  k : ∀ (y : Fin 2048) (l : Fin 128), s.2.1 (ix2 y l)
    = ((D0 y.val l.val + (if y.val < 512 * n then ∑ r ∈ range 512, ds Q K V G T (t0 + r) y.val * Q (t0 + r) l.val else 0) : ℝ) : EReal)
  v : ∀ (y : Fin 2048) (l : Fin 128), s.2.2 (ix2 y l)
    = ((V0 y.val l.val + (if y.val < 512 * n then ∑ r ∈ range 512, wt Q K T (t0 + r) y.val * G (t0 + r) l.val else 0) : ℝ) : EReal)

variable (Q K V G : ℕ → ℕ → ℝ) (T : ℕ → ℝ) (h t0 : ℕ) (D0 V0 : ℕ → ℕ → ℝ)
variable (sel : IVec S1x128 1) (qs : FVec Ideal S512x128 .bf16) (g : Vec Ideal S512x128 .bf16) (tot : FVec Ideal S512x1 .f32)
  (X1 X2 : Vec Ideal S2048x128 .bf16)
variable (hs : ∀ l : Fin 128, sel (ix2 0 l) = if l.val / 64 = h then 1#1 else 0#1)
  (hq : ∀ (r : Fin 512) (l : Fin 128), qs (ix2 r l) = (Q (t0 + r.val) l.val : EReal))
  (hg : ∀ (r : Fin 512) (l : Fin 128), g (ix2 r l) = (G (t0 + r.val) l.val : EReal))
  (hk : ∀ (y : Fin 2048) (l : Fin 128), X1 (ix2 y l) = (K y.val l.val : EReal))
  (hv : ∀ (y : Fin 2048) (l : Fin 128), X2 (ix2 y l) = (V y.val l.val : EReal))
  (ht : ∀ r : Fin 512, tot (ix2 r 0) = (T (t0 + r.val) : EReal))

include hs hq hg hk hv ht in
/-- One trip. -/
theorem step_holds (M : IVec S512x512 1) (b : ℕ) (hb : b < 4)
    (hM : ∀ r c : Fin 512, M (ix2 r c) = if 512 * b + c.val < t0 + r.val then 1#1 else 0#1)
    (s : State Ideal) (H : Holds Q K V G T h t0 b D0 V0 s) :
    Holds Q K V G T h t0 (b + 1) D0 V0 (step sel k0_pay94 k0_pay95 qs g tot X1 X2 M b s) := by
  have hk' : ∀ (c : Fin 512) (l : Fin 128), rows X1 b (ix2 c l) = (K (512 * b + c.val) l.val : EReal) := fun c l => by
    rw [rows_apply X1 b c l hb]; exact hk _ l
  have hv' : ∀ (c : Fin 512) (l : Fin 128), rows X2 b (ix2 c l) = (V (512 * b + c.val) l.val : EReal) := fun c l => by
    rw [rows_apply X2 b c l hb]; exact hv _ l
  have hd := dsc_apply Q K V G T t0 (512 * b) M qs g tot s.1.1 s.1.2.1 (rows X1 b) (rows X2 b) hM hq hg hk' hv' ht H.p H.e
  have hw := wgt_apply Q K T t0 (512 * b) M qs tot s.1.1 (rows X1 b) hM hq hk' ht H.p
  have hn : 512 * (b + 1) = 512 * b + 512 := by omega
  refine ⟨fun r => ?_, fun r => ?_, fun r l => ?_, fun y l => ?_, fun y l => ?_⟩
  · show k0_pay104 s.1.1 (lom M qs (rows X1 b)) (ix2 r 0) = _
    unfold k0_pay104
    pointwise
    simp only [H.p, lom_apply Q K t0 (512 * b) M qs (rows X1 b) hM hq hk']
    rw [coe_sum_fin 512 (fun x => lone Q K (t0 + r.val) (512 * b + x)), ← EReal.coe_add, ← sum_range_add, ← hn]
  · show k0_pay105 s.1.2.1 (truncf .bf16 (egr M k0_pay94 qs g tot s.1.1 (rows X1 b) (rows X2 b)) bitsLt_bf16_f32) (ix2 r 0) = _
    unfold k0_pay105
    pointwise
    simp only [H.e, egr_apply Q K V G T t0 (512 * b) M qs g tot s.1.1 (rows X1 b) (rows X2 b) hM hq hg hk' hv' ht H.p]
    rw [coe_sum_fin 512 (fun x => eg Q K V G T (t0 + r.val) (512 * b + x)), ← EReal.coe_add, ← sum_range_add, ← hn]
  · show k0_pay106 sel s.1.2.2 (rows X1 b) (dsc M k0_pay94 k0_pay95 qs g tot s.1.1 s.1.2.1 (rows X1 b) (rows X2 b)) (ix2 r l) = _
    unfold k0_pay106
    pointwise
    simp only [H.q, hd, hk', hs, ← EReal.coe_mul]
    have : ∀ x : Fin 512, Scalar.select (if l.val / 64 = h then 1#1 else 0#1)
        (((ds Q K V G T (t0 + r.val) (512 * b + x.val) * K (512 * b + x.val) l.val : ℝ)) : EReal) 0
        = (((if l.val / 64 = h then ds Q K V G T (t0 + r.val) (512 * b + x.val) * K (512 * b + x.val) l.val else 0 : ℝ)) : EReal) := fun x => by
      by_cases hl : l.val / 64 = h
      · rw [if_pos hl, if_pos hl]; rfl
      · rw [if_neg hl, if_neg hl]; rfl
    simp only [this]
    rw [coe_sum_fin 512 (fun x => if l.val / 64 = h then ds Q K V G T (t0 + r.val) (512 * b + x) * K (512 * b + x) l.val else 0),
      ← EReal.coe_add, ← sum_range_add (fun x => if l.val / 64 = h then ds Q K V G T (t0 + r.val) x * K x l.val else 0), ← hn]
  · refine (put_apply s.2.1 b _ y l).trans ?_
    split
    · rename_i hy
      rw [if_pos (by omega : y.val < 512 * (b + 1))]
      unfold k0_pay102
      pointwise
      rw [rows_apply s.2.1 b _ l hb, H.k]
      simp only [hd, hq, ← EReal.coe_mul]
      rw [coe_sum_fin 512 (fun x => ds Q K V G T (t0 + x) (512 * b + (y.val - 512 * b)) * Q (t0 + x) l.val), ← EReal.coe_add]
      have e : 512 * b + (y.val - 512 * b) = y.val := by omega
      simp only [e, lt_irrefl]
      rw [if_neg (by omega), add_zero]
    · rename_i hy
      rw [H.k]
      have e : (y.val < 512 * (b + 1)) = (y.val < 512 * b) := propext (by omega)
      simp only [e]
  · refine (put_apply s.2.2 b _ y l).trans ?_
    split
    · rename_i hy
      rw [if_pos (by omega : y.val < 512 * (b + 1))]
      unfold k0_pay103
      pointwise
      rw [rows_apply s.2.2 b _ l hb, H.v]
      simp only [hw, hg, ← EReal.coe_mul]
      rw [coe_sum_fin 512 (fun x => wt Q K T (t0 + x) (512 * b + (y.val - 512 * b)) * G (t0 + x) l.val), ← EReal.coe_add]
      have e : 512 * b + (y.val - 512 * b) = y.val := by omega
      simp only [e]
      rw [if_neg (by omega), add_zero]
    · rename_i hy
      rw [H.v]
      have e : (y.val < 512 * (b + 1)) = (y.val < 512 * b) := propext (by omega)
      simp only [e]

include hs hq hg hk hv ht in
/-- The trips over the key blocks before the queries' own. -/
theorem trips_holds (i : ℕ) (hi : i < 4) (hi0 : t0 = 512 * i) (s : State Ideal) (H : Holds Q K V G T h t0 0 D0 V0 s) (n : ℕ) (hn : n ≤ i) :
    Holds Q K V G T h t0 n D0 V0 (trips sel k0_pay94 k0_pay95 qs g tot X1 X2 s n) := by
  induction n with
  | zero => exact H
  | succ n ih =>
    refine step_holds Q K V G T h t0 D0 V0 sel qs g tot X1 X2 hs hq hg hk hv ht keepAll n (by omega) (fun r c => ?_) _ (ih (by omega))
    rw [if_pos (by omega)]; rfl

include hs hq hg hk hv ht in
/-- A whole head: the sums run over the keys of the blocks up to the queries' own. -/
theorem head_holds (i : ℕ) (hi : i < 4) (hi0 : t0 = 512 * i) (M : IVec S512x512 1)
    (hM : ∀ r c : Fin 512, M (ix2 r c) = if 512 * i + c.val < 512 * i + r.val then 1#1 else 0#1)
    (s : State Ideal) (H : Holds Q K V G T h t0 0 D0 V0 s) :
    Holds Q K V G T h t0 (i + 1) D0 V0 (head sel qs g tot X1 X2 M i s) :=
  step_holds Q K V G T h t0 D0 V0 sel qs g tot X1 X2 hs hq hg hk hv ht M i hi (by subst hi0; exact hM) _
    (trips_holds Q K V G T h t0 D0 V0 sel qs g tot X1 X2 hs hq hg hk hv ht i hi hi0 s H i le_rfl)

end Cert.KernelIdeal.Sb

end
-- ==== Proof.PointReal.lean ====
module

/- A grid point at `Ideal`, on real data: the two heads of a pair add their parts. -/
public import proofs.«01_k».proof.Proof.Head

@[expose] public section

set_option maxRecDepth 16384

noncomputable section

namespace Cert.KernelIdeal.Sb

open Idealize.ShloMosaic Idealize.ShloMosaic.TcCoe Cert.KernelIdeal.Gen Cert.Sb Finset

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

/-- The scaled queries, and the gradient of the output, on one head's lanes. -/
def qOf (q : ℕ → ℕ → ℝ) (h : ℕ) : ℕ → ℕ → ℝ := fun t l => if l / 64 = h then q t l * (1 / 8) else 0
def gOf (g : ℕ → ℕ → ℝ) (h : ℕ) : ℕ → ℕ → ℝ := fun t l => if l / 64 = h then g t l else 0

theorem select_head (l h : ℕ) (x : ℝ) :
    Scalar.select (if l / 64 = h then 1#1 else 0#1) (x : EReal) 0 = ((if l / 64 = h then x else 0 : ℝ) : EReal) := by
  by_cases hl : l / 64 = h
  · rw [if_pos hl, if_pos hl]; rfl
  · rw [if_neg hl, if_neg hl]; rfl

theorem totOf0_apply (x3 : Vec Ideal S2x512x1 .f32) (r : Fin 512) : totOf x3 0 inb_S2x512x1_S1x512x1_0_0_0 (ix3 0 r 0) = x3 (ix3 0 r 0) :=
  congrArg x3 (funext fun a => match a with
    | ⟨0, _⟩ => rfl
    | ⟨1, _⟩ => Fin.ext (by show 0 + 1 * r.val = r.val; omega)
    | ⟨2, _⟩ => rfl)
theorem totOf1_apply (x3 : Vec Ideal S2x512x1 .f32) (r : Fin 512) : totOf x3 1 inb_S2x512x1_S1x512x1_1_0_0 (ix3 0 r 0) = x3 (ix3 1 r 0) :=
  congrArg x3 (funext fun a => match a with
    | ⟨0, _⟩ => rfl
    | ⟨1, _⟩ => Fin.ext (by show 0 + 1 * r.val = r.val; omega)
    | ⟨2, _⟩ => rfl)

section Point

variable (q k v g : ℕ → ℕ → ℝ) (T : ℕ → ℕ → ℝ) (i : grid0.Coords) (D0 V0 : ℕ → ℕ → ℝ)
variable (x0 : Vec Ideal S512x128 .bf16) (x1 x2 : Vec Ideal S2048x128 .bf16) (x3 : Vec Ideal S2x512x1 .f32) (x4 : Vec Ideal S512x128 .bf16)
  (A : Vec Ideal S2048x128 .f32 × Vec Ideal S2048x128 .f32)
variable (h0 : ∀ (r : Fin 512) (l : Fin 128), x0 (ix2 r l) = (q (512 * (i 1).val + r.val) l.val : EReal))
  (h1 : ∀ (y : Fin 2048) (l : Fin 128), x1 (ix2 y l) = (k y.val l.val : EReal))
  (h2 : ∀ (y : Fin 2048) (l : Fin 128), x2 (ix2 y l) = (v y.val l.val : EReal))
  (h3 : ∀ (h : Fin 2) (r : Fin 512), x3 (ix3 h r 0) = (T h.val (512 * (i 1).val + r.val) : EReal))
  (h4 : ∀ (r : Fin 512) (l : Fin 128), x4 (ix2 r l) = (g (512 * (i 1).val + r.val) l.val : EReal))
  (hA1 : ∀ (y : Fin 2048) (l : Fin 128), A.1 (ix2 y l) = (D0 y.val l.val : EReal))
  (hA2 : ∀ (y : Fin 2048) (l : Fin 128), A.2 (ix2 y l) = (V0 y.val l.val : EReal))

/-- The gradients of the scores, and the weights, of one head of a pair. -/
abbrev dsOf (h : ℕ) : ℕ → ℕ → ℝ := ds (qOf q h) k v (gOf g h) (T h)
abbrev wtOf (h : ℕ) : ℕ → ℕ → ℝ := wt (qOf q h) k (T h)

/-- What a point of query block `b` adds to the gradients of the keys and of the values, by one head. -/
def addK (h b y l : ℕ) : ℝ := ∑ r ∈ range 512, dsOf q k v g T h (512 * b + r) y * qOf q h (512 * b + r) l
def addV (h b y l : ℕ) : ℝ := ∑ r ∈ range 512, wtOf q k T h (512 * b + r) y * gOf g h (512 * b + r) l

theorem drop_if_k (h b y l : ℕ) :
    (if y < 512 * (b + 1) then ∑ r ∈ range 512, dsOf q k v g T h (512 * b + r) y * qOf q h (512 * b + r) l else 0) = addK q k v g T h b y l := by
  split
  · rfl
  · refine (sum_eq_zero fun r hr => ?_).symm
    rw [mem_range] at hr
    rw [dsOf, ds, if_neg (by omega), zero_mul]
theorem drop_if_v (h b y l : ℕ) :
    (if y < 512 * (b + 1) then ∑ r ∈ range 512, wtOf q k T h (512 * b + r) y * gOf g h (512 * b + r) l else 0) = addV q k g T h b y l := by
  split
  · rfl
  · refine (sum_eq_zero fun r hr => ?_).symm
    rw [mem_range] at hr
    rw [wtOf, wt, if_neg (by omega), zero_mul]

theorem lt_four (i : grid0.Coords) : (i 1).val < 4 := (i 1).isLt

include h0 h1 h2 h3 h4 hA1 hA2 in
theorem point0_holds : Holds (qOf q 0) k v (gOf g 0) (T 0) 0 (512 * (i 1).val) ((i 1).val + 1) D0 V0 (point0 i x0 x1 x2 x3 x4 A) := by
  refine head_holds (qOf q 0) k v (gOf g 0) (T 0) 0 (512 * (i 1).val) D0 V0 k0_pay96 (k0_pay97 x0) (k0_pay98 x4) _ x1 x2 sel0_apply
    (fun r l => ?_) (fun r l => ?_) h1 h2 (fun r => ?_) (i 1).val (lt_four i) rfl (ownMask0 i) (own0_apply i) _
    ⟨fun r => ?_, fun r => ?_, fun r l => ?_, fun y l => ?_, fun y l => ?_⟩
  · unfold k0_pay97; pointwise; rw [sel0_apply, h0, eighth_bf16, ← EReal.coe_mul]; exact select_head _ _ _
  · unfold k0_pay98; pointwise; rw [sel0_apply, h4]; exact select_head _ _ _
  · unfold k0_pay99; pointwise; rw [totOf0_apply, h3]; rfl
  · show k0_pay100 (F := Ideal) (ix2 r 0) = _
    rw [mul_zero, range_zero, sum_empty, EReal.coe_zero]; unfold k0_pay100; pointwise
  · show k0_pay100 (F := Ideal) (ix2 r 0) = _
    rw [mul_zero, range_zero, sum_empty, EReal.coe_zero]; unfold k0_pay100; pointwise
  · show k0_pay101 (F := Ideal) _ (ix2 r l) = _
    rw [mul_zero, range_zero, sum_empty, EReal.coe_zero]; unfold k0_pay101; pointwise
  · rw [if_neg (by omega), add_zero]; exact hA1 y l
  · rw [if_neg (by omega), add_zero]; exact hA2 y l

include h0 h1 h2 h3 h4 hA1 hA2 in
theorem point1_holds : Holds (qOf q 1) k v (gOf g 1) (T 1) 1 (512 * (i 1).val) ((i 1).val + 1)
    (fun y l => D0 y l + addK q k v g T 0 (i 1).val y l) (fun y l => V0 y l + addV q k g T 0 (i 1).val y l) (point1 i x0 x1 x2 x3 x4 A) := by
  have H := point0_holds q k v g T i D0 V0 x0 x1 x2 x3 x4 A h0 h1 h2 h3 h4 hA1 hA2
  refine head_holds (qOf q 1) k v (gOf g 1) (T 1) 1 (512 * (i 1).val) _ _ k0_pay124 (k0_pay125 x0) (k0_pay126 x4) _ x1 x2 sel1_apply
    (fun r l => ?_) (fun r l => ?_) h1 h2 (fun r => ?_) (i 1).val (lt_four i) rfl (ownMask1 i) (own1_apply i) _
    ⟨fun r => ?_, fun r => ?_, fun r l => ?_, fun y l => ?_, fun y l => ?_⟩
  · unfold k0_pay125; pointwise; rw [sel1_apply, h0, eighth_bf16, ← EReal.coe_mul]; exact select_head _ _ _
  · unfold k0_pay126; pointwise; rw [sel1_apply, h4]; exact select_head _ _ _
  · unfold k0_pay127; pointwise; rw [totOf1_apply, h3]; rfl
  · show k0_pay128 (F := Ideal) (ix2 r 0) = _
    rw [mul_zero, range_zero, sum_empty, EReal.coe_zero]; unfold k0_pay128; pointwise
  · show k0_pay128 (F := Ideal) (ix2 r 0) = _
    rw [mul_zero, range_zero, sum_empty, EReal.coe_zero]; unfold k0_pay128; pointwise
  · show k0_pay1 (F := Ideal) (ix2 r l) = _
    rw [mul_zero, range_zero, sum_empty, EReal.coe_zero]; unfold k0_pay1; pointwise
  · rw [if_neg (by omega), add_zero]; refine (H.k y l).trans ?_; rw [← drop_if_k]
  · rw [if_neg (by omega), add_zero]; refine (H.v y l).trans ?_; rw [← drop_if_v]

include h0 h1 h2 h3 h4 hA1 hA2 in
/-- The gradient of the queries. -/
theorem pointQ_apply (r : Fin 512) (l : Fin 128) : pointQ i x0 x1 x2 x3 x4 A (ix2 r l)
    = (((∑ x ∈ range (512 * ((i 1).val + 1)), dsOf q k v g T (l.val / 64) (512 * (i 1).val + r.val) x * k x l.val) * (1 / 8) : ℝ) : EReal) := by
  unfold pointQ k0_pay24
  pointwise
  rw [(point0_holds q k v g T i D0 V0 x0 x1 x2 x3 x4 A h0 h1 h2 h3 h4 hA1 hA2).q, (point1_holds q k v g T i D0 V0 x0 x1 x2 x3 x4 A h0 h1 h2 h3 h4 hA1 hA2).q,
    eighth_f32, ← EReal.coe_add, ← EReal.coe_mul]
  have hl : l.val / 64 = 0 ∨ l.val / 64 = 1 := by omega
  rcases hl with hl | hl <;> simp [hl, dsOf]

include h0 h1 h2 h3 h4 hA1 hA2 in
/-- The gradients of the keys and of the values so far. -/
theorem pointK_apply (y : Fin 2048) (l : Fin 128) : (point1 i x0 x1 x2 x3 x4 A).2.1 (ix2 y l)
    = ((D0 y.val l.val + (addK q k v g T 0 (i 1).val y.val l.val + addK q k v g T 1 (i 1).val y.val l.val) : ℝ) : EReal) := by
  rw [(point1_holds q k v g T i D0 V0 x0 x1 x2 x3 x4 A h0 h1 h2 h3 h4 hA1 hA2).k, ← add_assoc, ← drop_if_k q k v g T 1]

include h0 h1 h2 h3 h4 hA1 hA2 in
theorem pointV_apply (y : Fin 2048) (l : Fin 128) : (point1 i x0 x1 x2 x3 x4 A).2.2 (ix2 y l)
    = ((V0 y.val l.val + (addV q k g T 0 (i 1).val y.val l.val + addV q k g T 1 (i 1).val y.val l.val) : ℝ) : EReal) := by
  rw [(point1_holds q k v g T i D0 V0 x0 x1 x2 x3 x4 A h0 h1 h2 h3 h4 hA1 hA2).v, ← add_assoc, ← drop_if_v q k g T 1]

end Point

theorem zeros1_apply (y : Fin 2048) (l : Fin 128) : (zeros (F := Ideal)).1 (ix2 y l) = ((0 : ℝ) : EReal) := by
  show k0_pay91 (F := Ideal) (ix2 y l) = _
  rw [EReal.coe_zero]; unfold k0_pay91; pointwise
theorem zeros2_apply (y : Fin 2048) (l : Fin 128) : (zeros (F := Ideal)).2 (ix2 y l) = ((0 : ℝ) : EReal) := by
  show k0_pay92 (F := Ideal) (ix2 y l) = _
  rw [EReal.coe_zero]; unfold k0_pay92; pointwise
theorem outK_apply (a : Vec Ideal S2048x128 .f32) (y : Fin 2048) (l : Fin 128) : k0_pay25 a (ix2 y l) = a (ix2 y l) := by
  unfold k0_pay25; pointwise
theorem outV_apply (a : Vec Ideal S2048x128 .f32) (y : Fin 2048) (l : Fin 128) : k0_pay26 a (ix2 y l) = a (ix2 y l) := by
  unfold k0_pay26; pointwise

end Cert.KernelIdeal.Sb

end
-- ==== Proof.Fold.lean ====
module

/- The grid of the backward call at `Ideal`, on real data: what the blocks and the two arrays hold after each
   point. -/
public import proofs.«01_k».proof.Proof.PointReal
public import proofs.«01_k».proof.Proof.Gen.KernelIdeal.Value

@[expose] public section

set_option maxRecDepth 16384

noncomputable section

namespace Cert.KernelIdeal.Sb

open Idealize.ShloMosaic Idealize.ShloMosaic.TcCoe Cert.KernelIdeal.Gen Cert.Sb Finset
open Cert.KernelIdeal.Value

section AnyF

variable {F : FTy → Type} [FloatOps F] (m : (ℓ : Loc nD τ sig) → Buf (Elt F) ℓ) (c : Dev nD)

abbrev arrays (t : Fin cfg0.N) (A : Vec F S2048x128 .f32 × Vec F S2048x128 .f32) : Vec F S2048x128 .f32 × Vec F S2048x128 .f32 :=
  (point1 (grid0.coords t) (iblk m c 0 t) (iblk m c 1 t) (iblk m c 2 t) (iblk m c 3 t) (iblk m c 4 t) A).2

abbrev grads (t : Fin cfg0.N) (A : Vec F S2048x128 .f32 × Vec F S2048x128 .f32) : Vec F S512x128 .bf16 :=
  pointQ (grid0.coords t) (iblk m c 0 t) (iblk m c 1 t) (iblk m c 2 t) (iblk m c 3 t) (iblk m c 4 t) A

variable (acc : Vec F S512x128 .bf16 × Vec F S2048x128 .bf16 × Vec F S2048x128 .bf16 × Vec F S2048x128 .f32 × Vec F S2048x128 .f32)

theorem st_first (t : Fin cfg0.N) (h0 : t.val % 4 = 0) :
    (stAt0 m c t.val t.isLt acc).1 = grads m c t zeros ∧ (stAt0 m c t.val t.isLt acc).2.2.2 = arrays m c t zeros := by
  rw [stAt0_A m c t acc h0 (by omega)]
  dsimp only
  exact ⟨by rw [out0_A_5_eq], Prod.ext (by dsimp only; rw [sout0_A_0_eq]) (by dsimp only; rw [sout0_A_1_eq])⟩

theorem st_next (t : Fin cfg0.N) (h0 : ¬ t.val % 4 = 0) :
    (stAt0 m c t.val t.isLt acc).1 = grads m c t acc.2.2.2 ∧ (stAt0 m c t.val t.isLt acc).2.2.2 = arrays m c t acc.2.2.2 := by
  by_cases h1 : t.val % 4 = 3
  · rw [stAt0_C m c t acc h0 h1]
    dsimp only
    exact ⟨by rw [out0_C_5_eq], Prod.ext (by dsimp only; rw [sout0_C_0_eq]) (by dsimp only; rw [sout0_C_1_eq])⟩
  · rw [stAt0_B m c t acc h0 h1]
    dsimp only
    exact ⟨by rw [out0_B_5_eq], Prod.ext (by dsimp only; rw [sout0_B_0_eq]) (by dsimp only; rw [sout0_B_1_eq])⟩

theorem st_last (t : Fin cfg0.N) (h1 : t.val % 4 = 3) :
    (stAt0 m c t.val t.isLt acc).2.1 = k0_pay25 (arrays m c t acc.2.2.2).1
    ∧ (stAt0 m c t.val t.isLt acc).2.2.1 = k0_pay26 (arrays m c t acc.2.2.2).2 := by
  rw [stAt0_C m c t acc (by omega) h1]
  dsimp only
  exact ⟨by rw [out0_C_6_eq], by rw [out0_C_7_eq]⟩

end AnyF

theorem coord1 : ∀ t : Fin grid0.N, ((grid0.coords t) 1).val = t.val % 4 := by decide +kernel

section Real

variable (m : (ℓ : Loc nD τ sig) → Buf (Elt Ideal) ℓ) (c : Dev nD)
variable (q k v g : ℕ → ℕ → ℝ) (T : ℕ → ℕ → ℝ)

/-- The 128 columns of a pair of heads, and its two row sums. -/
abbrev pair (x : ℕ → ℕ → ℝ) (p : ℕ) : ℕ → ℕ → ℝ := fun t l => x t (128 * p + l)
abbrev pairT (T : ℕ → ℕ → ℝ) (p : ℕ) : ℕ → ℕ → ℝ := fun h t => T (2 * p + h) t

/-- The blocks the points read hold real numbers: the queries, keys, values, row sums and gradient of the output. -/
structure Reads : Prop where
  rq : ∀ (t : Fin cfg0.N) (r : Fin 512) (l : Fin 128), iblk m c 0 t (ix2 r l) = (pair q (t.val / 4) (512 * (t.val % 4) + r.val) l.val : EReal)
  rk : ∀ (t : Fin cfg0.N) (y : Fin 2048) (l : Fin 128), iblk m c 1 t (ix2 y l) = (pair k (t.val / 4) y.val l.val : EReal)
  rv : ∀ (t : Fin cfg0.N) (y : Fin 2048) (l : Fin 128), iblk m c 2 t (ix2 y l) = (pair v (t.val / 4) y.val l.val : EReal)
  rT : ∀ (t : Fin cfg0.N) (h : Fin 2) (r : Fin 512), iblk m c 3 t (ix3 h r 0) = (pairT T (t.val / 4) h.val (512 * (t.val % 4) + r.val) : EReal)
  rg : ∀ (t : Fin cfg0.N) (r : Fin 512) (l : Fin 128), iblk m c 4 t (ix2 r l) = (pair g (t.val / 4) (512 * (t.val % 4) + r.val) l.val : EReal)

/-- The gradients of the keys and of the values of a pair after its first `n` points. -/
def sumK (p n y l : ℕ) : ℝ := ∑ b ∈ range n, (addK (pair q p) (pair k p) (pair v p) (pair g p) (pairT T p) 0 b y l
  + addK (pair q p) (pair k p) (pair v p) (pair g p) (pairT T p) 1 b y l)
def sumV (p n y l : ℕ) : ℝ := ∑ b ∈ range n, (addV (pair q p) (pair k p) (pair g p) (pairT T p) 0 b y l
  + addV (pair q p) (pair k p) (pair g p) (pairT T p) 1 b y l)

variable (R : Reads m c q k v g T)

include R in
theorem arrays_apply (t : Fin cfg0.N) (A : Vec Ideal S2048x128 .f32 × Vec Ideal S2048x128 .f32)
    (hA1 : ∀ (y : Fin 2048) (l : Fin 128), A.1 (ix2 y l) = (sumK q k v g T (t.val / 4) (t.val % 4) y.val l.val : EReal))
    (hA2 : ∀ (y : Fin 2048) (l : Fin 128), A.2 (ix2 y l) = (sumV q k g T (t.val / 4) (t.val % 4) y.val l.val : EReal)) :
    (∀ (y : Fin 2048) (l : Fin 128), (arrays m c t A).1 (ix2 y l) = (sumK q k v g T (t.val / 4) (t.val % 4 + 1) y.val l.val : EReal))
    ∧ (∀ (y : Fin 2048) (l : Fin 128), (arrays m c t A).2 (ix2 y l) = (sumV q k g T (t.val / 4) (t.val % 4 + 1) y.val l.val : EReal))
    ∧ (∀ (r : Fin 512) (l : Fin 128), grads m c t A (ix2 r l)
      = (((∑ x ∈ range (512 * (t.val % 4 + 1)), dsOf (pair q (t.val / 4)) (pair k (t.val / 4)) (pair v (t.val / 4)) (pair g (t.val / 4)) (pairT T (t.val / 4))
          (l.val / 64) (512 * (t.val % 4) + r.val) x * pair k (t.val / 4) x l.val) * (1 / 8) : ℝ) : EReal)) := by
  have hi := coord1 t
  refine ⟨fun y l => ?_, fun y l => ?_, fun r l => ?_⟩
  · refine (pointK_apply (pair q (t.val / 4)) (pair k (t.val / 4)) (pair v (t.val / 4)) (pair g (t.val / 4)) (pairT T (t.val / 4)) (grid0.coords t)
      (sumK q k v g T (t.val / 4) (t.val % 4)) (sumV q k g T (t.val / 4) (t.val % 4)) _ _ _ _ _ A
      (fun r l => by rw [hi]; exact R.rq t r l) (R.rk t) (R.rv t) (fun h r => by rw [hi]; exact R.rT t h r) (fun r l => by rw [hi]; exact R.rg t r l) hA1 hA2 y l).trans ?_
    rw [hi, sumK, sumK, sum_range_succ]
  · refine (pointV_apply (pair q (t.val / 4)) (pair k (t.val / 4)) (pair v (t.val / 4)) (pair g (t.val / 4)) (pairT T (t.val / 4)) (grid0.coords t)
      (sumK q k v g T (t.val / 4) (t.val % 4)) (sumV q k g T (t.val / 4) (t.val % 4)) _ _ _ _ _ A
      (fun r l => by rw [hi]; exact R.rq t r l) (R.rk t) (R.rv t) (fun h r => by rw [hi]; exact R.rT t h r) (fun r l => by rw [hi]; exact R.rg t r l) hA1 hA2 y l).trans ?_
    rw [hi, sumV, sumV, sum_range_succ]
  · refine (pointQ_apply (pair q (t.val / 4)) (pair k (t.val / 4)) (pair v (t.val / 4)) (pair g (t.val / 4)) (pairT T (t.val / 4)) (grid0.coords t)
      (sumK q k v g T (t.val / 4) (t.val % 4)) (sumV q k g T (t.val / 4) (t.val % 4)) _ _ _ _ _ A
      (fun r l => by rw [hi]; exact R.rq t r l) (R.rk t) (R.rv t) (fun h r => by rw [hi]; exact R.rT t h r) (fun r l => by rw [hi]; exact R.rg t r l) hA1 hA2 r l).trans ?_
    rw [hi]

/-- What the blocks and arrays hold after point `n`. -/
structure After (n : ℕ) (acc : Vec Ideal S512x128 .bf16 × Vec Ideal S2048x128 .bf16 × Vec Ideal S2048x128 .bf16 × Vec Ideal S2048x128 .f32 × Vec Ideal S2048x128 .f32) : Prop where
  ak : ∀ (y : Fin 2048) (l : Fin 128), acc.2.2.2.1 (ix2 y l) = (sumK q k v g T (n / 4) (n % 4 + 1) y.val l.val : EReal)
  av : ∀ (y : Fin 2048) (l : Fin 128), acc.2.2.2.2 (ix2 y l) = (sumV q k g T (n / 4) (n % 4 + 1) y.val l.val : EReal)
  aq : ∀ (r : Fin 512) (l : Fin 128), acc.1 (ix2 r l)
      = (((∑ x ∈ range (512 * (n % 4 + 1)), dsOf (pair q (n / 4)) (pair k (n / 4)) (pair v (n / 4)) (pair g (n / 4)) (pairT T (n / 4))
          (l.val / 64) (512 * (n % 4) + r.val) x * pair k (n / 4) x l.val) * (1 / 8) : ℝ) : EReal)
  outK : n % 4 = 3 → ∀ (y : Fin 2048) (l : Fin 128), acc.2.1 (ix2 y l) = (sumK q k v g T (n / 4) 4 y.val l.val : EReal)
  outV : n % 4 = 3 → ∀ (y : Fin 2048) (l : Fin 128), acc.2.2.1 (ix2 y l) = (sumV q k g T (n / 4) 4 y.val l.val : EReal)

include R in
theorem after_first (t : Fin cfg0.N) (h0 : t.val % 4 = 0) (acc) : After q k v g T t.val (stAt0 m c t.val t.isLt acc) := by
  obtain ⟨e1, e2⟩ := st_first m c acc t h0
  obtain ⟨a1, a2, a3⟩ := arrays_apply m c q k v g T R t zeros
    (fun y l => (zeros1_apply y l).trans (by rw [h0, sumK, range_zero, sum_empty]))
    (fun y l => (zeros2_apply y l).trans (by rw [h0, sumV, range_zero, sum_empty]))
  refine ⟨fun y l => ?_, fun y l => ?_, fun r l => ?_, fun h => by omega, fun h => by omega⟩
  · rw [e2]; exact a1 y l
  · rw [e2]; exact a2 y l
  · rw [e1]; exact a3 r l

include R in
theorem after_next (n : ℕ) (hn : n + 1 < cfg0.N) (h0 : ¬ (n + 1) % 4 = 0) (acc) (H : After q k v g T n acc) :
    After q k v g T (n + 1) (stAt0 m c (n + 1) hn acc) := by
  obtain ⟨e1, e2⟩ := st_next m c acc ⟨n + 1, hn⟩ h0
  have d1 : (n + 1) / 4 = n / 4 := by omega
  have d2 : (n + 1) % 4 = n % 4 + 1 := by omega
  obtain ⟨a1, a2, a3⟩ := arrays_apply m c q k v g T R ⟨n + 1, hn⟩ acc.2.2.2
    (fun y l => (H.ak y l).trans (by rw [d1, d2])) (fun y l => (H.av y l).trans (by rw [d1, d2]))
  refine ⟨fun y l => ?_, fun y l => ?_, fun r l => ?_, fun h y l => ?_, fun h y l => ?_⟩
  · rw [e2]; exact a1 y l
  · rw [e2]; exact a2 y l
  · rw [e1]; exact a3 r l
  · obtain ⟨f1, f2⟩ := st_last m c acc ⟨n + 1, hn⟩ h
    rw [f1, outK_apply]; refine (a1 y l).trans ?_; rw [h]
  · obtain ⟨f1, f2⟩ := st_last m c acc ⟨n + 1, hn⟩ h
    rw [f2, outV_apply]; refine (a2 y l).trans ?_; rw [h]

include R in
/-- After every point. -/
theorem after_all (n : ℕ) (hn : n < cfg0.N) : After q k v g T n (outsAt0 m c n hn) := by
  induction n with
  | zero => rw [outsAt0_zero]; exact after_first m c q k v g T R ⟨0, hn⟩ rfl _
  | succ n ih =>
    rw [outsAt0_succ]
    by_cases h0 : (n + 1) % 4 = 0
    · exact after_first m c q k v g T R ⟨n + 1, hn⟩ h0 _
    · exact after_next m c q k v g T R n hn h0 _ (ih _)

include R in
/-- The three arrays at the end. -/
theorem G5_apply (t : Fin 2048) (col : Fin 1024) : G5 m c (ix2 t col)
    = (((∑ x ∈ range (512 * (t.val / 512 + 1)), dsOf (pair q (col.val / 128)) (pair k (col.val / 128)) (pair v (col.val / 128)) (pair g (col.val / 128))
        (pairT T (col.val / 128)) (col.val % 128 / 64) t.val x * k x col.val) * (1 / 8) : ℝ) : EReal) := by
  have hp : pt5Of (ix2 t col) = t.val / 512 + 4 * (col.val / 128) := by show 1 * (t.val / 512 - 0) + 4 * (col.val / 128 - 0) = _; omega
  have hlt : pt5Of (ix2 t col) < cfg0.N := by rw [hp, show cfg0.N = 32 from N_0]; omega
  have H := after_all m c q k v g T R (pt5Of (ix2 t col)) hlt
  unfold G5
  rw [dif_pos hlt, ← outsAt0_sweep m c _ hlt]
  have hl : loc5Of (ix2 t col) = ix2 ⟨t.val % 512, Nat.mod_lt _ (by decide)⟩ ⟨col.val % 128, Nat.mod_lt _ (by decide)⟩ :=
    funext fun a => match a with | ⟨0, _⟩ => rfl | ⟨1, _⟩ => rfl
  rw [hl]
  refine (H.aq _ _).trans ?_
  have d1 : pt5Of (ix2 t col) / 4 = col.val / 128 := by omega
  have d2 : pt5Of (ix2 t col) % 4 = t.val / 512 := by omega
  have d3 : 512 * (t.val / 512) + t.val % 512 = t.val := by omega
  have d4 : 128 * (col.val / 128) + col.val % 128 = col.val := by omega
  simp only [d1, d2, d3, pair, d4]

include R in
theorem G6_apply (y : Fin 2048) (col : Fin 1024) : G6 m c (ix2 y col)
    = ((sumK q k v g T (col.val / 128) 4 y.val (col.val % 128) : ℝ) : EReal) := by
  have hp : pt6Of (ix2 y col) = 4 * (col.val / 128) + 3 := by
    show 4 * (8 * (y.val / 2048 - 0) + 1 * (col.val / 128 - 0)) + 3 = _; omega
  have hlt : pt6Of (ix2 y col) < cfg0.N := by rw [hp, show cfg0.N = 32 from N_0]; omega
  have H := after_all m c q k v g T R (pt6Of (ix2 y col)) hlt
  unfold G6
  rw [dif_pos hlt, ← outsAt0_sweep m c _ hlt]
  have hl : loc6Of (ix2 y col) = ix2 y ⟨col.val % 128, Nat.mod_lt _ (by decide)⟩ :=
    funext fun a => match a with | ⟨0, _⟩ => Fin.ext (by show y.val % 2048 = y.val; omega) | ⟨1, _⟩ => rfl
  rw [hl]
  refine (H.outK (by omega) _ _).trans ?_
  have d1 : pt6Of (ix2 y col) / 4 = col.val / 128 := by omega
  simp only [d1]

include R in
theorem G7_apply (y : Fin 2048) (col : Fin 1024) : G7 m c (ix2 y col)
    = ((sumV q k g T (col.val / 128) 4 y.val (col.val % 128) : ℝ) : EReal) := by
  have hp : pt7Of (ix2 y col) = 4 * (col.val / 128) + 3 := by
    show 4 * (8 * (y.val / 2048 - 0) + 1 * (col.val / 128 - 0)) + 3 = _; omega
  have hlt : pt7Of (ix2 y col) < cfg0.N := by rw [hp, show cfg0.N = 32 from N_0]; omega
  have H := after_all m c q k v g T R (pt7Of (ix2 y col)) hlt
  unfold G7
  rw [dif_pos hlt, ← outsAt0_sweep m c _ hlt]
  have hl : loc7Of (ix2 y col) = ix2 y ⟨col.val % 128, Nat.mod_lt _ (by decide)⟩ :=
    funext fun a => match a with | ⟨0, _⟩ => Fin.ext (by show y.val % 2048 = y.val; omega) | ⟨1, _⟩ => rfl
  rw [hl]
  refine (H.outV (by omega) _ _).trans ?_
  have d1 : pt7Of (ix2 y col) / 4 = col.val / 128 := by omega
  simp only [d1]

end Real

end Cert.KernelIdeal.Sb

end
-- ==== Proof.Soft.lean ====
module

/- What the host's own lines compute on real numbers: `softplus`, `log_sigmoid` and their derivatives, and
   running sums along the last axis. -/
public import proofs.«01_k».proof.Proof.Model
public import Idealize.ShloMosaic.Lib.StableHlo
public import Idealize.ShloMosaic.Lib.ValueIdxCore
public import Idealize.ShloMosaic.Lib.Pointwise
public import Idealize.ShloMosaic.Lib.IdealHost

@[expose] public section

set_option maxRecDepth 16384

noncomputable section

namespace Cert.Sb

open Idealize.ShloMosaic Finset

/-- `softplus`. -/
def sp (z : ℝ) : ℝ := max z 0 + Real.log (1 + Real.exp (-|z|))

theorem neg_sp_neg (z : ℝ) : -sp (-z) = lbeta z := by
  unfold sp lbeta
  rw [abs_neg, neg_add, ← neg_zero, max_neg_neg, neg_neg, neg_zero, sub_eq_add_neg]

theorem sub_sp (z : ℝ) : z - sp z = lbeta z := by
  unfold sp lbeta
  rcases le_total z 0 with h | h
  · rw [max_eq_right h, min_eq_left h]; ring
  · rw [max_eq_left h, min_eq_right h]; ring

theorem neg_sp (z : ℝ) : -sp z = lbeta z - z := by rw [← sub_sp]; ring

theorem neg_sub_sp_neg (z : ℝ) : -z - sp (-z) = lbeta z - z := by rw [← neg_sp_neg]; ring

/-- `β + (1 - β) = 1`. -/
theorem beta_add (z : ℝ) : Real.exp (lbeta z) + Real.exp (lbeta z - z) = 1 := by
  unfold lbeta
  have hp : 0 < 1 + Real.exp (-|z|) := by have := Real.exp_pos (-|z|); linarith
  rcases le_total z 0 with h | h
  · rw [min_eq_left h, abs_of_nonpos h, neg_neg] at *
    rw [Real.exp_sub, show z - Real.log (1 + Real.exp z) - z = 0 - Real.log (1 + Real.exp z) by ring, Real.exp_sub, Real.exp_log hp, Real.exp_zero]
    field_simp
    ring
  · rw [min_eq_right h, abs_of_nonneg h] at *
    rw [sub_right_comm, Real.exp_sub, Real.exp_sub (0 - z), Real.exp_log hp, Real.exp_zero, zero_sub]
    field_simp

/-! The scalar operations. -/

theorem top_f32 : Ideal.ofBits .f32 0x7F800000#32 = (⊤ : EReal) := by simp [Ideal.ofBits, Ideal.ieee]

theorem abs_real (z : ℝ) : FloatOps.absf (F := Ideal) (φ := .f32) (z : EReal) = ((|z| : ℝ) : EReal) :=
  (congrArg (max (z : EReal)) (EReal.coe_neg z).symm).trans (coe_max z (-z))

theorem log1p_real (z : ℝ) : Ideal.log1p ((Real.exp z : ℝ) : EReal) = ((Real.log (1 + Real.exp z) : ℝ) : EReal) := by
  unfold Ideal.log1p
  rw [← EReal.coe_one, ← EReal.coe_add, Ideal.log_coe, if_neg (by have := Real.exp_pos z; linarith)]

theorem ne_self (x : EReal) : Ideal.cmp .une x x = 0#1 := by simp [Ideal.cmp]

theorem eq_top (z : ℝ) : Ideal.cmp .oeq (z : EReal) ⊤ = 0#1 := by simp [Ideal.cmp]

/-- `softplus`, as the host computes it. -/
theorem softplus_real (z : ℝ) : max (z : EReal) 0 + Ideal.log1p (Ideal.exp (-((|z| : ℝ) : EReal))) = ((sp z : ℝ) : EReal) := by
  rw [← EReal.coe_neg, Ideal.exp_coe, log1p_real, ← EReal.coe_zero, coe_max, ← EReal.coe_add]
  rfl

/-! Running sums. -/

theorem foldl_sum {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← List.ofFn_eq_map, List.sum_ofFn]

theorem window_sum {s t u : Shape} (window strides lo hi : Fin s.rank → Nat) (x : s.Idx → EReal) (w : u.Idx → EReal)
    (h : s.ReduceWindows window strides lo hi t) (hu : 0 < u.numel) (j : t.Idx) :
    Host.reduceWindowAdd (F := Ideal) (φ := .f32) window strides lo hi x w h hu j
      = w (Shape.Idx.first hu) + ∑ i : (⟨s.rank, window⟩ : Shape).Idx,
        (if hin : ∀ a, lo a ≤ (j (a.cast h.1.symm)).val * strides a + (i a).val ∧ (j (a.cast h.1.symm)).val * strides a + (i a).val - lo a < s.size a
          then x (fun a => ⟨(j (a.cast h.1.symm)).val * strides a + (i a).val - lo a, (hin a).2⟩) else w (Shape.Idx.first hu)) := by
  rw [← Equiv.sum_comp (Shape.rowMajor ⟨s.rank, window⟩).symm]
  unfold Host.reduceWindowAdd
  rw [Ideal.hostReduceWindowAdd_def]
  unfold Ideal.hostReduceWindowAdd Host.reduceWindow
  dsimp only
  rw [foldl_sum]
  exact congrArg (w (Shape.Idx.first hu) + ·) (sum_congr rfl fun k _ => by congr)

abbrev Cube : Shape := ⟨3, ![16, 2048, 2048]⟩

abbrev ix (h : Fin 16) (t s : Fin 2048) : Cube.Idx := fun a => match a with | ⟨0, _⟩ => h | ⟨1, _⟩ => t | ⟨2, _⟩ => s

/-- A window along the last axis. -/
abbrev lastWin : Shape := ⟨3, ![1, 1, 2048]⟩

def winEquiv : lastWin.Idx ≃ Fin 2048 where
  toFun i := i 2
  invFun k := fun a => match a with | ⟨0, _⟩ => (0 : Fin 1) | ⟨1, _⟩ => (0 : Fin 1) | ⟨2, _⟩ => k
  left_inv i := funext fun a => match a with
    | ⟨0, _⟩ => Fin.ext (by have h : (i 0).val < 1 := (i 0).isLt; show 0 = (i 0).val; omega)
    | ⟨1, _⟩ => Fin.ext (by have h : (i 1).val < 1 := (i 1).isLt; show 0 = (i 1).val; omega)
    | ⟨2, _⟩ => rfl
  right_inv k := rfl

theorem scan_real (x : Cube.Idx → EReal) (f : ℕ → ℝ) (lo hi : ℕ) (w : (⟨0, ![]⟩ : Shape).Idx → EReal) (h : Fin 16) (t s : Fin 2048)
    (hx : ∀ y : Fin 2048, x (ix h t y) = (f y.val : EReal)) (hw : ∀ i, w i = 0)
    (hr : Cube.ReduceWindows ![1, 1, 2048] ![1, 1, 1] ![0, 0, lo] ![0, 0, hi] Cube) (hu) :
    Host.reduceWindowAdd (F := Ideal) (φ := .f32) ![1, 1, 2048] ![1, 1, 1] ![0, 0, lo] ![0, 0, hi] x w hr hu (ix h t s)
      = ((∑ k ∈ range 2048, (if lo ≤ s.val + k ∧ s.val + k - lo < 2048 then f (s.val + k - lo) else 0) : ℝ) : EReal) := by
  rw [window_sum, hw, zero_add, ← coe_sum_fin 2048 (fun k => if lo ≤ s.val + k ∧ s.val + k - lo < 2048 then f (s.val + k - lo) else 0)]
  refine Fintype.sum_equiv winEquiv _ _ fun i => ?_
  have i0 : (i 0).val = 0 := by have h : (i 0).val < 1 := (i 0).isLt; omega
  have i1 : (i 1).val = 0 := by have h : (i 1).val < 1 := (i 1).isLt; omega
  have e : (winEquiv i).val = (i 2).val := rfl
  rw [e]
  by_cases hc : lo ≤ s.val + (i 2).val ∧ s.val + (i 2).val - lo < 2048
  · rw [if_pos hc]
    refine (dif_pos (fun a => match a with
      | ⟨0, _⟩ => ⟨Nat.zero_le _, by show h.val * 1 + (i 0).val - 0 < 16; omega⟩
      | ⟨1, _⟩ => ⟨Nat.zero_le _, by show t.val * 1 + (i 1).val - 0 < 2048; omega⟩
      | ⟨2, _⟩ => ⟨by show lo ≤ s.val * 1 + (i 2).val; omega, by show s.val * 1 + (i 2).val - lo < 2048; omega⟩)).trans ?_
    refine Eq.trans (congrArg x (funext fun a => Fin.ext ?_)) (hx ⟨s.val + (i 2).val - lo, hc.2⟩)
    match a with
    | ⟨0, _⟩ => show h.val * 1 + (i 0).val - 0 = h.val; omega
    | ⟨1, _⟩ => show t.val * 1 + (i 1).val - 0 = t.val; omega
    | ⟨2, _⟩ => show s.val * 1 + (i 2).val - lo = s.val + (i 2).val - lo; omega
  · rw [if_neg hc]
    refine (dif_neg (fun H => hc ?_)).trans EReal.coe_zero.symm
    have H2 := H 2
    have H2' : lo ≤ s.val * 1 + (i 2).val ∧ s.val * 1 + (i 2).val - lo < 2048 := H2
    rwa [mul_one] at H2'

/-- From an entry to the last. -/
theorem scan_after (f : ℕ → ℝ) (s : ℕ) (hs : s < 2048) :
    ∑ k ∈ range 2048, (if 0 ≤ s + k ∧ s + k - 0 < 2048 then f (s + k - 0) else 0) = ∑ x ∈ range 2048, f x - ∑ x ∈ range s, f x := by
  have e : ∑ x ∈ range 2048, f x = ∑ x ∈ range s, f x + ∑ x ∈ range (2048 - s), f (s + x) := by rw [← sum_range_add]; congr 2; omega
  rw [e, add_sub_cancel_left]
  have e2 : ∀ g : ℕ → ℝ, ∑ k ∈ range 2048, g k = ∑ k ∈ range (2048 - s), g k + ∑ x ∈ range s, g (2048 - s + x) := by
    intro g; rw [← sum_range_add]; congr 2; omega
  rw [e2, sum_eq_zero (s := range s), add_zero]
  · refine sum_congr rfl fun k hk => ?_
    rw [mem_range] at hk
    rw [if_pos ⟨Nat.zero_le _, by omega⟩, Nat.sub_zero]
  · intro k _; rw [if_neg (by omega)]

/-- From the first entry to an entry. -/
theorem scan_upto (f : ℕ → ℝ) (s : ℕ) (hs : s < 2048) :
    ∑ k ∈ range 2048, (if 2047 ≤ s + k ∧ s + k - 2047 < 2048 then f (s + k - 2047) else 0) = ∑ x ∈ range (s + 1), f x := by
  have e2 : ∀ g : ℕ → ℝ, ∑ k ∈ range 2048, g k = ∑ k ∈ range (2047 - s), g k + ∑ x ∈ range (s + 1), g (2047 - s + x) := by
    intro g; rw [← sum_range_add]; congr 2; omega
  rw [e2, sum_eq_zero (s := range (2047 - s)), zero_add]
  · refine sum_congr rfl fun k hk => ?_
    rw [mem_range] at hk
    rw [if_pos ⟨by omega, by omega⟩]; congr 1; omega
  · intro k hk; rw [mem_range] at hk; rw [if_neg (by omega)]

end Cert.Sb

end
-- ==== Proof.RefReal.lean ====
module

/- The reference's arrays at an index, on real data. -/
public import proofs.«01_k».proof.Proof.Fold
public import proofs.«01_k».proof.Proof.Soft
public import proofs.«01_k».proof.Proof.Gen.ReferenceIdeal.Read

@[expose] public section

set_option maxRecDepth 16384

noncomputable section

namespace Cert.ReferenceIdeal.Sb

open Idealize.ShloMosaic Cert.ReferenceIdeal Cert.ReferenceIdeal.Gen Cert.ReferenceIdeal.Read Cert.Sb Finset
open Cert.KernelIdeal.Sb (pair pairT qOf gOf eighth_f32 slt_small)

/-- The lanes of one head of a pair. -/
theorem lanes (H : ℕ) (a b : ℕ → ℝ) :
    ∑ l ∈ range 128, (if l / 64 = H % 2 then a (128 * (H / 2) + l) else 0) * b (128 * (H / 2) + l)
      = ∑ d ∈ range 64, a (64 * H + d) * b (64 * H + d) := by
  rw [show (128 : ℕ) = 64 + 64 from rfl, sum_range_add]
  have e : ∀ f1 f2 : ℕ → ℝ, ∀ f3 : ℕ → ℝ, ((∀ x < 64, f1 x = f3 x) ∧ ∀ x < 64, f2 x = 0) ∨ ((∀ x < 64, f1 x = 0) ∧ ∀ x < 64, f2 x = f3 x) →
      ∑ x ∈ range 64, f1 x + ∑ x ∈ range 64, f2 x = ∑ x ∈ range 64, f3 x := by
    intro f1 f2 f3 h
    rw [← sum_add_distrib]
    refine sum_congr rfl fun x hx => ?_
    rw [mem_range] at hx
    rcases h with ⟨a, b⟩ | ⟨a, b⟩
    · rw [a x hx, b x hx, add_zero]
    · rw [a x hx, b x hx, zero_add]
  refine e _ _ _ ?_
  rcases Nat.mod_two_eq_zero_or_one H with h | h
  · refine Or.inl ⟨fun x hx => ?_, fun x hx => ?_⟩
    · rw [if_pos (by omega), show (64 + 64) * (H / 2) + x = 64 * H + x by omega]
    · rw [if_neg (by omega), zero_mul]
  · refine Or.inr ⟨fun x hx => ?_, fun x hx => ?_⟩
    · rw [if_neg (by omega), zero_mul]
    · rw [if_pos (by omega), show (64 + 64) * (H / 2) + (64 + x) = 64 * H + x by omega]

variable (p g : ℕ → ℕ → ℝ)

/-- The projections' three parts, and one head of a pair. -/
abbrev qP : ℕ → ℕ → ℝ := p
abbrev kP : ℕ → ℕ → ℝ := fun t c => p t (1024 + c)
abbrev vP : ℕ → ℕ → ℝ := fun t c => p t (2048 + c)
abbrev hQ (H : ℕ) : ℕ → ℕ → ℝ := qOf (pair (qP p) (H / 2)) (H % 2)
abbrev hK (H : ℕ) : ℕ → ℕ → ℝ := pair (kP p) (H / 2)
abbrev hV (H : ℕ) : ℕ → ℕ → ℝ := pair (vP p) (H / 2)
abbrev hG (H : ℕ) : ℕ → ℕ → ℝ := gOf (pair g (H / 2)) (H % 2)

/-- The sum of `log (1 - β)` over a row. -/
def hT (H : ℕ) : ℕ → ℝ := fun t => ∑ x ∈ range 2048, lone (hQ p H) (hK p H) t x

theorem score_eq (H t s : ℕ) : dot (hQ p H) (hK p H) t s = (∑ d ∈ range 64, p t (64 * H + d) * p s (1024 + (64 * H + d))) * (1 / 8) := by
  rw [sum_mul]
  refine Eq.trans ?_ ((lanes H (fun c => p t c * (1 / 8)) (fun c => p s (1024 + c))).trans (sum_congr rfl fun d _ => by ring))
  rfl

theorem gv_eq (H t s : ℕ) : dot (hG g H) (hV p H) t s = ∑ d ∈ range 64, g t (64 * H + d) * p s (2048 + (64 * H + d)) :=
  lanes H (fun c => g t c) (fun c => p s (2048 + c))

variable (x0 : (⟨S2048x3072, .bf16⟩ : BufTy).Contents (Elt Ideal)) (x1 : (⟨S2048x1024, .bf16⟩ : BufTy).Contents (Elt Ideal))
variable (hx0 : ∀ i : S2048x3072.Idx, x0 i = (p (i 0).val (i 1).val : EReal)) (hx1 : ∀ i : S2048x1024.Idx, x1 i = (g (i 0).val (i 1).val : EReal))

section Proj
include hx0

theorem v4_real (i : S2048x16x64.Idx) : val_main_v4 (F := Ideal) x0 i = (p (i 0).val (64 * (i 1).val + (i 2).val) : EReal) := by
  have h1 : (i 1).val < 16 := (i 1).isLt
  have h2 : (i 2).val < 64 := (i 2).isLt
  rw [val_main_v4_apply, val_main_v1_apply, val_main_v0_apply, Ideal.extf_def]
  refine (hx0 _).trans ?_
  congr 2 <;> dsimp <;> omega

theorem v5_real (i : S2048x16x64.Idx) : val_main_v5 (F := Ideal) x0 i = (p (i 0).val (1024 + (64 * (i 1).val + (i 2).val)) : EReal) := by
  have h1 : (i 1).val < 16 := (i 1).isLt
  have h2 : (i 2).val < 64 := (i 2).isLt
  rw [val_main_v5_apply, val_main_v2_apply, val_main_v0_apply, Ideal.extf_def]
  refine (hx0 _).trans ?_
  congr 2 <;> dsimp <;> omega

theorem v32_real (i : S2048x16x64.Idx) : val_main_v32 (F := Ideal) x0 i = (p (i 0).val (2048 + (64 * (i 1).val + (i 2).val)) : EReal) := by
  have h1 : (i 1).val < 16 := (i 1).isLt
  have h2 : (i 2).val < 64 := (i 2).isLt
  rw [val_main_v32_apply, val_main_v3_apply, val_main_v0_apply, Ideal.extf_def]
  refine (hx0 _).trans ?_
  congr 2 <;> dsimp <;> omega

abbrev zz (i : S16x2048x2048.Idx) : ℝ := dot (hQ p (i 0).val) (hK p (i 0).val) (i 1).val (i 2).val

theorem v8_real (i : S16x2048x2048.Idx) : val_main_v8 (F := Ideal) x0 i = (zz p i : EReal) := by
  rw [val_main_v8_apply, val_main_v6_apply, val_main_v7_apply, val_main_cst_apply, Ideal.ofBits_def, eighth_f32, Ideal.mulf_def]
  simp only [v4_real p x0 hx0, v5_real p x0 hx0, ← EReal.coe_mul]
  rw [zz, score_eq, EReal.coe_mul]
  exact congrArg (· * ((1 / 8 : ℝ) : EReal)) (coe_sum_fin 64 (fun d => p (i 1).val (64 * (i 0).val + d) * p (i 2).val (1024 + (64 * (i 0).val + d))))

theorem c0_arg (i : S16x2048x2048.Idx) : val_main_call0_v0 (F := Ideal) x0 i = ((-zz p i : ℝ) : EReal) := by
  rw [val_main_call0_v0_apply, v8_real p x0 hx0, Ideal.hostNegf_def, Ideal.negf_def, EReal.coe_neg]

/-- `softplus` of call 0. -/
theorem c0_sp (i : S16x2048x2048.Idx) : val_main_call0_v1_0 (F := Ideal) x0 i = (sp (-zz p i) : EReal) := by
  have hz := c0_arg p x0 hx0 i
  have h3 : val_main_call0_call0_v3 (F := Ideal) x0 i = ((-zz p i : ℝ) : EReal) := by
    rw [val_main_call0_call0_v3_apply, hz, val_main_call0_call0_v2_apply, val_main_call0_call0_cst_apply, Ideal.ofBits_def, Ideal.ofBits_zero, Ideal.subf_def, sub_zero]
  rw [val_main_call0_v1_0_apply, val_main_call0_call0_v4_apply, h3, Ideal.cmpf_def, ne_self]
  refine Eq.trans ?_ (softplus_real (-zz p i))
  show val_main_call0_call0_v11 (F := Ideal) x0 i = _
  rw [val_main_call0_call0_v11_apply, val_main_call0_call0_v1_apply, hz, val_main_call0_call0_v0_apply, val_main_call0_call0_cst_apply, Ideal.ofBits_def, Ideal.ofBits_zero,
    val_main_call0_call0_v10_apply, val_main_call0_call0_v9_apply, val_main_call0_call0_v8_apply, val_main_call0_call0_v7_apply, h3, Ideal.hostAbsf_def, abs_real]
  rfl

theorem c0_diff (i : S16x2048x2048.Idx) : val_main_call0_call0_v21 (F := Ideal) x0 i = ((-zz p i - sp (-zz p i) : ℝ) : EReal) := by
  rw [val_main_call0_call0_v21_apply, val_main_call0_call0_v16_apply, val_main_call0_call0_v20_apply, val_main_call0_call0_v14_apply, val_main_call0_call0_v18_apply,
    val_main_call0_call0_v13_apply, val_main_call0_call0_v17_apply, val_main_call0_call0_cst_0_apply, val_main_call0_call0_cst_2_apply, Ideal.ofBits_def, top_f32,
    c0_arg p x0 hx0, c0_sp p x0 hx0, Ideal.cmpf_def, Ideal.cmpf_def, eq_top, eq_top]
  exact (EReal.coe_sub _ _).symm

theorem c1_arg (i : S16x2048x2048.Idx) : val_main_call1_v0 (F := Ideal) x0 i = ((zz p i : ℝ) : EReal) := by
  rw [val_main_call1_v0_apply, val_main_v17_apply, v8_real p x0 hx0, Ideal.hostNegf_def, Ideal.negf_def, Ideal.hostNegf_def, Ideal.negf_def, neg_neg]

/-- `softplus` of call 1. -/
theorem c1_sp (i : S16x2048x2048.Idx) : val_main_call1_v1_0 (F := Ideal) x0 i = (sp (zz p i) : EReal) := by
  have hz := c1_arg p x0 hx0 i
  have h3 : val_main_call1_call0_v3 (F := Ideal) x0 i = ((zz p i : ℝ) : EReal) := by
    rw [val_main_call1_call0_v3_apply, hz, val_main_call1_call0_v2_apply, val_main_call1_call0_cst_apply, Ideal.ofBits_def, Ideal.ofBits_zero, Ideal.subf_def, sub_zero]
  rw [val_main_call1_v1_0_apply, val_main_call1_call0_v4_apply, h3, Ideal.cmpf_def, ne_self]
  refine Eq.trans ?_ (softplus_real (zz p i))
  show val_main_call1_call0_v11 (F := Ideal) x0 i = _
  rw [val_main_call1_call0_v11_apply, val_main_call1_call0_v1_apply, hz, val_main_call1_call0_v0_apply, val_main_call1_call0_cst_apply, Ideal.ofBits_def, Ideal.ofBits_zero,
    val_main_call1_call0_v10_apply, val_main_call1_call0_v9_apply, val_main_call1_call0_v8_apply, val_main_call1_call0_v7_apply, h3, Ideal.hostAbsf_def, abs_real]
  rfl

theorem c1_diff (i : S16x2048x2048.Idx) : val_main_call1_call0_v21 (F := Ideal) x0 i = ((zz p i - sp (zz p i) : ℝ) : EReal) := by
  rw [val_main_call1_call0_v21_apply, val_main_call1_call0_v16_apply, val_main_call1_call0_v20_apply, val_main_call1_call0_v14_apply, val_main_call1_call0_v18_apply,
    val_main_call1_call0_v13_apply, val_main_call1_call0_v17_apply, val_main_call1_call0_cst_0_apply, val_main_call1_call0_cst_2_apply, Ideal.ofBits_def, top_f32,
    c1_arg p x0 hx0, c1_sp p x0 hx0, Ideal.cmpf_def, Ideal.cmpf_def, eq_top, eq_top]
  exact (EReal.coe_sub _ _).symm

/-- `log β`, `1 - β`, `log (1 - β)` and `β`. -/
theorem v9_0_real (i : S16x2048x2048.Idx) : val_main_v9_0 (F := Ideal) x0 i = (lbeta (zz p i) : EReal) := by
  rw [val_main_v9_0_apply, c0_sp p x0 hx0, Ideal.hostNegf_def, Ideal.negf_def, ← EReal.coe_neg, neg_sp_neg]
theorem v9_1_real (i : S16x2048x2048.Idx) : val_main_v9_1 (F := Ideal) x0 i = (Real.exp (lbeta (zz p i) - zz p i) : EReal) := by
  rw [val_main_v9_1_apply, c0_diff p x0 hx0, Ideal.hostUnary_exp_def, Ideal.exp_coe, neg_sub_sp_neg]
theorem v18_0_real (i : S16x2048x2048.Idx) : val_main_v18_0 (F := Ideal) x0 i = ((lbeta (zz p i) - zz p i : ℝ) : EReal) := by
  rw [val_main_v18_0_apply, c1_sp p x0 hx0, Ideal.hostNegf_def, Ideal.negf_def, ← EReal.coe_neg, neg_sp]
theorem v18_1_real (i : S16x2048x2048.Idx) : val_main_v18_1 (F := Ideal) x0 i = (Real.exp (lbeta (zz p i)) : EReal) := by
  rw [val_main_v18_1_apply, c1_diff p x0 hx0, Ideal.hostUnary_exp_def, Ideal.exp_coe, sub_sp]

omit hx0 in
/-- The strict mask. -/
theorem mask_apply (i : S2048x2048.Idx) : val_main_v16 (F := Ideal) i = if (i 1).val < (i 0).val then 1#1 else 0#1 := by
  rw [val_main_v16_apply, val_main_v14_apply, val_main_v15_apply, val_main_v11_apply, val_main_v13_apply, val_main_v10_apply, val_main_v12_apply]
  exact slt_small (i 1).val (i 0).val (i 1).isLt (i 0).isLt
omit hx0 in
theorem mask'_apply (i : S2048x2048.Idx) : val_main_v28 (F := Ideal) i = if (i 1).val < (i 0).val then 1#1 else 0#1 := by
  rw [val_main_v28_apply, val_main_v26_apply, val_main_v27_apply, val_main_v23_apply, val_main_v25_apply, val_main_v22_apply, val_main_v24_apply]
  exact slt_small (i 1).val (i 0).val (i 1).isLt (i 0).isLt
omit hx0 in
theorem v19_1_real (i : S16x2048x2048.Idx) : val_main_v19_1 (F := Ideal) i = if (i 2).val < (i 1).val then 1#1 else 0#1 := by
  rw [val_main_v19_1_apply]; exact mask_apply _
omit hx0 in
theorem v31_1_real (i : S16x2048x2048.Idx) : val_main_v31_1 (F := Ideal) i = if (i 2).val < (i 1).val then 1#1 else 0#1 := by
  rw [val_main_v31_1_apply]; exact mask'_apply _

omit hx0 in
/-- A value where the mask holds, 0 elsewhere. -/
theorem select_mask (c : Prop) [Decidable c] (x y : ℝ) :
    Scalar.select (if c then 1#1 else 0#1) (x : EReal) (y : EReal) = ((if c then x else y : ℝ) : EReal) := by
  split <;> rfl

abbrev lo1 (i : S16x2048x2048.Idx) : ℝ := lone (hQ p (i 0).val) (hK p (i 0).val) (i 1).val (i 2).val

theorem v19_0_real (i : S16x2048x2048.Idx) : val_main_v19_0 (F := Ideal) x0 i = (lo1 p i : EReal) := by
  rw [val_main_v19_0_apply, v19_1_real, v18_0_real p x0 hx0, val_main_call2_v2_apply, val_main_call2_v0_apply, val_main_cst_0_apply, Ideal.ofBits_def, Ideal.ofBits_zero,
    ← EReal.coe_zero]
  exact select_mask _ _ _

theorem v20_real (i : S16x2048x2048.Idx) : val_main_v20 (F := Ideal) x0 i
    = ((hT p (i 0).val (i 1).val - ∑ x ∈ range (i 2).val, lone (hQ p (i 0).val) (hK p (i 0).val) (i 1).val x : ℝ) : EReal) := by
  have e := scan_real (val_main_v19_0 (F := Ideal) x0) (fun x => lone (hQ p (i 0).val) (hK p (i 0).val) (i 1).val x) 0 2047 (val_main_call3_v0 (F := Ideal)) (i 0) (i 1) (i 2)
    (fun y => v19_0_real p x0 hx0 _) (fun j => by rw [val_main_call3_v0_apply, val_main_call3_cst_apply, Ideal.ofBits_def, Ideal.ofBits_zero])
    reduceWindows_S16x2048x2048_S16x2048x2048_w1s1p0_0_w1s1p0_0_w2048s1p0_2047 h_S_
  have hi : i = ix (i 0) (i 1) (i 2) := funext fun a => match a with | ⟨0, _⟩ => rfl | ⟨1, _⟩ => rfl | ⟨2, _⟩ => rfl
  rw [scan_after _ _ (i 2).isLt] at e
  exact (congrArg (val_main_v20 (F := Ideal) x0) hi).trans e

theorem v30_real (i : S16x2048x2048.Idx) : val_main_v30 (F := Ideal) x0 i
    = (Real.exp (lbeta (zz p i) + (hT p (i 0).val (i 1).val - ∑ x ∈ range ((i 2).val + 1), lone (hQ p (i 0).val) (hK p (i 0).val) (i 1).val x)) : EReal) := by
  rw [val_main_v30_apply, val_main_v29_apply, v9_0_real p x0 hx0, val_main_v21_apply, v20_real p x0 hx0, v19_0_real p x0 hx0, Ideal.subf_def, ← EReal.coe_sub,
    Ideal.addf_def, ← EReal.coe_add, Ideal.hostUnary_exp_def, Ideal.exp_coe, sum_range_succ, sub_sub]

abbrev ww (i : S16x2048x2048.Idx) : ℝ := wt (hQ p (i 0).val) (hK p (i 0).val) (hT p (i 0).val) (i 1).val (i 2).val

theorem v31_0_real (i : S16x2048x2048.Idx) : val_main_v31_0 (F := Ideal) x0 i = (ww p i : EReal) := by
  rw [val_main_v31_0_apply, v31_1_real, v30_real p x0 hx0, val_main_call4_v2_apply, val_main_call4_v0_apply, val_main_cst_1_apply, Ideal.ofBits_def, Ideal.ofBits_zero,
    ← EReal.coe_zero]
  exact select_mask _ _ _

end Proj

section Grad

include hx1 in
theorem v38_real (i : S16x64x2048.Idx) : val_main_v38 (F := Ideal) x1 i = (g (i 2).val (64 * (i 0).val + (i 1).val) : EReal) := by
  have h0 : (i 0).val < 16 := (i 0).isLt
  have h1 : (i 1).val < 64 := (i 1).isLt
  rw [val_main_v38_apply, val_main_v37_apply, val_main_v36_apply, Ideal.extf_def]
  refine (hx1 _).trans ?_
  congr 2 <;> dsimp <;> omega

include hx0 hx1

theorem v39_real (i : S16x2048x2048.Idx) : val_main_v39 (F := Ideal) x0 x1 i
    = (dot (hG g (i 0).val) (hV p (i 0).val) (i 1).val (i 2).val : EReal) := by
  rw [val_main_v39_apply, gv_eq]
  simp only [v38_real g x1 hx1, v32_real p x0 hx0, ← EReal.coe_mul]
  exact coe_sum_fin 64 (fun d => g (i 1).val (64 * (i 0).val + d) * p (i 2).val (2048 + (64 * (i 0).val + d)))

abbrev ee (i : S16x2048x2048.Idx) : ℝ := eg (hQ p (i 0).val) (hK p (i 0).val) (hV p (i 0).val) (hG g (i 0).val) (hT p (i 0).val) (i 1).val (i 2).val

theorem v44_real (i : S16x2048x2048.Idx) : val_main_v44 (F := Ideal) x0 x1 i = (ee p g i : EReal) := by
  rw [val_main_v44_apply, val_main_v43_apply, v31_1_real, v39_real p g x0 x1 hx0 hx1, v30_real p x0 hx0, val_main_call5_v0_apply, val_main_call5_cst_apply,
    Ideal.ofBits_def, Ideal.ofBits_zero, ← EReal.coe_zero, select_mask, Ideal.mulf_def, ← EReal.coe_mul]
  unfold ee eg wt
  split
  · rfl
  · rw [zero_mul, mul_zero]

theorem v46_real (i : S16x2048x2048.Idx) : val_main_v46 (F := Ideal) x0 x1 i
    = ((∑ x ∈ range ((i 2).val + 1), eg (hQ p (i 0).val) (hK p (i 0).val) (hV p (i 0).val) (hG g (i 0).val) (hT p (i 0).val) (i 1).val x : ℝ) : EReal) := by
  have e := scan_real (val_main_v44 (F := Ideal) x0 x1) (fun x => eg (hQ p (i 0).val) (hK p (i 0).val) (hV p (i 0).val) (hG g (i 0).val) (hT p (i 0).val) (i 1).val x)
    2047 0 (val_main_call6_v0 (F := Ideal)) (i 0) (i 1) (i 2)
    (fun y => v44_real p g x0 x1 hx0 hx1 _) (fun j => by rw [val_main_call6_v0_apply, val_main_call6_cst_apply, Ideal.ofBits_def, Ideal.ofBits_zero])
    reduceWindows_S16x2048x2048_S16x2048x2048_w1s1p0_0_w1s1p0_0_w2048s1p2047_0 h_S_
  have hi : i = ix (i 0) (i 1) (i 2) := funext fun a => match a with | ⟨0, _⟩ => rfl | ⟨1, _⟩ => rfl | ⟨2, _⟩ => rfl
  rw [scan_upto _ _ (i 2).isLt] at e
  exact (congrArg (val_main_v46 (F := Ideal) x0 x1) hi).trans e

abbrev dd (i : S16x2048x2048.Idx) : ℝ := ds (hQ p (i 0).val) (hK p (i 0).val) (hV p (i 0).val) (hG g (i 0).val) (hT p (i 0).val) (i 1).val (i 2).val

/-- The gradient of the scores. -/
theorem v54_real (i : S16x2048x2048.Idx) : val_main_v54 (F := Ideal) x0 x1 i = ((dd p g i * (1 / 8) : ℝ) : EReal) := by
  rw [val_main_v54_apply, val_main_v52_apply, val_main_v50_apply, val_main_v49_apply, val_main_call8_v1_apply, val_main_call8_v0_apply, val_main_v48_apply,
    v19_1_real, val_main_v47_apply, val_main_v45_apply, v44_real p g x0 x1 hx0 hx1, v46_real p g x0 x1 hx0 hx1, val_main_call7_v0_apply, val_main_call7_cst_apply,
    val_main_v51_apply, val_main_call9_v1_apply, val_main_call9_v0_apply, v44_real p g x0 x1 hx0 hx1, v18_1_real p x0 hx0, v9_1_real p x0 hx0,
    val_main_v53_apply, val_main_cst_2_apply, Ideal.ofBits_def, Ideal.ofBits_def, eighth_f32, Ideal.ofBits_zero]
  simp only [Ideal.hostNegf_def, Ideal.negf_def, Ideal.addf_def, Ideal.mulf_def, ← EReal.coe_zero, ← EReal.coe_neg, ← EReal.coe_add, select_mask, ← EReal.coe_mul]
  congr 2
  have hb := beta_add (zz p i)
  dsimp only [ee, dd, zz] at *
  unfold ds
  rw [sum_range_succ]
  split
  · rw [← eq_sub_iff_add_eq'] at hb; rw [hb]; ring
  · have he : eg (hQ p (i 0).val) (hK p (i 0).val) (hV p (i 0).val) (hG g (i 0).val) (hT p (i 0).val) (i 1).val (i 2).val = 0 := by
      unfold eg wt; rw [if_neg (by assumption), mul_zero]
    rw [he]; ring

end Grad

section Results
include hx0 hx1

/-- The gradients of the queries, keys and values. -/
theorem dq_real (i : S2048x1024.Idx) : val_main_v61 (F := Ideal) x0 x1 i
    = ((∑ s ∈ range 2048, ds (hQ p ((i 1).val / 64)) (hK p ((i 1).val / 64)) (hV p ((i 1).val / 64)) (hG g ((i 1).val / 64)) (hT p ((i 1).val / 64)) (i 0).val s
        * (1 / 8) * p s (1024 + (i 1).val) : ℝ) : EReal) := by
  have h0 : (i 0).val < 2048 := (i 0).isLt
  have h1 : (i 1).val < 1024 := (i 1).isLt
  rw [val_main_v61_apply, val_main_v60_apply, val_main_v58_apply, val_main_v57_apply, Ideal.truncf_def]
  simp only [v54_real p g x0 x1 hx0 hx1, v5_real p x0 hx0, ← EReal.coe_mul]
  refine Eq.trans ?_ (coe_sum_fin 2048 _)
  have e1 : ((i 0).val * 1024 + (i 1).val) / 1024 = (i 0).val := by omega
  have e2 : ((i 0).val * 1024 + (i 1).val) / 64 % 16 = (i 1).val / 64 := by omega
  have e3 : 64 * ((i 1).val / 64) + ((i 0).val * 1024 + (i 1).val) % 64 = (i 1).val := by omega
  dsimp only [dd]
  simp only [e1, e2, e3]

theorem dk_real (i : S2048x1024.Idx) : val_main_v62 (F := Ideal) x0 x1 i
    = ((∑ t ∈ range 2048, ds (hQ p ((i 1).val / 64)) (hK p ((i 1).val / 64)) (hV p ((i 1).val / 64)) (hG g ((i 1).val / 64)) (hT p ((i 1).val / 64)) t (i 0).val
        * (1 / 8) * p t (i 1).val : ℝ) : EReal) := by
  have h0 : (i 0).val < 2048 := (i 0).isLt
  have h1 : (i 1).val < 1024 := (i 1).isLt
  rw [val_main_v62_apply, val_main_v59_apply, val_main_v56_apply, val_main_v55_apply, Ideal.truncf_def]
  simp only [v54_real p g x0 x1 hx0 hx1, v4_real p x0 hx0, ← EReal.coe_mul]
  refine Eq.trans ?_ (coe_sum_fin 2048 _)
  have e1 : ((i 0).val * 1024 + (i 1).val) / 1024 = (i 0).val := by omega
  have e2 : ((i 0).val * 1024 + (i 1).val) / 64 % 16 = (i 1).val / 64 := by omega
  have e3 : 64 * ((i 1).val / 64) + ((i 0).val * 1024 + (i 1).val) % 64 = (i 1).val := by omega
  dsimp only [dd]
  simp only [e1, e2, e3]

theorem dv_real (i : S2048x1024.Idx) : val_main_v63 (F := Ideal) x0 x1 i
    = ((∑ t ∈ range 2048, g t (i 1).val * wt (hQ p ((i 1).val / 64)) (hK p ((i 1).val / 64)) (hT p ((i 1).val / 64)) t (i 0).val : ℝ) : EReal) := by
  have h0 : (i 0).val < 2048 := (i 0).isLt
  have h1 : (i 1).val < 1024 := (i 1).isLt
  rw [val_main_v63_apply, val_main_v42_apply, val_main_v41_apply, val_main_v40_apply, Ideal.truncf_def]
  simp only [v31_0_real p x0 hx0, v38_real g x1 hx1, ← EReal.coe_mul]
  refine Eq.trans ?_ (coe_sum_fin 2048 _)
  have e1 : ((i 0).val * 1024 + (i 1).val) / 1024 = (i 0).val := by omega
  have e2 : ((i 0).val * 1024 + (i 1).val) / 64 % 16 = (i 1).val / 64 := by omega
  have e3 : 64 * ((i 1).val / 64) + ((i 0).val * 1024 + (i 1).val) % 64 = (i 1).val := by omega
  dsimp only [ww]
  simp only [e1, e2, e3]

end Results

end Cert.ReferenceIdeal.Sb

end
-- ==== Proof.Entry.lean ====
module
public import proofs.«01_k».proof.Proof.RefReal
public import Idealize.ShloMosaic.Lib.Pipeline.ValueKit.Point
public import Idealize.ShloMosaic.Lib.StableHlo.RunRead

@[expose] public section

set_option maxRecDepth 16384

noncomputable section

namespace Cert.KernelIdeal.Sb

open Idealize.ShloMosaic Idealize.ShloMosaic.TcCoe Cert.KernelIdeal.Gen Cert.Sb Finset
open Cert.KernelIdeal.Value

variable (m : (ℓ : Loc nD τ sig) → Buf (Elt Ideal) ℓ) (c : Dev nD)

theorem at0 : ∀ t : Fin grid0.N, cc0_transform_0 (grid0.coords t) 0 = t.val % 4 ∧ cc0_transform_0 (grid0.coords t) 1 = t.val / 4 := by decide +kernel
theorem at1 : ∀ t : Fin grid0.N, cc0_transform_1 (grid0.coords t) 0 = 0 ∧ cc0_transform_1 (grid0.coords t) 1 = 8 + t.val / 4 := by decide +kernel
theorem at2 : ∀ t : Fin grid0.N, cc0_transform_2 (grid0.coords t) 0 = 0 ∧ cc0_transform_2 (grid0.coords t) 1 = 16 + t.val / 4 := by decide +kernel
theorem at3 : ∀ t : Fin grid0.N, cc0_transform_3 (grid0.coords t) 0 = t.val / 4 ∧ cc0_transform_3 (grid0.coords t) 1 = t.val % 4 ∧ cc0_transform_3 (grid0.coords t) 2 = 0 := by decide +kernel
theorem at4 : ∀ t : Fin grid0.N, cc0_transform_4 (grid0.coords t) 0 = t.val % 4 ∧ cc0_transform_4 (grid0.coords t) 1 = t.val / 4 := by decide +kernel

theorem blk0 (t : Fin cfg0.N) (r : Fin 512) (l : Fin 128) (i : S2048x3072.Idx) (h0 : (i 0).val = 512 * (t.val % 4) + r.val) (h1 : (i 1).val = 128 * (t.val / 4) + l.val) :
    iblk m c 0 t (ix2 r l) = m ((c : Thread nD τ).loc main_arg0) i := by
  rw [← V_main_arg0 m c]
  unfold iblk
  have ⟨a0, a1⟩ := at0 t
  refine congrArg (V m c main_arg0) (funext fun a => Fin.ext ?_)
  match a with
  | ⟨0, _⟩ => show cc0_transform_0 (grid0.coords t) 0 * 512 + 1 * r.val = (i 0).val; rw [a0, h0]; omega
  | ⟨1, _⟩ => show cc0_transform_0 (grid0.coords t) 1 * 128 + 1 * l.val = (i 1).val; rw [a1, h1]; omega

theorem blk1 (t : Fin cfg0.N) (y : Fin 2048) (l : Fin 128) (i : S2048x3072.Idx) (h0 : (i 0).val = y.val) (h1 : (i 1).val = 1024 + (128 * (t.val / 4) + l.val)) :
    iblk m c 1 t (ix2 y l) = m ((c : Thread nD τ).loc main_arg0) i := by
  rw [← V_main_arg0 m c]
  unfold iblk
  have ⟨a0, a1⟩ := at1 t
  refine congrArg (V m c main_arg0) (funext fun a => Fin.ext ?_)
  match a with
  | ⟨0, _⟩ => show cc0_transform_1 (grid0.coords t) 0 * 2048 + 1 * y.val = (i 0).val; rw [a0, h0]; omega
  | ⟨1, _⟩ => show cc0_transform_1 (grid0.coords t) 1 * 128 + 1 * l.val = (i 1).val; rw [a1, h1]; omega

theorem blk2 (t : Fin cfg0.N) (y : Fin 2048) (l : Fin 128) (i : S2048x3072.Idx) (h0 : (i 0).val = y.val) (h1 : (i 1).val = 2048 + (128 * (t.val / 4) + l.val)) :
    iblk m c 2 t (ix2 y l) = m ((c : Thread nD τ).loc main_arg0) i := by
  rw [← V_main_arg0 m c]
  unfold iblk
  have ⟨a0, a1⟩ := at2 t
  refine congrArg (V m c main_arg0) (funext fun a => Fin.ext ?_)
  match a with
  | ⟨0, _⟩ => show cc0_transform_2 (grid0.coords t) 0 * 2048 + 1 * y.val = (i 0).val; rw [a0, h0]; omega
  | ⟨1, _⟩ => show cc0_transform_2 (grid0.coords t) 1 * 128 + 1 * l.val = (i 1).val; rw [a1, h1]; omega

theorem blk3 (t : Fin cfg0.N) (h : Fin 2) (r : Fin 512) (i : S16x2048x1.Idx) (h0 : (i 0).val = 2 * (t.val / 4) + h.val) (h1 : (i 1).val = 512 * (t.val % 4) + r.val) :
    iblk m c 3 t (ix3 h r 0) = V m c main_v19 i := by
  unfold iblk
  have ⟨a0, a1, a2⟩ := at3 t
  have h2 : (i 2).val < 1 := (i 2).isLt
  refine congrArg (V m c main_v19) (funext fun a => Fin.ext ?_)
  match a with
  | ⟨0, _⟩ => show cc0_transform_3 (grid0.coords t) 0 * 2 + 1 * h.val = (i 0).val; rw [a0, h0]; omega
  | ⟨1, _⟩ => show cc0_transform_3 (grid0.coords t) 1 * 512 + 1 * r.val = (i 1).val; rw [a1, h1]; omega
  | ⟨2, _⟩ => show cc0_transform_3 (grid0.coords t) 2 * 1 + 1 * 0 = (i 2).val; rw [a2]; omega

theorem blk4 (t : Fin cfg0.N) (r : Fin 512) (l : Fin 128) (i : S2048x1024.Idx) (h0 : (i 0).val = 512 * (t.val % 4) + r.val) (h1 : (i 1).val = 128 * (t.val / 4) + l.val) :
    iblk m c 4 t (ix2 r l) = m ((c : Thread nD τ).loc main_arg1) i := by
  rw [← V_main_arg1 m c]
  unfold iblk
  have ⟨a0, a1⟩ := at4 t
  refine congrArg (V m c main_arg1) (funext fun a => Fin.ext ?_)
  match a with
  | ⟨0, _⟩ => show cc0_transform_4 (grid0.coords t) 0 * 512 + 1 * r.val = (i 0).val; rw [a0, h0]; omega
  | ⟨1, _⟩ => show cc0_transform_4 (grid0.coords t) 1 * 128 + 1 * l.val = (i 1).val; rw [a1, h1]; omega

theorem tot : V m c main_v19
    = broadcastInDim S16x2048x1 ![0, 1] bcast_S16x2048_S16x2048x1_0_1
        (Host.reduceAdd (Cert.ReferenceIdeal.Read.val_main_v19_0 (F := Ideal) (m ((c : Thread nD τ).loc main_arg0)))
          (fun _ => (FloatOps.ofBits .f32 0x00000000 : Ideal .f32)) reducesTo_S16x2048x2048_S16x2048_d2 h_S_) := by
  unfold V
  simp only [hostOps0, hostOps0_1, hostOps0_2, hostOps0_3, hostOps0_4, List.flatten_cons, List.flatten_nil, List.append_nil, List.cons_append, List.nil_append]
  after_reads_simp
  simp only [StableHlo.TRef.toBuf, StableHlo.TRef.ofBuf, cast_cast, cast_eq]
  rfl

variable (p : ℕ → ℕ → ℝ)
theorem tot_real (hx0 : ∀ i : S2048x3072.Idx, m ((c : Thread nD τ).loc main_arg0) i = ((p (i 0).val (i 1).val : ℝ) : EReal)) (i : S16x2048x1.Idx) :
    V m c main_v19 i = ((Cert.ReferenceIdeal.Sb.hT p (i 0).val (i 1).val : ℝ) : EReal) := by
  have h (a : Fin 16) (b : Fin 2048) :
      Ideal.ofBits FTy.f32 0#32 + ∑ x : Fin 2048, Cert.ReferenceIdeal.Read.val_main_v19_0 (F := Ideal) (m ((c : Thread nD τ).loc main_arg0)) (ix3 a b x)
        = ((Cert.ReferenceIdeal.Sb.hT p a.val b.val : ℝ) : EReal) := by
    have e (x : Fin 2048) := Cert.ReferenceIdeal.Sb.v19_0_real p (m ((c : Thread nD τ).loc main_arg0)) hx0 (ix3 a b x)
    rw [Finset.sum_congr rfl fun x _ => e x, Ideal.ofBits_zero, zero_add]
    exact coe_sum_fin 2048 (fun x => lone (Cert.ReferenceIdeal.Sb.hQ p a.val) (Cert.ReferenceIdeal.Sb.hK p a.val) b.val x)
  rw [tot]
  pointwise
  exact h (i 0) (i 1)

open Cert.ReferenceIdeal.Sb in
/-- The blocks a grid point reads are the blocks of the real arrays. -/
theorem reads (g : ℕ → ℕ → ℝ)
    (hx0 : ∀ i : S2048x3072.Idx, m ((c : Thread nD τ).loc main_arg0) i = ((p (i 0).val (i 1).val : ℝ) : EReal))
    (hx1 : ∀ i : S2048x1024.Idx, m ((c : Thread nD τ).loc main_arg1) i = ((g (i 0).val (i 1).val : ℝ) : EReal)) :
    Reads m c (qP p) (kP p) (vP p) g (hT p) where
  rq t r l := by
    have ht : t.val < 32 := t.isLt
    have hr := r.isLt
    have hl := l.isLt
    rw [blk0 m c t r l (ix2 (⟨512 * (t.val % 4) + r.val, by omega⟩ : Fin 2048) (⟨128 * (t.val / 4) + l.val, by omega⟩ : Fin 3072)) rfl rfl, hx0]; rfl
  rk t y l := by
    have ht : t.val < 32 := t.isLt
    have hl := l.isLt
    rw [blk1 m c t y l (ix2 y (⟨1024 + (128 * (t.val / 4) + l.val), by omega⟩ : Fin 3072)) rfl rfl, hx0]; rfl
  rv t y l := by
    have ht : t.val < 32 := t.isLt
    have hl := l.isLt
    rw [blk2 m c t y l (ix2 y (⟨2048 + (128 * (t.val / 4) + l.val), by omega⟩ : Fin 3072)) rfl rfl, hx0]; rfl
  rT t h r := by
    have ht : t.val < 32 := t.isLt
    have hr := r.isLt
    have hh := h.isLt
    rw [blk3 m c t h r (ix3 (⟨2 * (t.val / 4) + h.val, by omega⟩ : Fin 16) (⟨512 * (t.val % 4) + r.val, by omega⟩ : Fin 2048) (0 : Fin 1)) rfl rfl, tot_real m c p hx0]; rfl
  rg t r l := by
    have ht : t.val < 32 := t.isLt
    have hr := r.isLt
    have hl := l.isLt
    rw [blk4 m c t r l (ix2 (⟨512 * (t.val % 4) + r.val, by omega⟩ : Fin 2048) (⟨128 * (t.val / 4) + l.val, by omega⟩ : Fin 1024)) rfl rfl, hx1]; rfl

end Cert.KernelIdeal.Sb

end
-- ==== Proof.Final.lean ====
module

/- The three arrays the backward call leaves are the gradients of the reference. -/
public import proofs.«01_k».proof.Proof.Entry

@[expose] public section

set_option maxRecDepth 16384

noncomputable section

namespace Cert.KernelIdeal.Sb

open Idealize.ShloMosaic Idealize.ShloMosaic.TcCoe Cert.KernelIdeal.Gen Cert.Sb Finset
open Cert.KernelIdeal.Value Cert.ReferenceIdeal.Sb

/-- Four blocks of 512 rows are 2048 rows. -/
theorem sum_blocks (f : ℕ → ℝ) : ∑ b ∈ range 4, ∑ r ∈ range 512, f (512 * b + r) = ∑ t ∈ range 2048, f t := by
  have h (n : ℕ) : ∑ b ∈ range n, ∑ r ∈ range 512, f (512 * b + r) = ∑ t ∈ range (512 * n), f t := by
    induction n with
    | zero => simp
    | succ n ih => rw [sum_range_succ, ih, mul_add, mul_one, sum_range_add]
  exact h 4

theorem pairT_self (T : ℕ → ℕ → ℝ) (H : ℕ) : pairT T (H / 2) (H % 2) = T H := by
  funext t; show T (2 * (H / 2) + H % 2) t = T H t; congr 1; omega

theorem half (c : ℕ) : c / 128 = c / 64 / 2 := by omega
theorem part (c : ℕ) : c % 128 / 64 = c / 64 % 2 := by omega

theorem sumK_eq (q k v g T : ℕ → ℕ → ℝ) (y c : ℕ) : sumK q k v g T (c / 128) 4 y (c % 128)
    = ∑ t ∈ range 2048, dsOf (pair q (c / 128)) (pair k (c / 128)) (pair v (c / 128)) (pair g (c / 128)) (pairT T (c / 128)) (c % 128 / 64) t y * (1 / 8) * q t c := by
  rw [← sum_blocks]
  refine sum_congr rfl fun b _ => ?_
  have hc : 128 * (c / 128) + c % 128 = c := by omega
  have hh : c % 128 / 64 = 0 ∨ c % 128 / 64 = 1 := by omega
  unfold addK
  rw [← sum_add_distrib]
  refine sum_congr rfl fun r _ => ?_
  rcases hh with hh | hh
  · simp only [qOf, hh, if_true, zero_ne_one, if_false, mul_zero, add_zero, pair, hc]; ring
  · simp only [qOf, hh, if_true, one_ne_zero, if_false, mul_zero, zero_add, pair, hc]; ring

theorem sumV_eq (q k g T : ℕ → ℕ → ℝ) (y c : ℕ) : sumV q k g T (c / 128) 4 y (c % 128)
    = ∑ t ∈ range 2048, g t c * wtOf (pair q (c / 128)) (pair k (c / 128)) (pairT T (c / 128)) (c % 128 / 64) t y := by
  rw [← sum_blocks]
  refine sum_congr rfl fun b _ => ?_
  have hc : 128 * (c / 128) + c % 128 = c := by omega
  have hh : c % 128 / 64 = 0 ∨ c % 128 / 64 = 1 := by omega
  unfold addV
  rw [← sum_add_distrib]
  refine sum_congr rfl fun r _ => ?_
  rcases hh with hh | hh
  · simp only [gOf, hh, if_true, zero_ne_one, if_false, mul_zero, add_zero, pair, hc]; ring
  · simp only [gOf, hh, if_true, one_ne_zero, if_false, mul_zero, zero_add, pair, hc]; ring

variable (m : (ℓ : Loc nD τ sig) → Buf (Elt Ideal) ℓ) (c : Dev nD) (p g : ℕ → ℕ → ℝ)
    (hx0 : ∀ i : S2048x3072.Idx, m ((c : Thread nD τ).loc main_arg0) i = ((p (i 0).val (i 1).val : ℝ) : EReal))
    (hx1 : ∀ i : S2048x1024.Idx, m ((c : Thread nD τ).loc main_arg1) i = ((g (i 0).val (i 1).val : ℝ) : EReal))
include hx0 hx1

theorem dq_eq : G5 m c = Cert.ReferenceIdeal.Read.val_main_v61 (F := Ideal) (m ((c : Thread nD τ).loc main_arg0)) (m ((c : Thread nD τ).loc main_arg1)) := by
  funext i
  obtain ⟨t, l, rfl⟩ : ∃ (t : Fin 2048) (l : Fin 1024), i = ix2 t l := ⟨i 0, i 1, by funext a; match a with | ⟨0, _⟩ => rfl | ⟨1, _⟩ => rfl⟩
  rw [G5_apply m c _ _ _ _ _ (reads m c p g hx0 hx1) t l]
  refine Eq.trans ?_ (dq_real p g _ _ hx0 hx1 (ix2 t l)).symm
  congr 1
  show (∑ x ∈ range (512 * (t.val / 512 + 1)), _) * (1 / 8) = ∑ s ∈ range 2048, ds (hQ p (l.val / 64)) (hK p (l.val / 64)) (hV p (l.val / 64)) (hG g (l.val / 64)) (hT p (l.val / 64)) t.val s * (1 / 8) * p s (1024 + l.val)
  have ht := t.isLt
  rw [half, part, dsOf, pairT_self, sum_mul]
  have hsub : range (512 * (t.val / 512 + 1)) ⊆ range 2048 := range_subset_range.mpr (by omega)
  rw [← sum_subset hsub fun x _ hx => ?_]
  · exact sum_congr rfl fun x _ => by ring
  · rw [mem_range] at hx
    rw [ds, if_neg (by omega), zero_mul, zero_mul]

theorem dk_eq : G6 m c = Cert.ReferenceIdeal.Read.val_main_v62 (F := Ideal) (m ((c : Thread nD τ).loc main_arg0)) (m ((c : Thread nD τ).loc main_arg1)) := by
  funext i
  obtain ⟨t, l, rfl⟩ : ∃ (t : Fin 2048) (l : Fin 1024), i = ix2 t l := ⟨i 0, i 1, by funext a; match a with | ⟨0, _⟩ => rfl | ⟨1, _⟩ => rfl⟩
  rw [G6_apply m c _ _ _ _ _ (reads m c p g hx0 hx1) t l, sumK_eq, half, part, dsOf, pairT_self]
  exact (dk_real p g _ _ hx0 hx1 (ix2 t l)).symm

theorem dv_eq : G7 m c = Cert.ReferenceIdeal.Read.val_main_v63 (F := Ideal) (m ((c : Thread nD τ).loc main_arg0)) (m ((c : Thread nD τ).loc main_arg1)) := by
  funext i
  obtain ⟨t, l, rfl⟩ : ∃ (t : Fin 2048) (l : Fin 1024), i = ix2 t l := ⟨i 0, i 1, by funext a; match a with | ⟨0, _⟩ => rfl | ⟨1, _⟩ => rfl⟩
  rw [G7_apply m c _ _ _ _ _ (reads m c p g hx0 hx1) t l, sumV_eq, half, part, wtOf, pairT_self]
  exact (dv_real p g _ _ hx0 hx1 (ix2 t l)).symm

end Cert.KernelIdeal.Sb

end
-- ==== Proof.lean ====
module
public import proofs.«01_k».proof.Proof.Calls

/- The proof of `Cert.Claim`. Of the stick-breaking attention: the frames of the three programs from their runs, and the
   equality of the three gradients with the reference's, on real arguments, from `Proof/Final.lean`. Of the matrix
   products: `Proof/Calls.lean`. -/
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Gen.KernelIdeal.Value
public import proofs.«01_k».proof.Proof.Gen.ReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.DxDown
public import proofs.«01_k».proof.Proof.Gen.DxDown.Skeleton
public import proofs.«01_k».proof.Proof.Gen.DxDown.Launch
public import proofs.«01_k».proof.Proof.Gen.DxDown.Points
public import proofs.«01_k».proof.Proof.Gen.DxDown.Frame
public import proofs.«01_k».proof.Proof.Gen.DxDownIdeal
public import proofs.«01_k».proof.Proof.Gen.DxDownIdeal.Skeleton
public import proofs.«01_k».proof.Proof.Gen.DxDownIdeal.Launch
public import proofs.«01_k».proof.Proof.Gen.DxDownIdeal.Points
public import proofs.«01_k».proof.Proof.Gen.DxDownIdeal.Frame
public import proofs.«01_k».proof.Proof.Gen.DxDownIdeal.Value
public import proofs.«01_k».proof.Proof.Gen.DxDownRefIdeal
public import proofs.«01_k».proof.Proof.Gen.DxDownRefIdeal.Run
public import proofs.«01_k».proof.Proof.Gen.DxDownRefIdeal.Read
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DxUp
public import proofs.«01_k».proof.Proof.Gen.DxUp.Skeleton
public import proofs.«01_k».proof.Proof.Gen.DxUp.Launch
public import proofs.«01_k».proof.Proof.Gen.DxUp.Points
public import proofs.«01_k».proof.Proof.Gen.DxUp.Frame
public import proofs.«01_k».proof.Proof.Gen.DxUpIdeal
public import proofs.«01_k».proof.Proof.Gen.DxUpIdeal.Skeleton
public import proofs.«01_k».proof.Proof.Gen.DxUpIdeal.Launch
public import proofs.«01_k».proof.Proof.Gen.DxUpIdeal.Points
public import proofs.«01_k».proof.Proof.Gen.DxUpIdeal.Frame
public import proofs.«01_k».proof.Proof.Gen.DxUpIdeal.Value
public import proofs.«01_k».proof.Proof.Gen.DxUpRefIdeal
public import proofs.«01_k».proof.Proof.Gen.DxUpRefIdeal.Run
public import proofs.«01_k».proof.Proof.Gen.DxUpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.DxDownB
public import proofs.«01_k».proof.Proof.Gen.DxDownB.Skeleton
public import proofs.«01_k».proof.Proof.Gen.DxDownB.Launch
public import proofs.«01_k».proof.Proof.Gen.DxDownB.Points
public import proofs.«01_k».proof.Proof.Gen.DxDownB.Frame
public import proofs.«01_k».proof.Proof.Gen.DxDownBIdeal
public import proofs.«01_k».proof.Proof.Gen.DxDownBIdeal.Skeleton
public import proofs.«01_k».proof.Proof.Gen.DxDownBIdeal.Launch
public import proofs.«01_k».proof.Proof.Gen.DxDownBIdeal.Points
public import proofs.«01_k».proof.Proof.Gen.DxDownBIdeal.Frame
public import proofs.«01_k».proof.Proof.Gen.DxDownBIdeal.Value
public import proofs.«01_k».proof.Proof.Gen.DxDownBRefIdeal
public import proofs.«01_k».proof.Proof.Gen.DxDownBRefIdeal.Run
public import proofs.«01_k».proof.Proof.Gen.DxDownBRefIdeal.Read
public import proofs.«01_k».proof.Proof.Gen.DwUpB
public import proofs.«01_k».proof.Proof.Gen.DwUpB.Skeleton
public import proofs.«01_k».proof.Proof.Gen.DwUpB.Launch
public import proofs.«01_k».proof.Proof.Gen.DwUpB.Points
public import proofs.«01_k».proof.Proof.Gen.DwUpB.Frame
public import proofs.«01_k».proof.Proof.Gen.DwUpBIdeal
public import proofs.«01_k».proof.Proof.Gen.DwUpBIdeal.Skeleton
public import proofs.«01_k».proof.Proof.Gen.DwUpBIdeal.Launch
public import proofs.«01_k».proof.Proof.Gen.DwUpBIdeal.Points
public import proofs.«01_k».proof.Proof.Gen.DwUpBIdeal.Frame
public import proofs.«01_k».proof.Proof.Gen.DwUpBIdeal.Value
public import proofs.«01_k».proof.Proof.Gen.DwUpBRefIdeal
public import proofs.«01_k».proof.Proof.Gen.DwUpBRefIdeal.Run
public import proofs.«01_k».proof.Proof.Gen.DwUpBRefIdeal.Read
public import proofs.«01_k».proof.Proof.Gen.DwDownB
public import proofs.«01_k».proof.Proof.Gen.DwDownB.Skeleton
public import proofs.«01_k».proof.Proof.Gen.DwDownB.Launch
public import proofs.«01_k».proof.Proof.Gen.DwDownB.Points
public import proofs.«01_k».proof.Proof.Gen.DwDownB.Frame
public import proofs.«01_k».proof.Proof.Gen.DwDownBIdeal
public import proofs.«01_k».proof.Proof.Gen.DwDownBIdeal.Skeleton
public import proofs.«01_k».proof.Proof.Gen.DwDownBIdeal.Launch
public import proofs.«01_k».proof.Proof.Gen.DwDownBIdeal.Points
public import proofs.«01_k».proof.Proof.Gen.DwDownBIdeal.Frame
public import proofs.«01_k».proof.Proof.Gen.DwDownBIdeal.Value
public import proofs.«01_k».proof.Proof.Gen.DwDownBRefIdeal
public import proofs.«01_k».proof.Proof.Gen.DwDownBRefIdeal.Run
public import proofs.«01_k».proof.Proof.Gen.DwDownBRefIdeal.Read
public import proofs.«01_k».proof.Proof.Gen.DxUpB
public import proofs.«01_k».proof.Proof.Gen.DxUpB.Skeleton
public import proofs.«01_k».proof.Proof.Gen.DxUpB.Launch
public import proofs.«01_k».proof.Proof.Gen.DxUpB.Points
public import proofs.«01_k».proof.Proof.Gen.DxUpB.Frame
public import proofs.«01_k».proof.Proof.Gen.DxUpBIdeal
public import proofs.«01_k».proof.Proof.Gen.DxUpBIdeal.Skeleton
public import proofs.«01_k».proof.Proof.Gen.DxUpBIdeal.Launch
public import proofs.«01_k».proof.Proof.Gen.DxUpBIdeal.Points
public import proofs.«01_k».proof.Proof.Gen.DxUpBIdeal.Frame
public import proofs.«01_k».proof.Proof.Gen.DxUpBIdeal.Value
public import proofs.«01_k».proof.Proof.Gen.DxUpBRefIdeal
public import proofs.«01_k».proof.Proof.Gen.DxUpBRefIdeal.Run
public import proofs.«01_k».proof.Proof.Gen.DxUpBRefIdeal.Read
public import proofs.«01_k».proof.Proof.Gen.DownB
public import proofs.«01_k».proof.Proof.Gen.DownB.Skeleton
public import proofs.«01_k».proof.Proof.Gen.DownB.Launch
public import proofs.«01_k».proof.Proof.Gen.DownB.Points
public import proofs.«01_k».proof.Proof.Gen.DownB.Frame
public import proofs.«01_k».proof.Proof.Gen.DownBIdeal
public import proofs.«01_k».proof.Proof.Gen.DownBIdeal.Skeleton
public import proofs.«01_k».proof.Proof.Gen.DownBIdeal.Launch
public import proofs.«01_k».proof.Proof.Gen.DownBIdeal.Points
public import proofs.«01_k».proof.Proof.Gen.DownBIdeal.Frame
public import proofs.«01_k».proof.Proof.Gen.DownBIdeal.Value
public import proofs.«01_k».proof.Proof.Gen.DownBRefIdeal
public import proofs.«01_k».proof.Proof.Gen.DownBRefIdeal.Run
public import proofs.«01_k».proof.Proof.Gen.DownBRefIdeal.Read
public import proofs.«01_k».proof.Proof.Gen.DxDownC
public import proofs.«01_k».proof.Proof.Gen.DxDownC.Skeleton
public import proofs.«01_k».proof.Proof.Gen.DxDownC.Launch
public import proofs.«01_k».proof.Proof.Gen.DxDownC.Points
public import proofs.«01_k».proof.Proof.Gen.DxDownC.Frame
public import proofs.«01_k».proof.Proof.Gen.DxDownCIdeal
public import proofs.«01_k».proof.Proof.Gen.DxDownCIdeal.Skeleton
public import proofs.«01_k».proof.Proof.Gen.DxDownCIdeal.Launch
public import proofs.«01_k».proof.Proof.Gen.DxDownCIdeal.Points
public import proofs.«01_k».proof.Proof.Gen.DxDownCIdeal.Frame
public import proofs.«01_k».proof.Proof.Gen.DxDownCIdeal.Value
public import proofs.«01_k».proof.Proof.Gen.DxDownCRefIdeal
public import proofs.«01_k».proof.Proof.Gen.DxDownCRefIdeal.Run
public import proofs.«01_k».proof.Proof.Gen.DxDownCRefIdeal.Read
public import proofs.«01_k».proof.Proof.Gen.DwUpC
public import proofs.«01_k».proof.Proof.Gen.DwUpC.Skeleton
public import proofs.«01_k».proof.Proof.Gen.DwUpC.Launch
public import proofs.«01_k».proof.Proof.Gen.DwUpC.Points
public import proofs.«01_k».proof.Proof.Gen.DwUpC.Frame
public import proofs.«01_k».proof.Proof.Gen.DwUpCIdeal
public import proofs.«01_k».proof.Proof.Gen.DwUpCIdeal.Skeleton
public import proofs.«01_k».proof.Proof.Gen.DwUpCIdeal.Launch
public import proofs.«01_k».proof.Proof.Gen.DwUpCIdeal.Points
public import proofs.«01_k».proof.Proof.Gen.DwUpCIdeal.Frame
public import proofs.«01_k».proof.Proof.Gen.DwUpCIdeal.Value
public import proofs.«01_k».proof.Proof.Gen.DwUpCRefIdeal
public import proofs.«01_k».proof.Proof.Gen.DwUpCRefIdeal.Run
public import proofs.«01_k».proof.Proof.Gen.DwUpCRefIdeal.Read
public import proofs.«01_k».proof.Proof.Gen.DwDownC
public import proofs.«01_k».proof.Proof.Gen.DwDownC.Skeleton
public import proofs.«01_k».proof.Proof.Gen.DwDownC.Launch
public import proofs.«01_k».proof.Proof.Gen.DwDownC.Points
public import proofs.«01_k».proof.Proof.Gen.DwDownC.Frame
public import proofs.«01_k».proof.Proof.Gen.DwDownCIdeal
public import proofs.«01_k».proof.Proof.Gen.DwDownCIdeal.Skeleton
public import proofs.«01_k».proof.Proof.Gen.DwDownCIdeal.Launch
public import proofs.«01_k».proof.Proof.Gen.DwDownCIdeal.Points
public import proofs.«01_k».proof.Proof.Gen.DwDownCIdeal.Frame
public import proofs.«01_k».proof.Proof.Gen.DwDownCIdeal.Value
public import proofs.«01_k».proof.Proof.Gen.DwDownCRefIdeal
public import proofs.«01_k».proof.Proof.Gen.DwDownCRefIdeal.Run
public import proofs.«01_k».proof.Proof.Gen.DwDownCRefIdeal.Read
public import proofs.«01_k».proof.Proof.Gen.DxUpC
public import proofs.«01_k».proof.Proof.Gen.DxUpC.Skeleton
public import proofs.«01_k».proof.Proof.Gen.DxUpC.Launch
public import proofs.«01_k».proof.Proof.Gen.DxUpC.Points
public import proofs.«01_k».proof.Proof.Gen.DxUpC.Frame
public import proofs.«01_k».proof.Proof.Gen.DxUpCIdeal
public import proofs.«01_k».proof.Proof.Gen.DxUpCIdeal.Skeleton
public import proofs.«01_k».proof.Proof.Gen.DxUpCIdeal.Launch
public import proofs.«01_k».proof.Proof.Gen.DxUpCIdeal.Points
public import proofs.«01_k».proof.Proof.Gen.DxUpCIdeal.Frame
public import proofs.«01_k».proof.Proof.Gen.DxUpCIdeal.Value
public import proofs.«01_k».proof.Proof.Gen.DxUpCRefIdeal
public import proofs.«01_k».proof.Proof.Gen.DxUpCRefIdeal.Run
public import proofs.«01_k».proof.Proof.Gen.DxUpCRefIdeal.Read
public import proofs.«01_k».proof.Proof.Gen.DownC
public import proofs.«01_k».proof.Proof.Gen.DownC.Skeleton
public import proofs.«01_k».proof.Proof.Gen.DownC.Launch
public import proofs.«01_k».proof.Proof.Gen.DownC.Points
public import proofs.«01_k».proof.Proof.Gen.DownC.Frame
public import proofs.«01_k».proof.Proof.Gen.DownCIdeal
public import proofs.«01_k».proof.Proof.Gen.DownCIdeal.Skeleton
public import proofs.«01_k».proof.Proof.Gen.DownCIdeal.Launch
public import proofs.«01_k».proof.Proof.Gen.DownCIdeal.Points
public import proofs.«01_k».proof.Proof.Gen.DownCIdeal.Frame
public import proofs.«01_k».proof.Proof.Gen.DownCIdeal.Value
public import proofs.«01_k».proof.Proof.Gen.DownCRefIdeal
public import proofs.«01_k».proof.Proof.Gen.DownCRefIdeal.Run
public import proofs.«01_k».proof.Proof.Gen.DownCRefIdeal.Read
public import proofs.«01_k».proof.Proof.Gen.DxIn
public import proofs.«01_k».proof.Proof.Gen.DxIn.Skeleton
public import proofs.«01_k».proof.Proof.Gen.DxIn.Launch
public import proofs.«01_k».proof.Proof.Gen.DxIn.Points
public import proofs.«01_k».proof.Proof.Gen.DxIn.Frame
public import proofs.«01_k».proof.Proof.Gen.DxInIdeal
public import proofs.«01_k».proof.Proof.Gen.DxInIdeal.Skeleton
public import proofs.«01_k».proof.Proof.Gen.DxInIdeal.Launch
public import proofs.«01_k».proof.Proof.Gen.DxInIdeal.Points
public import proofs.«01_k».proof.Proof.Gen.DxInIdeal.Frame
public import proofs.«01_k».proof.Proof.Gen.DxInIdeal.Value
public import proofs.«01_k».proof.Proof.Gen.DxInRefIdeal
public import proofs.«01_k».proof.Proof.Gen.DxInRefIdeal.Run
public import proofs.«01_k».proof.Proof.Gen.DxInRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.DxOut
public import proofs.«01_k».proof.Proof.Gen.DxOut.Skeleton
public import proofs.«01_k».proof.Proof.Gen.DxOut.Launch
public import proofs.«01_k».proof.Proof.Gen.DxOut.Points
public import proofs.«01_k».proof.Proof.Gen.DxOut.Frame
public import proofs.«01_k».proof.Proof.Gen.DxOutIdeal
public import proofs.«01_k».proof.Proof.Gen.DxOutIdeal.Skeleton
public import proofs.«01_k».proof.Proof.Gen.DxOutIdeal.Launch
public import proofs.«01_k».proof.Proof.Gen.DxOutIdeal.Points
public import proofs.«01_k».proof.Proof.Gen.DxOutIdeal.Frame
public import proofs.«01_k».proof.Proof.Gen.DxOutIdeal.Value
public import proofs.«01_k».proof.Proof.Gen.DxOutRefIdeal
public import proofs.«01_k».proof.Proof.Gen.DxOutRefIdeal.Run
public import proofs.«01_k».proof.Proof.Gen.DxOutRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DxGate
public import proofs.«01_k».proof.Proof.Gen.DxGate.Skeleton
public import proofs.«01_k».proof.Proof.Gen.DxGate.Launch
public import proofs.«01_k».proof.Proof.Gen.DxGate.Points
public import proofs.«01_k».proof.Proof.Gen.DxGate.Frame
public import proofs.«01_k».proof.Proof.Gen.DxGateIdeal
public import proofs.«01_k».proof.Proof.Gen.DxGateIdeal.Skeleton
public import proofs.«01_k».proof.Proof.Gen.DxGateIdeal.Launch
public import proofs.«01_k».proof.Proof.Gen.DxGateIdeal.Points
public import proofs.«01_k».proof.Proof.Gen.DxGateIdeal.Frame
public import proofs.«01_k».proof.Proof.Gen.DxGateIdeal.Value
public import proofs.«01_k».proof.Proof.Gen.DxGateRefIdeal
public import proofs.«01_k».proof.Proof.Gen.DxGateRefIdeal.Run
public import proofs.«01_k».proof.Proof.Gen.DxGateRefIdeal.Read
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateIdeal.Value
public import proofs.«01_k».proof.Proof.Gen.DwGateRefIdeal
public import proofs.«01_k».proof.Proof.Gen.DwGateRefIdeal.Run
public import proofs.«01_k».proof.Proof.Gen.DwGateRefIdeal.Read
public import proofs.«01_k».proof.Proof.Final
public import Idealize.ShloMosaic.Lib.Claim

@[expose] public section

noncomputable section

namespace Cert.Proof

open Idealize.ShloMosaic Idealize.SL.Sem

theorem finite_facts : Cert.Pre_finite.Facts := ⟨by decide, by decide, by decide⟩

open Cert.ReferenceIdeal Cert.ReferenceIdeal.Value StableHlo in
theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  exact (θ_run defs _ _).mono (fun r h => ⟨fun c => ⟨(h c).2.2.2.1, (h c).2.2.2.2⟩, sem_eq_zero_of_no_sems (by decide) r.2⟩) (run m g)

/-- A number whose absolute value is less than infinity is real. -/
theorem real_of_lt (x : EReal) (h : Ideal.cmp .olt (max x (-x)) ⊤ = 1#1) : x = ((x.toReal : ℝ) : EReal) := by
  have h' : max x (-x) < ⊤ := by
    by_contra hn
    rw [Ideal.cmp] at h
    simp only [hn, decide_false, BitVec.ofBool_false] at h
    exact absurd h (by decide)
  refine (EReal.coe_toReal ?_ ?_).symm
  · rintro rfl; simp at h'
  · rintro rfl; simp at h'

theorem finite_real [Cert.Pre_finite.Facts] (a : FVec Ideal Cert.Pre_finite.S2048x3072 .bf16) (b : FVec Ideal Cert.Pre_finite.S2048x1024 .bf16)
    (h : (Cert.Pre_finite.fn (F := Ideal) a b).1 = (fun _ => 1#1) ∧ (Cert.Pre_finite.fn (F := Ideal) a b).2 = (fun _ => 1#1)) :
    (∀ i, a i = (((a i : EReal).toReal : ℝ) : EReal)) ∧ (∀ i, b i = (((b i : EReal).toReal : ℝ) : EReal)) := by
  simp only [Cert.Pre_finite.fn] at h
  constructor
  · intro i
    refine real_of_lt _ ?_
    rw [← Cert.Sb.top_f32]
    exact congrFun h.1 i
  · intro i
    refine real_of_lt _ ?_
    rw [← Cert.Sb.top_f32]
    exact congrFun h.2 i

/-- Real numbers at natural indices, from an array of two axes. -/
def table {n k : ℕ} (x : (⟨2, ![n, k]⟩ : Shape).Idx → EReal) (t c : ℕ) : ℝ :=
  if h : t < n ∧ c < k then (x (ix2 ⟨t, h.1⟩ ⟨c, h.2⟩)).toReal else 0

theorem table_apply {n k : ℕ} (x : (⟨2, ![n, k]⟩ : Shape).Idx → EReal) (i : (⟨2, ![n, k]⟩ : Shape).Idx) :
    table x (i 0).val (i 1).val = (x i).toReal := by
  have h0 : (i 0).val < n := (i 0).isLt
  have h1 : (i 1).val < k := (i 1).isLt
  rw [table, dif_pos ⟨h0, h1⟩]
  congr 2
  funext a
  match a with | ⟨0, _⟩ => rfl | ⟨1, _⟩ => rfl

attribute [local instance] finite_facts

open Cert.KernelIdeal in
theorem algebraic : Cert.algebraic_KernelIdeal_ReferenceIdeal_pre_finite := by
  intro m g m' g' hpre hagree
  refine ⟨Cert.KernelIdeal.Value.G5 m, Cert.KernelIdeal.Value.G6 m, Cert.KernelIdeal.Value.G7 m, Cert.KernelIdeal.Value.run m g, ?_⟩
  refine (θ_run Cert.ReferenceIdeal.defs _ _).mono (fun r h c => ?_) (Cert.ReferenceIdeal.Value.run m' g')
  obtain ⟨h1, h2, h3, h4, h5⟩ := h c
  obtain ⟨e0, e1⟩ := hagree c
  obtain ⟨r0, r1⟩ := finite_real _ _ (hpre c)
  have hx0 (i : S2048x3072.Idx) : m ((c.tc : Thread nD τ).loc main_arg0) i = ((table (m ((c.tc : Thread nD τ).loc main_arg0)) (i 0).val (i 1).val : ℝ) : EReal) := by
    rw [table_apply (m ((c.tc : Thread nD τ).loc main_arg0)) i]; exact r0 i
  have hx1 (i : S2048x1024.Idx) : m ((c.tc : Thread nD τ).loc main_arg1) i = ((table (m ((c.tc : Thread nD τ).loc main_arg1)) (i 0).val (i 1).val : ℝ) : EReal) := by
    rw [table_apply (m ((c.tc : Thread nD τ).loc main_arg1)) i]; exact r1 i
  refine ⟨?_, ?_, ?_, h4, h5⟩
  · rw [h1, Cert.KernelIdeal.Sb.dq_eq m c _ _ hx0 hx1]
    refine (Cert.ReferenceIdeal.Read.val_main_v61_eq _).trans ?_
    exact congrArg₂ (Cert.ReferenceIdeal.Read.val_main_v61 (F := Ideal)) e0 e1
  · rw [h2, Cert.KernelIdeal.Sb.dk_eq m c _ _ hx0 hx1]
    refine (Cert.ReferenceIdeal.Read.val_main_v62_eq _).trans ?_
    exact congrArg₂ (Cert.ReferenceIdeal.Read.val_main_v62 (F := Ideal)) e0 e1
  · rw [h3, Cert.KernelIdeal.Sb.dv_eq m c _ _ hx0 hx1]
    refine (Cert.ReferenceIdeal.Read.val_main_v63_eq _).trans ?_
    exact congrArg₂ (Cert.ReferenceIdeal.Read.val_main_v63 (F := Ideal)) e0 e1

theorem claim : Cert.Claim := ⟨Cert.Kernel.Gen.facts, Cert.KernelIdeal.Gen.facts, Cert.ReferenceIdeal.Gen.facts,
  Cert.DxDown.Gen.facts, Cert.DxDownIdeal.Gen.facts, Cert.DxDownRefIdeal.Gen.facts,
  Cert.DwUp.Gen.facts, Cert.DwUpIdeal.Gen.facts, Cert.DwUpRefIdeal.Gen.facts,
  Cert.DwDown.Gen.facts, Cert.DwDownIdeal.Gen.facts, Cert.DwDownRefIdeal.Gen.facts,
  Cert.DxUp.Gen.facts, Cert.DxUpIdeal.Gen.facts, Cert.DxUpRefIdeal.Gen.facts,
  Cert.Down.Gen.facts, Cert.DownIdeal.Gen.facts, Cert.DownRefIdeal.Gen.facts,
  Cert.DxDownB.Gen.facts, Cert.DxDownBIdeal.Gen.facts, Cert.DxDownBRefIdeal.Gen.facts,
  Cert.DwUpB.Gen.facts, Cert.DwUpBIdeal.Gen.facts, Cert.DwUpBRefIdeal.Gen.facts,
  Cert.DwDownB.Gen.facts, Cert.DwDownBIdeal.Gen.facts, Cert.DwDownBRefIdeal.Gen.facts,
  Cert.DxUpB.Gen.facts, Cert.DxUpBIdeal.Gen.facts, Cert.DxUpBRefIdeal.Gen.facts,
  Cert.DownB.Gen.facts, Cert.DownBIdeal.Gen.facts, Cert.DownBRefIdeal.Gen.facts,
  Cert.DxDownC.Gen.facts, Cert.DxDownCIdeal.Gen.facts, Cert.DxDownCRefIdeal.Gen.facts,
  Cert.DwUpC.Gen.facts, Cert.DwUpCIdeal.Gen.facts, Cert.DwUpCRefIdeal.Gen.facts,
  Cert.DwDownC.Gen.facts, Cert.DwDownCIdeal.Gen.facts, Cert.DwDownCRefIdeal.Gen.facts,
  Cert.DxUpC.Gen.facts, Cert.DxUpCIdeal.Gen.facts, Cert.DxUpCRefIdeal.Gen.facts,
  Cert.DownC.Gen.facts, Cert.DownCIdeal.Gen.facts, Cert.DownCRefIdeal.Gen.facts,
  Cert.DxIn.Gen.facts, Cert.DxInIdeal.Gen.facts, Cert.DxInRefIdeal.Gen.facts,
  Cert.DwIn.Gen.facts, Cert.DwInIdeal.Gen.facts, Cert.DwInRefIdeal.Gen.facts,
  Cert.Out.Gen.facts, Cert.OutIdeal.Gen.facts, Cert.OutRefIdeal.Gen.facts,
  Cert.DxOut.Gen.facts, Cert.DxOutIdeal.Gen.facts, Cert.DxOutRefIdeal.Gen.facts,
  Cert.DwOut.Gen.facts, Cert.DwOutIdeal.Gen.facts, Cert.DwOutRefIdeal.Gen.facts,
  Cert.DxGate.Gen.facts, Cert.DxGateIdeal.Gen.facts, Cert.DxGateRefIdeal.Gen.facts,
  Cert.DwGate.Gen.facts, Cert.DwGateIdeal.Gen.facts, Cert.DwGateRefIdeal.Gen.facts,
  finite_facts,
  fun m g _ => Cert.Kernel.Gen.frame m g, fun m g _ => Cert.KernelIdeal.Gen.frame m g, fun m g _ => Cert.KernelIdeal.Gen.frame m g,
  fun m g _ => frame_reference m g, fun m g _ => frame_reference m g,
  fun m g _ => Cert.DxDown.Gen.frame m g, fun m g _ => Cert.DxDownIdeal.Gen.frame m g, Calls.frame_DxDown,
  fun m g _ => Cert.DwUp.Gen.frame m g, fun m g _ => Cert.DwUpIdeal.Gen.frame m g, Calls.frame_DwUp,
  fun m g _ => Cert.DwDown.Gen.frame m g, fun m g _ => Cert.DwDownIdeal.Gen.frame m g, Calls.frame_DwDown,
  fun m g _ => Cert.DxUp.Gen.frame m g, fun m g _ => Cert.DxUpIdeal.Gen.frame m g, Calls.frame_DxUp,
  fun m g _ => Cert.Down.Gen.frame m g, fun m g _ => Cert.DownIdeal.Gen.frame m g, Calls.frame_Down,
  fun m g _ => Cert.DxDownB.Gen.frame m g, fun m g _ => Cert.DxDownBIdeal.Gen.frame m g, Calls.frame_DxDownB,
  fun m g _ => Cert.DwUpB.Gen.frame m g, fun m g _ => Cert.DwUpBIdeal.Gen.frame m g, Calls.frame_DwUpB,
  fun m g _ => Cert.DwDownB.Gen.frame m g, fun m g _ => Cert.DwDownBIdeal.Gen.frame m g, Calls.frame_DwDownB,
  fun m g _ => Cert.DxUpB.Gen.frame m g, fun m g _ => Cert.DxUpBIdeal.Gen.frame m g, Calls.frame_DxUpB,
  fun m g _ => Cert.DownB.Gen.frame m g, fun m g _ => Cert.DownBIdeal.Gen.frame m g, Calls.frame_DownB,
  fun m g _ => Cert.DxDownC.Gen.frame m g, fun m g _ => Cert.DxDownCIdeal.Gen.frame m g, Calls.frame_DxDownC,
  fun m g _ => Cert.DwUpC.Gen.frame m g, fun m g _ => Cert.DwUpCIdeal.Gen.frame m g, Calls.frame_DwUpC,
  fun m g _ => Cert.DwDownC.Gen.frame m g, fun m g _ => Cert.DwDownCIdeal.Gen.frame m g, Calls.frame_DwDownC,
  fun m g _ => Cert.DxUpC.Gen.frame m g, fun m g _ => Cert.DxUpCIdeal.Gen.frame m g, Calls.frame_DxUpC,
  fun m g _ => Cert.DownC.Gen.frame m g, fun m g _ => Cert.DownCIdeal.Gen.frame m g, Calls.frame_DownC,
  fun m g _ => Cert.DxIn.Gen.frame m g, fun m g _ => Cert.DxInIdeal.Gen.frame m g, Calls.frame_DxIn,
  fun m g _ => Cert.DwIn.Gen.frame m g, fun m g _ => Cert.DwInIdeal.Gen.frame m g, Calls.frame_DwIn,
  fun m g _ => Cert.Out.Gen.frame m g, fun m g _ => Cert.OutIdeal.Gen.frame m g, Calls.frame_Out,
  fun m g _ => Cert.DxOut.Gen.frame m g, fun m g _ => Cert.DxOutIdeal.Gen.frame m g, Calls.frame_DxOut,
  fun m g _ => Cert.DwOut.Gen.frame m g, fun m g _ => Cert.DwOutIdeal.Gen.frame m g, Calls.frame_DwOut,
  fun m g _ => Cert.DxGate.Gen.frame m g, fun m g _ => Cert.DxGateIdeal.Gen.frame m g, Calls.frame_DxGate,
  fun m g _ => Cert.DwGate.Gen.frame m g, fun m g _ => Cert.DwGateIdeal.Gen.frame m g, Calls.frame_DwGate,
  trivial, algebraic,
  trivial, Calls.algebraic_DxDown,
  trivial, Calls.algebraic_DwUp,
  trivial, Calls.algebraic_DwDown,
  trivial, Calls.algebraic_DxUp,
  trivial, Calls.algebraic_Down,
  trivial, Calls.algebraic_DxDownB,
  trivial, Calls.algebraic_DwUpB,
  trivial, Calls.algebraic_DwDownB,
  trivial, Calls.algebraic_DxUpB,
  trivial, Calls.algebraic_DownB,
  trivial, Calls.algebraic_DxDownC,
  trivial, Calls.algebraic_DwUpC,
  trivial, Calls.algebraic_DwDownC,
  trivial, Calls.algebraic_DxUpC,
  trivial, Calls.algebraic_DownC,
  trivial, Calls.algebraic_DxIn,
  trivial, Calls.algebraic_DwIn,
  trivial, Calls.algebraic_Out,
  trivial, Calls.algebraic_DxOut,
  trivial, Calls.algebraic_DwOut,
  trivial, Calls.algebraic_DxGate,
  trivial, Calls.algebraic_DwGate⟩

end Cert.Proof

end
